-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_S5Scan (m : (ℓ : Loc Cert.S5Scan.nD Cert.S5Scan.τ Cert.S5Scan.sig) → Buf (Elt Bits) ℓ) : Prop :=
  True

def Pre_S5ScanIdeal (m : (ℓ : Loc Cert.S5ScanIdeal.nD Cert.S5ScanIdeal.τ Cert.S5ScanIdeal.sig) → Buf (Elt Ideal) ℓ) : Prop :=
  True

def Pre_S5ScanIdeal_s5_finite [hPre_s5_finite : Cert.Pre_s5_finite.Facts] (m : (ℓ : Loc Cert.S5ScanIdeal.nD Cert.S5ScanIdeal.τ Cert.S5ScanIdeal.sig) → Buf (Elt Ideal) ℓ) : Prop :=
  ∀ c : Dev Cert.S5ScanIdeal.nD,
    (Cert.Pre_s5_finite.fn (F := Ideal) (m ((c.tc : Thread Cert.S5ScanIdeal.nD Cert.S5ScanIdeal.τ).loc Cert.S5ScanIdeal.main_arg0)) (m ((c.tc : Thread Cert.S5ScanIdeal.nD Cert.S5ScanIdeal.τ).loc Cert.S5ScanIdeal.main_arg1)) (m ((c.tc : Thread Cert.S5ScanIdeal.nD Cert.S5ScanIdeal.τ).loc Cert.S5ScanIdeal.main_arg2)) (m ((c.tc : Thread Cert.S5ScanIdeal.nD Cert.S5ScanIdeal.τ).loc Cert.S5ScanIdeal.main_arg3)) (m ((c.tc : Thread Cert.S5ScanIdeal.nD Cert.S5ScanIdeal.τ).loc Cert.S5ScanIdeal.main_arg4)) (m ((c.tc : Thread Cert.S5ScanIdeal.nD Cert.S5ScanIdeal.τ).loc Cert.S5ScanIdeal.main_arg5))) = (fun _ => 1#1)

def Pre_S5ScanRefIdeal (m : (ℓ : Loc Cert.S5ScanRefIdeal.nD Cert.S5ScanRefIdeal.τ Cert.S5ScanRefIdeal.sig) → Buf (Elt Ideal) ℓ) : Prop :=
  True

def Pre_S5ScanRefIdeal_s5_finite [hPre_s5_finite : Cert.Pre_s5_finite.Facts] (m : (ℓ : Loc Cert.S5ScanRefIdeal.nD Cert.S5ScanRefIdeal.τ Cert.S5ScanRefIdeal.sig) → Buf (Elt Ideal) ℓ) : Prop :=
  ∀ c : Dev Cert.S5ScanRefIdeal.nD,
    (Cert.Pre_s5_finite.fn (F := Ideal) (m ((c.tc : Thread Cert.S5ScanRefIdeal.nD Cert.S5ScanRefIdeal.τ).loc Cert.S5ScanRefIdeal.main_arg0)) (m ((c.tc : Thread Cert.S5ScanRefIdeal.nD Cert.S5ScanRefIdeal.τ).loc Cert.S5ScanRefIdeal.main_arg1)) (m ((c.tc : Thread Cert.S5ScanRefIdeal.nD Cert.S5ScanRefIdeal.τ).loc Cert.S5ScanRefIdeal.main_arg2)) (m ((c.tc : Thread Cert.S5ScanRefIdeal.nD Cert.S5ScanRefIdeal.τ).loc Cert.S5ScanRefIdeal.main_arg3)) (m ((c.tc : Thread Cert.S5ScanRefIdeal.nD Cert.S5ScanRefIdeal.τ).loc Cert.S5ScanRefIdeal.main_arg4)) (m ((c.tc : Thread Cert.S5ScanRefIdeal.nD Cert.S5ScanRefIdeal.τ).loc Cert.S5ScanRefIdeal.main_arg5))) = (fun _ => 1#1)

def Pre_MlpPre (m : (ℓ : Loc Cert.MlpPre.nD Cert.MlpPre.τ Cert.MlpPre.sig) → Buf (Elt Bits) ℓ) : Prop :=
  True

def Pre_MlpPreIdeal (m : (ℓ : Loc Cert.MlpPreIdeal.nD Cert.MlpPreIdeal.τ Cert.MlpPreIdeal.sig) → Buf (Elt Ideal) ℓ) : Prop :=
  True

def Pre_MlpPreRefIdeal (m : (ℓ : Loc Cert.MlpPreRefIdeal.nD Cert.MlpPreRefIdeal.τ Cert.MlpPreRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_MlpUpDxRefIdeal (m : (ℓ : Loc Cert.MlpUpDxRefIdeal.nD Cert.MlpUpDxRefIdeal.τ Cert.MlpUpDxRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_PlGate (m : (ℓ : Loc Cert.PlGate.nD Cert.PlGate.τ Cert.PlGate.sig) → Buf (Elt Bits) ℓ) : Prop :=
  True

def Pre_PlGateIdeal (m : (ℓ : Loc Cert.PlGateIdeal.nD Cert.PlGateIdeal.τ Cert.PlGateIdeal.sig) → Buf (Elt Ideal) ℓ) : Prop :=
  True

def Pre_PlGateRefIdeal (m : (ℓ : Loc Cert.PlGateRefIdeal.nD Cert.PlGateRefIdeal.τ Cert.PlGateRefIdeal.sig) → Buf (Elt Ideal) ℓ) : Prop :=
  True

def Pre_PlProj (m : (ℓ : Loc Cert.PlProj.nD Cert.PlProj.τ Cert.PlProj.sig) → Buf (Elt Bits) ℓ) : Prop :=
  True

def Pre_PlProjIdeal (m : (ℓ : Loc Cert.PlProjIdeal.nD Cert.PlProjIdeal.τ Cert.PlProjIdeal.sig) → Buf (Elt Ideal) ℓ) : Prop :=
  True

def Pre_PlProjRefIdeal (m : (ℓ : Loc Cert.PlProjRefIdeal.nD Cert.PlProjRefIdeal.τ Cert.PlProjRefIdeal.sig) → Buf (Elt Ideal) ℓ) : Prop :=
  True

def Pre_PlProjDw (m : (ℓ : Loc Cert.PlProjDw.nD Cert.PlProjDw.τ Cert.PlProjDw.sig) → Buf (Elt Bits) ℓ) : Prop :=
  True

def Pre_PlProjDwIdeal (m : (ℓ : Loc Cert.PlProjDwIdeal.nD Cert.PlProjDwIdeal.τ Cert.PlProjDwIdeal.sig) → Buf (Elt Ideal) ℓ) : Prop :=
  True

def Pre_PlProjDwRefIdeal (m : (ℓ : Loc Cert.PlProjDwRefIdeal.nD Cert.PlProjDwRefIdeal.τ Cert.PlProjDwRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenInDx (m : (ℓ : Loc Cert.EvenInDx.nD Cert.EvenInDx.τ Cert.EvenInDx.sig) → Buf (Elt Bits) ℓ) : Prop :=
  True

def Pre_EvenInDxIdeal (m : (ℓ : Loc Cert.EvenInDxIdeal.nD Cert.EvenInDxIdeal.τ Cert.EvenInDxIdeal.sig) → Buf (Elt Ideal) ℓ) : Prop :=
  True

def Pre_EvenInDxRefIdeal (m : (ℓ : Loc Cert.EvenInDxRefIdeal.nD Cert.EvenInDxRefIdeal.τ Cert.EvenInDxRefIdeal.sig) → Buf (Elt Ideal) ℓ) : Prop :=
  True

def Pre_EvenInDw (m : (ℓ : Loc Cert.EvenInDw.nD Cert.EvenInDw.τ Cert.EvenInDw.sig) → Buf (Elt Bits) ℓ) : Prop :=
  True

def Pre_EvenInDwIdeal (m : (ℓ : Loc Cert.EvenInDwIdeal.nD Cert.EvenInDwIdeal.τ Cert.EvenInDwIdeal.sig) → Buf (Elt Ideal) ℓ) : Prop :=
  True

def Pre_EvenInDwRefIdeal (m : (ℓ : Loc Cert.EvenInDwRefIdeal.nD Cert.EvenInDwRefIdeal.τ Cert.EvenInDwRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddInDx (m : (ℓ : Loc Cert.OddInDx.nD Cert.OddInDx.τ Cert.OddInDx.sig) → Buf (Elt Bits) ℓ) : Prop :=
  True

def Pre_OddInDxIdeal (m : (ℓ : Loc Cert.OddInDxIdeal.nD Cert.OddInDxIdeal.τ Cert.OddInDxIdeal.sig) → Buf (Elt Ideal) ℓ) : Prop :=
  True

def Pre_OddInDxRefIdeal (m : (ℓ : Loc Cert.OddInDxRefIdeal.nD Cert.OddInDxRefIdeal.τ Cert.OddInDxRefIdeal.sig) → Buf (Elt Ideal) ℓ) : Prop :=
  True

def Pre_OddInDw (m : (ℓ : Loc Cert.OddInDw.nD Cert.OddInDw.τ Cert.OddInDw.sig) → Buf (Elt Bits) ℓ) : Prop :=
  True

def Pre_OddInDwIdeal (m : (ℓ : Loc Cert.OddInDwIdeal.nD Cert.OddInDwIdeal.τ Cert.OddInDwIdeal.sig) → Buf (Elt Ideal) ℓ) : Prop :=
  True

def Pre_OddInDwRefIdeal (m : (ℓ : Loc Cert.OddInDwRefIdeal.nD Cert.OddInDwRefIdeal.τ Cert.OddInDwRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_ShiftBwd (m : (ℓ : Loc Cert.ShiftBwd.nD Cert.ShiftBwd.τ Cert.ShiftBwd.sig) → Buf (Elt Bits) ℓ) : Prop :=
  True

def Pre_ShiftBwdIdeal (m : (ℓ : Loc Cert.ShiftBwdIdeal.nD Cert.ShiftBwdIdeal.τ Cert.ShiftBwdIdeal.sig) → Buf (Elt Ideal) ℓ) : Prop :=
  True

def Pre_ShiftBwdRefIdeal (m : (ℓ : Loc Cert.ShiftBwdRefIdeal.nD Cert.ShiftBwdRefIdeal.τ Cert.ShiftBwdRefIdeal.sig) → Buf (Elt Ideal) ℓ) : Prop :=
  True

def Pre_GeluGateBwd (m : (ℓ : Loc Cert.GeluGateBwd.nD Cert.GeluGateBwd.τ Cert.GeluGateBwd.sig) → Buf (Elt Bits) ℓ) : Prop :=
  True

def Pre_GeluGateBwdIdeal (m : (ℓ : Loc Cert.GeluGateBwdIdeal.nD Cert.GeluGateBwdIdeal.τ Cert.GeluGateBwdIdeal.sig) → Buf (Elt Ideal) ℓ) : Prop :=
  True

def Pre_GeluGateBwdRefIdeal (m : (ℓ : Loc Cert.GeluGateBwdRefIdeal.nD Cert.GeluGateBwdRefIdeal.τ Cert.GeluGateBwdRefIdeal.sig) → Buf (Elt Ideal) ℓ) : Prop :=
  True

def Pre_AdamwEarly (m : (ℓ : Loc Cert.AdamwEarly.nD Cert.AdamwEarly.τ Cert.AdamwEarly.sig) → Buf (Elt Bits) ℓ) : Prop :=
  True

def Pre_AdamwEarlyIdeal (m : (ℓ : Loc Cert.AdamwEarlyIdeal.nD Cert.AdamwEarlyIdeal.τ Cert.AdamwEarlyIdeal.sig) → Buf (Elt Ideal) ℓ) : Prop :=
  True

def Pre_AdamwEarlyRefIdeal (m : (ℓ : Loc Cert.AdamwEarlyRefIdeal.nD Cert.AdamwEarlyRefIdeal.τ Cert.AdamwEarlyRefIdeal.sig) → Buf (Elt Ideal) ℓ) : Prop :=
  True

def Pre_AdamwMid (m : (ℓ : Loc Cert.AdamwMid.nD Cert.AdamwMid.τ Cert.AdamwMid.sig) → Buf (Elt Bits) ℓ) : Prop :=
  True

def Pre_AdamwMidIdeal (m : (ℓ : Loc Cert.AdamwMidIdeal.nD Cert.AdamwMidIdeal.τ Cert.AdamwMidIdeal.sig) → Buf (Elt Ideal) ℓ) : Prop :=
  True

def Pre_AdamwMidRefIdeal (m : (ℓ : Loc Cert.AdamwMidRefIdeal.nD Cert.AdamwMidRefIdeal.τ Cert.AdamwMidRefIdeal.sig) → Buf (Elt Ideal) ℓ) : Prop :=
  True

def Pre_AdamwMain (m : (ℓ : Loc Cert.AdamwMain.nD Cert.AdamwMain.τ Cert.AdamwMain.sig) → Buf (Elt Bits) ℓ) : Prop :=
  True

def Pre_AdamwMainIdeal (m : (ℓ : Loc Cert.AdamwMainIdeal.nD Cert.AdamwMainIdeal.τ Cert.AdamwMainIdeal.sig) → Buf (Elt Ideal) ℓ) : Prop :=
  True

def Pre_AdamwMainRefIdeal (m : (ℓ : Loc Cert.AdamwMainRefIdeal.nD Cert.AdamwMainRefIdeal.τ Cert.AdamwMainRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_LruGates (m : (ℓ : Loc Cert.LruGates.nD Cert.LruGates.τ Cert.LruGates.sig) → Buf (Elt Bits) ℓ) : Prop :=
  True

def Pre_LruGatesIdeal (m : (ℓ : Loc Cert.LruGatesIdeal.nD Cert.LruGatesIdeal.τ Cert.LruGatesIdeal.sig) → Buf (Elt Ideal) ℓ) : Prop :=
  True

def Pre_LruGatesRefIdeal (m : (ℓ : Loc Cert.LruGatesRefIdeal.nD Cert.LruGatesRefIdeal.τ Cert.LruGatesRefIdeal.sig) → Buf (Elt Ideal) ℓ) : Prop :=
  True

def Pre_LruGatesDx (m : (ℓ : Loc Cert.LruGatesDx.nD Cert.LruGatesDx.τ Cert.LruGatesDx.sig) → Buf (Elt Bits) ℓ) : Prop :=
  True

def Pre_LruGatesDxIdeal (m : (ℓ : Loc Cert.LruGatesDxIdeal.nD Cert.LruGatesDxIdeal.τ Cert.LruGatesDxIdeal.sig) → Buf (Elt Ideal) ℓ) : Prop :=
  True

def Pre_LruGatesDxRefIdeal (m : (ℓ : Loc Cert.LruGatesDxRefIdeal.nD Cert.LruGatesDxRefIdeal.τ Cert.LruGatesDxRefIdeal.sig) → Buf (Elt Ideal) ℓ) : Prop :=
  True

def Pre_LruGatesDw (m : (ℓ : Loc Cert.LruGatesDw.nD Cert.LruGatesDw.τ Cert.LruGatesDw.sig) → Buf (Elt Bits) ℓ) : Prop :=
  True

def Pre_LruGatesDwIdeal (m : (ℓ : Loc Cert.LruGatesDwIdeal.nD Cert.LruGatesDwIdeal.τ Cert.LruGatesDwIdeal.sig) → Buf (Elt Ideal) ℓ) : Prop :=
  True

def Pre_LruGatesDwRefIdeal (m : (ℓ : Loc Cert.LruGatesDwRefIdeal.nD Cert.LruGatesDwRefIdeal.τ Cert.LruGatesDwRefIdeal.sig) → Buf (Elt Ideal) ℓ) : Prop :=
  True

def Pre_S5Bu (m : (ℓ : Loc Cert.S5Bu.nD Cert.S5Bu.τ Cert.S5Bu.sig) → Buf (Elt Bits) ℓ) : Prop :=
  True

def Pre_S5BuIdeal (m : (ℓ : Loc Cert.S5BuIdeal.nD Cert.S5BuIdeal.τ Cert.S5BuIdeal.sig) → Buf (Elt Ideal) ℓ) : Prop :=
  True

def Pre_S5BuRefIdeal (m : (ℓ : Loc Cert.S5BuRefIdeal.nD Cert.S5BuRefIdeal.τ Cert.S5BuRefIdeal.sig) → Buf (Elt Ideal) ℓ) : Prop :=
  True

def Pre_S5Dx (m : (ℓ : Loc Cert.S5Dx.nD Cert.S5Dx.τ Cert.S5Dx.sig) → Buf (Elt Bits) ℓ) : Prop :=
  True

def Pre_S5DxIdeal (m : (ℓ : Loc Cert.S5DxIdeal.nD Cert.S5DxIdeal.τ Cert.S5DxIdeal.sig) → Buf (Elt Ideal) ℓ) : Prop :=
  True

def Pre_S5DxRefIdeal (m : (ℓ : Loc Cert.S5DxRefIdeal.nD Cert.S5DxRefIdeal.τ Cert.S5DxRefIdeal.sig) → Buf (Elt Ideal) ℓ) : Prop :=
  True

def Pre_S5Y (m : (ℓ : Loc Cert.S5Y.nD Cert.S5Y.τ Cert.S5Y.sig) → Buf (Elt Bits) ℓ) : Prop :=
  True

def Pre_S5YIdeal (m : (ℓ : Loc Cert.S5YIdeal.nD Cert.S5YIdeal.τ Cert.S5YIdeal.sig) → Buf (Elt Ideal) ℓ) : Prop :=
  True

def Pre_S5YRefIdeal (m : (ℓ : Loc Cert.S5YRefIdeal.nD Cert.S5YRefIdeal.τ Cert.S5YRefIdeal.sig) → Buf (Elt Ideal) ℓ) : Prop :=
  True

def Pre_S5YAdd (m : (ℓ : Loc Cert.S5YAdd.nD Cert.S5YAdd.τ Cert.S5YAdd.sig) → Buf (Elt Bits) ℓ) : Prop :=
  True

def Pre_S5YAddIdeal (m : (ℓ : Loc Cert.S5YAddIdeal.nD Cert.S5YAddIdeal.τ Cert.S5YAddIdeal.sig) → Buf (Elt Ideal) ℓ) : Prop :=
  True

def Pre_S5YAddRefIdeal (m : (ℓ : Loc Cert.S5YAddRefIdeal.nD Cert.S5YAddRefIdeal.τ Cert.S5YAddRefIdeal.sig) → Buf (Elt Ideal) ℓ) : Prop :=
  True

def Pre_S5Dc (m : (ℓ : Loc Cert.S5Dc.nD Cert.S5Dc.τ Cert.S5Dc.sig) → Buf (Elt Bits) ℓ) : Prop :=
  True

def Pre_S5DcIdeal (m : (ℓ : Loc Cert.S5DcIdeal.nD Cert.S5DcIdeal.τ Cert.S5DcIdeal.sig) → Buf (Elt Ideal) ℓ) : Prop :=
  True

def Pre_S5DcRefIdeal (m : (ℓ : Loc Cert.S5DcRefIdeal.nD Cert.S5DcRefIdeal.τ Cert.S5DcRefIdeal.sig) → Buf (Elt Ideal) ℓ) : Prop :=
  True

def Pre_S5Du (m : (ℓ : Loc Cert.S5Du.nD Cert.S5Du.τ Cert.S5Du.sig) → Buf (Elt Bits) ℓ) : Prop :=
  True

def Pre_S5DuIdeal (m : (ℓ : Loc Cert.S5DuIdeal.nD Cert.S5DuIdeal.τ Cert.S5DuIdeal.sig) → Buf (Elt Ideal) ℓ) : Prop :=
  True

def Pre_S5DuRefIdeal (m : (ℓ : Loc Cert.S5DuRefIdeal.nD Cert.S5DuRefIdeal.τ Cert.S5DuRefIdeal.sig) → Buf (Elt Ideal) ℓ) : Prop :=
  True

def Pre_S5Db (m : (ℓ : Loc Cert.S5Db.nD Cert.S5Db.τ Cert.S5Db.sig) → Buf (Elt Bits) ℓ) : Prop :=
  True

def Pre_S5DbIdeal (m : (ℓ : Loc Cert.S5DbIdeal.nD Cert.S5DbIdeal.τ Cert.S5DbIdeal.sig) → Buf (Elt Ideal) ℓ) : Prop :=
  True

def Pre_S5DbRefIdeal (m : (ℓ : Loc Cert.S5DbRefIdeal.nD Cert.S5DbRefIdeal.τ Cert.S5DbRefIdeal.sig) → Buf (Elt Ideal) ℓ) : Prop :=
  True

def Pre_S5PostBwd (m : (ℓ : Loc Cert.S5PostBwd.nD Cert.S5PostBwd.τ Cert.S5PostBwd.sig) → Buf (Elt Bits) ℓ) : Prop :=
  True

def Pre_S5PostBwdIdeal (m : (ℓ : Loc Cert.S5PostBwdIdeal.nD Cert.S5PostBwdIdeal.τ Cert.S5PostBwdIdeal.sig) → Buf (Elt Ideal) ℓ) : Prop :=
  True

def Pre_S5PostBwdRefIdeal (m : (ℓ : Loc Cert.S5PostBwdRefIdeal.nD Cert.S5PostBwdRefIdeal.τ Cert.S5PostBwdRefIdeal.sig) → Buf (Elt Ideal) ℓ) : Prop :=
  True

def Pre_LruPreBwd (m : (ℓ : Loc Cert.LruPreBwd.nD Cert.LruPreBwd.τ Cert.LruPreBwd.sig) → Buf (Elt Bits) ℓ) : Prop :=
  True

def Pre_LruPreBwdIdeal (m : (ℓ : Loc Cert.LruPreBwdIdeal.nD Cert.LruPreBwdIdeal.τ Cert.LruPreBwdIdeal.sig) → Buf (Elt Ideal) ℓ) : Prop :=
  True

def Pre_LruPreBwdIdeal_lru_finite [hPre_lru_finite : Cert.Pre_lru_finite.Facts] (m : (ℓ : Loc Cert.LruPreBwdIdeal.nD Cert.LruPreBwdIdeal.τ Cert.LruPreBwdIdeal.sig) → Buf (Elt Ideal) ℓ) : Prop :=
  ∀ c : Dev Cert.LruPreBwdIdeal.nD,
    (Cert.Pre_lru_finite.fn (F := Ideal) (m ((c.tc : Thread Cert.LruPreBwdIdeal.nD Cert.LruPreBwdIdeal.τ).loc Cert.LruPreBwdIdeal.main_arg0)) (m ((c.tc : Thread Cert.LruPreBwdIdeal.nD Cert.LruPreBwdIdeal.τ).loc Cert.LruPreBwdIdeal.main_arg1)) (m ((c.tc : Thread Cert.LruPreBwdIdeal.nD Cert.LruPreBwdIdeal.τ).loc Cert.LruPreBwdIdeal.main_arg2)) (m ((c.tc : Thread Cert.LruPreBwdIdeal.nD Cert.LruPreBwdIdeal.τ).loc Cert.LruPreBwdIdeal.main_arg3)) (m ((c.tc : Thread Cert.LruPreBwdIdeal.nD Cert.LruPreBwdIdeal.τ).loc Cert.LruPreBwdIdeal.main_arg4)) (m ((c.tc : Thread Cert.LruPreBwdIdeal.nD Cert.LruPreBwdIdeal.τ).loc Cert.LruPreBwdIdeal.main_arg5))) = (fun _ => 1#1)

def Pre_LruPreBwdRefIdeal (m : (ℓ : Loc Cert.LruPreBwdRefIdeal.nD Cert.LruPreBwdRefIdeal.τ Cert.LruPreBwdRefIdeal.sig) → Buf (Elt Ideal) ℓ) : Prop :=
  True

def Pre_LruPreBwdRefIdeal_lru_finite [hPre_lru_finite : Cert.Pre_lru_finite.Facts] (m : (ℓ : Loc Cert.LruPreBwdRefIdeal.nD Cert.LruPreBwdRefIdeal.τ Cert.LruPreBwdRefIdeal.sig) → Buf (Elt Ideal) ℓ) : Prop :=
  ∀ c : Dev Cert.LruPreBwdRefIdeal.nD,
    (Cert.Pre_lru_finite.fn (F := Ideal) (m ((c.tc : Thread Cert.LruPreBwdRefIdeal.nD Cert.LruPreBwdRefIdeal.τ).loc Cert.LruPreBwdRefIdeal.main_arg0)) (m ((c.tc : Thread Cert.LruPreBwdRefIdeal.nD Cert.LruPreBwdRefIdeal.τ).loc Cert.LruPreBwdRefIdeal.main_arg1)) (m ((c.tc : Thread Cert.LruPreBwdRefIdeal.nD Cert.LruPreBwdRefIdeal.τ).loc Cert.LruPreBwdRefIdeal.main_arg2)) (m ((c.tc : Thread Cert.LruPreBwdRefIdeal.nD Cert.LruPreBwdRefIdeal.τ).loc Cert.LruPreBwdRefIdeal.main_arg3)) (m ((c.tc : Thread Cert.LruPreBwdRefIdeal.nD Cert.LruPreBwdRefIdeal.τ).loc Cert.LruPreBwdRefIdeal.main_arg4)) (m ((c.tc : Thread Cert.LruPreBwdRefIdeal.nD Cert.LruPreBwdRefIdeal.τ).loc Cert.LruPreBwdRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_S5Scan [hS5Scan : Cert.S5Scan.Facts] : Prop :=
  ∀ (m : (ℓ : Loc Cert.S5Scan.nD Cert.S5Scan.τ Cert.S5Scan.sig) → Buf (Elt Bits) ℓ) (g : Dev Cert.S5Scan.nD → PrngReg), Pre_S5Scan m →
    θ_run (Cert.S5Scan.defs (F := Bits)) (onTc (τ := Cert.S5Scan.τ) (Cert.S5Scan.main (F := Bits))) ⟨m, fun _ => 0, g⟩ (fun r => (∀ c : Dev Cert.S5Scan.nD,
      r.2.mem ((c.tc : Thread Cert.S5Scan.nD Cert.S5Scan.τ).loc Cert.S5Scan.main_arg0) = m ((c.tc : Thread Cert.S5Scan.nD Cert.S5Scan.τ).loc Cert.S5Scan.main_arg0)
      ∧ r.2.mem ((c.tc : Thread Cert.S5Scan.nD Cert.S5Scan.τ).loc Cert.S5Scan.main_arg1) = m ((c.tc : Thread Cert.S5Scan.nD Cert.S5Scan.τ).loc Cert.S5Scan.main_arg1)
      ∧ r.2.mem ((c.tc : Thread Cert.S5Scan.nD Cert.S5Scan.τ).loc Cert.S5Scan.main_arg2) = m ((c.tc : Thread Cert.S5Scan.nD Cert.S5Scan.τ).loc Cert.S5Scan.main_arg2)
      ∧ r.2.mem ((c.tc : Thread Cert.S5Scan.nD Cert.S5Scan.τ).loc Cert.S5Scan.main_arg3) = m ((c.tc : Thread Cert.S5Scan.nD Cert.S5Scan.τ).loc Cert.S5Scan.main_arg3)
      ∧ r.2.mem ((c.tc : Thread Cert.S5Scan.nD Cert.S5Scan.τ).loc Cert.S5Scan.main_arg4) = m ((c.tc : Thread Cert.S5Scan.nD Cert.S5Scan.τ).loc Cert.S5Scan.main_arg4)
      ∧ r.2.mem ((c.tc : Thread Cert.S5Scan.nD Cert.S5Scan.τ).loc Cert.S5Scan.main_arg5) = m ((c.tc : Thread Cert.S5Scan.nD Cert.S5Scan.τ).loc Cert.S5Scan.main_arg5))
      ∧ r.2.sem = fun _ => 0)

def quiescent_S5ScanIdeal [hS5ScanIdeal : Cert.S5ScanIdeal.Facts] : Prop :=
  ∀ (m : (ℓ : Loc Cert.S5ScanIdeal.nD Cert.S5ScanIdeal.τ Cert.S5ScanIdeal.sig) → Buf (Elt Ideal) ℓ) (g : Dev Cert.S5ScanIdeal.nD → PrngReg), Pre_S5ScanIdeal m →
    θ_run (Cert.S5ScanIdeal.defs (F := Ideal)) (onTc (τ := Cert.S5ScanIdeal.τ) (Cert.S5ScanIdeal.main (F := Ideal))) ⟨m, fun _ => 0, g⟩ (fun r => (∀ c : Dev Cert.S5ScanIdeal.nD,
      r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
      ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
      ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2)
      ∧ r.2.mem ((c.tc : Thread Cert.S5ScanIdeal.nD Cert.S5ScanIdeal.τ).loc Cert.S5ScanIdeal.main_arg3) = m ((c.tc : Thread Cert.S5ScanIdeal.nD Cert.S5ScanIdeal.τ).loc Cert.S5ScanIdeal.main_arg3)
      ∧ r.2.mem ((c.tc : Thread Cert.S5ScanIdeal.nD Cert.S5ScanIdeal.τ).loc Cert.S5ScanIdeal.main_arg4) = m ((c.tc : Thread Cert.S5ScanIdeal.nD Cert.S5ScanIdeal.τ).loc Cert.S5ScanIdeal.main_arg4)
      ∧ r.2.mem ((c.tc : Thread Cert.S5ScanIdeal.nD Cert.S5ScanIdeal.τ).loc Cert.S5ScanIdeal.main_arg5) = m ((c.tc : Thread Cert.S5ScanIdeal.nD Cert.S5ScanIdeal.τ).loc Cert.S5ScanIdeal.main_arg5))
      ∧ r.2.sem = fun _ => 0)

def quiescent_S5ScanIdeal_pre_s5_finite [hS5ScanIdeal : Cert.S5ScanIdeal.Facts] [hPre_s5_finite : Cert.Pre_s5_finite.Facts] : Prop :=
  ∀ (m : (ℓ : Loc Cert.S5ScanIdeal.nD Cert.S5ScanIdeal.τ Cert.S5ScanIdeal.sig) → Buf (Elt Ideal) ℓ) (g : Dev Cert.S5ScanIdeal.nD → PrngReg), Pre_S5ScanIdeal_s5_finite m →
    θ_run (Cert.S5ScanIdeal.defs (F := Ideal)) (onTc (τ := Cert.S5ScanIdeal.τ) (Cert.S5ScanIdeal.main (F := Ideal))) ⟨m, fun _ => 0, g⟩ (fun r => (∀ c : Dev Cert.S5ScanIdeal.nD,
      r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
      ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
      ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2)
      ∧ r.2.mem ((c.tc : Thread Cert.S5ScanIdeal.nD Cert.S5ScanIdeal.τ).loc Cert.S5ScanIdeal.main_arg3) = m ((c.tc : Thread Cert.S5ScanIdeal.nD Cert.S5ScanIdeal.τ).loc Cert.S5ScanIdeal.main_arg3)
      ∧ r.2.mem ((c.tc : Thread Cert.S5ScanIdeal.nD Cert.S5ScanIdeal.τ).loc Cert.S5ScanIdeal.main_arg4) = m ((c.tc : Thread Cert.S5ScanIdeal.nD Cert.S5ScanIdeal.τ).loc Cert.S5ScanIdeal.main_arg4)
      ∧ r.2.mem ((c.tc : Thread Cert.S5ScanIdeal.nD Cert.S5ScanIdeal.τ).loc Cert.S5ScanIdeal.main_arg5) = m ((c.tc : Thread Cert.S5ScanIdeal.nD Cert.S5ScanIdeal.τ).loc Cert.S5ScanIdeal.main_arg5))
      ∧ r.2.sem = fun _ => 0)

def quiescent_S5ScanRefIdeal [hS5ScanRefIdeal : Cert.S5ScanRefIdeal.Facts] : Prop :=
  ∀ (m : (ℓ : Loc Cert.S5ScanRefIdeal.nD Cert.S5ScanRefIdeal.τ Cert.S5ScanRefIdeal.sig) → Buf (Elt Ideal) ℓ) (g : Dev Cert.S5ScanRefIdeal.nD → PrngReg), Pre_S5ScanRefIdeal m →
    θ_run (Cert.S5ScanRefIdeal.defs (F := Ideal)) (onTc (τ := Cert.S5ScanRefIdeal.τ) (Cert.S5ScanRefIdeal.main (F := Ideal))) ⟨m, fun _ => 0, g⟩ (fun r => (∀ c : Dev Cert.S5ScanRefIdeal.nD,
      r.2.mem ((c.tc : Thread Cert.S5ScanRefIdeal.nD Cert.S5ScanRefIdeal.τ).loc Cert.S5ScanRefIdeal.main_arg0) = m ((c.tc : Thread Cert.S5ScanRefIdeal.nD Cert.S5ScanRefIdeal.τ).loc Cert.S5ScanRefIdeal.main_arg0)
      ∧ r.2.mem ((c.tc : Thread Cert.S5ScanRefIdeal.nD Cert.S5ScanRefIdeal.τ).loc Cert.S5ScanRefIdeal.main_arg1) = m ((c.tc : Thread Cert.S5ScanRefIdeal.nD Cert.S5ScanRefIdeal.τ).loc Cert.S5ScanRefIdeal.main_arg1)
      ∧ r.2.mem ((c.tc : Thread Cert.S5ScanRefIdeal.nD Cert.S5ScanRefIdeal.τ).loc Cert.S5ScanRefIdeal.main_arg2) = m ((c.tc : Thread Cert.S5ScanRefIdeal.nD Cert.S5ScanRefIdeal.τ).loc Cert.S5ScanRefIdeal.main_arg2)
      ∧ r.2.mem ((c.tc : Thread Cert.S5ScanRefIdeal.nD Cert.S5ScanRefIdeal.τ).loc Cert.S5ScanRefIdeal.main_arg3) = m ((c.tc : Thread Cert.S5ScanRefIdeal.nD Cert.S5ScanRefIdeal.τ).loc Cert.S5ScanRefIdeal.main_arg3)
      ∧ r.2.mem ((c.tc : Thread Cert.S5ScanRefIdeal.nD Cert.S5ScanRefIdeal.τ).loc Cert.S5ScanRefIdeal.main_arg4) = m ((c.tc : Thread Cert.S5ScanRefIdeal.nD Cert.S5ScanRefIdeal.τ).loc Cert.S5ScanRefIdeal.main_arg4)
      ∧ r.2.mem ((c.tc : Thread Cert.S5ScanRefIdeal.nD Cert.S5ScanRefIdeal.τ).loc Cert.S5ScanRefIdeal.main_arg5) = m ((c.tc : Thread Cert.S5ScanRefIdeal.nD Cert.S5ScanRefIdeal.τ).loc Cert.S5ScanRefIdeal.main_arg5))
      ∧ r.2.sem = fun _ => 0)

def quiescent_S5ScanRefIdeal_pre_s5_finite [hS5ScanRefIdeal : Cert.S5ScanRefIdeal.Facts] [hPre_s5_finite : Cert.Pre_s5_finite.Facts] : Prop :=
  ∀ (m : (ℓ : Loc Cert.S5ScanRefIdeal.nD Cert.S5ScanRefIdeal.τ Cert.S5ScanRefIdeal.sig) → Buf (Elt Ideal) ℓ) (g : Dev Cert.S5ScanRefIdeal.nD → PrngReg), Pre_S5ScanRefIdeal_s5_finite m →
    θ_run (Cert.S5ScanRefIdeal.defs (F := Ideal)) (onTc (τ := Cert.S5ScanRefIdeal.τ) (Cert.S5ScanRefIdeal.main (F := Ideal))) ⟨m, fun _ => 0, g⟩ (fun r => (∀ c : Dev Cert.S5ScanRefIdeal.nD,
      r.2.mem ((c.tc : Thread Cert.S5ScanRefIdeal.nD Cert.S5ScanRefIdeal.τ).loc Cert.S5ScanRefIdeal.main_arg0) = m ((c.tc : Thread Cert.S5ScanRefIdeal.nD Cert.S5ScanRefIdeal.τ).loc Cert.S5ScanRefIdeal.main_arg0)
      ∧ r.2.mem ((c.tc : Thread Cert.S5ScanRefIdeal.nD Cert.S5ScanRefIdeal.τ).loc Cert.S5ScanRefIdeal.main_arg1) = m ((c.tc : Thread Cert.S5ScanRefIdeal.nD Cert.S5ScanRefIdeal.τ).loc Cert.S5ScanRefIdeal.main_arg1)
      ∧ r.2.mem ((c.tc : Thread Cert.S5ScanRefIdeal.nD Cert.S5ScanRefIdeal.τ).loc Cert.S5ScanRefIdeal.main_arg2) = m ((c.tc : Thread Cert.S5ScanRefIdeal.nD Cert.S5ScanRefIdeal.τ).loc Cert.S5ScanRefIdeal.main_arg2)
      ∧ r.2.mem ((c.tc : Thread Cert.S5ScanRefIdeal.nD Cert.S5ScanRefIdeal.τ).loc Cert.S5ScanRefIdeal.main_arg3) = m ((c.tc : Thread Cert.S5ScanRefIdeal.nD Cert.S5ScanRefIdeal.τ).loc Cert.S5ScanRefIdeal.main_arg3)
      ∧ r.2.mem ((c.tc : Thread Cert.S5ScanRefIdeal.nD Cert.S5ScanRefIdeal.τ).loc Cert.S5ScanRefIdeal.main_arg4) = m ((c.tc : Thread Cert.S5ScanRefIdeal.nD Cert.S5ScanRefIdeal.τ).loc Cert.S5ScanRefIdeal.main_arg4)
      ∧ r.2.mem ((c.tc : Thread Cert.S5ScanRefIdeal.nD Cert.S5ScanRefIdeal.τ).loc Cert.S5ScanRefIdeal.main_arg5) = m ((c.tc : Thread Cert.S5ScanRefIdeal.nD Cert.S5ScanRefIdeal.τ).loc Cert.S5ScanRefIdeal.main_arg5))
      ∧ r.2.sem = fun _ => 0)

def quiescent_MlpPre [hMlpPre : Cert.MlpPre.Facts] : Prop :=
  ∀ (m : (ℓ : Loc Cert.MlpPre.nD Cert.MlpPre.τ Cert.MlpPre.sig) → Buf (Elt Bits) ℓ) (g : Dev Cert.MlpPre.nD → PrngReg), Pre_MlpPre m →
    θ_run (Cert.MlpPre.defs (F := Bits)) (onTc (τ := Cert.MlpPre.τ) (Cert.MlpPre.main (F := Bits))) ⟨m, fun _ => 0, g⟩ (fun r => (∀ c : Dev Cert.MlpPre.nD,
      r.2.mem ((c.tc : Thread Cert.MlpPre.nD Cert.MlpPre.τ).loc Cert.MlpPre.main_arg0) = m ((c.tc : Thread Cert.MlpPre.nD Cert.MlpPre.τ).loc Cert.MlpPre.main_arg0)
      ∧ r.2.mem ((c.tc : Thread Cert.MlpPre.nD Cert.MlpPre.τ).loc Cert.MlpPre.main_arg1) = m ((c.tc : Thread Cert.MlpPre.nD Cert.MlpPre.τ).loc Cert.MlpPre.main_arg1)
      ∧ r.2.mem ((c.tc : Thread Cert.MlpPre.nD Cert.MlpPre.τ).loc Cert.MlpPre.main_arg2) = m ((c.tc : Thread Cert.MlpPre.nD Cert.MlpPre.τ).loc Cert.MlpPre.main_arg2)
      ∧ r.2.mem ((c.tc : Thread Cert.MlpPre.nD Cert.MlpPre.τ).loc Cert.MlpPre.main_arg3) = m ((c.tc : Thread Cert.MlpPre.nD Cert.MlpPre.τ).loc Cert.MlpPre.main_arg3))
      ∧ r.2.sem = fun _ => 0)

def quiescent_MlpPreIdeal [hMlpPreIdeal : Cert.MlpPreIdeal.Facts] : Prop :=
  ∀ (m : (ℓ : Loc Cert.MlpPreIdeal.nD Cert.MlpPreIdeal.τ Cert.MlpPreIdeal.sig) → Buf (Elt Ideal) ℓ) (g : Dev Cert.MlpPreIdeal.nD → PrngReg), Pre_MlpPreIdeal m →
    θ_run (Cert.MlpPreIdeal.defs (F := Ideal)) (onTc (τ := Cert.MlpPreIdeal.τ) (Cert.MlpPreIdeal.main (F := Ideal))) ⟨m, fun _ => 0, g⟩ (fun r => (∀ c : Dev Cert.MlpPreIdeal.nD,
      r.2.mem ((c.tc : Thread Cert.MlpPreIdeal.nD Cert.MlpPreIdeal.τ).loc Cert.MlpPreIdeal.main_arg0) = m ((c.tc : Thread Cert.MlpPreIdeal.nD Cert.MlpPreIdeal.τ).loc Cert.MlpPreIdeal.main_arg0)
      ∧ r.2.mem ((c.tc : Thread Cert.MlpPreIdeal.nD Cert.MlpPreIdeal.τ).loc Cert.MlpPreIdeal.main_arg1) = m ((c.tc : Thread Cert.MlpPreIdeal.nD Cert.MlpPreIdeal.τ).loc Cert.MlpPreIdeal.main_arg1)
      ∧ r.2.mem ((c.tc : Thread Cert.MlpPreIdeal.nD Cert.MlpPreIdeal.τ).loc Cert.MlpPreIdeal.main_arg2) = m ((c.tc : Thread Cert.MlpPreIdeal.nD Cert.MlpPreIdeal.τ).loc Cert.MlpPreIdeal.main_arg2)
      ∧ r.2.mem ((c.tc : Thread Cert.MlpPreIdeal.nD Cert.MlpPreIdeal.τ).loc Cert.MlpPreIdeal.main_arg3) = m ((c.tc : Thread Cert.MlpPreIdeal.nD Cert.MlpPreIdeal.τ).loc Cert.MlpPreIdeal.main_arg3))
      ∧ r.2.sem = fun _ => 0)

def quiescent_MlpPreRefIdeal [hMlpPreRefIdeal : Cert.MlpPreRefIdeal.Facts] : Prop :=
  ∀ (m : (ℓ : Loc Cert.MlpPreRefIdeal.nD Cert.MlpPreRefIdeal.τ Cert.MlpPreRefIdeal.sig) → Buf (Elt Ideal) ℓ) (g : Dev Cert.MlpPreRefIdeal.nD → PrngReg), Pre_MlpPreRefIdeal m →
    θ_run (Cert.MlpPreRefIdeal.defs (F := Ideal)) (onTc (τ := Cert.MlpPreRefIdeal.τ) (Cert.MlpPreRefIdeal.main (F := Ideal))) ⟨m, fun _ => 0, g⟩ (fun r => (∀ c : Dev Cert.MlpPreRefIdeal.nD,
      r.2.mem ((c.tc : Thread Cert.MlpPreRefIdeal.nD Cert.MlpPreRefIdeal.τ).loc Cert.MlpPreRefIdeal.main_arg0) = m ((c.tc : Thread Cert.MlpPreRefIdeal.nD Cert.MlpPreRefIdeal.τ).loc Cert.MlpPreRefIdeal.main_arg0)
      ∧ r.2.mem ((c.tc : Thread Cert.MlpPreRefIdeal.nD Cert.MlpPreRefIdeal.τ).loc Cert.MlpPreRefIdeal.main_arg1) = m ((c.tc : Thread Cert.MlpPreRefIdeal.nD Cert.MlpPreRefIdeal.τ).loc Cert.MlpPreRefIdeal.main_arg1)
      ∧ r.2.mem ((c.tc : Thread Cert.MlpPreRefIdeal.nD Cert.MlpPreRefIdeal.τ).loc Cert.MlpPreRefIdeal.main_arg2) = m ((c.tc : Thread Cert.MlpPreRefIdeal.nD Cert.MlpPreRefIdeal.τ).loc Cert.MlpPreRefIdeal.main_arg2)
      ∧ r.2.mem ((c.tc : Thread Cert.MlpPreRefIdeal.nD Cert.MlpPreRefIdeal.τ).loc Cert.MlpPreRefIdeal.main_arg3) = m ((c.tc : Thread Cert.MlpPreRefIdeal.nD Cert.MlpPreRefIdeal.τ).loc Cert.MlpPreRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1)
      ∧ r.2.mem ((c.tc : Thread Cert.MlpDownDw.nD Cert.MlpDownDw.τ).loc Cert.MlpDownDw.main_arg2) = m ((c.tc : Thread Cert.MlpDownDw.nD Cert.MlpDownDw.τ).loc Cert.MlpDownDw.main_arg2))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
      ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1)
      ∧ r.2.mem ((c.tc : Thread Cert.MlpDownDwRefIdeal.nD Cert.MlpDownDwRefIdeal.τ).loc Cert.MlpDownDwRefIdeal.main_arg2) = m ((c.tc : Thread Cert.MlpDownDwRefIdeal.nD Cert.MlpDownDwRefIdeal.τ).loc Cert.MlpDownDwRefIdeal.main_arg2))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ r.2.sem = fun _ => 0)

def quiescent_MlpUpDxRefIdeal [hMlpUpDxRefIdeal : Cert.MlpUpDxRefIdeal.Facts] : Prop :=
  ∀ (m : (ℓ : Loc Cert.MlpUpDxRefIdeal.nD Cert.MlpUpDxRefIdeal.τ Cert.MlpUpDxRefIdeal.sig) → Buf (Elt Ideal) ℓ) (g : Dev Cert.MlpUpDxRefIdeal.nD → PrngReg), Pre_MlpUpDxRefIdeal m →
    θ_run (Cert.MlpUpDxRefIdeal.defs (F := Ideal)) (onTc (τ := Cert.MlpUpDxRefIdeal.τ) (Cert.MlpUpDxRefIdeal.main (F := Ideal))) ⟨m, fun _ => 0, g⟩ (fun r => (∀ c : Dev Cert.MlpUpDxRefIdeal.nD,
      r.2.mem ((c.tc : Thread Cert.MlpUpDxRefIdeal.nD Cert.MlpUpDxRefIdeal.τ).loc Cert.MlpUpDxRefIdeal.main_arg0) = m ((c.tc : Thread Cert.MlpUpDxRefIdeal.nD Cert.MlpUpDxRefIdeal.τ).loc Cert.MlpUpDxRefIdeal.main_arg0)
      ∧ r.2.mem ((c.tc : Thread Cert.MlpUpDxRefIdeal.nD Cert.MlpUpDxRefIdeal.τ).loc Cert.MlpUpDxRefIdeal.main_arg1) = m ((c.tc : Thread Cert.MlpUpDxRefIdeal.nD Cert.MlpUpDxRefIdeal.τ).loc Cert.MlpUpDxRefIdeal.main_arg1))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_PlGate [hPlGate : Cert.PlGate.Facts] : Prop :=
  ∀ (m : (ℓ : Loc Cert.PlGate.nD Cert.PlGate.τ Cert.PlGate.sig) → Buf (Elt Bits) ℓ) (g : Dev Cert.PlGate.nD → PrngReg), Pre_PlGate m →
    θ_run (Cert.PlGate.defs (F := Bits)) (onTc (τ := Cert.PlGate.τ) (Cert.PlGate.main (F := Bits))) ⟨m, fun _ => 0, g⟩ (fun r => (∀ c : Dev Cert.PlGate.nD,
      r.2.mem ((c.tc : Thread Cert.PlGate.nD Cert.PlGate.τ).loc Cert.PlGate.main_arg0) = m ((c.tc : Thread Cert.PlGate.nD Cert.PlGate.τ).loc Cert.PlGate.main_arg0)
      ∧ r.2.mem ((c.tc : Thread Cert.PlGate.nD Cert.PlGate.τ).loc Cert.PlGate.main_arg1) = m ((c.tc : Thread Cert.PlGate.nD Cert.PlGate.τ).loc Cert.PlGate.main_arg1))
      ∧ r.2.sem = fun _ => 0)

def quiescent_PlGateIdeal [hPlGateIdeal : Cert.PlGateIdeal.Facts] : Prop :=
  ∀ (m : (ℓ : Loc Cert.PlGateIdeal.nD Cert.PlGateIdeal.τ Cert.PlGateIdeal.sig) → Buf (Elt Ideal) ℓ) (g : Dev Cert.PlGateIdeal.nD → PrngReg), Pre_PlGateIdeal m →
    θ_run (Cert.PlGateIdeal.defs (F := Ideal)) (onTc (τ := Cert.PlGateIdeal.τ) (Cert.PlGateIdeal.main (F := Ideal))) ⟨m, fun _ => 0, g⟩ (fun r => (∀ c : Dev Cert.PlGateIdeal.nD,
      r.2.mem ((c.tc : Thread Cert.PlGateIdeal.nD Cert.PlGateIdeal.τ).loc Cert.PlGateIdeal.main_arg0) = m ((c.tc : Thread Cert.PlGateIdeal.nD Cert.PlGateIdeal.τ).loc Cert.PlGateIdeal.main_arg0)
      ∧ r.2.mem ((c.tc : Thread Cert.PlGateIdeal.nD Cert.PlGateIdeal.τ).loc Cert.PlGateIdeal.main_arg1) = m ((c.tc : Thread Cert.PlGateIdeal.nD Cert.PlGateIdeal.τ).loc Cert.PlGateIdeal.main_arg1))
      ∧ r.2.sem = fun _ => 0)

def quiescent_PlGateRefIdeal [hPlGateRefIdeal : Cert.PlGateRefIdeal.Facts] : Prop :=
  ∀ (m : (ℓ : Loc Cert.PlGateRefIdeal.nD Cert.PlGateRefIdeal.τ Cert.PlGateRefIdeal.sig) → Buf (Elt Ideal) ℓ) (g : Dev Cert.PlGateRefIdeal.nD → PrngReg), Pre_PlGateRefIdeal m →
    θ_run (Cert.PlGateRefIdeal.defs (F := Ideal)) (onTc (τ := Cert.PlGateRefIdeal.τ) (Cert.PlGateRefIdeal.main (F := Ideal))) ⟨m, fun _ => 0, g⟩ (fun r => (∀ c : Dev Cert.PlGateRefIdeal.nD,
      r.2.mem ((c.tc : Thread Cert.PlGateRefIdeal.nD Cert.PlGateRefIdeal.τ).loc Cert.PlGateRefIdeal.main_arg0) = m ((c.tc : Thread Cert.PlGateRefIdeal.nD Cert.PlGateRefIdeal.τ).loc Cert.PlGateRefIdeal.main_arg0)
      ∧ r.2.mem ((c.tc : Thread Cert.PlGateRefIdeal.nD Cert.PlGateRefIdeal.τ).loc Cert.PlGateRefIdeal.main_arg1) = m ((c.tc : Thread Cert.PlGateRefIdeal.nD Cert.PlGateRefIdeal.τ).loc Cert.PlGateRefIdeal.main_arg1))
      ∧ r.2.sem = fun _ => 0)

def quiescent_PlProj [hPlProj : Cert.PlProj.Facts] : Prop :=
  ∀ (m : (ℓ : Loc Cert.PlProj.nD Cert.PlProj.τ Cert.PlProj.sig) → Buf (Elt Bits) ℓ) (g : Dev Cert.PlProj.nD → PrngReg), Pre_PlProj m →
    θ_run (Cert.PlProj.defs (F := Bits)) (onTc (τ := Cert.PlProj.τ) (Cert.PlProj.main (F := Bits))) ⟨m, fun _ => 0, g⟩ (fun r => (∀ c : Dev Cert.PlProj.nD,
      r.2.mem ((c.tc : Thread Cert.PlProj.nD Cert.PlProj.τ).loc Cert.PlProj.main_arg0) = m ((c.tc : Thread Cert.PlProj.nD Cert.PlProj.τ).loc Cert.PlProj.main_arg0)
      ∧ r.2.mem ((c.tc : Thread Cert.PlProj.nD Cert.PlProj.τ).loc Cert.PlProj.main_arg1) = m ((c.tc : Thread Cert.PlProj.nD Cert.PlProj.τ).loc Cert.PlProj.main_arg1))
      ∧ r.2.sem = fun _ => 0)

def quiescent_PlProjIdeal [hPlProjIdeal : Cert.PlProjIdeal.Facts] : Prop :=
  ∀ (m : (ℓ : Loc Cert.PlProjIdeal.nD Cert.PlProjIdeal.τ Cert.PlProjIdeal.sig) → Buf (Elt Ideal) ℓ) (g : Dev Cert.PlProjIdeal.nD → PrngReg), Pre_PlProjIdeal m →
    θ_run (Cert.PlProjIdeal.defs (F := Ideal)) (onTc (τ := Cert.PlProjIdeal.τ) (Cert.PlProjIdeal.main (F := Ideal))) ⟨m, fun _ => 0, g⟩ (fun r => (∀ c : Dev Cert.PlProjIdeal.nD,
      r.2.mem ((c.tc : Thread Cert.PlProjIdeal.nD Cert.PlProjIdeal.τ).loc Cert.PlProjIdeal.main_arg0) = m ((c.tc : Thread Cert.PlProjIdeal.nD Cert.PlProjIdeal.τ).loc Cert.PlProjIdeal.main_arg0)
      ∧ r.2.mem ((c.tc : Thread Cert.PlProjIdeal.nD Cert.PlProjIdeal.τ).loc Cert.PlProjIdeal.main_arg1) = m ((c.tc : Thread Cert.PlProjIdeal.nD Cert.PlProjIdeal.τ).loc Cert.PlProjIdeal.main_arg1))
      ∧ r.2.sem = fun _ => 0)

def quiescent_PlProjRefIdeal [hPlProjRefIdeal : Cert.PlProjRefIdeal.Facts] : Prop :=
  ∀ (m : (ℓ : Loc Cert.PlProjRefIdeal.nD Cert.PlProjRefIdeal.τ Cert.PlProjRefIdeal.sig) → Buf (Elt Ideal) ℓ) (g : Dev Cert.PlProjRefIdeal.nD → PrngReg), Pre_PlProjRefIdeal m →
    θ_run (Cert.PlProjRefIdeal.defs (F := Ideal)) (onTc (τ := Cert.PlProjRefIdeal.τ) (Cert.PlProjRefIdeal.main (F := Ideal))) ⟨m, fun _ => 0, g⟩ (fun r => (∀ c : Dev Cert.PlProjRefIdeal.nD,
      r.2.mem ((c.tc : Thread Cert.PlProjRefIdeal.nD Cert.PlProjRefIdeal.τ).loc Cert.PlProjRefIdeal.main_arg0) = m ((c.tc : Thread Cert.PlProjRefIdeal.nD Cert.PlProjRefIdeal.τ).loc Cert.PlProjRefIdeal.main_arg0)
      ∧ r.2.mem ((c.tc : Thread Cert.PlProjRefIdeal.nD Cert.PlProjRefIdeal.τ).loc Cert.PlProjRefIdeal.main_arg1) = m ((c.tc : Thread Cert.PlProjRefIdeal.nD Cert.PlProjRefIdeal.τ).loc Cert.PlProjRefIdeal.main_arg1))
      ∧ r.2.sem = fun _ => 0)

def quiescent_PlProjDw [hPlProjDw : Cert.PlProjDw.Facts] : Prop :=
  ∀ (m : (ℓ : Loc Cert.PlProjDw.nD Cert.PlProjDw.τ Cert.PlProjDw.sig) → Buf (Elt Bits) ℓ) (g : Dev Cert.PlProjDw.nD → PrngReg), Pre_PlProjDw m →
    θ_run (Cert.PlProjDw.defs (F := Bits)) (onTc (τ := Cert.PlProjDw.τ) (Cert.PlProjDw.main (F := Bits))) ⟨m, fun _ => 0, g⟩ (fun r => (∀ c : Dev Cert.PlProjDw.nD,
      r.2.mem ((c.tc : Thread Cert.PlProjDw.nD Cert.PlProjDw.τ).loc Cert.PlProjDw.main_arg0) = m ((c.tc : Thread Cert.PlProjDw.nD Cert.PlProjDw.τ).loc Cert.PlProjDw.main_arg0)
      ∧ r.2.mem ((c.tc : Thread Cert.PlProjDw.nD Cert.PlProjDw.τ).loc Cert.PlProjDw.main_arg1) = m ((c.tc : Thread Cert.PlProjDw.nD Cert.PlProjDw.τ).loc Cert.PlProjDw.main_arg1))
      ∧ r.2.sem = fun _ => 0)

def quiescent_PlProjDwIdeal [hPlProjDwIdeal : Cert.PlProjDwIdeal.Facts] : Prop :=
  ∀ (m : (ℓ : Loc Cert.PlProjDwIdeal.nD Cert.PlProjDwIdeal.τ Cert.PlProjDwIdeal.sig) → Buf (Elt Ideal) ℓ) (g : Dev Cert.PlProjDwIdeal.nD → PrngReg), Pre_PlProjDwIdeal m →
    θ_run (Cert.PlProjDwIdeal.defs (F := Ideal)) (onTc (τ := Cert.PlProjDwIdeal.τ) (Cert.PlProjDwIdeal.main (F := Ideal))) ⟨m, fun _ => 0, g⟩ (fun r => (∀ c : Dev Cert.PlProjDwIdeal.nD,
      r.2.mem ((c.tc : Thread Cert.PlProjDwIdeal.nD Cert.PlProjDwIdeal.τ).loc Cert.PlProjDwIdeal.main_arg0) = m ((c.tc : Thread Cert.PlProjDwIdeal.nD Cert.PlProjDwIdeal.τ).loc Cert.PlProjDwIdeal.main_arg0)
      ∧ r.2.mem ((c.tc : Thread Cert.PlProjDwIdeal.nD Cert.PlProjDwIdeal.τ).loc Cert.PlProjDwIdeal.main_arg1) = m ((c.tc : Thread Cert.PlProjDwIdeal.nD Cert.PlProjDwIdeal.τ).loc Cert.PlProjDwIdeal.main_arg1))
      ∧ r.2.sem = fun _ => 0)

def quiescent_PlProjDwRefIdeal [hPlProjDwRefIdeal : Cert.PlProjDwRefIdeal.Facts] : Prop :=
  ∀ (m : (ℓ : Loc Cert.PlProjDwRefIdeal.nD Cert.PlProjDwRefIdeal.τ Cert.PlProjDwRefIdeal.sig) → Buf (Elt Ideal) ℓ) (g : Dev Cert.PlProjDwRefIdeal.nD → PrngReg), Pre_PlProjDwRefIdeal m →
    θ_run (Cert.PlProjDwRefIdeal.defs (F := Ideal)) (onTc (τ := Cert.PlProjDwRefIdeal.τ) (Cert.PlProjDwRefIdeal.main (F := Ideal))) ⟨m, fun _ => 0, g⟩ (fun r => (∀ c : Dev Cert.PlProjDwRefIdeal.nD,
      r.2.mem ((c.tc : Thread Cert.PlProjDwRefIdeal.nD Cert.PlProjDwRefIdeal.τ).loc Cert.PlProjDwRefIdeal.main_arg0) = m ((c.tc : Thread Cert.PlProjDwRefIdeal.nD Cert.PlProjDwRefIdeal.τ).loc Cert.PlProjDwRefIdeal.main_arg0)
      ∧ r.2.mem ((c.tc : Thread Cert.PlProjDwRefIdeal.nD Cert.PlProjDwRefIdeal.τ).loc Cert.PlProjDwRefIdeal.main_arg1) = m ((c.tc : Thread Cert.PlProjDwRefIdeal.nD Cert.PlProjDwRefIdeal.τ).loc Cert.PlProjDwRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenInDx [hEvenInDx : Cert.EvenInDx.Facts] : Prop :=
  ∀ (m : (ℓ : Loc Cert.EvenInDx.nD Cert.EvenInDx.τ Cert.EvenInDx.sig) → Buf (Elt Bits) ℓ) (g : Dev Cert.EvenInDx.nD → PrngReg), Pre_EvenInDx m →
    θ_run (Cert.EvenInDx.defs (F := Bits)) (onTc (τ := Cert.EvenInDx.τ) (Cert.EvenInDx.main (F := Bits))) ⟨m, fun _ => 0, g⟩ (fun r => (∀ c : Dev Cert.EvenInDx.nD,
      r.2.mem ((c.tc : Thread Cert.EvenInDx.nD Cert.EvenInDx.τ).loc Cert.EvenInDx.main_arg0) = m ((c.tc : Thread Cert.EvenInDx.nD Cert.EvenInDx.τ).loc Cert.EvenInDx.main_arg0)
      ∧ r.2.mem ((c.tc : Thread Cert.EvenInDx.nD Cert.EvenInDx.τ).loc Cert.EvenInDx.main_arg1) = m ((c.tc : Thread Cert.EvenInDx.nD Cert.EvenInDx.τ).loc Cert.EvenInDx.main_arg1))
      ∧ r.2.sem = fun _ => 0)

def quiescent_EvenInDxIdeal [hEvenInDxIdeal : Cert.EvenInDxIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg), Pre_EvenInDxIdeal m →
    θ_run (Cert.EvenInDxIdeal.defs (F := Ideal)) (onTc (τ := Cert.EvenInDxIdeal.τ) (Cert.EvenInDxIdeal.main (F := Ideal))) ⟨m, fun _ => 0, g⟩ (fun r => (∀ c : Dev Cert.EvenInDxIdeal.nD,
      r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
      ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1))
      ∧ r.2.sem = fun _ => 0)

def quiescent_EvenInDxRefIdeal [hEvenInDxRefIdeal : Cert.EvenInDxRefIdeal.Facts] : Prop :=
  ∀ (m : (ℓ : Loc Cert.EvenInDxRefIdeal.nD Cert.EvenInDxRefIdeal.τ Cert.EvenInDxRefIdeal.sig) → Buf (Elt Ideal) ℓ) (g : Dev Cert.EvenInDxRefIdeal.nD → PrngReg), Pre_EvenInDxRefIdeal m →
    θ_run (Cert.EvenInDxRefIdeal.defs (F := Ideal)) (onTc (τ := Cert.EvenInDxRefIdeal.τ) (Cert.EvenInDxRefIdeal.main (F := Ideal))) ⟨m, fun _ => 0, g⟩ (fun r => (∀ c : Dev Cert.EvenInDxRefIdeal.nD,
      r.2.mem ((c.tc : Thread Cert.EvenInDxRefIdeal.nD Cert.EvenInDxRefIdeal.τ).loc Cert.EvenInDxRefIdeal.main_arg0) = m ((c.tc : Thread Cert.EvenInDxRefIdeal.nD Cert.EvenInDxRefIdeal.τ).loc Cert.EvenInDxRefIdeal.main_arg0)
      ∧ r.2.mem ((c.tc : Thread Cert.EvenInDxRefIdeal.nD Cert.EvenInDxRefIdeal.τ).loc Cert.EvenInDxRefIdeal.main_arg1) = m ((c.tc : Thread Cert.EvenInDxRefIdeal.nD Cert.EvenInDxRefIdeal.τ).loc Cert.EvenInDxRefIdeal.main_arg1))
      ∧ r.2.sem = fun _ => 0)

def quiescent_EvenInDw [hEvenInDw : Cert.EvenInDw.Facts] : Prop :=
  ∀ (m : (ℓ : Loc Cert.EvenInDw.nD Cert.EvenInDw.τ Cert.EvenInDw.sig) → Buf (Elt Bits) ℓ) (g : Dev Cert.EvenInDw.nD → PrngReg), Pre_EvenInDw m →
    θ_run (Cert.EvenInDw.defs (F := Bits)) (onTc (τ := Cert.EvenInDw.τ) (Cert.EvenInDw.main (F := Bits))) ⟨m, fun _ => 0, g⟩ (fun r => (∀ c : Dev Cert.EvenInDw.nD,
      r.2.mem ((c.tc : Thread Cert.EvenInDw.nD Cert.EvenInDw.τ).loc Cert.EvenInDw.main_arg0) = m ((c.tc : Thread Cert.EvenInDw.nD Cert.EvenInDw.τ).loc Cert.EvenInDw.main_arg0)
      ∧ r.2.mem ((c.tc : Thread Cert.EvenInDw.nD Cert.EvenInDw.τ).loc Cert.EvenInDw.main_arg1) = m ((c.tc : Thread Cert.EvenInDw.nD Cert.EvenInDw.τ).loc Cert.EvenInDw.main_arg1))
      ∧ r.2.sem = fun _ => 0)

def quiescent_EvenInDwIdeal [hEvenInDwIdeal : Cert.EvenInDwIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg), Pre_EvenInDwIdeal m →
    θ_run (Cert.EvenInDwIdeal.defs (F := Ideal)) (onTc (τ := Cert.EvenInDwIdeal.τ) (Cert.EvenInDwIdeal.main (F := Ideal))) ⟨m, fun _ => 0, g⟩ (fun r => (∀ c : Dev Cert.EvenInDwIdeal.nD,
      r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
      ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ r.2.sem = fun _ => 0)

def quiescent_EvenInDwRefIdeal [hEvenInDwRefIdeal : Cert.EvenInDwRefIdeal.Facts] : Prop :=
  ∀ (m : (ℓ : Loc Cert.EvenInDwRefIdeal.nD Cert.EvenInDwRefIdeal.τ Cert.EvenInDwRefIdeal.sig) → Buf (Elt Ideal) ℓ) (g : Dev Cert.EvenInDwRefIdeal.nD → PrngReg), Pre_EvenInDwRefIdeal m →
    θ_run (Cert.EvenInDwRefIdeal.defs (F := Ideal)) (onTc (τ := Cert.EvenInDwRefIdeal.τ) (Cert.EvenInDwRefIdeal.main (F := Ideal))) ⟨m, fun _ => 0, g⟩ (fun r => (∀ c : Dev Cert.EvenInDwRefIdeal.nD,
      r.2.mem ((c.tc : Thread Cert.EvenInDwRefIdeal.nD Cert.EvenInDwRefIdeal.τ).loc Cert.EvenInDwRefIdeal.main_arg0) = m ((c.tc : Thread Cert.EvenInDwRefIdeal.nD Cert.EvenInDwRefIdeal.τ).loc Cert.EvenInDwRefIdeal.main_arg0)
      ∧ r.2.mem ((c.tc : Thread Cert.EvenInDwRefIdeal.nD Cert.EvenInDwRefIdeal.τ).loc Cert.EvenInDwRefIdeal.main_arg1) = m ((c.tc : Thread Cert.EvenInDwRefIdeal.nD Cert.EvenInDwRefIdeal.τ).loc Cert.EvenInDwRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddInDx [hOddInDx : Cert.OddInDx.Facts] : Prop :=
  ∀ (m : (ℓ : Loc Cert.OddInDx.nD Cert.OddInDx.τ Cert.OddInDx.sig) → Buf (Elt Bits) ℓ) (g : Dev Cert.OddInDx.nD → PrngReg), Pre_OddInDx m →
    θ_run (Cert.OddInDx.defs (F := Bits)) (onTc (τ := Cert.OddInDx.τ) (Cert.OddInDx.main (F := Bits))) ⟨m, fun _ => 0, g⟩ (fun r => (∀ c : Dev Cert.OddInDx.nD,
      r.2.mem ((c.tc : Thread Cert.OddInDx.nD Cert.OddInDx.τ).loc Cert.OddInDx.main_arg0) = m ((c.tc : Thread Cert.OddInDx.nD Cert.OddInDx.τ).loc Cert.OddInDx.main_arg0)
      ∧ r.2.mem ((c.tc : Thread Cert.OddInDx.nD Cert.OddInDx.τ).loc Cert.OddInDx.main_arg1) = m ((c.tc : Thread Cert.OddInDx.nD Cert.OddInDx.τ).loc Cert.OddInDx.main_arg1))
      ∧ r.2.sem = fun _ => 0)

def quiescent_OddInDxIdeal [hOddInDxIdeal : Cert.OddInDxIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg), Pre_OddInDxIdeal m →
    θ_run (Cert.OddInDxIdeal.defs (F := Ideal)) (onTc (τ := Cert.OddInDxIdeal.τ) (Cert.OddInDxIdeal.main (F := Ideal))) ⟨m, fun _ => 0, g⟩ (fun r => (∀ c : Dev Cert.OddInDxIdeal.nD,
      r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
      ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1))
      ∧ r.2.sem = fun _ => 0)

def quiescent_OddInDxRefIdeal [hOddInDxRefIdeal : Cert.OddInDxRefIdeal.Facts] : Prop :=
  ∀ (m : (ℓ : Loc Cert.OddInDxRefIdeal.nD Cert.OddInDxRefIdeal.τ Cert.OddInDxRefIdeal.sig) → Buf (Elt Ideal) ℓ) (g : Dev Cert.OddInDxRefIdeal.nD → PrngReg), Pre_OddInDxRefIdeal m →
    θ_run (Cert.OddInDxRefIdeal.defs (F := Ideal)) (onTc (τ := Cert.OddInDxRefIdeal.τ) (Cert.OddInDxRefIdeal.main (F := Ideal))) ⟨m, fun _ => 0, g⟩ (fun r => (∀ c : Dev Cert.OddInDxRefIdeal.nD,
      r.2.mem ((c.tc : Thread Cert.OddInDxRefIdeal.nD Cert.OddInDxRefIdeal.τ).loc Cert.OddInDxRefIdeal.main_arg0) = m ((c.tc : Thread Cert.OddInDxRefIdeal.nD Cert.OddInDxRefIdeal.τ).loc Cert.OddInDxRefIdeal.main_arg0)
      ∧ r.2.mem ((c.tc : Thread Cert.OddInDxRefIdeal.nD Cert.OddInDxRefIdeal.τ).loc Cert.OddInDxRefIdeal.main_arg1) = m ((c.tc : Thread Cert.OddInDxRefIdeal.nD Cert.OddInDxRefIdeal.τ).loc Cert.OddInDxRefIdeal.main_arg1))
      ∧ r.2.sem = fun _ => 0)

def quiescent_OddInDw [hOddInDw : Cert.OddInDw.Facts] : Prop :=
  ∀ (m : (ℓ : Loc Cert.OddInDw.nD Cert.OddInDw.τ Cert.OddInDw.sig) → Buf (Elt Bits) ℓ) (g : Dev Cert.OddInDw.nD → PrngReg), Pre_OddInDw m →
    θ_run (Cert.OddInDw.defs (F := Bits)) (onTc (τ := Cert.OddInDw.τ) (Cert.OddInDw.main (F := Bits))) ⟨m, fun _ => 0, g⟩ (fun r => (∀ c : Dev Cert.OddInDw.nD,
      r.2.mem ((c.tc : Thread Cert.OddInDw.nD Cert.OddInDw.τ).loc Cert.OddInDw.main_arg0) = m ((c.tc : Thread Cert.OddInDw.nD Cert.OddInDw.τ).loc Cert.OddInDw.main_arg0)
      ∧ r.2.mem ((c.tc : Thread Cert.OddInDw.nD Cert.OddInDw.τ).loc Cert.OddInDw.main_arg1) = m ((c.tc : Thread Cert.OddInDw.nD Cert.OddInDw.τ).loc Cert.OddInDw.main_arg1))
      ∧ r.2.sem = fun _ => 0)

def quiescent_OddInDwIdeal [hOddInDwIdeal : Cert.OddInDwIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg), Pre_OddInDwIdeal m →
    θ_run (Cert.OddInDwIdeal.defs (F := Ideal)) (onTc (τ := Cert.OddInDwIdeal.τ) (Cert.OddInDwIdeal.main (F := Ideal))) ⟨m, fun _ => 0, g⟩ (fun r => (∀ c : Dev Cert.OddInDwIdeal.nD,
      r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
      ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ r.2.sem = fun _ => 0)

def quiescent_OddInDwRefIdeal [hOddInDwRefIdeal : Cert.OddInDwRefIdeal.Facts] : Prop :=
  ∀ (m : (ℓ : Loc Cert.OddInDwRefIdeal.nD Cert.OddInDwRefIdeal.τ Cert.OddInDwRefIdeal.sig) → Buf (Elt Ideal) ℓ) (g : Dev Cert.OddInDwRefIdeal.nD → PrngReg), Pre_OddInDwRefIdeal m →
    θ_run (Cert.OddInDwRefIdeal.defs (F := Ideal)) (onTc (τ := Cert.OddInDwRefIdeal.τ) (Cert.OddInDwRefIdeal.main (F := Ideal))) ⟨m, fun _ => 0, g⟩ (fun r => (∀ c : Dev Cert.OddInDwRefIdeal.nD,
      r.2.mem ((c.tc : Thread Cert.OddInDwRefIdeal.nD Cert.OddInDwRefIdeal.τ).loc Cert.OddInDwRefIdeal.main_arg0) = m ((c.tc : Thread Cert.OddInDwRefIdeal.nD Cert.OddInDwRefIdeal.τ).loc Cert.OddInDwRefIdeal.main_arg0)
      ∧ r.2.mem ((c.tc : Thread Cert.OddInDwRefIdeal.nD Cert.OddInDwRefIdeal.τ).loc Cert.OddInDwRefIdeal.main_arg1) = m ((c.tc : Thread Cert.OddInDwRefIdeal.nD Cert.OddInDwRefIdeal.τ).loc Cert.OddInDwRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ShiftBwd [hShiftBwd : Cert.ShiftBwd.Facts] : Prop :=
  ∀ (m : (ℓ : Loc Cert.ShiftBwd.nD Cert.ShiftBwd.τ Cert.ShiftBwd.sig) → Buf (Elt Bits) ℓ) (g : Dev Cert.ShiftBwd.nD → PrngReg), Pre_ShiftBwd m →
    θ_run (Cert.ShiftBwd.defs (F := Bits)) (onTc (τ := Cert.ShiftBwd.τ) (Cert.ShiftBwd.main (F := Bits))) ⟨m, fun _ => 0, g⟩ (fun r => (∀ c : Dev Cert.ShiftBwd.nD,
      r.2.mem ((c.tc : Thread Cert.ShiftBwd.nD Cert.ShiftBwd.τ).loc Cert.ShiftBwd.main_arg0) = m ((c.tc : Thread Cert.ShiftBwd.nD Cert.ShiftBwd.τ).loc Cert.ShiftBwd.main_arg0)
      ∧ r.2.mem ((c.tc : Thread Cert.ShiftBwd.nD Cert.ShiftBwd.τ).loc Cert.ShiftBwd.main_arg1) = m ((c.tc : Thread Cert.ShiftBwd.nD Cert.ShiftBwd.τ).loc Cert.ShiftBwd.main_arg1)
      ∧ r.2.mem ((c.tc : Thread Cert.ShiftBwd.nD Cert.ShiftBwd.τ).loc Cert.ShiftBwd.main_arg2) = m ((c.tc : Thread Cert.ShiftBwd.nD Cert.ShiftBwd.τ).loc Cert.ShiftBwd.main_arg2)
      ∧ r.2.mem ((c.tc : Thread Cert.ShiftBwd.nD Cert.ShiftBwd.τ).loc Cert.ShiftBwd.main_arg3) = m ((c.tc : Thread Cert.ShiftBwd.nD Cert.ShiftBwd.τ).loc Cert.ShiftBwd.main_arg3))
      ∧ r.2.sem = fun _ => 0)

def quiescent_ShiftBwdIdeal [hShiftBwdIdeal : Cert.ShiftBwdIdeal.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ r.2.sem = fun _ => 0)

def quiescent_ShiftBwdRefIdeal [hShiftBwdRefIdeal : Cert.ShiftBwdRefIdeal.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3))
      ∧ r.2.sem = fun _ => 0)

def quiescent_GeluGateBwd [hGeluGateBwd : Cert.GeluGateBwd.Facts] : Prop :=
  ∀ (m : (ℓ : Loc Cert.GeluGateBwd.nD Cert.GeluGateBwd.τ Cert.GeluGateBwd.sig) → Buf (Elt Bits) ℓ) (g : Dev Cert.GeluGateBwd.nD → PrngReg), Pre_GeluGateBwd m →
    θ_run (Cert.GeluGateBwd.defs (F := Bits)) (onTc (τ := Cert.GeluGateBwd.τ) (Cert.GeluGateBwd.main (F := Bits))) ⟨m, fun _ => 0, g⟩ (fun r => (∀ c : Dev Cert.GeluGateBwd.nD,
      r.2.mem ((c.tc : Thread Cert.GeluGateBwd.nD Cert.GeluGateBwd.τ).loc Cert.GeluGateBwd.main_arg0) = m ((c.tc : Thread Cert.GeluGateBwd.nD Cert.GeluGateBwd.τ).loc Cert.GeluGateBwd.main_arg0)
      ∧ r.2.mem ((c.tc : Thread Cert.GeluGateBwd.nD Cert.GeluGateBwd.τ).loc Cert.GeluGateBwd.main_arg1) = m ((c.tc : Thread Cert.GeluGateBwd.nD Cert.GeluGateBwd.τ).loc Cert.GeluGateBwd.main_arg1)
      ∧ r.2.mem ((c.tc : Thread Cert.GeluGateBwd.nD Cert.GeluGateBwd.τ).loc Cert.GeluGateBwd.main_arg2) = m ((c.tc : Thread Cert.GeluGateBwd.nD Cert.GeluGateBwd.τ).loc Cert.GeluGateBwd.main_arg2))
      ∧ r.2.sem = fun _ => 0)

def quiescent_GeluGateBwdIdeal [hGeluGateBwdIdeal : Cert.GeluGateBwdIdeal.Facts] : Prop :=
  ∀ (m : (ℓ : Loc Cert.GeluGateBwdIdeal.nD Cert.GeluGateBwdIdeal.τ Cert.GeluGateBwdIdeal.sig) → Buf (Elt Ideal) ℓ) (g : Dev Cert.GeluGateBwdIdeal.nD → PrngReg), Pre_GeluGateBwdIdeal m →
    θ_run (Cert.GeluGateBwdIdeal.defs (F := Ideal)) (onTc (τ := Cert.GeluGateBwdIdeal.τ) (Cert.GeluGateBwdIdeal.main (F := Ideal))) ⟨m, fun _ => 0, g⟩ (fun r => (∀ c : Dev Cert.GeluGateBwdIdeal.nD,
      r.2.mem ((c.tc : Thread Cert.GeluGateBwdIdeal.nD Cert.GeluGateBwdIdeal.τ).loc Cert.GeluGateBwdIdeal.main_arg0) = m ((c.tc : Thread Cert.GeluGateBwdIdeal.nD Cert.GeluGateBwdIdeal.τ).loc Cert.GeluGateBwdIdeal.main_arg0)
      ∧ r.2.mem ((c.tc : Thread Cert.GeluGateBwdIdeal.nD Cert.GeluGateBwdIdeal.τ).loc Cert.GeluGateBwdIdeal.main_arg1) = m ((c.tc : Thread Cert.GeluGateBwdIdeal.nD Cert.GeluGateBwdIdeal.τ).loc Cert.GeluGateBwdIdeal.main_arg1)
      ∧ r.2.mem ((c.tc : Thread Cert.GeluGateBwdIdeal.nD Cert.GeluGateBwdIdeal.τ).loc Cert.GeluGateBwdIdeal.main_arg2) = m ((c.tc : Thread Cert.GeluGateBwdIdeal.nD Cert.GeluGateBwdIdeal.τ).loc Cert.GeluGateBwdIdeal.main_arg2))
      ∧ r.2.sem = fun _ => 0)

def quiescent_GeluGateBwdRefIdeal [hGeluGateBwdRefIdeal : Cert.GeluGateBwdRefIdeal.Facts] : Prop :=
  ∀ (m : (ℓ : Loc Cert.GeluGateBwdRefIdeal.nD Cert.GeluGateBwdRefIdeal.τ Cert.GeluGateBwdRefIdeal.sig) → Buf (Elt Ideal) ℓ) (g : Dev Cert.GeluGateBwdRefIdeal.nD → PrngReg), Pre_GeluGateBwdRefIdeal m →
    θ_run (Cert.GeluGateBwdRefIdeal.defs (F := Ideal)) (onTc (τ := Cert.GeluGateBwdRefIdeal.τ) (Cert.GeluGateBwdRefIdeal.main (F := Ideal))) ⟨m, fun _ => 0, g⟩ (fun r => (∀ c : Dev Cert.GeluGateBwdRefIdeal.nD,
      r.2.mem ((c.tc : Thread Cert.GeluGateBwdRefIdeal.nD Cert.GeluGateBwdRefIdeal.τ).loc Cert.GeluGateBwdRefIdeal.main_arg0) = m ((c.tc : Thread Cert.GeluGateBwdRefIdeal.nD Cert.GeluGateBwdRefIdeal.τ).loc Cert.GeluGateBwdRefIdeal.main_arg0)
      ∧ r.2.mem ((c.tc : Thread Cert.GeluGateBwdRefIdeal.nD Cert.GeluGateBwdRefIdeal.τ).loc Cert.GeluGateBwdRefIdeal.main_arg1) = m ((c.tc : Thread Cert.GeluGateBwdRefIdeal.nD Cert.GeluGateBwdRefIdeal.τ).loc Cert.GeluGateBwdRefIdeal.main_arg1)
      ∧ r.2.mem ((c.tc : Thread Cert.GeluGateBwdRefIdeal.nD Cert.GeluGateBwdRefIdeal.τ).loc Cert.GeluGateBwdRefIdeal.main_arg2) = m ((c.tc : Thread Cert.GeluGateBwdRefIdeal.nD Cert.GeluGateBwdRefIdeal.τ).loc Cert.GeluGateBwdRefIdeal.main_arg2))
      ∧ r.2.sem = fun _ => 0)

def quiescent_AdamwEarly [hAdamwEarly : Cert.AdamwEarly.Facts] : Prop :=
  ∀ (m : (ℓ : Loc Cert.AdamwEarly.nD Cert.AdamwEarly.τ Cert.AdamwEarly.sig) → Buf (Elt Bits) ℓ) (g : Dev Cert.AdamwEarly.nD → PrngReg), Pre_AdamwEarly m →
    θ_run (Cert.AdamwEarly.defs (F := Bits)) (onTc (τ := Cert.AdamwEarly.τ) (Cert.AdamwEarly.main (F := Bits))) ⟨m, fun _ => 0, g⟩ (fun r => (∀ c : Dev Cert.AdamwEarly.nD,
      r.2.mem ((c.tc : Thread Cert.AdamwEarly.nD Cert.AdamwEarly.τ).loc Cert.AdamwEarly.main_arg0) = m ((c.tc : Thread Cert.AdamwEarly.nD Cert.AdamwEarly.τ).loc Cert.AdamwEarly.main_arg0)
      ∧ r.2.mem ((c.tc : Thread Cert.AdamwEarly.nD Cert.AdamwEarly.τ).loc Cert.AdamwEarly.main_arg1) = m ((c.tc : Thread Cert.AdamwEarly.nD Cert.AdamwEarly.τ).loc Cert.AdamwEarly.main_arg1)
      ∧ r.2.mem ((c.tc : Thread Cert.AdamwEarly.nD Cert.AdamwEarly.τ).loc Cert.AdamwEarly.main_arg2) = m ((c.tc : Thread Cert.AdamwEarly.nD Cert.AdamwEarly.τ).loc Cert.AdamwEarly.main_arg2)
      ∧ r.2.mem ((c.tc : Thread Cert.AdamwEarly.nD Cert.AdamwEarly.τ).loc Cert.AdamwEarly.main_arg3) = m ((c.tc : Thread Cert.AdamwEarly.nD Cert.AdamwEarly.τ).loc Cert.AdamwEarly.main_arg3))
      ∧ r.2.sem = fun _ => 0)

def quiescent_AdamwEarlyIdeal [hAdamwEarlyIdeal : Cert.AdamwEarlyIdeal.Facts] : Prop :=
  ∀ (m : (ℓ : Loc Cert.AdamwEarlyIdeal.nD Cert.AdamwEarlyIdeal.τ Cert.AdamwEarlyIdeal.sig) → Buf (Elt Ideal) ℓ) (g : Dev Cert.AdamwEarlyIdeal.nD → PrngReg), Pre_AdamwEarlyIdeal m →
    θ_run (Cert.AdamwEarlyIdeal.defs (F := Ideal)) (onTc (τ := Cert.AdamwEarlyIdeal.τ) (Cert.AdamwEarlyIdeal.main (F := Ideal))) ⟨m, fun _ => 0, g⟩ (fun r => (∀ c : Dev Cert.AdamwEarlyIdeal.nD,
      r.2.mem ((c.tc : Thread Cert.AdamwEarlyIdeal.nD Cert.AdamwEarlyIdeal.τ).loc Cert.AdamwEarlyIdeal.main_arg0) = m ((c.tc : Thread Cert.AdamwEarlyIdeal.nD Cert.AdamwEarlyIdeal.τ).loc Cert.AdamwEarlyIdeal.main_arg0)
      ∧ r.2.mem ((c.tc : Thread Cert.AdamwEarlyIdeal.nD Cert.AdamwEarlyIdeal.τ).loc Cert.AdamwEarlyIdeal.main_arg1) = m ((c.tc : Thread Cert.AdamwEarlyIdeal.nD Cert.AdamwEarlyIdeal.τ).loc Cert.AdamwEarlyIdeal.main_arg1)
      ∧ r.2.mem ((c.tc : Thread Cert.AdamwEarlyIdeal.nD Cert.AdamwEarlyIdeal.τ).loc Cert.AdamwEarlyIdeal.main_arg2) = m ((c.tc : Thread Cert.AdamwEarlyIdeal.nD Cert.AdamwEarlyIdeal.τ).loc Cert.AdamwEarlyIdeal.main_arg2)
      ∧ r.2.mem ((c.tc : Thread Cert.AdamwEarlyIdeal.nD Cert.AdamwEarlyIdeal.τ).loc Cert.AdamwEarlyIdeal.main_arg3) = m ((c.tc : Thread Cert.AdamwEarlyIdeal.nD Cert.AdamwEarlyIdeal.τ).loc Cert.AdamwEarlyIdeal.main_arg3))
      ∧ r.2.sem = fun _ => 0)

def quiescent_AdamwEarlyRefIdeal [hAdamwEarlyRefIdeal : Cert.AdamwEarlyRefIdeal.Facts] : Prop :=
  ∀ (m : (ℓ : Loc Cert.AdamwEarlyRefIdeal.nD Cert.AdamwEarlyRefIdeal.τ Cert.AdamwEarlyRefIdeal.sig) → Buf (Elt Ideal) ℓ) (g : Dev Cert.AdamwEarlyRefIdeal.nD → PrngReg), Pre_AdamwEarlyRefIdeal m →
    θ_run (Cert.AdamwEarlyRefIdeal.defs (F := Ideal)) (onTc (τ := Cert.AdamwEarlyRefIdeal.τ) (Cert.AdamwEarlyRefIdeal.main (F := Ideal))) ⟨m, fun _ => 0, g⟩ (fun r => (∀ c : Dev Cert.AdamwEarlyRefIdeal.nD,
      r.2.mem ((c.tc : Thread Cert.AdamwEarlyRefIdeal.nD Cert.AdamwEarlyRefIdeal.τ).loc Cert.AdamwEarlyRefIdeal.main_arg0) = m ((c.tc : Thread Cert.AdamwEarlyRefIdeal.nD Cert.AdamwEarlyRefIdeal.τ).loc Cert.AdamwEarlyRefIdeal.main_arg0)
      ∧ r.2.mem ((c.tc : Thread Cert.AdamwEarlyRefIdeal.nD Cert.AdamwEarlyRefIdeal.τ).loc Cert.AdamwEarlyRefIdeal.main_arg1) = m ((c.tc : Thread Cert.AdamwEarlyRefIdeal.nD Cert.AdamwEarlyRefIdeal.τ).loc Cert.AdamwEarlyRefIdeal.main_arg1)
      ∧ r.2.mem ((c.tc : Thread Cert.AdamwEarlyRefIdeal.nD Cert.AdamwEarlyRefIdeal.τ).loc Cert.AdamwEarlyRefIdeal.main_arg2) = m ((c.tc : Thread Cert.AdamwEarlyRefIdeal.nD Cert.AdamwEarlyRefIdeal.τ).loc Cert.AdamwEarlyRefIdeal.main_arg2)
      ∧ r.2.mem ((c.tc : Thread Cert.AdamwEarlyRefIdeal.nD Cert.AdamwEarlyRefIdeal.τ).loc Cert.AdamwEarlyRefIdeal.main_arg3) = m ((c.tc : Thread Cert.AdamwEarlyRefIdeal.nD Cert.AdamwEarlyRefIdeal.τ).loc Cert.AdamwEarlyRefIdeal.main_arg3))
      ∧ r.2.sem = fun _ => 0)

def quiescent_AdamwMid [hAdamwMid : Cert.AdamwMid.Facts] : Prop :=
  ∀ (m : (ℓ : Loc Cert.AdamwMid.nD Cert.AdamwMid.τ Cert.AdamwMid.sig) → Buf (Elt Bits) ℓ) (g : Dev Cert.AdamwMid.nD → PrngReg), Pre_AdamwMid m →
    θ_run (Cert.AdamwMid.defs (F := Bits)) (onTc (τ := Cert.AdamwMid.τ) (Cert.AdamwMid.main (F := Bits))) ⟨m, fun _ => 0, g⟩ (fun r => (∀ c : Dev Cert.AdamwMid.nD,
      r.2.mem ((c.tc : Thread Cert.AdamwMid.nD Cert.AdamwMid.τ).loc Cert.AdamwMid.main_arg0) = m ((c.tc : Thread Cert.AdamwMid.nD Cert.AdamwMid.τ).loc Cert.AdamwMid.main_arg0)
      ∧ r.2.mem ((c.tc : Thread Cert.AdamwMid.nD Cert.AdamwMid.τ).loc Cert.AdamwMid.main_arg1) = m ((c.tc : Thread Cert.AdamwMid.nD Cert.AdamwMid.τ).loc Cert.AdamwMid.main_arg1)
      ∧ r.2.mem ((c.tc : Thread Cert.AdamwMid.nD Cert.AdamwMid.τ).loc Cert.AdamwMid.main_arg2) = m ((c.tc : Thread Cert.AdamwMid.nD Cert.AdamwMid.τ).loc Cert.AdamwMid.main_arg2)
      ∧ r.2.mem ((c.tc : Thread Cert.AdamwMid.nD Cert.AdamwMid.τ).loc Cert.AdamwMid.main_arg3) = m ((c.tc : Thread Cert.AdamwMid.nD Cert.AdamwMid.τ).loc Cert.AdamwMid.main_arg3))
      ∧ r.2.sem = fun _ => 0)

def quiescent_AdamwMidIdeal [hAdamwMidIdeal : Cert.AdamwMidIdeal.Facts] : Prop :=
  ∀ (m : (ℓ : Loc Cert.AdamwMidIdeal.nD Cert.AdamwMidIdeal.τ Cert.AdamwMidIdeal.sig) → Buf (Elt Ideal) ℓ) (g : Dev Cert.AdamwMidIdeal.nD → PrngReg), Pre_AdamwMidIdeal m →
    θ_run (Cert.AdamwMidIdeal.defs (F := Ideal)) (onTc (τ := Cert.AdamwMidIdeal.τ) (Cert.AdamwMidIdeal.main (F := Ideal))) ⟨m, fun _ => 0, g⟩ (fun r => (∀ c : Dev Cert.AdamwMidIdeal.nD,
      r.2.mem ((c.tc : Thread Cert.AdamwMidIdeal.nD Cert.AdamwMidIdeal.τ).loc Cert.AdamwMidIdeal.main_arg0) = m ((c.tc : Thread Cert.AdamwMidIdeal.nD Cert.AdamwMidIdeal.τ).loc Cert.AdamwMidIdeal.main_arg0)
      ∧ r.2.mem ((c.tc : Thread Cert.AdamwMidIdeal.nD Cert.AdamwMidIdeal.τ).loc Cert.AdamwMidIdeal.main_arg1) = m ((c.tc : Thread Cert.AdamwMidIdeal.nD Cert.AdamwMidIdeal.τ).loc Cert.AdamwMidIdeal.main_arg1)
      ∧ r.2.mem ((c.tc : Thread Cert.AdamwMidIdeal.nD Cert.AdamwMidIdeal.τ).loc Cert.AdamwMidIdeal.main_arg2) = m ((c.tc : Thread Cert.AdamwMidIdeal.nD Cert.AdamwMidIdeal.τ).loc Cert.AdamwMidIdeal.main_arg2)
      ∧ r.2.mem ((c.tc : Thread Cert.AdamwMidIdeal.nD Cert.AdamwMidIdeal.τ).loc Cert.AdamwMidIdeal.main_arg3) = m ((c.tc : Thread Cert.AdamwMidIdeal.nD Cert.AdamwMidIdeal.τ).loc Cert.AdamwMidIdeal.main_arg3))
      ∧ r.2.sem = fun _ => 0)

def quiescent_AdamwMidRefIdeal [hAdamwMidRefIdeal : Cert.AdamwMidRefIdeal.Facts] : Prop :=
  ∀ (m : (ℓ : Loc Cert.AdamwMidRefIdeal.nD Cert.AdamwMidRefIdeal.τ Cert.AdamwMidRefIdeal.sig) → Buf (Elt Ideal) ℓ) (g : Dev Cert.AdamwMidRefIdeal.nD → PrngReg), Pre_AdamwMidRefIdeal m →
    θ_run (Cert.AdamwMidRefIdeal.defs (F := Ideal)) (onTc (τ := Cert.AdamwMidRefIdeal.τ) (Cert.AdamwMidRefIdeal.main (F := Ideal))) ⟨m, fun _ => 0, g⟩ (fun r => (∀ c : Dev Cert.AdamwMidRefIdeal.nD,
      r.2.mem ((c.tc : Thread Cert.AdamwMidRefIdeal.nD Cert.AdamwMidRefIdeal.τ).loc Cert.AdamwMidRefIdeal.main_arg0) = m ((c.tc : Thread Cert.AdamwMidRefIdeal.nD Cert.AdamwMidRefIdeal.τ).loc Cert.AdamwMidRefIdeal.main_arg0)
      ∧ r.2.mem ((c.tc : Thread Cert.AdamwMidRefIdeal.nD Cert.AdamwMidRefIdeal.τ).loc Cert.AdamwMidRefIdeal.main_arg1) = m ((c.tc : Thread Cert.AdamwMidRefIdeal.nD Cert.AdamwMidRefIdeal.τ).loc Cert.AdamwMidRefIdeal.main_arg1)
      ∧ r.2.mem ((c.tc : Thread Cert.AdamwMidRefIdeal.nD Cert.AdamwMidRefIdeal.τ).loc Cert.AdamwMidRefIdeal.main_arg2) = m ((c.tc : Thread Cert.AdamwMidRefIdeal.nD Cert.AdamwMidRefIdeal.τ).loc Cert.AdamwMidRefIdeal.main_arg2)
      ∧ r.2.mem ((c.tc : Thread Cert.AdamwMidRefIdeal.nD Cert.AdamwMidRefIdeal.τ).loc Cert.AdamwMidRefIdeal.main_arg3) = m ((c.tc : Thread Cert.AdamwMidRefIdeal.nD Cert.AdamwMidRefIdeal.τ).loc Cert.AdamwMidRefIdeal.main_arg3))
      ∧ r.2.sem = fun _ => 0)

def quiescent_AdamwMain [hAdamwMain : Cert.AdamwMain.Facts] : Prop :=
  ∀ (m : (ℓ : Loc Cert.AdamwMain.nD Cert.AdamwMain.τ Cert.AdamwMain.sig) → Buf (Elt Bits) ℓ) (g : Dev Cert.AdamwMain.nD → PrngReg), Pre_AdamwMain m →
    θ_run (Cert.AdamwMain.defs (F := Bits)) (onTc (τ := Cert.AdamwMain.τ) (Cert.AdamwMain.main (F := Bits))) ⟨m, fun _ => 0, g⟩ (fun r => (∀ c : Dev Cert.AdamwMain.nD,
      r.2.mem ((c.tc : Thread Cert.AdamwMain.nD Cert.AdamwMain.τ).loc Cert.AdamwMain.main_arg0) = m ((c.tc : Thread Cert.AdamwMain.nD Cert.AdamwMain.τ).loc Cert.AdamwMain.main_arg0)
      ∧ r.2.mem ((c.tc : Thread Cert.AdamwMain.nD Cert.AdamwMain.τ).loc Cert.AdamwMain.main_arg1) = m ((c.tc : Thread Cert.AdamwMain.nD Cert.AdamwMain.τ).loc Cert.AdamwMain.main_arg1)
      ∧ r.2.mem ((c.tc : Thread Cert.AdamwMain.nD Cert.AdamwMain.τ).loc Cert.AdamwMain.main_arg2) = m ((c.tc : Thread Cert.AdamwMain.nD Cert.AdamwMain.τ).loc Cert.AdamwMain.main_arg2)
      ∧ r.2.mem ((c.tc : Thread Cert.AdamwMain.nD Cert.AdamwMain.τ).loc Cert.AdamwMain.main_arg3) = m ((c.tc : Thread Cert.AdamwMain.nD Cert.AdamwMain.τ).loc Cert.AdamwMain.main_arg3))
      ∧ r.2.sem = fun _ => 0)

def quiescent_AdamwMainIdeal [hAdamwMainIdeal : Cert.AdamwMainIdeal.Facts] : Prop :=
  ∀ (m : (ℓ : Loc Cert.AdamwMainIdeal.nD Cert.AdamwMainIdeal.τ Cert.AdamwMainIdeal.sig) → Buf (Elt Ideal) ℓ) (g : Dev Cert.AdamwMainIdeal.nD → PrngReg), Pre_AdamwMainIdeal m →
    θ_run (Cert.AdamwMainIdeal.defs (F := Ideal)) (onTc (τ := Cert.AdamwMainIdeal.τ) (Cert.AdamwMainIdeal.main (F := Ideal))) ⟨m, fun _ => 0, g⟩ (fun r => (∀ c : Dev Cert.AdamwMainIdeal.nD,
      r.2.mem ((c.tc : Thread Cert.AdamwMainIdeal.nD Cert.AdamwMainIdeal.τ).loc Cert.AdamwMainIdeal.main_arg0) = m ((c.tc : Thread Cert.AdamwMainIdeal.nD Cert.AdamwMainIdeal.τ).loc Cert.AdamwMainIdeal.main_arg0)
      ∧ r.2.mem ((c.tc : Thread Cert.AdamwMainIdeal.nD Cert.AdamwMainIdeal.τ).loc Cert.AdamwMainIdeal.main_arg1) = m ((c.tc : Thread Cert.AdamwMainIdeal.nD Cert.AdamwMainIdeal.τ).loc Cert.AdamwMainIdeal.main_arg1)
      ∧ r.2.mem ((c.tc : Thread Cert.AdamwMainIdeal.nD Cert.AdamwMainIdeal.τ).loc Cert.AdamwMainIdeal.main_arg2) = m ((c.tc : Thread Cert.AdamwMainIdeal.nD Cert.AdamwMainIdeal.τ).loc Cert.AdamwMainIdeal.main_arg2)
      ∧ r.2.mem ((c.tc : Thread Cert.AdamwMainIdeal.nD Cert.AdamwMainIdeal.τ).loc Cert.AdamwMainIdeal.main_arg3) = m ((c.tc : Thread Cert.AdamwMainIdeal.nD Cert.AdamwMainIdeal.τ).loc Cert.AdamwMainIdeal.main_arg3))
      ∧ r.2.sem = fun _ => 0)

def quiescent_AdamwMainRefIdeal [hAdamwMainRefIdeal : Cert.AdamwMainRefIdeal.Facts] : Prop :=
  ∀ (m : (ℓ : Loc Cert.AdamwMainRefIdeal.nD Cert.AdamwMainRefIdeal.τ Cert.AdamwMainRefIdeal.sig) → Buf (Elt Ideal) ℓ) (g : Dev Cert.AdamwMainRefIdeal.nD → PrngReg), Pre_AdamwMainRefIdeal m →
    θ_run (Cert.AdamwMainRefIdeal.defs (F := Ideal)) (onTc (τ := Cert.AdamwMainRefIdeal.τ) (Cert.AdamwMainRefIdeal.main (F := Ideal))) ⟨m, fun _ => 0, g⟩ (fun r => (∀ c : Dev Cert.AdamwMainRefIdeal.nD,
      r.2.mem ((c.tc : Thread Cert.AdamwMainRefIdeal.nD Cert.AdamwMainRefIdeal.τ).loc Cert.AdamwMainRefIdeal.main_arg0) = m ((c.tc : Thread Cert.AdamwMainRefIdeal.nD Cert.AdamwMainRefIdeal.τ).loc Cert.AdamwMainRefIdeal.main_arg0)
      ∧ r.2.mem ((c.tc : Thread Cert.AdamwMainRefIdeal.nD Cert.AdamwMainRefIdeal.τ).loc Cert.AdamwMainRefIdeal.main_arg1) = m ((c.tc : Thread Cert.AdamwMainRefIdeal.nD Cert.AdamwMainRefIdeal.τ).loc Cert.AdamwMainRefIdeal.main_arg1)
      ∧ r.2.mem ((c.tc : Thread Cert.AdamwMainRefIdeal.nD Cert.AdamwMainRefIdeal.τ).loc Cert.AdamwMainRefIdeal.main_arg2) = m ((c.tc : Thread Cert.AdamwMainRefIdeal.nD Cert.AdamwMainRefIdeal.τ).loc Cert.AdamwMainRefIdeal.main_arg2)
      ∧ r.2.mem ((c.tc : Thread Cert.AdamwMainRefIdeal.nD Cert.AdamwMainRefIdeal.τ).loc Cert.AdamwMainRefIdeal.main_arg3) = m ((c.tc : Thread Cert.AdamwMainRefIdeal.nD Cert.AdamwMainRefIdeal.τ).loc Cert.AdamwMainRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_LruGates [hLruGates : Cert.LruGates.Facts] : Prop :=
  ∀ (m : (ℓ : Loc Cert.LruGates.nD Cert.LruGates.τ Cert.LruGates.sig) → Buf (Elt Bits) ℓ) (g : Dev Cert.LruGates.nD → PrngReg), Pre_LruGates m →
    θ_run (Cert.LruGates.defs (F := Bits)) (onTc (τ := Cert.LruGates.τ) (Cert.LruGates.main (F := Bits))) ⟨m, fun _ => 0, g⟩ (fun r => (∀ c : Dev Cert.LruGates.nD,
      r.2.mem ((c.tc : Thread Cert.LruGates.nD Cert.LruGates.τ).loc Cert.LruGates.main_arg0) = m ((c.tc : Thread Cert.LruGates.nD Cert.LruGates.τ).loc Cert.LruGates.main_arg0)
      ∧ r.2.mem ((c.tc : Thread Cert.LruGates.nD Cert.LruGates.τ).loc Cert.LruGates.main_arg1) = m ((c.tc : Thread Cert.LruGates.nD Cert.LruGates.τ).loc Cert.LruGates.main_arg1))
      ∧ r.2.sem = fun _ => 0)

def quiescent_LruGatesIdeal [hLruGatesIdeal : Cert.LruGatesIdeal.Facts] : Prop :=
  ∀ (m : (ℓ : Loc Cert.LruGatesIdeal.nD Cert.LruGatesIdeal.τ Cert.LruGatesIdeal.sig) → Buf (Elt Ideal) ℓ) (g : Dev Cert.LruGatesIdeal.nD → PrngReg), Pre_LruGatesIdeal m →
    θ_run (Cert.LruGatesIdeal.defs (F := Ideal)) (onTc (τ := Cert.LruGatesIdeal.τ) (Cert.LruGatesIdeal.main (F := Ideal))) ⟨m, fun _ => 0, g⟩ (fun r => (∀ c : Dev Cert.LruGatesIdeal.nD,
      r.2.mem ((c.tc : Thread Cert.LruGatesIdeal.nD Cert.LruGatesIdeal.τ).loc Cert.LruGatesIdeal.main_arg0) = m ((c.tc : Thread Cert.LruGatesIdeal.nD Cert.LruGatesIdeal.τ).loc Cert.LruGatesIdeal.main_arg0)
      ∧ r.2.mem ((c.tc : Thread Cert.LruGatesIdeal.nD Cert.LruGatesIdeal.τ).loc Cert.LruGatesIdeal.main_arg1) = m ((c.tc : Thread Cert.LruGatesIdeal.nD Cert.LruGatesIdeal.τ).loc Cert.LruGatesIdeal.main_arg1))
      ∧ r.2.sem = fun _ => 0)

def quiescent_LruGatesRefIdeal [hLruGatesRefIdeal : Cert.LruGatesRefIdeal.Facts] : Prop :=
  ∀ (m : (ℓ : Loc Cert.LruGatesRefIdeal.nD Cert.LruGatesRefIdeal.τ Cert.LruGatesRefIdeal.sig) → Buf (Elt Ideal) ℓ) (g : Dev Cert.LruGatesRefIdeal.nD → PrngReg), Pre_LruGatesRefIdeal m →
    θ_run (Cert.LruGatesRefIdeal.defs (F := Ideal)) (onTc (τ := Cert.LruGatesRefIdeal.τ) (Cert.LruGatesRefIdeal.main (F := Ideal))) ⟨m, fun _ => 0, g⟩ (fun r => (∀ c : Dev Cert.LruGatesRefIdeal.nD,
      r.2.mem ((c.tc : Thread Cert.LruGatesRefIdeal.nD Cert.LruGatesRefIdeal.τ).loc Cert.LruGatesRefIdeal.main_arg0) = m ((c.tc : Thread Cert.LruGatesRefIdeal.nD Cert.LruGatesRefIdeal.τ).loc Cert.LruGatesRefIdeal.main_arg0)
      ∧ r.2.mem ((c.tc : Thread Cert.LruGatesRefIdeal.nD Cert.LruGatesRefIdeal.τ).loc Cert.LruGatesRefIdeal.main_arg1) = m ((c.tc : Thread Cert.LruGatesRefIdeal.nD Cert.LruGatesRefIdeal.τ).loc Cert.LruGatesRefIdeal.main_arg1))
      ∧ r.2.sem = fun _ => 0)

def quiescent_LruGatesDx [hLruGatesDx : Cert.LruGatesDx.Facts] : Prop :=
  ∀ (m : (ℓ : Loc Cert.LruGatesDx.nD Cert.LruGatesDx.τ Cert.LruGatesDx.sig) → Buf (Elt Bits) ℓ) (g : Dev Cert.LruGatesDx.nD → PrngReg), Pre_LruGatesDx m →
    θ_run (Cert.LruGatesDx.defs (F := Bits)) (onTc (τ := Cert.LruGatesDx.τ) (Cert.LruGatesDx.main (F := Bits))) ⟨m, fun _ => 0, g⟩ (fun r => (∀ c : Dev Cert.LruGatesDx.nD,
      r.2.mem ((c.tc : Thread Cert.LruGatesDx.nD Cert.LruGatesDx.τ).loc Cert.LruGatesDx.main_arg0) = m ((c.tc : Thread Cert.LruGatesDx.nD Cert.LruGatesDx.τ).loc Cert.LruGatesDx.main_arg0)
      ∧ r.2.mem ((c.tc : Thread Cert.LruGatesDx.nD Cert.LruGatesDx.τ).loc Cert.LruGatesDx.main_arg1) = m ((c.tc : Thread Cert.LruGatesDx.nD Cert.LruGatesDx.τ).loc Cert.LruGatesDx.main_arg1)
      ∧ r.2.mem ((c.tc : Thread Cert.LruGatesDx.nD Cert.LruGatesDx.τ).loc Cert.LruGatesDx.main_arg2) = m ((c.tc : Thread Cert.LruGatesDx.nD Cert.LruGatesDx.τ).loc Cert.LruGatesDx.main_arg2))
      ∧ r.2.sem = fun _ => 0)

def quiescent_LruGatesDxIdeal [hLruGatesDxIdeal : Cert.LruGatesDxIdeal.Facts] : Prop :=
  ∀ (m : (ℓ : Loc Cert.LruGatesDxIdeal.nD Cert.LruGatesDxIdeal.τ Cert.LruGatesDxIdeal.sig) → Buf (Elt Ideal) ℓ) (g : Dev Cert.LruGatesDxIdeal.nD → PrngReg), Pre_LruGatesDxIdeal m →
    θ_run (Cert.LruGatesDxIdeal.defs (F := Ideal)) (onTc (τ := Cert.LruGatesDxIdeal.τ) (Cert.LruGatesDxIdeal.main (F := Ideal))) ⟨m, fun _ => 0, g⟩ (fun r => (∀ c : Dev Cert.LruGatesDxIdeal.nD,
      r.2.mem ((c.tc : Thread Cert.LruGatesDxIdeal.nD Cert.LruGatesDxIdeal.τ).loc Cert.LruGatesDxIdeal.main_arg0) = m ((c.tc : Thread Cert.LruGatesDxIdeal.nD Cert.LruGatesDxIdeal.τ).loc Cert.LruGatesDxIdeal.main_arg0)
      ∧ r.2.mem ((c.tc : Thread Cert.LruGatesDxIdeal.nD Cert.LruGatesDxIdeal.τ).loc Cert.LruGatesDxIdeal.main_arg1) = m ((c.tc : Thread Cert.LruGatesDxIdeal.nD Cert.LruGatesDxIdeal.τ).loc Cert.LruGatesDxIdeal.main_arg1)
      ∧ r.2.mem ((c.tc : Thread Cert.LruGatesDxIdeal.nD Cert.LruGatesDxIdeal.τ).loc Cert.LruGatesDxIdeal.main_arg2) = m ((c.tc : Thread Cert.LruGatesDxIdeal.nD Cert.LruGatesDxIdeal.τ).loc Cert.LruGatesDxIdeal.main_arg2))
      ∧ r.2.sem = fun _ => 0)

def quiescent_LruGatesDxRefIdeal [hLruGatesDxRefIdeal : Cert.LruGatesDxRefIdeal.Facts] : Prop :=
  ∀ (m : (ℓ : Loc Cert.LruGatesDxRefIdeal.nD Cert.LruGatesDxRefIdeal.τ Cert.LruGatesDxRefIdeal.sig) → Buf (Elt Ideal) ℓ) (g : Dev Cert.LruGatesDxRefIdeal.nD → PrngReg), Pre_LruGatesDxRefIdeal m →
    θ_run (Cert.LruGatesDxRefIdeal.defs (F := Ideal)) (onTc (τ := Cert.LruGatesDxRefIdeal.τ) (Cert.LruGatesDxRefIdeal.main (F := Ideal))) ⟨m, fun _ => 0, g⟩ (fun r => (∀ c : Dev Cert.LruGatesDxRefIdeal.nD,
      r.2.mem ((c.tc : Thread Cert.LruGatesDxRefIdeal.nD Cert.LruGatesDxRefIdeal.τ).loc Cert.LruGatesDxRefIdeal.main_arg0) = m ((c.tc : Thread Cert.LruGatesDxRefIdeal.nD Cert.LruGatesDxRefIdeal.τ).loc Cert.LruGatesDxRefIdeal.main_arg0)
      ∧ r.2.mem ((c.tc : Thread Cert.LruGatesDxRefIdeal.nD Cert.LruGatesDxRefIdeal.τ).loc Cert.LruGatesDxRefIdeal.main_arg1) = m ((c.tc : Thread Cert.LruGatesDxRefIdeal.nD Cert.LruGatesDxRefIdeal.τ).loc Cert.LruGatesDxRefIdeal.main_arg1)
      ∧ r.2.mem ((c.tc : Thread Cert.LruGatesDxRefIdeal.nD Cert.LruGatesDxRefIdeal.τ).loc Cert.LruGatesDxRefIdeal.main_arg2) = m ((c.tc : Thread Cert.LruGatesDxRefIdeal.nD Cert.LruGatesDxRefIdeal.τ).loc Cert.LruGatesDxRefIdeal.main_arg2))
      ∧ r.2.sem = fun _ => 0)

def quiescent_LruGatesDw [hLruGatesDw : Cert.LruGatesDw.Facts] : Prop :=
  ∀ (m : (ℓ : Loc Cert.LruGatesDw.nD Cert.LruGatesDw.τ Cert.LruGatesDw.sig) → Buf (Elt Bits) ℓ) (g : Dev Cert.LruGatesDw.nD → PrngReg), Pre_LruGatesDw m →
    θ_run (Cert.LruGatesDw.defs (F := Bits)) (onTc (τ := Cert.LruGatesDw.τ) (Cert.LruGatesDw.main (F := Bits))) ⟨m, fun _ => 0, g⟩ (fun r => (∀ c : Dev Cert.LruGatesDw.nD,
      r.2.mem ((c.tc : Thread Cert.LruGatesDw.nD Cert.LruGatesDw.τ).loc Cert.LruGatesDw.main_arg0) = m ((c.tc : Thread Cert.LruGatesDw.nD Cert.LruGatesDw.τ).loc Cert.LruGatesDw.main_arg0)
      ∧ r.2.mem ((c.tc : Thread Cert.LruGatesDw.nD Cert.LruGatesDw.τ).loc Cert.LruGatesDw.main_arg1) = m ((c.tc : Thread Cert.LruGatesDw.nD Cert.LruGatesDw.τ).loc Cert.LruGatesDw.main_arg1))
      ∧ r.2.sem = fun _ => 0)

def quiescent_LruGatesDwIdeal [hLruGatesDwIdeal : Cert.LruGatesDwIdeal.Facts] : Prop :=
  ∀ (m : (ℓ : Loc Cert.LruGatesDwIdeal.nD Cert.LruGatesDwIdeal.τ Cert.LruGatesDwIdeal.sig) → Buf (Elt Ideal) ℓ) (g : Dev Cert.LruGatesDwIdeal.nD → PrngReg), Pre_LruGatesDwIdeal m →
    θ_run (Cert.LruGatesDwIdeal.defs (F := Ideal)) (onTc (τ := Cert.LruGatesDwIdeal.τ) (Cert.LruGatesDwIdeal.main (F := Ideal))) ⟨m, fun _ => 0, g⟩ (fun r => (∀ c : Dev Cert.LruGatesDwIdeal.nD,
      r.2.mem ((c.tc : Thread Cert.LruGatesDwIdeal.nD Cert.LruGatesDwIdeal.τ).loc Cert.LruGatesDwIdeal.main_arg0) = m ((c.tc : Thread Cert.LruGatesDwIdeal.nD Cert.LruGatesDwIdeal.τ).loc Cert.LruGatesDwIdeal.main_arg0)
      ∧ r.2.mem ((c.tc : Thread Cert.LruGatesDwIdeal.nD Cert.LruGatesDwIdeal.τ).loc Cert.LruGatesDwIdeal.main_arg1) = m ((c.tc : Thread Cert.LruGatesDwIdeal.nD Cert.LruGatesDwIdeal.τ).loc Cert.LruGatesDwIdeal.main_arg1))
      ∧ r.2.sem = fun _ => 0)

def quiescent_LruGatesDwRefIdeal [hLruGatesDwRefIdeal : Cert.LruGatesDwRefIdeal.Facts] : Prop :=
  ∀ (m : (ℓ : Loc Cert.LruGatesDwRefIdeal.nD Cert.LruGatesDwRefIdeal.τ Cert.LruGatesDwRefIdeal.sig) → Buf (Elt Ideal) ℓ) (g : Dev Cert.LruGatesDwRefIdeal.nD → PrngReg), Pre_LruGatesDwRefIdeal m →
    θ_run (Cert.LruGatesDwRefIdeal.defs (F := Ideal)) (onTc (τ := Cert.LruGatesDwRefIdeal.τ) (Cert.LruGatesDwRefIdeal.main (F := Ideal))) ⟨m, fun _ => 0, g⟩ (fun r => (∀ c : Dev Cert.LruGatesDwRefIdeal.nD,
      r.2.mem ((c.tc : Thread Cert.LruGatesDwRefIdeal.nD Cert.LruGatesDwRefIdeal.τ).loc Cert.LruGatesDwRefIdeal.main_arg0) = m ((c.tc : Thread Cert.LruGatesDwRefIdeal.nD Cert.LruGatesDwRefIdeal.τ).loc Cert.LruGatesDwRefIdeal.main_arg0)
      ∧ r.2.mem ((c.tc : Thread Cert.LruGatesDwRefIdeal.nD Cert.LruGatesDwRefIdeal.τ).loc Cert.LruGatesDwRefIdeal.main_arg1) = m ((c.tc : Thread Cert.LruGatesDwRefIdeal.nD Cert.LruGatesDwRefIdeal.τ).loc Cert.LruGatesDwRefIdeal.main_arg1))
      ∧ r.2.sem = fun _ => 0)

def quiescent_S5Bu [hS5Bu : Cert.S5Bu.Facts] : Prop :=
  ∀ (m : (ℓ : Loc Cert.S5Bu.nD Cert.S5Bu.τ Cert.S5Bu.sig) → Buf (Elt Bits) ℓ) (g : Dev Cert.S5Bu.nD → PrngReg), Pre_S5Bu m →
    θ_run (Cert.S5Bu.defs (F := Bits)) (onTc (τ := Cert.S5Bu.τ) (Cert.S5Bu.main (F := Bits))) ⟨m, fun _ => 0, g⟩ (fun r => (∀ c : Dev Cert.S5Bu.nD,
      r.2.mem ((c.tc : Thread Cert.S5Bu.nD Cert.S5Bu.τ).loc Cert.S5Bu.main_arg0) = m ((c.tc : Thread Cert.S5Bu.nD Cert.S5Bu.τ).loc Cert.S5Bu.main_arg0)
      ∧ r.2.mem ((c.tc : Thread Cert.S5Bu.nD Cert.S5Bu.τ).loc Cert.S5Bu.main_arg1) = m ((c.tc : Thread Cert.S5Bu.nD Cert.S5Bu.τ).loc Cert.S5Bu.main_arg1))
      ∧ r.2.sem = fun _ => 0)

def quiescent_S5BuIdeal [hS5BuIdeal : Cert.S5BuIdeal.Facts] : Prop :=
  ∀ (m : (ℓ : Loc Cert.S5BuIdeal.nD Cert.S5BuIdeal.τ Cert.S5BuIdeal.sig) → Buf (Elt Ideal) ℓ) (g : Dev Cert.S5BuIdeal.nD → PrngReg), Pre_S5BuIdeal m →
    θ_run (Cert.S5BuIdeal.defs (F := Ideal)) (onTc (τ := Cert.S5BuIdeal.τ) (Cert.S5BuIdeal.main (F := Ideal))) ⟨m, fun _ => 0, g⟩ (fun r => (∀ c : Dev Cert.S5BuIdeal.nD,
      r.2.mem ((c.tc : Thread Cert.S5BuIdeal.nD Cert.S5BuIdeal.τ).loc Cert.S5BuIdeal.main_arg0) = m ((c.tc : Thread Cert.S5BuIdeal.nD Cert.S5BuIdeal.τ).loc Cert.S5BuIdeal.main_arg0)
      ∧ r.2.mem ((c.tc : Thread Cert.S5BuIdeal.nD Cert.S5BuIdeal.τ).loc Cert.S5BuIdeal.main_arg1) = m ((c.tc : Thread Cert.S5BuIdeal.nD Cert.S5BuIdeal.τ).loc Cert.S5BuIdeal.main_arg1))
      ∧ r.2.sem = fun _ => 0)

def quiescent_S5BuRefIdeal [hS5BuRefIdeal : Cert.S5BuRefIdeal.Facts] : Prop :=
  ∀ (m : (ℓ : Loc Cert.S5BuRefIdeal.nD Cert.S5BuRefIdeal.τ Cert.S5BuRefIdeal.sig) → Buf (Elt Ideal) ℓ) (g : Dev Cert.S5BuRefIdeal.nD → PrngReg), Pre_S5BuRefIdeal m →
    θ_run (Cert.S5BuRefIdeal.defs (F := Ideal)) (onTc (τ := Cert.S5BuRefIdeal.τ) (Cert.S5BuRefIdeal.main (F := Ideal))) ⟨m, fun _ => 0, g⟩ (fun r => (∀ c : Dev Cert.S5BuRefIdeal.nD,
      r.2.mem ((c.tc : Thread Cert.S5BuRefIdeal.nD Cert.S5BuRefIdeal.τ).loc Cert.S5BuRefIdeal.main_arg0) = m ((c.tc : Thread Cert.S5BuRefIdeal.nD Cert.S5BuRefIdeal.τ).loc Cert.S5BuRefIdeal.main_arg0)
      ∧ r.2.mem ((c.tc : Thread Cert.S5BuRefIdeal.nD Cert.S5BuRefIdeal.τ).loc Cert.S5BuRefIdeal.main_arg1) = m ((c.tc : Thread Cert.S5BuRefIdeal.nD Cert.S5BuRefIdeal.τ).loc Cert.S5BuRefIdeal.main_arg1))
      ∧ r.2.sem = fun _ => 0)

def quiescent_S5Dx [hS5Dx : Cert.S5Dx.Facts] : Prop :=
  ∀ (m : (ℓ : Loc Cert.S5Dx.nD Cert.S5Dx.τ Cert.S5Dx.sig) → Buf (Elt Bits) ℓ) (g : Dev Cert.S5Dx.nD → PrngReg), Pre_S5Dx m →
    θ_run (Cert.S5Dx.defs (F := Bits)) (onTc (τ := Cert.S5Dx.τ) (Cert.S5Dx.main (F := Bits))) ⟨m, fun _ => 0, g⟩ (fun r => (∀ c : Dev Cert.S5Dx.nD,
      r.2.mem ((c.tc : Thread Cert.S5Dx.nD Cert.S5Dx.τ).loc Cert.S5Dx.main_arg0) = m ((c.tc : Thread Cert.S5Dx.nD Cert.S5Dx.τ).loc Cert.S5Dx.main_arg0)
      ∧ r.2.mem ((c.tc : Thread Cert.S5Dx.nD Cert.S5Dx.τ).loc Cert.S5Dx.main_arg1) = m ((c.tc : Thread Cert.S5Dx.nD Cert.S5Dx.τ).loc Cert.S5Dx.main_arg1))
      ∧ r.2.sem = fun _ => 0)

def quiescent_S5DxIdeal [hS5DxIdeal : Cert.S5DxIdeal.Facts] : Prop :=
  ∀ (m : (ℓ : Loc Cert.S5DxIdeal.nD Cert.S5DxIdeal.τ Cert.S5DxIdeal.sig) → Buf (Elt Ideal) ℓ) (g : Dev Cert.S5DxIdeal.nD → PrngReg), Pre_S5DxIdeal m →
    θ_run (Cert.S5DxIdeal.defs (F := Ideal)) (onTc (τ := Cert.S5DxIdeal.τ) (Cert.S5DxIdeal.main (F := Ideal))) ⟨m, fun _ => 0, g⟩ (fun r => (∀ c : Dev Cert.S5DxIdeal.nD,
      r.2.mem ((c.tc : Thread Cert.S5DxIdeal.nD Cert.S5DxIdeal.τ).loc Cert.S5DxIdeal.main_arg0) = m ((c.tc : Thread Cert.S5DxIdeal.nD Cert.S5DxIdeal.τ).loc Cert.S5DxIdeal.main_arg0)
      ∧ r.2.mem ((c.tc : Thread Cert.S5DxIdeal.nD Cert.S5DxIdeal.τ).loc Cert.S5DxIdeal.main_arg1) = m ((c.tc : Thread Cert.S5DxIdeal.nD Cert.S5DxIdeal.τ).loc Cert.S5DxIdeal.main_arg1))
      ∧ r.2.sem = fun _ => 0)

def quiescent_S5DxRefIdeal [hS5DxRefIdeal : Cert.S5DxRefIdeal.Facts] : Prop :=
  ∀ (m : (ℓ : Loc Cert.S5DxRefIdeal.nD Cert.S5DxRefIdeal.τ Cert.S5DxRefIdeal.sig) → Buf (Elt Ideal) ℓ) (g : Dev Cert.S5DxRefIdeal.nD → PrngReg), Pre_S5DxRefIdeal m →
    θ_run (Cert.S5DxRefIdeal.defs (F := Ideal)) (onTc (τ := Cert.S5DxRefIdeal.τ) (Cert.S5DxRefIdeal.main (F := Ideal))) ⟨m, fun _ => 0, g⟩ (fun r => (∀ c : Dev Cert.S5DxRefIdeal.nD,
      r.2.mem ((c.tc : Thread Cert.S5DxRefIdeal.nD Cert.S5DxRefIdeal.τ).loc Cert.S5DxRefIdeal.main_arg0) = m ((c.tc : Thread Cert.S5DxRefIdeal.nD Cert.S5DxRefIdeal.τ).loc Cert.S5DxRefIdeal.main_arg0)
      ∧ r.2.mem ((c.tc : Thread Cert.S5DxRefIdeal.nD Cert.S5DxRefIdeal.τ).loc Cert.S5DxRefIdeal.main_arg1) = m ((c.tc : Thread Cert.S5DxRefIdeal.nD Cert.S5DxRefIdeal.τ).loc Cert.S5DxRefIdeal.main_arg1))
      ∧ r.2.sem = fun _ => 0)

def quiescent_S5Y [hS5Y : Cert.S5Y.Facts] : Prop :=
  ∀ (m : (ℓ : Loc Cert.S5Y.nD Cert.S5Y.τ Cert.S5Y.sig) → Buf (Elt Bits) ℓ) (g : Dev Cert.S5Y.nD → PrngReg), Pre_S5Y m →
    θ_run (Cert.S5Y.defs (F := Bits)) (onTc (τ := Cert.S5Y.τ) (Cert.S5Y.main (F := Bits))) ⟨m, fun _ => 0, g⟩ (fun r => (∀ c : Dev Cert.S5Y.nD,
      r.2.mem ((c.tc : Thread Cert.S5Y.nD Cert.S5Y.τ).loc Cert.S5Y.main_arg0) = m ((c.tc : Thread Cert.S5Y.nD Cert.S5Y.τ).loc Cert.S5Y.main_arg0)
      ∧ r.2.mem ((c.tc : Thread Cert.S5Y.nD Cert.S5Y.τ).loc Cert.S5Y.main_arg1) = m ((c.tc : Thread Cert.S5Y.nD Cert.S5Y.τ).loc Cert.S5Y.main_arg1))
      ∧ r.2.sem = fun _ => 0)

def quiescent_S5YIdeal [hS5YIdeal : Cert.S5YIdeal.Facts] : Prop :=
  ∀ (m : (ℓ : Loc Cert.S5YIdeal.nD Cert.S5YIdeal.τ Cert.S5YIdeal.sig) → Buf (Elt Ideal) ℓ) (g : Dev Cert.S5YIdeal.nD → PrngReg), Pre_S5YIdeal m →
    θ_run (Cert.S5YIdeal.defs (F := Ideal)) (onTc (τ := Cert.S5YIdeal.τ) (Cert.S5YIdeal.main (F := Ideal))) ⟨m, fun _ => 0, g⟩ (fun r => (∀ c : Dev Cert.S5YIdeal.nD,
      r.2.mem ((c.tc : Thread Cert.S5YIdeal.nD Cert.S5YIdeal.τ).loc Cert.S5YIdeal.main_arg0) = m ((c.tc : Thread Cert.S5YIdeal.nD Cert.S5YIdeal.τ).loc Cert.S5YIdeal.main_arg0)
      ∧ r.2.mem ((c.tc : Thread Cert.S5YIdeal.nD Cert.S5YIdeal.τ).loc Cert.S5YIdeal.main_arg1) = m ((c.tc : Thread Cert.S5YIdeal.nD Cert.S5YIdeal.τ).loc Cert.S5YIdeal.main_arg1))
      ∧ r.2.sem = fun _ => 0)

def quiescent_S5YRefIdeal [hS5YRefIdeal : Cert.S5YRefIdeal.Facts] : Prop :=
  ∀ (m : (ℓ : Loc Cert.S5YRefIdeal.nD Cert.S5YRefIdeal.τ Cert.S5YRefIdeal.sig) → Buf (Elt Ideal) ℓ) (g : Dev Cert.S5YRefIdeal.nD → PrngReg), Pre_S5YRefIdeal m →
    θ_run (Cert.S5YRefIdeal.defs (F := Ideal)) (onTc (τ := Cert.S5YRefIdeal.τ) (Cert.S5YRefIdeal.main (F := Ideal))) ⟨m, fun _ => 0, g⟩ (fun r => (∀ c : Dev Cert.S5YRefIdeal.nD,
      r.2.mem ((c.tc : Thread Cert.S5YRefIdeal.nD Cert.S5YRefIdeal.τ).loc Cert.S5YRefIdeal.main_arg0) = m ((c.tc : Thread Cert.S5YRefIdeal.nD Cert.S5YRefIdeal.τ).loc Cert.S5YRefIdeal.main_arg0)
      ∧ r.2.mem ((c.tc : Thread Cert.S5YRefIdeal.nD Cert.S5YRefIdeal.τ).loc Cert.S5YRefIdeal.main_arg1) = m ((c.tc : Thread Cert.S5YRefIdeal.nD Cert.S5YRefIdeal.τ).loc Cert.S5YRefIdeal.main_arg1))
      ∧ r.2.sem = fun _ => 0)

def quiescent_S5YAdd [hS5YAdd : Cert.S5YAdd.Facts] : Prop :=
  ∀ (m : (ℓ : Loc Cert.S5YAdd.nD Cert.S5YAdd.τ Cert.S5YAdd.sig) → Buf (Elt Bits) ℓ) (g : Dev Cert.S5YAdd.nD → PrngReg), Pre_S5YAdd m →
    θ_run (Cert.S5YAdd.defs (F := Bits)) (onTc (τ := Cert.S5YAdd.τ) (Cert.S5YAdd.main (F := Bits))) ⟨m, fun _ => 0, g⟩ (fun r => (∀ c : Dev Cert.S5YAdd.nD,
      r.2.mem ((c.tc : Thread Cert.S5YAdd.nD Cert.S5YAdd.τ).loc Cert.S5YAdd.main_arg0) = m ((c.tc : Thread Cert.S5YAdd.nD Cert.S5YAdd.τ).loc Cert.S5YAdd.main_arg0)
      ∧ r.2.mem ((c.tc : Thread Cert.S5YAdd.nD Cert.S5YAdd.τ).loc Cert.S5YAdd.main_arg1) = m ((c.tc : Thread Cert.S5YAdd.nD Cert.S5YAdd.τ).loc Cert.S5YAdd.main_arg1)
      ∧ r.2.mem ((c.tc : Thread Cert.S5YAdd.nD Cert.S5YAdd.τ).loc Cert.S5YAdd.main_arg2) = m ((c.tc : Thread Cert.S5YAdd.nD Cert.S5YAdd.τ).loc Cert.S5YAdd.main_arg2))
      ∧ r.2.sem = fun _ => 0)

def quiescent_S5YAddIdeal [hS5YAddIdeal : Cert.S5YAddIdeal.Facts] : Prop :=
  ∀ (m : (ℓ : Loc Cert.S5YAddIdeal.nD Cert.S5YAddIdeal.τ Cert.S5YAddIdeal.sig) → Buf (Elt Ideal) ℓ) (g : Dev Cert.S5YAddIdeal.nD → PrngReg), Pre_S5YAddIdeal m →
    θ_run (Cert.S5YAddIdeal.defs (F := Ideal)) (onTc (τ := Cert.S5YAddIdeal.τ) (Cert.S5YAddIdeal.main (F := Ideal))) ⟨m, fun _ => 0, g⟩ (fun r => (∀ c : Dev Cert.S5YAddIdeal.nD,
      r.2.mem ((c.tc : Thread Cert.S5YAddIdeal.nD Cert.S5YAddIdeal.τ).loc Cert.S5YAddIdeal.main_arg0) = m ((c.tc : Thread Cert.S5YAddIdeal.nD Cert.S5YAddIdeal.τ).loc Cert.S5YAddIdeal.main_arg0)
      ∧ r.2.mem ((c.tc : Thread Cert.S5YAddIdeal.nD Cert.S5YAddIdeal.τ).loc Cert.S5YAddIdeal.main_arg1) = m ((c.tc : Thread Cert.S5YAddIdeal.nD Cert.S5YAddIdeal.τ).loc Cert.S5YAddIdeal.main_arg1)
      ∧ r.2.mem ((c.tc : Thread Cert.S5YAddIdeal.nD Cert.S5YAddIdeal.τ).loc Cert.S5YAddIdeal.main_arg2) = m ((c.tc : Thread Cert.S5YAddIdeal.nD Cert.S5YAddIdeal.τ).loc Cert.S5YAddIdeal.main_arg2))
      ∧ r.2.sem = fun _ => 0)

def quiescent_S5YAddRefIdeal [hS5YAddRefIdeal : Cert.S5YAddRefIdeal.Facts] : Prop :=
  ∀ (m : (ℓ : Loc Cert.S5YAddRefIdeal.nD Cert.S5YAddRefIdeal.τ Cert.S5YAddRefIdeal.sig) → Buf (Elt Ideal) ℓ) (g : Dev Cert.S5YAddRefIdeal.nD → PrngReg), Pre_S5YAddRefIdeal m →
    θ_run (Cert.S5YAddRefIdeal.defs (F := Ideal)) (onTc (τ := Cert.S5YAddRefIdeal.τ) (Cert.S5YAddRefIdeal.main (F := Ideal))) ⟨m, fun _ => 0, g⟩ (fun r => (∀ c : Dev Cert.S5YAddRefIdeal.nD,
      r.2.mem ((c.tc : Thread Cert.S5YAddRefIdeal.nD Cert.S5YAddRefIdeal.τ).loc Cert.S5YAddRefIdeal.main_arg0) = m ((c.tc : Thread Cert.S5YAddRefIdeal.nD Cert.S5YAddRefIdeal.τ).loc Cert.S5YAddRefIdeal.main_arg0)
      ∧ r.2.mem ((c.tc : Thread Cert.S5YAddRefIdeal.nD Cert.S5YAddRefIdeal.τ).loc Cert.S5YAddRefIdeal.main_arg1) = m ((c.tc : Thread Cert.S5YAddRefIdeal.nD Cert.S5YAddRefIdeal.τ).loc Cert.S5YAddRefIdeal.main_arg1)
      ∧ r.2.mem ((c.tc : Thread Cert.S5YAddRefIdeal.nD Cert.S5YAddRefIdeal.τ).loc Cert.S5YAddRefIdeal.main_arg2) = m ((c.tc : Thread Cert.S5YAddRefIdeal.nD Cert.S5YAddRefIdeal.τ).loc Cert.S5YAddRefIdeal.main_arg2))
      ∧ r.2.sem = fun _ => 0)

def quiescent_S5Dc [hS5Dc : Cert.S5Dc.Facts] : Prop :=
  ∀ (m : (ℓ : Loc Cert.S5Dc.nD Cert.S5Dc.τ Cert.S5Dc.sig) → Buf (Elt Bits) ℓ) (g : Dev Cert.S5Dc.nD → PrngReg), Pre_S5Dc m →
    θ_run (Cert.S5Dc.defs (F := Bits)) (onTc (τ := Cert.S5Dc.τ) (Cert.S5Dc.main (F := Bits))) ⟨m, fun _ => 0, g⟩ (fun r => (∀ c : Dev Cert.S5Dc.nD,
      r.2.mem ((c.tc : Thread Cert.S5Dc.nD Cert.S5Dc.τ).loc Cert.S5Dc.main_arg0) = m ((c.tc : Thread Cert.S5Dc.nD Cert.S5Dc.τ).loc Cert.S5Dc.main_arg0)
      ∧ r.2.mem ((c.tc : Thread Cert.S5Dc.nD Cert.S5Dc.τ).loc Cert.S5Dc.main_arg1) = m ((c.tc : Thread Cert.S5Dc.nD Cert.S5Dc.τ).loc Cert.S5Dc.main_arg1))
      ∧ r.2.sem = fun _ => 0)

def quiescent_S5DcIdeal [hS5DcIdeal : Cert.S5DcIdeal.Facts] : Prop :=
  ∀ (m : (ℓ : Loc Cert.S5DcIdeal.nD Cert.S5DcIdeal.τ Cert.S5DcIdeal.sig) → Buf (Elt Ideal) ℓ) (g : Dev Cert.S5DcIdeal.nD → PrngReg), Pre_S5DcIdeal m →
    θ_run (Cert.S5DcIdeal.defs (F := Ideal)) (onTc (τ := Cert.S5DcIdeal.τ) (Cert.S5DcIdeal.main (F := Ideal))) ⟨m, fun _ => 0, g⟩ (fun r => (∀ c : Dev Cert.S5DcIdeal.nD,
      r.2.mem ((c.tc : Thread Cert.S5DcIdeal.nD Cert.S5DcIdeal.τ).loc Cert.S5DcIdeal.main_arg0) = m ((c.tc : Thread Cert.S5DcIdeal.nD Cert.S5DcIdeal.τ).loc Cert.S5DcIdeal.main_arg0)
      ∧ r.2.mem ((c.tc : Thread Cert.S5DcIdeal.nD Cert.S5DcIdeal.τ).loc Cert.S5DcIdeal.main_arg1) = m ((c.tc : Thread Cert.S5DcIdeal.nD Cert.S5DcIdeal.τ).loc Cert.S5DcIdeal.main_arg1))
      ∧ r.2.sem = fun _ => 0)

def quiescent_S5DcRefIdeal [hS5DcRefIdeal : Cert.S5DcRefIdeal.Facts] : Prop :=
  ∀ (m : (ℓ : Loc Cert.S5DcRefIdeal.nD Cert.S5DcRefIdeal.τ Cert.S5DcRefIdeal.sig) → Buf (Elt Ideal) ℓ) (g : Dev Cert.S5DcRefIdeal.nD → PrngReg), Pre_S5DcRefIdeal m →
    θ_run (Cert.S5DcRefIdeal.defs (F := Ideal)) (onTc (τ := Cert.S5DcRefIdeal.τ) (Cert.S5DcRefIdeal.main (F := Ideal))) ⟨m, fun _ => 0, g⟩ (fun r => (∀ c : Dev Cert.S5DcRefIdeal.nD,
      r.2.mem ((c.tc : Thread Cert.S5DcRefIdeal.nD Cert.S5DcRefIdeal.τ).loc Cert.S5DcRefIdeal.main_arg0) = m ((c.tc : Thread Cert.S5DcRefIdeal.nD Cert.S5DcRefIdeal.τ).loc Cert.S5DcRefIdeal.main_arg0)
      ∧ r.2.mem ((c.tc : Thread Cert.S5DcRefIdeal.nD Cert.S5DcRefIdeal.τ).loc Cert.S5DcRefIdeal.main_arg1) = m ((c.tc : Thread Cert.S5DcRefIdeal.nD Cert.S5DcRefIdeal.τ).loc Cert.S5DcRefIdeal.main_arg1))
      ∧ r.2.sem = fun _ => 0)

def quiescent_S5Du [hS5Du : Cert.S5Du.Facts] : Prop :=
  ∀ (m : (ℓ : Loc Cert.S5Du.nD Cert.S5Du.τ Cert.S5Du.sig) → Buf (Elt Bits) ℓ) (g : Dev Cert.S5Du.nD → PrngReg), Pre_S5Du m →
    θ_run (Cert.S5Du.defs (F := Bits)) (onTc (τ := Cert.S5Du.τ) (Cert.S5Du.main (F := Bits))) ⟨m, fun _ => 0, g⟩ (fun r => (∀ c : Dev Cert.S5Du.nD,
      r.2.mem ((c.tc : Thread Cert.S5Du.nD Cert.S5Du.τ).loc Cert.S5Du.main_arg0) = m ((c.tc : Thread Cert.S5Du.nD Cert.S5Du.τ).loc Cert.S5Du.main_arg0)
      ∧ r.2.mem ((c.tc : Thread Cert.S5Du.nD Cert.S5Du.τ).loc Cert.S5Du.main_arg1) = m ((c.tc : Thread Cert.S5Du.nD Cert.S5Du.τ).loc Cert.S5Du.main_arg1)
      ∧ r.2.mem ((c.tc : Thread Cert.S5Du.nD Cert.S5Du.τ).loc Cert.S5Du.main_arg2) = m ((c.tc : Thread Cert.S5Du.nD Cert.S5Du.τ).loc Cert.S5Du.main_arg2))
      ∧ r.2.sem = fun _ => 0)

def quiescent_S5DuIdeal [hS5DuIdeal : Cert.S5DuIdeal.Facts] : Prop :=
  ∀ (m : (ℓ : Loc Cert.S5DuIdeal.nD Cert.S5DuIdeal.τ Cert.S5DuIdeal.sig) → Buf (Elt Ideal) ℓ) (g : Dev Cert.S5DuIdeal.nD → PrngReg), Pre_S5DuIdeal m →
    θ_run (Cert.S5DuIdeal.defs (F := Ideal)) (onTc (τ := Cert.S5DuIdeal.τ) (Cert.S5DuIdeal.main (F := Ideal))) ⟨m, fun _ => 0, g⟩ (fun r => (∀ c : Dev Cert.S5DuIdeal.nD,
      r.2.mem ((c.tc : Thread Cert.S5DuIdeal.nD Cert.S5DuIdeal.τ).loc Cert.S5DuIdeal.main_arg0) = m ((c.tc : Thread Cert.S5DuIdeal.nD Cert.S5DuIdeal.τ).loc Cert.S5DuIdeal.main_arg0)
      ∧ r.2.mem ((c.tc : Thread Cert.S5DuIdeal.nD Cert.S5DuIdeal.τ).loc Cert.S5DuIdeal.main_arg1) = m ((c.tc : Thread Cert.S5DuIdeal.nD Cert.S5DuIdeal.τ).loc Cert.S5DuIdeal.main_arg1)
      ∧ r.2.mem ((c.tc : Thread Cert.S5DuIdeal.nD Cert.S5DuIdeal.τ).loc Cert.S5DuIdeal.main_arg2) = m ((c.tc : Thread Cert.S5DuIdeal.nD Cert.S5DuIdeal.τ).loc Cert.S5DuIdeal.main_arg2))
      ∧ r.2.sem = fun _ => 0)

def quiescent_S5DuRefIdeal [hS5DuRefIdeal : Cert.S5DuRefIdeal.Facts] : Prop :=
  ∀ (m : (ℓ : Loc Cert.S5DuRefIdeal.nD Cert.S5DuRefIdeal.τ Cert.S5DuRefIdeal.sig) → Buf (Elt Ideal) ℓ) (g : Dev Cert.S5DuRefIdeal.nD → PrngReg), Pre_S5DuRefIdeal m →
    θ_run (Cert.S5DuRefIdeal.defs (F := Ideal)) (onTc (τ := Cert.S5DuRefIdeal.τ) (Cert.S5DuRefIdeal.main (F := Ideal))) ⟨m, fun _ => 0, g⟩ (fun r => (∀ c : Dev Cert.S5DuRefIdeal.nD,
      r.2.mem ((c.tc : Thread Cert.S5DuRefIdeal.nD Cert.S5DuRefIdeal.τ).loc Cert.S5DuRefIdeal.main_arg0) = m ((c.tc : Thread Cert.S5DuRefIdeal.nD Cert.S5DuRefIdeal.τ).loc Cert.S5DuRefIdeal.main_arg0)
      ∧ r.2.mem ((c.tc : Thread Cert.S5DuRefIdeal.nD Cert.S5DuRefIdeal.τ).loc Cert.S5DuRefIdeal.main_arg1) = m ((c.tc : Thread Cert.S5DuRefIdeal.nD Cert.S5DuRefIdeal.τ).loc Cert.S5DuRefIdeal.main_arg1)
      ∧ r.2.mem ((c.tc : Thread Cert.S5DuRefIdeal.nD Cert.S5DuRefIdeal.τ).loc Cert.S5DuRefIdeal.main_arg2) = m ((c.tc : Thread Cert.S5DuRefIdeal.nD Cert.S5DuRefIdeal.τ).loc Cert.S5DuRefIdeal.main_arg2))
      ∧ r.2.sem = fun _ => 0)

def quiescent_S5Db [hS5Db : Cert.S5Db.Facts] : Prop :=
  ∀ (m : (ℓ : Loc Cert.S5Db.nD Cert.S5Db.τ Cert.S5Db.sig) → Buf (Elt Bits) ℓ) (g : Dev Cert.S5Db.nD → PrngReg), Pre_S5Db m →
    θ_run (Cert.S5Db.defs (F := Bits)) (onTc (τ := Cert.S5Db.τ) (Cert.S5Db.main (F := Bits))) ⟨m, fun _ => 0, g⟩ (fun r => (∀ c : Dev Cert.S5Db.nD,
      r.2.mem ((c.tc : Thread Cert.S5Db.nD Cert.S5Db.τ).loc Cert.S5Db.main_arg0) = m ((c.tc : Thread Cert.S5Db.nD Cert.S5Db.τ).loc Cert.S5Db.main_arg0)
      ∧ r.2.mem ((c.tc : Thread Cert.S5Db.nD Cert.S5Db.τ).loc Cert.S5Db.main_arg1) = m ((c.tc : Thread Cert.S5Db.nD Cert.S5Db.τ).loc Cert.S5Db.main_arg1))
      ∧ r.2.sem = fun _ => 0)

def quiescent_S5DbIdeal [hS5DbIdeal : Cert.S5DbIdeal.Facts] : Prop :=
  ∀ (m : (ℓ : Loc Cert.S5DbIdeal.nD Cert.S5DbIdeal.τ Cert.S5DbIdeal.sig) → Buf (Elt Ideal) ℓ) (g : Dev Cert.S5DbIdeal.nD → PrngReg), Pre_S5DbIdeal m →
    θ_run (Cert.S5DbIdeal.defs (F := Ideal)) (onTc (τ := Cert.S5DbIdeal.τ) (Cert.S5DbIdeal.main (F := Ideal))) ⟨m, fun _ => 0, g⟩ (fun r => (∀ c : Dev Cert.S5DbIdeal.nD,
      r.2.mem ((c.tc : Thread Cert.S5DbIdeal.nD Cert.S5DbIdeal.τ).loc Cert.S5DbIdeal.main_arg0) = m ((c.tc : Thread Cert.S5DbIdeal.nD Cert.S5DbIdeal.τ).loc Cert.S5DbIdeal.main_arg0)
      ∧ r.2.mem ((c.tc : Thread Cert.S5DbIdeal.nD Cert.S5DbIdeal.τ).loc Cert.S5DbIdeal.main_arg1) = m ((c.tc : Thread Cert.S5DbIdeal.nD Cert.S5DbIdeal.τ).loc Cert.S5DbIdeal.main_arg1))
      ∧ r.2.sem = fun _ => 0)

def quiescent_S5DbRefIdeal [hS5DbRefIdeal : Cert.S5DbRefIdeal.Facts] : Prop :=
  ∀ (m : (ℓ : Loc Cert.S5DbRefIdeal.nD Cert.S5DbRefIdeal.τ Cert.S5DbRefIdeal.sig) → Buf (Elt Ideal) ℓ) (g : Dev Cert.S5DbRefIdeal.nD → PrngReg), Pre_S5DbRefIdeal m →
    θ_run (Cert.S5DbRefIdeal.defs (F := Ideal)) (onTc (τ := Cert.S5DbRefIdeal.τ) (Cert.S5DbRefIdeal.main (F := Ideal))) ⟨m, fun _ => 0, g⟩ (fun r => (∀ c : Dev Cert.S5DbRefIdeal.nD,
      r.2.mem ((c.tc : Thread Cert.S5DbRefIdeal.nD Cert.S5DbRefIdeal.τ).loc Cert.S5DbRefIdeal.main_arg0) = m ((c.tc : Thread Cert.S5DbRefIdeal.nD Cert.S5DbRefIdeal.τ).loc Cert.S5DbRefIdeal.main_arg0)
      ∧ r.2.mem ((c.tc : Thread Cert.S5DbRefIdeal.nD Cert.S5DbRefIdeal.τ).loc Cert.S5DbRefIdeal.main_arg1) = m ((c.tc : Thread Cert.S5DbRefIdeal.nD Cert.S5DbRefIdeal.τ).loc Cert.S5DbRefIdeal.main_arg1))
      ∧ r.2.sem = fun _ => 0)

def quiescent_S5PostBwd [hS5PostBwd : Cert.S5PostBwd.Facts] : Prop :=
  ∀ (m : (ℓ : Loc Cert.S5PostBwd.nD Cert.S5PostBwd.τ Cert.S5PostBwd.sig) → Buf (Elt Bits) ℓ) (g : Dev Cert.S5PostBwd.nD → PrngReg), Pre_S5PostBwd m →
    θ_run (Cert.S5PostBwd.defs (F := Bits)) (onTc (τ := Cert.S5PostBwd.τ) (Cert.S5PostBwd.main (F := Bits))) ⟨m, fun _ => 0, g⟩ (fun r => (∀ c : Dev Cert.S5PostBwd.nD,
      r.2.mem ((c.tc : Thread Cert.S5PostBwd.nD Cert.S5PostBwd.τ).loc Cert.S5PostBwd.main_arg0) = m ((c.tc : Thread Cert.S5PostBwd.nD Cert.S5PostBwd.τ).loc Cert.S5PostBwd.main_arg0)
      ∧ r.2.mem ((c.tc : Thread Cert.S5PostBwd.nD Cert.S5PostBwd.τ).loc Cert.S5PostBwd.main_arg1) = m ((c.tc : Thread Cert.S5PostBwd.nD Cert.S5PostBwd.τ).loc Cert.S5PostBwd.main_arg1)
      ∧ r.2.mem ((c.tc : Thread Cert.S5PostBwd.nD Cert.S5PostBwd.τ).loc Cert.S5PostBwd.main_arg2) = m ((c.tc : Thread Cert.S5PostBwd.nD Cert.S5PostBwd.τ).loc Cert.S5PostBwd.main_arg2)
      ∧ r.2.mem ((c.tc : Thread Cert.S5PostBwd.nD Cert.S5PostBwd.τ).loc Cert.S5PostBwd.main_arg3) = m ((c.tc : Thread Cert.S5PostBwd.nD Cert.S5PostBwd.τ).loc Cert.S5PostBwd.main_arg3)
      ∧ r.2.mem ((c.tc : Thread Cert.S5PostBwd.nD Cert.S5PostBwd.τ).loc Cert.S5PostBwd.main_arg4) = m ((c.tc : Thread Cert.S5PostBwd.nD Cert.S5PostBwd.τ).loc Cert.S5PostBwd.main_arg4)
      ∧ r.2.mem ((c.tc : Thread Cert.S5PostBwd.nD Cert.S5PostBwd.τ).loc Cert.S5PostBwd.main_arg5) = m ((c.tc : Thread Cert.S5PostBwd.nD Cert.S5PostBwd.τ).loc Cert.S5PostBwd.main_arg5))
      ∧ r.2.sem = fun _ => 0)

def quiescent_S5PostBwdIdeal [hS5PostBwdIdeal : Cert.S5PostBwdIdeal.Facts] : Prop :=
  ∀ (m : (ℓ : Loc Cert.S5PostBwdIdeal.nD Cert.S5PostBwdIdeal.τ Cert.S5PostBwdIdeal.sig) → Buf (Elt Ideal) ℓ) (g : Dev Cert.S5PostBwdIdeal.nD → PrngReg), Pre_S5PostBwdIdeal m →
    θ_run (Cert.S5PostBwdIdeal.defs (F := Ideal)) (onTc (τ := Cert.S5PostBwdIdeal.τ) (Cert.S5PostBwdIdeal.main (F := Ideal))) ⟨m, fun _ => 0, g⟩ (fun r => (∀ c : Dev Cert.S5PostBwdIdeal.nD,
      r.2.mem ((c.tc : Thread Cert.S5PostBwdIdeal.nD Cert.S5PostBwdIdeal.τ).loc Cert.S5PostBwdIdeal.main_arg0) = m ((c.tc : Thread Cert.S5PostBwdIdeal.nD Cert.S5PostBwdIdeal.τ).loc Cert.S5PostBwdIdeal.main_arg0)
      ∧ r.2.mem ((c.tc : Thread Cert.S5PostBwdIdeal.nD Cert.S5PostBwdIdeal.τ).loc Cert.S5PostBwdIdeal.main_arg1) = m ((c.tc : Thread Cert.S5PostBwdIdeal.nD Cert.S5PostBwdIdeal.τ).loc Cert.S5PostBwdIdeal.main_arg1)
      ∧ r.2.mem ((c.tc : Thread Cert.S5PostBwdIdeal.nD Cert.S5PostBwdIdeal.τ).loc Cert.S5PostBwdIdeal.main_arg2) = m ((c.tc : Thread Cert.S5PostBwdIdeal.nD Cert.S5PostBwdIdeal.τ).loc Cert.S5PostBwdIdeal.main_arg2)
      ∧ r.2.mem ((c.tc : Thread Cert.S5PostBwdIdeal.nD Cert.S5PostBwdIdeal.τ).loc Cert.S5PostBwdIdeal.main_arg3) = m ((c.tc : Thread Cert.S5PostBwdIdeal.nD Cert.S5PostBwdIdeal.τ).loc Cert.S5PostBwdIdeal.main_arg3)
      ∧ r.2.mem ((c.tc : Thread Cert.S5PostBwdIdeal.nD Cert.S5PostBwdIdeal.τ).loc Cert.S5PostBwdIdeal.main_arg4) = m ((c.tc : Thread Cert.S5PostBwdIdeal.nD Cert.S5PostBwdIdeal.τ).loc Cert.S5PostBwdIdeal.main_arg4)
      ∧ r.2.mem ((c.tc : Thread Cert.S5PostBwdIdeal.nD Cert.S5PostBwdIdeal.τ).loc Cert.S5PostBwdIdeal.main_arg5) = m ((c.tc : Thread Cert.S5PostBwdIdeal.nD Cert.S5PostBwdIdeal.τ).loc Cert.S5PostBwdIdeal.main_arg5))
      ∧ r.2.sem = fun _ => 0)

def quiescent_S5PostBwdRefIdeal [hS5PostBwdRefIdeal : Cert.S5PostBwdRefIdeal.Facts] : Prop :=
  ∀ (m : (ℓ : Loc Cert.S5PostBwdRefIdeal.nD Cert.S5PostBwdRefIdeal.τ Cert.S5PostBwdRefIdeal.sig) → Buf (Elt Ideal) ℓ) (g : Dev Cert.S5PostBwdRefIdeal.nD → PrngReg), Pre_S5PostBwdRefIdeal m →
    θ_run (Cert.S5PostBwdRefIdeal.defs (F := Ideal)) (onTc (τ := Cert.S5PostBwdRefIdeal.τ) (Cert.S5PostBwdRefIdeal.main (F := Ideal))) ⟨m, fun _ => 0, g⟩ (fun r => (∀ c : Dev Cert.S5PostBwdRefIdeal.nD,
      r.2.mem ((c.tc : Thread Cert.S5PostBwdRefIdeal.nD Cert.S5PostBwdRefIdeal.τ).loc Cert.S5PostBwdRefIdeal.main_arg0) = m ((c.tc : Thread Cert.S5PostBwdRefIdeal.nD Cert.S5PostBwdRefIdeal.τ).loc Cert.S5PostBwdRefIdeal.main_arg0)
      ∧ r.2.mem ((c.tc : Thread Cert.S5PostBwdRefIdeal.nD Cert.S5PostBwdRefIdeal.τ).loc Cert.S5PostBwdRefIdeal.main_arg1) = m ((c.tc : Thread Cert.S5PostBwdRefIdeal.nD Cert.S5PostBwdRefIdeal.τ).loc Cert.S5PostBwdRefIdeal.main_arg1)
      ∧ r.2.mem ((c.tc : Thread Cert.S5PostBwdRefIdeal.nD Cert.S5PostBwdRefIdeal.τ).loc Cert.S5PostBwdRefIdeal.main_arg2) = m ((c.tc : Thread Cert.S5PostBwdRefIdeal.nD Cert.S5PostBwdRefIdeal.τ).loc Cert.S5PostBwdRefIdeal.main_arg2)
      ∧ r.2.mem ((c.tc : Thread Cert.S5PostBwdRefIdeal.nD Cert.S5PostBwdRefIdeal.τ).loc Cert.S5PostBwdRefIdeal.main_arg3) = m ((c.tc : Thread Cert.S5PostBwdRefIdeal.nD Cert.S5PostBwdRefIdeal.τ).loc Cert.S5PostBwdRefIdeal.main_arg3)
      ∧ r.2.mem ((c.tc : Thread Cert.S5PostBwdRefIdeal.nD Cert.S5PostBwdRefIdeal.τ).loc Cert.S5PostBwdRefIdeal.main_arg4) = m ((c.tc : Thread Cert.S5PostBwdRefIdeal.nD Cert.S5PostBwdRefIdeal.τ).loc Cert.S5PostBwdRefIdeal.main_arg4)
      ∧ r.2.mem ((c.tc : Thread Cert.S5PostBwdRefIdeal.nD Cert.S5PostBwdRefIdeal.τ).loc Cert.S5PostBwdRefIdeal.main_arg5) = m ((c.tc : Thread Cert.S5PostBwdRefIdeal.nD Cert.S5PostBwdRefIdeal.τ).loc Cert.S5PostBwdRefIdeal.main_arg5))
      ∧ r.2.sem = fun _ => 0)

def quiescent_LruPreBwd [hLruPreBwd : Cert.LruPreBwd.Facts] : Prop :=
  ∀ (m : (ℓ : Loc Cert.LruPreBwd.nD Cert.LruPreBwd.τ Cert.LruPreBwd.sig) → Buf (Elt Bits) ℓ) (g : Dev Cert.LruPreBwd.nD → PrngReg), Pre_LruPreBwd m →
    θ_run (Cert.LruPreBwd.defs (F := Bits)) (onTc (τ := Cert.LruPreBwd.τ) (Cert.LruPreBwd.main (F := Bits))) ⟨m, fun _ => 0, g⟩ (fun r => (∀ c : Dev Cert.LruPreBwd.nD,
      r.2.mem ((c.tc : Thread Cert.LruPreBwd.nD Cert.LruPreBwd.τ).loc Cert.LruPreBwd.main_arg0) = m ((c.tc : Thread Cert.LruPreBwd.nD Cert.LruPreBwd.τ).loc Cert.LruPreBwd.main_arg0)
      ∧ r.2.mem ((c.tc : Thread Cert.LruPreBwd.nD Cert.LruPreBwd.τ).loc Cert.LruPreBwd.main_arg1) = m ((c.tc : Thread Cert.LruPreBwd.nD Cert.LruPreBwd.τ).loc Cert.LruPreBwd.main_arg1)
      ∧ r.2.mem ((c.tc : Thread Cert.LruPreBwd.nD Cert.LruPreBwd.τ).loc Cert.LruPreBwd.main_arg2) = m ((c.tc : Thread Cert.LruPreBwd.nD Cert.LruPreBwd.τ).loc Cert.LruPreBwd.main_arg2)
      ∧ r.2.mem ((c.tc : Thread Cert.LruPreBwd.nD Cert.LruPreBwd.τ).loc Cert.LruPreBwd.main_arg3) = m ((c.tc : Thread Cert.LruPreBwd.nD Cert.LruPreBwd.τ).loc Cert.LruPreBwd.main_arg3)
      ∧ r.2.mem ((c.tc : Thread Cert.LruPreBwd.nD Cert.LruPreBwd.τ).loc Cert.LruPreBwd.main_arg4) = m ((c.tc : Thread Cert.LruPreBwd.nD Cert.LruPreBwd.τ).loc Cert.LruPreBwd.main_arg4)
      ∧ r.2.mem ((c.tc : Thread Cert.LruPreBwd.nD Cert.LruPreBwd.τ).loc Cert.LruPreBwd.main_arg5) = m ((c.tc : Thread Cert.LruPreBwd.nD Cert.LruPreBwd.τ).loc Cert.LruPreBwd.main_arg5))
      ∧ r.2.sem = fun _ => 0)

def quiescent_LruPreBwdIdeal [hLruPreBwdIdeal : Cert.LruPreBwdIdeal.Facts] : Prop :=
  ∀ (m : (ℓ : Loc Cert.LruPreBwdIdeal.nD Cert.LruPreBwdIdeal.τ Cert.LruPreBwdIdeal.sig) → Buf (Elt Ideal) ℓ) (g : Dev Cert.LruPreBwdIdeal.nD → PrngReg), Pre_LruPreBwdIdeal m →
    θ_run (Cert.LruPreBwdIdeal.defs (F := Ideal)) (onTc (τ := Cert.LruPreBwdIdeal.τ) (Cert.LruPreBwdIdeal.main (F := Ideal))) ⟨m, fun _ => 0, g⟩ (fun r => (∀ c : Dev Cert.LruPreBwdIdeal.nD,
      r.2.mem ((c.tc : Thread Cert.LruPreBwdIdeal.nD Cert.LruPreBwdIdeal.τ).loc Cert.LruPreBwdIdeal.main_arg0) = m ((c.tc : Thread Cert.LruPreBwdIdeal.nD Cert.LruPreBwdIdeal.τ).loc Cert.LruPreBwdIdeal.main_arg0)
      ∧ r.2.mem ((c.tc : Thread Cert.LruPreBwdIdeal.nD Cert.LruPreBwdIdeal.τ).loc Cert.LruPreBwdIdeal.main_arg1) = m ((c.tc : Thread Cert.LruPreBwdIdeal.nD Cert.LruPreBwdIdeal.τ).loc Cert.LruPreBwdIdeal.main_arg1)
      ∧ r.2.mem ((c.tc : Thread Cert.LruPreBwdIdeal.nD Cert.LruPreBwdIdeal.τ).loc Cert.LruPreBwdIdeal.main_arg2) = m ((c.tc : Thread Cert.LruPreBwdIdeal.nD Cert.LruPreBwdIdeal.τ).loc Cert.LruPreBwdIdeal.main_arg2)
      ∧ r.2.mem ((c.tc : Thread Cert.LruPreBwdIdeal.nD Cert.LruPreBwdIdeal.τ).loc Cert.LruPreBwdIdeal.main_arg3) = m ((c.tc : Thread Cert.LruPreBwdIdeal.nD Cert.LruPreBwdIdeal.τ).loc Cert.LruPreBwdIdeal.main_arg3)
      ∧ r.2.mem ((c.tc : Thread Cert.LruPreBwdIdeal.nD Cert.LruPreBwdIdeal.τ).loc Cert.LruPreBwdIdeal.main_arg4) = m ((c.tc : Thread Cert.LruPreBwdIdeal.nD Cert.LruPreBwdIdeal.τ).loc Cert.LruPreBwdIdeal.main_arg4)
      ∧ r.2.mem ((c.tc : Thread Cert.LruPreBwdIdeal.nD Cert.LruPreBwdIdeal.τ).loc Cert.LruPreBwdIdeal.main_arg5) = m ((c.tc : Thread Cert.LruPreBwdIdeal.nD Cert.LruPreBwdIdeal.τ).loc Cert.LruPreBwdIdeal.main_arg5))
      ∧ r.2.sem = fun _ => 0)

def quiescent_LruPreBwdIdeal_pre_lru_finite [hLruPreBwdIdeal : Cert.LruPreBwdIdeal.Facts] [hPre_lru_finite : Cert.Pre_lru_finite.Facts] : Prop :=
  ∀ (m : (ℓ : Loc Cert.LruPreBwdIdeal.nD Cert.LruPreBwdIdeal.τ Cert.LruPreBwdIdeal.sig) → Buf (Elt Ideal) ℓ) (g : Dev Cert.LruPreBwdIdeal.nD → PrngReg), Pre_LruPreBwdIdeal_lru_finite m →
    θ_run (Cert.LruPreBwdIdeal.defs (F := Ideal)) (onTc (τ := Cert.LruPreBwdIdeal.τ) (Cert.LruPreBwdIdeal.main (F := Ideal))) ⟨m, fun _ => 0, g⟩ (fun r => (∀ c : Dev Cert.LruPreBwdIdeal.nD,
      r.2.mem ((c.tc : Thread Cert.LruPreBwdIdeal.nD Cert.LruPreBwdIdeal.τ).loc Cert.LruPreBwdIdeal.main_arg0) = m ((c.tc : Thread Cert.LruPreBwdIdeal.nD Cert.LruPreBwdIdeal.τ).loc Cert.LruPreBwdIdeal.main_arg0)
      ∧ r.2.mem ((c.tc : Thread Cert.LruPreBwdIdeal.nD Cert.LruPreBwdIdeal.τ).loc Cert.LruPreBwdIdeal.main_arg1) = m ((c.tc : Thread Cert.LruPreBwdIdeal.nD Cert.LruPreBwdIdeal.τ).loc Cert.LruPreBwdIdeal.main_arg1)
      ∧ r.2.mem ((c.tc : Thread Cert.LruPreBwdIdeal.nD Cert.LruPreBwdIdeal.τ).loc Cert.LruPreBwdIdeal.main_arg2) = m ((c.tc : Thread Cert.LruPreBwdIdeal.nD Cert.LruPreBwdIdeal.τ).loc Cert.LruPreBwdIdeal.main_arg2)
      ∧ r.2.mem ((c.tc : Thread Cert.LruPreBwdIdeal.nD Cert.LruPreBwdIdeal.τ).loc Cert.LruPreBwdIdeal.main_arg3) = m ((c.tc : Thread Cert.LruPreBwdIdeal.nD Cert.LruPreBwdIdeal.τ).loc Cert.LruPreBwdIdeal.main_arg3)
      ∧ r.2.mem ((c.tc : Thread Cert.LruPreBwdIdeal.nD Cert.LruPreBwdIdeal.τ).loc Cert.LruPreBwdIdeal.main_arg4) = m ((c.tc : Thread Cert.LruPreBwdIdeal.nD Cert.LruPreBwdIdeal.τ).loc Cert.LruPreBwdIdeal.main_arg4)
      ∧ r.2.mem ((c.tc : Thread Cert.LruPreBwdIdeal.nD Cert.LruPreBwdIdeal.τ).loc Cert.LruPreBwdIdeal.main_arg5) = m ((c.tc : Thread Cert.LruPreBwdIdeal.nD Cert.LruPreBwdIdeal.τ).loc Cert.LruPreBwdIdeal.main_arg5))
      ∧ r.2.sem = fun _ => 0)

def quiescent_LruPreBwdRefIdeal [hLruPreBwdRefIdeal : Cert.LruPreBwdRefIdeal.Facts] : Prop :=
  ∀ (m : (ℓ : Loc Cert.LruPreBwdRefIdeal.nD Cert.LruPreBwdRefIdeal.τ Cert.LruPreBwdRefIdeal.sig) → Buf (Elt Ideal) ℓ) (g : Dev Cert.LruPreBwdRefIdeal.nD → PrngReg), Pre_LruPreBwdRefIdeal m →
    θ_run (Cert.LruPreBwdRefIdeal.defs (F := Ideal)) (onTc (τ := Cert.LruPreBwdRefIdeal.τ) (Cert.LruPreBwdRefIdeal.main (F := Ideal))) ⟨m, fun _ => 0, g⟩ (fun r => (∀ c : Dev Cert.LruPreBwdRefIdeal.nD,
      r.2.mem ((c.tc : Thread Cert.LruPreBwdRefIdeal.nD Cert.LruPreBwdRefIdeal.τ).loc Cert.LruPreBwdRefIdeal.main_arg0) = m ((c.tc : Thread Cert.LruPreBwdRefIdeal.nD Cert.LruPreBwdRefIdeal.τ).loc Cert.LruPreBwdRefIdeal.main_arg0)
      ∧ r.2.mem ((c.tc : Thread Cert.LruPreBwdRefIdeal.nD Cert.LruPreBwdRefIdeal.τ).loc Cert.LruPreBwdRefIdeal.main_arg1) = m ((c.tc : Thread Cert.LruPreBwdRefIdeal.nD Cert.LruPreBwdRefIdeal.τ).loc Cert.LruPreBwdRefIdeal.main_arg1)
      ∧ r.2.mem ((c.tc : Thread Cert.LruPreBwdRefIdeal.nD Cert.LruPreBwdRefIdeal.τ).loc Cert.LruPreBwdRefIdeal.main_arg2) = m ((c.tc : Thread Cert.LruPreBwdRefIdeal.nD Cert.LruPreBwdRefIdeal.τ).loc Cert.LruPreBwdRefIdeal.main_arg2)
      ∧ r.2.mem ((c.tc : Thread Cert.LruPreBwdRefIdeal.nD Cert.LruPreBwdRefIdeal.τ).loc Cert.LruPreBwdRefIdeal.main_arg3) = m ((c.tc : Thread Cert.LruPreBwdRefIdeal.nD Cert.LruPreBwdRefIdeal.τ).loc Cert.LruPreBwdRefIdeal.main_arg3)
      ∧ r.2.mem ((c.tc : Thread Cert.LruPreBwdRefIdeal.nD Cert.LruPreBwdRefIdeal.τ).loc Cert.LruPreBwdRefIdeal.main_arg4) = m ((c.tc : Thread Cert.LruPreBwdRefIdeal.nD Cert.LruPreBwdRefIdeal.τ).loc Cert.LruPreBwdRefIdeal.main_arg4)
      ∧ r.2.mem ((c.tc : Thread Cert.LruPreBwdRefIdeal.nD Cert.LruPreBwdRefIdeal.τ).loc Cert.LruPreBwdRefIdeal.main_arg5) = m ((c.tc : Thread Cert.LruPreBwdRefIdeal.nD Cert.LruPreBwdRefIdeal.τ).loc Cert.LruPreBwdRefIdeal.main_arg5))
      ∧ r.2.sem = fun _ => 0)

def quiescent_LruPreBwdRefIdeal_pre_lru_finite [hLruPreBwdRefIdeal : Cert.LruPreBwdRefIdeal.Facts] [hPre_lru_finite : Cert.Pre_lru_finite.Facts] : Prop :=
  ∀ (m : (ℓ : Loc Cert.LruPreBwdRefIdeal.nD Cert.LruPreBwdRefIdeal.τ Cert.LruPreBwdRefIdeal.sig) → Buf (Elt Ideal) ℓ) (g : Dev Cert.LruPreBwdRefIdeal.nD → PrngReg), Pre_LruPreBwdRefIdeal_lru_finite m →
    θ_run (Cert.LruPreBwdRefIdeal.defs (F := Ideal)) (onTc (τ := Cert.LruPreBwdRefIdeal.τ) (Cert.LruPreBwdRefIdeal.main (F := Ideal))) ⟨m, fun _ => 0, g⟩ (fun r => (∀ c : Dev Cert.LruPreBwdRefIdeal.nD,
      r.2.mem ((c.tc : Thread Cert.LruPreBwdRefIdeal.nD Cert.LruPreBwdRefIdeal.τ).loc Cert.LruPreBwdRefIdeal.main_arg0) = m ((c.tc : Thread Cert.LruPreBwdRefIdeal.nD Cert.LruPreBwdRefIdeal.τ).loc Cert.LruPreBwdRefIdeal.main_arg0)
      ∧ r.2.mem ((c.tc : Thread Cert.LruPreBwdRefIdeal.nD Cert.LruPreBwdRefIdeal.τ).loc Cert.LruPreBwdRefIdeal.main_arg1) = m ((c.tc : Thread Cert.LruPreBwdRefIdeal.nD Cert.LruPreBwdRefIdeal.τ).loc Cert.LruPreBwdRefIdeal.main_arg1)
      ∧ r.2.mem ((c.tc : Thread Cert.LruPreBwdRefIdeal.nD Cert.LruPreBwdRefIdeal.τ).loc Cert.LruPreBwdRefIdeal.main_arg2) = m ((c.tc : Thread Cert.LruPreBwdRefIdeal.nD Cert.LruPreBwdRefIdeal.τ).loc Cert.LruPreBwdRefIdeal.main_arg2)
      ∧ r.2.mem ((c.tc : Thread Cert.LruPreBwdRefIdeal.nD Cert.LruPreBwdRefIdeal.τ).loc Cert.LruPreBwdRefIdeal.main_arg3) = m ((c.tc : Thread Cert.LruPreBwdRefIdeal.nD Cert.LruPreBwdRefIdeal.τ).loc Cert.LruPreBwdRefIdeal.main_arg3)
      ∧ r.2.mem ((c.tc : Thread Cert.LruPreBwdRefIdeal.nD Cert.LruPreBwdRefIdeal.τ).loc Cert.LruPreBwdRefIdeal.main_arg4) = m ((c.tc : Thread Cert.LruPreBwdRefIdeal.nD Cert.LruPreBwdRefIdeal.τ).loc Cert.LruPreBwdRefIdeal.main_arg4)
      ∧ r.2.mem ((c.tc : Thread Cert.LruPreBwdRefIdeal.nD Cert.LruPreBwdRefIdeal.τ).loc Cert.LruPreBwdRefIdeal.main_arg5) = m ((c.tc : Thread Cert.LruPreBwdRefIdeal.nD Cert.LruPreBwdRefIdeal.τ).loc Cert.LruPreBwdRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_5) = v0 c
          ∧ r.2.mem ((c.tc : Thread Cert.ReferenceIdeal.nD Cert.ReferenceIdeal.τ).loc Cert.ReferenceIdeal.main_v8_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_S5Scan_S5ScanIdeal : Prop :=
  True

def algebraic_S5ScanIdeal_S5ScanRefIdeal_pre_s5_finite [hS5ScanIdeal : Cert.S5ScanIdeal.Facts] [hS5ScanRefIdeal : Cert.S5ScanRefIdeal.Facts] [hPre_s5_finite : Cert.Pre_s5_finite.Facts] : Prop :=
  ∀ (m : (ℓ : Loc Cert.S5ScanIdeal.nD Cert.S5ScanIdeal.τ Cert.S5ScanIdeal.sig) → Buf (Elt Ideal) ℓ) (g : Dev Cert.S5ScanIdeal.nD → PrngReg)
    (m' : (ℓ : Loc Cert.S5ScanRefIdeal.nD Cert.S5ScanRefIdeal.τ Cert.S5ScanRefIdeal.sig) → Buf (Elt Ideal) ℓ) (g' : Dev Cert.S5ScanRefIdeal.nD → PrngReg), Pre_S5ScanIdeal_s5_finite m →
    (∀ c : Dev Cert.S5ScanIdeal.nD,
      m' ((c.tc : Thread Cert.S5ScanRefIdeal.nD Cert.S5ScanRefIdeal.τ).loc Cert.S5ScanRefIdeal.main_arg0) = m ((c.tc : Thread Cert.S5ScanIdeal.nD Cert.S5ScanIdeal.τ).loc Cert.S5ScanIdeal.main_arg0)
      ∧ m' ((c.tc : Thread Cert.S5ScanRefIdeal.nD Cert.S5ScanRefIdeal.τ).loc Cert.S5ScanRefIdeal.main_arg1) = m ((c.tc : Thread Cert.S5ScanIdeal.nD Cert.S5ScanIdeal.τ).loc Cert.S5ScanIdeal.main_arg1)
      ∧ m' ((c.tc : Thread Cert.S5ScanRefIdeal.nD Cert.S5ScanRefIdeal.τ).loc Cert.S5ScanRefIdeal.main_arg2) = m ((c.tc : Thread Cert.S5ScanIdeal.nD Cert.S5ScanIdeal.τ).loc Cert.S5ScanIdeal.main_arg2)
      ∧ m' ((c.tc : Thread Cert.S5ScanRefIdeal.nD Cert.S5ScanRefIdeal.τ).loc Cert.S5ScanRefIdeal.main_arg3) = m ((c.tc : Thread Cert.S5ScanIdeal.nD Cert.S5ScanIdeal.τ).loc Cert.S5ScanIdeal.main_arg3)
      ∧ m' ((c.tc : Thread Cert.S5ScanRefIdeal.nD Cert.S5ScanRefIdeal.τ).loc Cert.S5ScanRefIdeal.main_arg4) = m ((c.tc : Thread Cert.S5ScanIdeal.nD Cert.S5ScanIdeal.τ).loc Cert.S5ScanIdeal.main_arg4)
      ∧ m' ((c.tc : Thread Cert.S5ScanRefIdeal.nD Cert.S5ScanRefIdeal.τ).loc Cert.S5ScanRefIdeal.main_arg5) = m ((c.tc : Thread Cert.S5ScanIdeal.nD Cert.S5ScanIdeal.τ).loc Cert.S5ScanIdeal.main_arg5)) →
    ∃ (v0 : (c : Dev Cert.S5ScanIdeal.nD) → Buf (Elt Ideal) ((c.tc : Thread Cert.S5ScanIdeal.nD Cert.S5ScanIdeal.τ).loc Cert.S5ScanIdeal.main_v3_0)) (v1 : (c : Dev Cert.S5ScanIdeal.nD) → Buf (Elt Ideal) ((c.tc : Thread Cert.S5ScanIdeal.nD Cert.S5ScanIdeal.τ).loc Cert.S5ScanIdeal.main_v3_1)) (v2 : (c : Dev Cert.S5ScanIdeal.nD) → Buf (Elt Ideal) ((c.tc : Thread Cert.S5ScanIdeal.nD Cert.S5ScanIdeal.τ).loc Cert.S5ScanIdeal.main_v3_2)) (v3 : (c : Dev Cert.S5ScanIdeal.nD) → Buf (Elt Ideal) ((c.tc : Thread Cert.S5ScanIdeal.nD Cert.S5ScanIdeal.τ).loc Cert.S5ScanIdeal.main_v3_3)),
      θ_run (Cert.S5ScanIdeal.defs (F := Ideal)) (onTc (τ := Cert.S5ScanIdeal.τ) (Cert.S5ScanIdeal.main (F := Ideal))) ⟨m, fun _ => 0, g⟩ (fun r => ∀ c : Dev Cert.S5ScanIdeal.nD,
          r.2.mem ((c.tc : Thread Cert.S5ScanIdeal.nD Cert.S5ScanIdeal.τ).loc Cert.S5ScanIdeal.main_v3_0) = v0 c
          ∧ r.2.mem ((c.tc : Thread Cert.S5ScanIdeal.nD Cert.S5ScanIdeal.τ).loc Cert.S5ScanIdeal.main_v3_1) = v1 c
          ∧ r.2.mem ((c.tc : Thread Cert.S5ScanIdeal.nD Cert.S5ScanIdeal.τ).loc Cert.S5ScanIdeal.main_v3_2) = v2 c
          ∧ r.2.mem ((c.tc : Thread Cert.S5ScanIdeal.nD Cert.S5ScanIdeal.τ).loc Cert.S5ScanIdeal.main_v3_3) = v3 c
          ∧ r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
          ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
          ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2)
          ∧ r.2.mem ((c.tc : Thread Cert.S5ScanIdeal.nD Cert.S5ScanIdeal.τ).loc Cert.S5ScanIdeal.main_arg3) = m ((c.tc : Thread Cert.S5ScanIdeal.nD Cert.S5ScanIdeal.τ).loc Cert.S5ScanIdeal.main_arg3)
          ∧ r.2.mem ((c.tc : Thread Cert.S5ScanIdeal.nD Cert.S5ScanIdeal.τ).loc Cert.S5ScanIdeal.main_arg4) = m ((c.tc : Thread Cert.S5ScanIdeal.nD Cert.S5ScanIdeal.τ).loc Cert.S5ScanIdeal.main_arg4)
          ∧ r.2.mem ((c.tc : Thread Cert.S5ScanIdeal.nD Cert.S5ScanIdeal.τ).loc Cert.S5ScanIdeal.main_arg5) = m ((c.tc : Thread Cert.S5ScanIdeal.nD Cert.S5ScanIdeal.τ).loc Cert.S5ScanIdeal.main_arg5))
      ∧ θ_run (Cert.S5ScanRefIdeal.defs (F := Ideal)) (onTc (τ := Cert.S5ScanRefIdeal.τ) (Cert.S5ScanRefIdeal.main (F := Ideal))) ⟨m', fun _ => 0, g'⟩ (fun r => ∀ c : Dev Cert.S5ScanRefIdeal.nD,
          r.2.mem ((c.tc : Thread Cert.S5ScanRefIdeal.nD Cert.S5ScanRefIdeal.τ).loc Cert.S5ScanRefIdeal.main_v16_11) = v0 c
          ∧ r.2.mem ((c.tc : Thread Cert.S5ScanRefIdeal.nD Cert.S5ScanRefIdeal.τ).loc Cert.S5ScanRefIdeal.main_v16_12) = v1 c
          ∧ r.2.mem ((c.tc : Thread Cert.S5ScanRefIdeal.nD Cert.S5ScanRefIdeal.τ).loc Cert.S5ScanRefIdeal.main_v17) = v2 c
          ∧ r.2.mem ((c.tc : Thread Cert.S5ScanRefIdeal.nD Cert.S5ScanRefIdeal.τ).loc Cert.S5ScanRefIdeal.main_v18) = v3 c
          ∧ r.2.mem ((c.tc : Thread Cert.S5ScanRefIdeal.nD Cert.S5ScanRefIdeal.τ).loc Cert.S5ScanRefIdeal.main_arg0) = m' ((c.tc : Thread Cert.S5ScanRefIdeal.nD Cert.S5ScanRefIdeal.τ).loc Cert.S5ScanRefIdeal.main_arg0)
          ∧ r.2.mem ((c.tc : Thread Cert.S5ScanRefIdeal.nD Cert.S5ScanRefIdeal.τ).loc Cert.S5ScanRefIdeal.main_arg1) = m' ((c.tc : Thread Cert.S5ScanRefIdeal.nD Cert.S5ScanRefIdeal.τ).loc Cert.S5ScanRefIdeal.main_arg1)
          ∧ r.2.mem ((c.tc : Thread Cert.S5ScanRefIdeal.nD Cert.S5ScanRefIdeal.τ).loc Cert.S5ScanRefIdeal.main_arg2) = m' ((c.tc : Thread Cert.S5ScanRefIdeal.nD Cert.S5ScanRefIdeal.τ).loc Cert.S5ScanRefIdeal.main_arg2)
          ∧ r.2.mem ((c.tc : Thread Cert.S5ScanRefIdeal.nD Cert.S5ScanRefIdeal.τ).loc Cert.S5ScanRefIdeal.main_arg3) = m' ((c.tc : Thread Cert.S5ScanRefIdeal.nD Cert.S5ScanRefIdeal.τ).loc Cert.S5ScanRefIdeal.main_arg3)
          ∧ r.2.mem ((c.tc : Thread Cert.S5ScanRefIdeal.nD Cert.S5ScanRefIdeal.τ).loc Cert.S5ScanRefIdeal.main_arg4) = m' ((c.tc : Thread Cert.S5ScanRefIdeal.nD Cert.S5ScanRefIdeal.τ).loc Cert.S5ScanRefIdeal.main_arg4)
          ∧ r.2.mem ((c.tc : Thread Cert.S5ScanRefIdeal.nD Cert.S5ScanRefIdeal.τ).loc Cert.S5ScanRefIdeal.main_arg5) = m' ((c.tc : Thread Cert.S5ScanRefIdeal.nD Cert.S5ScanRefIdeal.τ).loc Cert.S5ScanRefIdeal.main_arg5))

def preserves_MlpPre_MlpPreIdeal : Prop :=
  True

def algebraic_MlpPreIdeal_MlpPreRefIdeal [hMlpPreIdeal : Cert.MlpPreIdeal.Facts] [hMlpPreRefIdeal : Cert.MlpPreRefIdeal.Facts] : Prop :=
  ∀ (m : (ℓ : Loc Cert.MlpPreIdeal.nD Cert.MlpPreIdeal.τ Cert.MlpPreIdeal.sig) → Buf (Elt Ideal) ℓ) (g : Dev Cert.MlpPreIdeal.nD → PrngReg)
    (m' : (ℓ : Loc Cert.MlpPreRefIdeal.nD Cert.MlpPreRefIdeal.τ Cert.MlpPreRefIdeal.sig) → Buf (Elt Ideal) ℓ) (g' : Dev Cert.MlpPreRefIdeal.nD → PrngReg), Pre_MlpPreIdeal m →
    (∀ c : Dev Cert.MlpPreIdeal.nD,
      m' ((c.tc : Thread Cert.MlpPreRefIdeal.nD Cert.MlpPreRefIdeal.τ).loc Cert.MlpPreRefIdeal.main_arg0) = m ((c.tc : Thread Cert.MlpPreIdeal.nD Cert.MlpPreIdeal.τ).loc Cert.MlpPreIdeal.main_arg0)
      ∧ m' ((c.tc : Thread Cert.MlpPreRefIdeal.nD Cert.MlpPreRefIdeal.τ).loc Cert.MlpPreRefIdeal.main_arg1) = m ((c.tc : Thread Cert.MlpPreIdeal.nD Cert.MlpPreIdeal.τ).loc Cert.MlpPreIdeal.main_arg1)
      ∧ m' ((c.tc : Thread Cert.MlpPreRefIdeal.nD Cert.MlpPreRefIdeal.τ).loc Cert.MlpPreRefIdeal.main_arg2) = m ((c.tc : Thread Cert.MlpPreIdeal.nD Cert.MlpPreIdeal.τ).loc Cert.MlpPreIdeal.main_arg2)
      ∧ m' ((c.tc : Thread Cert.MlpPreRefIdeal.nD Cert.MlpPreRefIdeal.τ).loc Cert.MlpPreRefIdeal.main_arg3) = m ((c.tc : Thread Cert.MlpPreIdeal.nD Cert.MlpPreIdeal.τ).loc Cert.MlpPreIdeal.main_arg3)) →
    ∃ (v0 : (c : Dev Cert.MlpPreIdeal.nD) → Buf (Elt Ideal) ((c.tc : Thread Cert.MlpPreIdeal.nD Cert.MlpPreIdeal.τ).loc Cert.MlpPreIdeal.main_v2)) (v1 : (c : Dev Cert.MlpPreIdeal.nD) → Buf (Elt Ideal) ((c.tc : Thread Cert.MlpPreIdeal.nD Cert.MlpPreIdeal.τ).loc Cert.MlpPreIdeal.main_v4)),
      θ_run (Cert.MlpPreIdeal.defs (F := Ideal)) (onTc (τ := Cert.MlpPreIdeal.τ) (Cert.MlpPreIdeal.main (F := Ideal))) ⟨m, fun _ => 0, g⟩ (fun r => ∀ c : Dev Cert.MlpPreIdeal.nD,
          r.2.mem ((c.tc : Thread Cert.MlpPreIdeal.nD Cert.MlpPreIdeal.τ).loc Cert.MlpPreIdeal.main_v2) = v0 c
          ∧ r.2.mem ((c.tc : Thread Cert.MlpPreIdeal.nD Cert.MlpPreIdeal.τ).loc Cert.MlpPreIdeal.main_v4) = v1 c
          ∧ r.2.mem ((c.tc : Thread Cert.MlpPreIdeal.nD Cert.MlpPreIdeal.τ).loc Cert.MlpPreIdeal.main_arg0) = m ((c.tc : Thread Cert.MlpPreIdeal.nD Cert.MlpPreIdeal.τ).loc Cert.MlpPreIdeal.main_arg0)
          ∧ r.2.mem ((c.tc : Thread Cert.MlpPreIdeal.nD Cert.MlpPreIdeal.τ).loc Cert.MlpPreIdeal.main_arg1) = m ((c.tc : Thread Cert.MlpPreIdeal.nD Cert.MlpPreIdeal.τ).loc Cert.MlpPreIdeal.main_arg1)
          ∧ r.2.mem ((c.tc : Thread Cert.MlpPreIdeal.nD Cert.MlpPreIdeal.τ).loc Cert.MlpPreIdeal.main_arg2) = m ((c.tc : Thread Cert.MlpPreIdeal.nD Cert.MlpPreIdeal.τ).loc Cert.MlpPreIdeal.main_arg2)
          ∧ r.2.mem ((c.tc : Thread Cert.MlpPreIdeal.nD Cert.MlpPreIdeal.τ).loc Cert.MlpPreIdeal.main_arg3) = m ((c.tc : Thread Cert.MlpPreIdeal.nD Cert.MlpPreIdeal.τ).loc Cert.MlpPreIdeal.main_arg3))
      ∧ θ_run (Cert.MlpPreRefIdeal.defs (F := Ideal)) (onTc (τ := Cert.MlpPreRefIdeal.τ) (Cert.MlpPreRefIdeal.main (F := Ideal))) ⟨m', fun _ => 0, g'⟩ (fun r => ∀ c : Dev Cert.MlpPreRefIdeal.nD,
          r.2.mem ((c.tc : Thread Cert.MlpPreRefIdeal.nD Cert.MlpPreRefIdeal.τ).loc Cert.MlpPreRefIdeal.main_v15) = v0 c
          ∧ r.2.mem ((c.tc : Thread Cert.MlpPreRefIdeal.nD Cert.MlpPreRefIdeal.τ).loc Cert.MlpPreRefIdeal.main_v16) = v1 c
          ∧ r.2.mem ((c.tc : Thread Cert.MlpPreRefIdeal.nD Cert.MlpPreRefIdeal.τ).loc Cert.MlpPreRefIdeal.main_arg0) = m' ((c.tc : Thread Cert.MlpPreRefIdeal.nD Cert.MlpPreRefIdeal.τ).loc Cert.MlpPreRefIdeal.main_arg0)
          ∧ r.2.mem ((c.tc : Thread Cert.MlpPreRefIdeal.nD Cert.MlpPreRefIdeal.τ).loc Cert.MlpPreRefIdeal.main_arg1) = m' ((c.tc : Thread Cert.MlpPreRefIdeal.nD Cert.MlpPreRefIdeal.τ).loc Cert.MlpPreRefIdeal.main_arg1)
          ∧ r.2.mem ((c.tc : Thread Cert.MlpPreRefIdeal.nD Cert.MlpPreRefIdeal.τ).loc Cert.MlpPreRefIdeal.main_arg2) = m' ((c.tc : Thread Cert.MlpPreRefIdeal.nD Cert.MlpPreRefIdeal.τ).loc Cert.MlpPreRefIdeal.main_arg2)
          ∧ r.2.mem ((c.tc : Thread Cert.MlpPreRefIdeal.nD Cert.MlpPreRefIdeal.τ).loc Cert.MlpPreRefIdeal.main_arg3) = m' ((c.tc : Thread Cert.MlpPreRefIdeal.nD Cert.MlpPreRefIdeal.τ).loc Cert.MlpPreRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v5)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v5) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v4) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)
      ∧ m' ((c.tc : Thread Cert.MlpDownDwRefIdeal.nD Cert.MlpDownDwRefIdeal.τ).loc Cert.MlpDownDwRefIdeal.main_arg2) = m ((c.tc : Thread Cert.MlpDownDwIdeal.nD Cert.MlpDownDwIdeal.τ).loc Cert.MlpDownDwIdeal.main_arg2)) →
    ∃ (v0 : (c : Dev Cert.MlpDownDwIdeal.nD) → Buf (Elt Ideal) ((c.tc : Thread Cert.MlpDownDwIdeal.nD Cert.MlpDownDwIdeal.τ).loc Cert.MlpDownDwIdeal.main_v4)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v4) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
          ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v6) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1)
          ∧ r.2.mem ((c.tc : Thread Cert.MlpDownDwRefIdeal.nD Cert.MlpDownDwRefIdeal.τ).loc Cert.MlpDownDwRefIdeal.main_arg2) = m' ((c.tc : Thread Cert.MlpDownDwRefIdeal.nD Cert.MlpDownDwRefIdeal.τ).loc Cert.MlpDownDwRefIdeal.main_arg2))

def preserves_MlpUpDx_MlpUpDxIdeal : Prop :=
  True

def algebraic_MlpUpDxIdeal_MlpUpDxRefIdeal [hMlpUpDxIdeal : Cert.MlpUpDxIdeal.Facts] [hMlpUpDxRefIdeal : Cert.MlpUpDxRefIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.MlpUpDxRefIdeal.nD Cert.MlpUpDxRefIdeal.τ Cert.MlpUpDxRefIdeal.sig) → Buf (Elt Ideal) ℓ) (g' : Dev Cert.MlpUpDxRefIdeal.nD → PrngReg), Pre_MlpUpDxIdeal m →
    (∀ c : Dev Cert.MlpUpDxIdeal.nD,
      m' ((c.tc : Thread Cert.MlpUpDxRefIdeal.nD Cert.MlpUpDxRefIdeal.τ).loc Cert.MlpUpDxRefIdeal.main_arg0) = m ((c.tc : Thread Cert.MlpUpDxIdeal.nD Cert.MlpUpDxIdeal.τ).loc Cert.MlpUpDxIdeal.main_arg0)
      ∧ m' ((c.tc : Thread Cert.MlpUpDxRefIdeal.nD Cert.MlpUpDxRefIdeal.τ).loc Cert.MlpUpDxRefIdeal.main_arg1) = m ((c.tc : Thread Cert.MlpUpDxIdeal.nD Cert.MlpUpDxIdeal.τ).loc Cert.MlpUpDxIdeal.main_arg1)) →
    ∃ (v0 : (c : Dev Cert.MlpUpDxIdeal.nD) → Buf (Elt Ideal) ((c.tc : Thread Cert.MlpUpDxIdeal.nD Cert.MlpUpDxIdeal.τ).loc Cert.MlpUpDxIdeal.main_v2)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v2) = v0 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ θ_run (Cert.MlpUpDxRefIdeal.defs (F := Ideal)) (onTc (τ := Cert.MlpUpDxRefIdeal.τ) (Cert.MlpUpDxRefIdeal.main (F := Ideal))) ⟨m', fun _ => 0, g'⟩ (fun r => ∀ c : Dev Cert.MlpUpDxRefIdeal.nD,
          r.2.mem ((c.tc : Thread Cert.MlpUpDxRefIdeal.nD Cert.MlpUpDxRefIdeal.τ).loc Cert.MlpUpDxRefIdeal.main_v2) = v0 c
          ∧ r.2.mem ((c.tc : Thread Cert.MlpUpDxRefIdeal.nD Cert.MlpUpDxRefIdeal.τ).loc Cert.MlpUpDxRefIdeal.main_arg0) = m' ((c.tc : Thread Cert.MlpUpDxRefIdeal.nD Cert.MlpUpDxRefIdeal.τ).loc Cert.MlpUpDxRefIdeal.main_arg0)
          ∧ r.2.mem ((c.tc : Thread Cert.MlpUpDxRefIdeal.nD Cert.MlpUpDxRefIdeal.τ).loc Cert.MlpUpDxRefIdeal.main_arg1) = m' ((c.tc : Thread Cert.MlpUpDxRefIdeal.nD Cert.MlpUpDxRefIdeal.τ).loc Cert.MlpUpDxRefIdeal.main_arg1))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v2)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v2) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v3) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v1)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v1) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v2) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v1)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v1) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v3) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_PlGate_PlGateIdeal : Prop :=
  True

def algebraic_PlGateIdeal_PlGateRefIdeal [hPlGateIdeal : Cert.PlGateIdeal.Facts] [hPlGateRefIdeal : Cert.PlGateRefIdeal.Facts] : Prop :=
  ∀ (m : (ℓ : Loc Cert.PlGateIdeal.nD Cert.PlGateIdeal.τ Cert.PlGateIdeal.sig) → Buf (Elt Ideal) ℓ) (g : Dev Cert.PlGateIdeal.nD → PrngReg)
    (m' : (ℓ : Loc Cert.PlGateRefIdeal.nD Cert.PlGateRefIdeal.τ Cert.PlGateRefIdeal.sig) → Buf (Elt Ideal) ℓ) (g' : Dev Cert.PlGateRefIdeal.nD → PrngReg), Pre_PlGateIdeal m →
    (∀ c : Dev Cert.PlGateIdeal.nD,
      m' ((c.tc : Thread Cert.PlGateRefIdeal.nD Cert.PlGateRefIdeal.τ).loc Cert.PlGateRefIdeal.main_arg0) = m ((c.tc : Thread Cert.PlGateIdeal.nD Cert.PlGateIdeal.τ).loc Cert.PlGateIdeal.main_arg0)
      ∧ m' ((c.tc : Thread Cert.PlGateRefIdeal.nD Cert.PlGateRefIdeal.τ).loc Cert.PlGateRefIdeal.main_arg1) = m ((c.tc : Thread Cert.PlGateIdeal.nD Cert.PlGateIdeal.τ).loc Cert.PlGateIdeal.main_arg1)) →
    ∃ (v0 : (c : Dev Cert.PlGateIdeal.nD) → Buf (Elt Ideal) ((c.tc : Thread Cert.PlGateIdeal.nD Cert.PlGateIdeal.τ).loc Cert.PlGateIdeal.main_v2)),
      θ_run (Cert.PlGateIdeal.defs (F := Ideal)) (onTc (τ := Cert.PlGateIdeal.τ) (Cert.PlGateIdeal.main (F := Ideal))) ⟨m, fun _ => 0, g⟩ (fun r => ∀ c : Dev Cert.PlGateIdeal.nD,
          r.2.mem ((c.tc : Thread Cert.PlGateIdeal.nD Cert.PlGateIdeal.τ).loc Cert.PlGateIdeal.main_v2) = v0 c
          ∧ r.2.mem ((c.tc : Thread Cert.PlGateIdeal.nD Cert.PlGateIdeal.τ).loc Cert.PlGateIdeal.main_arg0) = m ((c.tc : Thread Cert.PlGateIdeal.nD Cert.PlGateIdeal.τ).loc Cert.PlGateIdeal.main_arg0)
          ∧ r.2.mem ((c.tc : Thread Cert.PlGateIdeal.nD Cert.PlGateIdeal.τ).loc Cert.PlGateIdeal.main_arg1) = m ((c.tc : Thread Cert.PlGateIdeal.nD Cert.PlGateIdeal.τ).loc Cert.PlGateIdeal.main_arg1))
      ∧ θ_run (Cert.PlGateRefIdeal.defs (F := Ideal)) (onTc (τ := Cert.PlGateRefIdeal.τ) (Cert.PlGateRefIdeal.main (F := Ideal))) ⟨m', fun _ => 0, g'⟩ (fun r => ∀ c : Dev Cert.PlGateRefIdeal.nD,
          r.2.mem ((c.tc : Thread Cert.PlGateRefIdeal.nD Cert.PlGateRefIdeal.τ).loc Cert.PlGateRefIdeal.main_v0) = v0 c
          ∧ r.2.mem ((c.tc : Thread Cert.PlGateRefIdeal.nD Cert.PlGateRefIdeal.τ).loc Cert.PlGateRefIdeal.main_arg0) = m' ((c.tc : Thread Cert.PlGateRefIdeal.nD Cert.PlGateRefIdeal.τ).loc Cert.PlGateRefIdeal.main_arg0)
          ∧ r.2.mem ((c.tc : Thread Cert.PlGateRefIdeal.nD Cert.PlGateRefIdeal.τ).loc Cert.PlGateRefIdeal.main_arg1) = m' ((c.tc : Thread Cert.PlGateRefIdeal.nD Cert.PlGateRefIdeal.τ).loc Cert.PlGateRefIdeal.main_arg1))

def preserves_PlProj_PlProjIdeal : Prop :=
  True

def algebraic_PlProjIdeal_PlProjRefIdeal [hPlProjIdeal : Cert.PlProjIdeal.Facts] [hPlProjRefIdeal : Cert.PlProjRefIdeal.Facts] : Prop :=
  ∀ (m : (ℓ : Loc Cert.PlProjIdeal.nD Cert.PlProjIdeal.τ Cert.PlProjIdeal.sig) → Buf (Elt Ideal) ℓ) (g : Dev Cert.PlProjIdeal.nD → PrngReg)
    (m' : (ℓ : Loc Cert.PlProjRefIdeal.nD Cert.PlProjRefIdeal.τ Cert.PlProjRefIdeal.sig) → Buf (Elt Ideal) ℓ) (g' : Dev Cert.PlProjRefIdeal.nD → PrngReg), Pre_PlProjIdeal m →
    (∀ c : Dev Cert.PlProjIdeal.nD,
      m' ((c.tc : Thread Cert.PlProjRefIdeal.nD Cert.PlProjRefIdeal.τ).loc Cert.PlProjRefIdeal.main_arg0) = m ((c.tc : Thread Cert.PlProjIdeal.nD Cert.PlProjIdeal.τ).loc Cert.PlProjIdeal.main_arg0)
      ∧ m' ((c.tc : Thread Cert.PlProjRefIdeal.nD Cert.PlProjRefIdeal.τ).loc Cert.PlProjRefIdeal.main_arg1) = m ((c.tc : Thread Cert.PlProjIdeal.nD Cert.PlProjIdeal.τ).loc Cert.PlProjIdeal.main_arg1)) →
    ∃ (v0 : (c : Dev Cert.PlProjIdeal.nD) → Buf (Elt Ideal) ((c.tc : Thread Cert.PlProjIdeal.nD Cert.PlProjIdeal.τ).loc Cert.PlProjIdeal.main_v1)),
      θ_run (Cert.PlProjIdeal.defs (F := Ideal)) (onTc (τ := Cert.PlProjIdeal.τ) (Cert.PlProjIdeal.main (F := Ideal))) ⟨m, fun _ => 0, g⟩ (fun r => ∀ c : Dev Cert.PlProjIdeal.nD,
          r.2.mem ((c.tc : Thread Cert.PlProjIdeal.nD Cert.PlProjIdeal.τ).loc Cert.PlProjIdeal.main_v1) = v0 c
          ∧ r.2.mem ((c.tc : Thread Cert.PlProjIdeal.nD Cert.PlProjIdeal.τ).loc Cert.PlProjIdeal.main_arg0) = m ((c.tc : Thread Cert.PlProjIdeal.nD Cert.PlProjIdeal.τ).loc Cert.PlProjIdeal.main_arg0)
          ∧ r.2.mem ((c.tc : Thread Cert.PlProjIdeal.nD Cert.PlProjIdeal.τ).loc Cert.PlProjIdeal.main_arg1) = m ((c.tc : Thread Cert.PlProjIdeal.nD Cert.PlProjIdeal.τ).loc Cert.PlProjIdeal.main_arg1))
      ∧ θ_run (Cert.PlProjRefIdeal.defs (F := Ideal)) (onTc (τ := Cert.PlProjRefIdeal.τ) (Cert.PlProjRefIdeal.main (F := Ideal))) ⟨m', fun _ => 0, g'⟩ (fun r => ∀ c : Dev Cert.PlProjRefIdeal.nD,
          r.2.mem ((c.tc : Thread Cert.PlProjRefIdeal.nD Cert.PlProjRefIdeal.τ).loc Cert.PlProjRefIdeal.main_v0) = v0 c
          ∧ r.2.mem ((c.tc : Thread Cert.PlProjRefIdeal.nD Cert.PlProjRefIdeal.τ).loc Cert.PlProjRefIdeal.main_arg0) = m' ((c.tc : Thread Cert.PlProjRefIdeal.nD Cert.PlProjRefIdeal.τ).loc Cert.PlProjRefIdeal.main_arg0)
          ∧ r.2.mem ((c.tc : Thread Cert.PlProjRefIdeal.nD Cert.PlProjRefIdeal.τ).loc Cert.PlProjRefIdeal.main_arg1) = m' ((c.tc : Thread Cert.PlProjRefIdeal.nD Cert.PlProjRefIdeal.τ).loc Cert.PlProjRefIdeal.main_arg1))

def preserves_PlProjDw_PlProjDwIdeal : Prop :=
  True

def algebraic_PlProjDwIdeal_PlProjDwRefIdeal [hPlProjDwIdeal : Cert.PlProjDwIdeal.Facts] [hPlProjDwRefIdeal : Cert.PlProjDwRefIdeal.Facts] : Prop :=
  ∀ (m : (ℓ : Loc Cert.PlProjDwIdeal.nD Cert.PlProjDwIdeal.τ Cert.PlProjDwIdeal.sig) → Buf (Elt Ideal) ℓ) (g : Dev Cert.PlProjDwIdeal.nD → PrngReg)
    (m' : (ℓ : Loc Cert.PlProjDwRefIdeal.nD Cert.PlProjDwRefIdeal.τ Cert.PlProjDwRefIdeal.sig) → Buf (Elt Ideal) ℓ) (g' : Dev Cert.PlProjDwRefIdeal.nD → PrngReg), Pre_PlProjDwIdeal m →
    (∀ c : Dev Cert.PlProjDwIdeal.nD,
      m' ((c.tc : Thread Cert.PlProjDwRefIdeal.nD Cert.PlProjDwRefIdeal.τ).loc Cert.PlProjDwRefIdeal.main_arg0) = m ((c.tc : Thread Cert.PlProjDwIdeal.nD Cert.PlProjDwIdeal.τ).loc Cert.PlProjDwIdeal.main_arg0)
      ∧ m' ((c.tc : Thread Cert.PlProjDwRefIdeal.nD Cert.PlProjDwRefIdeal.τ).loc Cert.PlProjDwRefIdeal.main_arg1) = m ((c.tc : Thread Cert.PlProjDwIdeal.nD Cert.PlProjDwIdeal.τ).loc Cert.PlProjDwIdeal.main_arg1)) →
    ∃ (v0 : (c : Dev Cert.PlProjDwIdeal.nD) → Buf (Elt Ideal) ((c.tc : Thread Cert.PlProjDwIdeal.nD Cert.PlProjDwIdeal.τ).loc Cert.PlProjDwIdeal.main_v0)),
      θ_run (Cert.PlProjDwIdeal.defs (F := Ideal)) (onTc (τ := Cert.PlProjDwIdeal.τ) (Cert.PlProjDwIdeal.main (F := Ideal))) ⟨m, fun _ => 0, g⟩ (fun r => ∀ c : Dev Cert.PlProjDwIdeal.nD,
          r.2.mem ((c.tc : Thread Cert.PlProjDwIdeal.nD Cert.PlProjDwIdeal.τ).loc Cert.PlProjDwIdeal.main_v0) = v0 c
          ∧ r.2.mem ((c.tc : Thread Cert.PlProjDwIdeal.nD Cert.PlProjDwIdeal.τ).loc Cert.PlProjDwIdeal.main_arg0) = m ((c.tc : Thread Cert.PlProjDwIdeal.nD Cert.PlProjDwIdeal.τ).loc Cert.PlProjDwIdeal.main_arg0)
          ∧ r.2.mem ((c.tc : Thread Cert.PlProjDwIdeal.nD Cert.PlProjDwIdeal.τ).loc Cert.PlProjDwIdeal.main_arg1) = m ((c.tc : Thread Cert.PlProjDwIdeal.nD Cert.PlProjDwIdeal.τ).loc Cert.PlProjDwIdeal.main_arg1))
      ∧ θ_run (Cert.PlProjDwRefIdeal.defs (F := Ideal)) (onTc (τ := Cert.PlProjDwRefIdeal.τ) (Cert.PlProjDwRefIdeal.main (F := Ideal))) ⟨m', fun _ => 0, g'⟩ (fun r => ∀ c : Dev Cert.PlProjDwRefIdeal.nD,
          r.2.mem ((c.tc : Thread Cert.PlProjDwRefIdeal.nD Cert.PlProjDwRefIdeal.τ).loc Cert.PlProjDwRefIdeal.main_v3) = v0 c
          ∧ r.2.mem ((c.tc : Thread Cert.PlProjDwRefIdeal.nD Cert.PlProjDwRefIdeal.τ).loc Cert.PlProjDwRefIdeal.main_arg0) = m' ((c.tc : Thread Cert.PlProjDwRefIdeal.nD Cert.PlProjDwRefIdeal.τ).loc Cert.PlProjDwRefIdeal.main_arg0)
          ∧ r.2.mem ((c.tc : Thread Cert.PlProjDwRefIdeal.nD Cert.PlProjDwRefIdeal.τ).loc Cert.PlProjDwRefIdeal.main_arg1) = m' ((c.tc : Thread Cert.PlProjDwRefIdeal.nD Cert.PlProjDwRefIdeal.τ).loc Cert.PlProjDwRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v0) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenInDx_EvenInDxIdeal : Prop :=
  True

def algebraic_EvenInDxIdeal_EvenInDxRefIdeal [hEvenInDxIdeal : Cert.EvenInDxIdeal.Facts] [hEvenInDxRefIdeal : Cert.EvenInDxRefIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg)
    (m' : (ℓ : Loc Cert.EvenInDxRefIdeal.nD Cert.EvenInDxRefIdeal.τ Cert.EvenInDxRefIdeal.sig) → Buf (Elt Ideal) ℓ) (g' : Dev Cert.EvenInDxRefIdeal.nD → PrngReg), Pre_EvenInDxIdeal m →
    (∀ c : Dev Cert.EvenInDxIdeal.nD,
      m' ((c.tc : Thread Cert.EvenInDxRefIdeal.nD Cert.EvenInDxRefIdeal.τ).loc Cert.EvenInDxRefIdeal.main_arg0) = m ((c.tc : Thread Cert.EvenInDxIdeal.nD Cert.EvenInDxIdeal.τ).loc Cert.EvenInDxIdeal.main_arg0)
      ∧ m' ((c.tc : Thread Cert.EvenInDxRefIdeal.nD Cert.EvenInDxRefIdeal.τ).loc Cert.EvenInDxRefIdeal.main_arg1) = m ((c.tc : Thread Cert.EvenInDxIdeal.nD Cert.EvenInDxIdeal.τ).loc Cert.EvenInDxIdeal.main_arg1)) →
    ∃ (v0 : (c : Dev Cert.EvenInDxIdeal.nD) → Buf (Elt Ideal) ((c.tc : Thread Cert.EvenInDxIdeal.nD Cert.EvenInDxIdeal.τ).loc Cert.EvenInDxIdeal.main_v2)),
      θ_run (Cert.EvenInDxIdeal.defs (F := Ideal)) (onTc (τ := Cert.EvenInDxIdeal.τ) (Cert.EvenInDxIdeal.main (F := Ideal))) ⟨m, fun _ => 0, g⟩ (fun r => ∀ c : Dev Cert.EvenInDxIdeal.nD,
          r.2.mem ((c.tc : Thread Cert.EvenInDxIdeal.nD Cert.EvenInDxIdeal.τ).loc Cert.EvenInDxIdeal.main_v2) = v0 c
          ∧ r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
          ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1))
      ∧ θ_run (Cert.EvenInDxRefIdeal.defs (F := Ideal)) (onTc (τ := Cert.EvenInDxRefIdeal.τ) (Cert.EvenInDxRefIdeal.main (F := Ideal))) ⟨m', fun _ => 0, g'⟩ (fun r => ∀ c : Dev Cert.EvenInDxRefIdeal.nD,
          r.2.mem ((c.tc : Thread Cert.EvenInDxRefIdeal.nD Cert.EvenInDxRefIdeal.τ).loc Cert.EvenInDxRefIdeal.main_v2) = v0 c
          ∧ r.2.mem ((c.tc : Thread Cert.EvenInDxRefIdeal.nD Cert.EvenInDxRefIdeal.τ).loc Cert.EvenInDxRefIdeal.main_arg0) = m' ((c.tc : Thread Cert.EvenInDxRefIdeal.nD Cert.EvenInDxRefIdeal.τ).loc Cert.EvenInDxRefIdeal.main_arg0)
          ∧ r.2.mem ((c.tc : Thread Cert.EvenInDxRefIdeal.nD Cert.EvenInDxRefIdeal.τ).loc Cert.EvenInDxRefIdeal.main_arg1) = m' ((c.tc : Thread Cert.EvenInDxRefIdeal.nD Cert.EvenInDxRefIdeal.τ).loc Cert.EvenInDxRefIdeal.main_arg1))

def preserves_EvenInDw_EvenInDwIdeal : Prop :=
  True

def algebraic_EvenInDwIdeal_EvenInDwRefIdeal [hEvenInDwIdeal : Cert.EvenInDwIdeal.Facts] [hEvenInDwRefIdeal : Cert.EvenInDwRefIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg)
    (m' : (ℓ : Loc Cert.EvenInDwRefIdeal.nD Cert.EvenInDwRefIdeal.τ Cert.EvenInDwRefIdeal.sig) → Buf (Elt Ideal) ℓ) (g' : Dev Cert.EvenInDwRefIdeal.nD → PrngReg), Pre_EvenInDwIdeal m →
    (∀ c : Dev Cert.EvenInDwIdeal.nD,
      m' ((c.tc : Thread Cert.EvenInDwRefIdeal.nD Cert.EvenInDwRefIdeal.τ).loc Cert.EvenInDwRefIdeal.main_arg0) = m ((c.tc : Thread Cert.EvenInDwIdeal.nD Cert.EvenInDwIdeal.τ).loc Cert.EvenInDwIdeal.main_arg0)
      ∧ m' ((c.tc : Thread Cert.EvenInDwRefIdeal.nD Cert.EvenInDwRefIdeal.τ).loc Cert.EvenInDwRefIdeal.main_arg1) = m ((c.tc : Thread Cert.EvenInDwIdeal.nD Cert.EvenInDwIdeal.τ).loc Cert.EvenInDwIdeal.main_arg1)) →
    ∃ (v0 : (c : Dev Cert.EvenInDwIdeal.nD) → Buf (Elt Ideal) ((c.tc : Thread Cert.EvenInDwIdeal.nD Cert.EvenInDwIdeal.τ).loc Cert.EvenInDwIdeal.main_v2)),
      θ_run (Cert.EvenInDwIdeal.defs (F := Ideal)) (onTc (τ := Cert.EvenInDwIdeal.τ) (Cert.EvenInDwIdeal.main (F := Ideal))) ⟨m, fun _ => 0, g⟩ (fun r => ∀ c : Dev Cert.EvenInDwIdeal.nD,
          r.2.mem ((c.tc : Thread Cert.EvenInDwIdeal.nD Cert.EvenInDwIdeal.τ).loc Cert.EvenInDwIdeal.main_v2) = v0 c
          ∧ r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
          ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1))
      ∧ θ_run (Cert.EvenInDwRefIdeal.defs (F := Ideal)) (onTc (τ := Cert.EvenInDwRefIdeal.τ) (Cert.EvenInDwRefIdeal.main (F := Ideal))) ⟨m', fun _ => 0, g'⟩ (fun r => ∀ c : Dev Cert.EvenInDwRefIdeal.nD,
          r.2.mem ((c.tc : Thread Cert.EvenInDwRefIdeal.nD Cert.EvenInDwRefIdeal.τ).loc Cert.EvenInDwRefIdeal.main_v3) = v0 c
          ∧ r.2.mem ((c.tc : Thread Cert.EvenInDwRefIdeal.nD Cert.EvenInDwRefIdeal.τ).loc Cert.EvenInDwRefIdeal.main_arg0) = m' ((c.tc : Thread Cert.EvenInDwRefIdeal.nD Cert.EvenInDwRefIdeal.τ).loc Cert.EvenInDwRefIdeal.main_arg0)
          ∧ r.2.mem ((c.tc : Thread Cert.EvenInDwRefIdeal.nD Cert.EvenInDwRefIdeal.τ).loc Cert.EvenInDwRefIdeal.main_arg1) = m' ((c.tc : Thread Cert.EvenInDwRefIdeal.nD Cert.EvenInDwRefIdeal.τ).loc Cert.EvenInDwRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v0) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddInDx_OddInDxIdeal : Prop :=
  True

def algebraic_OddInDxIdeal_OddInDxRefIdeal [hOddInDxIdeal : Cert.OddInDxIdeal.Facts] [hOddInDxRefIdeal : Cert.OddInDxRefIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg)
    (m' : (ℓ : Loc Cert.OddInDxRefIdeal.nD Cert.OddInDxRefIdeal.τ Cert.OddInDxRefIdeal.sig) → Buf (Elt Ideal) ℓ) (g' : Dev Cert.OddInDxRefIdeal.nD → PrngReg), Pre_OddInDxIdeal m →
    (∀ c : Dev Cert.OddInDxIdeal.nD,
      m' ((c.tc : Thread Cert.OddInDxRefIdeal.nD Cert.OddInDxRefIdeal.τ).loc Cert.OddInDxRefIdeal.main_arg0) = m ((c.tc : Thread Cert.OddInDxIdeal.nD Cert.OddInDxIdeal.τ).loc Cert.OddInDxIdeal.main_arg0)
      ∧ m' ((c.tc : Thread Cert.OddInDxRefIdeal.nD Cert.OddInDxRefIdeal.τ).loc Cert.OddInDxRefIdeal.main_arg1) = m ((c.tc : Thread Cert.OddInDxIdeal.nD Cert.OddInDxIdeal.τ).loc Cert.OddInDxIdeal.main_arg1)) →
    ∃ (v0 : (c : Dev Cert.OddInDxIdeal.nD) → Buf (Elt Ideal) ((c.tc : Thread Cert.OddInDxIdeal.nD Cert.OddInDxIdeal.τ).loc Cert.OddInDxIdeal.main_v2)),
      θ_run (Cert.OddInDxIdeal.defs (F := Ideal)) (onTc (τ := Cert.OddInDxIdeal.τ) (Cert.OddInDxIdeal.main (F := Ideal))) ⟨m, fun _ => 0, g⟩ (fun r => ∀ c : Dev Cert.OddInDxIdeal.nD,
          r.2.mem ((c.tc : Thread Cert.OddInDxIdeal.nD Cert.OddInDxIdeal.τ).loc Cert.OddInDxIdeal.main_v2) = v0 c
          ∧ r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
          ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1))
      ∧ θ_run (Cert.OddInDxRefIdeal.defs (F := Ideal)) (onTc (τ := Cert.OddInDxRefIdeal.τ) (Cert.OddInDxRefIdeal.main (F := Ideal))) ⟨m', fun _ => 0, g'⟩ (fun r => ∀ c : Dev Cert.OddInDxRefIdeal.nD,
          r.2.mem ((c.tc : Thread Cert.OddInDxRefIdeal.nD Cert.OddInDxRefIdeal.τ).loc Cert.OddInDxRefIdeal.main_v2) = v0 c
          ∧ r.2.mem ((c.tc : Thread Cert.OddInDxRefIdeal.nD Cert.OddInDxRefIdeal.τ).loc Cert.OddInDxRefIdeal.main_arg0) = m' ((c.tc : Thread Cert.OddInDxRefIdeal.nD Cert.OddInDxRefIdeal.τ).loc Cert.OddInDxRefIdeal.main_arg0)
          ∧ r.2.mem ((c.tc : Thread Cert.OddInDxRefIdeal.nD Cert.OddInDxRefIdeal.τ).loc Cert.OddInDxRefIdeal.main_arg1) = m' ((c.tc : Thread Cert.OddInDxRefIdeal.nD Cert.OddInDxRefIdeal.τ).loc Cert.OddInDxRefIdeal.main_arg1))

def preserves_OddInDw_OddInDwIdeal : Prop :=
  True

def algebraic_OddInDwIdeal_OddInDwRefIdeal [hOddInDwIdeal : Cert.OddInDwIdeal.Facts] [hOddInDwRefIdeal : Cert.OddInDwRefIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg)
    (m' : (ℓ : Loc Cert.OddInDwRefIdeal.nD Cert.OddInDwRefIdeal.τ Cert.OddInDwRefIdeal.sig) → Buf (Elt Ideal) ℓ) (g' : Dev Cert.OddInDwRefIdeal.nD → PrngReg), Pre_OddInDwIdeal m →
    (∀ c : Dev Cert.OddInDwIdeal.nD,
      m' ((c.tc : Thread Cert.OddInDwRefIdeal.nD Cert.OddInDwRefIdeal.τ).loc Cert.OddInDwRefIdeal.main_arg0) = m ((c.tc : Thread Cert.OddInDwIdeal.nD Cert.OddInDwIdeal.τ).loc Cert.OddInDwIdeal.main_arg0)
      ∧ m' ((c.tc : Thread Cert.OddInDwRefIdeal.nD Cert.OddInDwRefIdeal.τ).loc Cert.OddInDwRefIdeal.main_arg1) = m ((c.tc : Thread Cert.OddInDwIdeal.nD Cert.OddInDwIdeal.τ).loc Cert.OddInDwIdeal.main_arg1)) →
    ∃ (v0 : (c : Dev Cert.OddInDwIdeal.nD) → Buf (Elt Ideal) ((c.tc : Thread Cert.OddInDwIdeal.nD Cert.OddInDwIdeal.τ).loc Cert.OddInDwIdeal.main_v2)),
      θ_run (Cert.OddInDwIdeal.defs (F := Ideal)) (onTc (τ := Cert.OddInDwIdeal.τ) (Cert.OddInDwIdeal.main (F := Ideal))) ⟨m, fun _ => 0, g⟩ (fun r => ∀ c : Dev Cert.OddInDwIdeal.nD,
          r.2.mem ((c.tc : Thread Cert.OddInDwIdeal.nD Cert.OddInDwIdeal.τ).loc Cert.OddInDwIdeal.main_v2) = v0 c
          ∧ r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
          ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1))
      ∧ θ_run (Cert.OddInDwRefIdeal.defs (F := Ideal)) (onTc (τ := Cert.OddInDwRefIdeal.τ) (Cert.OddInDwRefIdeal.main (F := Ideal))) ⟨m', fun _ => 0, g'⟩ (fun r => ∀ c : Dev Cert.OddInDwRefIdeal.nD,
          r.2.mem ((c.tc : Thread Cert.OddInDwRefIdeal.nD Cert.OddInDwRefIdeal.τ).loc Cert.OddInDwRefIdeal.main_v3) = v0 c
          ∧ r.2.mem ((c.tc : Thread Cert.OddInDwRefIdeal.nD Cert.OddInDwRefIdeal.τ).loc Cert.OddInDwRefIdeal.main_arg0) = m' ((c.tc : Thread Cert.OddInDwRefIdeal.nD Cert.OddInDwRefIdeal.τ).loc Cert.OddInDwRefIdeal.main_arg0)
          ∧ r.2.mem ((c.tc : Thread Cert.OddInDwRefIdeal.nD Cert.OddInDwRefIdeal.τ).loc Cert.OddInDwRefIdeal.main_arg1) = m' ((c.tc : Thread Cert.OddInDwRefIdeal.nD Cert.OddInDwRefIdeal.τ).loc Cert.OddInDwRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v13) = v0 c
          ∧ r.2.mem ((c.tc : Thread Cert.GateBwdRefIdeal.nD Cert.GateBwdRefIdeal.τ).loc Cert.GateBwdRefIdeal.main_v11) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v84) = v0 c
          ∧ r.2.mem ((c.tc : Thread Cert.ConvBwdRefIdeal.nD Cert.ConvBwdRefIdeal.τ).loc Cert.ConvBwdRefIdeal.main_v82) = v1 c
          ∧ r.2.mem ((c.tc : Thread Cert.ConvBwdRefIdeal.nD Cert.ConvBwdRefIdeal.τ).loc Cert.ConvBwdRefIdeal.main_v85) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_ShiftBwd_ShiftBwdIdeal : Prop :=
  True

def algebraic_ShiftBwdIdeal_ShiftBwdRefIdeal [hShiftBwdIdeal : Cert.ShiftBwdIdeal.Facts] [hShiftBwdRefIdeal : Cert.ShiftBwdRefIdeal.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg)
    (m' : (ℓ : Loc Cert.ShiftBwdRefIdeal.nD Cert.ShiftBwdRefIdeal.τ Cert.ShiftBwdRefIdeal.sig) → Buf (Elt Ideal) ℓ) (g' : Dev Cert.ShiftBwdRefIdeal.nD → PrngReg), Pre_ShiftBwdIdeal m →
    (∀ c : Dev Cert.ShiftBwdIdeal.nD,
      m' ((c.tc : Thread Cert.ShiftBwdRefIdeal.nD Cert.ShiftBwdRefIdeal.τ).loc Cert.ShiftBwdRefIdeal.main_arg0) = m ((c.tc : Thread Cert.ShiftBwdIdeal.nD Cert.ShiftBwdIdeal.τ).loc Cert.ShiftBwdIdeal.main_arg0)
      ∧ m' ((c.tc : Thread Cert.ShiftBwdRefIdeal.nD Cert.ShiftBwdRefIdeal.τ).loc Cert.ShiftBwdRefIdeal.main_arg1) = m ((c.tc : Thread Cert.ShiftBwdIdeal.nD Cert.ShiftBwdIdeal.τ).loc Cert.ShiftBwdIdeal.main_arg1)
      ∧ m' ((c.tc : Thread Cert.ShiftBwdRefIdeal.nD Cert.ShiftBwdRefIdeal.τ).loc Cert.ShiftBwdRefIdeal.main_arg2) = m ((c.tc : Thread Cert.ShiftBwdIdeal.nD Cert.ShiftBwdIdeal.τ).loc Cert.ShiftBwdIdeal.main_arg2)
      ∧ m' ((c.tc : Thread Cert.ShiftBwdRefIdeal.nD Cert.ShiftBwdRefIdeal.τ).loc Cert.ShiftBwdRefIdeal.main_arg3) = m ((c.tc : Thread Cert.ShiftBwdIdeal.nD Cert.ShiftBwdIdeal.τ).loc Cert.ShiftBwdIdeal.main_arg3)) →
    ∃ (v0 : (c : Dev Cert.ShiftBwdIdeal.nD) → Buf (Elt Ideal) ((c.tc : Thread Cert.ShiftBwdIdeal.nD Cert.ShiftBwdIdeal.τ).loc Cert.ShiftBwdIdeal.main_v0_0)) (v1 : (c : Dev Cert.ShiftBwdIdeal.nD) → Buf (Elt Ideal) ((c.tc : Thread Cert.ShiftBwdIdeal.nD Cert.ShiftBwdIdeal.τ).loc Cert.ShiftBwdIdeal.main_v0_1)),
      θ_run (Cert.ShiftBwdIdeal.defs (F := Ideal)) (onTc (τ := Cert.ShiftBwdIdeal.τ) (Cert.ShiftBwdIdeal.main (F := Ideal))) ⟨m, fun _ => 0, g⟩ (fun r => ∀ c : Dev Cert.ShiftBwdIdeal.nD,
          r.2.mem ((c.tc : Thread Cert.ShiftBwdIdeal.nD Cert.ShiftBwdIdeal.τ).loc Cert.ShiftBwdIdeal.main_v0_0) = v0 c
          ∧ r.2.mem ((c.tc : Thread Cert.ShiftBwdIdeal.nD Cert.ShiftBwdIdeal.τ).loc Cert.ShiftBwdIdeal.main_v0_1) = v1 c
          ∧ r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
          ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
          ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
          ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ θ_run (Cert.ShiftBwdRefIdeal.defs (F := Ideal)) (onTc (τ := Cert.ShiftBwdRefIdeal.τ) (Cert.ShiftBwdRefIdeal.main (F := Ideal))) ⟨m', fun _ => 0, g'⟩ (fun r => ∀ c : Dev Cert.ShiftBwdRefIdeal.nD,
          r.2.mem ((c.tc : Thread Cert.ShiftBwdRefIdeal.nD Cert.ShiftBwdRefIdeal.τ).loc Cert.ShiftBwdRefIdeal.main_v25) = v0 c
          ∧ r.2.mem ((c.tc : Thread Cert.ShiftBwdRefIdeal.nD Cert.ShiftBwdRefIdeal.τ).loc Cert.ShiftBwdRefIdeal.main_v26) = v1 c
          ∧ r.2.mem ((c.tc : Thread Cert.ShiftBwdRefIdeal.nD Cert.ShiftBwdRefIdeal.τ).loc Cert.ShiftBwdRefIdeal.main_arg0) = m' ((c.tc : Thread Cert.ShiftBwdRefIdeal.nD Cert.ShiftBwdRefIdeal.τ).loc Cert.ShiftBwdRefIdeal.main_arg0)
          ∧ r.2.mem ((c.tc : Thread Cert.ShiftBwdRefIdeal.nD Cert.ShiftBwdRefIdeal.τ).loc Cert.ShiftBwdRefIdeal.main_arg1) = m' ((c.tc : Thread Cert.ShiftBwdRefIdeal.nD Cert.ShiftBwdRefIdeal.τ).loc Cert.ShiftBwdRefIdeal.main_arg1)
          ∧ r.2.mem ((c.tc : Thread Cert.ShiftBwdRefIdeal.nD Cert.ShiftBwdRefIdeal.τ).loc Cert.ShiftBwdRefIdeal.main_arg2) = m' ((c.tc : Thread Cert.ShiftBwdRefIdeal.nD Cert.ShiftBwdRefIdeal.τ).loc Cert.ShiftBwdRefIdeal.main_arg2)
          ∧ r.2.mem ((c.tc : Thread Cert.ShiftBwdRefIdeal.nD Cert.ShiftBwdRefIdeal.τ).loc Cert.ShiftBwdRefIdeal.main_arg3) = m' ((c.tc : Thread Cert.ShiftBwdRefIdeal.nD Cert.ShiftBwdRefIdeal.τ).loc Cert.ShiftBwdRefIdeal.main_arg3))

def preserves_GeluGateBwd_GeluGateBwdIdeal : Prop :=
  True

def algebraic_GeluGateBwdIdeal_GeluGateBwdRefIdeal [hGeluGateBwdIdeal : Cert.GeluGateBwdIdeal.Facts] [hGeluGateBwdRefIdeal : Cert.GeluGateBwdRefIdeal.Facts] : Prop :=
  ∀ (m : (ℓ : Loc Cert.GeluGateBwdIdeal.nD Cert.GeluGateBwdIdeal.τ Cert.GeluGateBwdIdeal.sig) → Buf (Elt Ideal) ℓ) (g : Dev Cert.GeluGateBwdIdeal.nD → PrngReg)
    (m' : (ℓ : Loc Cert.GeluGateBwdRefIdeal.nD Cert.GeluGateBwdRefIdeal.τ Cert.GeluGateBwdRefIdeal.sig) → Buf (Elt Ideal) ℓ) (g' : Dev Cert.GeluGateBwdRefIdeal.nD → PrngReg), Pre_GeluGateBwdIdeal m →
    (∀ c : Dev Cert.GeluGateBwdIdeal.nD,
      m' ((c.tc : Thread Cert.GeluGateBwdRefIdeal.nD Cert.GeluGateBwdRefIdeal.τ).loc Cert.GeluGateBwdRefIdeal.main_arg0) = m ((c.tc : Thread Cert.GeluGateBwdIdeal.nD Cert.GeluGateBwdIdeal.τ).loc Cert.GeluGateBwdIdeal.main_arg0)
      ∧ m' ((c.tc : Thread Cert.GeluGateBwdRefIdeal.nD Cert.GeluGateBwdRefIdeal.τ).loc Cert.GeluGateBwdRefIdeal.main_arg1) = m ((c.tc : Thread Cert.GeluGateBwdIdeal.nD Cert.GeluGateBwdIdeal.τ).loc Cert.GeluGateBwdIdeal.main_arg1)
      ∧ m' ((c.tc : Thread Cert.GeluGateBwdRefIdeal.nD Cert.GeluGateBwdRefIdeal.τ).loc Cert.GeluGateBwdRefIdeal.main_arg2) = m ((c.tc : Thread Cert.GeluGateBwdIdeal.nD Cert.GeluGateBwdIdeal.τ).loc Cert.GeluGateBwdIdeal.main_arg2)) →
    ∃ (v0 : (c : Dev Cert.GeluGateBwdIdeal.nD) → Buf (Elt Ideal) ((c.tc : Thread Cert.GeluGateBwdIdeal.nD Cert.GeluGateBwdIdeal.τ).loc Cert.GeluGateBwdIdeal.main_v0_0)) (v1 : (c : Dev Cert.GeluGateBwdIdeal.nD) → Buf (Elt Ideal) ((c.tc : Thread Cert.GeluGateBwdIdeal.nD Cert.GeluGateBwdIdeal.τ).loc Cert.GeluGateBwdIdeal.main_v0_1)),
      θ_run (Cert.GeluGateBwdIdeal.defs (F := Ideal)) (onTc (τ := Cert.GeluGateBwdIdeal.τ) (Cert.GeluGateBwdIdeal.main (F := Ideal))) ⟨m, fun _ => 0, g⟩ (fun r => ∀ c : Dev Cert.GeluGateBwdIdeal.nD,
          r.2.mem ((c.tc : Thread Cert.GeluGateBwdIdeal.nD Cert.GeluGateBwdIdeal.τ).loc Cert.GeluGateBwdIdeal.main_v0_0) = v0 c
          ∧ r.2.mem ((c.tc : Thread Cert.GeluGateBwdIdeal.nD Cert.GeluGateBwdIdeal.τ).loc Cert.GeluGateBwdIdeal.main_v0_1) = v1 c
          ∧ r.2.mem ((c.tc : Thread Cert.GeluGateBwdIdeal.nD Cert.GeluGateBwdIdeal.τ).loc Cert.GeluGateBwdIdeal.main_arg0) = m ((c.tc : Thread Cert.GeluGateBwdIdeal.nD Cert.GeluGateBwdIdeal.τ).loc Cert.GeluGateBwdIdeal.main_arg0)
          ∧ r.2.mem ((c.tc : Thread Cert.GeluGateBwdIdeal.nD Cert.GeluGateBwdIdeal.τ).loc Cert.GeluGateBwdIdeal.main_arg1) = m ((c.tc : Thread Cert.GeluGateBwdIdeal.nD Cert.GeluGateBwdIdeal.τ).loc Cert.GeluGateBwdIdeal.main_arg1)
          ∧ r.2.mem ((c.tc : Thread Cert.GeluGateBwdIdeal.nD Cert.GeluGateBwdIdeal.τ).loc Cert.GeluGateBwdIdeal.main_arg2) = m ((c.tc : Thread Cert.GeluGateBwdIdeal.nD Cert.GeluGateBwdIdeal.τ).loc Cert.GeluGateBwdIdeal.main_arg2))
      ∧ θ_run (Cert.GeluGateBwdRefIdeal.defs (F := Ideal)) (onTc (τ := Cert.GeluGateBwdRefIdeal.τ) (Cert.GeluGateBwdRefIdeal.main (F := Ideal))) ⟨m', fun _ => 0, g'⟩ (fun r => ∀ c : Dev Cert.GeluGateBwdRefIdeal.nD,
          r.2.mem ((c.tc : Thread Cert.GeluGateBwdRefIdeal.nD Cert.GeluGateBwdRefIdeal.τ).loc Cert.GeluGateBwdRefIdeal.main_v24) = v0 c
          ∧ r.2.mem ((c.tc : Thread Cert.GeluGateBwdRefIdeal.nD Cert.GeluGateBwdRefIdeal.τ).loc Cert.GeluGateBwdRefIdeal.main_v36) = v1 c
          ∧ r.2.mem ((c.tc : Thread Cert.GeluGateBwdRefIdeal.nD Cert.GeluGateBwdRefIdeal.τ).loc Cert.GeluGateBwdRefIdeal.main_arg0) = m' ((c.tc : Thread Cert.GeluGateBwdRefIdeal.nD Cert.GeluGateBwdRefIdeal.τ).loc Cert.GeluGateBwdRefIdeal.main_arg0)
          ∧ r.2.mem ((c.tc : Thread Cert.GeluGateBwdRefIdeal.nD Cert.GeluGateBwdRefIdeal.τ).loc Cert.GeluGateBwdRefIdeal.main_arg1) = m' ((c.tc : Thread Cert.GeluGateBwdRefIdeal.nD Cert.GeluGateBwdRefIdeal.τ).loc Cert.GeluGateBwdRefIdeal.main_arg1)
          ∧ r.2.mem ((c.tc : Thread Cert.GeluGateBwdRefIdeal.nD Cert.GeluGateBwdRefIdeal.τ).loc Cert.GeluGateBwdRefIdeal.main_arg2) = m' ((c.tc : Thread Cert.GeluGateBwdRefIdeal.nD Cert.GeluGateBwdRefIdeal.τ).loc Cert.GeluGateBwdRefIdeal.main_arg2))

def preserves_AdamwEarly_AdamwEarlyIdeal : Prop :=
  True

def algebraic_AdamwEarlyIdeal_AdamwEarlyRefIdeal [hAdamwEarlyIdeal : Cert.AdamwEarlyIdeal.Facts] [hAdamwEarlyRefIdeal : Cert.AdamwEarlyRefIdeal.Facts] : Prop :=
  ∀ (m : (ℓ : Loc Cert.AdamwEarlyIdeal.nD Cert.AdamwEarlyIdeal.τ Cert.AdamwEarlyIdeal.sig) → Buf (Elt Ideal) ℓ) (g : Dev Cert.AdamwEarlyIdeal.nD → PrngReg)
    (m' : (ℓ : Loc Cert.AdamwEarlyRefIdeal.nD Cert.AdamwEarlyRefIdeal.τ Cert.AdamwEarlyRefIdeal.sig) → Buf (Elt Ideal) ℓ) (g' : Dev Cert.AdamwEarlyRefIdeal.nD → PrngReg), Pre_AdamwEarlyIdeal m →
    (∀ c : Dev Cert.AdamwEarlyIdeal.nD,
      m' ((c.tc : Thread Cert.AdamwEarlyRefIdeal.nD Cert.AdamwEarlyRefIdeal.τ).loc Cert.AdamwEarlyRefIdeal.main_arg0) = m ((c.tc : Thread Cert.AdamwEarlyIdeal.nD Cert.AdamwEarlyIdeal.τ).loc Cert.AdamwEarlyIdeal.main_arg0)
      ∧ m' ((c.tc : Thread Cert.AdamwEarlyRefIdeal.nD Cert.AdamwEarlyRefIdeal.τ).loc Cert.AdamwEarlyRefIdeal.main_arg1) = m ((c.tc : Thread Cert.AdamwEarlyIdeal.nD Cert.AdamwEarlyIdeal.τ).loc Cert.AdamwEarlyIdeal.main_arg1)
      ∧ m' ((c.tc : Thread Cert.AdamwEarlyRefIdeal.nD Cert.AdamwEarlyRefIdeal.τ).loc Cert.AdamwEarlyRefIdeal.main_arg2) = m ((c.tc : Thread Cert.AdamwEarlyIdeal.nD Cert.AdamwEarlyIdeal.τ).loc Cert.AdamwEarlyIdeal.main_arg2)
      ∧ m' ((c.tc : Thread Cert.AdamwEarlyRefIdeal.nD Cert.AdamwEarlyRefIdeal.τ).loc Cert.AdamwEarlyRefIdeal.main_arg3) = m ((c.tc : Thread Cert.AdamwEarlyIdeal.nD Cert.AdamwEarlyIdeal.τ).loc Cert.AdamwEarlyIdeal.main_arg3)) →
    ∃ (v0 : (c : Dev Cert.AdamwEarlyIdeal.nD) → Buf (Elt Ideal) ((c.tc : Thread Cert.AdamwEarlyIdeal.nD Cert.AdamwEarlyIdeal.τ).loc Cert.AdamwEarlyIdeal.main_v0_0)) (v1 : (c : Dev Cert.AdamwEarlyIdeal.nD) → Buf (Elt Ideal) ((c.tc : Thread Cert.AdamwEarlyIdeal.nD Cert.AdamwEarlyIdeal.τ).loc Cert.AdamwEarlyIdeal.main_v0_1)) (v2 : (c : Dev Cert.AdamwEarlyIdeal.nD) → Buf (Elt Ideal) ((c.tc : Thread Cert.AdamwEarlyIdeal.nD Cert.AdamwEarlyIdeal.τ).loc Cert.AdamwEarlyIdeal.main_v0_2)) (v3 : (c : Dev Cert.AdamwEarlyIdeal.nD) → Buf (Elt Ideal) ((c.tc : Thread Cert.AdamwEarlyIdeal.nD Cert.AdamwEarlyIdeal.τ).loc Cert.AdamwEarlyIdeal.main_v0_3)),
      θ_run (Cert.AdamwEarlyIdeal.defs (F := Ideal)) (onTc (τ := Cert.AdamwEarlyIdeal.τ) (Cert.AdamwEarlyIdeal.main (F := Ideal))) ⟨m, fun _ => 0, g⟩ (fun r => ∀ c : Dev Cert.AdamwEarlyIdeal.nD,
          r.2.mem ((c.tc : Thread Cert.AdamwEarlyIdeal.nD Cert.AdamwEarlyIdeal.τ).loc Cert.AdamwEarlyIdeal.main_v0_0) = v0 c
          ∧ r.2.mem ((c.tc : Thread Cert.AdamwEarlyIdeal.nD Cert.AdamwEarlyIdeal.τ).loc Cert.AdamwEarlyIdeal.main_v0_1) = v1 c
          ∧ r.2.mem ((c.tc : Thread Cert.AdamwEarlyIdeal.nD Cert.AdamwEarlyIdeal.τ).loc Cert.AdamwEarlyIdeal.main_v0_2) = v2 c
          ∧ r.2.mem ((c.tc : Thread Cert.AdamwEarlyIdeal.nD Cert.AdamwEarlyIdeal.τ).loc Cert.AdamwEarlyIdeal.main_v0_3) = v3 c
          ∧ r.2.mem ((c.tc : Thread Cert.AdamwEarlyIdeal.nD Cert.AdamwEarlyIdeal.τ).loc Cert.AdamwEarlyIdeal.main_arg0) = m ((c.tc : Thread Cert.AdamwEarlyIdeal.nD Cert.AdamwEarlyIdeal.τ).loc Cert.AdamwEarlyIdeal.main_arg0)
          ∧ r.2.mem ((c.tc : Thread Cert.AdamwEarlyIdeal.nD Cert.AdamwEarlyIdeal.τ).loc Cert.AdamwEarlyIdeal.main_arg1) = m ((c.tc : Thread Cert.AdamwEarlyIdeal.nD Cert.AdamwEarlyIdeal.τ).loc Cert.AdamwEarlyIdeal.main_arg1)
          ∧ r.2.mem ((c.tc : Thread Cert.AdamwEarlyIdeal.nD Cert.AdamwEarlyIdeal.τ).loc Cert.AdamwEarlyIdeal.main_arg2) = m ((c.tc : Thread Cert.AdamwEarlyIdeal.nD Cert.AdamwEarlyIdeal.τ).loc Cert.AdamwEarlyIdeal.main_arg2)
          ∧ r.2.mem ((c.tc : Thread Cert.AdamwEarlyIdeal.nD Cert.AdamwEarlyIdeal.τ).loc Cert.AdamwEarlyIdeal.main_arg3) = m ((c.tc : Thread Cert.AdamwEarlyIdeal.nD Cert.AdamwEarlyIdeal.τ).loc Cert.AdamwEarlyIdeal.main_arg3))
      ∧ θ_run (Cert.AdamwEarlyRefIdeal.defs (F := Ideal)) (onTc (τ := Cert.AdamwEarlyRefIdeal.τ) (Cert.AdamwEarlyRefIdeal.main (F := Ideal))) ⟨m', fun _ => 0, g'⟩ (fun r => ∀ c : Dev Cert.AdamwEarlyRefIdeal.nD,
          r.2.mem ((c.tc : Thread Cert.AdamwEarlyRefIdeal.nD Cert.AdamwEarlyRefIdeal.τ).loc Cert.AdamwEarlyRefIdeal.main_v1) = v0 c
          ∧ r.2.mem ((c.tc : Thread Cert.AdamwEarlyRefIdeal.nD Cert.AdamwEarlyRefIdeal.τ).loc Cert.AdamwEarlyRefIdeal.main_v25) = v1 c
          ∧ r.2.mem ((c.tc : Thread Cert.AdamwEarlyRefIdeal.nD Cert.AdamwEarlyRefIdeal.τ).loc Cert.AdamwEarlyRefIdeal.main_v6) = v2 c
          ∧ r.2.mem ((c.tc : Thread Cert.AdamwEarlyRefIdeal.nD Cert.AdamwEarlyRefIdeal.τ).loc Cert.AdamwEarlyRefIdeal.main_v12) = v3 c
          ∧ r.2.mem ((c.tc : Thread Cert.AdamwEarlyRefIdeal.nD Cert.AdamwEarlyRefIdeal.τ).loc Cert.AdamwEarlyRefIdeal.main_arg0) = m' ((c.tc : Thread Cert.AdamwEarlyRefIdeal.nD Cert.AdamwEarlyRefIdeal.τ).loc Cert.AdamwEarlyRefIdeal.main_arg0)
          ∧ r.2.mem ((c.tc : Thread Cert.AdamwEarlyRefIdeal.nD Cert.AdamwEarlyRefIdeal.τ).loc Cert.AdamwEarlyRefIdeal.main_arg1) = m' ((c.tc : Thread Cert.AdamwEarlyRefIdeal.nD Cert.AdamwEarlyRefIdeal.τ).loc Cert.AdamwEarlyRefIdeal.main_arg1)
          ∧ r.2.mem ((c.tc : Thread Cert.AdamwEarlyRefIdeal.nD Cert.AdamwEarlyRefIdeal.τ).loc Cert.AdamwEarlyRefIdeal.main_arg2) = m' ((c.tc : Thread Cert.AdamwEarlyRefIdeal.nD Cert.AdamwEarlyRefIdeal.τ).loc Cert.AdamwEarlyRefIdeal.main_arg2)
          ∧ r.2.mem ((c.tc : Thread Cert.AdamwEarlyRefIdeal.nD Cert.AdamwEarlyRefIdeal.τ).loc Cert.AdamwEarlyRefIdeal.main_arg3) = m' ((c.tc : Thread Cert.AdamwEarlyRefIdeal.nD Cert.AdamwEarlyRefIdeal.τ).loc Cert.AdamwEarlyRefIdeal.main_arg3))

def preserves_AdamwMid_AdamwMidIdeal : Prop :=
  True

def algebraic_AdamwMidIdeal_AdamwMidRefIdeal [hAdamwMidIdeal : Cert.AdamwMidIdeal.Facts] [hAdamwMidRefIdeal : Cert.AdamwMidRefIdeal.Facts] : Prop :=
  ∀ (m : (ℓ : Loc Cert.AdamwMidIdeal.nD Cert.AdamwMidIdeal.τ Cert.AdamwMidIdeal.sig) → Buf (Elt Ideal) ℓ) (g : Dev Cert.AdamwMidIdeal.nD → PrngReg)
    (m' : (ℓ : Loc Cert.AdamwMidRefIdeal.nD Cert.AdamwMidRefIdeal.τ Cert.AdamwMidRefIdeal.sig) → Buf (Elt Ideal) ℓ) (g' : Dev Cert.AdamwMidRefIdeal.nD → PrngReg), Pre_AdamwMidIdeal m →
    (∀ c : Dev Cert.AdamwMidIdeal.nD,
      m' ((c.tc : Thread Cert.AdamwMidRefIdeal.nD Cert.AdamwMidRefIdeal.τ).loc Cert.AdamwMidRefIdeal.main_arg0) = m ((c.tc : Thread Cert.AdamwMidIdeal.nD Cert.AdamwMidIdeal.τ).loc Cert.AdamwMidIdeal.main_arg0)
      ∧ m' ((c.tc : Thread Cert.AdamwMidRefIdeal.nD Cert.AdamwMidRefIdeal.τ).loc Cert.AdamwMidRefIdeal.main_arg1) = m ((c.tc : Thread Cert.AdamwMidIdeal.nD Cert.AdamwMidIdeal.τ).loc Cert.AdamwMidIdeal.main_arg1)
      ∧ m' ((c.tc : Thread Cert.AdamwMidRefIdeal.nD Cert.AdamwMidRefIdeal.τ).loc Cert.AdamwMidRefIdeal.main_arg2) = m ((c.tc : Thread Cert.AdamwMidIdeal.nD Cert.AdamwMidIdeal.τ).loc Cert.AdamwMidIdeal.main_arg2)
      ∧ m' ((c.tc : Thread Cert.AdamwMidRefIdeal.nD Cert.AdamwMidRefIdeal.τ).loc Cert.AdamwMidRefIdeal.main_arg3) = m ((c.tc : Thread Cert.AdamwMidIdeal.nD Cert.AdamwMidIdeal.τ).loc Cert.AdamwMidIdeal.main_arg3)) →
    ∃ (v0 : (c : Dev Cert.AdamwMidIdeal.nD) → Buf (Elt Ideal) ((c.tc : Thread Cert.AdamwMidIdeal.nD Cert.AdamwMidIdeal.τ).loc Cert.AdamwMidIdeal.main_v0_0)) (v1 : (c : Dev Cert.AdamwMidIdeal.nD) → Buf (Elt Ideal) ((c.tc : Thread Cert.AdamwMidIdeal.nD Cert.AdamwMidIdeal.τ).loc Cert.AdamwMidIdeal.main_v0_1)) (v2 : (c : Dev Cert.AdamwMidIdeal.nD) → Buf (Elt Ideal) ((c.tc : Thread Cert.AdamwMidIdeal.nD Cert.AdamwMidIdeal.τ).loc Cert.AdamwMidIdeal.main_v0_2)) (v3 : (c : Dev Cert.AdamwMidIdeal.nD) → Buf (Elt Ideal) ((c.tc : Thread Cert.AdamwMidIdeal.nD Cert.AdamwMidIdeal.τ).loc Cert.AdamwMidIdeal.main_v0_3)),
      θ_run (Cert.AdamwMidIdeal.defs (F := Ideal)) (onTc (τ := Cert.AdamwMidIdeal.τ) (Cert.AdamwMidIdeal.main (F := Ideal))) ⟨m, fun _ => 0, g⟩ (fun r => ∀ c : Dev Cert.AdamwMidIdeal.nD,
          r.2.mem ((c.tc : Thread Cert.AdamwMidIdeal.nD Cert.AdamwMidIdeal.τ).loc Cert.AdamwMidIdeal.main_v0_0) = v0 c
          ∧ r.2.mem ((c.tc : Thread Cert.AdamwMidIdeal.nD Cert.AdamwMidIdeal.τ).loc Cert.AdamwMidIdeal.main_v0_1) = v1 c
          ∧ r.2.mem ((c.tc : Thread Cert.AdamwMidIdeal.nD Cert.AdamwMidIdeal.τ).loc Cert.AdamwMidIdeal.main_v0_2) = v2 c
          ∧ r.2.mem ((c.tc : Thread Cert.AdamwMidIdeal.nD Cert.AdamwMidIdeal.τ).loc Cert.AdamwMidIdeal.main_v0_3) = v3 c
          ∧ r.2.mem ((c.tc : Thread Cert.AdamwMidIdeal.nD Cert.AdamwMidIdeal.τ).loc Cert.AdamwMidIdeal.main_arg0) = m ((c.tc : Thread Cert.AdamwMidIdeal.nD Cert.AdamwMidIdeal.τ).loc Cert.AdamwMidIdeal.main_arg0)
          ∧ r.2.mem ((c.tc : Thread Cert.AdamwMidIdeal.nD Cert.AdamwMidIdeal.τ).loc Cert.AdamwMidIdeal.main_arg1) = m ((c.tc : Thread Cert.AdamwMidIdeal.nD Cert.AdamwMidIdeal.τ).loc Cert.AdamwMidIdeal.main_arg1)
          ∧ r.2.mem ((c.tc : Thread Cert.AdamwMidIdeal.nD Cert.AdamwMidIdeal.τ).loc Cert.AdamwMidIdeal.main_arg2) = m ((c.tc : Thread Cert.AdamwMidIdeal.nD Cert.AdamwMidIdeal.τ).loc Cert.AdamwMidIdeal.main_arg2)
          ∧ r.2.mem ((c.tc : Thread Cert.AdamwMidIdeal.nD Cert.AdamwMidIdeal.τ).loc Cert.AdamwMidIdeal.main_arg3) = m ((c.tc : Thread Cert.AdamwMidIdeal.nD Cert.AdamwMidIdeal.τ).loc Cert.AdamwMidIdeal.main_arg3))
      ∧ θ_run (Cert.AdamwMidRefIdeal.defs (F := Ideal)) (onTc (τ := Cert.AdamwMidRefIdeal.τ) (Cert.AdamwMidRefIdeal.main (F := Ideal))) ⟨m', fun _ => 0, g'⟩ (fun r => ∀ c : Dev Cert.AdamwMidRefIdeal.nD,
          r.2.mem ((c.tc : Thread Cert.AdamwMidRefIdeal.nD Cert.AdamwMidRefIdeal.τ).loc Cert.AdamwMidRefIdeal.main_v1) = v0 c
          ∧ r.2.mem ((c.tc : Thread Cert.AdamwMidRefIdeal.nD Cert.AdamwMidRefIdeal.τ).loc Cert.AdamwMidRefIdeal.main_v25) = v1 c
          ∧ r.2.mem ((c.tc : Thread Cert.AdamwMidRefIdeal.nD Cert.AdamwMidRefIdeal.τ).loc Cert.AdamwMidRefIdeal.main_v6) = v2 c
          ∧ r.2.mem ((c.tc : Thread Cert.AdamwMidRefIdeal.nD Cert.AdamwMidRefIdeal.τ).loc Cert.AdamwMidRefIdeal.main_v12) = v3 c
          ∧ r.2.mem ((c.tc : Thread Cert.AdamwMidRefIdeal.nD Cert.AdamwMidRefIdeal.τ).loc Cert.AdamwMidRefIdeal.main_arg0) = m' ((c.tc : Thread Cert.AdamwMidRefIdeal.nD Cert.AdamwMidRefIdeal.τ).loc Cert.AdamwMidRefIdeal.main_arg0)
          ∧ r.2.mem ((c.tc : Thread Cert.AdamwMidRefIdeal.nD Cert.AdamwMidRefIdeal.τ).loc Cert.AdamwMidRefIdeal.main_arg1) = m' ((c.tc : Thread Cert.AdamwMidRefIdeal.nD Cert.AdamwMidRefIdeal.τ).loc Cert.AdamwMidRefIdeal.main_arg1)
          ∧ r.2.mem ((c.tc : Thread Cert.AdamwMidRefIdeal.nD Cert.AdamwMidRefIdeal.τ).loc Cert.AdamwMidRefIdeal.main_arg2) = m' ((c.tc : Thread Cert.AdamwMidRefIdeal.nD Cert.AdamwMidRefIdeal.τ).loc Cert.AdamwMidRefIdeal.main_arg2)
          ∧ r.2.mem ((c.tc : Thread Cert.AdamwMidRefIdeal.nD Cert.AdamwMidRefIdeal.τ).loc Cert.AdamwMidRefIdeal.main_arg3) = m' ((c.tc : Thread Cert.AdamwMidRefIdeal.nD Cert.AdamwMidRefIdeal.τ).loc Cert.AdamwMidRefIdeal.main_arg3))

def preserves_AdamwMain_AdamwMainIdeal : Prop :=
  True

def algebraic_AdamwMainIdeal_AdamwMainRefIdeal [hAdamwMainIdeal : Cert.AdamwMainIdeal.Facts] [hAdamwMainRefIdeal : Cert.AdamwMainRefIdeal.Facts] : Prop :=
  ∀ (m : (ℓ : Loc Cert.AdamwMainIdeal.nD Cert.AdamwMainIdeal.τ Cert.AdamwMainIdeal.sig) → Buf (Elt Ideal) ℓ) (g : Dev Cert.AdamwMainIdeal.nD → PrngReg)
    (m' : (ℓ : Loc Cert.AdamwMainRefIdeal.nD Cert.AdamwMainRefIdeal.τ Cert.AdamwMainRefIdeal.sig) → Buf (Elt Ideal) ℓ) (g' : Dev Cert.AdamwMainRefIdeal.nD → PrngReg), Pre_AdamwMainIdeal m →
    (∀ c : Dev Cert.AdamwMainIdeal.nD,
      m' ((c.tc : Thread Cert.AdamwMainRefIdeal.nD Cert.AdamwMainRefIdeal.τ).loc Cert.AdamwMainRefIdeal.main_arg0) = m ((c.tc : Thread Cert.AdamwMainIdeal.nD Cert.AdamwMainIdeal.τ).loc Cert.AdamwMainIdeal.main_arg0)
      ∧ m' ((c.tc : Thread Cert.AdamwMainRefIdeal.nD Cert.AdamwMainRefIdeal.τ).loc Cert.AdamwMainRefIdeal.main_arg1) = m ((c.tc : Thread Cert.AdamwMainIdeal.nD Cert.AdamwMainIdeal.τ).loc Cert.AdamwMainIdeal.main_arg1)
      ∧ m' ((c.tc : Thread Cert.AdamwMainRefIdeal.nD Cert.AdamwMainRefIdeal.τ).loc Cert.AdamwMainRefIdeal.main_arg2) = m ((c.tc : Thread Cert.AdamwMainIdeal.nD Cert.AdamwMainIdeal.τ).loc Cert.AdamwMainIdeal.main_arg2)
      ∧ m' ((c.tc : Thread Cert.AdamwMainRefIdeal.nD Cert.AdamwMainRefIdeal.τ).loc Cert.AdamwMainRefIdeal.main_arg3) = m ((c.tc : Thread Cert.AdamwMainIdeal.nD Cert.AdamwMainIdeal.τ).loc Cert.AdamwMainIdeal.main_arg3)) →
    ∃ (v0 : (c : Dev Cert.AdamwMainIdeal.nD) → Buf (Elt Ideal) ((c.tc : Thread Cert.AdamwMainIdeal.nD Cert.AdamwMainIdeal.τ).loc Cert.AdamwMainIdeal.main_v0_0)) (v1 : (c : Dev Cert.AdamwMainIdeal.nD) → Buf (Elt Ideal) ((c.tc : Thread Cert.AdamwMainIdeal.nD Cert.AdamwMainIdeal.τ).loc Cert.AdamwMainIdeal.main_v0_1)) (v2 : (c : Dev Cert.AdamwMainIdeal.nD) → Buf (Elt Ideal) ((c.tc : Thread Cert.AdamwMainIdeal.nD Cert.AdamwMainIdeal.τ).loc Cert.AdamwMainIdeal.main_v0_2)) (v3 : (c : Dev Cert.AdamwMainIdeal.nD) → Buf (Elt Ideal) ((c.tc : Thread Cert.AdamwMainIdeal.nD Cert.AdamwMainIdeal.τ).loc Cert.AdamwMainIdeal.main_v0_3)),
      θ_run (Cert.AdamwMainIdeal.defs (F := Ideal)) (onTc (τ := Cert.AdamwMainIdeal.τ) (Cert.AdamwMainIdeal.main (F := Ideal))) ⟨m, fun _ => 0, g⟩ (fun r => ∀ c : Dev Cert.AdamwMainIdeal.nD,
          r.2.mem ((c.tc : Thread Cert.AdamwMainIdeal.nD Cert.AdamwMainIdeal.τ).loc Cert.AdamwMainIdeal.main_v0_0) = v0 c
          ∧ r.2.mem ((c.tc : Thread Cert.AdamwMainIdeal.nD Cert.AdamwMainIdeal.τ).loc Cert.AdamwMainIdeal.main_v0_1) = v1 c
          ∧ r.2.mem ((c.tc : Thread Cert.AdamwMainIdeal.nD Cert.AdamwMainIdeal.τ).loc Cert.AdamwMainIdeal.main_v0_2) = v2 c
          ∧ r.2.mem ((c.tc : Thread Cert.AdamwMainIdeal.nD Cert.AdamwMainIdeal.τ).loc Cert.AdamwMainIdeal.main_v0_3) = v3 c
          ∧ r.2.mem ((c.tc : Thread Cert.AdamwMainIdeal.nD Cert.AdamwMainIdeal.τ).loc Cert.AdamwMainIdeal.main_arg0) = m ((c.tc : Thread Cert.AdamwMainIdeal.nD Cert.AdamwMainIdeal.τ).loc Cert.AdamwMainIdeal.main_arg0)
          ∧ r.2.mem ((c.tc : Thread Cert.AdamwMainIdeal.nD Cert.AdamwMainIdeal.τ).loc Cert.AdamwMainIdeal.main_arg1) = m ((c.tc : Thread Cert.AdamwMainIdeal.nD Cert.AdamwMainIdeal.τ).loc Cert.AdamwMainIdeal.main_arg1)
          ∧ r.2.mem ((c.tc : Thread Cert.AdamwMainIdeal.nD Cert.AdamwMainIdeal.τ).loc Cert.AdamwMainIdeal.main_arg2) = m ((c.tc : Thread Cert.AdamwMainIdeal.nD Cert.AdamwMainIdeal.τ).loc Cert.AdamwMainIdeal.main_arg2)
          ∧ r.2.mem ((c.tc : Thread Cert.AdamwMainIdeal.nD Cert.AdamwMainIdeal.τ).loc Cert.AdamwMainIdeal.main_arg3) = m ((c.tc : Thread Cert.AdamwMainIdeal.nD Cert.AdamwMainIdeal.τ).loc Cert.AdamwMainIdeal.main_arg3))
      ∧ θ_run (Cert.AdamwMainRefIdeal.defs (F := Ideal)) (onTc (τ := Cert.AdamwMainRefIdeal.τ) (Cert.AdamwMainRefIdeal.main (F := Ideal))) ⟨m', fun _ => 0, g'⟩ (fun r => ∀ c : Dev Cert.AdamwMainRefIdeal.nD,
          r.2.mem ((c.tc : Thread Cert.AdamwMainRefIdeal.nD Cert.AdamwMainRefIdeal.τ).loc Cert.AdamwMainRefIdeal.main_v1) = v0 c
          ∧ r.2.mem ((c.tc : Thread Cert.AdamwMainRefIdeal.nD Cert.AdamwMainRefIdeal.τ).loc Cert.AdamwMainRefIdeal.main_v25) = v1 c
          ∧ r.2.mem ((c.tc : Thread Cert.AdamwMainRefIdeal.nD Cert.AdamwMainRefIdeal.τ).loc Cert.AdamwMainRefIdeal.main_v6) = v2 c
          ∧ r.2.mem ((c.tc : Thread Cert.AdamwMainRefIdeal.nD Cert.AdamwMainRefIdeal.τ).loc Cert.AdamwMainRefIdeal.main_v12) = v3 c
          ∧ r.2.mem ((c.tc : Thread Cert.AdamwMainRefIdeal.nD Cert.AdamwMainRefIdeal.τ).loc Cert.AdamwMainRefIdeal.main_arg0) = m' ((c.tc : Thread Cert.AdamwMainRefIdeal.nD Cert.AdamwMainRefIdeal.τ).loc Cert.AdamwMainRefIdeal.main_arg0)
          ∧ r.2.mem ((c.tc : Thread Cert.AdamwMainRefIdeal.nD Cert.AdamwMainRefIdeal.τ).loc Cert.AdamwMainRefIdeal.main_arg1) = m' ((c.tc : Thread Cert.AdamwMainRefIdeal.nD Cert.AdamwMainRefIdeal.τ).loc Cert.AdamwMainRefIdeal.main_arg1)
          ∧ r.2.mem ((c.tc : Thread Cert.AdamwMainRefIdeal.nD Cert.AdamwMainRefIdeal.τ).loc Cert.AdamwMainRefIdeal.main_arg2) = m' ((c.tc : Thread Cert.AdamwMainRefIdeal.nD Cert.AdamwMainRefIdeal.τ).loc Cert.AdamwMainRefIdeal.main_arg2)
          ∧ r.2.mem ((c.tc : Thread Cert.AdamwMainRefIdeal.nD Cert.AdamwMainRefIdeal.τ).loc Cert.AdamwMainRefIdeal.main_arg3) = m' ((c.tc : Thread Cert.AdamwMainRefIdeal.nD Cert.AdamwMainRefIdeal.τ).loc Cert.AdamwMainRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v0) = v0 c
          ∧ r.2.mem ((c.tc : Thread Cert.AdamwSmallRefIdeal.nD Cert.AdamwSmallRefIdeal.τ).loc Cert.AdamwSmallRefIdeal.main_v24) = v1 c
          ∧ r.2.mem ((c.tc : Thread Cert.AdamwSmallRefIdeal.nD Cert.AdamwSmallRefIdeal.τ).loc Cert.AdamwSmallRefIdeal.main_v5) = v2 c
          ∧ r.2.mem ((c.tc : Thread Cert.AdamwSmallRefIdeal.nD Cert.AdamwSmallRefIdeal.τ).loc Cert.AdamwSmallRefIdeal.main_v11) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_LruGates_LruGatesIdeal : Prop :=
  True

def algebraic_LruGatesIdeal_LruGatesRefIdeal [hLruGatesIdeal : Cert.LruGatesIdeal.Facts] [hLruGatesRefIdeal : Cert.LruGatesRefIdeal.Facts] : Prop :=
  ∀ (m : (ℓ : Loc Cert.LruGatesIdeal.nD Cert.LruGatesIdeal.τ Cert.LruGatesIdeal.sig) → Buf (Elt Ideal) ℓ) (g : Dev Cert.LruGatesIdeal.nD → PrngReg)
    (m' : (ℓ : Loc Cert.LruGatesRefIdeal.nD Cert.LruGatesRefIdeal.τ Cert.LruGatesRefIdeal.sig) → Buf (Elt Ideal) ℓ) (g' : Dev Cert.LruGatesRefIdeal.nD → PrngReg), Pre_LruGatesIdeal m →
    (∀ c : Dev Cert.LruGatesIdeal.nD,
      m' ((c.tc : Thread Cert.LruGatesRefIdeal.nD Cert.LruGatesRefIdeal.τ).loc Cert.LruGatesRefIdeal.main_arg0) = m ((c.tc : Thread Cert.LruGatesIdeal.nD Cert.LruGatesIdeal.τ).loc Cert.LruGatesIdeal.main_arg0)
      ∧ m' ((c.tc : Thread Cert.LruGatesRefIdeal.nD Cert.LruGatesRefIdeal.τ).loc Cert.LruGatesRefIdeal.main_arg1) = m ((c.tc : Thread Cert.LruGatesIdeal.nD Cert.LruGatesIdeal.τ).loc Cert.LruGatesIdeal.main_arg1)) →
    ∃ (v0 : (c : Dev Cert.LruGatesIdeal.nD) → Buf (Elt Ideal) ((c.tc : Thread Cert.LruGatesIdeal.nD Cert.LruGatesIdeal.τ).loc Cert.LruGatesIdeal.main_v0)),
      θ_run (Cert.LruGatesIdeal.defs (F := Ideal)) (onTc (τ := Cert.LruGatesIdeal.τ) (Cert.LruGatesIdeal.main (F := Ideal))) ⟨m, fun _ => 0, g⟩ (fun r => ∀ c : Dev Cert.LruGatesIdeal.nD,
          r.2.mem ((c.tc : Thread Cert.LruGatesIdeal.nD Cert.LruGatesIdeal.τ).loc Cert.LruGatesIdeal.main_v0) = v0 c
          ∧ r.2.mem ((c.tc : Thread Cert.LruGatesIdeal.nD Cert.LruGatesIdeal.τ).loc Cert.LruGatesIdeal.main_arg0) = m ((c.tc : Thread Cert.LruGatesIdeal.nD Cert.LruGatesIdeal.τ).loc Cert.LruGatesIdeal.main_arg0)
          ∧ r.2.mem ((c.tc : Thread Cert.LruGatesIdeal.nD Cert.LruGatesIdeal.τ).loc Cert.LruGatesIdeal.main_arg1) = m ((c.tc : Thread Cert.LruGatesIdeal.nD Cert.LruGatesIdeal.τ).loc Cert.LruGatesIdeal.main_arg1))
      ∧ θ_run (Cert.LruGatesRefIdeal.defs (F := Ideal)) (onTc (τ := Cert.LruGatesRefIdeal.τ) (Cert.LruGatesRefIdeal.main (F := Ideal))) ⟨m', fun _ => 0, g'⟩ (fun r => ∀ c : Dev Cert.LruGatesRefIdeal.nD,
          r.2.mem ((c.tc : Thread Cert.LruGatesRefIdeal.nD Cert.LruGatesRefIdeal.τ).loc Cert.LruGatesRefIdeal.main_v0) = v0 c
          ∧ r.2.mem ((c.tc : Thread Cert.LruGatesRefIdeal.nD Cert.LruGatesRefIdeal.τ).loc Cert.LruGatesRefIdeal.main_arg0) = m' ((c.tc : Thread Cert.LruGatesRefIdeal.nD Cert.LruGatesRefIdeal.τ).loc Cert.LruGatesRefIdeal.main_arg0)
          ∧ r.2.mem ((c.tc : Thread Cert.LruGatesRefIdeal.nD Cert.LruGatesRefIdeal.τ).loc Cert.LruGatesRefIdeal.main_arg1) = m' ((c.tc : Thread Cert.LruGatesRefIdeal.nD Cert.LruGatesRefIdeal.τ).loc Cert.LruGatesRefIdeal.main_arg1))

def preserves_LruGatesDx_LruGatesDxIdeal : Prop :=
  True

def algebraic_LruGatesDxIdeal_LruGatesDxRefIdeal [hLruGatesDxIdeal : Cert.LruGatesDxIdeal.Facts] [hLruGatesDxRefIdeal : Cert.LruGatesDxRefIdeal.Facts] : Prop :=
  ∀ (m : (ℓ : Loc Cert.LruGatesDxIdeal.nD Cert.LruGatesDxIdeal.τ Cert.LruGatesDxIdeal.sig) → Buf (Elt Ideal) ℓ) (g : Dev Cert.LruGatesDxIdeal.nD → PrngReg)
    (m' : (ℓ : Loc Cert.LruGatesDxRefIdeal.nD Cert.LruGatesDxRefIdeal.τ Cert.LruGatesDxRefIdeal.sig) → Buf (Elt Ideal) ℓ) (g' : Dev Cert.LruGatesDxRefIdeal.nD → PrngReg), Pre_LruGatesDxIdeal m →
    (∀ c : Dev Cert.LruGatesDxIdeal.nD,
      m' ((c.tc : Thread Cert.LruGatesDxRefIdeal.nD Cert.LruGatesDxRefIdeal.τ).loc Cert.LruGatesDxRefIdeal.main_arg0) = m ((c.tc : Thread Cert.LruGatesDxIdeal.nD Cert.LruGatesDxIdeal.τ).loc Cert.LruGatesDxIdeal.main_arg0)
      ∧ m' ((c.tc : Thread Cert.LruGatesDxRefIdeal.nD Cert.LruGatesDxRefIdeal.τ).loc Cert.LruGatesDxRefIdeal.main_arg1) = m ((c.tc : Thread Cert.LruGatesDxIdeal.nD Cert.LruGatesDxIdeal.τ).loc Cert.LruGatesDxIdeal.main_arg1)
      ∧ m' ((c.tc : Thread Cert.LruGatesDxRefIdeal.nD Cert.LruGatesDxRefIdeal.τ).loc Cert.LruGatesDxRefIdeal.main_arg2) = m ((c.tc : Thread Cert.LruGatesDxIdeal.nD Cert.LruGatesDxIdeal.τ).loc Cert.LruGatesDxIdeal.main_arg2)) →
    ∃ (v0 : (c : Dev Cert.LruGatesDxIdeal.nD) → Buf (Elt Ideal) ((c.tc : Thread Cert.LruGatesDxIdeal.nD Cert.LruGatesDxIdeal.τ).loc Cert.LruGatesDxIdeal.main_v0)),
      θ_run (Cert.LruGatesDxIdeal.defs (F := Ideal)) (onTc (τ := Cert.LruGatesDxIdeal.τ) (Cert.LruGatesDxIdeal.main (F := Ideal))) ⟨m, fun _ => 0, g⟩ (fun r => ∀ c : Dev Cert.LruGatesDxIdeal.nD,
          r.2.mem ((c.tc : Thread Cert.LruGatesDxIdeal.nD Cert.LruGatesDxIdeal.τ).loc Cert.LruGatesDxIdeal.main_v0) = v0 c
          ∧ r.2.mem ((c.tc : Thread Cert.LruGatesDxIdeal.nD Cert.LruGatesDxIdeal.τ).loc Cert.LruGatesDxIdeal.main_arg0) = m ((c.tc : Thread Cert.LruGatesDxIdeal.nD Cert.LruGatesDxIdeal.τ).loc Cert.LruGatesDxIdeal.main_arg0)
          ∧ r.2.mem ((c.tc : Thread Cert.LruGatesDxIdeal.nD Cert.LruGatesDxIdeal.τ).loc Cert.LruGatesDxIdeal.main_arg1) = m ((c.tc : Thread Cert.LruGatesDxIdeal.nD Cert.LruGatesDxIdeal.τ).loc Cert.LruGatesDxIdeal.main_arg1)
          ∧ r.2.mem ((c.tc : Thread Cert.LruGatesDxIdeal.nD Cert.LruGatesDxIdeal.τ).loc Cert.LruGatesDxIdeal.main_arg2) = m ((c.tc : Thread Cert.LruGatesDxIdeal.nD Cert.LruGatesDxIdeal.τ).loc Cert.LruGatesDxIdeal.main_arg2))
      ∧ θ_run (Cert.LruGatesDxRefIdeal.defs (F := Ideal)) (onTc (τ := Cert.LruGatesDxRefIdeal.τ) (Cert.LruGatesDxRefIdeal.main (F := Ideal))) ⟨m', fun _ => 0, g'⟩ (fun r => ∀ c : Dev Cert.LruGatesDxRefIdeal.nD,
          r.2.mem ((c.tc : Thread Cert.LruGatesDxRefIdeal.nD Cert.LruGatesDxRefIdeal.τ).loc Cert.LruGatesDxRefIdeal.main_v3) = v0 c
          ∧ r.2.mem ((c.tc : Thread Cert.LruGatesDxRefIdeal.nD Cert.LruGatesDxRefIdeal.τ).loc Cert.LruGatesDxRefIdeal.main_arg0) = m' ((c.tc : Thread Cert.LruGatesDxRefIdeal.nD Cert.LruGatesDxRefIdeal.τ).loc Cert.LruGatesDxRefIdeal.main_arg0)
          ∧ r.2.mem ((c.tc : Thread Cert.LruGatesDxRefIdeal.nD Cert.LruGatesDxRefIdeal.τ).loc Cert.LruGatesDxRefIdeal.main_arg1) = m' ((c.tc : Thread Cert.LruGatesDxRefIdeal.nD Cert.LruGatesDxRefIdeal.τ).loc Cert.LruGatesDxRefIdeal.main_arg1)
          ∧ r.2.mem ((c.tc : Thread Cert.LruGatesDxRefIdeal.nD Cert.LruGatesDxRefIdeal.τ).loc Cert.LruGatesDxRefIdeal.main_arg2) = m' ((c.tc : Thread Cert.LruGatesDxRefIdeal.nD Cert.LruGatesDxRefIdeal.τ).loc Cert.LruGatesDxRefIdeal.main_arg2))

def preserves_LruGatesDw_LruGatesDwIdeal : Prop :=
  True

def algebraic_LruGatesDwIdeal_LruGatesDwRefIdeal [hLruGatesDwIdeal : Cert.LruGatesDwIdeal.Facts] [hLruGatesDwRefIdeal : Cert.LruGatesDwRefIdeal.Facts] : Prop :=
  ∀ (m : (ℓ : Loc Cert.LruGatesDwIdeal.nD Cert.LruGatesDwIdeal.τ Cert.LruGatesDwIdeal.sig) → Buf (Elt Ideal) ℓ) (g : Dev Cert.LruGatesDwIdeal.nD → PrngReg)
    (m' : (ℓ : Loc Cert.LruGatesDwRefIdeal.nD Cert.LruGatesDwRefIdeal.τ Cert.LruGatesDwRefIdeal.sig) → Buf (Elt Ideal) ℓ) (g' : Dev Cert.LruGatesDwRefIdeal.nD → PrngReg), Pre_LruGatesDwIdeal m →
    (∀ c : Dev Cert.LruGatesDwIdeal.nD,
      m' ((c.tc : Thread Cert.LruGatesDwRefIdeal.nD Cert.LruGatesDwRefIdeal.τ).loc Cert.LruGatesDwRefIdeal.main_arg0) = m ((c.tc : Thread Cert.LruGatesDwIdeal.nD Cert.LruGatesDwIdeal.τ).loc Cert.LruGatesDwIdeal.main_arg0)
      ∧ m' ((c.tc : Thread Cert.LruGatesDwRefIdeal.nD Cert.LruGatesDwRefIdeal.τ).loc Cert.LruGatesDwRefIdeal.main_arg1) = m ((c.tc : Thread Cert.LruGatesDwIdeal.nD Cert.LruGatesDwIdeal.τ).loc Cert.LruGatesDwIdeal.main_arg1)) →
    ∃ (v0 : (c : Dev Cert.LruGatesDwIdeal.nD) → Buf (Elt Ideal) ((c.tc : Thread Cert.LruGatesDwIdeal.nD Cert.LruGatesDwIdeal.τ).loc Cert.LruGatesDwIdeal.main_v0)),
      θ_run (Cert.LruGatesDwIdeal.defs (F := Ideal)) (onTc (τ := Cert.LruGatesDwIdeal.τ) (Cert.LruGatesDwIdeal.main (F := Ideal))) ⟨m, fun _ => 0, g⟩ (fun r => ∀ c : Dev Cert.LruGatesDwIdeal.nD,
          r.2.mem ((c.tc : Thread Cert.LruGatesDwIdeal.nD Cert.LruGatesDwIdeal.τ).loc Cert.LruGatesDwIdeal.main_v0) = v0 c
          ∧ r.2.mem ((c.tc : Thread Cert.LruGatesDwIdeal.nD Cert.LruGatesDwIdeal.τ).loc Cert.LruGatesDwIdeal.main_arg0) = m ((c.tc : Thread Cert.LruGatesDwIdeal.nD Cert.LruGatesDwIdeal.τ).loc Cert.LruGatesDwIdeal.main_arg0)
          ∧ r.2.mem ((c.tc : Thread Cert.LruGatesDwIdeal.nD Cert.LruGatesDwIdeal.τ).loc Cert.LruGatesDwIdeal.main_arg1) = m ((c.tc : Thread Cert.LruGatesDwIdeal.nD Cert.LruGatesDwIdeal.τ).loc Cert.LruGatesDwIdeal.main_arg1))
      ∧ θ_run (Cert.LruGatesDwRefIdeal.defs (F := Ideal)) (onTc (τ := Cert.LruGatesDwRefIdeal.τ) (Cert.LruGatesDwRefIdeal.main (F := Ideal))) ⟨m', fun _ => 0, g'⟩ (fun r => ∀ c : Dev Cert.LruGatesDwRefIdeal.nD,
          r.2.mem ((c.tc : Thread Cert.LruGatesDwRefIdeal.nD Cert.LruGatesDwRefIdeal.τ).loc Cert.LruGatesDwRefIdeal.main_v3) = v0 c
          ∧ r.2.mem ((c.tc : Thread Cert.LruGatesDwRefIdeal.nD Cert.LruGatesDwRefIdeal.τ).loc Cert.LruGatesDwRefIdeal.main_arg0) = m' ((c.tc : Thread Cert.LruGatesDwRefIdeal.nD Cert.LruGatesDwRefIdeal.τ).loc Cert.LruGatesDwRefIdeal.main_arg0)
          ∧ r.2.mem ((c.tc : Thread Cert.LruGatesDwRefIdeal.nD Cert.LruGatesDwRefIdeal.τ).loc Cert.LruGatesDwRefIdeal.main_arg1) = m' ((c.tc : Thread Cert.LruGatesDwRefIdeal.nD Cert.LruGatesDwRefIdeal.τ).loc Cert.LruGatesDwRefIdeal.main_arg1))

def preserves_S5Bu_S5BuIdeal : Prop :=
  True

def algebraic_S5BuIdeal_S5BuRefIdeal [hS5BuIdeal : Cert.S5BuIdeal.Facts] [hS5BuRefIdeal : Cert.S5BuRefIdeal.Facts] : Prop :=
  ∀ (m : (ℓ : Loc Cert.S5BuIdeal.nD Cert.S5BuIdeal.τ Cert.S5BuIdeal.sig) → Buf (Elt Ideal) ℓ) (g : Dev Cert.S5BuIdeal.nD → PrngReg)
    (m' : (ℓ : Loc Cert.S5BuRefIdeal.nD Cert.S5BuRefIdeal.τ Cert.S5BuRefIdeal.sig) → Buf (Elt Ideal) ℓ) (g' : Dev Cert.S5BuRefIdeal.nD → PrngReg), Pre_S5BuIdeal m →
    (∀ c : Dev Cert.S5BuIdeal.nD,
      m' ((c.tc : Thread Cert.S5BuRefIdeal.nD Cert.S5BuRefIdeal.τ).loc Cert.S5BuRefIdeal.main_arg0) = m ((c.tc : Thread Cert.S5BuIdeal.nD Cert.S5BuIdeal.τ).loc Cert.S5BuIdeal.main_arg0)
      ∧ m' ((c.tc : Thread Cert.S5BuRefIdeal.nD Cert.S5BuRefIdeal.τ).loc Cert.S5BuRefIdeal.main_arg1) = m ((c.tc : Thread Cert.S5BuIdeal.nD Cert.S5BuIdeal.τ).loc Cert.S5BuIdeal.main_arg1)) →
    ∃ (v0 : (c : Dev Cert.S5BuIdeal.nD) → Buf (Elt Ideal) ((c.tc : Thread Cert.S5BuIdeal.nD Cert.S5BuIdeal.τ).loc Cert.S5BuIdeal.main_v0)),
      θ_run (Cert.S5BuIdeal.defs (F := Ideal)) (onTc (τ := Cert.S5BuIdeal.τ) (Cert.S5BuIdeal.main (F := Ideal))) ⟨m, fun _ => 0, g⟩ (fun r => ∀ c : Dev Cert.S5BuIdeal.nD,
          r.2.mem ((c.tc : Thread Cert.S5BuIdeal.nD Cert.S5BuIdeal.τ).loc Cert.S5BuIdeal.main_v0) = v0 c
          ∧ r.2.mem ((c.tc : Thread Cert.S5BuIdeal.nD Cert.S5BuIdeal.τ).loc Cert.S5BuIdeal.main_arg0) = m ((c.tc : Thread Cert.S5BuIdeal.nD Cert.S5BuIdeal.τ).loc Cert.S5BuIdeal.main_arg0)
          ∧ r.2.mem ((c.tc : Thread Cert.S5BuIdeal.nD Cert.S5BuIdeal.τ).loc Cert.S5BuIdeal.main_arg1) = m ((c.tc : Thread Cert.S5BuIdeal.nD Cert.S5BuIdeal.τ).loc Cert.S5BuIdeal.main_arg1))
      ∧ θ_run (Cert.S5BuRefIdeal.defs (F := Ideal)) (onTc (τ := Cert.S5BuRefIdeal.τ) (Cert.S5BuRefIdeal.main (F := Ideal))) ⟨m', fun _ => 0, g'⟩ (fun r => ∀ c : Dev Cert.S5BuRefIdeal.nD,
          r.2.mem ((c.tc : Thread Cert.S5BuRefIdeal.nD Cert.S5BuRefIdeal.τ).loc Cert.S5BuRefIdeal.main_v0) = v0 c
          ∧ r.2.mem ((c.tc : Thread Cert.S5BuRefIdeal.nD Cert.S5BuRefIdeal.τ).loc Cert.S5BuRefIdeal.main_arg0) = m' ((c.tc : Thread Cert.S5BuRefIdeal.nD Cert.S5BuRefIdeal.τ).loc Cert.S5BuRefIdeal.main_arg0)
          ∧ r.2.mem ((c.tc : Thread Cert.S5BuRefIdeal.nD Cert.S5BuRefIdeal.τ).loc Cert.S5BuRefIdeal.main_arg1) = m' ((c.tc : Thread Cert.S5BuRefIdeal.nD Cert.S5BuRefIdeal.τ).loc Cert.S5BuRefIdeal.main_arg1))

def preserves_S5Dx_S5DxIdeal : Prop :=
  True

def algebraic_S5DxIdeal_S5DxRefIdeal [hS5DxIdeal : Cert.S5DxIdeal.Facts] [hS5DxRefIdeal : Cert.S5DxRefIdeal.Facts] : Prop :=
  ∀ (m : (ℓ : Loc Cert.S5DxIdeal.nD Cert.S5DxIdeal.τ Cert.S5DxIdeal.sig) → Buf (Elt Ideal) ℓ) (g : Dev Cert.S5DxIdeal.nD → PrngReg)
    (m' : (ℓ : Loc Cert.S5DxRefIdeal.nD Cert.S5DxRefIdeal.τ Cert.S5DxRefIdeal.sig) → Buf (Elt Ideal) ℓ) (g' : Dev Cert.S5DxRefIdeal.nD → PrngReg), Pre_S5DxIdeal m →
    (∀ c : Dev Cert.S5DxIdeal.nD,
      m' ((c.tc : Thread Cert.S5DxRefIdeal.nD Cert.S5DxRefIdeal.τ).loc Cert.S5DxRefIdeal.main_arg0) = m ((c.tc : Thread Cert.S5DxIdeal.nD Cert.S5DxIdeal.τ).loc Cert.S5DxIdeal.main_arg0)
      ∧ m' ((c.tc : Thread Cert.S5DxRefIdeal.nD Cert.S5DxRefIdeal.τ).loc Cert.S5DxRefIdeal.main_arg1) = m ((c.tc : Thread Cert.S5DxIdeal.nD Cert.S5DxIdeal.τ).loc Cert.S5DxIdeal.main_arg1)) →
    ∃ (v0 : (c : Dev Cert.S5DxIdeal.nD) → Buf (Elt Ideal) ((c.tc : Thread Cert.S5DxIdeal.nD Cert.S5DxIdeal.τ).loc Cert.S5DxIdeal.main_v0)),
      θ_run (Cert.S5DxIdeal.defs (F := Ideal)) (onTc (τ := Cert.S5DxIdeal.τ) (Cert.S5DxIdeal.main (F := Ideal))) ⟨m, fun _ => 0, g⟩ (fun r => ∀ c : Dev Cert.S5DxIdeal.nD,
          r.2.mem ((c.tc : Thread Cert.S5DxIdeal.nD Cert.S5DxIdeal.τ).loc Cert.S5DxIdeal.main_v0) = v0 c
          ∧ r.2.mem ((c.tc : Thread Cert.S5DxIdeal.nD Cert.S5DxIdeal.τ).loc Cert.S5DxIdeal.main_arg0) = m ((c.tc : Thread Cert.S5DxIdeal.nD Cert.S5DxIdeal.τ).loc Cert.S5DxIdeal.main_arg0)
          ∧ r.2.mem ((c.tc : Thread Cert.S5DxIdeal.nD Cert.S5DxIdeal.τ).loc Cert.S5DxIdeal.main_arg1) = m ((c.tc : Thread Cert.S5DxIdeal.nD Cert.S5DxIdeal.τ).loc Cert.S5DxIdeal.main_arg1))
      ∧ θ_run (Cert.S5DxRefIdeal.defs (F := Ideal)) (onTc (τ := Cert.S5DxRefIdeal.τ) (Cert.S5DxRefIdeal.main (F := Ideal))) ⟨m', fun _ => 0, g'⟩ (fun r => ∀ c : Dev Cert.S5DxRefIdeal.nD,
          r.2.mem ((c.tc : Thread Cert.S5DxRefIdeal.nD Cert.S5DxRefIdeal.τ).loc Cert.S5DxRefIdeal.main_v2) = v0 c
          ∧ r.2.mem ((c.tc : Thread Cert.S5DxRefIdeal.nD Cert.S5DxRefIdeal.τ).loc Cert.S5DxRefIdeal.main_arg0) = m' ((c.tc : Thread Cert.S5DxRefIdeal.nD Cert.S5DxRefIdeal.τ).loc Cert.S5DxRefIdeal.main_arg0)
          ∧ r.2.mem ((c.tc : Thread Cert.S5DxRefIdeal.nD Cert.S5DxRefIdeal.τ).loc Cert.S5DxRefIdeal.main_arg1) = m' ((c.tc : Thread Cert.S5DxRefIdeal.nD Cert.S5DxRefIdeal.τ).loc Cert.S5DxRefIdeal.main_arg1))

def preserves_S5Y_S5YIdeal : Prop :=
  True

def algebraic_S5YIdeal_S5YRefIdeal [hS5YIdeal : Cert.S5YIdeal.Facts] [hS5YRefIdeal : Cert.S5YRefIdeal.Facts] : Prop :=
  ∀ (m : (ℓ : Loc Cert.S5YIdeal.nD Cert.S5YIdeal.τ Cert.S5YIdeal.sig) → Buf (Elt Ideal) ℓ) (g : Dev Cert.S5YIdeal.nD → PrngReg)
    (m' : (ℓ : Loc Cert.S5YRefIdeal.nD Cert.S5YRefIdeal.τ Cert.S5YRefIdeal.sig) → Buf (Elt Ideal) ℓ) (g' : Dev Cert.S5YRefIdeal.nD → PrngReg), Pre_S5YIdeal m →
    (∀ c : Dev Cert.S5YIdeal.nD,
      m' ((c.tc : Thread Cert.S5YRefIdeal.nD Cert.S5YRefIdeal.τ).loc Cert.S5YRefIdeal.main_arg0) = m ((c.tc : Thread Cert.S5YIdeal.nD Cert.S5YIdeal.τ).loc Cert.S5YIdeal.main_arg0)
      ∧ m' ((c.tc : Thread Cert.S5YRefIdeal.nD Cert.S5YRefIdeal.τ).loc Cert.S5YRefIdeal.main_arg1) = m ((c.tc : Thread Cert.S5YIdeal.nD Cert.S5YIdeal.τ).loc Cert.S5YIdeal.main_arg1)) →
    ∃ (v0 : (c : Dev Cert.S5YIdeal.nD) → Buf (Elt Ideal) ((c.tc : Thread Cert.S5YIdeal.nD Cert.S5YIdeal.τ).loc Cert.S5YIdeal.main_v0)),
      θ_run (Cert.S5YIdeal.defs (F := Ideal)) (onTc (τ := Cert.S5YIdeal.τ) (Cert.S5YIdeal.main (F := Ideal))) ⟨m, fun _ => 0, g⟩ (fun r => ∀ c : Dev Cert.S5YIdeal.nD,
          r.2.mem ((c.tc : Thread Cert.S5YIdeal.nD Cert.S5YIdeal.τ).loc Cert.S5YIdeal.main_v0) = v0 c
          ∧ r.2.mem ((c.tc : Thread Cert.S5YIdeal.nD Cert.S5YIdeal.τ).loc Cert.S5YIdeal.main_arg0) = m ((c.tc : Thread Cert.S5YIdeal.nD Cert.S5YIdeal.τ).loc Cert.S5YIdeal.main_arg0)
          ∧ r.2.mem ((c.tc : Thread Cert.S5YIdeal.nD Cert.S5YIdeal.τ).loc Cert.S5YIdeal.main_arg1) = m ((c.tc : Thread Cert.S5YIdeal.nD Cert.S5YIdeal.τ).loc Cert.S5YIdeal.main_arg1))
      ∧ θ_run (Cert.S5YRefIdeal.defs (F := Ideal)) (onTc (τ := Cert.S5YRefIdeal.τ) (Cert.S5YRefIdeal.main (F := Ideal))) ⟨m', fun _ => 0, g'⟩ (fun r => ∀ c : Dev Cert.S5YRefIdeal.nD,
          r.2.mem ((c.tc : Thread Cert.S5YRefIdeal.nD Cert.S5YRefIdeal.τ).loc Cert.S5YRefIdeal.main_v0) = v0 c
          ∧ r.2.mem ((c.tc : Thread Cert.S5YRefIdeal.nD Cert.S5YRefIdeal.τ).loc Cert.S5YRefIdeal.main_arg0) = m' ((c.tc : Thread Cert.S5YRefIdeal.nD Cert.S5YRefIdeal.τ).loc Cert.S5YRefIdeal.main_arg0)
          ∧ r.2.mem ((c.tc : Thread Cert.S5YRefIdeal.nD Cert.S5YRefIdeal.τ).loc Cert.S5YRefIdeal.main_arg1) = m' ((c.tc : Thread Cert.S5YRefIdeal.nD Cert.S5YRefIdeal.τ).loc Cert.S5YRefIdeal.main_arg1))

def preserves_S5YAdd_S5YAddIdeal : Prop :=
  True

def algebraic_S5YAddIdeal_S5YAddRefIdeal [hS5YAddIdeal : Cert.S5YAddIdeal.Facts] [hS5YAddRefIdeal : Cert.S5YAddRefIdeal.Facts] : Prop :=
  ∀ (m : (ℓ : Loc Cert.S5YAddIdeal.nD Cert.S5YAddIdeal.τ Cert.S5YAddIdeal.sig) → Buf (Elt Ideal) ℓ) (g : Dev Cert.S5YAddIdeal.nD → PrngReg)
    (m' : (ℓ : Loc Cert.S5YAddRefIdeal.nD Cert.S5YAddRefIdeal.τ Cert.S5YAddRefIdeal.sig) → Buf (Elt Ideal) ℓ) (g' : Dev Cert.S5YAddRefIdeal.nD → PrngReg), Pre_S5YAddIdeal m →
    (∀ c : Dev Cert.S5YAddIdeal.nD,
      m' ((c.tc : Thread Cert.S5YAddRefIdeal.nD Cert.S5YAddRefIdeal.τ).loc Cert.S5YAddRefIdeal.main_arg0) = m ((c.tc : Thread Cert.S5YAddIdeal.nD Cert.S5YAddIdeal.τ).loc Cert.S5YAddIdeal.main_arg0)
      ∧ m' ((c.tc : Thread Cert.S5YAddRefIdeal.nD Cert.S5YAddRefIdeal.τ).loc Cert.S5YAddRefIdeal.main_arg1) = m ((c.tc : Thread Cert.S5YAddIdeal.nD Cert.S5YAddIdeal.τ).loc Cert.S5YAddIdeal.main_arg1)
      ∧ m' ((c.tc : Thread Cert.S5YAddRefIdeal.nD Cert.S5YAddRefIdeal.τ).loc Cert.S5YAddRefIdeal.main_arg2) = m ((c.tc : Thread Cert.S5YAddIdeal.nD Cert.S5YAddIdeal.τ).loc Cert.S5YAddIdeal.main_arg2)) →
    ∃ (v0 : (c : Dev Cert.S5YAddIdeal.nD) → Buf (Elt Ideal) ((c.tc : Thread Cert.S5YAddIdeal.nD Cert.S5YAddIdeal.τ).loc Cert.S5YAddIdeal.main_v0)),
      θ_run (Cert.S5YAddIdeal.defs (F := Ideal)) (onTc (τ := Cert.S5YAddIdeal.τ) (Cert.S5YAddIdeal.main (F := Ideal))) ⟨m, fun _ => 0, g⟩ (fun r => ∀ c : Dev Cert.S5YAddIdeal.nD,
          r.2.mem ((c.tc : Thread Cert.S5YAddIdeal.nD Cert.S5YAddIdeal.τ).loc Cert.S5YAddIdeal.main_v0) = v0 c
          ∧ r.2.mem ((c.tc : Thread Cert.S5YAddIdeal.nD Cert.S5YAddIdeal.τ).loc Cert.S5YAddIdeal.main_arg0) = m ((c.tc : Thread Cert.S5YAddIdeal.nD Cert.S5YAddIdeal.τ).loc Cert.S5YAddIdeal.main_arg0)
          ∧ r.2.mem ((c.tc : Thread Cert.S5YAddIdeal.nD Cert.S5YAddIdeal.τ).loc Cert.S5YAddIdeal.main_arg1) = m ((c.tc : Thread Cert.S5YAddIdeal.nD Cert.S5YAddIdeal.τ).loc Cert.S5YAddIdeal.main_arg1)
          ∧ r.2.mem ((c.tc : Thread Cert.S5YAddIdeal.nD Cert.S5YAddIdeal.τ).loc Cert.S5YAddIdeal.main_arg2) = m ((c.tc : Thread Cert.S5YAddIdeal.nD Cert.S5YAddIdeal.τ).loc Cert.S5YAddIdeal.main_arg2))
      ∧ θ_run (Cert.S5YAddRefIdeal.defs (F := Ideal)) (onTc (τ := Cert.S5YAddRefIdeal.τ) (Cert.S5YAddRefIdeal.main (F := Ideal))) ⟨m', fun _ => 0, g'⟩ (fun r => ∀ c : Dev Cert.S5YAddRefIdeal.nD,
          r.2.mem ((c.tc : Thread Cert.S5YAddRefIdeal.nD Cert.S5YAddRefIdeal.τ).loc Cert.S5YAddRefIdeal.main_v1) = v0 c
          ∧ r.2.mem ((c.tc : Thread Cert.S5YAddRefIdeal.nD Cert.S5YAddRefIdeal.τ).loc Cert.S5YAddRefIdeal.main_arg0) = m' ((c.tc : Thread Cert.S5YAddRefIdeal.nD Cert.S5YAddRefIdeal.τ).loc Cert.S5YAddRefIdeal.main_arg0)
          ∧ r.2.mem ((c.tc : Thread Cert.S5YAddRefIdeal.nD Cert.S5YAddRefIdeal.τ).loc Cert.S5YAddRefIdeal.main_arg1) = m' ((c.tc : Thread Cert.S5YAddRefIdeal.nD Cert.S5YAddRefIdeal.τ).loc Cert.S5YAddRefIdeal.main_arg1)
          ∧ r.2.mem ((c.tc : Thread Cert.S5YAddRefIdeal.nD Cert.S5YAddRefIdeal.τ).loc Cert.S5YAddRefIdeal.main_arg2) = m' ((c.tc : Thread Cert.S5YAddRefIdeal.nD Cert.S5YAddRefIdeal.τ).loc Cert.S5YAddRefIdeal.main_arg2))

def preserves_S5Dc_S5DcIdeal : Prop :=
  True

def algebraic_S5DcIdeal_S5DcRefIdeal [hS5DcIdeal : Cert.S5DcIdeal.Facts] [hS5DcRefIdeal : Cert.S5DcRefIdeal.Facts] : Prop :=
  ∀ (m : (ℓ : Loc Cert.S5DcIdeal.nD Cert.S5DcIdeal.τ Cert.S5DcIdeal.sig) → Buf (Elt Ideal) ℓ) (g : Dev Cert.S5DcIdeal.nD → PrngReg)
    (m' : (ℓ : Loc Cert.S5DcRefIdeal.nD Cert.S5DcRefIdeal.τ Cert.S5DcRefIdeal.sig) → Buf (Elt Ideal) ℓ) (g' : Dev Cert.S5DcRefIdeal.nD → PrngReg), Pre_S5DcIdeal m →
    (∀ c : Dev Cert.S5DcIdeal.nD,
      m' ((c.tc : Thread Cert.S5DcRefIdeal.nD Cert.S5DcRefIdeal.τ).loc Cert.S5DcRefIdeal.main_arg0) = m ((c.tc : Thread Cert.S5DcIdeal.nD Cert.S5DcIdeal.τ).loc Cert.S5DcIdeal.main_arg0)
      ∧ m' ((c.tc : Thread Cert.S5DcRefIdeal.nD Cert.S5DcRefIdeal.τ).loc Cert.S5DcRefIdeal.main_arg1) = m ((c.tc : Thread Cert.S5DcIdeal.nD Cert.S5DcIdeal.τ).loc Cert.S5DcIdeal.main_arg1)) →
    ∃ (v0 : (c : Dev Cert.S5DcIdeal.nD) → Buf (Elt Ideal) ((c.tc : Thread Cert.S5DcIdeal.nD Cert.S5DcIdeal.τ).loc Cert.S5DcIdeal.main_v0)),
      θ_run (Cert.S5DcIdeal.defs (F := Ideal)) (onTc (τ := Cert.S5DcIdeal.τ) (Cert.S5DcIdeal.main (F := Ideal))) ⟨m, fun _ => 0, g⟩ (fun r => ∀ c : Dev Cert.S5DcIdeal.nD,
          r.2.mem ((c.tc : Thread Cert.S5DcIdeal.nD Cert.S5DcIdeal.τ).loc Cert.S5DcIdeal.main_v0) = v0 c
          ∧ r.2.mem ((c.tc : Thread Cert.S5DcIdeal.nD Cert.S5DcIdeal.τ).loc Cert.S5DcIdeal.main_arg0) = m ((c.tc : Thread Cert.S5DcIdeal.nD Cert.S5DcIdeal.τ).loc Cert.S5DcIdeal.main_arg0)
          ∧ r.2.mem ((c.tc : Thread Cert.S5DcIdeal.nD Cert.S5DcIdeal.τ).loc Cert.S5DcIdeal.main_arg1) = m ((c.tc : Thread Cert.S5DcIdeal.nD Cert.S5DcIdeal.τ).loc Cert.S5DcIdeal.main_arg1))
      ∧ θ_run (Cert.S5DcRefIdeal.defs (F := Ideal)) (onTc (τ := Cert.S5DcRefIdeal.τ) (Cert.S5DcRefIdeal.main (F := Ideal))) ⟨m', fun _ => 0, g'⟩ (fun r => ∀ c : Dev Cert.S5DcRefIdeal.nD,
          r.2.mem ((c.tc : Thread Cert.S5DcRefIdeal.nD Cert.S5DcRefIdeal.τ).loc Cert.S5DcRefIdeal.main_v3) = v0 c
          ∧ r.2.mem ((c.tc : Thread Cert.S5DcRefIdeal.nD Cert.S5DcRefIdeal.τ).loc Cert.S5DcRefIdeal.main_arg0) = m' ((c.tc : Thread Cert.S5DcRefIdeal.nD Cert.S5DcRefIdeal.τ).loc Cert.S5DcRefIdeal.main_arg0)
          ∧ r.2.mem ((c.tc : Thread Cert.S5DcRefIdeal.nD Cert.S5DcRefIdeal.τ).loc Cert.S5DcRefIdeal.main_arg1) = m' ((c.tc : Thread Cert.S5DcRefIdeal.nD Cert.S5DcRefIdeal.τ).loc Cert.S5DcRefIdeal.main_arg1))

def preserves_S5Du_S5DuIdeal : Prop :=
  True

def algebraic_S5DuIdeal_S5DuRefIdeal [hS5DuIdeal : Cert.S5DuIdeal.Facts] [hS5DuRefIdeal : Cert.S5DuRefIdeal.Facts] : Prop :=
  ∀ (m : (ℓ : Loc Cert.S5DuIdeal.nD Cert.S5DuIdeal.τ Cert.S5DuIdeal.sig) → Buf (Elt Ideal) ℓ) (g : Dev Cert.S5DuIdeal.nD → PrngReg)
    (m' : (ℓ : Loc Cert.S5DuRefIdeal.nD Cert.S5DuRefIdeal.τ Cert.S5DuRefIdeal.sig) → Buf (Elt Ideal) ℓ) (g' : Dev Cert.S5DuRefIdeal.nD → PrngReg), Pre_S5DuIdeal m →
    (∀ c : Dev Cert.S5DuIdeal.nD,
      m' ((c.tc : Thread Cert.S5DuRefIdeal.nD Cert.S5DuRefIdeal.τ).loc Cert.S5DuRefIdeal.main_arg0) = m ((c.tc : Thread Cert.S5DuIdeal.nD Cert.S5DuIdeal.τ).loc Cert.S5DuIdeal.main_arg0)
      ∧ m' ((c.tc : Thread Cert.S5DuRefIdeal.nD Cert.S5DuRefIdeal.τ).loc Cert.S5DuRefIdeal.main_arg1) = m ((c.tc : Thread Cert.S5DuIdeal.nD Cert.S5DuIdeal.τ).loc Cert.S5DuIdeal.main_arg1)
      ∧ m' ((c.tc : Thread Cert.S5DuRefIdeal.nD Cert.S5DuRefIdeal.τ).loc Cert.S5DuRefIdeal.main_arg2) = m ((c.tc : Thread Cert.S5DuIdeal.nD Cert.S5DuIdeal.τ).loc Cert.S5DuIdeal.main_arg2)) →
    ∃ (v0 : (c : Dev Cert.S5DuIdeal.nD) → Buf (Elt Ideal) ((c.tc : Thread Cert.S5DuIdeal.nD Cert.S5DuIdeal.τ).loc Cert.S5DuIdeal.main_v0)),
      θ_run (Cert.S5DuIdeal.defs (F := Ideal)) (onTc (τ := Cert.S5DuIdeal.τ) (Cert.S5DuIdeal.main (F := Ideal))) ⟨m, fun _ => 0, g⟩ (fun r => ∀ c : Dev Cert.S5DuIdeal.nD,
          r.2.mem ((c.tc : Thread Cert.S5DuIdeal.nD Cert.S5DuIdeal.τ).loc Cert.S5DuIdeal.main_v0) = v0 c
          ∧ r.2.mem ((c.tc : Thread Cert.S5DuIdeal.nD Cert.S5DuIdeal.τ).loc Cert.S5DuIdeal.main_arg0) = m ((c.tc : Thread Cert.S5DuIdeal.nD Cert.S5DuIdeal.τ).loc Cert.S5DuIdeal.main_arg0)
          ∧ r.2.mem ((c.tc : Thread Cert.S5DuIdeal.nD Cert.S5DuIdeal.τ).loc Cert.S5DuIdeal.main_arg1) = m ((c.tc : Thread Cert.S5DuIdeal.nD Cert.S5DuIdeal.τ).loc Cert.S5DuIdeal.main_arg1)
          ∧ r.2.mem ((c.tc : Thread Cert.S5DuIdeal.nD Cert.S5DuIdeal.τ).loc Cert.S5DuIdeal.main_arg2) = m ((c.tc : Thread Cert.S5DuIdeal.nD Cert.S5DuIdeal.τ).loc Cert.S5DuIdeal.main_arg2))
      ∧ θ_run (Cert.S5DuRefIdeal.defs (F := Ideal)) (onTc (τ := Cert.S5DuRefIdeal.τ) (Cert.S5DuRefIdeal.main (F := Ideal))) ⟨m', fun _ => 0, g'⟩ (fun r => ∀ c : Dev Cert.S5DuRefIdeal.nD,
          r.2.mem ((c.tc : Thread Cert.S5DuRefIdeal.nD Cert.S5DuRefIdeal.τ).loc Cert.S5DuRefIdeal.main_v3) = v0 c
          ∧ r.2.mem ((c.tc : Thread Cert.S5DuRefIdeal.nD Cert.S5DuRefIdeal.τ).loc Cert.S5DuRefIdeal.main_arg0) = m' ((c.tc : Thread Cert.S5DuRefIdeal.nD Cert.S5DuRefIdeal.τ).loc Cert.S5DuRefIdeal.main_arg0)
          ∧ r.2.mem ((c.tc : Thread Cert.S5DuRefIdeal.nD Cert.S5DuRefIdeal.τ).loc Cert.S5DuRefIdeal.main_arg1) = m' ((c.tc : Thread Cert.S5DuRefIdeal.nD Cert.S5DuRefIdeal.τ).loc Cert.S5DuRefIdeal.main_arg1)
          ∧ r.2.mem ((c.tc : Thread Cert.S5DuRefIdeal.nD Cert.S5DuRefIdeal.τ).loc Cert.S5DuRefIdeal.main_arg2) = m' ((c.tc : Thread Cert.S5DuRefIdeal.nD Cert.S5DuRefIdeal.τ).loc Cert.S5DuRefIdeal.main_arg2))

def preserves_S5Db_S5DbIdeal : Prop :=
  True

def algebraic_S5DbIdeal_S5DbRefIdeal [hS5DbIdeal : Cert.S5DbIdeal.Facts] [hS5DbRefIdeal : Cert.S5DbRefIdeal.Facts] : Prop :=
  ∀ (m : (ℓ : Loc Cert.S5DbIdeal.nD Cert.S5DbIdeal.τ Cert.S5DbIdeal.sig) → Buf (Elt Ideal) ℓ) (g : Dev Cert.S5DbIdeal.nD → PrngReg)
    (m' : (ℓ : Loc Cert.S5DbRefIdeal.nD Cert.S5DbRefIdeal.τ Cert.S5DbRefIdeal.sig) → Buf (Elt Ideal) ℓ) (g' : Dev Cert.S5DbRefIdeal.nD → PrngReg), Pre_S5DbIdeal m →
    (∀ c : Dev Cert.S5DbIdeal.nD,
      m' ((c.tc : Thread Cert.S5DbRefIdeal.nD Cert.S5DbRefIdeal.τ).loc Cert.S5DbRefIdeal.main_arg0) = m ((c.tc : Thread Cert.S5DbIdeal.nD Cert.S5DbIdeal.τ).loc Cert.S5DbIdeal.main_arg0)
      ∧ m' ((c.tc : Thread Cert.S5DbRefIdeal.nD Cert.S5DbRefIdeal.τ).loc Cert.S5DbRefIdeal.main_arg1) = m ((c.tc : Thread Cert.S5DbIdeal.nD Cert.S5DbIdeal.τ).loc Cert.S5DbIdeal.main_arg1)) →
    ∃ (v0 : (c : Dev Cert.S5DbIdeal.nD) → Buf (Elt Ideal) ((c.tc : Thread Cert.S5DbIdeal.nD Cert.S5DbIdeal.τ).loc Cert.S5DbIdeal.main_v0)),
      θ_run (Cert.S5DbIdeal.defs (F := Ideal)) (onTc (τ := Cert.S5DbIdeal.τ) (Cert.S5DbIdeal.main (F := Ideal))) ⟨m, fun _ => 0, g⟩ (fun r => ∀ c : Dev Cert.S5DbIdeal.nD,
          r.2.mem ((c.tc : Thread Cert.S5DbIdeal.nD Cert.S5DbIdeal.τ).loc Cert.S5DbIdeal.main_v0) = v0 c
          ∧ r.2.mem ((c.tc : Thread Cert.S5DbIdeal.nD Cert.S5DbIdeal.τ).loc Cert.S5DbIdeal.main_arg0) = m ((c.tc : Thread Cert.S5DbIdeal.nD Cert.S5DbIdeal.τ).loc Cert.S5DbIdeal.main_arg0)
          ∧ r.2.mem ((c.tc : Thread Cert.S5DbIdeal.nD Cert.S5DbIdeal.τ).loc Cert.S5DbIdeal.main_arg1) = m ((c.tc : Thread Cert.S5DbIdeal.nD Cert.S5DbIdeal.τ).loc Cert.S5DbIdeal.main_arg1))
      ∧ θ_run (Cert.S5DbRefIdeal.defs (F := Ideal)) (onTc (τ := Cert.S5DbRefIdeal.τ) (Cert.S5DbRefIdeal.main (F := Ideal))) ⟨m', fun _ => 0, g'⟩ (fun r => ∀ c : Dev Cert.S5DbRefIdeal.nD,
          r.2.mem ((c.tc : Thread Cert.S5DbRefIdeal.nD Cert.S5DbRefIdeal.τ).loc Cert.S5DbRefIdeal.main_v3) = v0 c
          ∧ r.2.mem ((c.tc : Thread Cert.S5DbRefIdeal.nD Cert.S5DbRefIdeal.τ).loc Cert.S5DbRefIdeal.main_arg0) = m' ((c.tc : Thread Cert.S5DbRefIdeal.nD Cert.S5DbRefIdeal.τ).loc Cert.S5DbRefIdeal.main_arg0)
          ∧ r.2.mem ((c.tc : Thread Cert.S5DbRefIdeal.nD Cert.S5DbRefIdeal.τ).loc Cert.S5DbRefIdeal.main_arg1) = m' ((c.tc : Thread Cert.S5DbRefIdeal.nD Cert.S5DbRefIdeal.τ).loc Cert.S5DbRefIdeal.main_arg1))

def preserves_S5PostBwd_S5PostBwdIdeal : Prop :=
  True

def algebraic_S5PostBwdIdeal_S5PostBwdRefIdeal [hS5PostBwdIdeal : Cert.S5PostBwdIdeal.Facts] [hS5PostBwdRefIdeal : Cert.S5PostBwdRefIdeal.Facts] : Prop :=
  ∀ (m : (ℓ : Loc Cert.S5PostBwdIdeal.nD Cert.S5PostBwdIdeal.τ Cert.S5PostBwdIdeal.sig) → Buf (Elt Ideal) ℓ) (g : Dev Cert.S5PostBwdIdeal.nD → PrngReg)
    (m' : (ℓ : Loc Cert.S5PostBwdRefIdeal.nD Cert.S5PostBwdRefIdeal.τ Cert.S5PostBwdRefIdeal.sig) → Buf (Elt Ideal) ℓ) (g' : Dev Cert.S5PostBwdRefIdeal.nD → PrngReg), Pre_S5PostBwdIdeal m →
    (∀ c : Dev Cert.S5PostBwdIdeal.nD,
      m' ((c.tc : Thread Cert.S5PostBwdRefIdeal.nD Cert.S5PostBwdRefIdeal.τ).loc Cert.S5PostBwdRefIdeal.main_arg0) = m ((c.tc : Thread Cert.S5PostBwdIdeal.nD Cert.S5PostBwdIdeal.τ).loc Cert.S5PostBwdIdeal.main_arg0)
      ∧ m' ((c.tc : Thread Cert.S5PostBwdRefIdeal.nD Cert.S5PostBwdRefIdeal.τ).loc Cert.S5PostBwdRefIdeal.main_arg1) = m ((c.tc : Thread Cert.S5PostBwdIdeal.nD Cert.S5PostBwdIdeal.τ).loc Cert.S5PostBwdIdeal.main_arg1)
      ∧ m' ((c.tc : Thread Cert.S5PostBwdRefIdeal.nD Cert.S5PostBwdRefIdeal.τ).loc Cert.S5PostBwdRefIdeal.main_arg2) = m ((c.tc : Thread Cert.S5PostBwdIdeal.nD Cert.S5PostBwdIdeal.τ).loc Cert.S5PostBwdIdeal.main_arg2)
      ∧ m' ((c.tc : Thread Cert.S5PostBwdRefIdeal.nD Cert.S5PostBwdRefIdeal.τ).loc Cert.S5PostBwdRefIdeal.main_arg3) = m ((c.tc : Thread Cert.S5PostBwdIdeal.nD Cert.S5PostBwdIdeal.τ).loc Cert.S5PostBwdIdeal.main_arg3)
      ∧ m' ((c.tc : Thread Cert.S5PostBwdRefIdeal.nD Cert.S5PostBwdRefIdeal.τ).loc Cert.S5PostBwdRefIdeal.main_arg4) = m ((c.tc : Thread Cert.S5PostBwdIdeal.nD Cert.S5PostBwdIdeal.τ).loc Cert.S5PostBwdIdeal.main_arg4)
      ∧ m' ((c.tc : Thread Cert.S5PostBwdRefIdeal.nD Cert.S5PostBwdRefIdeal.τ).loc Cert.S5PostBwdRefIdeal.main_arg5) = m ((c.tc : Thread Cert.S5PostBwdIdeal.nD Cert.S5PostBwdIdeal.τ).loc Cert.S5PostBwdIdeal.main_arg5)) →
    ∃ (v0 : (c : Dev Cert.S5PostBwdIdeal.nD) → Buf (Elt Ideal) ((c.tc : Thread Cert.S5PostBwdIdeal.nD Cert.S5PostBwdIdeal.τ).loc Cert.S5PostBwdIdeal.main_v0_0)) (v1 : (c : Dev Cert.S5PostBwdIdeal.nD) → Buf (Elt Ideal) ((c.tc : Thread Cert.S5PostBwdIdeal.nD Cert.S5PostBwdIdeal.τ).loc Cert.S5PostBwdIdeal.main_v0_1)) (v2 : (c : Dev Cert.S5PostBwdIdeal.nD) → Buf (Elt Ideal) ((c.tc : Thread Cert.S5PostBwdIdeal.nD Cert.S5PostBwdIdeal.τ).loc Cert.S5PostBwdIdeal.main_v0_2)) (v3 : (c : Dev Cert.S5PostBwdIdeal.nD) → Buf (Elt Ideal) ((c.tc : Thread Cert.S5PostBwdIdeal.nD Cert.S5PostBwdIdeal.τ).loc Cert.S5PostBwdIdeal.main_v0_3)) (v4 : (c : Dev Cert.S5PostBwdIdeal.nD) → Buf (Elt Ideal) ((c.tc : Thread Cert.S5PostBwdIdeal.nD Cert.S5PostBwdIdeal.τ).loc Cert.S5PostBwdIdeal.main_v0_4)),
      θ_run (Cert.S5PostBwdIdeal.defs (F := Ideal)) (onTc (τ := Cert.S5PostBwdIdeal.τ) (Cert.S5PostBwdIdeal.main (F := Ideal))) ⟨m, fun _ => 0, g⟩ (fun r => ∀ c : Dev Cert.S5PostBwdIdeal.nD,
          r.2.mem ((c.tc : Thread Cert.S5PostBwdIdeal.nD Cert.S5PostBwdIdeal.τ).loc Cert.S5PostBwdIdeal.main_v0_0) = v0 c
          ∧ r.2.mem ((c.tc : Thread Cert.S5PostBwdIdeal.nD Cert.S5PostBwdIdeal.τ).loc Cert.S5PostBwdIdeal.main_v0_1) = v1 c
          ∧ r.2.mem ((c.tc : Thread Cert.S5PostBwdIdeal.nD Cert.S5PostBwdIdeal.τ).loc Cert.S5PostBwdIdeal.main_v0_2) = v2 c
          ∧ r.2.mem ((c.tc : Thread Cert.S5PostBwdIdeal.nD Cert.S5PostBwdIdeal.τ).loc Cert.S5PostBwdIdeal.main_v0_3) = v3 c
          ∧ r.2.mem ((c.tc : Thread Cert.S5PostBwdIdeal.nD Cert.S5PostBwdIdeal.τ).loc Cert.S5PostBwdIdeal.main_v0_4) = v4 c
          ∧ r.2.mem ((c.tc : Thread Cert.S5PostBwdIdeal.nD Cert.S5PostBwdIdeal.τ).loc Cert.S5PostBwdIdeal.main_arg0) = m ((c.tc : Thread Cert.S5PostBwdIdeal.nD Cert.S5PostBwdIdeal.τ).loc Cert.S5PostBwdIdeal.main_arg0)
          ∧ r.2.mem ((c.tc : Thread Cert.S5PostBwdIdeal.nD Cert.S5PostBwdIdeal.τ).loc Cert.S5PostBwdIdeal.main_arg1) = m ((c.tc : Thread Cert.S5PostBwdIdeal.nD Cert.S5PostBwdIdeal.τ).loc Cert.S5PostBwdIdeal.main_arg1)
          ∧ r.2.mem ((c.tc : Thread Cert.S5PostBwdIdeal.nD Cert.S5PostBwdIdeal.τ).loc Cert.S5PostBwdIdeal.main_arg2) = m ((c.tc : Thread Cert.S5PostBwdIdeal.nD Cert.S5PostBwdIdeal.τ).loc Cert.S5PostBwdIdeal.main_arg2)
          ∧ r.2.mem ((c.tc : Thread Cert.S5PostBwdIdeal.nD Cert.S5PostBwdIdeal.τ).loc Cert.S5PostBwdIdeal.main_arg3) = m ((c.tc : Thread Cert.S5PostBwdIdeal.nD Cert.S5PostBwdIdeal.τ).loc Cert.S5PostBwdIdeal.main_arg3)
          ∧ r.2.mem ((c.tc : Thread Cert.S5PostBwdIdeal.nD Cert.S5PostBwdIdeal.τ).loc Cert.S5PostBwdIdeal.main_arg4) = m ((c.tc : Thread Cert.S5PostBwdIdeal.nD Cert.S5PostBwdIdeal.τ).loc Cert.S5PostBwdIdeal.main_arg4)
          ∧ r.2.mem ((c.tc : Thread Cert.S5PostBwdIdeal.nD Cert.S5PostBwdIdeal.τ).loc Cert.S5PostBwdIdeal.main_arg5) = m ((c.tc : Thread Cert.S5PostBwdIdeal.nD Cert.S5PostBwdIdeal.τ).loc Cert.S5PostBwdIdeal.main_arg5))
      ∧ θ_run (Cert.S5PostBwdRefIdeal.defs (F := Ideal)) (onTc (τ := Cert.S5PostBwdRefIdeal.τ) (Cert.S5PostBwdRefIdeal.main (F := Ideal))) ⟨m', fun _ => 0, g'⟩ (fun r => ∀ c : Dev Cert.S5PostBwdRefIdeal.nD,
          r.2.mem ((c.tc : Thread Cert.S5PostBwdRefIdeal.nD Cert.S5PostBwdRefIdeal.τ).loc Cert.S5PostBwdRefIdeal.main_v57) = v0 c
          ∧ r.2.mem ((c.tc : Thread Cert.S5PostBwdRefIdeal.nD Cert.S5PostBwdRefIdeal.τ).loc Cert.S5PostBwdRefIdeal.main_v59) = v1 c
          ∧ r.2.mem ((c.tc : Thread Cert.S5PostBwdRefIdeal.nD Cert.S5PostBwdRefIdeal.τ).loc Cert.S5PostBwdRefIdeal.main_v62) = v2 c
          ∧ r.2.mem ((c.tc : Thread Cert.S5PostBwdRefIdeal.nD Cert.S5PostBwdRefIdeal.τ).loc Cert.S5PostBwdRefIdeal.main_v43) = v3 c
          ∧ r.2.mem ((c.tc : Thread Cert.S5PostBwdRefIdeal.nD Cert.S5PostBwdRefIdeal.τ).loc Cert.S5PostBwdRefIdeal.main_v41) = v4 c
          ∧ r.2.mem ((c.tc : Thread Cert.S5PostBwdRefIdeal.nD Cert.S5PostBwdRefIdeal.τ).loc Cert.S5PostBwdRefIdeal.main_arg0) = m' ((c.tc : Thread Cert.S5PostBwdRefIdeal.nD Cert.S5PostBwdRefIdeal.τ).loc Cert.S5PostBwdRefIdeal.main_arg0)
          ∧ r.2.mem ((c.tc : Thread Cert.S5PostBwdRefIdeal.nD Cert.S5PostBwdRefIdeal.τ).loc Cert.S5PostBwdRefIdeal.main_arg1) = m' ((c.tc : Thread Cert.S5PostBwdRefIdeal.nD Cert.S5PostBwdRefIdeal.τ).loc Cert.S5PostBwdRefIdeal.main_arg1)
          ∧ r.2.mem ((c.tc : Thread Cert.S5PostBwdRefIdeal.nD Cert.S5PostBwdRefIdeal.τ).loc Cert.S5PostBwdRefIdeal.main_arg2) = m' ((c.tc : Thread Cert.S5PostBwdRefIdeal.nD Cert.S5PostBwdRefIdeal.τ).loc Cert.S5PostBwdRefIdeal.main_arg2)
          ∧ r.2.mem ((c.tc : Thread Cert.S5PostBwdRefIdeal.nD Cert.S5PostBwdRefIdeal.τ).loc Cert.S5PostBwdRefIdeal.main_arg3) = m' ((c.tc : Thread Cert.S5PostBwdRefIdeal.nD Cert.S5PostBwdRefIdeal.τ).loc Cert.S5PostBwdRefIdeal.main_arg3)
          ∧ r.2.mem ((c.tc : Thread Cert.S5PostBwdRefIdeal.nD Cert.S5PostBwdRefIdeal.τ).loc Cert.S5PostBwdRefIdeal.main_arg4) = m' ((c.tc : Thread Cert.S5PostBwdRefIdeal.nD Cert.S5PostBwdRefIdeal.τ).loc Cert.S5PostBwdRefIdeal.main_arg4)
          ∧ r.2.mem ((c.tc : Thread Cert.S5PostBwdRefIdeal.nD Cert.S5PostBwdRefIdeal.τ).loc Cert.S5PostBwdRefIdeal.main_arg5) = m' ((c.tc : Thread Cert.S5PostBwdRefIdeal.nD Cert.S5PostBwdRefIdeal.τ).loc Cert.S5PostBwdRefIdeal.main_arg5))

def preserves_LruPreBwd_LruPreBwdIdeal : Prop :=
  True

def algebraic_LruPreBwdIdeal_LruPreBwdRefIdeal_pre_lru_finite [hLruPreBwdIdeal : Cert.LruPreBwdIdeal.Facts] [hLruPreBwdRefIdeal : Cert.LruPreBwdRefIdeal.Facts] [hPre_lru_finite : Cert.Pre_lru_finite.Facts] : Prop :=
  ∀ (m : (ℓ : Loc Cert.LruPreBwdIdeal.nD Cert.LruPreBwdIdeal.τ Cert.LruPreBwdIdeal.sig) → Buf (Elt Ideal) ℓ) (g : Dev Cert.LruPreBwdIdeal.nD → PrngReg)
    (m' : (ℓ : Loc Cert.LruPreBwdRefIdeal.nD Cert.LruPreBwdRefIdeal.τ Cert.LruPreBwdRefIdeal.sig) → Buf (Elt Ideal) ℓ) (g' : Dev Cert.LruPreBwdRefIdeal.nD → PrngReg), Pre_LruPreBwdIdeal_lru_finite m →
    (∀ c : Dev Cert.LruPreBwdIdeal.nD,
      m' ((c.tc : Thread Cert.LruPreBwdRefIdeal.nD Cert.LruPreBwdRefIdeal.τ).loc Cert.LruPreBwdRefIdeal.main_arg0) = m ((c.tc : Thread Cert.LruPreBwdIdeal.nD Cert.LruPreBwdIdeal.τ).loc Cert.LruPreBwdIdeal.main_arg0)
      ∧ m' ((c.tc : Thread Cert.LruPreBwdRefIdeal.nD Cert.LruPreBwdRefIdeal.τ).loc Cert.LruPreBwdRefIdeal.main_arg1) = m ((c.tc : Thread Cert.LruPreBwdIdeal.nD Cert.LruPreBwdIdeal.τ).loc Cert.LruPreBwdIdeal.main_arg1)
      ∧ m' ((c.tc : Thread Cert.LruPreBwdRefIdeal.nD Cert.LruPreBwdRefIdeal.τ).loc Cert.LruPreBwdRefIdeal.main_arg2) = m ((c.tc : Thread Cert.LruPreBwdIdeal.nD Cert.LruPreBwdIdeal.τ).loc Cert.LruPreBwdIdeal.main_arg2)
      ∧ m' ((c.tc : Thread Cert.LruPreBwdRefIdeal.nD Cert.LruPreBwdRefIdeal.τ).loc Cert.LruPreBwdRefIdeal.main_arg3) = m ((c.tc : Thread Cert.LruPreBwdIdeal.nD Cert.LruPreBwdIdeal.τ).loc Cert.LruPreBwdIdeal.main_arg3)
      ∧ m' ((c.tc : Thread Cert.LruPreBwdRefIdeal.nD Cert.LruPreBwdRefIdeal.τ).loc Cert.LruPreBwdRefIdeal.main_arg4) = m ((c.tc : Thread Cert.LruPreBwdIdeal.nD Cert.LruPreBwdIdeal.τ).loc Cert.LruPreBwdIdeal.main_arg4)
      ∧ m' ((c.tc : Thread Cert.LruPreBwdRefIdeal.nD Cert.LruPreBwdRefIdeal.τ).loc Cert.LruPreBwdRefIdeal.main_arg5) = m ((c.tc : Thread Cert.LruPreBwdIdeal.nD Cert.LruPreBwdIdeal.τ).loc Cert.LruPreBwdIdeal.main_arg5)) →
    ∃ (v0 : (c : Dev Cert.LruPreBwdIdeal.nD) → Buf (Elt Ideal) ((c.tc : Thread Cert.LruPreBwdIdeal.nD Cert.LruPreBwdIdeal.τ).loc Cert.LruPreBwdIdeal.main_v0_0)) (v1 : (c : Dev Cert.LruPreBwdIdeal.nD) → Buf (Elt Ideal) ((c.tc : Thread Cert.LruPreBwdIdeal.nD Cert.LruPreBwdIdeal.τ).loc Cert.LruPreBwdIdeal.main_v0_1)) (v2 : (c : Dev Cert.LruPreBwdIdeal.nD) → Buf (Elt Ideal) ((c.tc : Thread Cert.LruPreBwdIdeal.nD Cert.LruPreBwdIdeal.τ).loc Cert.LruPreBwdIdeal.main_v0_2)) (v3 : (c : Dev Cert.LruPreBwdIdeal.nD) → Buf (Elt Ideal) ((c.tc : Thread Cert.LruPreBwdIdeal.nD Cert.LruPreBwdIdeal.τ).loc Cert.LruPreBwdIdeal.main_v0_3)),
      θ_run (Cert.LruPreBwdIdeal.defs (F := Ideal)) (onTc (τ := Cert.LruPreBwdIdeal.τ) (Cert.LruPreBwdIdeal.main (F := Ideal))) ⟨m, fun _ => 0, g⟩ (fun r => ∀ c : Dev Cert.LruPreBwdIdeal.nD,
          r.2.mem ((c.tc : Thread Cert.LruPreBwdIdeal.nD Cert.LruPreBwdIdeal.τ).loc Cert.LruPreBwdIdeal.main_v0_0) = v0 c
          ∧ r.2.mem ((c.tc : Thread Cert.LruPreBwdIdeal.nD Cert.LruPreBwdIdeal.τ).loc Cert.LruPreBwdIdeal.main_v0_1) = v1 c
          ∧ r.2.mem ((c.tc : Thread Cert.LruPreBwdIdeal.nD Cert.LruPreBwdIdeal.τ).loc Cert.LruPreBwdIdeal.main_v0_2) = v2 c
          ∧ r.2.mem ((c.tc : Thread Cert.LruPreBwdIdeal.nD Cert.LruPreBwdIdeal.τ).loc Cert.LruPreBwdIdeal.main_v0_3) = v3 c
          ∧ r.2.mem ((c.tc : Thread Cert.LruPreBwdIdeal.nD Cert.LruPreBwdIdeal.τ).loc Cert.LruPreBwdIdeal.main_arg0) = m ((c.tc : Thread Cert.LruPreBwdIdeal.nD Cert.LruPreBwdIdeal.τ).loc Cert.LruPreBwdIdeal.main_arg0)
          ∧ r.2.mem ((c.tc : Thread Cert.LruPreBwdIdeal.nD Cert.LruPreBwdIdeal.τ).loc Cert.LruPreBwdIdeal.main_arg1) = m ((c.tc : Thread Cert.LruPreBwdIdeal.nD Cert.LruPreBwdIdeal.τ).loc Cert.LruPreBwdIdeal.main_arg1)
          ∧ r.2.mem ((c.tc : Thread Cert.LruPreBwdIdeal.nD Cert.LruPreBwdIdeal.τ).loc Cert.LruPreBwdIdeal.main_arg2) = m ((c.tc : Thread Cert.LruPreBwdIdeal.nD Cert.LruPreBwdIdeal.τ).loc Cert.LruPreBwdIdeal.main_arg2)
          ∧ r.2.mem ((c.tc : Thread Cert.LruPreBwdIdeal.nD Cert.LruPreBwdIdeal.τ).loc Cert.LruPreBwdIdeal.main_arg3) = m ((c.tc : Thread Cert.LruPreBwdIdeal.nD Cert.LruPreBwdIdeal.τ).loc Cert.LruPreBwdIdeal.main_arg3)
          ∧ r.2.mem ((c.tc : Thread Cert.LruPreBwdIdeal.nD Cert.LruPreBwdIdeal.τ).loc Cert.LruPreBwdIdeal.main_arg4) = m ((c.tc : Thread Cert.LruPreBwdIdeal.nD Cert.LruPreBwdIdeal.τ).loc Cert.LruPreBwdIdeal.main_arg4)
          ∧ r.2.mem ((c.tc : Thread Cert.LruPreBwdIdeal.nD Cert.LruPreBwdIdeal.τ).loc Cert.LruPreBwdIdeal.main_arg5) = m ((c.tc : Thread Cert.LruPreBwdIdeal.nD Cert.LruPreBwdIdeal.τ).loc Cert.LruPreBwdIdeal.main_arg5))
      ∧ θ_run (Cert.LruPreBwdRefIdeal.defs (F := Ideal)) (onTc (τ := Cert.LruPreBwdRefIdeal.τ) (Cert.LruPreBwdRefIdeal.main (F := Ideal))) ⟨m', fun _ => 0, g'⟩ (fun r => ∀ c : Dev Cert.LruPreBwdRefIdeal.nD,
          r.2.mem ((c.tc : Thread Cert.LruPreBwdRefIdeal.nD Cert.LruPreBwdRefIdeal.τ).loc Cert.LruPreBwdRefIdeal.main_v92) = v0 c
          ∧ r.2.mem ((c.tc : Thread Cert.LruPreBwdRefIdeal.nD Cert.LruPreBwdRefIdeal.τ).loc Cert.LruPreBwdRefIdeal.main_v62) = v1 c
          ∧ r.2.mem ((c.tc : Thread Cert.LruPreBwdRefIdeal.nD Cert.LruPreBwdRefIdeal.τ).loc Cert.LruPreBwdRefIdeal.main_v90) = v2 c
          ∧ r.2.mem ((c.tc : Thread Cert.LruPreBwdRefIdeal.nD Cert.LruPreBwdRefIdeal.τ).loc Cert.LruPreBwdRefIdeal.main_v78) = v3 c
          ∧ r.2.mem ((c.tc : Thread Cert.LruPreBwdRefIdeal.nD Cert.LruPreBwdRefIdeal.τ).loc Cert.LruPreBwdRefIdeal.main_arg0) = m' ((c.tc : Thread Cert.LruPreBwdRefIdeal.nD Cert.LruPreBwdRefIdeal.τ).loc Cert.LruPreBwdRefIdeal.main_arg0)
          ∧ r.2.mem ((c.tc : Thread Cert.LruPreBwdRefIdeal.nD Cert.LruPreBwdRefIdeal.τ).loc Cert.LruPreBwdRefIdeal.main_arg1) = m' ((c.tc : Thread Cert.LruPreBwdRefIdeal.nD Cert.LruPreBwdRefIdeal.τ).loc Cert.LruPreBwdRefIdeal.main_arg1)
          ∧ r.2.mem ((c.tc : Thread Cert.LruPreBwdRefIdeal.nD Cert.LruPreBwdRefIdeal.τ).loc Cert.LruPreBwdRefIdeal.main_arg2) = m' ((c.tc : Thread Cert.LruPreBwdRefIdeal.nD Cert.LruPreBwdRefIdeal.τ).loc Cert.LruPreBwdRefIdeal.main_arg2)
          ∧ r.2.mem ((c.tc : Thread Cert.LruPreBwdRefIdeal.nD Cert.LruPreBwdRefIdeal.τ).loc Cert.LruPreBwdRefIdeal.main_arg3) = m' ((c.tc : Thread Cert.LruPreBwdRefIdeal.nD Cert.LruPreBwdRefIdeal.τ).loc Cert.LruPreBwdRefIdeal.main_arg3)
          ∧ r.2.mem ((c.tc : Thread Cert.LruPreBwdRefIdeal.nD Cert.LruPreBwdRefIdeal.τ).loc Cert.LruPreBwdRefIdeal.main_arg4) = m' ((c.tc : Thread Cert.LruPreBwdRefIdeal.nD Cert.LruPreBwdRefIdeal.τ).loc Cert.LruPreBwdRefIdeal.main_arg4)
          ∧ r.2.mem ((c.tc : Thread Cert.LruPreBwdRefIdeal.nD Cert.LruPreBwdRefIdeal.τ).loc Cert.LruPreBwdRefIdeal.main_arg5) = m' ((c.tc : Thread Cert.LruPreBwdRefIdeal.nD Cert.LruPreBwdRefIdeal.τ).loc Cert.LruPreBwdRefIdeal.main_arg5))

def Claim : Prop :=
  ∃ (hKernel : Cert.Kernel.Facts) (hKernelIdeal : Cert.KernelIdeal.Facts) (hReferenceIdeal : Cert.ReferenceIdeal.Facts) (hS5Scan : Cert.S5Scan.Facts) (hS5ScanIdeal : Cert.S5ScanIdeal.Facts) (hS5ScanRefIdeal : Cert.S5ScanRefIdeal.Facts) (hMlpPre : Cert.MlpPre.Facts) (hMlpPreIdeal : Cert.MlpPreIdeal.Facts) (hMlpPreRefIdeal : Cert.MlpPreRefIdeal.Facts) (hMlpDown : Cert.MlpDown.Facts) (hMlpDownIdeal : Cert.MlpDownIdeal.Facts) (hMlpDownRefIdeal : Cert.MlpDownRefIdeal.Facts) (hMlpDownDw : Cert.MlpDownDw.Facts) (hMlpDownDwIdeal : Cert.MlpDownDwIdeal.Facts) (hMlpDownDwRefIdeal : Cert.MlpDownDwRefIdeal.Facts) (hMlpUpDx : Cert.MlpUpDx.Facts) (hMlpUpDxIdeal : Cert.MlpUpDxIdeal.Facts) (hMlpUpDxRefIdeal : Cert.MlpUpDxRefIdeal.Facts) (hMlpUpDw : Cert.MlpUpDw.Facts) (hMlpUpDwIdeal : Cert.MlpUpDwIdeal.Facts) (hMlpUpDwRefIdeal : Cert.MlpUpDwRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hPlGate : Cert.PlGate.Facts) (hPlGateIdeal : Cert.PlGateIdeal.Facts) (hPlGateRefIdeal : Cert.PlGateRefIdeal.Facts) (hPlProj : Cert.PlProj.Facts) (hPlProjIdeal : Cert.PlProjIdeal.Facts) (hPlProjRefIdeal : Cert.PlProjRefIdeal.Facts) (hPlProjDw : Cert.PlProjDw.Facts) (hPlProjDwIdeal : Cert.PlProjDwIdeal.Facts) (hPlProjDwRefIdeal : Cert.PlProjDwRefIdeal.Facts) (hEvenIn : Cert.EvenIn.Facts) (hEvenInIdeal : Cert.EvenInIdeal.Facts) (hEvenInRefIdeal : Cert.EvenInRefIdeal.Facts) (hEvenInDx : Cert.EvenInDx.Facts) (hEvenInDxIdeal : Cert.EvenInDxIdeal.Facts) (hEvenInDxRefIdeal : Cert.EvenInDxRefIdeal.Facts) (hEvenInDw : Cert.EvenInDw.Facts) (hEvenInDwIdeal : Cert.EvenInDwIdeal.Facts) (hEvenInDwRefIdeal : Cert.EvenInDwRefIdeal.Facts) (hOddIn : Cert.OddIn.Facts) (hOddInIdeal : Cert.OddInIdeal.Facts) (hOddInRefIdeal : Cert.OddInRefIdeal.Facts) (hOddInDx : Cert.OddInDx.Facts) (hOddInDxIdeal : Cert.OddInDxIdeal.Facts) (hOddInDxRefIdeal : Cert.OddInDxRefIdeal.Facts) (hOddInDw : Cert.OddInDw.Facts) (hOddInDwIdeal : Cert.OddInDwIdeal.Facts) (hOddInDwRefIdeal : Cert.OddInDwRefIdeal.Facts) (hNormBwd : Cert.NormBwd.Facts) (hNormBwdIdeal : Cert.NormBwdIdeal.Facts) (hNormBwdRefIdeal : Cert.NormBwdRefIdeal.Facts) (hGateBwd : Cert.GateBwd.Facts) (hGateBwdIdeal : Cert.GateBwdIdeal.Facts) (hGateBwdRefIdeal : Cert.GateBwdRefIdeal.Facts) (hConvBwd : Cert.ConvBwd.Facts) (hConvBwdIdeal : Cert.ConvBwdIdeal.Facts) (hConvBwdRefIdeal : Cert.ConvBwdRefIdeal.Facts) (hShiftBwd : Cert.ShiftBwd.Facts) (hShiftBwdIdeal : Cert.ShiftBwdIdeal.Facts) (hShiftBwdRefIdeal : Cert.ShiftBwdRefIdeal.Facts) (hGeluGateBwd : Cert.GeluGateBwd.Facts) (hGeluGateBwdIdeal : Cert.GeluGateBwdIdeal.Facts) (hGeluGateBwdRefIdeal : Cert.GeluGateBwdRefIdeal.Facts) (hAdamwEarly : Cert.AdamwEarly.Facts) (hAdamwEarlyIdeal : Cert.AdamwEarlyIdeal.Facts) (hAdamwEarlyRefIdeal : Cert.AdamwEarlyRefIdeal.Facts) (hAdamwMid : Cert.AdamwMid.Facts) (hAdamwMidIdeal : Cert.AdamwMidIdeal.Facts) (hAdamwMidRefIdeal : Cert.AdamwMidRefIdeal.Facts) (hAdamwMain : Cert.AdamwMain.Facts) (hAdamwMainIdeal : Cert.AdamwMainIdeal.Facts) (hAdamwMainRefIdeal : Cert.AdamwMainRefIdeal.Facts) (hAdamwSmall : Cert.AdamwSmall.Facts) (hAdamwSmallIdeal : Cert.AdamwSmallIdeal.Facts) (hAdamwSmallRefIdeal : Cert.AdamwSmallRefIdeal.Facts) (hLruGates : Cert.LruGates.Facts) (hLruGatesIdeal : Cert.LruGatesIdeal.Facts) (hLruGatesRefIdeal : Cert.LruGatesRefIdeal.Facts) (hLruGatesDx : Cert.LruGatesDx.Facts) (hLruGatesDxIdeal : Cert.LruGatesDxIdeal.Facts) (hLruGatesDxRefIdeal : Cert.LruGatesDxRefIdeal.Facts) (hLruGatesDw : Cert.LruGatesDw.Facts) (hLruGatesDwIdeal : Cert.LruGatesDwIdeal.Facts) (hLruGatesDwRefIdeal : Cert.LruGatesDwRefIdeal.Facts) (hS5Bu : Cert.S5Bu.Facts) (hS5BuIdeal : Cert.S5BuIdeal.Facts) (hS5BuRefIdeal : Cert.S5BuRefIdeal.Facts) (hS5Dx : Cert.S5Dx.Facts) (hS5DxIdeal : Cert.S5DxIdeal.Facts) (hS5DxRefIdeal : Cert.S5DxRefIdeal.Facts) (hS5Y : Cert.S5Y.Facts) (hS5YIdeal : Cert.S5YIdeal.Facts) (hS5YRefIdeal : Cert.S5YRefIdeal.Facts) (hS5YAdd : Cert.S5YAdd.Facts) (hS5YAddIdeal : Cert.S5YAddIdeal.Facts) (hS5YAddRefIdeal : Cert.S5YAddRefIdeal.Facts) (hS5Dc : Cert.S5Dc.Facts) (hS5DcIdeal : Cert.S5DcIdeal.Facts) (hS5DcRefIdeal : Cert.S5DcRefIdeal.Facts) (hS5Du : Cert.S5Du.Facts) (hS5DuIdeal : Cert.S5DuIdeal.Facts) (hS5DuRefIdeal : Cert.S5DuRefIdeal.Facts) (hS5Db : Cert.S5Db.Facts) (hS5DbIdeal : Cert.S5DbIdeal.Facts) (hS5DbRefIdeal : Cert.S5DbRefIdeal.Facts) (hS5PostBwd : Cert.S5PostBwd.Facts) (hS5PostBwdIdeal : Cert.S5PostBwdIdeal.Facts) (hS5PostBwdRefIdeal : Cert.S5PostBwdRefIdeal.Facts) (hLruPreBwd : Cert.LruPreBwd.Facts) (hLruPreBwdIdeal : Cert.LruPreBwdIdeal.Facts) (hLruPreBwdRefIdeal : Cert.LruPreBwdRefIdeal.Facts) (hPre_finite : Cert.Pre_finite.Facts) (hPre_s5_finite : Cert.Pre_s5_finite.Facts) (hPre_lru_finite : Cert.Pre_lru_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_S5Scan (hS5Scan := hS5Scan)
    ∧ quiescent_S5ScanIdeal (hS5ScanIdeal := hS5ScanIdeal)
    ∧ quiescent_S5ScanIdeal_pre_s5_finite (hS5ScanIdeal := hS5ScanIdeal) (hPre_s5_finite := hPre_s5_finite)
    ∧ quiescent_S5ScanRefIdeal (hS5ScanRefIdeal := hS5ScanRefIdeal)
    ∧ quiescent_S5ScanRefIdeal_pre_s5_finite (hS5ScanRefIdeal := hS5ScanRefIdeal) (hPre_s5_finite := hPre_s5_finite)
    ∧ quiescent_MlpPre (hMlpPre := hMlpPre)
    ∧ quiescent_MlpPreIdeal (hMlpPreIdeal := hMlpPreIdeal)
    ∧ quiescent_MlpPreRefIdeal (hMlpPreRefIdeal := hMlpPreRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_MlpUpDx (hMlpUpDx := hMlpUpDx)
    ∧ quiescent_MlpUpDxIdeal (hMlpUpDxIdeal := hMlpUpDxIdeal)
    ∧ quiescent_MlpUpDxRefIdeal (hMlpUpDxRefIdeal := hMlpUpDxRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_PlGate (hPlGate := hPlGate)
    ∧ quiescent_PlGateIdeal (hPlGateIdeal := hPlGateIdeal)
    ∧ quiescent_PlGateRefIdeal (hPlGateRefIdeal := hPlGateRefIdeal)
    ∧ quiescent_PlProj (hPlProj := hPlProj)
    ∧ quiescent_PlProjIdeal (hPlProjIdeal := hPlProjIdeal)
    ∧ quiescent_PlProjRefIdeal (hPlProjRefIdeal := hPlProjRefIdeal)
    ∧ quiescent_PlProjDw (hPlProjDw := hPlProjDw)
    ∧ quiescent_PlProjDwIdeal (hPlProjDwIdeal := hPlProjDwIdeal)
    ∧ quiescent_PlProjDwRefIdeal (hPlProjDwRefIdeal := hPlProjDwRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenInDx (hEvenInDx := hEvenInDx)
    ∧ quiescent_EvenInDxIdeal (hEvenInDxIdeal := hEvenInDxIdeal)
    ∧ quiescent_EvenInDxRefIdeal (hEvenInDxRefIdeal := hEvenInDxRefIdeal)
    ∧ quiescent_EvenInDw (hEvenInDw := hEvenInDw)
    ∧ quiescent_EvenInDwIdeal (hEvenInDwIdeal := hEvenInDwIdeal)
    ∧ quiescent_EvenInDwRefIdeal (hEvenInDwRefIdeal := hEvenInDwRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddInDx (hOddInDx := hOddInDx)
    ∧ quiescent_OddInDxIdeal (hOddInDxIdeal := hOddInDxIdeal)
    ∧ quiescent_OddInDxRefIdeal (hOddInDxRefIdeal := hOddInDxRefIdeal)
    ∧ quiescent_OddInDw (hOddInDw := hOddInDw)
    ∧ quiescent_OddInDwIdeal (hOddInDwIdeal := hOddInDwIdeal)
    ∧ quiescent_OddInDwRefIdeal (hOddInDwRefIdeal := hOddInDwRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_ShiftBwd (hShiftBwd := hShiftBwd)
    ∧ quiescent_ShiftBwdIdeal (hShiftBwdIdeal := hShiftBwdIdeal)
    ∧ quiescent_ShiftBwdRefIdeal (hShiftBwdRefIdeal := hShiftBwdRefIdeal)
    ∧ quiescent_GeluGateBwd (hGeluGateBwd := hGeluGateBwd)
    ∧ quiescent_GeluGateBwdIdeal (hGeluGateBwdIdeal := hGeluGateBwdIdeal)
    ∧ quiescent_GeluGateBwdRefIdeal (hGeluGateBwdRefIdeal := hGeluGateBwdRefIdeal)
    ∧ quiescent_AdamwEarly (hAdamwEarly := hAdamwEarly)
    ∧ quiescent_AdamwEarlyIdeal (hAdamwEarlyIdeal := hAdamwEarlyIdeal)
    ∧ quiescent_AdamwEarlyRefIdeal (hAdamwEarlyRefIdeal := hAdamwEarlyRefIdeal)
    ∧ quiescent_AdamwMid (hAdamwMid := hAdamwMid)
    ∧ quiescent_AdamwMidIdeal (hAdamwMidIdeal := hAdamwMidIdeal)
    ∧ quiescent_AdamwMidRefIdeal (hAdamwMidRefIdeal := hAdamwMidRefIdeal)
    ∧ quiescent_AdamwMain (hAdamwMain := hAdamwMain)
    ∧ quiescent_AdamwMainIdeal (hAdamwMainIdeal := hAdamwMainIdeal)
    ∧ quiescent_AdamwMainRefIdeal (hAdamwMainRefIdeal := hAdamwMainRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_LruGates (hLruGates := hLruGates)
    ∧ quiescent_LruGatesIdeal (hLruGatesIdeal := hLruGatesIdeal)
    ∧ quiescent_LruGatesRefIdeal (hLruGatesRefIdeal := hLruGatesRefIdeal)
    ∧ quiescent_LruGatesDx (hLruGatesDx := hLruGatesDx)
    ∧ quiescent_LruGatesDxIdeal (hLruGatesDxIdeal := hLruGatesDxIdeal)
    ∧ quiescent_LruGatesDxRefIdeal (hLruGatesDxRefIdeal := hLruGatesDxRefIdeal)
    ∧ quiescent_LruGatesDw (hLruGatesDw := hLruGatesDw)
    ∧ quiescent_LruGatesDwIdeal (hLruGatesDwIdeal := hLruGatesDwIdeal)
    ∧ quiescent_LruGatesDwRefIdeal (hLruGatesDwRefIdeal := hLruGatesDwRefIdeal)
    ∧ quiescent_S5Bu (hS5Bu := hS5Bu)
    ∧ quiescent_S5BuIdeal (hS5BuIdeal := hS5BuIdeal)
    ∧ quiescent_S5BuRefIdeal (hS5BuRefIdeal := hS5BuRefIdeal)
    ∧ quiescent_S5Dx (hS5Dx := hS5Dx)
    ∧ quiescent_S5DxIdeal (hS5DxIdeal := hS5DxIdeal)
    ∧ quiescent_S5DxRefIdeal (hS5DxRefIdeal := hS5DxRefIdeal)
    ∧ quiescent_S5Y (hS5Y := hS5Y)
    ∧ quiescent_S5YIdeal (hS5YIdeal := hS5YIdeal)
    ∧ quiescent_S5YRefIdeal (hS5YRefIdeal := hS5YRefIdeal)
    ∧ quiescent_S5YAdd (hS5YAdd := hS5YAdd)
    ∧ quiescent_S5YAddIdeal (hS5YAddIdeal := hS5YAddIdeal)
    ∧ quiescent_S5YAddRefIdeal (hS5YAddRefIdeal := hS5YAddRefIdeal)
    ∧ quiescent_S5Dc (hS5Dc := hS5Dc)
    ∧ quiescent_S5DcIdeal (hS5DcIdeal := hS5DcIdeal)
    ∧ quiescent_S5DcRefIdeal (hS5DcRefIdeal := hS5DcRefIdeal)
    ∧ quiescent_S5Du (hS5Du := hS5Du)
    ∧ quiescent_S5DuIdeal (hS5DuIdeal := hS5DuIdeal)
    ∧ quiescent_S5DuRefIdeal (hS5DuRefIdeal := hS5DuRefIdeal)
    ∧ quiescent_S5Db (hS5Db := hS5Db)
    ∧ quiescent_S5DbIdeal (hS5DbIdeal := hS5DbIdeal)
    ∧ quiescent_S5DbRefIdeal (hS5DbRefIdeal := hS5DbRefIdeal)
    ∧ quiescent_S5PostBwd (hS5PostBwd := hS5PostBwd)
    ∧ quiescent_S5PostBwdIdeal (hS5PostBwdIdeal := hS5PostBwdIdeal)
    ∧ quiescent_S5PostBwdRefIdeal (hS5PostBwdRefIdeal := hS5PostBwdRefIdeal)
    ∧ quiescent_LruPreBwd (hLruPreBwd := hLruPreBwd)
    ∧ quiescent_LruPreBwdIdeal (hLruPreBwdIdeal := hLruPreBwdIdeal)
    ∧ quiescent_LruPreBwdIdeal_pre_lru_finite (hLruPreBwdIdeal := hLruPreBwdIdeal) (hPre_lru_finite := hPre_lru_finite)
    ∧ quiescent_LruPreBwdRefIdeal (hLruPreBwdRefIdeal := hLruPreBwdRefIdeal)
    ∧ quiescent_LruPreBwdRefIdeal_pre_lru_finite (hLruPreBwdRefIdeal := hLruPreBwdRefIdeal) (hPre_lru_finite := hPre_lru_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_S5Scan_S5ScanIdeal
    ∧ algebraic_S5ScanIdeal_S5ScanRefIdeal_pre_s5_finite (hS5ScanIdeal := hS5ScanIdeal) (hS5ScanRefIdeal := hS5ScanRefIdeal) (hPre_s5_finite := hPre_s5_finite)
    ∧ preserves_MlpPre_MlpPreIdeal
    ∧ algebraic_MlpPreIdeal_MlpPreRefIdeal (hMlpPreIdeal := hMlpPreIdeal) (hMlpPreRefIdeal := hMlpPreRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_MlpUpDx_MlpUpDxIdeal
    ∧ algebraic_MlpUpDxIdeal_MlpUpDxRefIdeal (hMlpUpDxIdeal := hMlpUpDxIdeal) (hMlpUpDxRefIdeal := hMlpUpDxRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_PlGate_PlGateIdeal
    ∧ algebraic_PlGateIdeal_PlGateRefIdeal (hPlGateIdeal := hPlGateIdeal) (hPlGateRefIdeal := hPlGateRefIdeal)
    ∧ preserves_PlProj_PlProjIdeal
    ∧ algebraic_PlProjIdeal_PlProjRefIdeal (hPlProjIdeal := hPlProjIdeal) (hPlProjRefIdeal := hPlProjRefIdeal)
    ∧ preserves_PlProjDw_PlProjDwIdeal
    ∧ algebraic_PlProjDwIdeal_PlProjDwRefIdeal (hPlProjDwIdeal := hPlProjDwIdeal) (hPlProjDwRefIdeal := hPlProjDwRefIdeal)
    ∧ preserves_EvenIn_EvenInIdeal
    ∧ algebraic_EvenInIdeal_EvenInRefIdeal (hEvenInIdeal := hEvenInIdeal) (hEvenInRefIdeal := hEvenInRefIdeal)
    ∧ preserves_EvenInDx_EvenInDxIdeal
    ∧ algebraic_EvenInDxIdeal_EvenInDxRefIdeal (hEvenInDxIdeal := hEvenInDxIdeal) (hEvenInDxRefIdeal := hEvenInDxRefIdeal)
    ∧ preserves_EvenInDw_EvenInDwIdeal
    ∧ algebraic_EvenInDwIdeal_EvenInDwRefIdeal (hEvenInDwIdeal := hEvenInDwIdeal) (hEvenInDwRefIdeal := hEvenInDwRefIdeal)
    ∧ preserves_OddIn_OddInIdeal
    ∧ algebraic_OddInIdeal_OddInRefIdeal (hOddInIdeal := hOddInIdeal) (hOddInRefIdeal := hOddInRefIdeal)
    ∧ preserves_OddInDx_OddInDxIdeal
    ∧ algebraic_OddInDxIdeal_OddInDxRefIdeal (hOddInDxIdeal := hOddInDxIdeal) (hOddInDxRefIdeal := hOddInDxRefIdeal)
    ∧ preserves_OddInDw_OddInDwIdeal
    ∧ algebraic_OddInDwIdeal_OddInDwRefIdeal (hOddInDwIdeal := hOddInDwIdeal) (hOddInDwRefIdeal := hOddInDwRefIdeal)
    ∧ preserves_NormBwd_NormBwdIdeal
    ∧ algebraic_NormBwdIdeal_NormBwdRefIdeal (hNormBwdIdeal := hNormBwdIdeal) (hNormBwdRefIdeal := hNormBwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_ShiftBwd_ShiftBwdIdeal
    ∧ algebraic_ShiftBwdIdeal_ShiftBwdRefIdeal (hShiftBwdIdeal := hShiftBwdIdeal) (hShiftBwdRefIdeal := hShiftBwdRefIdeal)
    ∧ preserves_GeluGateBwd_GeluGateBwdIdeal
    ∧ algebraic_GeluGateBwdIdeal_GeluGateBwdRefIdeal (hGeluGateBwdIdeal := hGeluGateBwdIdeal) (hGeluGateBwdRefIdeal := hGeluGateBwdRefIdeal)
    ∧ preserves_AdamwEarly_AdamwEarlyIdeal
    ∧ algebraic_AdamwEarlyIdeal_AdamwEarlyRefIdeal (hAdamwEarlyIdeal := hAdamwEarlyIdeal) (hAdamwEarlyRefIdeal := hAdamwEarlyRefIdeal)
    ∧ preserves_AdamwMid_AdamwMidIdeal
    ∧ algebraic_AdamwMidIdeal_AdamwMidRefIdeal (hAdamwMidIdeal := hAdamwMidIdeal) (hAdamwMidRefIdeal := hAdamwMidRefIdeal)
    ∧ preserves_AdamwMain_AdamwMainIdeal
    ∧ algebraic_AdamwMainIdeal_AdamwMainRefIdeal (hAdamwMainIdeal := hAdamwMainIdeal) (hAdamwMainRefIdeal := hAdamwMainRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_LruGates_LruGatesIdeal
    ∧ algebraic_LruGatesIdeal_LruGatesRefIdeal (hLruGatesIdeal := hLruGatesIdeal) (hLruGatesRefIdeal := hLruGatesRefIdeal)
    ∧ preserves_LruGatesDx_LruGatesDxIdeal
    ∧ algebraic_LruGatesDxIdeal_LruGatesDxRefIdeal (hLruGatesDxIdeal := hLruGatesDxIdeal) (hLruGatesDxRefIdeal := hLruGatesDxRefIdeal)
    ∧ preserves_LruGatesDw_LruGatesDwIdeal
    ∧ algebraic_LruGatesDwIdeal_LruGatesDwRefIdeal (hLruGatesDwIdeal := hLruGatesDwIdeal) (hLruGatesDwRefIdeal := hLruGatesDwRefIdeal)
    ∧ preserves_S5Bu_S5BuIdeal
    ∧ algebraic_S5BuIdeal_S5BuRefIdeal (hS5BuIdeal := hS5BuIdeal) (hS5BuRefIdeal := hS5BuRefIdeal)
    ∧ preserves_S5Dx_S5DxIdeal
    ∧ algebraic_S5DxIdeal_S5DxRefIdeal (hS5DxIdeal := hS5DxIdeal) (hS5DxRefIdeal := hS5DxRefIdeal)
    ∧ preserves_S5Y_S5YIdeal
    ∧ algebraic_S5YIdeal_S5YRefIdeal (hS5YIdeal := hS5YIdeal) (hS5YRefIdeal := hS5YRefIdeal)
    ∧ preserves_S5YAdd_S5YAddIdeal
    ∧ algebraic_S5YAddIdeal_S5YAddRefIdeal (hS5YAddIdeal := hS5YAddIdeal) (hS5YAddRefIdeal := hS5YAddRefIdeal)
    ∧ preserves_S5Dc_S5DcIdeal
    ∧ algebraic_S5DcIdeal_S5DcRefIdeal (hS5DcIdeal := hS5DcIdeal) (hS5DcRefIdeal := hS5DcRefIdeal)
    ∧ preserves_S5Du_S5DuIdeal
    ∧ algebraic_S5DuIdeal_S5DuRefIdeal (hS5DuIdeal := hS5DuIdeal) (hS5DuRefIdeal := hS5DuRefIdeal)
    ∧ preserves_S5Db_S5DbIdeal
    ∧ algebraic_S5DbIdeal_S5DbRefIdeal (hS5DbIdeal := hS5DbIdeal) (hS5DbRefIdeal := hS5DbRefIdeal)
    ∧ preserves_S5PostBwd_S5PostBwdIdeal
    ∧ algebraic_S5PostBwdIdeal_S5PostBwdRefIdeal (hS5PostBwdIdeal := hS5PostBwdIdeal) (hS5PostBwdRefIdeal := hS5PostBwdRefIdeal)
    ∧ preserves_LruPreBwd_LruPreBwdIdeal
    ∧ algebraic_LruPreBwdIdeal_LruPreBwdRefIdeal_pre_lru_finite (hLruPreBwdIdeal := hLruPreBwdIdeal) (hLruPreBwdRefIdeal := hLruPreBwdRefIdeal) (hPre_lru_finite := hPre_lru_finite)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_lru_finite.lean ====
abbrev S4096x2048 : Shape := ⟨2, ![4096, 2048]⟩
abbrev S4096x1024 : Shape := ⟨2, ![4096, 1024]⟩
abbrev S1x2048 : Shape := ⟨2, ![1, 2048]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S1x1024 .f32) (main_arg4 : FVec F S4096x1024 .f32) (main_arg5 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  let main_cst_10 : FVec F S_ .f32 := constant S_ .f32 0x00000000#32
  let main_v29 : FVec F S1x1024 .f32 := broadcastInDim S1x1024 ![] bcast_S_S1x1024 main_cst_10
  let main_v30 : IVec S1x1024 1 := cmpf .une main_arg3 main_v29
  let main_c_11 : IVec S_ 1 := constantI S_ 1 1#1
  let main_v31 : IVec S_ 1 := (fun x v => Host.reduce IntOp.andi x v reducesTo_S1x1024_S_d0_1 h_S_) main_v30 main_c_11
  let main_v32 : IVec S_ 1 := andi main_v28 main_v31
  main_v32

def fn {F : FTy → Type} [FloatOps F] (main_arg0 : FVec F S4096x2048 .f32) (main_arg1 : FVec F S4096x1024 .f32) (main_arg2 : FVec F S1x2048 .f32) (main_arg3 : FVec F S1x1024 .f32) (main_arg4 : FVec F S4096x1024 .f32) (main_arg5 : FVec F S4096x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg3 main_arg4 main_arg5 main_v3 main_v7 main_v11 main_v15
-- ==== Pre_s5_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S4096x2048 .f32) (main_arg5 : FVec F S4096x2048 .f32) (main_v3 : IVec S_ 1) (main_v7 : IVec S_ 1) (main_v11 : IVec S_ 1) (main_v15 : IVec S_ 1) : IVec S_ 1 :=
  let main_v16 : FVec F S4096x2048 .f32 := Host.absf main_arg4
  let main_cst_6 : FVec F S_ .f32 := constant S_ .f32 0x7F800000#32
  let main_v17 : FVec F S4096x2048 .f32 := broadcastInDim S4096x2048 ![] bcast_S_S4096x2048 main_cst_6
  let main_v18 : IVec S4096x2048 1 := cmpf .olt main_v16 main_v17
  let main_c_7 : IVec S_ 1 := constantI S_ 1 1#1
  let main_v19 : IVec S_ 1 := (fun x v => Host.reduce IntOp.andi x v reducesTo_S4096x2048_S_d0_1 h_S_) main_v18 main_c_7
  let main_v20 : FVec F S4096x2048 .f32 := Host.absf main_arg5
  let main_cst_8 : FVec F S_ .f32 := constant S_ .f32 0x7F800000#32
  let main_v21 : FVec F S4096x2048 .f32 := broadcastInDim S4096x2048 ![] bcast_S_S4096x2048 main_cst_8
  let main_v22 : IVec S4096x2048 1 := cmpf .olt main_v20 main_v21
  let main_c_9 : IVec S_ 1 := constantI S_ 1 1#1
  let main_v23 : IVec S_ 1 := (fun x v => Host.reduce IntOp.andi x v reducesTo_S4096x2048_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_arg5 main_v3 main_v7 main_v11 main_v15
-- ==== Kernel.lean ====
abbrev S4096x1024 : Shape := ⟨2, ![4096, 1024]⟩
abbrev S4096x256 : Shape := ⟨2, ![4096, 256]⟩
abbrev S1x256 : Shape := ⟨2, ![1, 256]⟩
abbrev S8x256 : Shape := ⟨2, ![8, 256]⟩

abbrev nBuf : Space → Nat
  | .hbm => 6
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v3 : BitVec 32 := Scalar.muli arg4 c8_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v3 : BitVec 32 := Scalar.muli arg4 c8_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

@[reducible] def k1_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k1_mult1 (k1_t1 : Fin k1_t1_loop.trips) : BitVec 32 :=
  let c511_i32 : BitVec 32 := 511#32
  let c0_i32 : BitVec 32 := 0#32
  let c1_i32 : BitVec 32 := 1#32
  let arg6 : BitVec 32 := Scf.iv c0_i32 c1_i32 k1_t1
  let v3 : BitVec 32 := Scalar.subi c511_i32 arg6
  let c8_i32 : BitVec 32 := 8#32
  let v4 : BitVec 32 := Scalar.muli v3 c8_i32
  v4
def k1_off1 (k1_t1 : Fin k1_t1_loop.trips) : Fin 2 → Nat :=
  let c511_i32 : BitVec 32 := 511#32
  let c0_i32 : BitVec 32 := 0#32
  let c1_i32 : BitVec 32 := 1#32
  let arg6 : BitVec 32 := Scf.iv c0_i32 c1_i32 k1_t1
  let v3 : BitVec 32 := Scalar.subi c511_i32 arg6
  let c8_i32 : BitVec 32 := 8#32
  let v4 : BitVec 32 := Scalar.muli v3 c8_i32
  let v5 : BitVec 32 := v4
  let c8_i32_1 : BitVec 32 := 8#32
  let v6 : BitVec 32 := Scalar.addi v5 c8_i32_1
  let c4095_i32 : BitVec 32 := 4095#32
  let v7 : BitVec 32 := Scalar.minsi v6 c4095_i32
  let v8 : Index := Scalar.indexCast v7
  let c0 : Index := 0#32
  ![v8.toNat, 0]
def k1_off2 (k1_t1 : Fin k1_t1_loop.trips) : Fin 2 → Nat :=
  let c511_i32 : BitVec 32 := 511#32
  let c0_i32 : BitVec 32 := 0#32
  let c1_i32 : BitVec 32 := 1#32
  let arg6 : BitVec 32 := Scf.iv c0_i32 c1_i32 k1_t1
  let v3 : BitVec 32 := Scalar.subi c511_i32 arg6
  let c8_i32 : BitVec 32 := 8#32
  let v4 : BitVec 32 := Scalar.muli v3 c8_i32
  let v5 : BitVec 32 := v4
  let v16 : Index := Scalar.indexCast v5
  let c0_3 : Index := 0#32
  ![v16.toNat, 0]
def k1_off3 (k1_t1 : Fin k1_t1_loop.trips) : Fin 2 → Nat :=
  let c511_i32 : BitVec 32 := 511#32
  let c0_i32 : BitVec 32 := 0#32
  let c1_i32 : BitVec 32 := 1#32
  let arg6 : BitVec 32 := Scf.iv c0_i32 c1_i32 k1_t1
  let v3 : BitVec 32 := Scalar.subi c511_i32 arg6
  let c8_i32 : BitVec 32 := 8#32
  let v4 : BitVec 32 := Scalar.muli v3 c8_i32
  let v5 : BitVec 32 := v4
  let c1_i32_24 : BitVec 32 := 1#32
  let v80 : BitVec 32 := Scalar.subi v5 c1_i32_24
  let c0_i32_25 : BitVec 32 := 0#32
  let v81 : BitVec 32 := Scalar.maxsi v80 c0_i32_25
  let v82 : Index := Scalar.indexCast v81
  let c0_26 : Index := 0#32
  ![v82.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4096x1024 : Shape := ⟨2, ![4096, 1024]⟩
abbrev S_ : Shape := ⟨0, ![]⟩
abbrev S1024 : Shape := ⟨1, ![1024]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S_, .i32⟩
  | .hbm, ⟨10, _⟩ => ⟨S4096x1024, .f32⟩
  | .hbm, ⟨11, _⟩ => ⟨S4096x1024, .f32⟩
  | .hbm, ⟨12, _⟩ => ⟨S_, .i32⟩
  | .hbm, ⟨13, _⟩ => ⟨S1024, .f32⟩
  | .hbm, ⟨14, _⟩ => ⟨S4096x1024, .f32⟩
  | .hbm, ⟨15, _⟩ => ⟨S4096x1024, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x1024, .f32⟩
  | .hbm, ⟨20, _⟩ => ⟨S1024, .f32⟩
  | .hbm, ⟨21, _⟩ => ⟨S_, .i32⟩
  | .hbm, ⟨22, _⟩ => ⟨S1x1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S_, .i32⟩
  | .hbm, ⟨28, _⟩ => ⟨S4096x1024, .f32⟩
  | .hbm, ⟨29, _⟩ => ⟨S1x1024, .f32⟩
  | .hbm, ⟨30, _⟩ => ⟨S_, .i32⟩
  | .hbm, ⟨31, _⟩ => ⟨S4096x1024, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S_, .i32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .i32⟩
  | .hbm, ⟨47, _⟩ => ⟨S1024, .f32⟩
  | .hbm, ⟨48, _⟩ => ⟨S4096x1024, .f32⟩
  | .hbm, ⟨49, _⟩ => ⟨S4096x1024, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x1024, .f32⟩
  | .hbm, ⟨58, _⟩ => ⟨S1024, .f32⟩
  | .hbm, ⟨59, _⟩ => ⟨S_, .i32⟩
  | .hbm, ⟨60, _⟩ => ⟨S1x1024, .f32⟩
  | .hbm, ⟨61, _⟩ => ⟨S1024, .f32⟩
  | .hbm, ⟨62, _⟩ => ⟨S_, .i32⟩
  | .hbm, ⟨63, _⟩ => ⟨S1x1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S_, .i32⟩
  | .hbm, ⟨70, _⟩ => ⟨S4096x1024, .f32⟩
  | .hbm, ⟨71, _⟩ => ⟨S1x1024, .f32⟩
  | .hbm, ⟨72, _⟩ => ⟨S_, .i32⟩
  | .hbm, ⟨73, _⟩ => ⟨S4096x1024, .f32⟩
  | .hbm, ⟨74, _⟩ => ⟨S_, .i32⟩
  | .hbm, ⟨75, _⟩ => ⟨S_, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_12 : Ref sig .tc := ⟨.hbm, 16, rfl⟩
abbrev main_while0c_v9 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_call2_v0 : Ref sig .tc := ⟨.hbm, 26, rfl⟩
abbrev main_while0b_call2_c : Ref sig .tc := ⟨.hbm, 27, rfl⟩
abbrev main_while0b_v13 : Ref sig .tc := ⟨.hbm, 28, rfl⟩
abbrev main_while0b_call3_v0 : Ref sig .tc := ⟨.hbm, 29, rfl⟩
abbrev main_while0b_call3_c : Ref sig .tc := ⟨.hbm, 30, rfl⟩
abbrev main_while0b_v14 : Ref sig .tc := ⟨.hbm, 31, rfl⟩
abbrev main_while0b_c_12 : Ref sig .tc := ⟨.hbm, 32, rfl⟩
abbrev main_while0b_v15 : Ref sig .tc := ⟨.hbm, 33, rfl⟩
abbrev main_cst_2 : Ref sig .tc := ⟨.hbm, 34, rfl⟩
abbrev main_v4 : Ref sig .tc := ⟨.hbm, 35, rfl⟩
abbrev main_cst_3 : Ref sig .tc := ⟨.hbm, 36, rfl⟩
abbrev main_v5 : Ref sig .tc := ⟨.hbm, 37, rfl⟩
abbrev main_cst_4 : Ref sig .tc := ⟨.hbm, 38, rfl⟩
abbrev main_v6 : Ref sig .tc := ⟨.hbm, 39, rfl⟩
abbrev main_cst_5 : Ref sig .tc := ⟨.hbm, 40, rfl⟩
abbrev main_v7 : Ref sig .tc := ⟨.hbm, 41, rfl⟩
abbrev main_c_6 : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_while1c_c_13 : Ref sig .tc := ⟨.hbm, 50, rfl⟩
abbrev main_while1c_v9 : Ref sig .tc := ⟨.hbm, 51, rfl⟩
abbrev main_while1b_c_13 : Ref sig .tc := ⟨.hbm, 52, rfl⟩
abbrev main_while1b_v9 : Ref sig .tc := ⟨.hbm, 53, rfl⟩
abbrev main_while1b_c_14 : Ref sig .tc := ⟨.hbm, 54, rfl⟩
abbrev main_while1b_v10 : Ref sig .tc := ⟨.hbm, 55, rfl⟩
abbrev main_while1b_call4_c : Ref sig .tc := ⟨.hbm, 56, rfl⟩
abbrev main_while1b_call4_v0 : Ref sig .tc := ⟨.hbm, 57, rfl⟩
abbrev main_while1b_v11 : Ref sig .tc := ⟨.hbm, 58, rfl⟩
abbrev main_while1b_call5_c : Ref sig .tc := ⟨.hbm, 59, rfl⟩
abbrev main_while1b_call5_v0 : Ref sig .tc := ⟨.hbm, 60, rfl⟩
abbrev main_while1b_v12 : Ref sig .tc := ⟨.hbm, 61, rfl⟩
abbrev main_while1b_call6_c : Ref sig .tc := ⟨.hbm, 62, rfl⟩
abbrev main_while1b_call6_v0 : Ref sig .tc := ⟨.hbm, 63, rfl⟩
abbrev main_while1b_v13 : Ref sig .tc := ⟨.hbm, 64, rfl⟩
abbrev main_while1b_v14 : Ref sig .tc := ⟨.hbm, 65, rfl⟩
abbrev main_while1b_v15 : Ref sig .tc := ⟨.hbm, 66, rfl⟩
abbrev main_while1b_v16 : Ref sig .tc := ⟨.hbm, 67, rfl⟩
abbrev main_while1b_call7_v0 : Ref sig .tc := ⟨.hbm, 68, rfl⟩
abbrev main_while1b_call7_c : Ref sig .tc := ⟨.hbm, 69, rfl⟩
abbrev main_while1b_v17 : Ref sig .tc := ⟨.hbm, 70, rfl⟩
abbrev main_while1b_call8_v0 : Ref sig .tc := ⟨.hbm, 71, rfl⟩
abbrev main_while1b_call8_c : Ref sig .tc := ⟨.hbm, 72, rfl⟩
abbrev main_while1b_v18 : Ref sig .tc := ⟨.hbm, 73, rfl⟩
abbrev main_while1b_c_15 : Ref sig .tc := ⟨.hbm, 74, rfl⟩
abbrev main_while1b_v19 : Ref sig .tc := ⟨.hbm, 75, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== S5Scan.lean ====
abbrev S4096x2048 : Shape := ⟨2, ![4096, 2048]⟩
abbrev S1x2048 : Shape := ⟨2, ![1, 2048]⟩
abbrev S1x4096 : Shape := ⟨2, ![1, 4096]⟩
abbrev S4096x4096 : Shape := ⟨2, ![4096, 4096]⟩
abbrev S4096x256 : Shape := ⟨2, ![4096, 256]⟩
abbrev S1x256 : Shape := ⟨2, ![1, 256]⟩
abbrev S8x256 : Shape := ⟨2, ![8, 256]⟩
abbrev S256 : Shape := ⟨1, ![256]⟩

abbrev nBuf : Space → Nat
  | .hbm => 14
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x4096, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S1x2048, .f32⟩
  | .hbm, ⟨13, _⟩ => ⟨S1x2048, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S4096x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S4096x256, .f32⟩
  | .local _ .vmem, ⟨25, _⟩ => ⟨S4096x256, .f32⟩
  | .local _ .vmem, ⟨26, _⟩ => ⟨S4096x256, .f32⟩
  | .local _ .vmem, ⟨27, _⟩ => ⟨S4096x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_13 : BitVec 32 := 0#32
  let c512_i32 : BitVec 32 := 512#32
  let v130 : BitVec 32 := Scalar.addi c0_i32_13 c512_i32
  let c1_i32_14 : BitVec 32 := 1#32
  ⟨c0_i32_13, v130, c1_i32_14⟩
def k0_mult1 (k0_t1 : Fin k0_t1_loop.trips) : BitVec 32 :=
  let c0_i32_13 : BitVec 32 := 0#32
  let c1_i32_14 : BitVec 32 := 1#32
  let arg7 : BitVec 32 := Scf.iv c0_i32_13 c1_i32_14 k0_t1
  let c8_i32 : BitVec 32 := 8#32
  let v132 : BitVec 32 := Scalar.muli arg7 c8_i32
  v132
def k0_off1 (k0_t1 : Fin k0_t1_loop.trips) : Fin 2 → Nat :=
  let c0_i32_13 : BitVec 32 := 0#32
  let c1_i32_14 : BitVec 32 := 1#32
  let arg7 : BitVec 32 := Scf.iv c0_i32_13 c1_i32_14 k0_t1
  let c8_i32 : BitVec 32 := 8#32
  let v132 : BitVec 32 := Scalar.muli arg7 c8_i32
  let v133 : BitVec 32 := v132
  let v134 : Index := Scalar.indexCast v133
  let c0_16 : Index := 0#32
  ![v134.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

@[reducible] def k1_t1_loop : Scf.Loop 32 :=
  let c0_i32_15 : BitVec 32 := 0#32
  let c512_i32 : BitVec 32 := 512#32
  let v133 : BitVec 32 := Scalar.addi c0_i32_15 c512_i32
  let c1_i32_16 : BitVec 32 := 1#32
  ⟨c0_i32_15, v133, c1_i32_16⟩
def k1_mult1 (k1_t1 : Fin k1_t1_loop.trips) : BitVec 32 :=
  let c511_i32 : BitVec 32 := 511#32
  let c0_i32_15 : BitVec 32 := 0#32
  let c1_i32_16 : BitVec 32 := 1#32
  let arg11 : BitVec 32 := Scf.iv c0_i32_15 c1_i32_16 k1_t1
  let v141 : BitVec 32 := Scalar.subi c511_i32 arg11
  let c8_i32 : BitVec 32 := 8#32
  let v142 : BitVec 32 := Scalar.muli v141 c8_i32
  v142
def k1_off1 (k1_t1 : Fin k1_t1_loop.trips) : Fin 2 → Nat :=
  let c511_i32 : BitVec 32 := 511#32
  let c0_i32_15 : BitVec 32 := 0#32
  let c1_i32_16 : BitVec 32 := 1#32
  let arg11 : BitVec 32 := Scf.iv c0_i32_15 c1_i32_16 k1_t1
  let v141 : BitVec 32 := Scalar.subi c511_i32 arg11
  let c8_i32 : BitVec 32 := 8#32
  let v142 : BitVec 32 := Scalar.muli v141 c8_i32
  let v143 : BitVec 32 := v142
  let v144 : Index := Scalar.indexCast v143
  let c0_24 : Index := 0#32
  ![v144.toNat, 0]
def k1_off2 (k1_t1 : Fin k1_t1_loop.trips) : Fin 2 → Nat :=
  let c511_i32 : BitVec 32 := 511#32
  let c0_i32_15 : BitVec 32 := 0#32
  let c1_i32_16 : BitVec 32 := 1#32
  let arg11 : BitVec 32 := Scf.iv c0_i32_15 c1_i32_16 k1_t1
  let v141 : BitVec 32 := Scalar.subi c511_i32 arg11
  let c8_i32 : BitVec 32 := 8#32
  let v142 : BitVec 32 := Scalar.muli v141 c8_i32
  let v143 : BitVec 32 := v142
  let c1_i32_47 : BitVec 32 := 1#32
  let v239 : BitVec 32 := Scalar.subi v143 c1_i32_47
  let c0_i32_48 : BitVec 32 := 0#32
  let v240 : BitVec 32 := Scalar.maxsi v239 c0_i32_48
  let v241 : Index := Scalar.indexCast v240
  let c0_49 : Index := 0#32
  ![v241.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== S5ScanRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩

abbrev nBuf : Space → Nat
  | .hbm => 135
  | .vmem => 0
  | .smem => 0
  | _ => 0

abbrev hbmTy0_0 (i : Nat) : BufTy := match i % 128 with
  | 0 => ⟨S4096x2048, .f32⟩
  | 1 => ⟨S4096x2048, .f32⟩
  | 2 => ⟨S1x2048, .f32⟩
  | 3 => ⟨S1x2048, .f32⟩
  | 4 => ⟨S4096x2048, .f32⟩
  | 5 => ⟨S4096x2048, .f32⟩
  | 6 => ⟨S2048, .f32⟩
  | 7 => ⟨S2048, .f32⟩
  | 8 => ⟨S_, .f32⟩
  | 9 => ⟨S2048, .f32⟩
  | 10 => ⟨S_, .f32⟩
  | 11 => ⟨S4096x2048, .f32⟩
  | 12 => ⟨S_, .f32⟩
  | 13 => ⟨S4096x2048, .f32⟩
  | 14 => ⟨S_, .f32⟩
  | 15 => ⟨S4096x2048, .f32⟩
  | 16 => ⟨S_, .f32⟩
  | 17 => ⟨S4096x2048, .f32⟩
  | 18 => ⟨S_, .i32⟩
  | 19 => ⟨S4096x2048, .f32⟩
  | 20 => ⟨S4096x2048, .f32⟩
  | 21 => ⟨S2048, .f32⟩
  | 22 => ⟨S2048, .f32⟩
  | 23 => ⟨S_, .i32⟩
  | 24 => ⟨S2048, .f32⟩
  | 25 => ⟨S2048, .f32⟩
  | 26 => ⟨S4096x2048, .f32⟩
  | 27 => ⟨S4096x2048, .f32⟩
  | 28 => ⟨S4096x2048, .f32⟩
  | 29 => ⟨S4096x2048, .f32⟩
  | 30 => ⟨S_, .i32⟩
  | 31 => ⟨S_, .i1⟩
  | 32 => ⟨S_, .i32⟩
  | 33 => ⟨S1x2048, .f32⟩
  | 34 => ⟨S2048, .f32⟩
  | 35 => ⟨S_, .i32⟩
  | 36 => ⟨S1x2048, .f32⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S2048, .f32⟩
  | 46 => ⟨S1x2048, .f32⟩
  | 47 => ⟨S_, .i32⟩
  | 48 => ⟨S4096x2048, .f32⟩
  | 49 => ⟨S1x2048, .f32⟩
  | 50 => ⟨S_, .i32⟩
  | 51 => ⟨S4096x2048, .f32⟩
  | 52 => ⟨S1x2048, .f32⟩
  | 53 => ⟨S_, .i32⟩
  | 54 => ⟨S4096x2048, .f32⟩
  | 55 => ⟨S1x2048, .f32⟩
  | 56 => ⟨S_, .i32⟩
  | 57 => ⟨S4096x2048, .f32⟩
  | 58 => ⟨S_, .i32⟩
  | 59 => ⟨S_, .i32⟩
  | 60 => ⟨S_, .f32⟩
  | 61 => ⟨S2048, .f32⟩
  | 62 => ⟨S_, .f32⟩
  | 63 => ⟨S2048, .f32⟩
  | 64 => ⟨S_, .f32⟩
  | 65 => ⟨S2048, .f32⟩
  | 66 => ⟨S_, .f32⟩
  | 67 => ⟨S2048, .f32⟩
  | 68 => ⟨S_, .f32⟩
  | 69 => ⟨S2048, .f32⟩
  | 70 => ⟨S_, .f32⟩
  | 71 => ⟨S2048, .f32⟩
  | 72 => ⟨S_, .f32⟩
  | 73 => ⟨S4096x2048, .f32⟩
  | 74 => ⟨S_, .f32⟩
  | 75 => ⟨S4096x2048, .f32⟩
  | 76 => ⟨S_, .i32⟩
  | 77 => ⟨S4096x2048, .f32⟩
  | 78 => ⟨S4096x2048, .f32⟩
  | 79 => ⟨S4096x2048, .f32⟩
  | 80 => ⟨S4096x2048, .f32⟩
  | 81 => ⟨S2048, .f32⟩
  | 82 => ⟨S2048, .f32⟩
  | 83 => ⟨S_, .i32⟩
  | 84 => ⟨S2048, .f32⟩
  | 85 => ⟨S2048, .f32⟩
  | 86 => ⟨S2048, .f32⟩
  | 87 => ⟨S2048, .f32⟩
  | 88 => ⟨S4096x2048, .f32⟩
  | 89 => ⟨S4096x2048, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x2048, .f32⟩
  | 98 => ⟨S2048, .f32⟩
  | 99 => ⟨S_, .i32⟩
  | 100 => ⟨S1x2048, .f32⟩
  | 101 => ⟨S2048, .f32⟩
  | 102 => ⟨S_, .i32⟩
  | 103 => ⟨S1x2048, .f32⟩
  | 104 => ⟨S2048, .f32⟩
  | 105 => ⟨S_, .i32⟩
  | 106 => ⟨S1x2048, .f32⟩
  | 107 => ⟨S2048, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S2048, .f32⟩
  | 118 => ⟨S2048, .f32⟩
  | 119 => ⟨S2048, .f32⟩
  | 120 => ⟨S2048, .f32⟩
  | 121 => ⟨S2048, .f32⟩
  | 122 => ⟨S2048, .f32⟩
  | 123 => ⟨S2048, .f32⟩
  | 124 => ⟨S2048, .f32⟩
  | 125 => ⟨S1x2048, .f32⟩
  | 126 => ⟨S_, .i32⟩
  | 127 => ⟨S4096x2048, .f32⟩
  | _ => ⟨S4096x2048, .f32⟩

abbrev hbmTy0_1 (i : Nat) : BufTy := match i % 128 with
  | 0 => ⟨S1x2048, .f32⟩
  | 1 => ⟨S_, .i32⟩
  | 2 => ⟨S4096x2048, .f32⟩
  | 3 => ⟨S_, .i32⟩
  | 4 => ⟨S_, .i32⟩
  | 5 => ⟨S1x2048, .f32⟩
  | 6 => ⟨S1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_c : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev main_v7_9 : Ref sig .tc := ⟨.hbm, 28, rfl⟩
abbrev main_v7_10 : Ref sig .tc := ⟨.hbm, 29, rfl⟩
abbrev main_while0c_c_23 : Ref sig .tc := ⟨.hbm, 30, rfl⟩
abbrev main_while0c_v19 : Ref sig .tc := ⟨.hbm, 31, rfl⟩
abbrev main_while0b_call0_c : Ref sig .tc := ⟨.hbm, 32, rfl⟩
abbrev main_while0b_call0_v0 : Ref sig .tc := ⟨.hbm, 33, rfl⟩
abbrev main_while0b_v19 : Ref sig .tc := ⟨.hbm, 34, rfl⟩
abbrev main_while0b_call1_c : Ref sig .tc := ⟨.hbm, 35, rfl⟩
abbrev main_while0b_call1_v0 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_call2_v0 : Ref sig .tc := ⟨.hbm, 46, rfl⟩
abbrev main_while0b_call2_c : Ref sig .tc := ⟨.hbm, 47, rfl⟩
abbrev main_while0b_v29 : Ref sig .tc := ⟨.hbm, 48, rfl⟩
abbrev main_while0b_call3_v0 : Ref sig .tc := ⟨.hbm, 49, rfl⟩
abbrev main_while0b_call3_c : Ref sig .tc := ⟨.hbm, 50, rfl⟩
abbrev main_while0b_v30 : Ref sig .tc := ⟨.hbm, 51, rfl⟩
abbrev main_while0b_call4_v0 : Ref sig .tc := ⟨.hbm, 52, rfl⟩
abbrev main_while0b_call4_c : Ref sig .tc := ⟨.hbm, 53, rfl⟩
abbrev main_while0b_v31 : Ref sig .tc := ⟨.hbm, 54, rfl⟩
abbrev main_while0b_call5_v0 : Ref sig .tc := ⟨.hbm, 55, rfl⟩
abbrev main_while0b_call5_c : Ref sig .tc := ⟨.hbm, 56, rfl⟩
abbrev main_while0b_v32 : Ref sig .tc := ⟨.hbm, 57, rfl⟩
abbrev main_while0b_c_23 : Ref sig .tc := ⟨.hbm, 58, rfl⟩
abbrev main_while0b_v33 : Ref sig .tc := ⟨.hbm, 59, rfl⟩
abbrev main_cst_4 : Ref sig .tc := ⟨.hbm, 60, rfl⟩
abbrev main_v8 : Ref sig .tc := ⟨.hbm, 61, rfl⟩
abbrev main_cst_5 : Ref sig .tc := ⟨.hbm, 62, rfl⟩
abbrev main_v9 : Ref sig .tc := ⟨.hbm, 63, rfl⟩
abbrev main_cst_6 : Ref sig .tc := ⟨.hbm, 64, rfl⟩
abbrev main_v10 : Ref sig .tc := ⟨.hbm, 65, rfl⟩
abbrev main_cst_7 : Ref sig .tc := ⟨.hbm, 66, rfl⟩
abbrev main_v11 : Ref sig .tc := ⟨.hbm, 67, rfl⟩
abbrev main_cst_8 : Ref sig .tc := ⟨.hbm, 68, rfl⟩
abbrev main_v12 : Ref sig .tc := ⟨.hbm, 69, rfl⟩
abbrev main_cst_9 : Ref sig .tc := ⟨.hbm, 70, rfl⟩
abbrev main_v13 : Ref sig .tc := ⟨.hbm, 71, rfl⟩
abbrev main_cst_10 : Ref sig .tc := ⟨.hbm, 72, rfl⟩
abbrev main_v14 : Ref sig .tc := ⟨.hbm, 73, rfl⟩
abbrev main_cst_11 : Ref sig .tc := ⟨.hbm, 74, rfl⟩
abbrev main_v15 : Ref sig .tc := ⟨.hbm, 75, rfl⟩
abbrev main_c_12 : Ref sig .tc := ⟨.hbm, 76, rfl⟩
abbrev main_v16_0 : Ref sig .tc := ⟨.hbm, 77, rfl⟩
abbrev main_v16_1 : Ref sig .tc := ⟨.hbm, 78, rfl⟩
abbrev main_v16_2 : Ref sig .tc := ⟨.hbm, 79, rfl⟩
abbrev main_v16_3 : Ref sig .tc := ⟨.hbm, 80, rfl⟩
abbrev main_v16_4 : Ref sig .tc := ⟨.hbm, 81, rfl⟩
abbrev main_v16_5 : Ref sig .tc := ⟨.hbm, 82, rfl⟩
abbrev main_v16_6 : Ref sig .tc := ⟨.hbm, 83, rfl⟩
abbrev main_v16_7 : Ref sig .tc := ⟨.hbm, 84, rfl⟩
abbrev main_v16_8 : Ref sig .tc := ⟨.hbm, 85, rfl⟩
abbrev main_v16_9 : Ref sig .tc := ⟨.hbm, 86, rfl⟩
abbrev main_v16_10 : Ref sig .tc := ⟨.hbm, 87, rfl⟩
abbrev main_v16_11 : Ref sig .tc := ⟨.hbm, 88, rfl⟩
abbrev main_v16_12 : Ref sig .tc := ⟨.hbm, 89, rfl⟩
abbrev main_while1c_c_25 : Ref sig .tc := ⟨.hbm, 90, rfl⟩
abbrev main_while1c_v19 : Ref sig .tc := ⟨.hbm, 91, rfl⟩
abbrev main_while1b_c_25 : Ref sig .tc := ⟨.hbm, 92, rfl⟩
abbrev main_while1b_v19 : Ref sig .tc := ⟨.hbm, 93, rfl⟩
abbrev main_while1b_c_26 : Ref sig .tc := ⟨.hbm, 94, rfl⟩
abbrev main_while1b_v20 : Ref sig .tc := ⟨.hbm, 95, rfl⟩
abbrev main_while1b_call6_c : Ref sig .tc := ⟨.hbm, 96, rfl⟩
abbrev main_while1b_call6_v0 : Ref sig .tc := ⟨.hbm, 97, rfl⟩
abbrev main_while1b_v21 : Ref sig .tc := ⟨.hbm, 98, rfl⟩
abbrev main_while1b_call7_c : Ref sig .tc := ⟨.hbm, 99, rfl⟩
abbrev main_while1b_call7_v0 : Ref sig .tc := ⟨.hbm, 100, rfl⟩
abbrev main_while1b_v22 : Ref sig .tc := ⟨.hbm, 101, rfl⟩
abbrev main_while1b_call8_c : Ref sig .tc := ⟨.hbm, 102, rfl⟩
abbrev main_while1b_call8_v0 : Ref sig .tc := ⟨.hbm, 103, rfl⟩
abbrev main_while1b_v23 : Ref sig .tc := ⟨.hbm, 104, rfl⟩
abbrev main_while1b_call9_c : Ref sig .tc := ⟨.hbm, 105, rfl⟩
abbrev main_while1b_call9_v0 : Ref sig .tc := ⟨.hbm, 106, rfl⟩
abbrev main_while1b_v24 : Ref sig .tc := ⟨.hbm, 107, rfl⟩
abbrev main_while1b_v25 : Ref sig .tc := ⟨.hbm, 108, rfl⟩
abbrev main_while1b_v26 : Ref sig .tc := ⟨.hbm, 109, rfl⟩
abbrev main_while1b_v27 : Ref sig .tc := ⟨.hbm, 110, rfl⟩
abbrev main_while1b_v28 : Ref sig .tc := ⟨.hbm, 111, rfl⟩
abbrev main_while1b_v29 : Ref sig .tc := ⟨.hbm, 112, rfl⟩
abbrev main_while1b_v30 : Ref sig .tc := ⟨.hbm, 113, rfl⟩
abbrev main_while1b_v31 : Ref sig .tc := ⟨.hbm, 114, rfl⟩
abbrev main_while1b_v32 : Ref sig .tc := ⟨.hbm, 115, rfl⟩
abbrev main_while1b_v33 : Ref sig .tc := ⟨.hbm, 116, rfl⟩
abbrev main_while1b_v34 : Ref sig .tc := ⟨.hbm, 117, rfl⟩
abbrev main_while1b_v35 : Ref sig .tc := ⟨.hbm, 118, rfl⟩
abbrev main_while1b_v36 : Ref sig .tc := ⟨.hbm, 119, rfl⟩
abbrev main_while1b_v37 : Ref sig .tc := ⟨.hbm, 120, rfl⟩
abbrev main_while1b_v38 : Ref sig .tc := ⟨.hbm, 121, rfl⟩
abbrev main_while1b_v39 : Ref sig .tc := ⟨.hbm, 122, rfl⟩
abbrev main_while1b_v40 : Ref sig .tc := ⟨.hbm, 123, rfl⟩
abbrev main_while1b_v41 : Ref sig .tc := ⟨.hbm, 124, rfl⟩
abbrev main_while1b_call10_v0 : Ref sig .tc := ⟨.hbm, 125, rfl⟩
abbrev main_while1b_call10_c : Ref sig .tc := ⟨.hbm, 126, rfl⟩
abbrev main_while1b_v42 : Ref sig .tc := ⟨.hbm, 127, rfl⟩
abbrev main_while1b_call11_v0 : Ref sig .tc := ⟨.hbm, 128, rfl⟩
abbrev main_while1b_call11_c : Ref sig .tc := ⟨.hbm, 129, rfl⟩
abbrev main_while1b_v43 : Ref sig .tc := ⟨.hbm, 130, rfl⟩
abbrev main_while1b_c_27 : Ref sig .tc := ⟨.hbm, 131, rfl⟩
abbrev main_while1b_v44 : Ref sig .tc := ⟨.hbm, 132, rfl⟩
abbrev main_v17 : Ref sig .tc := ⟨.hbm, 133, rfl⟩
abbrev main_v18 : Ref sig .tc := ⟨.hbm, 134, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== MlpPre.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x2048, .bf16⟩
  | .hbm, ⟨5, _⟩ => ⟨S2048x8192, .bf16⟩
  | .hbm, ⟨6, _⟩ => ⟨S4096x8192, .bf16⟩
  | .hbm, ⟨7, _⟩ => ⟨S8192x2048, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | .local _ .vmem, ⟨10, _⟩ => ⟨S1024x2048, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== MlpPreRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | .hbm, ⟨28, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== MlpDown.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S8192x2048, .bf16⟩
  | .hbm, ⟨11, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== MlpDownDw.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S4096x2048 : Shape := ⟨2, ![4096, 2048]⟩
abbrev S2048x8192 : Shape := ⟨2, ![2048, 8192]⟩
abbrev S_ : Shape := ⟨0, ![]⟩
abbrev S8192x2048 : Shape := ⟨2, ![8192, 2048]⟩
abbrev S4096x8192 : Shape := ⟨2, ![4096, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .f32⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S2048x8192, .f32⟩
  | .hbm, ⟨12, _⟩ => ⟨S8192x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== MlpUpDx.lean ====
abbrev S2048x8192 : Shape := ⟨2, ![2048, 8192]⟩
abbrev S4096x8192 : Shape := ⟨2, ![4096, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S4096x8192, .bf16⟩
  | .hbm, ⟨3, _⟩ => ⟨S2048x8192, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDxRefIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpUpDw.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutProjDx.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S2048x2048, .bf16⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProjDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PlGate.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlGateRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PlProj.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .bf16⟩
  | .hbm, ⟨3, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlProjRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PlProjDw.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S2048x256, .f32⟩
  | .local _ .vmem, ⟨1, _⟩ => ⟨S2048x256, .f32⟩
  | .local _ .vmem, ⟨2, _⟩ => ⟨S2048x1024, .f32⟩
  | .local _ .vmem, ⟨3, _⟩ => ⟨S2048x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlProjDwRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenIn.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x2048, .bf16⟩
  | .hbm, ⟨3, _⟩ => ⟨S2048x5120, .bf16⟩
  | .hbm, ⟨4, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInIdeal.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x2048, .bf16⟩
  | .hbm, ⟨3, _⟩ => ⟨S2048x5120, .bf16⟩
  | .hbm, ⟨4, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EvenInDx.lean ====
abbrev S2048x5120 : Shape := ⟨2, ![2048, 5120]⟩
abbrev S4096x5120 : Shape := ⟨2, ![4096, 5120]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5120, .f32⟩
  | .hbm, ⟨1, _⟩ => ⟨S4096x5120, .f32⟩
  | .hbm, ⟨2, _⟩ => ⟨S4096x5120, .bf16⟩
  | .hbm, ⟨3, _⟩ => ⟨S2048x5120, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDxIdeal.lean ====
abbrev S2048x5120 : Shape := ⟨2, ![2048, 5120]⟩
abbrev S4096x5120 : Shape := ⟨2, ![4096, 5120]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5120, .f32⟩
  | .hbm, ⟨1, _⟩ => ⟨S4096x5120, .f32⟩
  | .hbm, ⟨2, _⟩ => ⟨S4096x5120, .bf16⟩
  | .hbm, ⟨3, _⟩ => ⟨S2048x5120, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDxRefIdeal.lean ====
abbrev S2048x5120 : Shape := ⟨2, ![2048, 5120]⟩
abbrev S4096x5120 : Shape := ⟨2, ![4096, 5120]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S4096x5120, .f32⟩
  | .hbm, ⟨2, _⟩ => ⟨S_, .f32⟩
  | .hbm, ⟨3, _⟩ => ⟨S4096x2048, .f32⟩
  | .hbm, ⟨4, _⟩ => ⟨S4096x5120, .f32⟩
  | .hbm, ⟨5, _⟩ => ⟨S4096x2048, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvenInDw.lean ====
abbrev S4096x2048 : Shape := ⟨2, ![4096, 2048]⟩
abbrev S4096x5120 : Shape := ⟨2, ![4096, 5120]⟩
abbrev S2048x5120 : Shape := ⟨2, ![2048, 5120]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S4096x2048, .bf16⟩
  | .hbm, ⟨3, _⟩ => ⟨S4096x5120, .bf16⟩
  | .hbm, ⟨4, _⟩ => ⟨S2048x5120, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDwIdeal.lean ====
abbrev S4096x2048 : Shape := ⟨2, ![4096, 2048]⟩
abbrev S4096x5120 : Shape := ⟨2, ![4096, 5120]⟩
abbrev S2048x5120 : Shape := ⟨2, ![2048, 5120]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S4096x2048, .bf16⟩
  | .hbm, ⟨3, _⟩ => ⟨S4096x5120, .bf16⟩
  | .hbm, ⟨4, _⟩ => ⟨S2048x5120, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInDwRefIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S_, .f32⟩
  | .hbm, ⟨3, _⟩ => ⟨S2048x5120, .f32⟩
  | .hbm, ⟨4, _⟩ => ⟨S4096x5120, .f32⟩
  | .hbm, ⟨5, _⟩ => ⟨S5120x2048, .f32⟩
  | .hbm, ⟨6, _⟩ => ⟨S2048x5120, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddIn.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x2048, .bf16⟩
  | .hbm, ⟨3, _⟩ => ⟨S2048x5632, .bf16⟩
  | .hbm, ⟨4, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OddInDx.lean ====
abbrev S2048x5632 : Shape := ⟨2, ![2048, 5632]⟩
abbrev S4096x5632 : Shape := ⟨2, ![4096, 5632]⟩
abbrev S4096x2048 : Shape := ⟨2, ![4096, 2048]⟩
abbrev S1024x512 : Shape := ⟨2, ![1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S4096x5632, .f32⟩
  | .hbm, ⟨2, _⟩ => ⟨S4096x5632, .bf16⟩
  | .hbm, ⟨3, _⟩ => ⟨S2048x5632, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInDxRefIdeal.lean ====
abbrev S2048x5632 : Shape := ⟨2, ![2048, 5632]⟩
abbrev S4096x5632 : Shape := ⟨2, ![4096, 5632]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S4096x5632, .f32⟩
  | .hbm, ⟨2, _⟩ => ⟨S_, .f32⟩
  | .hbm, ⟨3, _⟩ => ⟨S4096x2048, .f32⟩
  | .hbm, ⟨4, _⟩ => ⟨S4096x5632, .f32⟩
  | .hbm, ⟨5, _⟩ => ⟨S4096x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OddInDw.lean ====
abbrev S4096x2048 : Shape := ⟨2, ![4096, 2048]⟩
abbrev S4096x5632 : Shape := ⟨2, ![4096, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S4096x5632, .bf16⟩
  | .hbm, ⟨4, _⟩ => ⟨S2048x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInDwRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GateBwd.lean ====
abbrev S4096x2048 : Shape := ⟨2, ![4096, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateBwdRefIdeal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== ConvBwd.lean ====
abbrev S4096x5632 : Shape := ⟨2, ![4096, 5632]⟩
abbrev S4x1024 : Shape := ⟨2, ![4, 1024]⟩
abbrev S1x1024 : Shape := ⟨2, ![1, 1024]⟩
abbrev S4096x1024 : Shape := ⟨2, ![4096, 1024]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩
abbrev S2x128 : Shape := ⟨2, ![2, 128]⟩
abbrev S3x128 : Shape := ⟨2, ![3, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4x1024, .f32⟩
  | .hbm, ⟨6, _⟩ => ⟨S1x1024, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvBwdRefIdeal.lean ====
abbrev S4096x5632 : Shape := ⟨2, ![4096, 5632]⟩
abbrev S4x1024 : Shape := ⟨2, ![4, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S3x1024 : Shape := ⟨2, ![3, 1024]⟩
abbrev S4099x1024 : Shape := ⟨2, ![4099, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S_, .f32⟩
  | .hbm, ⟨7, _⟩ => ⟨S3x1024, .f32⟩
  | .hbm, ⟨8, _⟩ => ⟨S4099x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S4099x1024, .f32⟩
  | .hbm, ⟨60, _⟩ => ⟨S1x1024, .f32⟩
  | .hbm, ⟨61, _⟩ => ⟨S_, .f32⟩
  | .hbm, ⟨62, _⟩ => ⟨S4x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S4099x1024, .f32⟩
  | .hbm, ⟨73, _⟩ => ⟨S4099x1024, .f32⟩
  | .hbm, ⟨74, _⟩ => ⟨S1x1024, .f32⟩
  | .hbm, ⟨75, _⟩ => ⟨S_, .f32⟩
  | .hbm, ⟨76, _⟩ => ⟨S4x1024, .f32⟩
  | .hbm, ⟨77, _⟩ => ⟨S4x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S_, .f32⟩
  | .hbm, ⟨87, _⟩ => ⟨S4099x1024, .f32⟩
  | .hbm, ⟨88, _⟩ => ⟨S4099x1024, .f32⟩
  | .hbm, ⟨89, _⟩ => ⟨S1x1024, .f32⟩
  | .hbm, ⟨90, _⟩ => ⟨S_, .f32⟩
  | .hbm, ⟨91, _⟩ => ⟨S4x1024, .f32⟩
  | .hbm, ⟨92, _⟩ => ⟨S4x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S1024, .f32⟩
  | .hbm, ⟨101, _⟩ => ⟨S_, .f32⟩
  | .hbm, ⟨102, _⟩ => ⟨S4099x1024, .f32⟩
  | .hbm, ⟨103, _⟩ => ⟨S4099x1024, .f32⟩
  | .hbm, ⟨104, _⟩ => ⟨S1x1024, .f32⟩
  | .hbm, ⟨105, _⟩ => ⟨S_, .f32⟩
  | .hbm, ⟨106, _⟩ => ⟨S4x1024, .f32⟩
  | .hbm, ⟨107, _⟩ => ⟨S4x1024, .f32⟩
  | .hbm, ⟨108, _⟩ => ⟨S3x1024, .f32⟩
  | .hbm, ⟨109, _⟩ => ⟨S4096x1024, .f32⟩
  | .hbm, ⟨110, _⟩ => ⟨S1x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== ShiftBwd.lean ====
abbrev S4096x5632 : Shape := ⟨2, ![4096, 5632]⟩
abbrev S1x3584 : Shape := ⟨2, ![1, 3584]⟩
abbrev S4096x3584 : Shape := ⟨2, ![4096, 3584]⟩
abbrev S4096x128 : Shape := ⟨2, ![4096, 128]⟩
abbrev S1x128 : Shape := ⟨2, ![1, 128]⟩
abbrev S128 : Shape := ⟨1, ![128]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S1x3584, .f32⟩
  | .hbm, ⟨2, _⟩ => ⟨S4096x3584, .f32⟩
  | .hbm, ⟨3, _⟩ => ⟨S4096x3584, .f32⟩
  | .hbm, ⟨4, _⟩ => ⟨S4096x3584, .f32⟩
  | .hbm, ⟨5, _⟩ => ⟨S1x3584, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x128, .f32⟩
  | .local _ .vmem, ⟨11, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c24_i32 : BitVec 32 := 24#32
  let v0 : BitVec 1 := Scalar.cmpi .slt arg0 c24_i32
  let c16_i32 : BitVec 32 := 16#32
  let v1 : BitVec 32 := Scalar.addi arg0 c16_i32
  let v2 : BitVec 32 := Scalar.select v0 arg0 v1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ShiftBwdRefIdeal.lean ====
abbrev S4096x5632 : Shape := ⟨2, ![4096, 5632]⟩
abbrev S1x3584 : Shape := ⟨2, ![1, 3584]⟩
abbrev S4096x3584 : Shape := ⟨2, ![4096, 3584]⟩
abbrev S4096x3072 : Shape := ⟨2, ![4096, 3072]⟩
abbrev S4096x512 : Shape := ⟨2, ![4096, 512]⟩
abbrev S3584 : Shape := ⟨1, ![3584]⟩
abbrev S_ : Shape := ⟨0, ![]⟩
abbrev S4095x3584 : Shape := ⟨2, ![4095, 3584]⟩

abbrev nBuf : Space → Nat
  | .hbm => 36
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x3584, .f32⟩
  | .hbm, ⟨2, _⟩ => ⟨S4096x3584, .f32⟩
  | .hbm, ⟨3, _⟩ => ⟨S4096x3584, .f32⟩
  | .hbm, ⟨4, _⟩ => ⟨S4096x3072, .f32⟩
  | .hbm, ⟨5, _⟩ => ⟨S4096x512, .f32⟩
  | .hbm, ⟨6, _⟩ => ⟨S4096x3584, .f32⟩
  | .hbm, ⟨7, _⟩ => ⟨S3584, .f32⟩
  | .hbm, ⟨8, _⟩ => ⟨S_, .f32⟩
  | .hbm, ⟨9, _⟩ => ⟨S1x3584, .f32⟩
  | .hbm, ⟨10, _⟩ => ⟨S4095x3584, .f32⟩
  | .hbm, ⟨11, _⟩ => ⟨S4096x3584, .f32⟩
  | .hbm, ⟨12, _⟩ => ⟨S_, .f32⟩
  | .hbm, ⟨13, _⟩ => ⟨S1x3584, .f32⟩
  | .hbm, ⟨14, _⟩ => ⟨S4096x3584, .f32⟩
  | .hbm, ⟨15, _⟩ => ⟨S1x3584, .f32⟩
  | .hbm, ⟨16, _⟩ => ⟨S4096x3584, .f32⟩
  | .hbm, ⟨17, _⟩ => ⟨S4096x3584, .f32⟩
  | .hbm, ⟨18, _⟩ => ⟨S4096x3584, .f32⟩
  | .hbm, ⟨19, _⟩ => ⟨S4096x3584, .f32⟩
  | .hbm, ⟨20, _⟩ => ⟨S4096x3584, .f32⟩
  | .hbm, ⟨21, _⟩ => ⟨S_, .f32⟩
  | .hbm, ⟨22, _⟩ => ⟨S3584, .f32⟩
  | .hbm, ⟨23, _⟩ => ⟨S1x3584, .f32⟩
  | .hbm, ⟨24, _⟩ => ⟨S4096x3584, .f32⟩
  | .hbm, ⟨25, _⟩ => ⟨S4096x3584, .f32⟩
  | .hbm, ⟨26, _⟩ => ⟨S_, .f32⟩
  | .hbm, ⟨27, _⟩ => ⟨S3584, .f32⟩
  | .hbm, ⟨28, _⟩ => ⟨S4096x3584, .f32⟩
  | .hbm, ⟨29, _⟩ => ⟨S4096x3584, .f32⟩
  | .hbm, ⟨30, _⟩ => ⟨S1x3584, .f32⟩
  | .hbm, ⟨31, _⟩ => ⟨S4095x3584, .f32⟩
  | .hbm, ⟨32, _⟩ => ⟨S_, .f32⟩
  | .hbm, ⟨33, _⟩ => ⟨S4096x3584, .f32⟩
  | .hbm, ⟨34, _⟩ => ⟨S4096x3584, .f32⟩
  | .hbm, ⟨35, _⟩ => ⟨S1x3584, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== GeluGateBwd.lean ====
abbrev S4096x1024 : Shape := ⟨2, ![4096, 1024]⟩
abbrev S4096x5632 : Shape := ⟨2, ![4096, 5632]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .f32⟩
  | .hbm, ⟨3, _⟩ => ⟨S4096x1024, .f32⟩
  | .hbm, ⟨4, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GeluGateBwdRefIdeal.lean ====
abbrev S4096x1024 : Shape := ⟨2, ![4096, 1024]⟩
abbrev S4096x5632 : Shape := ⟨2, ![4096, 5632]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== AdamwEarly.lean ====
abbrev S8x41472x128 : Shape := ⟨3, ![8, 41472, 128]⟩
abbrev S41472x128 : Shape := ⟨2, ![41472, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x41472x128, .bf16⟩
  | .hbm, ⟨1, _⟩ => ⟨S41472x128, .f32⟩
  | .hbm, ⟨2, _⟩ => ⟨S41472x128, .f32⟩
  | .hbm, ⟨3, _⟩ => ⟨S41472x128, .f32⟩
  | .hbm, ⟨4, _⟩ => ⟨S41472x128, .f32⟩
  | .hbm, ⟨5, _⟩ => ⟨S41472x128, .f32⟩
  | .hbm, ⟨6, _⟩ => ⟨S41472x128, .f32⟩
  | .hbm, ⟨7, _⟩ => ⟨S41472x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x41472x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![81], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwEarlyIdeal.lean ====
abbrev S8x41472x128 : Shape := ⟨3, ![8, 41472, 128]⟩
abbrev S41472x128 : Shape := ⟨2, ![41472, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x41472x128, .bf16⟩
  | .hbm, ⟨1, _⟩ => ⟨S41472x128, .f32⟩
  | .hbm, ⟨2, _⟩ => ⟨S41472x128, .f32⟩
  | .hbm, ⟨3, _⟩ => ⟨S41472x128, .f32⟩
  | .hbm, ⟨4, _⟩ => ⟨S41472x128, .f32⟩
  | .hbm, ⟨5, _⟩ => ⟨S41472x128, .f32⟩
  | .hbm, ⟨6, _⟩ => ⟨S41472x128, .f32⟩
  | .hbm, ⟨7, _⟩ => ⟨S41472x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x41472x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![81], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwEarlyRefIdeal.lean ====
abbrev S8x41472x128 : Shape := ⟨3, ![8, 41472, 128]⟩
abbrev S41472x128 : Shape := ⟨2, ![41472, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x41472x128, .bf16⟩
  | .hbm, ⟨1, _⟩ => ⟨S41472x128, .f32⟩
  | .hbm, ⟨2, _⟩ => ⟨S41472x128, .f32⟩
  | .hbm, ⟨3, _⟩ => ⟨S41472x128, .f32⟩
  | .hbm, ⟨4, _⟩ => ⟨S8x41472x128, .f32⟩
  | .hbm, ⟨5, _⟩ => ⟨S_, .f32⟩
  | .hbm, ⟨6, _⟩ => ⟨S41472x128, .f32⟩
  | .hbm, ⟨7, _⟩ => ⟨S_, .f32⟩
  | .hbm, ⟨8, _⟩ => ⟨S41472x128, .f32⟩
  | .hbm, ⟨9, _⟩ => ⟨S41472x128, .f32⟩
  | .hbm, ⟨10, _⟩ => ⟨S_, .f32⟩
  | .hbm, ⟨11, _⟩ => ⟨S41472x128, .f32⟩
  | .hbm, ⟨12, _⟩ => ⟨S41472x128, .f32⟩
  | .hbm, ⟨13, _⟩ => ⟨S41472x128, .f32⟩
  | .hbm, ⟨14, _⟩ => ⟨S_, .f32⟩
  | .hbm, ⟨15, _⟩ => ⟨S41472x128, .f32⟩
  | .hbm, ⟨16, _⟩ => ⟨S41472x128, .f32⟩
  | .hbm, ⟨17, _⟩ => ⟨S_, .f32⟩
  | .hbm, ⟨18, _⟩ => ⟨S41472x128, .f32⟩
  | .hbm, ⟨19, _⟩ => ⟨S41472x128, .f32⟩
  | .hbm, ⟨20, _⟩ => ⟨S41472x128, .f32⟩
  | .hbm, ⟨21, _⟩ => ⟨S41472x128, .f32⟩
  | .hbm, ⟨22, _⟩ => ⟨S_, .f32⟩
  | .hbm, ⟨23, _⟩ => ⟨S41472x128, .f32⟩
  | .hbm, ⟨24, _⟩ => ⟨S41472x128, .f32⟩
  | .hbm, ⟨25, _⟩ => ⟨S_, .f32⟩
  | .hbm, ⟨26, _⟩ => ⟨S41472x128, .f32⟩
  | .hbm, ⟨27, _⟩ => ⟨S41472x128, .f32⟩
  | .hbm, ⟨28, _⟩ => ⟨S41472x128, .f32⟩
  | .hbm, ⟨29, _⟩ => ⟨S_, .f32⟩
  | .hbm, ⟨30, _⟩ => ⟨S41472x128, .f32⟩
  | .hbm, ⟨31, _⟩ => ⟨S41472x128, .f32⟩
  | .hbm, ⟨32, _⟩ => ⟨S41472x128, .f32⟩
  | .hbm, ⟨33, _⟩ => ⟨S_, .f32⟩
  | .hbm, ⟨34, _⟩ => ⟨S41472x128, .f32⟩
  | .hbm, ⟨35, _⟩ => ⟨S41472x128, .f32⟩
  | .hbm, ⟨36, _⟩ => ⟨S41472x128, .f32⟩
  | .hbm, ⟨37, _⟩ => ⟨S_, .f32⟩
  | .hbm, ⟨38, _⟩ => ⟨S41472x128, .f32⟩
  | .hbm, ⟨39, _⟩ => ⟨S41472x128, .f32⟩
  | _, _ => ⟨S8x41472x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwMid.lean ====
abbrev S8x28672x128 : Shape := ⟨3, ![8, 28672, 128]⟩
abbrev S28672x128 : Shape := ⟨2, ![28672, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x28672x128, .bf16⟩
  | .hbm, ⟨1, _⟩ => ⟨S28672x128, .f32⟩
  | .hbm, ⟨2, _⟩ => ⟨S28672x128, .f32⟩
  | .hbm, ⟨3, _⟩ => ⟨S28672x128, .f32⟩
  | .hbm, ⟨4, _⟩ => ⟨S28672x128, .f32⟩
  | .hbm, ⟨5, _⟩ => ⟨S28672x128, .f32⟩
  | .hbm, ⟨6, _⟩ => ⟨S28672x128, .f32⟩
  | .hbm, ⟨7, _⟩ => ⟨S28672x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x28672x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![56], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwMidIdeal.lean ====
abbrev S8x28672x128 : Shape := ⟨3, ![8, 28672, 128]⟩
abbrev S28672x128 : Shape := ⟨2, ![28672, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x28672x128, .bf16⟩
  | .hbm, ⟨1, _⟩ => ⟨S28672x128, .f32⟩
  | .hbm, ⟨2, _⟩ => ⟨S28672x128, .f32⟩
  | .hbm, ⟨3, _⟩ => ⟨S28672x128, .f32⟩
  | .hbm, ⟨4, _⟩ => ⟨S28672x128, .f32⟩
  | .hbm, ⟨5, _⟩ => ⟨S28672x128, .f32⟩
  | .hbm, ⟨6, _⟩ => ⟨S28672x128, .f32⟩
  | .hbm, ⟨7, _⟩ => ⟨S28672x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x28672x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![56], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwMidRefIdeal.lean ====
abbrev S8x28672x128 : Shape := ⟨3, ![8, 28672, 128]⟩
abbrev S28672x128 : Shape := ⟨2, ![28672, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x28672x128, .bf16⟩
  | .hbm, ⟨1, _⟩ => ⟨S28672x128, .f32⟩
  | .hbm, ⟨2, _⟩ => ⟨S28672x128, .f32⟩
  | .hbm, ⟨3, _⟩ => ⟨S28672x128, .f32⟩
  | .hbm, ⟨4, _⟩ => ⟨S8x28672x128, .f32⟩
  | .hbm, ⟨5, _⟩ => ⟨S_, .f32⟩
  | .hbm, ⟨6, _⟩ => ⟨S28672x128, .f32⟩
  | .hbm, ⟨7, _⟩ => ⟨S_, .f32⟩
  | .hbm, ⟨8, _⟩ => ⟨S28672x128, .f32⟩
  | .hbm, ⟨9, _⟩ => ⟨S28672x128, .f32⟩
  | .hbm, ⟨10, _⟩ => ⟨S_, .f32⟩
  | .hbm, ⟨11, _⟩ => ⟨S28672x128, .f32⟩
  | .hbm, ⟨12, _⟩ => ⟨S28672x128, .f32⟩
  | .hbm, ⟨13, _⟩ => ⟨S28672x128, .f32⟩
  | .hbm, ⟨14, _⟩ => ⟨S_, .f32⟩
  | .hbm, ⟨15, _⟩ => ⟨S28672x128, .f32⟩
  | .hbm, ⟨16, _⟩ => ⟨S28672x128, .f32⟩
  | .hbm, ⟨17, _⟩ => ⟨S_, .f32⟩
  | .hbm, ⟨18, _⟩ => ⟨S28672x128, .f32⟩
  | .hbm, ⟨19, _⟩ => ⟨S28672x128, .f32⟩
  | .hbm, ⟨20, _⟩ => ⟨S28672x128, .f32⟩
  | .hbm, ⟨21, _⟩ => ⟨S28672x128, .f32⟩
  | .hbm, ⟨22, _⟩ => ⟨S_, .f32⟩
  | .hbm, ⟨23, _⟩ => ⟨S28672x128, .f32⟩
  | .hbm, ⟨24, _⟩ => ⟨S28672x128, .f32⟩
  | .hbm, ⟨25, _⟩ => ⟨S_, .f32⟩
  | .hbm, ⟨26, _⟩ => ⟨S28672x128, .f32⟩
  | .hbm, ⟨27, _⟩ => ⟨S28672x128, .f32⟩
  | .hbm, ⟨28, _⟩ => ⟨S28672x128, .f32⟩
  | .hbm, ⟨29, _⟩ => ⟨S_, .f32⟩
  | .hbm, ⟨30, _⟩ => ⟨S28672x128, .f32⟩
  | .hbm, ⟨31, _⟩ => ⟨S28672x128, .f32⟩
  | .hbm, ⟨32, _⟩ => ⟨S28672x128, .f32⟩
  | .hbm, ⟨33, _⟩ => ⟨S_, .f32⟩
  | .hbm, ⟨34, _⟩ => ⟨S28672x128, .f32⟩
  | .hbm, ⟨35, _⟩ => ⟨S28672x128, .f32⟩
  | .hbm, ⟨36, _⟩ => ⟨S28672x128, .f32⟩
  | .hbm, ⟨37, _⟩ => ⟨S_, .f32⟩
  | .hbm, ⟨38, _⟩ => ⟨S28672x128, .f32⟩
  | .hbm, ⟨39, _⟩ => ⟨S28672x128, .f32⟩
  | _, _ => ⟨S8x28672x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwMain.lean ====
abbrev S8x34304x128 : Shape := ⟨3, ![8, 34304, 128]⟩
abbrev S34304x128 : Shape := ⟨2, ![34304, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x34304x128, .bf16⟩
  | .hbm, ⟨1, _⟩ => ⟨S34304x128, .f32⟩
  | .hbm, ⟨2, _⟩ => ⟨S34304x128, .f32⟩
  | .hbm, ⟨3, _⟩ => ⟨S34304x128, .f32⟩
  | .hbm, ⟨4, _⟩ => ⟨S34304x128, .f32⟩
  | .hbm, ⟨5, _⟩ => ⟨S34304x128, .f32⟩
  | .hbm, ⟨6, _⟩ => ⟨S34304x128, .f32⟩
  | .hbm, ⟨7, _⟩ => ⟨S34304x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x34304x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![67], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwMainIdeal.lean ====
abbrev S8x34304x128 : Shape := ⟨3, ![8, 34304, 128]⟩
abbrev S34304x128 : Shape := ⟨2, ![34304, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x34304x128, .bf16⟩
  | .hbm, ⟨1, _⟩ => ⟨S34304x128, .f32⟩
  | .hbm, ⟨2, _⟩ => ⟨S34304x128, .f32⟩
  | .hbm, ⟨3, _⟩ => ⟨S34304x128, .f32⟩
  | .hbm, ⟨4, _⟩ => ⟨S34304x128, .f32⟩
  | .hbm, ⟨5, _⟩ => ⟨S34304x128, .f32⟩
  | .hbm, ⟨6, _⟩ => ⟨S34304x128, .f32⟩
  | .hbm, ⟨7, _⟩ => ⟨S34304x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x34304x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![67], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwMainRefIdeal.lean ====
abbrev S8x34304x128 : Shape := ⟨3, ![8, 34304, 128]⟩
abbrev S34304x128 : Shape := ⟨2, ![34304, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x34304x128, .bf16⟩
  | .hbm, ⟨1, _⟩ => ⟨S34304x128, .f32⟩
  | .hbm, ⟨2, _⟩ => ⟨S34304x128, .f32⟩
  | .hbm, ⟨3, _⟩ => ⟨S34304x128, .f32⟩
  | .hbm, ⟨4, _⟩ => ⟨S8x34304x128, .f32⟩
  | .hbm, ⟨5, _⟩ => ⟨S_, .f32⟩
  | .hbm, ⟨6, _⟩ => ⟨S34304x128, .f32⟩
  | .hbm, ⟨7, _⟩ => ⟨S_, .f32⟩
  | .hbm, ⟨8, _⟩ => ⟨S34304x128, .f32⟩
  | .hbm, ⟨9, _⟩ => ⟨S34304x128, .f32⟩
  | .hbm, ⟨10, _⟩ => ⟨S_, .f32⟩
  | .hbm, ⟨11, _⟩ => ⟨S34304x128, .f32⟩
  | .hbm, ⟨12, _⟩ => ⟨S34304x128, .f32⟩
  | .hbm, ⟨13, _⟩ => ⟨S34304x128, .f32⟩
  | .hbm, ⟨14, _⟩ => ⟨S_, .f32⟩
  | .hbm, ⟨15, _⟩ => ⟨S34304x128, .f32⟩
  | .hbm, ⟨16, _⟩ => ⟨S34304x128, .f32⟩
  | .hbm, ⟨17, _⟩ => ⟨S_, .f32⟩
  | .hbm, ⟨18, _⟩ => ⟨S34304x128, .f32⟩
  | .hbm, ⟨19, _⟩ => ⟨S34304x128, .f32⟩
  | .hbm, ⟨20, _⟩ => ⟨S34304x128, .f32⟩
  | .hbm, ⟨21, _⟩ => ⟨S34304x128, .f32⟩
  | .hbm, ⟨22, _⟩ => ⟨S_, .f32⟩
  | .hbm, ⟨23, _⟩ => ⟨S34304x128, .f32⟩
  | .hbm, ⟨24, _⟩ => ⟨S34304x128, .f32⟩
  | .hbm, ⟨25, _⟩ => ⟨S_, .f32⟩
  | .hbm, ⟨26, _⟩ => ⟨S34304x128, .f32⟩
  | .hbm, ⟨27, _⟩ => ⟨S34304x128, .f32⟩
  | .hbm, ⟨28, _⟩ => ⟨S34304x128, .f32⟩
  | .hbm, ⟨29, _⟩ => ⟨S_, .f32⟩
  | .hbm, ⟨30, _⟩ => ⟨S34304x128, .f32⟩
  | .hbm, ⟨31, _⟩ => ⟨S34304x128, .f32⟩
  | .hbm, ⟨32, _⟩ => ⟨S34304x128, .f32⟩
  | .hbm, ⟨33, _⟩ => ⟨S_, .f32⟩
  | .hbm, ⟨34, _⟩ => ⟨S34304x128, .f32⟩
  | .hbm, ⟨35, _⟩ => ⟨S34304x128, .f32⟩
  | .hbm, ⟨36, _⟩ => ⟨S34304x128, .f32⟩
  | .hbm, ⟨37, _⟩ => ⟨S_, .f32⟩
  | .hbm, ⟨38, _⟩ => ⟨S34304x128, .f32⟩
  | .hbm, ⟨39, _⟩ => ⟨S34304x128, .f32⟩
  | _, _ => ⟨S8x34304x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwSmall.lean ====
abbrev S8x2560x128 : Shape := ⟨3, ![8, 2560, 128]⟩
abbrev S2560x128 : Shape := ⟨2, ![2560, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwSmallRefIdeal.lean ====
abbrev S8x2560x128 : Shape := ⟨3, ![8, 2560, 128]⟩
abbrev S2560x128 : Shape := ⟨2, ![2560, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S_, .f32⟩
  | .hbm, ⟨7, _⟩ => ⟨S2560x128, .f32⟩
  | .hbm, ⟨8, _⟩ => ⟨S2560x128, .f32⟩
  | .hbm, ⟨9, _⟩ => ⟨S_, .f32⟩
  | .hbm, ⟨10, _⟩ => ⟨S2560x128, .f32⟩
  | .hbm, ⟨11, _⟩ => ⟨S2560x128, .f32⟩
  | .hbm, ⟨12, _⟩ => ⟨S2560x128, .f32⟩
  | .hbm, ⟨13, _⟩ => ⟨S_, .f32⟩
  | .hbm, ⟨14, _⟩ => ⟨S2560x128, .f32⟩
  | .hbm, ⟨15, _⟩ => ⟨S2560x128, .f32⟩
  | .hbm, ⟨16, _⟩ => ⟨S_, .f32⟩
  | .hbm, ⟨17, _⟩ => ⟨S2560x128, .f32⟩
  | .hbm, ⟨18, _⟩ => ⟨S2560x128, .f32⟩
  | .hbm, ⟨19, _⟩ => ⟨S2560x128, .f32⟩
  | .hbm, ⟨20, _⟩ => ⟨S2560x128, .f32⟩
  | .hbm, ⟨21, _⟩ => ⟨S_, .f32⟩
  | .hbm, ⟨22, _⟩ => ⟨S2560x128, .f32⟩
  | .hbm, ⟨23, _⟩ => ⟨S2560x128, .f32⟩
  | .hbm, ⟨24, _⟩ => ⟨S_, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S_, .f32⟩
  | .hbm, ⟨29, _⟩ => ⟨S2560x128, .f32⟩
  | .hbm, ⟨30, _⟩ => ⟨S2560x128, .f32⟩
  | .hbm, ⟨31, _⟩ => ⟨S2560x128, .f32⟩
  | .hbm, ⟨32, _⟩ => ⟨S_, .f32⟩
  | .hbm, ⟨33, _⟩ => ⟨S2560x128, .f32⟩
  | .hbm, ⟨34, _⟩ => ⟨S2560x128, .f32⟩
  | .hbm, ⟨35, _⟩ => ⟨S2560x128, .f32⟩
  | .hbm, ⟨36, _⟩ => ⟨S_, .f32⟩
  | .hbm, ⟨37, _⟩ => ⟨S2560x128, .f32⟩
  | .hbm, ⟨38, _⟩ => ⟨S2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LruGates.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruGatesRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LruGatesDx.lean ====
abbrev S1024x2048 : Shape := ⟨2, ![1024, 2048]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LruGatesDxRefIdeal.lean ====
abbrev S1024x2048 : Shape := ⟨2, ![1024, 2048]⟩
abbrev S4096x2048 : Shape := ⟨2, ![4096, 2048]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== LruGatesDw.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruGatesDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== S5Bu.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5BuRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== S5Dx.lean ====
abbrev S2048x512 : Shape := ⟨2, ![2048, 512]⟩
abbrev S4096x512 : Shape := ⟨2, ![4096, 512]⟩
abbrev S4096x2048 : Shape := ⟨2, ![4096, 2048]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .hbm, ⟨2, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DxRefIdeal.lean ====
abbrev S2048x512 : Shape := ⟨2, ![2048, 512]⟩
abbrev S4096x512 : Shape := ⟨2, ![4096, 512]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .hbm, ⟨2, _⟩ => ⟨S_, .f32⟩
  | .hbm, ⟨3, _⟩ => ⟨S4096x2048, .f32⟩
  | .hbm, ⟨4, _⟩ => ⟨S4096x512, .f32⟩
  | .hbm, ⟨5, _⟩ => ⟨S4096x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== S5Y.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5YRefIdeal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== S5YAdd.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S4096x512, .f32⟩
  | .hbm, ⟨3, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== S5YAddRefIdeal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S4096x512, .f32⟩
  | .hbm, ⟨3, _⟩ => ⟨S4096x512, .f32⟩
  | .hbm, ⟨4, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== S5Dc.lean ====
abbrev S4096x2048 : Shape := ⟨2, ![4096, 2048]⟩
abbrev S4096x512 : Shape := ⟨2, ![4096, 512]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x512, .f32⟩
  | .local _ .vmem, ⟨0, _⟩ => ⟨S2048x1024, .f32⟩
  | .local _ .vmem, ⟨1, _⟩ => ⟨S2048x1024, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DcRefIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S2048x512, .f32⟩
  | .hbm, ⟨4, _⟩ => ⟨S4096x512, .f32⟩
  | .hbm, ⟨5, _⟩ => ⟨S512x2048, .f32⟩
  | .hbm, ⟨6, _⟩ => ⟨S2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== S5Du.lean ====
abbrev S512x2048 : Shape := ⟨2, ![512, 2048]⟩
abbrev S4096x2048 : Shape := ⟨2, ![4096, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S4096x512, .f32⟩
  | .hbm, ⟨3, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== S5DuRefIdeal.lean ====
abbrev S512x2048 : Shape := ⟨2, ![512, 2048]⟩
abbrev S4096x2048 : Shape := ⟨2, ![4096, 2048]⟩
abbrev S4096x512 : Shape := ⟨2, ![4096, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x2048, .f32⟩
  | .hbm, ⟨6, _⟩ => ⟨S4096x512, .f32⟩
  | .hbm, ⟨7, _⟩ => ⟨S4096x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== S5Db.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DbRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== S5PostBwd.lean ====
abbrev S4096x512 : Shape := ⟨2, ![4096, 512]⟩
abbrev S1x512 : Shape := ⟨2, ![1, 512]⟩
abbrev S512x512 : Shape := ⟨2, ![512, 512]⟩
abbrev S256x512 : Shape := ⟨2, ![256, 512]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S1x512, .f32⟩
  | .hbm, ⟨9, _⟩ => ⟨S512x512, .f32⟩
  | .hbm, ⟨10, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== S5PostBwdRefIdeal.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩
abbrev S512 : Shape := ⟨1, ![512]⟩

abbrev nBuf : Space → Nat
  | .hbm => 84
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S512x512, .f32⟩
  | .hbm, ⟨60, _⟩ => ⟨S512x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S512, .f32⟩
  | .hbm, ⟨83, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== LruPreBwd.lean ====
abbrev S4096x2048 : Shape := ⟨2, ![4096, 2048]⟩
abbrev S4096x1024 : Shape := ⟨2, ![4096, 1024]⟩
abbrev S1x2048 : Shape := ⟨2, ![1, 2048]⟩
abbrev S1x1024 : Shape := ⟨2, ![1, 1024]⟩
abbrev S256x2048 : Shape := ⟨2, ![256, 2048]⟩
abbrev S256x1024 : Shape := ⟨2, ![256, 1024]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1x2048, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S1x2048, .f32⟩
  | .hbm, ⟨9, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x1024, .f32⟩
  | .local _ .vmem, ⟨13, _⟩ => ⟨S256x1024, .f32⟩
  | .local _ .vmem, ⟨14, _⟩ => ⟨S1x2048, .f32⟩
  | .local _ .vmem, ⟨15, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LruPreBwdRefIdeal.lean ====
abbrev S4096x2048 : Shape := ⟨2, ![4096, 2048]⟩
abbrev S4096x1024 : Shape := ⟨2, ![4096, 1024]⟩
abbrev S1x2048 : Shape := ⟨2, ![1, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 177
  | .vmem => 0
  | .smem => 0
  | _ => 0

abbrev hbmTy0_0 (i : Nat) : BufTy := match i % 128 with
  | 0 => ⟨S4096x2048, .f32⟩
  | 1 => ⟨S4096x1024, .f32⟩
  | 2 => ⟨S1x2048, .f32⟩
  | 3 => ⟨S1x1024, .f32⟩
  | 4 => ⟨S4096x1024, .f32⟩
  | 5 => ⟨S4096x1024, .f32⟩
  | 6 => ⟨S4096x1024, .f32⟩
  | 7 => ⟨S1x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S1x1024, .f32⟩
  | 47 => ⟨S1x1024, .i1⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .i1⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .i1⟩
  | 65 => ⟨S_, .f32⟩
  | 66 => ⟨S1x1024, .f32⟩
  | 67 => ⟨S1x1024, .f32⟩
  | 68 => ⟨S1x1024, .f32⟩
  | 69 => ⟨S1x1024, .f32⟩
  | 70 => ⟨S_, .f32⟩
  | 71 => ⟨S_, .f32⟩
  | 72 => ⟨S_, .i1⟩
  | 73 => ⟨S_, .f32⟩
  | 74 => ⟨S_, .f32⟩
  | 75 => ⟨S_, .f32⟩
  | 76 => ⟨S_, .f32⟩
  | 77 => ⟨S1x1024, .f32⟩
  | 78 => ⟨S1x1024, .i1⟩
  | 79 => ⟨S_, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .i1⟩
  | 103 => ⟨S_, .f32⟩
  | 104 => ⟨S4096x1024, .f32⟩
  | 105 => ⟨S4096x1024, .i1⟩
  | 106 => ⟨S_, .f32⟩
  | 107 => ⟨S4096x1024, .f32⟩
  | 108 => ⟨S_, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S4096, .i32⟩
  | 119 => ⟨S4096x1, .i32⟩
  | 120 => ⟨S_, .i32⟩
  | 121 => ⟨S4096x1, .i32⟩
  | 122 => ⟨S4096x1, .i1⟩
  | 123 => ⟨S_, .f32⟩
  | 124 => ⟨S_, .f32⟩
  | 125 => ⟨S4096x1024, .i1⟩
  | 126 => ⟨S4096x1024, .f32⟩
  | 127 => ⟨S4096x1024, .f32⟩
  | _ => ⟨S4096x2048, .f32⟩

abbrev hbmTy0_1 (i : Nat) : BufTy := match i % 128 with
  | 0 => ⟨S_, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S1024, .f32⟩
  | 23 => ⟨S1x1024, .f32⟩
  | 24 => ⟨S4096x1024, .f32⟩
  | 25 => ⟨S4096x1024, .f32⟩
  | 26 => ⟨S1x1024, .f32⟩
  | 27 => ⟨S1x1024, .f32⟩
  | 28 => ⟨S_, .f32⟩
  | 29 => ⟨S4096x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S_, .f32⟩
  | 36 => ⟨S1x2048, .f32⟩
  | 37 => ⟨S_, .f32⟩
  | 38 => ⟨S4096x2048, .f32⟩
  | 39 => ⟨S4096x1024, .f32⟩
  | 40 => ⟨S_, .f32⟩
  | 41 => ⟨S1024, .f32⟩
  | 42 => ⟨S1x1024, .f32⟩
  | 43 => ⟨S_, .f32⟩
  | 44 => ⟨S1x2048, .f32⟩
  | 45 => ⟨S1x2048, .f32⟩
  | 46 => ⟨S_, .f32⟩
  | 47 => ⟨S4096x2048, .f32⟩
  | 48 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v29_0 : Ref sig .tc := ⟨.hbm, 55, rfl⟩
abbrev main_call0_cst_0 : Ref sig .tc := ⟨.hbm, 56, rfl⟩
abbrev main_call0_v13 : Ref sig .tc := ⟨.hbm, 57, rfl⟩
abbrev main_call0_v14 : Ref sig .tc := ⟨.hbm, 58, rfl⟩
abbrev main_call0_cst_1 : Ref sig .tc := ⟨.hbm, 59, rfl⟩
abbrev main_call0_v15 : Ref sig .tc := ⟨.hbm, 60, rfl⟩
abbrev main_call0_v16 : Ref sig .tc := ⟨.hbm, 61, rfl⟩
abbrev main_call0_cst_2 : Ref sig .tc := ⟨.hbm, 62, rfl⟩
abbrev main_call0_v17 : Ref sig .tc := ⟨.hbm, 63, rfl⟩
abbrev main_call0_v18 : Ref sig .tc := ⟨.hbm, 64, rfl⟩
abbrev main_call0_cst_3 : Ref sig .tc := ⟨.hbm, 65, rfl⟩
abbrev main_call0_v19 : Ref sig .tc := ⟨.hbm, 66, rfl⟩
abbrev main_call0_v20 : Ref sig .tc := ⟨.hbm, 67, rfl⟩
abbrev main_call0_v21 : Ref sig .tc := ⟨.hbm, 68, rfl⟩
abbrev main_v29_1 : Ref sig .tc := ⟨.hbm, 69, rfl⟩
abbrev main_call0_cst_4 : Ref sig .tc := ⟨.hbm, 70, rfl⟩
abbrev main_call0_cst_5 : Ref sig .tc := ⟨.hbm, 71, rfl⟩
abbrev main_call0_v23 : Ref sig .tc := ⟨.hbm, 72, rfl⟩
abbrev main_call0_cst_6 : Ref sig .tc := ⟨.hbm, 73, rfl⟩
abbrev main_call0_cst_7 : Ref sig .tc := ⟨.hbm, 74, rfl⟩
abbrev main_call0_v24 : Ref sig .tc := ⟨.hbm, 75, rfl⟩
abbrev main_call0_cst_8 : Ref sig .tc := ⟨.hbm, 76, rfl⟩
abbrev main_call0_v25 : Ref sig .tc := ⟨.hbm, 77, rfl⟩
abbrev main_call0_v26 : Ref sig .tc := ⟨.hbm, 78, rfl⟩
abbrev main_call0_cst_9 : Ref sig .tc := ⟨.hbm, 79, rfl⟩
abbrev main_call0_v27 : Ref sig .tc := ⟨.hbm, 80, rfl⟩
abbrev main_call0_v28 : Ref sig .tc := ⟨.hbm, 81, rfl⟩
abbrev main_call0_v29 : Ref sig .tc := ⟨.hbm, 82, rfl⟩
abbrev main_call0_v30 : Ref sig .tc := ⟨.hbm, 83, rfl⟩
abbrev main_call0_v31 : Ref sig .tc := ⟨.hbm, 84, rfl⟩
abbrev main_call0_cst_10 : Ref sig .tc := ⟨.hbm, 85, rfl⟩
abbrev main_call0_v32 : Ref sig .tc := ⟨.hbm, 86, rfl⟩
abbrev main_v29_2 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_6 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_cst_7 : Ref sig .tc := ⟨.hbm, 97, rfl⟩
abbrev main_v38 : Ref sig .tc := ⟨.hbm, 98, rfl⟩
abbrev main_v39 : Ref sig .tc := ⟨.hbm, 99, rfl⟩
abbrev main_cst_8 : Ref sig .tc := ⟨.hbm, 100, rfl⟩
abbrev main_v40 : Ref sig .tc := ⟨.hbm, 101, rfl⟩
abbrev main_v41 : Ref sig .tc := ⟨.hbm, 102, rfl⟩
abbrev main_cst_9 : Ref sig .tc := ⟨.hbm, 103, rfl⟩
abbrev main_v42 : Ref sig .tc := ⟨.hbm, 104, rfl⟩
abbrev main_v43 : Ref sig .tc := ⟨.hbm, 105, rfl⟩
abbrev main_cst_10 : Ref sig .tc := ⟨.hbm, 106, rfl⟩
abbrev main_v44 : Ref sig .tc := ⟨.hbm, 107, rfl⟩
abbrev main_cst_11 : Ref sig .tc := ⟨.hbm, 108, rfl⟩
abbrev main_v45 : Ref sig .tc := ⟨.hbm, 109, rfl⟩
abbrev main_cst_12 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_13 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_c : Ref sig .tc := ⟨.hbm, 120, rfl⟩
abbrev main_v54 : Ref sig .tc := ⟨.hbm, 121, rfl⟩
abbrev main_v55 : Ref sig .tc := ⟨.hbm, 122, rfl⟩
abbrev main_cst_14 : Ref sig .tc := ⟨.hbm, 123, rfl⟩
abbrev main_call1_v0 : Ref sig .tc := ⟨.hbm, 124, rfl⟩
abbrev main_v56_1 : Ref sig .tc := ⟨.hbm, 125, rfl⟩
abbrev main_call1_v2 : Ref sig .tc := ⟨.hbm, 126, rfl⟩
abbrev main_v56_0 : Ref sig .tc := ⟨.hbm, 127, rfl⟩
abbrev main_call1_cst : Ref sig .tc := ⟨.hbm, 128, rfl⟩
abbrev main_v56_2 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_call2_cst : Ref sig .tc := ⟨.hbm, 136, rfl⟩
abbrev main_call2_v0 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_cst_15 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_cst_16 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_cst_17 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_cst_18 : Ref sig .tc := ⟨.hbm, 160, rfl⟩
abbrev main_v82 : Ref sig .tc := ⟨.hbm, 161, rfl⟩
abbrev main_v83 : Ref sig .tc := ⟨.hbm, 162, rfl⟩
abbrev main_cst_19 : Ref sig .tc := ⟨.hbm, 163, rfl⟩
abbrev main_v84 : Ref sig .tc := ⟨.hbm, 164, rfl⟩
abbrev main_cst_20 : Ref sig .tc := ⟨.hbm, 165, rfl⟩
abbrev main_v85 : Ref sig .tc := ⟨.hbm, 166, rfl⟩
abbrev main_v86 : Ref sig .tc := ⟨.hbm, 167, rfl⟩
abbrev main_cst_21 : Ref sig .tc := ⟨.hbm, 168, rfl⟩
abbrev main_v87 : Ref sig .tc := ⟨.hbm, 169, rfl⟩
abbrev main_v88 : Ref sig .tc := ⟨.hbm, 170, rfl⟩
abbrev main_cst_22 : Ref sig .tc := ⟨.hbm, 171, rfl⟩
abbrev main_v89 : Ref sig .tc := ⟨.hbm, 172, rfl⟩
abbrev main_v90 : Ref sig .tc := ⟨.hbm, 173, rfl⟩
abbrev main_cst_23 : Ref sig .tc := ⟨.hbm, 174, rfl⟩
abbrev main_v91 : Ref sig .tc := ⟨.hbm, 175, rfl⟩
abbrev main_v92 : Ref sig .tc := ⟨.hbm, 176, rfl⟩

abbrev nD : Nat := 1
abbrev τ : Topo := Topo.v7x

variable {F : FTy → Type} [FloatOps F]
-- ==== Proof.Tile.lean ====
/- What one trip of each scan loop computes on its 8×256 tile, one column at a time, over the reals. -/
module

public import proofs.«01_k».proof.Proof.Gen.KernelIdeal.Skeleton
public import Idealize.ShloMosaic.Lib.Pointwise
public import Mathlib.Tactic.IntervalCases
public import Mathlib.Tactic.NormNum
public import Mathlib.Tactic.Ring

@[expose] public section

set_option maxRecDepth 16384

noncomputable section

namespace Cert.Scan

open Idealize.ShloMosaic Idealize.ShloMosaic.TcCoe Idealize.SL.Sem
open Cert.KernelIdeal KernelIdeal.Gen

/-- The linear recurrence `x (n+1) = a n * x n + b n` from `h0`. -/
def lin (a b : ℕ → ℝ) (h0 : ℝ) : ℕ → ℝ
  | 0 => h0
  | n + 1 => a n * lin a b h0 n + b n

/-- Running `n` steps and then `m` more is running `n + m` steps. -/
theorem lin_add (a b : ℕ → ℝ) (h0 : ℝ) (n m : ℕ) :
    lin (fun i => a (n + i)) (fun i => b (n + i)) (lin a b h0 n) m = lin a b h0 (n + m) := by
  induction m with
  | zero => rfl
  | succ m ih => rw [lin, ih]; rfl

/-- The recurrence over `m` steps only reads the first `m` coefficients. -/
theorem lin_congr {a b a' b' : ℕ → ℝ} (h0 : ℝ) (m : ℕ) (ha : ∀ i < m, a i = a' i)
    (hb : ∀ i < m, b i = b' i) : lin a b h0 m = lin a' b' h0 m := by
  induction m with
  | zero => rfl
  | succ m ih =>
    rw [lin, lin, ih (fun i hi => ha i (by omega)) (fun i hi => hb i (by omega)), ha m (by omega),
      hb m (by omega)]

/-- The tile of hidden states one trip of the forward scan writes, from the tiles of decays and
   inputs and the row carried in. -/
def fwdTile {F : FTy → Type} [FloatOps F] (A B : FVec F S8x256 .f32) (h : FVec F S1x256 .f32) : FVec F S8x256 .f32 :=
  k0_pay2 h (k0_pay5 A B) (k0_pay6 A) k0_pay7 (k0_pay8 A B) k0_pay9

/-- Row `j` of the forward tile is the recurrence after `j + 1` steps from the carried row. -/
theorem fwdTile_apply (A B : FVec Ideal S8x256 .f32) (h : FVec Ideal S1x256 .f32) (l : Fin 256)
    (a b : ℕ → ℝ) (h0 : ℝ)
    (hA : ∀ j : Fin 8, A (ix2 j l) = ((a j.val : ℝ) : EReal))
    (hB : ∀ j : Fin 8, B (ix2 j l) = ((b j.val : ℝ) : EReal))
    (hh : h (ix2 0 l) = ((h0 : ℝ) : EReal)) (j : Fin 8) :
    fwdTile A B h (ix2 j l) = ((lin a b h0 (j.val + 1) : ℝ) : EReal) := by
  pointwise [fwdTile, k0_pay2, k0_pay5, k0_pay6, k0_pay7, k0_pay8, k0_pay9, k0_pay4]
  have hj := j.isLt
  obtain ⟨j, hj'⟩ := j
  interval_cases j <;>
  simp [hA, hB, hh, lin, Scalar.select, IntOp.cmpi] <;> norm_cast <;> ring

/-- The row carried out of a forward trip is the last row of its tile. -/
theorem fwdCarry_apply (A B : FVec Ideal S8x256 .f32) (h : FVec Ideal S1x256 .f32) (l : Fin 256) :
    k0_pay3 h (k0_pay5 A B) (k0_pay6 A) k0_pay7 (k0_pay8 A B) k0_pay9 (ix2 0 l) = fwdTile A B h (ix2 7 l) := by
  show extractStridedSlice S1x256 ![7, 0] (fwdTile A B h) slices_S8x256_o7_0_S1x256 (ix2 0 l) = _
  pointwise

/-- The tile of input gradients one trip of the reverse scan writes: trip `k`, the row of decays
   just after the tile, the tile of decays, the tile of cotangents and the row carried in. -/
def bwdTile {F : FTy → Type} [FloatOps F] (k : Fin k1_t1_loop.trips) (a1 : FVec F S1x256 .f32) (A G : FVec F S8x256 .f32)
    (d : FVec F S1x256 .f32) : FVec F S8x256 .f32 :=
  k1_pay8 d (k1_pay5 0#32 1#32 k a1 A G) (k1_pay6 0#32 1#32 k a1 A)
    (iota .tc S8x256 32 [0] iota_S8x256_d0_w32) k1_pay7

/-- The bit deciding whether a row follows the tile: clear for trip 0 only. -/
theorem mask_next : ∀ k : Fin k1_t1_loop.trips,
    Scalar.extui (Scalar.cmpi .slt (Scalar.addi (Scalar.muli (Scalar.subi 511#32 (Scf.iv 0#32 1#32 k)) 8#32) 8#32) 4096#32)
      = if k.val = 0 then 0#32 else 1#32 := by decide +kernel

/-- The bit deciding whether a row precedes the tile: clear for trip 511 only. -/
theorem mask_prev : ∀ k : Fin k1_t1_loop.trips,
    Scalar.cmpi .sgt (Scalar.muli (Scalar.subi 511#32 (Scf.iv 0#32 1#32 k)) 8#32) 0#32
      = if k.val = 511 then 0#1 else 1#1 := by decide +kernel

/-- The factor the kernel multiplies the row after the tile by: 0 for trip 0, else 1. -/
theorem next_factor (k : Fin k1_t1_loop.trips) :
    (((Scalar.extui (Scalar.cmpi .slt (Scalar.addi (Scalar.muli (Scalar.subi 511#32 (Scf.iv 0#32 1#32 k)) 8#32) 8#32) 4096#32)).toInt : ℝ) : EReal)
      = ((if k.val = 0 then 0 else 1 : ℝ) : EReal) := by
  rw [mask_next]; split <;> simp

/-- Row `j` of the reverse tile is the recurrence run downwards from row 8, `8 - j` steps, on the
   decays one row later (`a 8` is the row after the tile, times its factor). -/
theorem bwdTile_apply (k : Fin k1_t1_loop.trips) (a1 : FVec Ideal S1x256 .f32) (A G : FVec Ideal S8x256 .f32)
    (d : FVec Ideal S1x256 .f32) (l : Fin 256) (a g : ℕ → ℝ) (d0 : ℝ)
    (hA : ∀ j : Fin 8, A (ix2 j l) = ((a j.val : ℝ) : EReal))
    (hG : ∀ j : Fin 8, G (ix2 j l) = ((g j.val : ℝ) : EReal))
    (ha1 : a1 (ix2 0 l) * ((if k.val = 0 then 0 else 1 : ℝ) : EReal) = ((a 8 : ℝ) : EReal))
    (hd : d (ix2 0 l) = ((d0 : ℝ) : EReal)) (j : Fin 8) :
    bwdTile k a1 A G d (ix2 j l) = ((lin (fun n => a (8 - n)) (fun n => g (7 - n)) d0 (8 - j.val) : ℝ) : EReal) := by
  pointwise [bwdTile, k1_pay8, k1_pay4, k1_pay5, k1_pay6, k1_pay7]
  simp only [next_factor, ha1]
  have hj := j.isLt
  obtain ⟨j, hj'⟩ := j
  interval_cases j <;>
  simp [hA, hG, hd, lin, Scalar.select, IntOp.cmpi] <;> norm_cast <;> ring

/-- The row carried out of a reverse trip is the first row of its tile. -/
theorem bwdCarry_apply (T : FVec Ideal S8x256 .f32) (l : Fin 256) :
    k1_pay3 T (ix2 0 l) = T (ix2 0 l) := by
  pointwise [k1_pay3]

/-- The tile of decay gradients one reverse trip writes: the tile of input gradients times the
   hidden states one row earlier, the row before the tile times its factor in row 0. -/
def decayTile {F : FTy → Type} [FloatOps F] (k : Fin k1_t1_loop.trips) (T H : FVec F S8x256 .f32) (h1 : FVec F S1x256 .f32) :
    FVec F S8x256 .f32 :=
  k1_pay2 T (k1_pay9 H) (k1_pay10 h1)
    (Scalar.cmpi .sgt (Scalar.muli (Scalar.subi 511#32 (Scf.iv 0#32 1#32 k)) 8#32) 0#32)

/-- Row `j` of the decay-gradient tile: `h j` is the hidden state one row before row `j`. -/
theorem decayTile_apply (k : Fin k1_t1_loop.trips) (T H : FVec Ideal S8x256 .f32) (h1 : FVec Ideal S1x256 .f32)
    (l : Fin 256) (e h : ℕ → ℝ)
    (hT : ∀ j : Fin 8, T (ix2 j l) = ((e j.val : ℝ) : EReal))
    (hH : ∀ j : Fin 8, H (ix2 j l) = ((h (j.val + 1) : ℝ) : EReal))
    (h0 : h1 (ix2 0 l) * ((if k.val = 511 then 0 else 1 : ℝ) : EReal) = ((h 0 : ℝ) : EReal)) (j : Fin 8) :
    decayTile k T H h1 (ix2 j l) = ((e j.val * h j.val : ℝ) : EReal) := by
  have hm : (((Scalar.extui (Scalar.cmpi .sgt (Scalar.muli (Scalar.subi 511#32 (Scf.iv 0#32 1#32 k)) 8#32) 0#32)).toInt : ℝ) : EReal)
      = ((if k.val = 511 then 0 else 1 : ℝ) : EReal) := by
    rw [mask_prev]; split <;> simp [Scalar.extui]
  pointwise [decayTile, k1_pay2, k1_pay9, k1_pay10]
  simp only [hm, h0]
  have hj := j.isLt
  obtain ⟨j, hj'⟩ := j
  interval_cases j <;>
  simp [hT, hH, Scalar.select, IntOp.cmpi]

end Cert.Scan

end
-- ==== Proof.Fwd.lean ====
/- The forward scan's kernel on one block of columns, and the array of hidden states it leaves. -/
module

public import proofs.«01_k».proof.Proof.Tile
public import proofs.«01_k».proof.Proof.Gen.KernelIdeal.Frame
public import Idealize.ShloMosaic.Lib.Pipeline.ValueKit

@[expose] public section

set_option maxRecDepth 16384

noncomputable section

namespace Cert.Scan

open Idealize.ShloMosaic Idealize.ShloMosaic.TcCoe Idealize.SL.Sem
open Cert.KernelIdeal KernelIdeal.Gen

/-- The row of an index of a unit-stride rectangle starting at row `o`, column 0. -/
theorem rect_row {n m : ℕ} {off : Fin 2 → ℕ} {o : ℕ} (ho : off = ![o, 0]) (size : Fin 2 → ℕ)
    (inb : ∀ a, off a + size a ≤ (⟨2, ![n, m]⟩ : Shape).size a)
    (j : (Rect.unit (s := ⟨2, ![n, m]⟩) off size inb).shape.Idx) :
    ((Rect.unit (s := ⟨2, ![n, m]⟩) off size inb).emb j 0).val = o + (j 0).val := by
  subst ho
  exact ValueKit.rect_emb_unit_val _ _ inb j 0

/-- The column of an index of a unit-stride rectangle starting at row `o`, column 0. -/
theorem rect_col {n m : ℕ} {off : Fin 2 → ℕ} {o : ℕ} (ho : off = ![o, 0]) (size : Fin 2 → ℕ)
    (inb : ∀ a, off a + size a ≤ (⟨2, ![n, m]⟩ : Shape).size a)
    (j : (Rect.unit (s := ⟨2, ![n, m]⟩) off size inb).shape.Idx) :
    ((Rect.unit (s := ⟨2, ![n, m]⟩) off size inb).emb j 1).val = (j 1).val := by
  subst ho
  exact (ValueKit.rect_emb_unit_val _ _ inb j 1).trans (Nat.zero_add _)

/-- The value at one index of a unit-stride rectangle of a block. -/
theorem rect_val {n m : ℕ} (X : (⟨2, ![n, m]⟩ : Shape).Idx → EReal) (f : ℕ → ℕ → ℝ)
    (hX : ∀ y, X y = ((f (y 1).val (y 0).val : ℝ) : EReal)) {off : Fin 2 → ℕ} {o : ℕ} (ho : off = ![o, 0])
    (size : Fin 2 → ℕ) (inb : ∀ a, off a + size a ≤ (⟨2, ![n, m]⟩ : Shape).size a)
    (j : (Rect.unit (s := ⟨2, ![n, m]⟩) off size inb).shape.Idx) :
    X ((Rect.unit (s := ⟨2, ![n, m]⟩) off size inb).emb j) = ((f (j 1).val (o + (j 0).val) : ℝ) : EReal) := by
  rw [hX, rect_row ho, rect_col ho]

section Fwd

variable (c : Dev nD) (i : grid0.Coords) (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (x0 x1 : Vec Ideal S4096x256 .f32) (α β : ℕ → ℕ → ℝ)

/-- The block of hidden states: row `r` of column `l` is the recurrence after `r + 1` steps from 0. -/
def fwdBlock (α β : ℕ → ℕ → ℝ) : Vec Ideal S4096x256 .f32 :=
  fun y => ((lin (α (y 1).val) (β (y 1).val) 0 ((y 0).val + 1) : ℝ) : EReal)

/-- The state before each trip: the row carried is the recurrence so far, and every tile written
   agrees with the block of hidden states. -/
theorem fwd_state (h0 : ∀ y, x0 y = ((α (y 1).val (y 0).val : ℝ) : EReal))
    (h1 : ∀ y, x1 y = ((β (y 1).val (y 0).val : ℝ) : EReal)) (k : ℕ) (hk : k ≤ 512) :
    let s := st_k0_t1 Variants.none c none i arg1 harg1 arg2 harg2 arg3 harg3 (harg1.unread x0) (harg2.unread x1)
      (k0_pay1 (F := Ideal)) k
    (∀ l : Fin 256, s.1 (ix2 0 l) = ((lin (α l.val) (β l.val) 0 (8 * k) : ℝ) : EReal)) ∧
      ∀ p ∈ s.2, ∀ x, p.2 x = fwdBlock α β (p.1.emb x) := by
  induction k with
  | zero =>
    refine ⟨fun l => ?_, fun p hp => absurd hp List.not_mem_nil⟩
    show k0_pay1 (F := Ideal) (ix2 0 l) = _
    pointwise [k0_pay1]
    simp [lin]
  | succ k ih =>
    have hkt : k < k0_t1_loop.trips := by
      have : k0_t1_loop.trips = 512 := by decide +kernel
      omega
    obtain ⟨ihv, ihp⟩ := ih (by omega)
    have e := st_k0_t1_succ (F := Ideal) Variants.none c none i arg1 harg1 arg2 harg2 arg3 harg3 (harg1.unread x0) (harg2.unread x1)
      (k0_pay1 (F := Ideal)) ⟨k, hkt⟩
    dsimp only at e ⊢
    rw [e]
    generalize st_k0_t1 Variants.none c none i arg1 harg1 arg2 harg2 arg3 harg3 (harg1.unread x0) (harg2.unread x1)
      (k0_pay1 (F := Ideal)) k = s at ihv ihp ⊢
    unfold tripR_k0_t1 tripL_k0_t1 trip_k0_t1
    dsimp only
    unfold trip_k0_t1.sl.r trip_k0_t1.sl.r_1 trip_k0_t1.sl.r_2
    simp only [View.readAt_eq_ld, harg1.read_unread, harg2.read_unread]
    have tile : ∀ (l : Fin 256) (j : Fin 8),
        fwdTile (View.ld x0 (Rect.unit (k0_off1 ⟨k, hkt⟩) S8x256.size (k0_off1_inb ⟨k, hkt⟩)))
          (View.ld x1 (Rect.unit (k0_off1 ⟨k, hkt⟩) S8x256.size (k0_off1_inb ⟨k, hkt⟩))) s.1 (ix2 j l)
          = ((lin (α l.val) (β l.val) 0 (8 * k + (j.val + 1)) : ℝ) : EReal) := by
      intro l j
      rw [fwdTile_apply _ _ _ l (fun n => α l.val (8 * k + n)) (fun n => β l.val (8 * k + n)) (lin (α l.val) (β l.val) 0 (8 * k)) ?_ ?_ (ihv l) j,
        lin_add]
      · exact fun j => rect_val x0 α h0 (k0_off1_eq ⟨k, hkt⟩) S8x256.size (k0_off1_inb ⟨k, hkt⟩) (ix2 j l)
      · exact fun j => rect_val x1 β h1 (k0_off1_eq ⟨k, hkt⟩) S8x256.size (k0_off1_inb ⟨k, hkt⟩) (ix2 j l)
    refine ⟨fun l => ?_, fun p hp => ?_⟩
    · exact (fwdCarry_apply _ _ _ l).trans (tile l 7)
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (tile l j).trans ?_
        unfold fwdBlock
        rw [rect_row (k0_off1_eq ⟨k, hkt⟩), rect_col (k0_off1_eq ⟨k, hkt⟩)]
        rfl
      · exact ihp p hp

/-- The block the forward kernel leaves is the block of hidden states. -/
theorem fwd_out (h0 : ∀ y, x0 y = ((α (y 1).val (y 0).val : ℝ) : EReal))
    (h1 : ∀ y, x1 y = ((β (y 1).val (y 0).val : ℝ) : EReal)) :
    out0_A_2 c i arg1 harg1 arg2 harg2 arg3 harg3 x0 x1 = fwdBlock α β := by
  funext y
  unfold out0_A_2
  refine View.read_writes_apply_of_pieces _ _ (fwdBlock α β) _ ?_ y (cover0_A_2 c i arg1 harg1 arg2 harg2 arg3 harg3 x0 x1 y)
  unfold kernelRun0_A
  dsimp only
  exact (fwd_state c i arg1 harg1 arg2 harg2 arg3 harg3 x0 x1 α β h0 h1 _ (by decide +kernel)).2

end Fwd

/-- The array of hidden states: row `r` of column `l` is the recurrence after `r + 1` steps from 0. -/
def hidden (a b : ℕ → ℕ → ℝ) : FVec Ideal S4096x1024 .f32 :=
  fun y => ((lin (a (y 1).val) (b (y 1).val) 0 ((y 0).val + 1) : ℝ) : EReal)

/-- The index of each of the forward kernel's windows at a grid point: block column `t`. -/
theorem index0_0 : ∀ t : Fin grid0.N, win0_0.index t = ![0, t.val] := by decide +kernel
theorem index0_1 : ∀ t : Fin grid0.N, win0_1.index t = ![0, t.val] := by decide +kernel
theorem index0_2 : ∀ t : Fin grid0.N, win0_2.index t = ![0, t.val] := by decide +kernel

/-- The forward kernel leaves the array of hidden states of the decays and inputs it is entered with. -/
theorem fwd_array (V : (c : Dev nD) → (b : Ref sig .tc) → Buf (Elt Ideal) ((c : Thread nD τ).loc b)) (c : Dev nD)
    (a b : ℕ → ℕ → ℝ)
    (ha : ∀ y : S4096x1024.Idx, V c main_arg0 y = ((a (y 1).val (y 0).val : ℝ) : EReal))
    (hb : ∀ y : S4096x1024.Idx, V c main_arg1 y = ((b (y 1).val (y 0).val : ℝ) : EReal)) :
    (dat0 V c).arrAt 2 cfg0.N = hidden a b := by
  refine (dat0 V c).arrAt_eq_of_covers 2 _ (by decide +kernel) fun t _ y => ?_
  blk_simp
  rw [after0_2]
  unfold outsAt0
  rw [fwd_out _ _ _ _ _ _ _ _ _ _ (fun l r => a (256 * t.val + l) r) (fun l r => b (256 * t.val + l) r)]
  · unfold fwdBlock hidden
    have e0 : ((win0_2.blk t).view.emb y 0).val = (y 0).val := by blk_simp [index0_2]
    have e1 : ((win0_2.blk t).view.emb y 1).val = 256 * t.val + (y 1).val := by blk_simp [index0_2]; simp; omega
    rw [e0, e1]
  · intro y
    blk_simp [iblk0]
    have e0 : ((win0_0.blk t).view.emb y 0).val = (y 0).val := by blk_simp [index0_0]
    have e1 : ((win0_0.blk t).view.emb y 1).val = 256 * t.val + (y 1).val := by blk_simp [index0_0]; simp; omega
    exact (ha _).trans (by rw [e0, e1])
  · intro y
    blk_simp [iblk0]
    have e0 : ((win0_1.blk t).view.emb y 0).val = (y 0).val := by blk_simp [index0_1]
    have e1 : ((win0_1.blk t).view.emb y 1).val = 256 * t.val + (y 1).val := by blk_simp [index0_1]; simp; omega
    exact (hb _).trans (by rw [e0, e1])

end Cert.Scan

end
-- ==== Proof.Bwd.lean ====
/- The reverse scan's kernel on one block of columns, and the arrays of gradients it leaves. -/
module

public import proofs.«01_k».proof.Proof.Fwd

@[expose] public section

set_option maxRecDepth 16384

noncomputable section

namespace Cert.Scan

open Idealize.ShloMosaic Idealize.ShloMosaic.TcCoe Idealize.SL.Sem
open Cert.KernelIdeal KernelIdeal.Gen

/-- The recurrence of the input gradients of one column, downwards from the last row: after `n`
   steps, the gradient of the input of row `4096 - n`. -/
def rev (a g : ℕ → ℝ) : ℕ → ℝ := lin (fun n => a (4096 - n)) (fun n => g (4095 - n)) 0

section Bwd

variable (c : Dev nD) (i : grid1.Coords) (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (arg4 : Memref sig .tc .vmem S4096x256 .f32) (harg4 : arg4.IsWhole)
  (arg5 : Memref sig .tc .vmem S4096x256 .f32) (harg5 : arg5.IsWhole)
  (x0 x1 x2 : Vec Ideal S4096x256 .f32) (γ α χ : ℕ → ℕ → ℝ)

/-- The block of input gradients. -/
def inputBlock (γ α : ℕ → ℕ → ℝ) : Vec Ideal S4096x256 .f32 :=
  fun y => ((rev (α (y 1).val) (γ (y 1).val) (4096 - (y 0).val) : ℝ) : EReal)

/-- The block of decay gradients: the input gradient of a row times the hidden state before it. -/
def decayBlock (γ α χ : ℕ → ℕ → ℝ) : Vec Ideal S4096x256 .f32 :=
  fun y => ((rev (α (y 1).val) (γ (y 1).val) (4096 - (y 0).val) * χ (y 1).val (y 0).val : ℝ) : EReal)

/-- The row before each tile, in closed form: 0 for the last trip, whose tile starts the array. -/
theorem k1_off3_closed : ∀ k : Fin k1_t1_loop.trips, k1_off3 k = ![4087 - 8 * k.val, 0] := by decide +kernel

/-- The state before each trip: the row carried is the recurrence so far, and every tile written
   agrees with the blocks of gradients. -/
theorem bwd_state (h0 : ∀ y, x0 y = ((γ (y 1).val (y 0).val : ℝ) : EReal))
    (h1 : ∀ y, x1 y = ((α (y 1).val (y 0).val : ℝ) : EReal)) (hα : ∀ l, α l 4096 = 0)
    (h2 : ∀ y, x2 y = ((χ (y 1).val ((y 0).val + 1) : ℝ) : EReal)) (hχ : ∀ l, χ l 0 = 0) (k : ℕ) (hk : k ≤ 512) :
    let s := st_k1_t1 Variants.none c none i arg1 harg1 arg2 harg2 arg3 harg3 arg4 harg4 arg5 harg5
      (harg1.unread x0) (harg2.unread x1) (harg3.unread x2) (k1_pay1 (F := Ideal)) k
    (∀ l : Fin 256, s.1 (ix2 0 l) = ((rev (α l.val) (γ l.val) (8 * k) : ℝ) : EReal)) ∧
      (∀ p ∈ s.2.1, ∀ x, p.2 x = inputBlock γ α (p.1.emb x)) ∧
      ∀ p ∈ s.2.2, ∀ x, p.2 x = decayBlock γ α χ (p.1.emb x) := by
  induction k with
  | zero =>
    refine ⟨fun l => ?_, fun p hp => absurd hp List.not_mem_nil, fun p hp => absurd hp List.not_mem_nil⟩
    show k1_pay1 (F := Ideal) (ix2 0 l) = _
    pointwise [k1_pay1]
    simp [rev, lin]
  | succ k ih =>
    have htr : k1_t1_loop.trips = 512 := by decide +kernel
    have hkt : k < k1_t1_loop.trips := by omega
    obtain ⟨ihv, ihp, ihq⟩ := ih (by omega)
    have e := st_k1_t1_succ (F := Ideal) Variants.none c none i arg1 harg1 arg2 harg2 arg3 harg3 arg4 harg4 arg5 harg5
      (harg1.unread x0) (harg2.unread x1) (harg3.unread x2) (k1_pay1 (F := Ideal)) ⟨k, hkt⟩
    dsimp only at e ⊢
    rw [e]
    generalize st_k1_t1 Variants.none c none i arg1 harg1 arg2 harg2 arg3 harg3 arg4 harg4 arg5 harg5
      (harg1.unread x0) (harg2.unread x1) (harg3.unread x2) (k1_pay1 (F := Ideal)) k = s at ihv ihp ihq ⊢
    clear e ih
    unfold tripR_k1_t1 trip_k1_t1
    dsimp only
    unfold trip_k1_t1.sl.r_2
    unfold trip_k1_t1.sl.r trip_k1_t1.sl.r_1 trip_k1_t1.sl.v42 trip_k1_t1.sl.r_3 trip_k1_t1.sl.r_4 trip_k1_t1.sl.v85
    dsimp only
    simp only [View.readAt_eq_ld, harg1.read_unread, harg2.read_unread, harg3.read_unread]
    have tile : ∀ (l : Fin 256) (j : Fin 8),
        bwdTile ⟨k, hkt⟩ (View.ld x1 (Rect.unit (k1_off1 ⟨k, hkt⟩) S1x256.size (k1_off1_inb ⟨k, hkt⟩)))
          (View.ld x1 (Rect.unit (k1_off2 ⟨k, hkt⟩) S8x256.size (k1_off2_inb ⟨k, hkt⟩)))
          (View.ld x0 (Rect.unit (k1_off2 ⟨k, hkt⟩) S8x256.size (k1_off2_inb ⟨k, hkt⟩))) s.1 (ix2 j l)
          = ((rev (α l.val) (γ l.val) (8 * k + (8 - j.val)) : ℝ) : EReal) := by
      intro l j
      rw [bwdTile_apply _ _ _ _ _ l (fun n => α l.val (4088 - 8 * k + n)) (fun n => γ l.val (4088 - 8 * k + n))
        (rev (α l.val) (γ l.val) (8 * k)) ?_ ?_ ?_ (ihv l) j]
      · unfold rev
        rw [← lin_add]
        congr 1
        refine lin_congr _ _ (fun n hn => ?_) (fun n hn => ?_)
        · congr 1; omega
        · congr 1; omega
      · exact fun j => rect_val x1 α h1 (k1_off2_eq ⟨k, hkt⟩) S8x256.size (k1_off2_inb ⟨k, hkt⟩) (ix2 j l)
      · exact fun j => rect_val x0 γ h0 (k1_off2_eq ⟨k, hkt⟩) S8x256.size (k1_off2_inb ⟨k, hkt⟩) (ix2 j l)
      · dsimp only
        by_cases h : k = 0
        · subst h
          rw [if_pos rfl, EReal.coe_zero, mul_zero, hα, EReal.coe_zero]
        · rw [if_neg h, EReal.coe_one, mul_one]
          refine (rect_val x1 α h1 (k1_off1_eq ⟨k, hkt⟩) S1x256.size (k1_off1_inb ⟨k, hkt⟩) (ix2 0 l)).trans ?_
          show ((α l.val (min (4096 - 8 * k) 4095 + 0) : ℝ) : EReal) = _
          congr 2; omega
    refine ⟨fun l => ?_, fun p hp => ?_, fun p hp => ?_⟩
    · exact (bwdCarry_apply _ l).trans (tile l 0)
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (tile l j).trans ?_
        unfold inputBlock
        rw [rect_row (k1_off2_eq ⟨k, hkt⟩), rect_col (k1_off2_eq ⟨k, hkt⟩)]
        show ((rev (α l.val) (γ l.val) _ : ℝ) : EReal) = ((rev (α l.val) (γ l.val) (4096 - (4088 - 8 * k + j.val)) : ℝ) : EReal)
        congr 2; omega
      · exact ihp p hp
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (decayTile_apply ⟨k, hkt⟩ _ (View.ld x2 (Rect.unit (k1_off2 ⟨k, hkt⟩) S8x256.size (k1_off2_inb ⟨k, hkt⟩)))
          (View.ld x2 (Rect.unit (k1_off3 ⟨k, hkt⟩) S1x256.size (k1_off3_inb ⟨k, hkt⟩))) l
          (fun j => rev (α l.val) (γ l.val) (8 * k + (8 - j))) (fun j => χ l.val (4088 - 8 * k + j)) (tile l) ?_ ?_ j).trans ?_
        · exact fun j => rect_val x2 (fun l r => χ l (r + 1)) h2 (k1_off2_eq ⟨k, hkt⟩) S8x256.size (k1_off2_inb ⟨k, hkt⟩) (ix2 j l)
        · dsimp only
          by_cases h : k = 511
          · subst h
            rw [if_pos rfl, EReal.coe_zero, mul_zero, hχ, EReal.coe_zero]
          · rw [if_neg h, EReal.coe_one, mul_one]
            refine (rect_val x2 (fun l r => χ l (r + 1)) h2 (k1_off3_closed ⟨k, hkt⟩) S1x256.size (k1_off3_inb ⟨k, hkt⟩) (ix2 0 l)).trans ?_
            show ((χ l.val (4087 - 8 * k + 0 + 1) : ℝ) : EReal) = _
            congr 2; omega
        · unfold decayBlock
          rw [rect_row (k1_off2_eq ⟨k, hkt⟩), rect_col (k1_off2_eq ⟨k, hkt⟩)]
          show _ = ((rev (α l.val) (γ l.val) (4096 - (4088 - 8 * k + j.val)) * χ l.val (4088 - 8 * k + j.val) : ℝ) : EReal)
          congr 3; omega
      · exact ihq p hp

/-- The first block the reverse kernel leaves is the block of input gradients. -/
theorem bwd_out_input (h0 : ∀ y, x0 y = ((γ (y 1).val (y 0).val : ℝ) : EReal))
    (h1 : ∀ y, x1 y = ((α (y 1).val (y 0).val : ℝ) : EReal)) (hα : ∀ l, α l 4096 = 0)
    (h2 : ∀ y, x2 y = ((χ (y 1).val ((y 0).val + 1) : ℝ) : EReal)) (hχ : ∀ l, χ l 0 = 0) :
    out1_A_3 c i arg1 harg1 arg2 harg2 arg3 harg3 arg4 harg4 arg5 harg5 x0 x1 x2 = inputBlock γ α := by
  funext y
  unfold out1_A_3
  refine View.read_writes_apply_of_pieces _ _ (inputBlock γ α) _ ?_ y
    (cover1_A_3 c i arg1 harg1 arg2 harg2 arg3 harg3 arg4 harg4 arg5 harg5 x0 x1 x2 y)
  unfold kernelRun1_A
  dsimp only
  exact (bwd_state c i arg1 harg1 arg2 harg2 arg3 harg3 arg4 harg4 arg5 harg5 x0 x1 x2 γ α χ h0 h1 hα h2 hχ _ (by decide +kernel)).2.1

/-- The second block the reverse kernel leaves is the block of decay gradients. -/
theorem bwd_out_decay (h0 : ∀ y, x0 y = ((γ (y 1).val (y 0).val : ℝ) : EReal))
    (h1 : ∀ y, x1 y = ((α (y 1).val (y 0).val : ℝ) : EReal)) (hα : ∀ l, α l 4096 = 0)
    (h2 : ∀ y, x2 y = ((χ (y 1).val ((y 0).val + 1) : ℝ) : EReal)) (hχ : ∀ l, χ l 0 = 0) :
    out1_A_4 c i arg1 harg1 arg2 harg2 arg3 harg3 arg4 harg4 arg5 harg5 x0 x1 x2 = decayBlock γ α χ := by
  funext y
  unfold out1_A_4
  refine View.read_writes_apply_of_pieces _ _ (decayBlock γ α χ) _ ?_ y
    (cover1_A_4 c i arg1 harg1 arg2 harg2 arg3 harg3 arg4 harg4 arg5 harg5 x0 x1 x2 y)
  unfold kernelRun1_A
  dsimp only
  exact (bwd_state c i arg1 harg1 arg2 harg2 arg3 harg3 arg4 harg4 arg5 harg5 x0 x1 x2 γ α χ h0 h1 hα h2 hχ _ (by decide +kernel)).2.2

end Bwd

/-- The array of input gradients. -/
def inputGrad (a g : ℕ → ℕ → ℝ) : FVec Ideal S4096x1024 .f32 :=
  fun y => ((rev (a (y 1).val) (g (y 1).val) (4096 - (y 0).val) : ℝ) : EReal)

/-- The array of decay gradients: the input gradient of a row times the hidden state `h` before it. -/
def decayGrad (a g h : ℕ → ℕ → ℝ) : FVec Ideal S4096x1024 .f32 :=
  fun y => ((rev (a (y 1).val) (g (y 1).val) (4096 - (y 0).val) * h (y 1).val (y 0).val : ℝ) : EReal)

/-- The index of each of the reverse kernel's windows at a grid point: block column `t`. -/
theorem index1_0 : ∀ t : Fin grid1.N, win1_0.index t = ![0, t.val] := by decide +kernel
theorem index1_1 : ∀ t : Fin grid1.N, win1_1.index t = ![0, t.val] := by decide +kernel
theorem index1_2 : ∀ t : Fin grid1.N, win1_2.index t = ![0, t.val] := by decide +kernel
theorem index1_3 : ∀ t : Fin grid1.N, win1_3.index t = ![0, t.val] := by decide +kernel
theorem index1_4 : ∀ t : Fin grid1.N, win1_4.index t = ![0, t.val] := by decide +kernel

section Array

variable (V : (c : Dev nD) → (b : Ref sig .tc) → Buf (Elt Ideal) ((c : Thread nD τ).loc b)) (c : Dev nD)
  (a g h : ℕ → ℕ → ℝ)
  (hg : ∀ y : S4096x1024.Idx, V c main_arg2 y = ((g (y 1).val (y 0).val : ℝ) : EReal))
  (ha : ∀ y : S4096x1024.Idx, V c main_arg0 y = ((a (y 1).val (y 0).val : ℝ) : EReal))
  (ha0 : ∀ l, a l 4096 = 0)
  (hh : ∀ y : S4096x1024.Idx, V c main_v0 y = ((h (y 1).val ((y 0).val + 1) : ℝ) : EReal))
  (hh0 : ∀ l, h l 0 = 0)
include hg ha hh

/-- What each input window of the reverse kernel holds at a grid point. -/
theorem iblk1_val (t : Fin cfg1.N) :
    (∀ y : S4096x256.Idx, iblk1 V c 0 t y = ((g (256 * t.val + (y 1).val) (y 0).val : ℝ) : EReal)) ∧
    (∀ y : S4096x256.Idx, iblk1 V c 1 t y = ((a (256 * t.val + (y 1).val) (y 0).val : ℝ) : EReal)) ∧
    ∀ y : S4096x256.Idx, iblk1 V c 2 t y = ((h (256 * t.val + (y 1).val) ((y 0).val + 1) : ℝ) : EReal) := by
  refine ⟨fun y => ?_, fun y => ?_, fun y => ?_⟩
  · blk_simp [iblk1]
    have e0 : ((win1_0.blk t).view.emb y 0).val = (y 0).val := by blk_simp [index1_0]
    have e1 : ((win1_0.blk t).view.emb y 1).val = 256 * t.val + (y 1).val := by blk_simp [index1_0]; simp; omega
    exact (hg _).trans (by rw [e0, e1])
  · blk_simp [iblk1]
    have e0 : ((win1_1.blk t).view.emb y 0).val = (y 0).val := by blk_simp [index1_1]
    have e1 : ((win1_1.blk t).view.emb y 1).val = 256 * t.val + (y 1).val := by blk_simp [index1_1]; simp; omega
    exact (ha _).trans (by rw [e0, e1])
  · blk_simp [iblk1]
    have e0 : ((win1_2.blk t).view.emb y 0).val = (y 0).val := by blk_simp [index1_2]
    have e1 : ((win1_2.blk t).view.emb y 1).val = 256 * t.val + (y 1).val := by blk_simp [index1_2]; simp; omega
    exact (hh _).trans (by rw [e0, e1])

include ha0 hh0

/-- The reverse kernel leaves the array of input gradients in its first result. -/
theorem bwd_array_input : (dat1 V c).arrAt 3 cfg1.N = inputGrad a g := by
  refine (dat1 V c).arrAt_eq_of_covers 3 _ (by decide +kernel) fun t _ y => ?_
  blk_simp
  rw [after1_3]
  unfold outsAt1
  obtain ⟨i0, i1, i2⟩ := iblk1_val V c a g h hg ha hh t
  dsimp only
  rw [bwd_out_input _ _ _ _ _ _ _ _ _ _ _ _ _ _ _ (fun l r => g (256 * t.val + l) r) (fun l r => a (256 * t.val + l) r)
    (fun l r => h (256 * t.val + l) r) i0 i1 (fun l => ha0 _) i2 (fun l => hh0 _)]
  unfold inputBlock inputGrad
  have e0 : ((win1_3.blk t).view.emb y 0).val = (y 0).val := by blk_simp [index1_3]
  have e1 : ((win1_3.blk t).view.emb y 1).val = 256 * t.val + (y 1).val := by blk_simp [index1_3]; simp; omega
  rw [e0, e1]

/-- The reverse kernel leaves the array of decay gradients in its second result. -/
theorem bwd_array_decay : (dat1 V c).arrAt 4 cfg1.N = decayGrad a g h := by
  refine (dat1 V c).arrAt_eq_of_covers 4 _ (by decide +kernel) fun t _ y => ?_
  blk_simp
  rw [after1_4]
  unfold outsAt1
  obtain ⟨i0, i1, i2⟩ := iblk1_val V c a g h hg ha hh t
  dsimp only
  rw [bwd_out_decay _ _ _ _ _ _ _ _ _ _ _ _ _ _ _ (fun l r => g (256 * t.val + l) r) (fun l r => a (256 * t.val + l) r)
    (fun l r => h (256 * t.val + l) r) i0 i1 (fun l => ha0 _) i2 (fun l => hh0 _)]
  unfold decayBlock decayGrad
  have e0 : ((win1_4.blk t).view.emb y 0).val = (y 0).val := by blk_simp [index1_4]
  have e1 : ((win1_4.blk t).view.emb y 1).val = 256 * t.val + (y 1).val := by blk_simp [index1_4]; simp; omega
  rw [e0, e1]

end Array

end Cert.Scan

end
-- ==== Proof.KernelRun.lean ====
/- A run of the kernel program: what its results hold. -/
module

public import proofs.«01_k».proof.Proof.Bwd

@[expose] public section

set_option maxRecDepth 16384

noncomputable section

namespace Cert.Scan

open Idealize.ShloMosaic Idealize.ShloMosaic.TcCoe Idealize.SL.Sem Idealize.ShloMosaic.Tactic
open Idealize.SL Idealize.SL.RA Idealize.SL.BI
open Idealize.ShloMosaic.Rounds
open scoped Idealize.SL.BI
open Idealize.SL.BI.BIBase Idealize.SL.BI.Laws Idealize.SL.ProofMode
open Cert.KernelIdeal KernelIdeal.Gen

section Values

variable (m : (ℓ : Loc nD τ sig) → Buf (Elt Ideal) ℓ) (ρ : Dev nD → PrngReg) (c : Dev nD) (A B G : ℕ → ℕ → ℝ)
  (ha : ∀ y : S4096x1024.Idx, m ((c.tc : Thread nD τ).loc main_arg0) y = ((A (y 1).val (y 0).val : ℝ) : EReal))
  (hb : ∀ y : S4096x1024.Idx, m ((c.tc : Thread nD τ).loc main_arg1) y = ((B (y 1).val (y 0).val : ℝ) : EReal))
  (hg : ∀ y : S4096x1024.Idx, m ((c.tc : Thread nD τ).loc main_arg2) y = ((G (y 1).val (y 0).val : ℝ) : EReal))
  (ha0 : ∀ l, A l 4096 = 0)

include ha hb in
/-- Between the two kernels the saved states are the recurrence's. -/
theorem states_between : V1 m ρ c main_v0 = hidden A B :=
  (W1_arr m ρ c 2).trans (fwd_array (V0 m ρ) c A B ha hb)

include ha hb hg ha0

/-- The kernel program leaves the input's gradients. -/
theorem kernel_input : W2 m ρ c (Proc.devRef .tc main_v1_0) = inputGrad A G :=
  (W2_arr m ρ c 3).trans (bwd_array_input (V1 m ρ) c A G (fun l n => lin (A l) (B l) 0 n)
    (fun y => (congrFun (W1_args m ρ c main_arg2 (by decide)) y).trans (hg y))
    (fun y => (congrFun (W1_args m ρ c main_arg0 (by decide)) y).trans (ha y)) ha0
    (fun y => congrFun (states_between m ρ c A B ha hb) y) (fun _ => rfl))

/-- The kernel program leaves the decay's gradients. -/
theorem kernel_decay : W2 m ρ c (Proc.devRef .tc main_v1_1) = decayGrad A G (fun l n => lin (A l) (B l) 0 n) :=
  (W2_arr m ρ c 4).trans (bwd_array_decay (V1 m ρ) c A G (fun l n => lin (A l) (B l) 0 n)
    (fun y => (congrFun (W1_args m ρ c main_arg2 (by decide)) y).trans (hg y))
    (fun y => (congrFun (W1_args m ρ c main_arg0 (by decide)) y).trans (ha y)) ha0
    (fun y => congrFun (states_between m ρ c A B ha hb) y) (fun _ => rfl))

end Values

variable (m : (ℓ : Loc nD τ sig) → Buf (Elt Ideal) ℓ) (ρ : Dev nD → PrngReg)

/-- The resources a run of the kernel program is stated over. -/
local notation "𝕄" => MT nD τ sig Unit (Elt Ideal) ℕ (UR sig nD τ) ℕ

set_option backward.isDefEq.respectTransparency.types false in
/-- Every run of the kernel program ends, the arguments as launched and the two results at the last boundary's contents. -/
theorem run : θ_run (defs (F := Ideal)) (onTc (τ := τ) (main (F := Ideal))) ⟨m, fun _ => 0, ρ⟩ (fun r => ∀ c : Dev nD,
      r.2.mem ((c.tc : Thread nD τ).loc main_v1_1) = W2 m ρ c (Proc.devRef .tc main_v1_1)
      ∧ r.2.mem ((c.tc : Thread nD τ).loc main_v1_0) = W2 m ρ c (Proc.devRef .tc main_v1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨h c _ (mem_uc main_v1_1 (by decide)), h c _ (mem_uc main_v1_0 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Scan

end
-- ==== Proof.RefRun.lean ====
/-
  The reference program runs two counted host loops one after the other: loop 0 is the forward recurrence, loop 1 the
  reversed one. This module gives the operations of every stretch, the two conditions, and the run of the whole program:
  every buffer of @main ends at a named fold of the operations over the launch contents.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Scan.Ref

open Cert.ReferenceIdeal ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

/-- The contents of a row. -/
abbrev Row (F : FTy → Type) := (⟨S1024, .f32⟩ : BufTy).Contents (Elt F)

/-- The contents of a table. -/
abbrev Table (F : FTy → Type) := (⟨S4096x1024, .f32⟩ : BufTy).Contents (Elt F)

/-- The contents of a number. -/
abbrev Num (F : FTy → Type) := (⟨S_, .f32⟩ : BufTy).Contents (Elt F)

variable {F : FTy → Type} [FloatOps F]

/-! ## The stretches -/

/-- One call that reads row `i` of a table `x`. -/
abbrev rowOps (x : TRef sig ⟨S4096x1024, .f32⟩) (i : TRef sig ⟨S_, .i32⟩) (φ : fn_dynamic_index_in_dim.Bufs) : List (HloOp τ sig (Elt F)) :=
  [ TRef.nullary φ.c (constantI S_ 32 0#32),
    TRef.unaryIndexed x ![i, φ.c] φ.v0 (fun x i => Host.dynamicSlice S1x1024 x (fun k => (i k (Shape.Idx.first h_S_)).toInt) sliceFits_S4096x1024_S1x1024),
    TRef.reshape φ.v0 φ.v1 (rfl : (.f32 : EltTy) = .f32) shapeCasts_S1x1024_S1024 ]

/-- The same call as the second copy of the function makes it. -/
abbrev rowOps' (x : TRef sig ⟨S4096x1024, .f32⟩) (i : TRef sig ⟨S_, .i32⟩) (φ : fn_dynamic_index_in_dim_0.Bufs) : List (HloOp τ sig (Elt F)) :=
  [ TRef.nullary φ.c (constantI S_ 32 0#32),
    TRef.unaryIndexed x ![i, φ.c] φ.v0 (fun x i => Host.dynamicSlice S1x1024 x (fun k => (i k (Shape.Idx.first h_S_)).toInt) sliceFits_S4096x1024_S1x1024),
    TRef.reshape φ.v0 φ.v1 (rfl : (.f32 : EltTy) = .f32) shapeCasts_S1x1024_S1024 ]

/-- One call that writes the row `v` into row `i` of a table `x`. -/
abbrev putOps (x : TRef sig ⟨S4096x1024, .f32⟩) (v : TRef sig ⟨S1024, .f32⟩) (i : TRef sig ⟨S_, .i32⟩)
    (φ : fn_dynamic_update_index_in_dim.Bufs) : List (HloOp τ sig (Elt F)) :=
  [ TRef.unary v φ.v0 (broadcastInDim S1x1024 ![1] bcast_S1024_S1x1024_1),
    TRef.nullary φ.c (constantI S_ 32 0#32),
    TRef.binaryIndexed x φ.v0 ![i, φ.c] φ.v1 (fun x u i => Host.dynamicUpdateSlice x u (fun k => (i k (Shape.Idx.first h_S_)).toInt) updateFits_S4096x1024_S1x1024) ]

/-- @main before the first loop: zeros, and the loop's carried values filled. -/
abbrev preOps : List (HloOp τ sig (Elt F)) :=
  [ nullary main_cst (constant S_ .f32 0x00000000#32),
    unary main_cst main_v0 (broadcastInDim S1024 ![] bcast_S_S1024 : Num F → Row F),
    nullary main_cst_0 (constant S_ .f32 0x00000000#32),
    unary main_cst_0 main_v1 (broadcastInDim S4096x1024 ![] bcast_S_S4096x1024 : Num F → Table F),
    nullary main_cst_1 (constant S_ .f32 0x00000000#32),
    unary main_cst_1 main_v2 (broadcastInDim S4096x1024 ![] bcast_S_S4096x1024 : Num F → Table F),
    nullary main_c (constantI S_ 32 0#32),
    unary main_arg0 main_v3_0 id, unary main_arg1 main_v3_1 id, unary main_c main_v3_2 id,
    unary main_v0 main_v3_3 id, unary main_v1 main_v3_4 id, unary main_v2 main_v3_5 id ]

/-- @main between the loops: zeros, and the second loop's carried values filled. -/
abbrev midOps : List (HloOp τ sig (Elt F)) :=
  [ nullary main_cst_2 (constant S_ .f32 0x00000000#32),
    unary main_cst_2 main_v4 (broadcastInDim S1024 ![] bcast_S_S1024 : Num F → Row F),
    nullary main_cst_3 (constant S_ .f32 0x00000000#32),
    unary main_cst_3 main_v5 (broadcastInDim S1024 ![] bcast_S_S1024 : Num F → Row F),
    nullary main_cst_4 (constant S_ .f32 0x00000000#32),
    unary main_cst_4 main_v6 (broadcastInDim S4096x1024 ![] bcast_S_S4096x1024 : Num F → Table F),
    nullary main_cst_5 (constant S_ .f32 0x00000000#32),
    unary main_cst_5 main_v7 (broadcastInDim S4096x1024 ![] bcast_S_S4096x1024 : Num F → Table F),
    nullary main_c_6 (constantI S_ 32 0#32),
    unary main_arg2 main_v8_0 id, unary main_v3_5 main_v8_1 id, unary main_arg0 main_v8_2 id, unary main_c_6 main_v8_3 id,
    unary main_v5 main_v8_4 id, unary main_v6 main_v8_5 id, unary main_v7 main_v8_6 id ]

/-- The first loop's test. -/
abbrev testF : List (HloOp τ sig (Elt F)) :=
  [ nullary main_while0c_c_12 (constantI S_ 32 4096#32), binary main_v3_2 main_while0c_c_12 main_while0c_v9 (cmpi .slt) ]

/-- The second loop's test. -/
abbrev testB : List (HloOp τ sig (Elt F)) :=
  [ nullary main_while1c_c_13 (constantI S_ 32 4096#32), binary main_v8_3 main_while1c_c_13 main_while1c_v9 (cmpi .slt) ]

/-- The first loop's arithmetic: the decay times the state, plus the input. -/
abbrev stepF : List (HloOp τ sig (Elt F)) :=
  [ binary main_while0b_v9 main_v3_3 main_while0b_v11 (mulf : Row F → Row F → Row F),
    binary main_while0b_v11 main_while0b_v10 main_while0b_v12 (addf : Row F → Row F → Row F) ]

/-- The first loop's end of a trip: the counter, and the carried values written back. -/
abbrev endF : List (HloOp τ sig (Elt F)) :=
  [ nullary main_while0b_c_12 (constantI S_ 32 1#32),
    binary main_v3_2 main_while0b_c_12 main_while0b_v15 (addi : (⟨S_, .i32⟩ : BufTy).Contents (Elt F) → (⟨S_, .i32⟩ : BufTy).Contents (Elt F) → (⟨S_, .i32⟩ : BufTy).Contents (Elt F)),
    unary main_while0b_v15 main_v3_2 id, unary main_while0b_v12 main_v3_3 id,
    unary main_while0b_v13 main_v3_4 id, unary main_while0b_v14 main_v3_5 id ]

/-- The second loop's row number: `4096 - k - 1`. -/
abbrev indexB : List (HloOp τ sig (Elt F)) :=
  [ nullary main_while1b_c_13 (constantI S_ 32 4096#32),
    binary main_while1b_c_13 main_v8_3 main_while1b_v9 (subi : (⟨S_, .i32⟩ : BufTy).Contents (Elt F) → (⟨S_, .i32⟩ : BufTy).Contents (Elt F) → (⟨S_, .i32⟩ : BufTy).Contents (Elt F)),
    nullary main_while1b_c_14 (constantI S_ 32 1#32),
    binary main_while1b_v9 main_while1b_c_14 main_while1b_v10 (subi : (⟨S_, .i32⟩ : BufTy).Contents (Elt F) → (⟨S_, .i32⟩ : BufTy).Contents (Elt F) → (⟨S_, .i32⟩ : BufTy).Contents (Elt F)) ]

/-- The second loop's arithmetic: the cotangent row added, then the two products. -/
abbrev stepB : List (HloOp τ sig (Elt F)) :=
  [ binary main_v8_4 main_while1b_v11 main_while1b_v14 (addf : Row F → Row F → Row F),
    binary main_while1b_v13 main_while1b_v14 main_while1b_v15 (mulf : Row F → Row F → Row F),
    binary main_while1b_v14 main_while1b_v12 main_while1b_v16 (mulf : Row F → Row F → Row F) ]

/-- The second loop's end of a trip: the counter, and the carried values written back. -/
abbrev endB : List (HloOp τ sig (Elt F)) :=
  [ nullary main_while1b_c_15 (constantI S_ 32 1#32),
    binary main_v8_3 main_while1b_c_15 main_while1b_v19 (addi : (⟨S_, .i32⟩ : BufTy).Contents (Elt F) → (⟨S_, .i32⟩ : BufTy).Contents (Elt F) → (⟨S_, .i32⟩ : BufTy).Contents (Elt F)),
    unary main_while1b_v19 main_v8_3 id, unary main_while1b_v15 main_v8_4 id,
    unary main_while1b_v17 main_v8_5 id, unary main_while1b_v18 main_v8_6 id ]

/-- The first loop's body. -/
abbrev bodyF : List (List (HloOp τ sig (Elt F))) :=
  [ rowOps (.of main_v3_0) (.of main_v3_2) main_while0b_call0, rowOps (.of main_v3_1) (.of main_v3_2) main_while0b_call1, stepF,
    putOps (.of main_v3_4) (.of main_while0b_v12) (.of main_v3_2) main_while0b_call2,
    putOps (.of main_v3_5) (.of main_v3_3) (.of main_v3_2) main_while0b_call3, endF ]

/-- The second loop's body. -/
abbrev bodyB : List (List (HloOp τ sig (Elt F))) :=
  [ indexB, rowOps (.of main_v8_0) (.of main_while1b_v10) main_while1b_call4, rowOps' (.of main_v8_1) (.of main_while1b_v10) main_while1b_call5,
    rowOps (.of main_v8_2) (.of main_while1b_v10) main_while1b_call6, stepB,
    putOps (.of main_v8_5) (.of main_while1b_v16) (.of main_while1b_v10) main_while1b_call7,
    putOps (.of main_v8_6) (.of main_while1b_v14) (.of main_while1b_v10) main_while1b_call8, endB ]

/-- @main is its stretches and its loops in order. -/
theorem main_chain (c : Dev nD) : main (F := F) c = (Pipeline.chain [ seq preOps, HostLoop.enter 0, seq midOps, HostLoop.enter 1 ] :
    Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons]
  chain_rfl

/-- The first loop's body is its stretches in order. -/
theorem bodyF_chain : main_while0_body (F := F) = (Pipeline.chain (bodyF.map fun ops => (seq ops : Prog _ PUnit)) :
    Prog (TpuEff nD τ sig (Elt F) (HostLoop.Sig (Pipeline.Sig Λ₀ (Fin 0) fun p => (pcfgs (F := F) p).Adm) 2) .tc) PUnit) := by
  show _ = Pipeline.chain [seq (rowOps (.of main_v3_0) (.of main_v3_2) main_while0b_call0), seq (rowOps (.of main_v3_1) (.of main_v3_2) main_while0b_call1),
    seq stepF, seq (putOps (.of main_v3_4) (.of main_while0b_v12) (.of main_v3_2) main_while0b_call2),
    seq (putOps (.of main_v3_5) (.of main_v3_3) (.of main_v3_2) main_while0b_call3), seq endF]
  rewrite [Pipeline.chain_cons, Pipeline.chain_cons, chain_seq_cons, Pipeline.chain_cons, Pipeline.chain_cons, chain_seq_cons]
  chain_rfl

/-- The second loop's body is its stretches in order. -/
theorem bodyB_chain : main_while1_body (F := F) = (Pipeline.chain (bodyB.map fun ops => (seq ops : Prog _ PUnit)) :
    Prog (TpuEff nD τ sig (Elt F) (HostLoop.Sig (Pipeline.Sig Λ₀ (Fin 0) fun p => (pcfgs (F := F) p).Adm) 2) .tc) PUnit) := by
  show _ = Pipeline.chain [seq indexB, seq (rowOps (.of main_v8_0) (.of main_while1b_v10) main_while1b_call4),
    seq (rowOps' (.of main_v8_1) (.of main_while1b_v10) main_while1b_call5), seq (rowOps (.of main_v8_2) (.of main_while1b_v10) main_while1b_call6),
    seq stepB, seq (putOps (.of main_v8_5) (.of main_while1b_v16) (.of main_while1b_v10) main_while1b_call7),
    seq (putOps (.of main_v8_6) (.of main_while1b_v14) (.of main_while1b_v10) main_while1b_call8), seq endB]
  rewrite [chain_seq_cons, Pipeline.chain_cons, Pipeline.chain_cons, Pipeline.chain_cons, chain_seq_cons, Pipeline.chain_cons, Pipeline.chain_cons, chain_seq_cons]
  chain_rfl

/-! ## The stretches touch TensorCore buffers only and allocate none -/

theorem rowOps_sub (x i φ) : (rowOps x i φ : List (HloOp τ sig (Elt F))).Forall fun op => op.bufs ⊆ tcRefs τ sig :=
  ⟨nullary_bufs_sub .., unaryIndexed_bufs_sub .., reshape_bufs_sub ..⟩
theorem rowOps'_sub (x i φ) : (rowOps' x i φ : List (HloOp τ sig (Elt F))).Forall fun op => op.bufs ⊆ tcRefs τ sig :=
  ⟨nullary_bufs_sub .., unaryIndexed_bufs_sub .., reshape_bufs_sub ..⟩
theorem putOps_sub (x v i φ) : (putOps x v i φ : List (HloOp τ sig (Elt F))).Forall fun op => op.bufs ⊆ tcRefs τ sig :=
  ⟨unary_bufs_sub .., nullary_bufs_sub .., binaryIndexed_bufs_sub ..⟩
theorem preOps_sub : (preOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub ..,
    unary_bufs_sub .., unary_bufs_sub .., unary_bufs_sub .., unary_bufs_sub .., unary_bufs_sub .., unary_bufs_sub ..⟩
theorem midOps_sub : (midOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub ..,
    unary_bufs_sub .., unary_bufs_sub .., unary_bufs_sub .., unary_bufs_sub .., unary_bufs_sub .., unary_bufs_sub .., unary_bufs_sub ..⟩
theorem stepF_sub : (stepF : List (HloOp τ sig (Elt F))).Forall fun op => op.bufs ⊆ tcRefs τ sig := ⟨binary_bufs_sub .., binary_bufs_sub ..⟩
theorem endF_sub : (endF : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem indexB_sub : (indexB : List (HloOp τ sig (Elt F))).Forall fun op => op.bufs ⊆ tcRefs τ sig :=
  ⟨nullary_bufs_sub .., binary_bufs_sub .., nullary_bufs_sub .., binary_bufs_sub ..⟩
theorem stepB_sub : (stepB : List (HloOp τ sig (Elt F))).Forall fun op => op.bufs ⊆ tcRefs τ sig :=
  ⟨binary_bufs_sub .., binary_bufs_sub .., binary_bufs_sub ..⟩
theorem endB_sub : (endB : List (HloOp τ sig (Elt F))).Forall fun op => op.bufs ⊆ tcRefs τ sig :=
  ⟨nullary_bufs_sub .., binary_bufs_sub .., unary_bufs_sub .., unary_bufs_sub .., unary_bufs_sub .., unary_bufs_sub ..⟩

theorem plain_pre : Plain [preOps (F := F)] := .cons preOps_sub .nil
theorem plain_mid : Plain [midOps (F := F)] := .cons midOps_sub .nil
theorem plainF : Plain (bodyF (F := F)) :=
  .cons (rowOps_sub ..) (.cons (rowOps_sub ..) (.cons stepF_sub (.cons (putOps_sub ..) (.cons (putOps_sub ..) (.cons endF_sub .nil)))))
theorem plainB : Plain (bodyB (F := F)) :=
  .cons indexB_sub (.cons (rowOps_sub ..) (.cons (rowOps'_sub ..) (.cons (rowOps_sub ..) (.cons stepB_sub
    (.cons (putOps_sub ..) (.cons (putOps_sub ..) (.cons endB_sub .nil)))))))

/-! ## The two conditions -/

/-- What rides along beside the buffers. -/
abbrev Rc (c : Dev nD) : sProp (MT nD τ sig Unit (Elt F) ℕ (Option PUnit) ℕ) := iprop(∃ W, owes (c : Thread nD τ) (0 : CellTallies nD τ sig Unit) W)

/-- One trip of the first loop from any contents: the counter goes up by one. -/
theorem tripF_counter (X : Valuation τ sig (Elt F)) :
    afterL bodyF (after testF X) (Proc.devRef .tc main_v3_2) = addi (X (Proc.devRef .tc main_v3_2)) (constantI S_ 32 1#32) := by
  simp only [afterL_cons, afterL_nil]
  after_reads_simp
  rfl

/-- One trip of the second loop from any contents: the counter goes up by one. -/
theorem tripB_counter (X : Valuation τ sig (Elt F)) :
    afterL bodyB (after testB X) (Proc.devRef .tc main_v8_3) = addi (X (Proc.devRef .tc main_v8_3)) (constantI S_ 32 1#32) := by
  simp only [afterL_cons, afterL_nil]
  after_reads_simp
  rfl

/-- Before the `k`-th test of the first loop the counter is `k`. -/
theorem counterF (W : Dev nD → Valuation τ sig (Elt F)) (hW : ∀ c, W c (Proc.devRef .tc main_v3_2) = fun _ => (0#32 : BitVec 32)) (c : Dev nD) :
    ∀ k, atTrip testF bodyF W k c (Proc.devRef .tc main_v3_2) = fun _ => Scf.iv 0#32 1#32 k
  | 0 => by rw [atTrip_zero, hW, Scf.iv_zero]
  | k + 1 => by rw [atTrip_succ, tripF_counter, counterF W hW c k, Scf.iv_succ]; rfl

/-- Before the `k`-th test of the second loop the counter is `k`. -/
theorem counterB (W : Dev nD → Valuation τ sig (Elt F)) (hW : ∀ c, W c (Proc.devRef .tc main_v8_3) = fun _ => (0#32 : BitVec 32)) (c : Dev nD) :
    ∀ k, atTrip testB bodyB W k c (Proc.devRef .tc main_v8_3) = fun _ => Scf.iv 0#32 1#32 k
  | 0 => by rw [atTrip_zero, hW, Scf.iv_zero]
  | k + 1 => by rw [atTrip_succ, tripB_counter, counterB W hW c k, Scf.iv_succ]; rfl

set_option backward.isDefEq.respectTransparency.types false in
/-- The first loop's test says yes exactly on the first 4096 trips. -/
theorem condF (W : Dev nD → Valuation τ sig (Elt F)) (hW : ∀ c, W c (Proc.devRef .tc main_v3_2) = fun _ => (0#32 : BitVec 32)) :
    LoopCond (U := Option PUnit) (Name := ℕ) (Lvl := ℕ) (pcfgs (F := F)) defs₀ Variants.none loops Rc (main_while0_cond (F := F)) testF bodyF W 4096 := by
  intro k hk c bd
  have hctr := counterF W hW c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip testF bodyF W k c) main_v3_2 HostLoop.idx0)
        (HloOp.result _ (atTrip testF bodyF W k c) main_while0c_c_12 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

set_option backward.isDefEq.respectTransparency.types false in
/-- The second loop's test says yes exactly on the first 4096 trips. -/
theorem condB (W : Dev nD → Valuation τ sig (Elt F)) (hW : ∀ c, W c (Proc.devRef .tc main_v8_3) = fun _ => (0#32 : BitVec 32)) :
    LoopCond (U := Option PUnit) (Name := ℕ) (Lvl := ℕ) (pcfgs (F := F)) defs₀ Variants.none loops Rc (main_while1_cond (F := F)) testB bodyB W 4096 := by
  intro k hk c bd
  have hctr := counterB W hW c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip testB bodyB W k c) main_v8_3 HostLoop.idx0)
        (HloOp.result _ (atTrip testB bodyB W k c) main_while1c_c_13 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-! ## The run -/

variable (m : (ℓ : Loc nD τ sig) → Buf (Elt F) ℓ) (ρ : Dev nD → PrngReg)

/-- Core `c`'s buffers when the first loop is entered. -/
def atF (c : Dev nD) : Valuation τ sig (Elt F) := after preOps (launchContents m c)
/-- Core `c`'s buffers when the first loop is left. -/
def outF (c : Dev nD) : Valuation τ sig (Elt F) := after testF (atTrip testF bodyF (atF m) 4096 c)
/-- Core `c`'s buffers when the second loop is entered. -/
def atB (c : Dev nD) : Valuation τ sig (Elt F) := after midOps (outF m c)
/-- Core `c`'s buffers when the second loop is left: the program's end. -/
def outB (c : Dev nD) : Valuation τ sig (Elt F) := after testB (atTrip testB bodyB (atB m) 4096 c)

theorem atF_counter (c : Dev nD) : atF m c (Proc.devRef .tc main_v3_2) = fun _ => (0#32 : BitVec 32) := by
  unfold atF
  after_reads_simp
  rfl

theorem atB_counter (c : Dev nD) : atB m c (Proc.devRef .tc main_v8_3) = fun _ => (0#32 : BitVec 32) := by
  unfold atB
  after_reads_simp
  rfl

/-- No kernel region is in the program: the families over them are empty. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev lvls : GSem nD τ sig → Finset Unit := fun _ => ∅
abbrev lv : GSem nD τ sig → Unit → ℕ := fun _ _ => 0

/-- @main's segments. -/
def segs : List (CSeg (pcfgs (F := F)) adm defs₀ Variants.none lvls lv loops tk) :=
  segsOf _ _ _ _ _ _ _ _ Rc [preOps] plain_pre (launchContents m)
    ++ loopSeg _ _ _ _ _ _ _ _ 0 main_while0_cond main_while0_body rfl testF bodyF plainF bodyF_chain 4096 (atF m) Rc (condF _ (atF_counter m))
      :: (segsOf _ _ _ _ _ _ _ _ Rc [midOps] plain_mid (outF m)
        ++ [loopSeg _ _ _ _ _ _ _ _ 1 main_while1_cond main_while1_body rfl testB bodyB plainB bodyB_chain 4096 (atB m) Rc (condB _ (atB_counter m))])

theorem segs_prog : (segs m).map CSeg.prog = [seq preOps, HostLoop.enter 0, seq midOps, HostLoop.enter 1] := rfl

theorem segs_chains :
    CSeg.Chains (fun c => iprop(held (c : Thread nD τ) (ucRefs τ sig) (launchContents m c) ∗ Rc c)) (segs m)
      (fun c => iprop(iprop(held (c : Thread nD τ) (ucRefs τ sig) (outB m c)) ∗ ∃ W, owes (c : Thread nD τ) (0 : CellTallies nD τ sig Unit) W)) := by
  unfold segs
  exact CSeg.Chains.append (segsOf_chains _ _ _ _ _ _ _ _ Rc [preOps] plain_pre _) ⟨fun _ => .rfl,
    CSeg.Chains.append (segsOf_chains _ _ _ _ _ _ _ _ Rc [midOps] plain_mid _) ⟨fun _ => .rfl, fun _ => .rfl⟩⟩

/-- Every semaphore the TensorCore has is a scoped one. -/
theorem no_unscoped : ∀ sm : SemLoc sig, sm.isScoped .tc = true := by decide

set_option backward.isDefEq.respectTransparency.types false in
/-- THE RUN: from any memory with zero counters every weakly fair execution of @main terminates, every buffer of @main
    ends at `outB`, and every counter ends at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = outB m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none lvls lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rc c))
    (Tₙ := fun c => iprop(held (c : Thread nD τ) (ucRefs τ sig) (outB m c)))
    (hch := segs_chains m)
    (hinit := by
      refine Pipeline.initEach lvls lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = outB m c b)
    (hfin := fun c s' => by
      unfold held
      iintro ⟨Hh, HSI⟩
      ihave Hr := (pointsTo_read_all (ucRefs τ sig) (fun b => ((c : Dev nD), b)) (fun b => outB m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

end Cert.Scan.Ref

end
-- ==== Proof.RefValue.lean ====
/- What the reference's two loops compute: the hidden states, then the two gradients, as closed forms over real tables. -/
module

public import proofs.«01_k».proof.Proof.RefRun
public import proofs.«01_k».proof.Proof.Bwd
public import Idealize.ShloMosaic.Lib.Pointwise
public import Idealize.ShloMosaic.Lib.ValueLayout

@[expose] public section

set_option maxRecDepth 16384

noncomputable section

namespace Cert.Scan.Ref

open Cert.ReferenceIdeal ReferenceIdeal.Gen
open Idealize.ShloMosaic Idealize.ShloMosaic.TcCoe Idealize.ShloMosaic.Tactic Idealize.SL.Sem
open Idealize.ShloMosaic.StableHlo

/-- A buffer of the program as a place of the memory. -/
abbrev dr (r : Ref sig .tc) := Proc.devRef (τ := τ) .tc r

variable {F : FTy → Type} [FloatOps F]

variable {F : FTy → Type} [FloatOps F]

/-- Row `i` of a table, as the reference reads it. -/
def rowAt (x : FVec F S4096x1024 .f32) (i : S_.Idx → BitVec 32) : FVec F S1024 .f32 :=
  shapeCast S1024 (Host.dynamicSlice S1x1024 x (fun k => ((![i, constantI S_ 32 0#32] : Fin 2 → S_.Idx → BitVec 32) k (Shape.Idx.first h_S_)).toInt)
    sliceFits_S4096x1024_S1x1024) shapeCasts_S1x1024_S1024

/-- A table with row `i` replaced by `v`, as the reference writes it. -/
def putAt (x : FVec F S4096x1024 .f32) (v : FVec F S1024 .f32) (i : S_.Idx → BitVec 32) : FVec F S4096x1024 .f32 :=
  Host.dynamicUpdateSlice x (broadcastInDim S1x1024 ![1] bcast_S1024_S1x1024_1 v)
    (fun k => ((![i, constantI S_ 32 0#32] : Fin 2 → S_.Idx → BitVec 32) k (Shape.Idx.first h_S_)).toInt) updateFits_S4096x1024_S1x1024

/-! ## What each stretch writes -/

/-- A stretch leaves a buffer it does not write as it was. -/
theorem keep (ops : List (HloOp τ sig (Elt F))) (V : Valuation τ sig (Elt F)) (W : List (Ref sig .tc))
    (hW : ops.Forall fun op => op.writes ⊆ (W.map (Proc.devRef (τ := τ) .tc)).toFinset) (r : Ref sig .tc) (h : r ∉ W) :
    after ops V (dr r) = V (dr r) := after_of_writes_sub ops V hW h

section Stretches

variable (V : Valuation τ sig (Elt F)) (r : Ref sig .tc)

theorem testF_keep (h : r ∉ [main_while0c_c_12, main_while0c_v9] := by decide) : after testF V (dr r) = V (dr r) :=
  keep _ V _ (forall_writes_sub_of_map rfl) r h

theorem testB_keep (h : r ∉ [main_while1c_c_13, main_while1c_v9] := by decide) : after testB V (dr r) = V (dr r) :=
  keep _ V _ (forall_writes_sub_of_map rfl) r h

theorem row0_keep (h : r ∉ [main_while0b_call0_c, main_while0b_call0_v0, main_while0b_v9] := by decide) : after (rowOps (.of main_v3_0) (.of main_v3_2) main_while0b_call0) V (dr r) = V (dr r) :=
  keep _ V _ (forall_writes_sub_of_map rfl) r h

theorem row1_keep (h : r ∉ [main_while0b_call1_c, main_while0b_call1_v0, main_while0b_v10] := by decide) : after (rowOps (.of main_v3_1) (.of main_v3_2) main_while0b_call1) V (dr r) = V (dr r) :=
  keep _ V _ (forall_writes_sub_of_map rfl) r h

theorem stepF_keep (h : r ∉ [main_while0b_v11, main_while0b_v12] := by decide) : after stepF V (dr r) = V (dr r) :=
  keep _ V _ (forall_writes_sub_of_map rfl) r h

theorem put2_keep (h : r ∉ [main_while0b_call2_v0, main_while0b_call2_c, main_while0b_v13] := by decide) : after (putOps (.of main_v3_4) (.of main_while0b_v12) (.of main_v3_2) main_while0b_call2) V (dr r) = V (dr r) :=
  keep _ V _ (forall_writes_sub_of_map rfl) r h

theorem put3_keep (h : r ∉ [main_while0b_call3_v0, main_while0b_call3_c, main_while0b_v14] := by decide) : after (putOps (.of main_v3_5) (.of main_v3_3) (.of main_v3_2) main_while0b_call3) V (dr r) = V (dr r) :=
  keep _ V _ (forall_writes_sub_of_map rfl) r h

theorem endF_keep (h : r ∉ [main_while0b_c_12, main_while0b_v15, main_v3_2, main_v3_3, main_v3_4, main_v3_5] := by decide) : after endF V (dr r) = V (dr r) :=
  keep _ V _ (forall_writes_sub_of_map rfl) r h

theorem indexB_keep (h : r ∉ [main_while1b_c_13, main_while1b_v9, main_while1b_c_14, main_while1b_v10] := by decide) : after indexB V (dr r) = V (dr r) :=
  keep _ V _ (forall_writes_sub_of_map rfl) r h

theorem row4_keep (h : r ∉ [main_while1b_call4_c, main_while1b_call4_v0, main_while1b_v11] := by decide) : after (rowOps (.of main_v8_0) (.of main_while1b_v10) main_while1b_call4) V (dr r) = V (dr r) :=
  keep _ V _ (forall_writes_sub_of_map rfl) r h

theorem row5_keep (h : r ∉ [main_while1b_call5_c, main_while1b_call5_v0, main_while1b_v12] := by decide) : after (rowOps' (.of main_v8_1) (.of main_while1b_v10) main_while1b_call5) V (dr r) = V (dr r) :=
  keep _ V _ (forall_writes_sub_of_map rfl) r h

theorem row6_keep (h : r ∉ [main_while1b_call6_c, main_while1b_call6_v0, main_while1b_v13] := by decide) : after (rowOps (.of main_v8_2) (.of main_while1b_v10) main_while1b_call6) V (dr r) = V (dr r) :=
  keep _ V _ (forall_writes_sub_of_map rfl) r h

theorem stepB_keep (h : r ∉ [main_while1b_v14, main_while1b_v15, main_while1b_v16] := by decide) : after stepB V (dr r) = V (dr r) :=
  keep _ V _ (forall_writes_sub_of_map rfl) r h

theorem put7_keep (h : r ∉ [main_while1b_call7_v0, main_while1b_call7_c, main_while1b_v17] := by decide) : after (putOps (.of main_v8_5) (.of main_while1b_v16) (.of main_while1b_v10) main_while1b_call7) V (dr r) = V (dr r) :=
  keep _ V _ (forall_writes_sub_of_map rfl) r h

theorem put8_keep (h : r ∉ [main_while1b_call8_v0, main_while1b_call8_c, main_while1b_v18] := by decide) : after (putOps (.of main_v8_6) (.of main_while1b_v14) (.of main_while1b_v10) main_while1b_call8) V (dr r) = V (dr r) :=
  keep _ V _ (forall_writes_sub_of_map rfl) r h

theorem endB_keep (h : r ∉ [main_while1b_c_15, main_while1b_v19, main_v8_3, main_v8_4, main_v8_5, main_v8_6] := by decide) : after endB V (dr r) = V (dr r) :=
  keep _ V _ (forall_writes_sub_of_map rfl) r h

theorem preOps_keep (h : r ∉ [main_cst, main_v0, main_cst_0, main_v1, main_cst_1, main_v2, main_c, main_v3_0, main_v3_1, main_v3_2, main_v3_3, main_v3_4, main_v3_5] := by decide) : after preOps V (dr r) = V (dr r) :=
  keep _ V _ (forall_writes_sub_of_map rfl) r h

theorem midOps_keep (h : r ∉ [main_cst_2, main_v4, main_cst_3, main_v5, main_cst_4, main_v6, main_cst_5, main_v7, main_c_6, main_v8_0, main_v8_1, main_v8_2, main_v8_3, main_v8_4, main_v8_5, main_v8_6] := by decide) : after midOps V (dr r) = V (dr r) :=
  keep _ V _ (forall_writes_sub_of_map rfl) r h

theorem row0_val : after (rowOps (.of main_v3_0) (.of main_v3_2) main_while0b_call0) V (dr main_while0b_v9) = rowAt (V (dr main_v3_0)) (V (dr main_v3_2)) := by
  after_results_entrywise [cast_eq]

theorem row1_val : after (rowOps (.of main_v3_1) (.of main_v3_2) main_while0b_call1) V (dr main_while0b_v10) = rowAt (V (dr main_v3_1)) (V (dr main_v3_2)) := by
  after_results_entrywise [cast_eq]

theorem row4_val : after (rowOps (.of main_v8_0) (.of main_while1b_v10) main_while1b_call4) V (dr main_while1b_v11) = rowAt (V (dr main_v8_0)) (V (dr main_while1b_v10)) := by
  after_results_entrywise [cast_eq]

theorem row5_val : after (rowOps' (.of main_v8_1) (.of main_while1b_v10) main_while1b_call5) V (dr main_while1b_v12) = rowAt (V (dr main_v8_1)) (V (dr main_while1b_v10)) := by
  after_results_entrywise [cast_eq]

theorem row6_val : after (rowOps (.of main_v8_2) (.of main_while1b_v10) main_while1b_call6) V (dr main_while1b_v13) = rowAt (V (dr main_v8_2)) (V (dr main_while1b_v10)) := by
  after_results_entrywise [cast_eq]

theorem put3_val : after (putOps (.of main_v3_5) (.of main_v3_3) (.of main_v3_2) main_while0b_call3) V (dr main_while0b_v14) = putAt (V (dr main_v3_5)) (V (dr main_v3_3)) (V (dr main_v3_2)) := by
  after_results_entrywise [cast_eq]

theorem put7_val : after (putOps (.of main_v8_5) (.of main_while1b_v16) (.of main_while1b_v10) main_while1b_call7) V (dr main_while1b_v17) = putAt (V (dr main_v8_5)) (V (dr main_while1b_v16)) (V (dr main_while1b_v10)) := by
  after_results_entrywise [cast_eq]

theorem put8_val : after (putOps (.of main_v8_6) (.of main_while1b_v14) (.of main_while1b_v10) main_while1b_call8) V (dr main_while1b_v18) = putAt (V (dr main_v8_6)) (V (dr main_while1b_v14)) (V (dr main_while1b_v10)) := by
  after_results_entrywise [cast_eq]

theorem stepF_val : after stepF V (dr main_while0b_v12) = addf (mulf (V (dr main_while0b_v9)) (V (dr main_v3_3))) (V (dr main_while0b_v10)) := by
  after_results_entrywise [cast_eq]

theorem endF_state : after endF V (dr main_v3_3) = V (dr main_while0b_v12) := by
  after_results_entrywise [cast_eq]

theorem endF_saved : after endF V (dr main_v3_5) = V (dr main_while0b_v14) := by
  after_results_entrywise [cast_eq]

theorem indexB_val : after indexB V (dr main_while1b_v10) = subi (subi (constantI S_ 32 4096#32) (V (dr main_v8_3))) (constantI S_ 32 1#32) := by
  after_results_entrywise [cast_eq]

theorem stepB_cot : after stepB V (dr main_while1b_v14) = addf (V (dr main_v8_4)) (V (dr main_while1b_v11)) := by
  after_results_entrywise [cast_eq]

theorem stepB_state : after stepB V (dr main_while1b_v15) = mulf (V (dr main_while1b_v13)) (addf (V (dr main_v8_4)) (V (dr main_while1b_v11))) := by
  after_results_entrywise [cast_eq]

theorem stepB_decay : after stepB V (dr main_while1b_v16) = mulf (addf (V (dr main_v8_4)) (V (dr main_while1b_v11))) (V (dr main_while1b_v12)) := by
  after_results_entrywise [cast_eq]

theorem endB_state : after endB V (dr main_v8_4) = V (dr main_while1b_v15) := by
  after_results_entrywise [cast_eq]

theorem endB_decay : after endB V (dr main_v8_5) = V (dr main_while1b_v17) := by
  after_results_entrywise [cast_eq]

theorem endB_input : after endB V (dr main_v8_6) = V (dr main_while1b_v18) := by
  after_results_entrywise [cast_eq]

theorem pre_0 : after preOps V (dr main_v3_0) = V (dr main_arg0) := by
  after_results_entrywise [cast_eq]

theorem pre_1 : after preOps V (dr main_v3_1) = V (dr main_arg1) := by
  after_results_entrywise [cast_eq]

theorem pre_state : after preOps V (dr main_v3_3) = broadcastInDim S1024 ![] bcast_S_S1024 (constant (F := F) S_ .f32 0x00000000#32) := by
  after_results_entrywise [cast_eq]

theorem pre_saved : after preOps V (dr main_v3_5) = broadcastInDim S4096x1024 ![] bcast_S_S4096x1024 (constant (F := F) S_ .f32 0x00000000#32) := by
  after_results_entrywise [cast_eq]

theorem mid_0 : after midOps V (dr main_v8_0) = V (dr main_arg2) := by
  after_results_entrywise [cast_eq]

theorem mid_1 : after midOps V (dr main_v8_1) = V (dr main_v3_5) := by
  after_results_entrywise [cast_eq]

theorem mid_2 : after midOps V (dr main_v8_2) = V (dr main_arg0) := by
  after_results_entrywise [cast_eq]

theorem mid_state : after midOps V (dr main_v8_4) = broadcastInDim S1024 ![] bcast_S_S1024 (constant (F := F) S_ .f32 0x00000000#32) := by
  after_results_entrywise [cast_eq]

theorem mid_decay : after midOps V (dr main_v8_5) = broadcastInDim S4096x1024 ![] bcast_S_S4096x1024 (constant (F := F) S_ .f32 0x00000000#32) := by
  after_results_entrywise [cast_eq]

theorem mid_input : after midOps V (dr main_v8_6) = broadcastInDim S4096x1024 ![] bcast_S_S4096x1024 (constant (F := F) S_ .f32 0x00000000#32) := by
  after_results_entrywise [cast_eq]

end Stretches

/-! ## One trip of each loop from any contents -/

section Trips

variable (X : Valuation τ sig (Elt F)) (r : Ref sig .tc)

theorem tripF_keep0 : afterL bodyF (after testF X) (dr main_v3_0) = X (dr main_v3_0) := by
  simp only [afterL_cons, afterL_nil]
  rw [endF_keep _ _, put3_keep _ _, put2_keep _ _, stepF_keep _ _, row1_keep _ _, row0_keep _ _, testF_keep _ _]

theorem tripF_keep1 : afterL bodyF (after testF X) (dr main_v3_1) = X (dr main_v3_1) := by
  simp only [afterL_cons, afterL_nil]
  rw [endF_keep _ _, put3_keep _ _, put2_keep _ _, stepF_keep _ _, row1_keep _ _, row0_keep _ _, testF_keep _ _]

theorem tripF_arg0 : afterL bodyF (after testF X) (dr main_arg0) = X (dr main_arg0) := by
  simp only [afterL_cons, afterL_nil]
  rw [endF_keep _ _, put3_keep _ _, put2_keep _ _, stepF_keep _ _, row1_keep _ _, row0_keep _ _, testF_keep _ _]

theorem tripF_arg1 : afterL bodyF (after testF X) (dr main_arg1) = X (dr main_arg1) := by
  simp only [afterL_cons, afterL_nil]
  rw [endF_keep _ _, put3_keep _ _, put2_keep _ _, stepF_keep _ _, row1_keep _ _, row0_keep _ _, testF_keep _ _]

theorem tripF_arg2 : afterL bodyF (after testF X) (dr main_arg2) = X (dr main_arg2) := by
  simp only [afterL_cons, afterL_nil]
  rw [endF_keep _ _, put3_keep _ _, put2_keep _ _, stepF_keep _ _, row1_keep _ _, row0_keep _ _, testF_keep _ _]

theorem tripB_keep0 : afterL bodyB (after testB X) (dr main_v8_0) = X (dr main_v8_0) := by
  simp only [afterL_cons, afterL_nil]
  rw [endB_keep _ _, put8_keep _ _, put7_keep _ _, stepB_keep _ _, row6_keep _ _, row5_keep _ _, row4_keep _ _, indexB_keep _ _, testB_keep _ _]

theorem tripB_keep1 : afterL bodyB (after testB X) (dr main_v8_1) = X (dr main_v8_1) := by
  simp only [afterL_cons, afterL_nil]
  rw [endB_keep _ _, put8_keep _ _, put7_keep _ _, stepB_keep _ _, row6_keep _ _, row5_keep _ _, row4_keep _ _, indexB_keep _ _, testB_keep _ _]

theorem tripB_keep2 : afterL bodyB (after testB X) (dr main_v8_2) = X (dr main_v8_2) := by
  simp only [afterL_cons, afterL_nil]
  rw [endB_keep _ _, put8_keep _ _, put7_keep _ _, stepB_keep _ _, row6_keep _ _, row5_keep _ _, row4_keep _ _, indexB_keep _ _, testB_keep _ _]

theorem tripB_arg0 : afterL bodyB (after testB X) (dr main_arg0) = X (dr main_arg0) := by
  simp only [afterL_cons, afterL_nil]
  rw [endB_keep _ _, put8_keep _ _, put7_keep _ _, stepB_keep _ _, row6_keep _ _, row5_keep _ _, row4_keep _ _, indexB_keep _ _, testB_keep _ _]

theorem tripB_arg1 : afterL bodyB (after testB X) (dr main_arg1) = X (dr main_arg1) := by
  simp only [afterL_cons, afterL_nil]
  rw [endB_keep _ _, put8_keep _ _, put7_keep _ _, stepB_keep _ _, row6_keep _ _, row5_keep _ _, row4_keep _ _, indexB_keep _ _, testB_keep _ _]

theorem tripB_arg2 : afterL bodyB (after testB X) (dr main_arg2) = X (dr main_arg2) := by
  simp only [afterL_cons, afterL_nil]
  rw [endB_keep _ _, put8_keep _ _, put7_keep _ _, stepB_keep _ _, row6_keep _ _, row5_keep _ _, row4_keep _ _, indexB_keep _ _, testB_keep _ _]

/-- The state after a trip of the first loop. -/
theorem tripF_state : afterL bodyF (after testF X) (dr main_v3_3) =
    addf (mulf (rowAt (X (dr main_v3_0)) (X (dr main_v3_2))) (X (dr main_v3_3))) (rowAt (X (dr main_v3_1)) (X (dr main_v3_2))) := by
  simp only [afterL_cons, afterL_nil]
  rw [endF_state, put3_keep _ _, put2_keep _ _, stepF_val, row1_val, row1_keep _ main_while0b_v9, row0_val,
    row1_keep _ main_v3_3, row0_keep _ main_v3_3, row0_keep _ main_v3_1, row0_keep _ main_v3_2,
    testF_keep _ main_v3_0, testF_keep _ main_v3_1, testF_keep _ main_v3_2, testF_keep _ main_v3_3]

/-- The saved states after a trip of the first loop: the state before the trip is put in. -/
theorem tripF_saved : afterL bodyF (after testF X) (dr main_v3_5) = putAt (X (dr main_v3_5)) (X (dr main_v3_3)) (X (dr main_v3_2)) := by
  simp only [afterL_cons, afterL_nil]
  rw [endF_saved, put3_val]
  rw [put2_keep _ main_v3_5, stepF_keep _ main_v3_5, row1_keep _ main_v3_5, row0_keep _ main_v3_5, testF_keep _ main_v3_5]
  rw [put2_keep _ main_v3_3, stepF_keep _ main_v3_3, row1_keep _ main_v3_3, row0_keep _ main_v3_3, testF_keep _ main_v3_3]
  rw [put2_keep _ main_v3_2, stepF_keep _ main_v3_2, row1_keep _ main_v3_2, row0_keep _ main_v3_2, testF_keep _ main_v3_2]

/-- The row the second loop works on when its counter is `i`. -/
def rowNo (i : S_.Idx → BitVec 32) : S_.Idx → BitVec 32 := subi (subi (constantI S_ 32 4096#32) i) (constantI S_ 32 1#32)

/-- The cotangent of the state in a trip of the second loop: what was carried plus the row of the cotangent. -/
def cot : FVec F S1024 .f32 := addf (X (dr main_v8_4)) (rowAt (X (dr main_v8_0)) (rowNo (X (dr main_v8_3))))

/-- The contents the second loop's arithmetic starts from. -/
abbrev midB : Valuation τ sig (Elt F) :=
  after (rowOps (.of main_v8_2) (.of main_while1b_v10) main_while1b_call6) (after (rowOps' (.of main_v8_1) (.of main_while1b_v10) main_while1b_call5) (after (rowOps (.of main_v8_0) (.of main_while1b_v10) main_while1b_call4) (after indexB (after testB X))))

theorem midB_row : midB X (dr main_while1b_v10) = rowNo (X (dr main_v8_3)) := by
  unfold midB
  rw [row6_keep _ _, row5_keep _ _, row4_keep _ _, indexB_val, testB_keep _ _]; rfl
theorem midB_11 : midB X (dr main_while1b_v11) = rowAt (X (dr main_v8_0)) (rowNo (X (dr main_v8_3))) := by
  unfold midB
  rw [row6_keep _ _, row5_keep _ _, row4_val, indexB_val, indexB_keep _ _, testB_keep _ main_v8_3, testB_keep _ _]; rfl
theorem midB_12 : midB X (dr main_while1b_v12) = rowAt (X (dr main_v8_1)) (rowNo (X (dr main_v8_3))) := by
  unfold midB
  rw [row6_keep _ _, row5_val, row4_keep _ main_while1b_v10, row4_keep _ main_v8_1, indexB_val, indexB_keep _ _,
    testB_keep _ main_v8_3, testB_keep _ _]; rfl
theorem midB_13 : midB X (dr main_while1b_v13) = rowAt (X (dr main_v8_2)) (rowNo (X (dr main_v8_3))) := by
  unfold midB
  rw [row6_val, row5_keep _ main_while1b_v10, row4_keep _ main_while1b_v10, row5_keep _ main_v8_2,
    row4_keep _ main_v8_2, indexB_val, indexB_keep _ _, testB_keep _ main_v8_3, testB_keep _ _]; rfl
theorem midB_keep (h : r ∉ [main_while1b_v9, main_while1b_v10, main_while1b_v11, main_while1b_v12, main_while1b_v13, main_while1b_c_13, main_while1b_c_14,
    main_while1b_call4_c, main_while1b_call4_v0, main_while1b_call5_c, main_while1b_call5_v0, main_while1b_call6_c, main_while1b_call6_v0,
    main_while1c_c_13, main_while1c_v9] := by decide) : midB X (dr r) = X (dr r) := by
  simp only [List.mem_cons, List.not_mem_nil, or_false, not_or] at h
  unfold midB
  rw [row6_keep _ _ (by simp [h]), row5_keep _ _ (by simp [h]), row4_keep _ _ (by simp [h]), indexB_keep _ _ (by simp [h]), testB_keep _ _ (by simp [h])]

theorem tripB_state : afterL bodyB (after testB X) (dr main_v8_4) = mulf (rowAt (X (dr main_v8_2)) (rowNo (X (dr main_v8_3)))) (cot X) := by
  show after endB (after (putOps (.of main_v8_6) (.of main_while1b_v14) (.of main_while1b_v10) main_while1b_call8) (after (putOps (.of main_v8_5) (.of main_while1b_v16) (.of main_while1b_v10) main_while1b_call7) (after stepB (midB X)))) (dr main_v8_4) = _
  rw [endB_state, put8_keep _ _, put7_keep _ _, stepB_state, midB_11, midB_13, midB_keep _ _]
  rfl
theorem tripB_decay : afterL bodyB (after testB X) (dr main_v8_5) =
    putAt (X (dr main_v8_5)) (mulf (cot X) (rowAt (X (dr main_v8_1)) (rowNo (X (dr main_v8_3))))) (rowNo (X (dr main_v8_3))) := by
  show after endB (after (putOps (.of main_v8_6) (.of main_while1b_v14) (.of main_while1b_v10) main_while1b_call8) (after (putOps (.of main_v8_5) (.of main_while1b_v16) (.of main_while1b_v10) main_while1b_call7) (after stepB (midB X)))) (dr main_v8_5) = _
  rw [endB_decay, put8_keep _ _, put7_val, stepB_decay, stepB_keep _ main_v8_5, stepB_keep _ main_while1b_v10, midB_11, midB_12, midB_row,
    midB_keep _ main_v8_5, midB_keep _ main_v8_4]
  rfl
theorem tripB_input : afterL bodyB (after testB X) (dr main_v8_6) = putAt (X (dr main_v8_6)) (cot X) (rowNo (X (dr main_v8_3))) := by
  show after endB (after (putOps (.of main_v8_6) (.of main_while1b_v14) (.of main_while1b_v10) main_while1b_call8) (after (putOps (.of main_v8_5) (.of main_while1b_v16) (.of main_while1b_v10) main_while1b_call7) (after stepB (midB X)))) (dr main_v8_6) = _
  rw [endB_input, put8_val, put7_keep _ main_v8_6, put7_keep _ main_while1b_v14, put7_keep _ main_while1b_v10, stepB_cot,
    stepB_keep _ main_v8_6, stepB_keep _ main_while1b_v10, midB_11, midB_row, midB_keep _ main_v8_6, midB_keep _ main_v8_4]
  rfl

end Trips

/-! ## Rows of a table -/

/-- A row index below 4096 as a word, read back as an integer. -/
theorem toInt_row (t : ℕ) (ht : t < 4096) : (BitVec.ofNat 32 t).toInt = (t : ℤ) := by
  rw [BitVec.toInt_eq_toNat_of_lt (by rw [BitVec.toNat_ofNat]; omega), BitVec.toNat_ofNat]
  norm_cast
  omega

/-- The word the second loop's counter gives as a row number. -/
theorem rowNo_iv (k : ℕ) (hk : k < 4096) : rowNo (fun _ => Scf.iv 0#32 1#32 k) = fun _ => BitVec.ofNat 32 (4095 - k) := by
  funext y
  show 4096#32 - Scf.iv 0#32 1#32 k - 1#32 = _
  simp only [Scf.iv, BitVec.mul_one, BitVec.zero_add]
  apply BitVec.eq_of_toNat_eq
  simp only [BitVec.toNat_sub, BitVec.toNat_ofNat]
  omega

/-- Row `t` of a table, at column `j`. -/
theorem rowAt_apply (x : FVec Ideal S4096x1024 .f32) (w : S_.Idx → BitVec 32) (t : ℕ) (hw : w = fun _ => BitVec.ofNat 32 t) (ht : t < 4096) (f : ℕ → ℕ → ℝ)
    (hx : ∀ y, x y = ((f (y 1).val (y 0).val : ℝ) : EReal)) (j : S1024.Idx) :
    rowAt x w j = ((f (j 0).val t : ℝ) : EReal) := by
  subst hw
  have e : ∀ a, Host.clampedStart S4096x1024 S1x1024 sliceFits_S4096x1024_S1x1024.1
      (fun k => ((![fun _ => BitVec.ofNat 32 t, constantI S_ 32 0#32] : Fin 2 → S_.Idx → BitVec 32) k (Shape.Idx.first h_S_)).toInt) a = (![t, 0] : Fin 2 → ℕ) a := by
    intro a
    fin_cases a
    · exact Host.clampedStart_of_le _ _ _ _ (toInt_row t ht) (show t + 1 ≤ 4096 by omega)
    · exact Host.clampedStart_of_le _ _ _ _ rfl (show 0 + 1024 ≤ 1024 by omega)
  obtain ⟨i, rfl⟩ : ∃ i : Fin 1024, j = ix1 i := ⟨j 0, eq_ix1 j⟩
  refine (ValueIdx.shapeCast_1a_a_apply _ _ i).trans ((Host.dynamicSlice_apply _ _ _ _).trans ((hx _).trans ?_))
  congr 2
  · exact (congrArg (· + i.val) (e 1)).trans (Nat.zero_add _)
  · exact congrArg (· + 0) (e 0)

/-- A table with row `t` replaced, at an index. -/
theorem putAt_apply (x : FVec Ideal S4096x1024 .f32) (v : FVec Ideal S1024 .f32) (w : S_.Idx → BitVec 32) (t : ℕ) (hw : w = fun _ => BitVec.ofNat 32 t) (ht : t < 4096) (y : S4096x1024.Idx) :
    putAt x v w y = if (y 0).val = t then v (ix1 (y 1)) else x y := by
  subst hw
  have e : ∀ a, Host.clampedStart S4096x1024 S1x1024 updateFits_S4096x1024_S1x1024.1
      (fun k => ((![fun _ => BitVec.ofNat 32 t, constantI S_ 32 0#32] : Fin 2 → S_.Idx → BitVec 32) k (Shape.Idx.first h_S_)).toInt) a = (![t, 0] : Fin 2 → ℕ) a := by
    intro a
    fin_cases a
    · exact Host.clampedStart_of_le _ _ _ _ (toInt_row t ht) (show t + 1 ≤ 4096 by omega)
    · exact Host.clampedStart_of_le _ _ _ _ rfl (show 0 + 1024 ≤ 1024 by omega)
  unfold putAt
  rw [Host.dynamicUpdateSlice_apply]
  simp only [e]
  by_cases h : (y 0).val = t
  · rw [if_pos h, dif_pos]
    · pointwise
    · intro a
      fin_cases a
      · exact ⟨by simp [h], by simp [h]⟩
      · exact ⟨by simp, by simp; exact (y 1).isLt⟩
  · rw [if_neg h, dif_neg]
    intro hc
    have := hc 0
    simp at this
    omega

/-! ## The loops' states -/

section States

variable (m : (ℓ : Loc nD τ sig) → Buf (Elt Ideal) ℓ) (c : Dev nD) (A B G : ℕ → ℕ → ℝ)

/-- The argument arrays hold real tables, column first. -/
structure Tables : Prop where
  a : ∀ y : S4096x1024.Idx, launchContents m c (dr main_arg0) y = ((A (y 1).val (y 0).val : ℝ) : EReal)
  b : ∀ y : S4096x1024.Idx, launchContents m c (dr main_arg1) y = ((B (y 1).val (y 0).val : ℝ) : EReal)
  g : ∀ y : S4096x1024.Idx, launchContents m c (dr main_arg2) y = ((G (y 1).val (y 0).val : ℝ) : EReal)
  end_row : ∀ l, A l 4096 = 0

/-- The zero a broadcast constant holds. -/
theorem zero_row (j : S1024.Idx) :
    broadcastInDim S1024 ![] bcast_S_S1024 (constant (F := Ideal) S_ .f32 0x00000000#32) j = ((0 : ℝ) : EReal) := by
  pointwise
  norm_cast

/-- The state of the forward recurrence after `n` steps, in column `l`. -/
def hid (l n : ℕ) : ℝ := lin (A l) (B l) 0 n

/-- Before the `k`-th trip the first loop carries the state after `k` steps, and has saved the states before steps `0 … k-1`. -/
theorem stateF (h : Tables m c A B G) : ∀ k ≤ 4096,
    atTrip testF bodyF (atF m) k c (dr main_v3_0) = launchContents m c (dr main_arg0)
    ∧ atTrip testF bodyF (atF m) k c (dr main_v3_1) = launchContents m c (dr main_arg1)
    ∧ (∀ j : S1024.Idx, atTrip testF bodyF (atF m) k c (dr main_v3_3) j = ((hid A B (j 0).val k : ℝ) : EReal))
    ∧ (∀ y : S4096x1024.Idx, (y 0).val < k → atTrip testF bodyF (atF m) k c (dr main_v3_5) y = ((hid A B (y 1).val (y 0).val : ℝ) : EReal)) := by
  intro k
  induction k with
  | zero =>
    intro _
    refine ⟨pre_0 _, pre_1 _, fun j => ?_, fun y hy => absurd hy (Nat.not_lt_zero _)⟩
    exact (congrFun (pre_state _) j).trans (zero_row j)
  | succ k ih =>
    intro hk
    obtain ⟨i0, i1, i3, i5⟩ := ih (by omega)
    have hc : atTrip testF bodyF (atF m) k c (dr main_v3_2) = fun _ => BitVec.ofNat 32 k :=
      (counterF (atF m) (atF_counter m) c k).trans (by funext _; simp only [Scf.iv, BitVec.mul_one, BitVec.zero_add])
    rw [atTrip_succ]
    refine ⟨(tripF_keep0 _).trans i0, (tripF_keep1 _).trans i1, fun j => ?_, fun y hy => ?_⟩
    · refine (congrFun (tripF_state _) j).trans ((congrArg₂ (· + ·) (congrArg₂ (· * ·)
        (rowAt_apply _ _ k hc (by omega) A (fun y => (congrFun i0 y).trans (h.a y)) j) (i3 j))
        (rowAt_apply _ _ k hc (by omega) B (fun y => (congrFun i1 y).trans (h.b y)) j)).trans ?_)
      show (_ : EReal) = ((A (j 0).val k * hid A B (j 0).val k + B (j 0).val k : ℝ) : EReal)
      norm_cast
    · refine ((congrFun (tripF_saved _) y).trans (putAt_apply _ _ _ k hc (by omega) y)).trans ?_
      split
      · rename_i e
        rw [i3, e]
        rfl
      · exact i5 y (by omega)

/-- Neither loop, nor anything around them, touches an argument array. -/
theorem argsF (r : Ref sig .tc) (hr : r = main_arg0 ∨ r = main_arg1 ∨ r = main_arg2) (k : ℕ) :
    atTrip testF bodyF (atF m) k c (dr r) = launchContents m c (dr r) := by
  induction k with
  | zero => rcases hr with rfl | rfl | rfl <;> exact preOps_keep _ _
  | succ k ih =>
    rw [atTrip_succ]
    rcases hr with rfl | rfl | rfl
    exacts [(tripF_arg0 _).trans ih, (tripF_arg1 _).trans ih, (tripF_arg2 _).trans ih]

theorem args_outF (r : Ref sig .tc) (hr : r = main_arg0 ∨ r = main_arg1 ∨ r = main_arg2) :
    outF m c (dr r) = launchContents m c (dr r) := by
  refine Eq.trans ?_ (argsF m c r hr 4096)
  rcases hr with rfl | rfl | rfl <;> exact testF_keep _ _

theorem args_outB (r : Ref sig .tc) (hr : r = main_arg0 ∨ r = main_arg1 ∨ r = main_arg2) :
    outB m c (dr r) = launchContents m c (dr r) := by
  have hk : ∀ k, atTrip testB bodyB (atB m) k c (dr r) = launchContents m c (dr r) := by
    intro k
    induction k with
    | zero =>
      refine Eq.trans ?_ (args_outF m c r hr)
      rcases hr with rfl | rfl | rfl <;> exact midOps_keep _ _
    | succ k ih =>
      rw [atTrip_succ]
      rcases hr with rfl | rfl | rfl
      exacts [(tripB_arg0 _).trans ih, (tripB_arg1 _).trans ih, (tripB_arg2 _).trans ih]
  refine Eq.trans ?_ (hk 4096)
  rcases hr with rfl | rfl | rfl <;> exact testB_keep _ _

/-- Where the second loop starts: the cotangent, the saved states and the decays as tables. -/
theorem atB_tables (h : Tables m c A B G) :
    (∀ y : S4096x1024.Idx, atB m c (dr main_v8_0) y = ((G (y 1).val (y 0).val : ℝ) : EReal))
    ∧ (∀ y : S4096x1024.Idx, atB m c (dr main_v8_1) y = ((hid A B (y 1).val (y 0).val : ℝ) : EReal))
    ∧ (∀ y : S4096x1024.Idx, atB m c (dr main_v8_2) y = ((A (y 1).val (y 0).val : ℝ) : EReal)) := by
  refine ⟨fun y => ?_, fun y => ?_, fun y => ?_⟩
  · exact (congrFun ((mid_0 _).trans (args_outF m c main_arg2 (by simp))) y).trans (h.g y)
  · exact (congrFun ((mid_1 _).trans (testF_keep _ _)) y).trans ((stateF m c A B G h 4096 le_rfl).2.2.2 y (y 0).isLt)
  · exact (congrFun ((mid_2 _).trans (args_outF m c main_arg0 (by simp))) y).trans (h.a y)

/-- Before the `k`-th trip the second loop carries the decayed cotangent of the last `k` rows, and has written their gradients. -/
theorem stateB (h : Tables m c A B G) : ∀ k ≤ 4096,
    (atTrip testB bodyB (atB m) k c (dr main_v8_0) = atB m c (dr main_v8_0)
    ∧ atTrip testB bodyB (atB m) k c (dr main_v8_1) = atB m c (dr main_v8_1)
    ∧ atTrip testB bodyB (atB m) k c (dr main_v8_2) = atB m c (dr main_v8_2))
    ∧ (∀ j : S1024.Idx, atTrip testB bodyB (atB m) k c (dr main_v8_4) j
        = ((A (j 0).val (4096 - k) * rev (A (j 0).val) (G (j 0).val) k : ℝ) : EReal))
    ∧ (∀ y : S4096x1024.Idx, 4096 - k ≤ (y 0).val → atTrip testB bodyB (atB m) k c (dr main_v8_5) y
        = ((rev (A (y 1).val) (G (y 1).val) (4096 - (y 0).val) * hid A B (y 1).val (y 0).val : ℝ) : EReal))
    ∧ (∀ y : S4096x1024.Idx, 4096 - k ≤ (y 0).val → atTrip testB bodyB (atB m) k c (dr main_v8_6) y
        = ((rev (A (y 1).val) (G (y 1).val) (4096 - (y 0).val) : ℝ) : EReal)) := by
  obtain ⟨t0, t1, t2⟩ := atB_tables m c A B G h
  intro k
  induction k with
  | zero =>
    intro _
    refine ⟨⟨rfl, rfl, rfl⟩, fun j => ?_, fun y hy => absurd (y 0).isLt (by show ¬ (y 0).val < 4096; omega), fun y hy => absurd (y 0).isLt (by show ¬ (y 0).val < 4096; omega)⟩
    rw [show (4096 - 0 : ℕ) = 4096 from rfl, h.end_row, zero_mul]
    exact (congrFun (mid_state _) j).trans (zero_row j)
  | succ k ih =>
    intro hk
    obtain ⟨⟨i0, i1, i2⟩, i4, i5, i6⟩ := ih (by omega)
    have hc : rowNo (atTrip testB bodyB (atB m) k c (dr main_v8_3)) = fun _ => BitVec.ofNat 32 (4095 - k) := by
      rw [counterB (atB m) (atB_counter m) c k]
      exact rowNo_iv k (by omega)
    have hcot : ∀ j : S1024.Idx, cot (atTrip testB bodyB (atB m) k c) j = ((rev (A (j 0).val) (G (j 0).val) (k + 1) : ℝ) : EReal) := by
      intro j
      refine (congrArg₂ (fun u v : EReal => u + v) (i4 j) (rowAt_apply _ _ (4095 - k) hc (by omega) G (fun y => (congrFun i0 y).trans (t0 y)) j)).trans ?_
      beta_reduce
      show (_ : EReal) = ((A (j 0).val (4096 - k) * rev (A (j 0).val) (G (j 0).val) k + G (j 0).val (4095 - k) : ℝ) : EReal)
      norm_cast
    rw [atTrip_succ]
    refine ⟨⟨(tripB_keep0 _).trans i0, (tripB_keep1 _).trans i1, (tripB_keep2 _).trans i2⟩, fun j => ?_, fun y hy => ?_, fun y hy => ?_⟩
    · refine (congrFun (tripB_state _) j).trans ((congrArg₂ (· * ·)
        (rowAt_apply _ _ (4095 - k) hc (by omega) A (fun y => (congrFun i2 y).trans (t2 y)) j) (hcot j)).trans ?_)
      rw [show 4096 - (k + 1) = 4095 - k by omega]
      norm_cast
    · refine ((congrFun (tripB_decay _) y).trans (putAt_apply _ _ _ (4095 - k) hc (by omega) y)).trans ?_
      split
      · rename_i e
        refine (congrArg₂ (· * ·) (hcot _)
          (rowAt_apply _ _ (4095 - k) hc (by omega) (hid A B) (fun y => (congrFun i1 y).trans (t1 y)) _)).trans ?_
        rw [show 4096 - (y 0).val = k + 1 by omega, e]
        norm_cast
      · exact i5 y (by omega)
    · refine ((congrFun (tripB_input _) y).trans (putAt_apply _ _ _ (4095 - k) hc (by omega) y)).trans ?_
      split
      · rename_i e
        rw [hcot, show 4096 - (y 0).val = k + 1 by omega]
        rfl
      · exact i6 y (by omega)

/-- The reference's second result: the gradient of the input. -/
theorem ref_input (h : Tables m c A B G) : outB m c (dr main_v8_6) = inputGrad A G := by
  refine (testB_keep _ _).trans (funext fun y => ?_)
  exact (stateB m c A B G h 4096 le_rfl).2.2.2 y (by omega)

/-- The reference's first result: the gradient of the decay. -/
theorem ref_decay (h : Tables m c A B G) : outB m c (dr main_v8_5) = decayGrad A G (hid A B) := by
  refine (testB_keep _ _).trans (funext fun y => ?_)
  exact (stateB m c A B G h 4096 le_rfl).2.2.1 y (by omega)

end States

end Cert.Scan.Ref

end
-- ==== Proof.Finite.lean ====
/- The precondition: every entry of the three arguments is finite, so each argument is a table of reals. -/
module

public import proofs.«01_k».proof.Pre_finite
public import Idealize.ShloMosaic.Lib.ReduceAll
public import Idealize.ShloMosaic.Lib.Pointwise

@[expose] public section

set_option maxRecDepth 16384

noncomputable section

namespace Cert.Scan

open Idealize.ShloMosaic Cert.Pre_finite

/-- The side conditions the precondition states. -/
theorem preFacts : Cert.Pre_finite.Facts where
  bcast_S_S4096x1024 := by decide
  reducesTo_S4096x1024_S_d0_1 := by decide
  h_S_ := by decide

/-- A number below infinity in size is a real one. -/
theorem real_of_abs_lt (x : EReal) (h : Ideal.cmp .olt (max x (-x)) ⊤ = 1#1) : x = ((x.toReal : ℝ) : EReal) := by
  have h' : max x (-x) < ⊤ := (by
    by_contra hn
    simp [Ideal.cmp, hn] at h)
  induction x using EReal.rec with
  | bot => simp at h'
  | coe r => rfl
  | top => simp at h'

variable [Cert.Pre_finite.Facts]

/-- What the precondition says of one argument. -/
theorem real_of_all (x : FVec Ideal S4096x1024 .f32) (hs : S_.BroadcastsInDim S4096x1024 (![] : Fin 0 → Fin S4096x1024.rank))
    (hr : S4096x1024.ReducesTo [0, 1] S_) (hu : 0 < S_.numel) (j : S_.Idx)
    (h : Host.reduce IntOp.andi (cmpf .olt (Host.absf x) (broadcastInDim S4096x1024 ![] hs (constant S_ .f32 0x7F800000#32)))
      (constantI S_ 1 1#1) hr hu j = 1#1) (y : S4096x1024.Idx) : x y = (((x y : EReal).toReal : ℝ) : EReal) := by
  haveI : Subsingleton S_.Idx := ⟨fun a b => funext fun k => k.elim0⟩
  exact real_of_abs_lt _ (Host.reduce_andi_all _ _ hr hu j h y)

/-- The three arguments are tables of reals. -/
theorem real_args (a b g : FVec Ideal S4096x1024 .f32) (h : Cert.Pre_finite.fn a b g = fun _ => 1#1) (y : S4096x1024.Idx) :
    a y = (((a y : EReal).toReal : ℝ) : EReal) ∧ b y = (((b y : EReal).toReal : ℝ) : EReal) ∧ g y = (((g y : EReal).toReal : ℝ) : EReal) := by
  have h0 := congrFun h (Shape.Idx.first Facts.h_S_)
  dsimp only [fn] at h0
  obtain ⟨h1, h2⟩ := IntOp.andi_eq_one.mp h0
  obtain ⟨h3, h4⟩ := IntOp.andi_eq_one.mp h1
  exact ⟨real_of_all _ _ _ _ _ h3 y, real_of_all _ _ _ _ _ h4 y, real_of_all _ _ _ _ _ h2 y⟩

/-- The real table of an array, column first; 0 outside it. -/
def table (x : FVec Ideal S4096x1024 .f32) (l t : ℕ) : ℝ :=
  if h : t < 4096 ∧ l < 1024 then (x (ValueIdx.ix2 (n0 := 4096) (n1 := 1024) ⟨t, h.1⟩ ⟨l, h.2⟩) : EReal).toReal else 0

theorem table_apply (x : FVec Ideal S4096x1024 .f32) (y : S4096x1024.Idx) (h : x y = (((x y : EReal).toReal : ℝ) : EReal)) :
    x y = ((table x (y 1).val (y 0).val : ℝ) : EReal) := by
  have hy : (y 0).val < 4096 ∧ (y 1).val < 1024 := ⟨(y 0).isLt, (y 1).isLt⟩
  unfold table
  rw [dif_pos hy]
  exact h.trans (congrArg (fun z => (((x z : EReal).toReal : ℝ) : EReal)) (ValueIdx.eq_ix2 y))

theorem table_end (x : FVec Ideal S4096x1024 .f32) (l : ℕ) : table x l 4096 = 0 := dif_neg (by omega)

end Cert.Scan

end
-- ==== Proof.Equal.lean ====
/- The two programs side by side: the reference's frame, and the equation of the results. -/
module

public import proofs.«01_k».proof.Defs
public import proofs.«01_k».proof.Proof.KernelRun
public import proofs.«01_k».proof.Proof.RefValue
public import proofs.«01_k».proof.Proof.Finite

@[expose] public section

set_option maxRecDepth 16384

noncomputable section

namespace Cert.Scan

open Idealize.ShloMosaic Idealize.SL.Sem

/-- The reference runs, its arguments end as launched and every counter ends at zero. -/
theorem ref_frame : Cert.quiescent_ReferenceIdeal (hReferenceIdeal := ReferenceIdeal.Gen.facts) := fun m ρ _ =>
  (Ref.run (F := Ideal) m ρ).mono fun _ h => ⟨fun c =>
    ⟨(h.1 c _ (by decide)).trans (Ref.args_outB m c _ (by simp)), (h.1 c _ (by decide)).trans (Ref.args_outB m c _ (by simp)),
     (h.1 c _ (by decide)).trans (Ref.args_outB m c _ (by simp))⟩, h.2⟩

/-- On finite arguments the kernel program's two gradients are the reference's. -/
theorem equal : algebraic_KernelIdeal_ReferenceIdeal_pre_finite (hKernelIdeal := KernelIdeal.Gen.facts)
    (hReferenceIdeal := ReferenceIdeal.Gen.facts) (hPre_finite := preFacts) := fun m ρ m' ρ' hpre hagree => by
  letI := preFacts
  have hr := fun c => real_args _ _ _ (hpre c)
  let A := fun c : Dev KernelIdeal.nD => table (m ((c.tc : Thread KernelIdeal.nD KernelIdeal.τ).loc KernelIdeal.main_arg0))
  let B := fun c : Dev KernelIdeal.nD => table (m ((c.tc : Thread KernelIdeal.nD KernelIdeal.τ).loc KernelIdeal.main_arg1))
  let G := fun c : Dev KernelIdeal.nD => table (m ((c.tc : Thread KernelIdeal.nD KernelIdeal.τ).loc KernelIdeal.main_arg2))
  have ht : ∀ c, Ref.Tables m' c (A c) (B c) (G c) := fun c =>
    { a := fun y => (congrFun (hagree c).1 y).trans (table_apply _ y (hr c y).1)
      b := fun y => (congrFun (hagree c).2.1 y).trans (table_apply _ y (hr c y).2.1)
      g := fun y => (congrFun (hagree c).2.2 y).trans (table_apply _ y (hr c y).2.2)
      end_row := fun l => table_end _ l }
  refine ⟨fun c => decayGrad (A c) (G c) (Ref.hid (A c) (B c)), fun c => inputGrad (A c) (G c),
    (run m ρ).mono fun _ h c => ⟨(h c).1.trans ?_, (h c).2.1.trans ?_, (h c).2.2⟩,
    (Ref.run (F := Ideal) m' ρ').mono fun _ h c => ⟨(h.1 c _ (by decide)).trans (Ref.ref_decay m' c _ _ _ (ht c)),
      (h.1 c _ (by decide)).trans (Ref.ref_input m' c _ _ _ (ht c)),
      (h.1 c _ (by decide)).trans (Ref.args_outB m' c _ (by simp)), (h.1 c _ (by decide)).trans (Ref.args_outB m' c _ (by simp)),
      (h.1 c _ (by decide)).trans (Ref.args_outB m' c _ (by simp))⟩⟩
  · exact kernel_decay m ρ c (A c) (B c) (G c) (fun y => table_apply _ y (hr c y).1) (fun y => table_apply _ y (hr c y).2.1)
      (fun y => table_apply _ y (hr c y).2.2) (fun l => table_end _ l)
  · exact kernel_input m ρ c (A c) (B c) (G c) (fun y => table_apply _ y (hr c y).1) (fun y => table_apply _ y (hr c y).2.1)
      (fun y => table_apply _ y (hr c y).2.2) (fun l => table_end _ l)

end Cert.Scan

end
-- ==== Proof.S5Tile.lean ====
/- What one trip of each complex scan loop computes on its pair of 8×256 tiles, one column at a time,
   over the reals. -/
module

public import proofs.«01_k».proof.Proof.Gen.S5ScanIdeal.Skeleton
public import Idealize.ShloMosaic.Lib.Pointwise
public import Mathlib.Tactic.IntervalCases
public import Mathlib.Tactic.NormNum
public import Mathlib.Tactic.Ring

@[expose] public section

set_option maxRecDepth 16384

noncomputable section

namespace Cert.S5

open Idealize.ShloMosaic Idealize.ShloMosaic.TcCoe Idealize.SL.Sem
open Cert.S5ScanIdeal S5ScanIdeal.Gen

/-- The complex linear recurrence `x (n+1) = a * x n + b n` from `h`, as real and imaginary parts. -/
def clin (ar ai : ℝ) (br bi : ℕ → ℝ) (h : ℝ × ℝ) : ℕ → ℝ × ℝ
  | 0 => h
  | n + 1 => (ar * (clin ar ai br bi h n).1 - ai * (clin ar ai br bi h n).2 + br n,
      ar * (clin ar ai br bi h n).2 + ai * (clin ar ai br bi h n).1 + bi n)

/-- Running `n` steps and then `m` more is running `n + m` steps. -/
theorem clin_add (ar ai : ℝ) (br bi : ℕ → ℝ) (h : ℝ × ℝ) (n m : ℕ) :
    clin ar ai (fun i => br (n + i)) (fun i => bi (n + i)) (clin ar ai br bi h n) m = clin ar ai br bi h (n + m) := by
  induction m with
  | zero => rfl
  | succ m ih => rw [clin, ih]; rfl

/-- The recurrence over `m` steps only reads the first `m` inputs. -/
theorem clin_congr {ar ai : ℝ} {br bi br' bi' : ℕ → ℝ} (h : ℝ × ℝ) (m : ℕ) (hr : ∀ i < m, br i = br' i)
    (hi : ∀ i < m, bi i = bi' i) : clin ar ai br bi h m = clin ar ai br' bi' h m := by
  induction m with
  | zero => rfl
  | succ m ih =>
    rw [clin, clin, ih (fun i hi' => hr i (by omega)) (fun i hi' => hi i (by omega)), hr m (by omega), hi m (by omega)]

/-- The powers of a complex number: `cpow a n` is `a` to the power `n + 1`. -/
def cpow (ar ai : ℝ) : ℕ → ℝ × ℝ
  | 0 => (ar, ai)
  | n + 1 => ((cpow ar ai n).1 * ar - (cpow ar ai n).2 * ai, (cpow ar ai n).1 * ai + (cpow ar ai n).2 * ar)

section Fwd

variable (a0 a1 : FVec Ideal S1x256 .f32) (l : Fin 256) (ar ai : ℝ)
  (h0 : a0 (ix2 0 l) = ((ar : ℝ) : EReal)) (h1 : a1 (ix2 0 l) = ((ai : ℝ) : EReal))
include h0 h1

/-- The rows of powers the forward kernel prepares. -/
theorem fwd_pow0 : k0_pay20 (F := Ideal) a0 (ix2 0 l) = (((cpow ar ai 0).1 : ℝ) : EReal) ∧ k0_pay21 (F := Ideal) a1 (ix2 0 l) = (((cpow ar ai 0).2 : ℝ) : EReal) := by
  constructor <;> pointwise [k0_pay20, k0_pay21] <;> assumption

theorem fwd_pow1 : k0_pay22 (F := Ideal) a0 a1 (ix2 0 l) = (((cpow ar ai 1).1 : ℝ) : EReal) ∧ k0_pay23 (F := Ideal) a0 a1 (ix2 0 l) = (((cpow ar ai 1).2 : ℝ) : EReal) := by
  obtain ⟨p, q⟩ := fwd_pow0 a0 a1 l ar ai h0 h1
  constructor <;> pointwise [k0_pay22, k0_pay23] <;> rw [p, q, cpow] <;> norm_cast

theorem fwd_pow2 : k0_pay24 (F := Ideal) a0 a1 (ix2 0 l) = (((cpow ar ai 2).1 : ℝ) : EReal) ∧ k0_pay25 (F := Ideal) a0 a1 (ix2 0 l) = (((cpow ar ai 2).2 : ℝ) : EReal) := by
  obtain ⟨p, q⟩ := fwd_pow0 a0 a1 l ar ai h0 h1
  obtain ⟨r, s⟩ := fwd_pow1 a0 a1 l ar ai h0 h1
  constructor <;> pointwise [k0_pay24, k0_pay25] <;> rw [p, q, r, s, cpow] <;> norm_cast

theorem fwd_pow3 : k0_pay26 (F := Ideal) a0 a1 (ix2 0 l) = (((cpow ar ai 3).1 : ℝ) : EReal) ∧ k0_pay27 (F := Ideal) a0 a1 (ix2 0 l) = (((cpow ar ai 3).2 : ℝ) : EReal) := by
  obtain ⟨p, q⟩ := fwd_pow0 a0 a1 l ar ai h0 h1
  obtain ⟨r, s⟩ := fwd_pow2 a0 a1 l ar ai h0 h1
  constructor <;> pointwise [k0_pay26, k0_pay27] <;> rw [p, q, r, s, cpow] <;> norm_cast

theorem fwd_pow4 : k0_pay28 (F := Ideal) a0 a1 (ix2 0 l) = (((cpow ar ai 4).1 : ℝ) : EReal) ∧ k0_pay29 (F := Ideal) a0 a1 (ix2 0 l) = (((cpow ar ai 4).2 : ℝ) : EReal) := by
  obtain ⟨p, q⟩ := fwd_pow0 a0 a1 l ar ai h0 h1
  obtain ⟨r, s⟩ := fwd_pow3 a0 a1 l ar ai h0 h1
  constructor <;> pointwise [k0_pay28, k0_pay29] <;> rw [p, q, r, s, cpow] <;> norm_cast

theorem fwd_pow5 : k0_pay30 (F := Ideal) a0 a1 (ix2 0 l) = (((cpow ar ai 5).1 : ℝ) : EReal) ∧ k0_pay31 (F := Ideal) a0 a1 (ix2 0 l) = (((cpow ar ai 5).2 : ℝ) : EReal) := by
  obtain ⟨p, q⟩ := fwd_pow0 a0 a1 l ar ai h0 h1
  obtain ⟨r, s⟩ := fwd_pow4 a0 a1 l ar ai h0 h1
  constructor <;> pointwise [k0_pay30, k0_pay31] <;> rw [p, q, r, s, cpow] <;> norm_cast

theorem fwd_pow6 : k0_pay32 (F := Ideal) a0 a1 (ix2 0 l) = (((cpow ar ai 6).1 : ℝ) : EReal) ∧ k0_pay33 (F := Ideal) a0 a1 (ix2 0 l) = (((cpow ar ai 6).2 : ℝ) : EReal) := by
  obtain ⟨p, q⟩ := fwd_pow0 a0 a1 l ar ai h0 h1
  obtain ⟨r, s⟩ := fwd_pow5 a0 a1 l ar ai h0 h1
  constructor <;> pointwise [k0_pay32, k0_pay33] <;> rw [p, q, r, s, cpow] <;> norm_cast

theorem fwd_pow7 : k0_pay34 (F := Ideal) a0 a1 (ix2 0 l) = (((cpow ar ai 7).1 : ℝ) : EReal) ∧ k0_pay35 (F := Ideal) a0 a1 (ix2 0 l) = (((cpow ar ai 7).2 : ℝ) : EReal) := by
  obtain ⟨p, q⟩ := fwd_pow0 a0 a1 l ar ai h0 h1
  obtain ⟨r, s⟩ := fwd_pow6 a0 a1 l ar ai h0 h1
  constructor <;> pointwise [k0_pay34, k0_pay35] <;> rw [p, q, r, s, cpow] <;> norm_cast

/-- Row `j` of the forward kernel's tiles of powers is `a` to the power `j + 1`. -/
theorem fwd_powers (j : Fin 8) :
    k0_pay1 (F := Ideal) (k0_pay32 a0 a1) (k0_pay34 a0 a1) (iota .tc S8x256 32 [0] iota_S8x256_d0_w32)
      (k0_pay40 (k0_pay22 a0 a1) (k0_pay24 a0 a1) (k0_pay26 a0 a1) (k0_pay28 a0 a1) (iota .tc S8x256 32 [0] iota_S8x256_d0_w32) (k0_pay36 (F := Ideal)) k0_pay38 (k0_pay39 a0))
      (k0_pay42 (iota .tc S8x256 32 [0] iota_S8x256_d0_w32)) (k0_pay43 (k0_pay30 a0 a1)) (ix2 j l) = (((cpow ar ai j.val).1 : ℝ) : EReal) ∧
    k0_pay2 (F := Ideal) (k0_pay31 a0 a1) (k0_pay33 a0 a1) (k0_pay35 a0 a1) (iota .tc S8x256 32 [0] iota_S8x256_d0_w32)
      (k0_pay41 (k0_pay21 a1) (k0_pay23 a0 a1) (k0_pay25 a0 a1) (k0_pay27 a0 a1) (k0_pay29 a0 a1) (iota .tc S8x256 32 [0] iota_S8x256_d0_w32) (k0_pay37 (F := Ideal))) (ix2 j l)
      = (((cpow ar ai j.val).2 : ℝ) : EReal) := by
  obtain ⟨p0, q0⟩ := fwd_pow0 a0 a1 l ar ai h0 h1
  obtain ⟨p1, q1⟩ := fwd_pow1 a0 a1 l ar ai h0 h1
  obtain ⟨p2, q2⟩ := fwd_pow2 a0 a1 l ar ai h0 h1
  obtain ⟨p3, q3⟩ := fwd_pow3 a0 a1 l ar ai h0 h1
  obtain ⟨p4, q4⟩ := fwd_pow4 a0 a1 l ar ai h0 h1
  obtain ⟨p5, q5⟩ := fwd_pow5 a0 a1 l ar ai h0 h1
  obtain ⟨p6, q6⟩ := fwd_pow6 a0 a1 l ar ai h0 h1
  obtain ⟨p7, q7⟩ := fwd_pow7 a0 a1 l ar ai h0 h1
  constructor
  · pointwise [k0_pay1, k0_pay40, k0_pay36, k0_pay38, k0_pay39, k0_pay42, k0_pay43]
    have hj := j.isLt
    obtain ⟨j, hj'⟩ := j
    interval_cases j <;> simp [p0, p1, p2, p3, p4, p5, p6, p7, Scalar.select, IntOp.cmpi]
  · pointwise [k0_pay2, k0_pay41, k0_pay37]
    have hj := j.isLt
    obtain ⟨j, hj'⟩ := j
    interval_cases j <;> simp [q0, q1, q2, q3, q4, q5, q6, q7, Scalar.select, IntOp.cmpi]

end Fwd

/-- The tiles one trip of the forward scan writes, from the rows of powers, the tiles of powers, the
   tiles of inputs and the rows carried in. -/
def fwdRe {F : FTy → Type} [FloatOps F] (v1 v3 v6 v9 v18 v21 : FVec F S1x256 .f32) (P Q B C : FVec F S8x256 .f32)
    (hr hi : FVec F S1x256 .f32) : FVec F S8x256 .f32 :=
  k0_pay18 v6 v9 v18 v21 P Q hr hi (k0_pay10 v1 v3 B C) (k0_pay11 v1 v3 B C) (k0_pay12 v1 v3 B C) (k0_pay13 v1 v3 B C)

/-- The imaginary part of the same. -/
def fwdIm {F : FTy → Type} [FloatOps F] (v1 v3 v6 v9 v18 v21 : FVec F S1x256 .f32) (P Q B C : FVec F S8x256 .f32)
    (hr hi : FVec F S1x256 .f32) : FVec F S8x256 .f32 :=
  k0_pay19 v6 v9 v18 v21 P Q hr hi (k0_pay10 v1 v3 B C) (k0_pay11 v1 v3 B C) (k0_pay12 v1 v3 B C) (k0_pay13 v1 v3 B C)

/-- Row `j` of the forward tiles is the recurrence after `j + 1` steps from the carried rows. -/
theorem fwd_tile (v1 v3 v6 v9 v18 v21 : FVec Ideal S1x256 .f32) (P Q B C : FVec Ideal S8x256 .f32)
    (hr hi : FVec Ideal S1x256 .f32) (l : Fin 256) (ar ai : ℝ) (b c : ℕ → ℝ) (h : ℝ × ℝ)
    (e1 : v1 (ix2 0 l) = (((cpow ar ai 0).1 : ℝ) : EReal)) (e3 : v3 (ix2 0 l) = (((cpow ar ai 0).2 : ℝ) : EReal))
    (e6 : v6 (ix2 0 l) = (((cpow ar ai 1).1 : ℝ) : EReal)) (e9 : v9 (ix2 0 l) = (((cpow ar ai 1).2 : ℝ) : EReal))
    (e18 : v18 (ix2 0 l) = (((cpow ar ai 3).1 : ℝ) : EReal)) (e21 : v21 (ix2 0 l) = (((cpow ar ai 3).2 : ℝ) : EReal))
    (eP : ∀ j : Fin 8, P (ix2 j l) = (((cpow ar ai j.val).1 : ℝ) : EReal))
    (eQ : ∀ j : Fin 8, Q (ix2 j l) = (((cpow ar ai j.val).2 : ℝ) : EReal))
    (eB : ∀ j : Fin 8, B (ix2 j l) = ((b j.val : ℝ) : EReal))
    (eC : ∀ j : Fin 8, C (ix2 j l) = ((c j.val : ℝ) : EReal))
    (er : hr (ix2 0 l) = ((h.1 : ℝ) : EReal)) (ei : hi (ix2 0 l) = ((h.2 : ℝ) : EReal)) (j : Fin 8) :
    fwdRe v1 v3 v6 v9 v18 v21 P Q B C hr hi (ix2 j l) = (((clin ar ai b c h (j.val + 1)).1 : ℝ) : EReal) ∧
    fwdIm v1 v3 v6 v9 v18 v21 P Q B C hr hi (ix2 j l) = (((clin ar ai b c h (j.val + 1)).2 : ℝ) : EReal) := by
  constructor
  · pointwise [fwdRe, k0_pay18, k0_pay16, k0_pay17, k0_pay14, k0_pay15, k0_pay12, k0_pay13, k0_pay10, k0_pay11, k0_pay8, k0_pay9, k0_pay6, k0_pay7]
    have hj := j.isLt
    obtain ⟨j, hj'⟩ := j
    interval_cases j <;>
    simp [e1, e3, e6, e9, e18, e21, eP, eQ, eB, eC, er, ei, clin, cpow, Scalar.select, IntOp.cmpi] <;> norm_cast <;> ring
  · pointwise [fwdIm, k0_pay19, k0_pay16, k0_pay17, k0_pay14, k0_pay15, k0_pay12, k0_pay13, k0_pay10, k0_pay11, k0_pay8, k0_pay9, k0_pay6, k0_pay7]
    have hj := j.isLt
    obtain ⟨j, hj'⟩ := j
    interval_cases j <;>
    simp [e1, e3, e6, e9, e18, e21, eP, eQ, eB, eC, er, ei, clin, cpow, Scalar.select, IntOp.cmpi] <;> norm_cast <;> ring

/-- The rows carried out of a forward trip are the last rows of its tiles. -/
theorem fwd_carry (T : FVec Ideal S8x256 .f32) (l : Fin 256) :
    k0_pay4 T (ix2 0 l) = T (ix2 7 l) ∧ k0_pay5 T (ix2 0 l) = T (ix2 7 l) := by
  constructor
  · show extractStridedSlice S1x256 ![7, 0] T slices_S8x256_o7_0_S1x256 (ix2 0 l) = _
    pointwise
  · show extractStridedSlice S1x256 ![7, 0] T slices_S8x256_o7_0_S1x256 (ix2 0 l) = _
    pointwise

end Cert.S5

end
-- ==== Proof.S5BwdTile.lean ====
/- What one trip of the complex reverse scan computes on its tiles, one column at a time, over the reals. -/
module

public import proofs.«01_k».proof.Proof.S5Tile

@[expose] public section

set_option maxRecDepth 16384

noncomputable section

namespace Cert.S5

open Idealize.ShloMosaic Idealize.ShloMosaic.TcCoe Idealize.SL.Sem
open Cert.S5ScanIdeal S5ScanIdeal.Gen

section Pow

variable (a0 a1 : FVec Ideal S1x256 .f32) (l : Fin 256) (ar ai : ℝ)
  (h0 : a0 (ix2 0 l) = ((ar : ℝ) : EReal)) (h1 : a1 (ix2 0 l) = ((ai : ℝ) : EReal))
include h0 h1

/-- The rows of powers of the conjugate the reverse kernel prepares. -/
theorem bwd_pow0 : k1_pay18 (F := Ideal) a0 (ix2 0 l) = (((cpow ar (-ai) 0).1 : ℝ) : EReal) ∧ k1_pay19 (F := Ideal) a1 (ix2 0 l) = (((cpow ar (-ai) 0).2 : ℝ) : EReal) := by
  constructor
  · pointwise [k1_pay18]
    exact h0
  · pointwise [k1_pay19]
    simp [h1, cpow]

theorem bwd_pow1 : k1_pay20 (F := Ideal) a0 a1 (ix2 0 l) = (((cpow ar (-ai) 1).1 : ℝ) : EReal) ∧ k1_pay21 (F := Ideal) a0 a1 (ix2 0 l) = (((cpow ar (-ai) 1).2 : ℝ) : EReal) := by
  obtain ⟨p, q⟩ := bwd_pow0 a0 a1 l ar ai h0 h1
  constructor <;> pointwise [k1_pay20, k1_pay21] <;> rw [p, q, cpow] <;> norm_cast

theorem bwd_pow2 : k1_pay22 (F := Ideal) a0 a1 (ix2 0 l) = (((cpow ar (-ai) 2).1 : ℝ) : EReal) ∧ k1_pay23 (F := Ideal) a0 a1 (ix2 0 l) = (((cpow ar (-ai) 2).2 : ℝ) : EReal) := by
  obtain ⟨p, q⟩ := bwd_pow0 a0 a1 l ar ai h0 h1
  obtain ⟨r, s⟩ := bwd_pow1 a0 a1 l ar ai h0 h1
  constructor <;> pointwise [k1_pay22, k1_pay23] <;> rw [p, q, r, s, cpow] <;> norm_cast

theorem bwd_pow3 : k1_pay24 (F := Ideal) a0 a1 (ix2 0 l) = (((cpow ar (-ai) 3).1 : ℝ) : EReal) ∧ k1_pay25 (F := Ideal) a0 a1 (ix2 0 l) = (((cpow ar (-ai) 3).2 : ℝ) : EReal) := by
  obtain ⟨p, q⟩ := bwd_pow0 a0 a1 l ar ai h0 h1
  obtain ⟨r, s⟩ := bwd_pow2 a0 a1 l ar ai h0 h1
  constructor <;> pointwise [k1_pay24, k1_pay25] <;> rw [p, q, r, s, cpow] <;> norm_cast

theorem bwd_pow4 : k1_pay26 (F := Ideal) a0 a1 (ix2 0 l) = (((cpow ar (-ai) 4).1 : ℝ) : EReal) ∧ k1_pay27 (F := Ideal) a0 a1 (ix2 0 l) = (((cpow ar (-ai) 4).2 : ℝ) : EReal) := by
  obtain ⟨p, q⟩ := bwd_pow0 a0 a1 l ar ai h0 h1
  obtain ⟨r, s⟩ := bwd_pow3 a0 a1 l ar ai h0 h1
  constructor <;> pointwise [k1_pay26, k1_pay27] <;> rw [p, q, r, s, cpow] <;> norm_cast

theorem bwd_pow5 : k1_pay28 (F := Ideal) a0 a1 (ix2 0 l) = (((cpow ar (-ai) 5).1 : ℝ) : EReal) ∧ k1_pay29 (F := Ideal) a0 a1 (ix2 0 l) = (((cpow ar (-ai) 5).2 : ℝ) : EReal) := by
  obtain ⟨p, q⟩ := bwd_pow0 a0 a1 l ar ai h0 h1
  obtain ⟨r, s⟩ := bwd_pow4 a0 a1 l ar ai h0 h1
  constructor <;> pointwise [k1_pay28, k1_pay29] <;> rw [p, q, r, s, cpow] <;> norm_cast

theorem bwd_pow6 : k1_pay30 (F := Ideal) a0 a1 (ix2 0 l) = (((cpow ar (-ai) 6).1 : ℝ) : EReal) ∧ k1_pay31 (F := Ideal) a0 a1 (ix2 0 l) = (((cpow ar (-ai) 6).2 : ℝ) : EReal) := by
  obtain ⟨p, q⟩ := bwd_pow0 a0 a1 l ar ai h0 h1
  obtain ⟨r, s⟩ := bwd_pow5 a0 a1 l ar ai h0 h1
  constructor <;> pointwise [k1_pay30, k1_pay31] <;> rw [p, q, r, s, cpow] <;> norm_cast

theorem bwd_pow7 : k1_pay32 (F := Ideal) a0 a1 (ix2 0 l) = (((cpow ar (-ai) 7).1 : ℝ) : EReal) ∧ k1_pay33 (F := Ideal) a0 a1 (ix2 0 l) = (((cpow ar (-ai) 7).2 : ℝ) : EReal) := by
  obtain ⟨p, q⟩ := bwd_pow0 a0 a1 l ar ai h0 h1
  obtain ⟨r, s⟩ := bwd_pow6 a0 a1 l ar ai h0 h1
  constructor <;> pointwise [k1_pay32, k1_pay33] <;> rw [p, q, r, s, cpow] <;> norm_cast

/-- Row `j` of the reverse kernel's tiles of powers is the conjugate of `a` to the power `8 - j`. -/
theorem bwd_powers (j : Fin 8) :
    k1_pay38 (F := Ideal) (k1_pay18 a0) (k1_pay20 a0 a1) (k1_pay22 a0 a1) (iota .tc S8x256 32 [0] iota_S8x256_d0_w32)
      (k1_pay36 (k1_pay24 a0 a1) (k1_pay26 a0 a1) (k1_pay28 a0 a1) (k1_pay30 a0 a1) (k1_pay32 a0 a1) (iota .tc S8x256 32 [0] iota_S8x256_d0_w32) (k1_pay34 (F := Ideal)) 0#32) 5#32 (ix2 j l) = (((cpow ar (-ai) (7 - j.val)).1 : ℝ) : EReal) ∧
    k1_pay39 (F := Ideal) (k1_pay19 a1) (k1_pay21 a0 a1) (k1_pay23 a0 a1) (iota .tc S8x256 32 [0] iota_S8x256_d0_w32)
      (k1_pay37 (k1_pay25 a0 a1) (k1_pay27 a0 a1) (k1_pay29 a0 a1) (k1_pay31 a0 a1) (k1_pay33 a0 a1) (iota .tc S8x256 32 [0] iota_S8x256_d0_w32) (k1_pay35 (F := Ideal))) (ix2 j l) = (((cpow ar (-ai) (7 - j.val)).2 : ℝ) : EReal) := by
  obtain ⟨p0, q0⟩ := bwd_pow0 a0 a1 l ar ai h0 h1
  obtain ⟨p1, q1⟩ := bwd_pow1 a0 a1 l ar ai h0 h1
  obtain ⟨p2, q2⟩ := bwd_pow2 a0 a1 l ar ai h0 h1
  obtain ⟨p3, q3⟩ := bwd_pow3 a0 a1 l ar ai h0 h1
  obtain ⟨p4, q4⟩ := bwd_pow4 a0 a1 l ar ai h0 h1
  obtain ⟨p5, q5⟩ := bwd_pow5 a0 a1 l ar ai h0 h1
  obtain ⟨p6, q6⟩ := bwd_pow6 a0 a1 l ar ai h0 h1
  obtain ⟨p7, q7⟩ := bwd_pow7 a0 a1 l ar ai h0 h1
  constructor
  · pointwise [k1_pay38, k1_pay36, k1_pay34]
    have hj := j.isLt
    obtain ⟨j, hj'⟩ := j
    interval_cases j <;> simp [p0, p1, p2, p3, p4, p5, p6, p7, Scalar.select, IntOp.cmpi]
  · pointwise [k1_pay39, k1_pay37, k1_pay35]
    have hj := j.isLt
    obtain ⟨j, hj'⟩ := j
    interval_cases j <;> simp [q0, q1, q2, q3, q4, q5, q6, q7, Scalar.select, IntOp.cmpi]

end Pow

/-- The tiles one trip of the reverse scan writes, from the rows of powers, the tiles of powers, the
   tiles of cotangents and the rows carried in. -/
def bwdRe {F : FTy → Type} [FloatOps F] (v1 v5 v8 v11 v20 v23 : FVec F S1x256 .f32) (P Q B C : FVec F S8x256 .f32)
    (hr hi : FVec F S1x256 .f32) : FVec F S8x256 .f32 :=
  k1_pay11 v8 v11 v20 v23 P Q hr hi (k1_pay3 v1 v5 B C) (k1_pay4 v1 v5 B C) (k1_pay5 v1 v5 B C) (k1_pay6 v1 v5 B C)

/-- The imaginary part of the same. -/
def bwdIm {F : FTy → Type} [FloatOps F] (v1 v5 v8 v11 v20 v23 : FVec F S1x256 .f32) (P Q B C : FVec F S8x256 .f32)
    (hr hi : FVec F S1x256 .f32) : FVec F S8x256 .f32 :=
  k1_pay12 v8 v11 v20 v23 P Q hr hi (k1_pay3 v1 v5 B C) (k1_pay4 v1 v5 B C) (k1_pay5 v1 v5 B C) (k1_pay6 v1 v5 B C)

/-- Row `j` of the reverse tiles is the recurrence run downwards from the carried rows, `8 - j` steps. -/
theorem bwd_tile (v1 v5 v8 v11 v20 v23 : FVec Ideal S1x256 .f32) (P Q B C : FVec Ideal S8x256 .f32)
    (hr hi : FVec Ideal S1x256 .f32) (l : Fin 256) (ar ai : ℝ) (b c : ℕ → ℝ) (h : ℝ × ℝ)
    (e1 : v1 (ix2 0 l) = (((cpow ar ai 0).1 : ℝ) : EReal)) (e5 : v5 (ix2 0 l) = (((cpow ar ai 0).2 : ℝ) : EReal))
    (e8 : v8 (ix2 0 l) = (((cpow ar ai 1).1 : ℝ) : EReal)) (e11 : v11 (ix2 0 l) = (((cpow ar ai 1).2 : ℝ) : EReal))
    (e20 : v20 (ix2 0 l) = (((cpow ar ai 3).1 : ℝ) : EReal)) (e23 : v23 (ix2 0 l) = (((cpow ar ai 3).2 : ℝ) : EReal))
    (eP : ∀ j : Fin 8, P (ix2 j l) = (((cpow ar ai (7 - j.val)).1 : ℝ) : EReal))
    (eQ : ∀ j : Fin 8, Q (ix2 j l) = (((cpow ar ai (7 - j.val)).2 : ℝ) : EReal))
    (eB : ∀ j : Fin 8, B (ix2 j l) = ((b j.val : ℝ) : EReal))
    (eC : ∀ j : Fin 8, C (ix2 j l) = ((c j.val : ℝ) : EReal))
    (er : hr (ix2 0 l) = ((h.1 : ℝ) : EReal)) (ei : hi (ix2 0 l) = ((h.2 : ℝ) : EReal)) (j : Fin 8) :
    bwdRe v1 v5 v8 v11 v20 v23 P Q B C hr hi (ix2 j l) = (((clin ar ai (fun n => b (7 - n)) (fun n => c (7 - n)) h (8 - j.val)).1 : ℝ) : EReal) ∧
    bwdIm v1 v5 v8 v11 v20 v23 P Q B C hr hi (ix2 j l) = (((clin ar ai (fun n => b (7 - n)) (fun n => c (7 - n)) h (8 - j.val)).2 : ℝ) : EReal) := by
  constructor
  · pointwise [bwdRe, k1_pay11, k1_pay9, k1_pay10, k1_pay7, k1_pay8, k1_pay5, k1_pay6, k1_pay3, k1_pay4, k1_pay1, k1_pay2]
    have hj := j.isLt
    obtain ⟨j, hj'⟩ := j
    interval_cases j <;>
    simp [e1, e5, e8, e11, e20, e23, eP, eQ, eB, eC, er, ei, clin, cpow, Scalar.select, IntOp.cmpi] <;> norm_cast <;> ring
  · pointwise [bwdIm, k1_pay12, k1_pay9, k1_pay10, k1_pay7, k1_pay8, k1_pay5, k1_pay6, k1_pay3, k1_pay4, k1_pay1, k1_pay2]
    have hj := j.isLt
    obtain ⟨j, hj'⟩ := j
    interval_cases j <;>
    simp [e1, e5, e8, e11, e20, e23, eP, eQ, eB, eC, er, ei, clin, cpow, Scalar.select, IntOp.cmpi] <;> norm_cast <;> ring

/-- The rows carried out of a reverse trip are the first rows of its tiles. -/
theorem bwd_carry (T : FVec Ideal S8x256 .f32) (l : Fin 256) :
    k1_pay15 T (ix2 0 l) = T (ix2 0 l) ∧ k1_pay16 T (ix2 0 l) = T (ix2 0 l) := by
  constructor
  · pointwise [k1_pay15]
  · pointwise [k1_pay16]

/-- The bit deciding whether a row precedes the tile: clear for trip 511 only. -/
theorem mask_prev : ∀ k : Fin k1_t1_loop.trips,
    Scalar.cmpi .sgt (Scalar.muli (Scalar.subi 511#32 (Scf.iv 0#32 1#32 k)) 8#32) 0#32
      = if k.val = 511 then 0#1 else 1#1 := by decide +kernel

/-- The tiles of states one row earlier: row `j` is `h j`, the row before the tile times its factor in row 0. -/
theorem prev_tile (k : Fin k1_t1_loop.trips) (H : FVec Ideal S8x256 .f32) (h1 : FVec Ideal S1x256 .f32)
    (l : Fin 256) (h : ℕ → ℝ)
    (hH : ∀ j : Fin 8, H (ix2 j l) = ((h (j.val + 1) : ℝ) : EReal))
    (h0 : h1 (ix2 0 l) * ((if k.val = 511 then 0 else 1 : ℝ) : EReal) = ((h 0 : ℝ) : EReal)) (j : Fin 8) :
    k1_pay13 (F := Ideal) (Scalar.muli (Scalar.subi 511#32 (Scf.iv 0#32 1#32 k)) 8#32) H h1 (ix2 j l) = ((h j.val : ℝ) : EReal) ∧
    k1_pay14 (F := Ideal) (Scalar.muli (Scalar.subi 511#32 (Scf.iv 0#32 1#32 k)) 8#32) H h1 (ix2 j l) = ((h j.val : ℝ) : EReal) := by
  have hm : (((Scalar.extui (Scalar.cmpi .sgt (Scalar.muli (Scalar.subi 511#32 (Scf.iv 0#32 1#32 k)) 8#32) 0#32)).toInt : ℝ) : EReal)
      = ((if k.val = 511 then 0 else 1 : ℝ) : EReal) := by
    rw [mask_prev]; split <;> simp [Scalar.extui]
  constructor
  · pointwise [k1_pay13]
    simp only [hm, h0]
    have hj := j.isLt
    obtain ⟨j, hj'⟩ := j
    interval_cases j <;>
    simp [hH, Scalar.select, IntOp.cmpi]
  · pointwise [k1_pay14]
    simp only [hm, h0]
    have hj := j.isLt
    obtain ⟨j, hj'⟩ := j
    interval_cases j <;>
    simp [hH, Scalar.select, IntOp.cmpi]

/-- The two running sums after a trip, from the sums before it, the reverse tiles and the tiles of states one row earlier. -/
theorem acc_tile (k : Fin k1_t1_loop.trips) (A D E HR HI : FVec Ideal S8x256 .f32) (hr hi : FVec Ideal S1x256 .f32)
    (j : Fin 8) (l : Fin 256) (a d e x y : ℝ)
    (eA : A (ix2 j l) = ((a : ℝ) : EReal)) (eD : D (ix2 j l) = ((d : ℝ) : EReal)) (eE : E (ix2 j l) = ((e : ℝ) : EReal))
    (ex : k1_pay13 (F := Ideal) (Scalar.muli (Scalar.subi 511#32 (Scf.iv 0#32 1#32 k)) 8#32) HR hr (ix2 j l) = ((x : ℝ) : EReal))
    (ey : k1_pay14 (F := Ideal) (Scalar.muli (Scalar.subi 511#32 (Scf.iv 0#32 1#32 k)) 8#32) HI hi (ix2 j l) = ((y : ℝ) : EReal)) :
    k1_pay42 (F := Ideal) E (k1_pay14 (Scalar.muli (Scalar.subi 511#32 (Scf.iv 0#32 1#32 k)) 8#32) HI hi)
      (k1_pay17 A (Scalar.muli (Scalar.subi 511#32 (Scf.iv 0#32 1#32 k)) 8#32) D HR hr) (ix2 j l) = ((a + (d * x + e * y) : ℝ) : EReal) ∧
    k1_pay43 (F := Ideal) A D E (k1_pay13 (Scalar.muli (Scalar.subi 511#32 (Scf.iv 0#32 1#32 k)) 8#32) HR hr)
      (k1_pay14 (Scalar.muli (Scalar.subi 511#32 (Scf.iv 0#32 1#32 k)) 8#32) HI hi) (ix2 j l) = ((a + (e * x - d * y) : ℝ) : EReal) := by
  constructor
  · pointwise [k1_pay42, k1_pay17]
    rw [eA, eD, eE, ex, ey]
    norm_cast
    ring
  · pointwise [k1_pay43]
    rw [eA, eD, eE, ex, ey]
    norm_cast
    ring

end Cert.S5

end
-- ==== Proof.S5Fwd.lean ====
/- The complex forward scan's kernel on one block of columns, and the arrays of states it leaves. -/
module

public import proofs.«01_k».proof.Proof.S5Tile
public import proofs.«01_k».proof.Proof.Gen.S5ScanIdeal.Frame
public import Idealize.ShloMosaic.Lib.Pipeline.ValueKit

@[expose] public section

set_option maxRecDepth 16384

noncomputable section

namespace Cert.S5

open Idealize.ShloMosaic Idealize.ShloMosaic.TcCoe Idealize.SL.Sem
open Cert.S5ScanIdeal S5ScanIdeal.Gen

/-- The row of an index of a unit-stride rectangle starting at row `o`, column 0. -/
theorem rect_row {n m : ℕ} {off : Fin 2 → ℕ} {o : ℕ} (ho : off = ![o, 0]) (size : Fin 2 → ℕ)
    (inb : ∀ a, off a + size a ≤ (⟨2, ![n, m]⟩ : Shape).size a)
    (j : (Rect.unit (s := ⟨2, ![n, m]⟩) off size inb).shape.Idx) :
    ((Rect.unit (s := ⟨2, ![n, m]⟩) off size inb).emb j 0).val = o + (j 0).val := by
  subst ho
  exact ValueKit.rect_emb_unit_val _ _ inb j 0

/-- The column of an index of a unit-stride rectangle starting at row `o`, column 0. -/
theorem rect_col {n m : ℕ} {off : Fin 2 → ℕ} {o : ℕ} (ho : off = ![o, 0]) (size : Fin 2 → ℕ)
    (inb : ∀ a, off a + size a ≤ (⟨2, ![n, m]⟩ : Shape).size a)
    (j : (Rect.unit (s := ⟨2, ![n, m]⟩) off size inb).shape.Idx) :
    ((Rect.unit (s := ⟨2, ![n, m]⟩) off size inb).emb j 1).val = (j 1).val := by
  subst ho
  exact (ValueKit.rect_emb_unit_val _ _ inb j 1).trans (Nat.zero_add _)

/-- The value at one index of a unit-stride rectangle of a block. -/
theorem rect_val {n m : ℕ} (X : (⟨2, ![n, m]⟩ : Shape).Idx → EReal) (f : ℕ → ℕ → ℝ)
    (hX : ∀ y, X y = ((f (y 1).val (y 0).val : ℝ) : EReal)) {off : Fin 2 → ℕ} {o : ℕ} (ho : off = ![o, 0])
    (size : Fin 2 → ℕ) (inb : ∀ a, off a + size a ≤ (⟨2, ![n, m]⟩ : Shape).size a)
    (j : (Rect.unit (s := ⟨2, ![n, m]⟩) off size inb).shape.Idx) :
    X ((Rect.unit (s := ⟨2, ![n, m]⟩) off size inb).emb j) = ((f (j 1).val (o + (j 0).val) : ℝ) : EReal) := by
  rw [hX, rect_row ho, rect_col ho]

section Fwd

variable (c : Dev nD) (i : grid0.Coords) (arg1 : Memref sig .tc .vmem S4096x256 .f32) (harg1 : arg1.IsWhole)
  (arg2 : Memref sig .tc .vmem S4096x256 .f32) (harg2 : arg2.IsWhole)
  (arg3 : Memref sig .tc .vmem S1x256 .f32) (harg3 : arg3.IsWhole)
  (arg4 : Memref sig .tc .vmem S1x256 .f32) (harg4 : arg4.IsWhole)
  (arg5 : Memref sig .tc .vmem S4096x256 .f32) (harg5 : arg5.IsWhole)
  (arg6 : Memref sig .tc .vmem S4096x256 .f32) (harg6 : arg6.IsWhole)
  (x0 x1 : Vec Ideal S4096x256 .f32) (x2 x3 : Vec Ideal S1x256 .f32) (ar ai : ℕ → ℝ) (βr βi : ℕ → ℕ → ℝ)

/-- The block of states: row `r` of column `l` is the recurrence after `r + 1` steps from 0. -/
def reBlock (ar ai : ℕ → ℝ) (βr βi : ℕ → ℕ → ℝ) : Vec Ideal S4096x256 .f32 :=
  fun y => (((clin (ar (y 1).val) (ai (y 1).val) (βr (y 1).val) (βi (y 1).val) (0, 0) ((y 0).val + 1)).1 : ℝ) : EReal)

/-- The imaginary part of the same. -/
def imBlock (ar ai : ℕ → ℝ) (βr βi : ℕ → ℕ → ℝ) : Vec Ideal S4096x256 .f32 :=
  fun y => (((clin (ar (y 1).val) (ai (y 1).val) (βr (y 1).val) (βi (y 1).val) (0, 0) ((y 0).val + 1)).2 : ℝ) : EReal)

/-- The state before each trip: the rows carried are the recurrence so far, and every tile written
   agrees with the blocks of states. -/
theorem fwd_state (v1 v3 v6 v9 v18 v21 v33 v36 v39 v42 v45 : FVec Ideal S1x256 .f32) (v46 : IVec S8x256 32)
    (v93 v98 : FVec Ideal S8x256 .f32) (v100 : IVec S8x256 1) (v101 : FVec Ideal S1x256 .f32)
    (e1 : ∀ l : Fin 256, v1 (ix2 0 l) = (((cpow (ar l.val) (ai l.val) 0).1 : ℝ) : EReal))
    (e3 : ∀ l : Fin 256, v3 (ix2 0 l) = (((cpow (ar l.val) (ai l.val) 0).2 : ℝ) : EReal))
    (e6 : ∀ l : Fin 256, v6 (ix2 0 l) = (((cpow (ar l.val) (ai l.val) 1).1 : ℝ) : EReal))
    (e9 : ∀ l : Fin 256, v9 (ix2 0 l) = (((cpow (ar l.val) (ai l.val) 1).2 : ℝ) : EReal))
    (e18 : ∀ l : Fin 256, v18 (ix2 0 l) = (((cpow (ar l.val) (ai l.val) 3).1 : ℝ) : EReal))
    (e21 : ∀ l : Fin 256, v21 (ix2 0 l) = (((cpow (ar l.val) (ai l.val) 3).2 : ℝ) : EReal))
    (eP : ∀ (l : Fin 256) (j : Fin 8), k0_pay1 v36 v42 v46 v93 v100 v101 (ix2 j l) = (((cpow (ar l.val) (ai l.val) j.val).1 : ℝ) : EReal))
    (eQ : ∀ (l : Fin 256) (j : Fin 8), k0_pay2 v33 v39 v45 v46 v98 (ix2 j l) = (((cpow (ar l.val) (ai l.val) j.val).2 : ℝ) : EReal))
    (h0 : ∀ y, x0 y = ((βr (y 1).val (y 0).val : ℝ) : EReal))
    (h1 : ∀ y, x1 y = ((βi (y 1).val (y 0).val : ℝ) : EReal)) (k : ℕ) (hk : k ≤ 512) :
    let s := st_k0_t1 Variants.none c none i arg1 harg1 arg2 harg2 arg3 harg3 arg4 harg4 arg5 harg5 arg6 harg6
      v1 v3 v6 v9 v18 v21 v33 v36 v39 v42 v45 v46 v93 v98 v100 v101 (harg1.unread x0) (harg2.unread x1)
      (k0_pay3 (F := Ideal), k0_pay3 (F := Ideal)) k
    (∀ l : Fin 256, s.1.1 (ix2 0 l) = (((clin (ar l.val) (ai l.val) (βr l.val) (βi l.val) (0, 0) (8 * k)).1 : ℝ) : EReal)
      ∧ s.1.2 (ix2 0 l) = (((clin (ar l.val) (ai l.val) (βr l.val) (βi l.val) (0, 0) (8 * k)).2 : ℝ) : EReal)) ∧
      (∀ p ∈ s.2.1, ∀ x, p.2 x = reBlock ar ai βr βi (p.1.emb x)) ∧
      ∀ p ∈ s.2.2, ∀ x, p.2 x = imBlock ar ai βr βi (p.1.emb x) := by
  induction k with
  | zero =>
    refine ⟨fun l => ?_, fun p hp => absurd hp List.not_mem_nil, fun p hp => absurd hp List.not_mem_nil⟩
    have z : k0_pay3 (F := Ideal) (ix2 0 l) = ((0 : ℝ) : EReal) := by
      pointwise [k0_pay3]
      simp
    exact ⟨z, z⟩
  | succ k ih =>
    have hkt : k < k0_t1_loop.trips := by
      have : k0_t1_loop.trips = 512 := by decide +kernel
      omega
    obtain ⟨ihv, ihp, ihq⟩ := ih (by omega)
    have e := st_k0_t1_succ (F := Ideal) Variants.none c none i arg1 harg1 arg2 harg2 arg3 harg3 arg4 harg4 arg5 harg5 arg6 harg6
      v1 v3 v6 v9 v18 v21 v33 v36 v39 v42 v45 v46 v93 v98 v100 v101 (harg1.unread x0) (harg2.unread x1)
      (k0_pay3 (F := Ideal), k0_pay3 (F := Ideal)) ⟨k, hkt⟩
    dsimp only at e ⊢
    rw [e]
    generalize st_k0_t1 Variants.none c none i arg1 harg1 arg2 harg2 arg3 harg3 arg4 harg4 arg5 harg5 arg6 harg6
      v1 v3 v6 v9 v18 v21 v33 v36 v39 v42 v45 v46 v93 v98 v100 v101 (harg1.unread x0) (harg2.unread x1)
      (k0_pay3 (F := Ideal), k0_pay3 (F := Ideal)) k = s at ihv ihp ihq ⊢
    clear e ih
    unfold tripR_k0_t1 trip_k0_t1
    dsimp only
    unfold trip_k0_t1.sl.r_4 trip_k0_t1.sl.r_5
    unfold trip_k0_t1.sl.r trip_k0_t1.sl.r_1 trip_k0_t1.sl.r_2 trip_k0_t1.sl.r_3
    dsimp only
    simp only [View.readAt_eq_ld, harg1.read_unread, harg2.read_unread]
    have tile : ∀ (l : Fin 256) (j : Fin 8),
        fwdRe v1 v3 v6 v9 v18 v21 (k0_pay1 v36 v42 v46 v93 v100 v101) (k0_pay2 v33 v39 v45 v46 v98)
            (View.ld x0 (Rect.unit (k0_off1 ⟨k, hkt⟩) S8x256.size (k0_off1_inb ⟨k, hkt⟩)))
            (View.ld x1 (Rect.unit (k0_off1 ⟨k, hkt⟩) S8x256.size (k0_off1_inb ⟨k, hkt⟩))) s.1.1 s.1.2 (ix2 j l)
          = (((clin (ar l.val) (ai l.val) (βr l.val) (βi l.val) (0, 0) (8 * k + (j.val + 1))).1 : ℝ) : EReal) ∧
        fwdIm v1 v3 v6 v9 v18 v21 (k0_pay1 v36 v42 v46 v93 v100 v101) (k0_pay2 v33 v39 v45 v46 v98)
            (View.ld x0 (Rect.unit (k0_off1 ⟨k, hkt⟩) S8x256.size (k0_off1_inb ⟨k, hkt⟩)))
            (View.ld x1 (Rect.unit (k0_off1 ⟨k, hkt⟩) S8x256.size (k0_off1_inb ⟨k, hkt⟩))) s.1.1 s.1.2 (ix2 j l)
          = (((clin (ar l.val) (ai l.val) (βr l.val) (βi l.val) (0, 0) (8 * k + (j.val + 1))).2 : ℝ) : EReal) := by
      intro l j
      rw [← clin_add]
      exact fwd_tile _ _ _ _ _ _ _ _ _ _ _ _ l (ar l.val) (ai l.val) (fun n => βr l.val (8 * k + n)) (fun n => βi l.val (8 * k + n))
        (clin (ar l.val) (ai l.val) (βr l.val) (βi l.val) (0, 0) (8 * k)) (e1 l) (e3 l) (e6 l) (e9 l) (e18 l) (e21 l) (eP l) (eQ l)
        (fun j => rect_val x0 βr h0 (k0_off1_eq ⟨k, hkt⟩) S8x256.size (k0_off1_inb ⟨k, hkt⟩) (ix2 j l))
        (fun j => rect_val x1 βi h1 (k0_off1_eq ⟨k, hkt⟩) S8x256.size (k0_off1_inb ⟨k, hkt⟩) (ix2 j l))
        (ihv l).1 (ihv l).2 j
    refine ⟨fun l => ⟨?_, ?_⟩, fun p hp => ?_, fun p hp => ?_⟩
    · exact (fwd_carry _ l).1.trans (tile l 7).1
    · exact (fwd_carry _ l).2.trans (tile l 7).2
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (tile l j).1.trans ?_
        unfold reBlock
        rw [rect_row (k0_off1_eq ⟨k, hkt⟩), rect_col (k0_off1_eq ⟨k, hkt⟩)]
        rfl
      · exact ihp p hp
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (tile l j).2.trans ?_
        unfold imBlock
        rw [rect_row (k0_off1_eq ⟨k, hkt⟩), rect_col (k0_off1_eq ⟨k, hkt⟩)]
        rfl
      · exact ihq p hp

/-- The blocks the forward kernel leaves are the blocks of states. -/
theorem fwd_out (h0 : ∀ y, x0 y = ((βr (y 1).val (y 0).val : ℝ) : EReal))
    (h1 : ∀ y, x1 y = ((βi (y 1).val (y 0).val : ℝ) : EReal))
    (h2 : ∀ y, x2 y = ((ar (y 1).val : ℝ) : EReal))
    (h3 : ∀ y, x3 y = ((ai (y 1).val : ℝ) : EReal)) :
    out0_A_4 c i arg1 harg1 arg2 harg2 arg3 harg3 arg4 harg4 arg5 harg5 arg6 harg6 x0 x1 x2 x3 = reBlock ar ai βr βi ∧
    out0_A_5 c i arg1 harg1 arg2 harg2 arg3 harg3 arg4 harg4 arg5 harg5 arg6 harg6 x0 x1 x2 x3 = imBlock ar ai βr βi := by
  have key : (∀ p ∈ (kernelRun0_A c i arg1 harg1 arg2 harg2 arg3 harg3 arg4 harg4 arg5 harg5 arg6 harg6 x0 x1 x2 x3).1, ∀ x,
        p.2 x = reBlock ar ai βr βi (p.1.emb x)) ∧
      ∀ p ∈ (kernelRun0_A c i arg1 harg1 arg2 harg2 arg3 harg3 arg4 harg4 arg5 harg5 arg6 harg6 x0 x1 x2 x3).2.1, ∀ x,
        p.2 x = imBlock ar ai βr βi (p.1.emb x) := by
    unfold kernelRun0_A
    dsimp only
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.v46, View.readAt_eq_ld, harg3.read_unread, harg4.read_unread]
    have e2 : ∀ l : Fin 256, View.ld x2 (Rect.unit ![0, 0] ![1, 256] inb_S1x256_S1x256_0_0) (ix2 0 l) = ((ar l.val : ℝ) : EReal) :=
      fun l => rect_val x2 (fun l _ => ar l) h2 (o := 0) rfl S1x256.size inb_S1x256_S1x256_0_0 (ix2 0 l)
    have e3 : ∀ l : Fin 256, View.ld x3 (Rect.unit ![0, 0] ![1, 256] inb_S1x256_S1x256_0_0) (ix2 0 l) = ((ai l.val : ℝ) : EReal) :=
      fun l => rect_val x3 (fun l _ => ai l) h3 (o := 0) rfl S1x256.size inb_S1x256_S1x256_0_0 (ix2 0 l)
    exact (fwd_state c i arg1 harg1 arg2 harg2 arg3 harg3 arg4 harg4 arg5 harg5 arg6 harg6 x0 x1 ar ai βr βi _ _ _ _ _ _ _ _ _ _ _ _ _ _ _ _
      (fun l => (fwd_pow0 _ _ l _ _ (e2 l) (e3 l)).1) (fun l => (fwd_pow0 _ _ l _ _ (e2 l) (e3 l)).2)
      (fun l => (fwd_pow1 _ _ l _ _ (e2 l) (e3 l)).1) (fun l => (fwd_pow1 _ _ l _ _ (e2 l) (e3 l)).2)
      (fun l => (fwd_pow3 _ _ l _ _ (e2 l) (e3 l)).1) (fun l => (fwd_pow3 _ _ l _ _ (e2 l) (e3 l)).2)
      (fun l j => (fwd_powers _ _ l _ _ (e2 l) (e3 l) j).1) (fun l j => (fwd_powers _ _ l _ _ (e2 l) (e3 l) j).2)
      h0 h1 _ (by decide +kernel)).2
  refine ⟨?_, ?_⟩
  · funext y
    unfold out0_A_4
    exact View.read_writes_apply_of_pieces _ _ (reBlock ar ai βr βi) _ key.1 y
      (cover0_A_4 c i arg1 harg1 arg2 harg2 arg3 harg3 arg4 harg4 arg5 harg5 arg6 harg6 x0 x1 x2 x3 y)
  · funext y
    unfold out0_A_5
    exact View.read_writes_apply_of_pieces _ _ (imBlock ar ai βr βi) _ key.2 y
      (cover0_A_5 c i arg1 harg1 arg2 harg2 arg3 harg3 arg4 harg4 arg5 harg5 arg6 harg6 x0 x1 x2 x3 y)

end Fwd

/-- The array of states: row `r` of column `l` is the recurrence after `r + 1` steps from 0. -/
def statesRe (ar ai : ℕ → ℝ) (br bi : ℕ → ℕ → ℝ) : FVec Ideal S4096x2048 .f32 :=
  fun y => (((clin (ar (y 1).val) (ai (y 1).val) (br (y 1).val) (bi (y 1).val) (0, 0) ((y 0).val + 1)).1 : ℝ) : EReal)

/-- The imaginary part of the same. -/
def statesIm (ar ai : ℕ → ℝ) (br bi : ℕ → ℕ → ℝ) : FVec Ideal S4096x2048 .f32 :=
  fun y => (((clin (ar (y 1).val) (ai (y 1).val) (br (y 1).val) (bi (y 1).val) (0, 0) ((y 0).val + 1)).2 : ℝ) : EReal)

/-- The index of each of the forward kernel's windows at a grid point: block column `t`, the
   imaginary parts eight block columns further on. -/
theorem index0_0 : ∀ t : Fin grid0.N, win0_0.index t = ![0, t.val] := by decide +kernel
theorem index0_1 : ∀ t : Fin grid0.N, win0_1.index t = ![0, 8 + t.val] := by decide +kernel
theorem index0_2 : ∀ t : Fin grid0.N, win0_2.index t = ![0, t.val] := by decide +kernel
theorem index0_3 : ∀ t : Fin grid0.N, win0_3.index t = ![0, 8 + t.val] := by decide +kernel
theorem index0_4 : ∀ t : Fin grid0.N, win0_4.index t = ![0, t.val] := by decide +kernel
theorem index0_5 : ∀ t : Fin grid0.N, win0_5.index t = ![0, t.val] := by decide +kernel

section Array

variable (V : (c : Dev nD) → (b : Ref sig .tc) → Buf (Elt Ideal) ((c : Thread nD τ).loc b)) (c : Dev nD)
  (ar ai : ℕ → ℝ) (br bi : ℕ → ℕ → ℝ)
  (hb : ∀ y : S4096x4096.Idx, V c main_v1 y = (((if (y 1).val < 2048 then br (y 1).val (y 0).val else bi ((y 1).val - 2048) (y 0).val) : ℝ) : EReal))
  (ha : ∀ y : S1x4096.Idx, V c main_v0 y = (((if (y 1).val < 2048 then ar (y 1).val else ai ((y 1).val - 2048)) : ℝ) : EReal))
include hb ha

/-- What each input window of the forward kernel holds at a grid point. -/
theorem iblk0_val (t : Fin cfg0.N) :
    (∀ y : S4096x256.Idx, iblk0 V c 0 t y = ((br (256 * t.val + (y 1).val) (y 0).val : ℝ) : EReal)) ∧
    (∀ y : S4096x256.Idx, iblk0 V c 1 t y = ((bi (256 * t.val + (y 1).val) (y 0).val : ℝ) : EReal)) ∧
    (∀ y : S1x256.Idx, iblk0 V c 2 t y = ((ar (256 * t.val + (y 1).val) : ℝ) : EReal)) ∧
    ∀ y : S1x256.Idx, iblk0 V c 3 t y = ((ai (256 * t.val + (y 1).val) : ℝ) : EReal) := by
  have ht : t.val < 8 := t.isLt
  refine ⟨fun y => ?_, fun y => ?_, fun y => ?_, fun y => ?_⟩
  · have hy : (y 1).val < 256 := (y 1).isLt
    blk_simp [iblk0]
    have e0 : ((win0_0.blk t).view.emb y 0).val = (y 0).val := by blk_simp [index0_0]
    have e1 : ((win0_0.blk t).view.emb y 1).val = 256 * t.val + (y 1).val := by blk_simp [index0_0]; simp; omega
    refine (hb _).trans ?_
    rw [e0, e1, if_pos (by omega)]
  · have hy : (y 1).val < 256 := (y 1).isLt
    blk_simp [iblk0]
    have e0 : ((win0_1.blk t).view.emb y 0).val = (y 0).val := by blk_simp [index0_1]
    have e1 : ((win0_1.blk t).view.emb y 1).val = 2048 + (256 * t.val + (y 1).val) := by blk_simp [index0_1]; simp; omega
    refine (hb _).trans ?_
    rw [e0, e1, if_neg (by omega), Nat.add_sub_cancel_left]
  · have hy : (y 1).val < 256 := (y 1).isLt
    blk_simp [iblk0]
    have e1 : ((win0_2.blk t).view.emb y 1).val = 256 * t.val + (y 1).val := by blk_simp [index0_2]; simp; omega
    refine (ha _).trans ?_
    rw [e1, if_pos (by omega)]
  · have hy : (y 1).val < 256 := (y 1).isLt
    blk_simp [iblk0]
    have e1 : ((win0_3.blk t).view.emb y 1).val = 2048 + (256 * t.val + (y 1).val) := by blk_simp [index0_3]; simp; omega
    refine (ha _).trans ?_
    rw [e1, if_neg (by omega), Nat.add_sub_cancel_left]

/-- The forward kernel leaves the arrays of states of the inputs and decays it is entered with. -/
theorem fwd_array_re : (dat0 V c).arrAt 4 cfg0.N = statesRe ar ai br bi := by
  refine (dat0 V c).arrAt_eq_of_covers 4 _ (by decide +kernel) fun t _ y => ?_
  blk_simp
  rw [after0_4]
  unfold outsAt0
  obtain ⟨i0, i1, i2, i3⟩ := iblk0_val V c ar ai br bi hb ha t
  dsimp only
  rw [(fwd_out _ _ _ _ _ _ _ _ _ _ _ _ _ _ _ _ _ _ (fun l => ar (256 * t.val + l)) (fun l => ai (256 * t.val + l))
    (fun l r => br (256 * t.val + l) r) (fun l r => bi (256 * t.val + l) r) i0 i1 i2 i3).1]
  unfold reBlock statesRe
  have e0 : ((win0_4.blk t).view.emb y 0).val = (y 0).val := by blk_simp [index0_4]
  have e1 : ((win0_4.blk t).view.emb y 1).val = 256 * t.val + (y 1).val := by blk_simp [index0_4]; simp; omega
  rw [e0, e1]

/-- The imaginary part of the same. -/
theorem fwd_array_im : (dat0 V c).arrAt 5 cfg0.N = statesIm ar ai br bi := by
  refine (dat0 V c).arrAt_eq_of_covers 5 _ (by decide +kernel) fun t _ y => ?_
  blk_simp
  rw [after0_5]
  unfold outsAt0
  obtain ⟨i0, i1, i2, i3⟩ := iblk0_val V c ar ai br bi hb ha t
  dsimp only
  rw [(fwd_out _ _ _ _ _ _ _ _ _ _ _ _ _ _ _ _ _ _ (fun l => ar (256 * t.val + l)) (fun l => ai (256 * t.val + l))
    (fun l r => br (256 * t.val + l) r) (fun l r => bi (256 * t.val + l) r) i0 i1 i2 i3).2]
  unfold imBlock statesIm
  have e0 : ((win0_5.blk t).view.emb y 0).val = (y 0).val := by blk_simp [index0_5]
  have e1 : ((win0_5.blk t).view.emb y 1).val = 256 * t.val + (y 1).val := by blk_simp [index0_5]; simp; omega
  rw [e0, e1]

end Array

end Cert.S5

end
-- ==== Proof.S5Bwd.lean ====
/- The complex reverse scan's kernel on one block of columns, and the arrays of gradients it leaves. -/
module

public import proofs.«01_k».proof.Proof.S5BwdTile
public import proofs.«01_k».proof.Proof.S5Fwd

@[expose] public section

set_option maxRecDepth 16384

noncomputable section

namespace Cert.S5

open Idealize.ShloMosaic Idealize.ShloMosaic.TcCoe Idealize.SL.Sem
open Cert.S5ScanIdeal S5ScanIdeal.Gen

/-- The recurrence of the input gradients of one column, downwards from the last row: after `n`
   steps, the gradient of the input of row `4096 - n`. -/
def rev (ar ai : ℝ) (gr gi : ℕ → ℝ) : ℕ → ℝ × ℝ := clin ar (-ai) (fun n => gr (4095 - n)) (fun n => gi (4095 - n)) (0, 0)

/-- What row `4096 - n` adds to the gradient of the decay: real part. -/
def termRe (ar ai : ℝ) (gr gi hr hi : ℕ → ℝ) (n : ℕ) : ℝ :=
  (rev ar ai gr gi n).1 * hr (4096 - n) + (rev ar ai gr gi n).2 * hi (4096 - n)

/-- The imaginary part of the same. -/
def termIm (ar ai : ℝ) (gr gi hr hi : ℕ → ℝ) (n : ℕ) : ℝ :=
  (rev ar ai gr gi n).2 * hr (4096 - n) - (rev ar ai gr gi n).1 * hi (4096 - n)

/-- Summing the rows of each residue first, then the eight residues, sums all rows. -/
theorem sum_residues (f : ℕ → ℝ) (K : ℕ) :
    ∑ j : Fin 8, ∑ k ∈ Finset.range K, f (8 * k + (8 - j.val)) = ∑ n ∈ Finset.range (8 * K), f (n + 1) := by
  induction K with
  | zero => simp
  | succ K ih =>
    have e : 8 * (K + 1) = 8 * K + 1 + 1 + 1 + 1 + 1 + 1 + 1 + 1 := by ring
    simp only [Finset.sum_range_succ, Finset.sum_add_distrib, ih, e]
    simp [Fin.sum_univ_eight]
    ring

section Bwd

variable (c : Dev nD) (i : grid1.Coords) (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (arg4 : Memref sig .tc .vmem S4096x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S4096x256 .f32) (harg7 : arg7.IsWhole)
  (arg8 : Memref sig .tc .vmem S4096x256 .f32) (harg8 : arg8.IsWhole)
  (arg9 : Memref sig .tc .vmem S1x256 .f32) (harg9 : arg9.IsWhole)
  (arg10 : Memref sig .tc .vmem S1x256 .f32) (harg10 : arg10.IsWhole)
  (x0 x1 x2 x3 : Vec Ideal S4096x256 .f32) (x4 x5 : Vec Ideal S1x256 .f32) (ar ai : ℕ → ℝ) (γr γi χr χi : ℕ → ℕ → ℝ)

/-- The block of input gradients. -/
def gradReBlock (ar ai : ℕ → ℝ) (γr γi : ℕ → ℕ → ℝ) : Vec Ideal S4096x256 .f32 :=
  fun y => (((rev (ar (y 1).val) (ai (y 1).val) (γr (y 1).val) (γi (y 1).val) (4096 - (y 0).val)).1 : ℝ) : EReal)

/-- The imaginary part of the same. -/
def gradImBlock (ar ai : ℕ → ℝ) (γr γi : ℕ → ℕ → ℝ) : Vec Ideal S4096x256 .f32 :=
  fun y => (((rev (ar (y 1).val) (ai (y 1).val) (γr (y 1).val) (γi (y 1).val) (4096 - (y 0).val)).2 : ℝ) : EReal)

/-- The row of decay gradients of a block. -/
def decayReBlock (ar ai : ℕ → ℝ) (γr γi χr χi : ℕ → ℕ → ℝ) : Vec Ideal S1x256 .f32 :=
  fun y => ((∑ n ∈ Finset.range 4096, termRe (ar (y 1).val) (ai (y 1).val) (γr (y 1).val) (γi (y 1).val) (χr (y 1).val) (χi (y 1).val) (n + 1) : ℝ) : EReal)

/-- The imaginary part of the same. -/
def decayImBlock (ar ai : ℕ → ℝ) (γr γi χr χi : ℕ → ℕ → ℝ) : Vec Ideal S1x256 .f32 :=
  fun y => ((∑ n ∈ Finset.range 4096, termIm (ar (y 1).val) (ai (y 1).val) (γr (y 1).val) (γi (y 1).val) (χr (y 1).val) (χi (y 1).val) (n + 1) : ℝ) : EReal)

/-- The row before each tile, in closed form: 0 for the last trip, whose tile starts the array. -/
theorem k1_off2_closed : ∀ k : Fin k1_t1_loop.trips, k1_off2 k = ![4087 - 8 * k.val, 0] := by decide +kernel

/-- The state before each trip: the rows carried are the recurrence so far, the two running tiles hold
   the sums so far of the decay gradient's terms, and every tile written agrees with the blocks of gradients. -/
theorem bwd_state (v1 v5 v8 v11 v14 v17 v20 v23 : FVec Ideal S1x256 .f32) (v48 : IVec S8x256 32)
    (v95 v100 : FVec Ideal S8x256 .f32) (c5 : BitVec 32)
    (e1 : ∀ l : Fin 256, v1 (ix2 0 l) = (((cpow (ar l.val) (-ai l.val) 0).1 : ℝ) : EReal))
    (e5 : ∀ l : Fin 256, v5 (ix2 0 l) = (((cpow (ar l.val) (-ai l.val) 0).2 : ℝ) : EReal))
    (e8 : ∀ l : Fin 256, v8 (ix2 0 l) = (((cpow (ar l.val) (-ai l.val) 1).1 : ℝ) : EReal))
    (e11 : ∀ l : Fin 256, v11 (ix2 0 l) = (((cpow (ar l.val) (-ai l.val) 1).2 : ℝ) : EReal))
    (e20 : ∀ l : Fin 256, v20 (ix2 0 l) = (((cpow (ar l.val) (-ai l.val) 3).1 : ℝ) : EReal))
    (e23 : ∀ l : Fin 256, v23 (ix2 0 l) = (((cpow (ar l.val) (-ai l.val) 3).2 : ℝ) : EReal))
    (eP : ∀ (l : Fin 256) (j : Fin 8), k1_pay38 v1 v8 v14 v48 v95 c5 (ix2 j l) = (((cpow (ar l.val) (-ai l.val) (7 - j.val)).1 : ℝ) : EReal))
    (eQ : ∀ (l : Fin 256) (j : Fin 8), k1_pay39 v5 v11 v17 v48 v100 (ix2 j l) = (((cpow (ar l.val) (-ai l.val) (7 - j.val)).2 : ℝ) : EReal))
    (h0 : ∀ y, x0 y = ((γr (y 1).val (y 0).val : ℝ) : EReal))
    (h1 : ∀ y, x1 y = ((γi (y 1).val (y 0).val : ℝ) : EReal))
    (h2 : ∀ y, x2 y = ((χr (y 1).val ((y 0).val + 1) : ℝ) : EReal)) (hχr : ∀ l, χr l 0 = 0)
    (h3 : ∀ y, x3 y = ((χi (y 1).val ((y 0).val + 1) : ℝ) : EReal)) (hχi : ∀ l, χi l 0 = 0) (k : ℕ) (hk : k ≤ 512) :
    let s := st_k1_t1 Variants.none c none i arg1 harg1 arg2 harg2 arg3 harg3 arg4 harg4 arg5 harg5 arg6 harg6 arg7 harg7 arg8 harg8 arg9 harg9 arg10 harg10
      v1 v5 v8 v11 v14 v17 v20 v23 v48 v95 v100 c5 (harg1.unread x0) (harg2.unread x1) (harg3.unread x2) (harg4.unread x3)
      (k1_pay40 (F := Ideal), k1_pay40 (F := Ideal), k1_pay41 (F := Ideal), k1_pay41 (F := Ideal)) k
    (∀ l : Fin 256, s.1.1 (ix2 0 l) = (((rev (ar l.val) (ai l.val) (γr l.val) (γi l.val) (8 * k)).1 : ℝ) : EReal) ∧ s.1.2.1 (ix2 0 l) = (((rev (ar l.val) (ai l.val) (γr l.val) (γi l.val) (8 * k)).2 : ℝ) : EReal)) ∧
      (∀ (l : Fin 256) (j : Fin 8),
        s.1.2.2.1 (ix2 j l) = ((∑ q ∈ Finset.range k, termRe (ar l.val) (ai l.val) (γr l.val) (γi l.val) (χr l.val) (χi l.val) (8 * q + (8 - j.val)) : ℝ) : EReal) ∧
        s.1.2.2.2 (ix2 j l) = ((∑ q ∈ Finset.range k, termIm (ar l.val) (ai l.val) (γr l.val) (γi l.val) (χr l.val) (χi l.val) (8 * q + (8 - j.val)) : ℝ) : EReal)) ∧
      (∀ p ∈ s.2.1, ∀ x, p.2 x = gradReBlock ar ai γr γi (p.1.emb x)) ∧
      ∀ p ∈ s.2.2, ∀ x, p.2 x = gradImBlock ar ai γr γi (p.1.emb x) := by
  induction k with
  | zero =>
    refine ⟨fun l => ?_, fun l j => ?_, fun p hp => absurd hp List.not_mem_nil, fun p hp => absurd hp List.not_mem_nil⟩
    · have z : k1_pay40 (F := Ideal) (ix2 0 l) = ((0 : ℝ) : EReal) := by
        pointwise [k1_pay40]
        simp
      exact ⟨z, z⟩
    · have z : k1_pay41 (F := Ideal) (ix2 j l) = ((0 : ℝ) : EReal) := by
        pointwise [k1_pay41]
        simp
      exact ⟨z, z⟩
  | succ k ih =>
    have htr : k1_t1_loop.trips = 512 := by decide +kernel
    have hkt : k < k1_t1_loop.trips := by omega
    obtain ⟨ihv, iha, ihp, ihq⟩ := ih (by omega)
    have e := st_k1_t1_succ (F := Ideal) Variants.none c none i arg1 harg1 arg2 harg2 arg3 harg3 arg4 harg4 arg5 harg5 arg6 harg6 arg7 harg7 arg8 harg8 arg9 harg9 arg10 harg10
      v1 v5 v8 v11 v14 v17 v20 v23 v48 v95 v100 c5 (harg1.unread x0) (harg2.unread x1) (harg3.unread x2) (harg4.unread x3)
      (k1_pay40 (F := Ideal), k1_pay40 (F := Ideal), k1_pay41 (F := Ideal), k1_pay41 (F := Ideal)) ⟨k, hkt⟩
    dsimp only at e ⊢
    rw [e]
    generalize st_k1_t1 Variants.none c none i arg1 harg1 arg2 harg2 arg3 harg3 arg4 harg4 arg5 harg5 arg6 harg6 arg7 harg7 arg8 harg8 arg9 harg9 arg10 harg10
      v1 v5 v8 v11 v14 v17 v20 v23 v48 v95 v100 c5 (harg1.unread x0) (harg2.unread x1) (harg3.unread x2) (harg4.unread x3)
      (k1_pay40 (F := Ideal), k1_pay40 (F := Ideal), k1_pay41 (F := Ideal), k1_pay41 (F := Ideal)) k = s at ihv iha ihp ihq ⊢
    clear e ih
    unfold tripR_k1_t1 trip_k1_t1
    dsimp only
    unfold trip_k1_t1.sl.r_8 trip_k1_t1.sl.r_9 trip_k1_t1.sl.r_10
    unfold trip_k1_t1.sl.r_4 trip_k1_t1.sl.r_5 trip_k1_t1.sl.r_6 trip_k1_t1.sl.r_7
    unfold trip_k1_t1.sl.r trip_k1_t1.sl.r_1 trip_k1_t1.sl.r_2 trip_k1_t1.sl.r_3
    dsimp only
    simp only [View.readAt_eq_ld, harg1.read_unread, harg2.read_unread, harg3.read_unread, harg4.read_unread]
    have tile : ∀ (l : Fin 256) (j : Fin 8),
        bwdRe v1 v5 v8 v11 v20 v23 (k1_pay38 v1 v8 v14 v48 v95 c5) (k1_pay39 v5 v11 v17 v48 v100)
            (View.ld x0 (Rect.unit (k1_off1 ⟨k, hkt⟩) S8x256.size (k1_off1_inb ⟨k, hkt⟩)))
            (View.ld x1 (Rect.unit (k1_off1 ⟨k, hkt⟩) S8x256.size (k1_off1_inb ⟨k, hkt⟩))) s.1.1 s.1.2.1 (ix2 j l)
          = (((rev (ar l.val) (ai l.val) (γr l.val) (γi l.val) (8 * k + (8 - j.val))).1 : ℝ) : EReal) ∧
        bwdIm v1 v5 v8 v11 v20 v23 (k1_pay38 v1 v8 v14 v48 v95 c5) (k1_pay39 v5 v11 v17 v48 v100)
            (View.ld x0 (Rect.unit (k1_off1 ⟨k, hkt⟩) S8x256.size (k1_off1_inb ⟨k, hkt⟩)))
            (View.ld x1 (Rect.unit (k1_off1 ⟨k, hkt⟩) S8x256.size (k1_off1_inb ⟨k, hkt⟩))) s.1.1 s.1.2.1 (ix2 j l)
          = (((rev (ar l.val) (ai l.val) (γr l.val) (γi l.val) (8 * k + (8 - j.val))).2 : ℝ) : EReal) := by
      intro l j
      have ec : (rev (ar l.val) (ai l.val) (γr l.val) (γi l.val) (8 * k + (8 - j.val))) = clin (ar l.val) (-ai l.val) (fun n => γr l.val (4088 - 8 * k + (7 - n)))
          (fun n => γi l.val (4088 - 8 * k + (7 - n))) (rev (ar l.val) (ai l.val) (γr l.val) (γi l.val) (8 * k)) (8 - j.val) := by
        unfold rev
        rw [← clin_add]
        refine clin_congr _ _ (fun n hn => ?_) (fun n hn => ?_)
        · congr 1; omega
        · congr 1; omega
      rw [ec]
      exact bwd_tile _ _ _ _ _ _ _ _ _ _ _ _ l (ar l.val) (-ai l.val) (fun n => γr l.val (4088 - 8 * k + n))
        (fun n => γi l.val (4088 - 8 * k + n)) (rev (ar l.val) (ai l.val) (γr l.val) (γi l.val) (8 * k)) (e1 l) (e5 l) (e8 l) (e11 l) (e20 l) (e23 l) (eP l) (eQ l)
        (fun j => rect_val x0 γr h0 (k1_off1_eq ⟨k, hkt⟩) S8x256.size (k1_off1_inb ⟨k, hkt⟩) (ix2 j l))
        (fun j => rect_val x1 γi h1 (k1_off1_eq ⟨k, hkt⟩) S8x256.size (k1_off1_inb ⟨k, hkt⟩) (ix2 j l))
        (ihv l).1 (ihv l).2 j
    have prevR : ∀ (l : Fin 256) (j : Fin 8),
        k1_pay13 (F := Ideal) (Scalar.muli (Scalar.subi 511#32 (Scf.iv 0#32 1#32 (⟨k, hkt⟩ : Fin k1_t1_loop.trips))) 8#32)
          (View.ld x2 (Rect.unit (k1_off1 ⟨k, hkt⟩) S8x256.size (k1_off1_inb ⟨k, hkt⟩)))
          (View.ld x2 (Rect.unit (k1_off2 ⟨k, hkt⟩) S1x256.size (k1_off2_inb ⟨k, hkt⟩))) (ix2 j l)
          = ((χr l.val (4088 - 8 * k + j.val) : ℝ) : EReal) := by
      intro l j
      refine (prev_tile ⟨k, hkt⟩ _ _ l (fun j => χr l.val (4088 - 8 * k + j)) (fun j => ?_) ?_ j).1
      · exact rect_val x2 (fun l r => χr l (r + 1)) h2 (k1_off1_eq ⟨k, hkt⟩) S8x256.size (k1_off1_inb ⟨k, hkt⟩) (ix2 j l)
      · dsimp only
        by_cases h : k = 511
        · subst h
          rw [if_pos rfl, EReal.coe_zero, mul_zero, hχr, EReal.coe_zero]
        · rw [if_neg h, EReal.coe_one, mul_one]
          refine (rect_val x2 (fun l r => χr l (r + 1)) h2 (k1_off2_closed ⟨k, hkt⟩) S1x256.size (k1_off2_inb ⟨k, hkt⟩) (ix2 0 l)).trans ?_
          show ((χr l.val (4087 - 8 * k + 0 + 1) : ℝ) : EReal) = _
          congr 2; omega
    have prevI : ∀ (l : Fin 256) (j : Fin 8),
        k1_pay14 (F := Ideal) (Scalar.muli (Scalar.subi 511#32 (Scf.iv 0#32 1#32 (⟨k, hkt⟩ : Fin k1_t1_loop.trips))) 8#32)
          (View.ld x3 (Rect.unit (k1_off1 ⟨k, hkt⟩) S8x256.size (k1_off1_inb ⟨k, hkt⟩)))
          (View.ld x3 (Rect.unit (k1_off2 ⟨k, hkt⟩) S1x256.size (k1_off2_inb ⟨k, hkt⟩))) (ix2 j l)
          = ((χi l.val (4088 - 8 * k + j.val) : ℝ) : EReal) := by
      intro l j
      refine (prev_tile ⟨k, hkt⟩ _ _ l (fun j => χi l.val (4088 - 8 * k + j)) (fun j => ?_) ?_ j).2
      · exact rect_val x3 (fun l r => χi l (r + 1)) h3 (k1_off1_eq ⟨k, hkt⟩) S8x256.size (k1_off1_inb ⟨k, hkt⟩) (ix2 j l)
      · dsimp only
        by_cases h : k = 511
        · subst h
          rw [if_pos rfl, EReal.coe_zero, mul_zero, hχi, EReal.coe_zero]
        · rw [if_neg h, EReal.coe_one, mul_one]
          refine (rect_val x3 (fun l r => χi l (r + 1)) h3 (k1_off2_closed ⟨k, hkt⟩) S1x256.size (k1_off2_inb ⟨k, hkt⟩) (ix2 0 l)).trans ?_
          show ((χi l.val (4087 - 8 * k + 0 + 1) : ℝ) : EReal) = _
          congr 2; omega
    refine ⟨fun l => ⟨?_, ?_⟩, fun l j => ?_, fun p hp => ?_, fun p hp => ?_⟩
    · exact (bwd_carry _ l).1.trans (tile l 0).1
    · exact (bwd_carry _ l).2.trans (tile l 0).2
    · have ea : 4096 - (8 * k + (8 - j.val)) = 4088 - 8 * k + j.val := by have := j.isLt; omega
      have acc := fun A a hA => acc_tile ⟨k, hkt⟩ A _ _ _ _ _ _ j l a _ _ _ _ hA (tile l j).1 (tile l j).2 (prevR l j) (prevI l j)
      rw [Finset.sum_range_succ, Finset.sum_range_succ, termRe, termIm, ea]
      exact ⟨(acc _ _ (iha l j).1).1, (acc _ _ (iha l j).2).2⟩
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (tile l j).1.trans ?_
        unfold gradReBlock
        rw [rect_row (k1_off1_eq ⟨k, hkt⟩), rect_col (k1_off1_eq ⟨k, hkt⟩)]
        show (((rev (ar l.val) (ai l.val) (γr l.val) (γi l.val) _).1 : ℝ) : EReal) = (((rev (ar l.val) (ai l.val) (γr l.val) (γi l.val) (4096 - (4088 - 8 * k + j.val))).1 : ℝ) : EReal)
        congr 3; omega
      · exact ihp p hp
    · rcases List.mem_append.mp hp with hp | hp
      · rw [List.mem_singleton] at hp
        subst hp
        intro x
        obtain ⟨j, l, rfl⟩ : ∃ (j : Fin 8) (l : Fin 256), x = ix2 j l := ⟨x 0, x 1, eq_ix2 x⟩
        refine (tile l j).2.trans ?_
        unfold gradImBlock
        rw [rect_row (k1_off1_eq ⟨k, hkt⟩), rect_col (k1_off1_eq ⟨k, hkt⟩)]
        show (((rev (ar l.val) (ai l.val) (γr l.val) (γi l.val) _).2 : ℝ) : EReal) = (((rev (ar l.val) (ai l.val) (γr l.val) (γi l.val) (4096 - (4088 - 8 * k + j.val))).2 : ℝ) : EReal)
        congr 3; omega
      · exact ihq p hp

/-- The rows of decay gradients sum the eight rows of the running tiles. -/
theorem acc_sum (A : FVec Ideal S8x256 .f32) (l : Fin 256) (f : ℕ → ℝ)
    (hA : ∀ j : Fin 8, A (ix2 j l) = ((∑ q ∈ Finset.range 512, f (8 * q + (8 - j.val)) : ℝ) : EReal)) :
    k1_pay44 A (ix2 0 l) = ((∑ n ∈ Finset.range 4096, f (n + 1) : ℝ) : EReal) ∧
    k1_pay45 A (ix2 0 l) = ((∑ n ∈ Finset.range 4096, f (n + 1) : ℝ) : EReal) := by
  have e : ∑ j : Fin 8, A (ix2 j l) = ((∑ n ∈ Finset.range 4096, f (n + 1) : ℝ) : EReal) := by
    rw [← sum_residues f 512]
    simp only [hA, Fin.sum_univ_eight, EReal.coe_add]
  constructor
  · pointwise [k1_pay44]
    exact e
  · pointwise [k1_pay45]
    exact e

/-- The blocks the reverse kernel leaves are the blocks of gradients. -/
theorem bwd_out (h0 : ∀ y, x0 y = ((γr (y 1).val (y 0).val : ℝ) : EReal))
    (h1 : ∀ y, x1 y = ((γi (y 1).val (y 0).val : ℝ) : EReal))
    (h2 : ∀ y, x2 y = ((χr (y 1).val ((y 0).val + 1) : ℝ) : EReal)) (hχr : ∀ l, χr l 0 = 0)
    (h3 : ∀ y, x3 y = ((χi (y 1).val ((y 0).val + 1) : ℝ) : EReal)) (hχi : ∀ l, χi l 0 = 0)
    (h4 : ∀ y, x4 y = ((ar (y 1).val : ℝ) : EReal)) (h5 : ∀ y, x5 y = ((ai (y 1).val : ℝ) : EReal)) :
    out1_A_6 c i arg1 harg1 arg2 harg2 arg3 harg3 arg4 harg4 arg5 harg5 arg6 harg6 arg7 harg7 arg8 harg8 arg9 harg9 arg10 harg10 x0 x1 x2 x3 x4 x5 = gradReBlock ar ai γr γi ∧
    out1_A_7 c i arg1 harg1 arg2 harg2 arg3 harg3 arg4 harg4 arg5 harg5 arg6 harg6 arg7 harg7 arg8 harg8 arg9 harg9 arg10 harg10 x0 x1 x2 x3 x4 x5 = gradImBlock ar ai γr γi ∧
    out1_A_8 c i arg1 harg1 arg2 harg2 arg3 harg3 arg4 harg4 arg5 harg5 arg6 harg6 arg7 harg7 arg8 harg8 arg9 harg9 arg10 harg10 x0 x1 x2 x3 x4 x5 = decayReBlock ar ai γr γi χr χi ∧
    out1_A_9 c i arg1 harg1 arg2 harg2 arg3 harg3 arg4 harg4 arg5 harg5 arg6 harg6 arg7 harg7 arg8 harg8 arg9 harg9 arg10 harg10 x0 x1 x2 x3 x4 x5 = decayImBlock ar ai γr γi χr χi := by
  have key : (∀ p ∈ (kernelRun1_A c i arg1 harg1 arg2 harg2 arg3 harg3 arg4 harg4 arg5 harg5 arg6 harg6 arg7 harg7 arg8 harg8 arg9 harg9 arg10 harg10 x0 x1 x2 x3 x4 x5).1, ∀ x, p.2 x = gradReBlock ar ai γr γi (p.1.emb x)) ∧
      (∀ p ∈ (kernelRun1_A c i arg1 harg1 arg2 harg2 arg3 harg3 arg4 harg4 arg5 harg5 arg6 harg6 arg7 harg7 arg8 harg8 arg9 harg9 arg10 harg10 x0 x1 x2 x3 x4 x5).2.1, ∀ x, p.2 x = gradImBlock ar ai γr γi (p.1.emb x)) ∧
      (∀ p ∈ (kernelRun1_A c i arg1 harg1 arg2 harg2 arg3 harg3 arg4 harg4 arg5 harg5 arg6 harg6 arg7 harg7 arg8 harg8 arg9 harg9 arg10 harg10 x0 x1 x2 x3 x4 x5).2.2.1, ∀ x, p.2 x = decayReBlock ar ai γr γi χr χi (p.1.emb x)) ∧
      ∀ p ∈ (kernelRun1_A c i arg1 harg1 arg2 harg2 arg3 harg3 arg4 harg4 arg5 harg5 arg6 harg6 arg7 harg7 arg8 harg8 arg9 harg9 arg10 harg10 x0 x1 x2 x3 x4 x5).2.2.2.1, ∀ x, p.2 x = decayImBlock ar ai γr γi χr χi (p.1.emb x) := by
    unfold kernelRun1_A
    dsimp only
    have h95 : kernelRun1_A.sl.v95 c arg5 harg5 arg6 harg6 x4 x5 = k1_pay36 (F := Ideal) (k1_pay24 (View.ld x4 (Rect.unit ![0, 0] ![1, 256] inb_S1x256_S1x256_0_0)) (View.ld x5 (Rect.unit ![0, 0] ![1, 256] inb_S1x256_S1x256_0_0))) (k1_pay26 (View.ld x4 (Rect.unit ![0, 0] ![1, 256] inb_S1x256_S1x256_0_0)) (View.ld x5 (Rect.unit ![0, 0] ![1, 256] inb_S1x256_S1x256_0_0))) (k1_pay28 (View.ld x4 (Rect.unit ![0, 0] ![1, 256] inb_S1x256_S1x256_0_0)) (View.ld x5 (Rect.unit ![0, 0] ![1, 256] inb_S1x256_S1x256_0_0)))
        (k1_pay30 (View.ld x4 (Rect.unit ![0, 0] ![1, 256] inb_S1x256_S1x256_0_0)) (View.ld x5 (Rect.unit ![0, 0] ![1, 256] inb_S1x256_S1x256_0_0))) (k1_pay32 (View.ld x4 (Rect.unit ![0, 0] ![1, 256] inb_S1x256_S1x256_0_0)) (View.ld x5 (Rect.unit ![0, 0] ![1, 256] inb_S1x256_S1x256_0_0))) (iota .tc S8x256 32 [0] iota_S8x256_d0_w32) (k1_pay34 (F := Ideal)) 0#32 := by
      simp only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.v48, kernelRun1_A.sl.v51, kernelRun1_A.sl.v53, kernelRun1_A.sl.v54, kernelRun1_A.sl.v55, kernelRun1_A.sl.v58, kernelRun1_A.sl.v59, kernelRun1_A.sl.v60, kernelRun1_A.sl.v61, kernelRun1_A.sl.v63, kernelRun1_A.sl.v64, kernelRun1_A.sl.v65, kernelRun1_A.sl.v68, kernelRun1_A.sl.v69, kernelRun1_A.sl.v70, kernelRun1_A.sl.v71, kernelRun1_A.sl.v73, kernelRun1_A.sl.v74, kernelRun1_A.sl.v75, kernelRun1_A.sl.v78, kernelRun1_A.sl.v79, kernelRun1_A.sl.v80, kernelRun1_A.sl.v81, kernelRun1_A.sl.v83, kernelRun1_A.sl.v84, kernelRun1_A.sl.v85, kernelRun1_A.sl.v88, kernelRun1_A.sl.v89, kernelRun1_A.sl.v90, kernelRun1_A.sl.v91, kernelRun1_A.sl.v93, kernelRun1_A.sl.v94, kernelRun1_A.sl.v95, kernelRun1_A.sl.v98, kernelRun1_A.sl.v99, kernelRun1_A.sl.v100, View.readAt_eq_ld, harg5.read_unread, harg6.read_unread, k1_pay36]
    have h100 : kernelRun1_A.sl.v100 c arg5 harg5 arg6 harg6 x4 x5 = k1_pay37 (F := Ideal) (k1_pay25 (View.ld x4 (Rect.unit ![0, 0] ![1, 256] inb_S1x256_S1x256_0_0)) (View.ld x5 (Rect.unit ![0, 0] ![1, 256] inb_S1x256_S1x256_0_0))) (k1_pay27 (View.ld x4 (Rect.unit ![0, 0] ![1, 256] inb_S1x256_S1x256_0_0)) (View.ld x5 (Rect.unit ![0, 0] ![1, 256] inb_S1x256_S1x256_0_0))) (k1_pay29 (View.ld x4 (Rect.unit ![0, 0] ![1, 256] inb_S1x256_S1x256_0_0)) (View.ld x5 (Rect.unit ![0, 0] ![1, 256] inb_S1x256_S1x256_0_0)))
        (k1_pay31 (View.ld x4 (Rect.unit ![0, 0] ![1, 256] inb_S1x256_S1x256_0_0)) (View.ld x5 (Rect.unit ![0, 0] ![1, 256] inb_S1x256_S1x256_0_0))) (k1_pay33 (View.ld x4 (Rect.unit ![0, 0] ![1, 256] inb_S1x256_S1x256_0_0)) (View.ld x5 (Rect.unit ![0, 0] ![1, 256] inb_S1x256_S1x256_0_0))) (iota .tc S8x256 32 [0] iota_S8x256_d0_w32) (k1_pay35 (F := Ideal)) := by
      simp only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.v48, kernelRun1_A.sl.v51, kernelRun1_A.sl.v53, kernelRun1_A.sl.v54, kernelRun1_A.sl.v55, kernelRun1_A.sl.v58, kernelRun1_A.sl.v59, kernelRun1_A.sl.v60, kernelRun1_A.sl.v61, kernelRun1_A.sl.v63, kernelRun1_A.sl.v64, kernelRun1_A.sl.v65, kernelRun1_A.sl.v68, kernelRun1_A.sl.v69, kernelRun1_A.sl.v70, kernelRun1_A.sl.v71, kernelRun1_A.sl.v73, kernelRun1_A.sl.v74, kernelRun1_A.sl.v75, kernelRun1_A.sl.v78, kernelRun1_A.sl.v79, kernelRun1_A.sl.v80, kernelRun1_A.sl.v81, kernelRun1_A.sl.v83, kernelRun1_A.sl.v84, kernelRun1_A.sl.v85, kernelRun1_A.sl.v88, kernelRun1_A.sl.v89, kernelRun1_A.sl.v90, kernelRun1_A.sl.v91, kernelRun1_A.sl.v93, kernelRun1_A.sl.v94, kernelRun1_A.sl.v95, kernelRun1_A.sl.v98, kernelRun1_A.sl.v99, kernelRun1_A.sl.v100, View.readAt_eq_ld, harg5.read_unread, harg6.read_unread, k1_pay37]
    simp only [h95, h100, kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.v48, View.readAt_eq_ld, harg5.read_unread, harg6.read_unread]
    have e4 : ∀ l : Fin 256, View.ld x4 (Rect.unit ![0, 0] ![1, 256] inb_S1x256_S1x256_0_0) (ix2 0 l) = ((ar l.val : ℝ) : EReal) :=
      fun l => rect_val x4 (fun l _ => ar l) h4 (o := 0) rfl S1x256.size inb_S1x256_S1x256_0_0 (ix2 0 l)
    have e5 : ∀ l : Fin 256, View.ld x5 (Rect.unit ![0, 0] ![1, 256] inb_S1x256_S1x256_0_0) (ix2 0 l) = ((ai l.val : ℝ) : EReal) :=
      fun l => rect_val x5 (fun l _ => ai l) h5 (o := 0) rfl S1x256.size inb_S1x256_S1x256_0_0 (ix2 0 l)
    have key := bwd_state c i arg1 harg1 arg2 harg2 arg3 harg3 arg4 harg4 arg5 harg5 arg6 harg6 arg7 harg7 arg8 harg8 arg9 harg9 arg10 harg10 x0 x1 x2 x3 ar ai γr γi χr χi _ _ _ _ _ _ _ _ _ _ _ _
      (fun l => (bwd_pow0 _ _ l _ _ (e4 l) (e5 l)).1) (fun l => (bwd_pow0 _ _ l _ _ (e4 l) (e5 l)).2)
      (fun l => (bwd_pow1 _ _ l _ _ (e4 l) (e5 l)).1) (fun l => (bwd_pow1 _ _ l _ _ (e4 l) (e5 l)).2)
      (fun l => (bwd_pow3 _ _ l _ _ (e4 l) (e5 l)).1) (fun l => (bwd_pow3 _ _ l _ _ (e4 l) (e5 l)).2)
      (fun l j => (bwd_powers _ _ l _ _ (e4 l) (e5 l) j).1) (fun l j => (bwd_powers _ _ l _ _ (e4 l) (e5 l) j).2)
      h0 h1 h2 hχr h3 hχi 512 le_rfl
    have htr : Scf.trips (0#32) (Scalar.addi 0#32 512#32) 1#32 = 512 := by decide +kernel
    rw [htr]
    refine ⟨key.2.2.1, key.2.2.2, fun p hp x => ?_, fun p hp x => ?_⟩
    · rw [List.mem_singleton] at hp
      subst hp
      obtain ⟨l, rfl⟩ : ∃ l : Fin 256, x = ix2 0 l := ⟨x 1, by rw [eq_ix2 x]; congr 1; exact Fin.eq_zero _⟩
      refine ((acc_sum _ l _ (fun j => (key.2.1 l j).1)).1).trans ?_
      unfold decayReBlock
      rw [rect_col (o := 0) rfl]
      rfl
    · rw [List.mem_singleton] at hp
      subst hp
      obtain ⟨l, rfl⟩ : ∃ l : Fin 256, x = ix2 0 l := ⟨x 1, by rw [eq_ix2 x]; congr 1; exact Fin.eq_zero _⟩
      refine ((acc_sum _ l _ (fun j => (key.2.1 l j).2)).2).trans ?_
      unfold decayImBlock
      rw [rect_col (o := 0) rfl]
      rfl
  refine ⟨?_, ?_, ?_, ?_⟩
  · funext y
    unfold out1_A_6
    exact View.read_writes_apply_of_pieces _ _ (gradReBlock ar ai γr γi) _ key.1 y
      (cover1_A_6 c i arg1 harg1 arg2 harg2 arg3 harg3 arg4 harg4 arg5 harg5 arg6 harg6 arg7 harg7 arg8 harg8 arg9 harg9 arg10 harg10 x0 x1 x2 x3 x4 x5 y)
  · funext y
    unfold out1_A_7
    exact View.read_writes_apply_of_pieces _ _ (gradImBlock ar ai γr γi) _ key.2.1 y
      (cover1_A_7 c i arg1 harg1 arg2 harg2 arg3 harg3 arg4 harg4 arg5 harg5 arg6 harg6 arg7 harg7 arg8 harg8 arg9 harg9 arg10 harg10 x0 x1 x2 x3 x4 x5 y)
  · funext y
    unfold out1_A_8
    exact View.read_writes_apply_of_pieces _ _ (decayReBlock ar ai γr γi χr χi) _ key.2.2.1 y
      (cover1_A_8 c i arg1 harg1 arg2 harg2 arg3 harg3 arg4 harg4 arg5 harg5 arg6 harg6 arg7 harg7 arg8 harg8 arg9 harg9 arg10 harg10 x0 x1 x2 x3 x4 x5 y)
  · funext y
    unfold out1_A_9
    exact View.read_writes_apply_of_pieces _ _ (decayImBlock ar ai γr γi χr χi) _ key.2.2.2 y
      (cover1_A_9 c i arg1 harg1 arg2 harg2 arg3 harg3 arg4 harg4 arg5 harg5 arg6 harg6 arg7 harg7 arg8 harg8 arg9 harg9 arg10 harg10 x0 x1 x2 x3 x4 x5 y)

end Bwd

end Cert.S5

end
-- ==== Proof.S5KernelRun.lean ====
/- The arrays the complex reverse kernel leaves, and a run of the whole program: what its results hold. -/
module

public import proofs.«01_k».proof.Proof.S5Bwd

@[expose] public section

set_option maxRecDepth 16384

noncomputable section

namespace Cert.S5

open Idealize.ShloMosaic Idealize.ShloMosaic.TcCoe Idealize.SL.Sem Idealize.ShloMosaic.Tactic
open Idealize.SL Idealize.SL.RA Idealize.SL.BI
open Idealize.ShloMosaic.Rounds
open scoped Idealize.SL.BI
open Idealize.SL.BI.BIBase Idealize.SL.BI.Laws Idealize.SL.ProofMode
open Cert.S5ScanIdeal S5ScanIdeal.Gen

/-- The array of input gradients: real part. -/
def gradRe (ar ai : ℕ → ℝ) (gr gi : ℕ → ℕ → ℝ) : FVec Ideal S4096x2048 .f32 :=
  fun y => (((rev (ar (y 1).val) (ai (y 1).val) (gr (y 1).val) (gi (y 1).val) (4096 - (y 0).val)).1 : ℝ) : EReal)

/-- The array of input gradients: imaginary part. -/
def gradIm (ar ai : ℕ → ℝ) (gr gi : ℕ → ℕ → ℝ) : FVec Ideal S4096x2048 .f32 :=
  fun y => (((rev (ar (y 1).val) (ai (y 1).val) (gr (y 1).val) (gi (y 1).val) (4096 - (y 0).val)).2 : ℝ) : EReal)

/-- The row of decay gradients: real part. -/
def decayRe (ar ai : ℕ → ℝ) (gr gi hr hi : ℕ → ℕ → ℝ) : FVec Ideal S1x2048 .f32 :=
  fun y => ((∑ n ∈ Finset.range 4096, termRe (ar (y 1).val) (ai (y 1).val) (gr (y 1).val) (gi (y 1).val) (hr (y 1).val) (hi (y 1).val) (n + 1) : ℝ) : EReal)

/-- The row of decay gradients: imaginary part. -/
def decayIm (ar ai : ℕ → ℝ) (gr gi hr hi : ℕ → ℕ → ℝ) : FVec Ideal S1x2048 .f32 :=
  fun y => ((∑ n ∈ Finset.range 4096, termIm (ar (y 1).val) (ai (y 1).val) (gr (y 1).val) (gi (y 1).val) (hr (y 1).val) (hi (y 1).val) (n + 1) : ℝ) : EReal)

/-- The index of each of the reverse kernel's windows at a grid point: block column `t`, the imaginary
   part of the decay eight block columns further on. -/
theorem index1_0 : ∀ t : Fin grid1.N, win1_0.index t = ![0, t.val] := by decide +kernel
theorem index1_1 : ∀ t : Fin grid1.N, win1_1.index t = ![0, t.val] := by decide +kernel
theorem index1_2 : ∀ t : Fin grid1.N, win1_2.index t = ![0, t.val] := by decide +kernel
theorem index1_3 : ∀ t : Fin grid1.N, win1_3.index t = ![0, t.val] := by decide +kernel
theorem index1_4 : ∀ t : Fin grid1.N, win1_4.index t = ![0, t.val] := by decide +kernel
theorem index1_5 : ∀ t : Fin grid1.N, win1_5.index t = ![0, 8 + t.val] := by decide +kernel
theorem index1_6 : ∀ t : Fin grid1.N, win1_6.index t = ![0, t.val] := by decide +kernel
theorem index1_7 : ∀ t : Fin grid1.N, win1_7.index t = ![0, t.val] := by decide +kernel
theorem index1_8 : ∀ t : Fin grid1.N, win1_8.index t = ![0, t.val] := by decide +kernel
theorem index1_9 : ∀ t : Fin grid1.N, win1_9.index t = ![0, t.val] := by decide +kernel

section Array

variable (V : (c : Dev nD) → (b : Ref sig .tc) → Buf (Elt Ideal) ((c : Thread nD τ).loc b)) (c : Dev nD)
  (ar ai : ℕ → ℝ) (gr gi hr hi : ℕ → ℕ → ℝ)
  (hg : ∀ y : S4096x2048.Idx, V c main_arg4 y = ((gr (y 1).val (y 0).val : ℝ) : EReal))
  (hk : ∀ y : S4096x2048.Idx, V c main_arg5 y = ((gi (y 1).val (y 0).val : ℝ) : EReal))
  (hx : ∀ y : S4096x2048.Idx, V c main_v2_0 y = ((hr (y 1).val ((y 0).val + 1) : ℝ) : EReal))
  (hz : ∀ y : S4096x2048.Idx, V c main_v2_1 y = ((hi (y 1).val ((y 0).val + 1) : ℝ) : EReal))
  (ha : ∀ y : S1x4096.Idx, V c main_v0 y = (((if (y 1).val < 2048 then ar (y 1).val else ai ((y 1).val - 2048)) : ℝ) : EReal))
  (hr0 : ∀ l, hr l 0 = 0) (hi0 : ∀ l, hi l 0 = 0)
include hg hk hx hz ha

/-- What each input window of the reverse kernel holds at a grid point. -/
theorem iblk1_val (t : Fin cfg1.N) :
    (∀ y : S4096x256.Idx, iblk1 V c 0 t y = ((gr (256 * t.val + (y 1).val) (y 0).val : ℝ) : EReal)) ∧
    (∀ y : S4096x256.Idx, iblk1 V c 1 t y = ((gi (256 * t.val + (y 1).val) (y 0).val : ℝ) : EReal)) ∧
    (∀ y : S4096x256.Idx, iblk1 V c 2 t y = ((hr (256 * t.val + (y 1).val) ((y 0).val + 1) : ℝ) : EReal)) ∧
    (∀ y : S4096x256.Idx, iblk1 V c 3 t y = ((hi (256 * t.val + (y 1).val) ((y 0).val + 1) : ℝ) : EReal)) ∧
    (∀ y : S1x256.Idx, iblk1 V c 4 t y = ((ar (256 * t.val + (y 1).val) : ℝ) : EReal)) ∧
    ∀ y : S1x256.Idx, iblk1 V c 5 t y = ((ai (256 * t.val + (y 1).val) : ℝ) : EReal) := by
  have ht : t.val < 8 := t.isLt
  refine ⟨fun y => ?_, fun y => ?_, fun y => ?_, fun y => ?_, fun y => ?_, fun y => ?_⟩
  · blk_simp [iblk1]
    have e0 : ((win1_0.blk t).view.emb y 0).val = (y 0).val := by blk_simp [index1_0]
    have e1 : ((win1_0.blk t).view.emb y 1).val = 256 * t.val + (y 1).val := by blk_simp [index1_0]; simp; omega
    exact (hg _).trans (by rw [e0, e1])
  · blk_simp [iblk1]
    have e0 : ((win1_1.blk t).view.emb y 0).val = (y 0).val := by blk_simp [index1_1]
    have e1 : ((win1_1.blk t).view.emb y 1).val = 256 * t.val + (y 1).val := by blk_simp [index1_1]; simp; omega
    exact (hk _).trans (by rw [e0, e1])
  · blk_simp [iblk1]
    have e0 : ((win1_2.blk t).view.emb y 0).val = (y 0).val := by blk_simp [index1_2]
    have e1 : ((win1_2.blk t).view.emb y 1).val = 256 * t.val + (y 1).val := by blk_simp [index1_2]; simp; omega
    exact (hx _).trans (by rw [e0, e1])
  · blk_simp [iblk1]
    have e0 : ((win1_3.blk t).view.emb y 0).val = (y 0).val := by blk_simp [index1_3]
    have e1 : ((win1_3.blk t).view.emb y 1).val = 256 * t.val + (y 1).val := by blk_simp [index1_3]; simp; omega
    exact (hz _).trans (by rw [e0, e1])
  · have hy : (y 1).val < 256 := (y 1).isLt
    blk_simp [iblk1]
    have e1 : ((win1_4.blk t).view.emb y 1).val = 256 * t.val + (y 1).val := by blk_simp [index1_4]; simp; omega
    refine (ha _).trans ?_
    rw [e1, if_pos (by omega)]
  · have hy : (y 1).val < 256 := (y 1).isLt
    blk_simp [iblk1]
    have e1 : ((win1_5.blk t).view.emb y 1).val = 2048 + (256 * t.val + (y 1).val) := by blk_simp [index1_5]; simp; omega
    refine (ha _).trans ?_
    rw [e1, if_neg (by omega), Nat.add_sub_cancel_left]

include hr0 hi0

/-- The reverse kernel leaves the arrays of input gradients in its first two results. -/
theorem bwd_array_re : (dat1 V c).arrAt 6 cfg1.N = gradRe ar ai gr gi := by
  refine (dat1 V c).arrAt_eq_of_covers 6 _ (by decide +kernel) fun t _ y => ?_
  blk_simp
  rw [after1_6]
  unfold outsAt1
  obtain ⟨i0, i1, i2, i3, i4, i5⟩ := iblk1_val V c ar ai gr gi hr hi hg hk hx hz ha t
  dsimp only
  rw [(bwd_out _ _ _ _ _ _ _ _ _ _ _ _ _ _ _ _ _ _ _ _ _ _ _ _ _ _ _ _ (fun l => ar (256 * t.val + l)) (fun l => ai (256 * t.val + l))
    (fun l r => gr (256 * t.val + l) r) (fun l r => gi (256 * t.val + l) r)
    (fun l r => hr (256 * t.val + l) r) (fun l r => hi (256 * t.val + l) r) i0 i1 i2 (fun l => hr0 _) i3 (fun l => hi0 _) i4 i5).1]
  unfold gradReBlock gradRe
  have e0 : ((win1_6.blk t).view.emb y 0).val = (y 0).val := by blk_simp [index1_6]
  have e1 : ((win1_6.blk t).view.emb y 1).val = 256 * t.val + (y 1).val := by blk_simp [index1_6]; simp; omega
  rw [e0, e1]

/-- The imaginary part of the same. -/
theorem bwd_array_im : (dat1 V c).arrAt 7 cfg1.N = gradIm ar ai gr gi := by
  refine (dat1 V c).arrAt_eq_of_covers 7 _ (by decide +kernel) fun t _ y => ?_
  blk_simp
  rw [after1_7]
  unfold outsAt1
  obtain ⟨i0, i1, i2, i3, i4, i5⟩ := iblk1_val V c ar ai gr gi hr hi hg hk hx hz ha t
  dsimp only
  rw [(bwd_out _ _ _ _ _ _ _ _ _ _ _ _ _ _ _ _ _ _ _ _ _ _ _ _ _ _ _ _ (fun l => ar (256 * t.val + l)) (fun l => ai (256 * t.val + l))
    (fun l r => gr (256 * t.val + l) r) (fun l r => gi (256 * t.val + l) r)
    (fun l r => hr (256 * t.val + l) r) (fun l r => hi (256 * t.val + l) r) i0 i1 i2 (fun l => hr0 _) i3 (fun l => hi0 _) i4 i5).2.1]
  unfold gradImBlock gradIm
  have e0 : ((win1_7.blk t).view.emb y 0).val = (y 0).val := by blk_simp [index1_7]
  have e1 : ((win1_7.blk t).view.emb y 1).val = 256 * t.val + (y 1).val := by blk_simp [index1_7]; simp; omega
  rw [e0, e1]

/-- The reverse kernel leaves the rows of decay gradients in its last two results. -/
theorem bwd_array_decay_re : (dat1 V c).arrAt 8 cfg1.N = decayRe ar ai gr gi hr hi := by
  refine (dat1 V c).arrAt_eq_of_covers 8 _ (by decide +kernel) fun t _ y => ?_
  blk_simp
  rw [after1_8]
  unfold outsAt1
  obtain ⟨i0, i1, i2, i3, i4, i5⟩ := iblk1_val V c ar ai gr gi hr hi hg hk hx hz ha t
  dsimp only
  rw [(bwd_out _ _ _ _ _ _ _ _ _ _ _ _ _ _ _ _ _ _ _ _ _ _ _ _ _ _ _ _ (fun l => ar (256 * t.val + l)) (fun l => ai (256 * t.val + l))
    (fun l r => gr (256 * t.val + l) r) (fun l r => gi (256 * t.val + l) r)
    (fun l r => hr (256 * t.val + l) r) (fun l r => hi (256 * t.val + l) r) i0 i1 i2 (fun l => hr0 _) i3 (fun l => hi0 _) i4 i5).2.2.1]
  unfold decayReBlock decayRe
  have e1 : ((win1_8.blk t).view.emb y 1).val = 256 * t.val + (y 1).val := by blk_simp [index1_8]; simp; omega
  rw [e1]

/-- The imaginary part of the same. -/
theorem bwd_array_decay_im : (dat1 V c).arrAt 9 cfg1.N = decayIm ar ai gr gi hr hi := by
  refine (dat1 V c).arrAt_eq_of_covers 9 _ (by decide +kernel) fun t _ y => ?_
  blk_simp
  rw [after1_9]
  unfold outsAt1
  obtain ⟨i0, i1, i2, i3, i4, i5⟩ := iblk1_val V c ar ai gr gi hr hi hg hk hx hz ha t
  dsimp only
  rw [(bwd_out _ _ _ _ _ _ _ _ _ _ _ _ _ _ _ _ _ _ _ _ _ _ _ _ _ _ _ _ (fun l => ar (256 * t.val + l)) (fun l => ai (256 * t.val + l))
    (fun l r => gr (256 * t.val + l) r) (fun l r => gi (256 * t.val + l) r)
    (fun l r => hr (256 * t.val + l) r) (fun l r => hi (256 * t.val + l) r) i0 i1 i2 (fun l => hr0 _) i3 (fun l => hi0 _) i4 i5).2.2.2]
  unfold decayImBlock decayIm
  have e1 : ((win1_9.blk t).view.emb y 1).val = 256 * t.val + (y 1).val := by blk_simp [index1_9]; simp; omega
  rw [e1]

end Array

section Values

variable (m : (ℓ : Loc nD τ sig) → Buf (Elt Ideal) ℓ) (ρ : Dev nD → PrngReg) (c : Dev nD) (ar ai : ℕ → ℝ) (br bi gr gi : ℕ → ℕ → ℝ)
  (h0 : ∀ y : S4096x2048.Idx, m ((c.tc : Thread nD τ).loc main_arg0) y = ((br (y 1).val (y 0).val : ℝ) : EReal))
  (h1 : ∀ y : S4096x2048.Idx, m ((c.tc : Thread nD τ).loc main_arg1) y = ((bi (y 1).val (y 0).val : ℝ) : EReal))
  (h2 : ∀ y : S1x2048.Idx, m ((c.tc : Thread nD τ).loc main_arg2) y = ((ar (y 1).val : ℝ) : EReal))
  (h3 : ∀ y : S1x2048.Idx, m ((c.tc : Thread nD τ).loc main_arg3) y = ((ai (y 1).val : ℝ) : EReal))
  (h4 : ∀ y : S4096x2048.Idx, m ((c.tc : Thread nD τ).loc main_arg4) y = ((gr (y 1).val (y 0).val : ℝ) : EReal))
  (h5 : ∀ y : S4096x2048.Idx, m ((c.tc : Thread nD τ).loc main_arg5) y = ((gi (y 1).val (y 0).val : ℝ) : EReal))

include h2 h3 in
/-- The host joins the two rows of decays. -/
theorem decay_joined (y : S1x4096.Idx) :
    V1 m ρ c main_v0 y = (((if (y 1).val < 2048 then ar (y 1).val else ai ((y 1).val - 2048)) : ℝ) : EReal) := by
  have e : V1 m ρ c main_v0 = (concatenate S1x4096 1 [⟨S1x2048, m ((c.tc : Thread nD τ).loc main_arg2)⟩,
      ⟨S1x2048, m ((c.tc : Thread nD τ).loc main_arg3)⟩] concatenates_S1x2048_S1x2048_S1x4096_d1) := by
    show StableHlo.after hostOps0 (W0 m ρ c) (Proc.devRef .tc main_v0) = _
    simp only [hostOps0]
    after_results
  rw [e]
  pointwise []
  by_cases h : (y 1).val < 2048
  · rw [dif_pos h, if_pos h]; exact h2 _
  · rw [dif_neg h, if_neg h]; exact h3 _

include h0 h1 in
/-- The host joins the two arrays of inputs. -/
theorem input_joined (y : S4096x4096.Idx) :
    V1 m ρ c main_v1 y = (((if (y 1).val < 2048 then br (y 1).val (y 0).val else bi ((y 1).val - 2048) (y 0).val) : ℝ) : EReal) := by
  have e : V1 m ρ c main_v1 = (concatenate S4096x4096 1 [⟨S4096x2048, m ((c.tc : Thread nD τ).loc main_arg0)⟩,
      ⟨S4096x2048, m ((c.tc : Thread nD τ).loc main_arg1)⟩] concatenates_S4096x2048_S4096x2048_S4096x4096_d1) := by
    show StableHlo.after hostOps0 (W0 m ρ c) (Proc.devRef .tc main_v1) = _
    simp only [hostOps0]
    after_results
  rw [e]
  pointwise []
  by_cases h : (y 1).val < 2048
  · rw [dif_pos h, if_pos h]; exact h0 _
  · rw [dif_neg h, if_neg h]; exact h1 _

/-- The saved states of one column: real and imaginary part. -/
abbrev colRe (ar ai : ℕ → ℝ) (br bi : ℕ → ℕ → ℝ) (l n : ℕ) : ℝ := (clin (ar l) (ai l) (br l) (bi l) (0, 0) n).1
abbrev colIm (ar ai : ℕ → ℝ) (br bi : ℕ → ℕ → ℝ) (l n : ℕ) : ℝ := (clin (ar l) (ai l) (br l) (bi l) (0, 0) n).2

include h0 h1 h2 h3 in
/-- Between the two kernels the saved states are the recurrence's. -/
theorem between_re : V2 m ρ c main_v2_0 = statesRe ar ai br bi :=
  (W2_arr m ρ c 4).trans (fwd_array_re (V1 m ρ) c ar ai br bi (input_joined m ρ c br bi h0 h1) (decay_joined m ρ c ar ai h2 h3))

include h0 h1 h2 h3 in
/-- The imaginary part of the same. -/
theorem between_im : V2 m ρ c main_v2_1 = statesIm ar ai br bi :=
  (W2_arr m ρ c 5).trans (fwd_array_im (V1 m ρ) c ar ai br bi (input_joined m ρ c br bi h0 h1) (decay_joined m ρ c ar ai h2 h3))

include h2 h3 in
/-- Between the two kernels the joined decays are unchanged. -/
theorem between_decay (y : S1x4096.Idx) :
    V2 m ρ c main_v0 y = (((if (y 1).val < 2048 then ar (y 1).val else ai ((y 1).val - 2048)) : ℝ) : EReal) :=
  (congrFun (W2_of m ρ c main_v0 (by decide)) y).trans (decay_joined m ρ c ar ai h2 h3 y)

include h0 h1 h2 h3 h4 h5

/-- The program leaves the gradients of the inputs. -/
theorem kernel_re : W3 m ρ c (Proc.devRef .tc main_v3_0) = gradRe ar ai gr gi :=
  (W3_arr m ρ c 6).trans (bwd_array_re (V2 m ρ) c ar ai gr gi (colRe ar ai br bi) (colIm ar ai br bi)
    (fun y => (congrFun (W2_args m ρ c main_arg4 (by decide)) y).trans (h4 y))
    (fun y => (congrFun (W2_args m ρ c main_arg5 (by decide)) y).trans (h5 y))
    (fun y => congrFun (between_re m ρ c ar ai br bi h0 h1 h2 h3) y) (fun y => congrFun (between_im m ρ c ar ai br bi h0 h1 h2 h3) y)
    (between_decay m ρ c ar ai h2 h3) (fun _ => rfl) (fun _ => rfl))

/-- The imaginary part of the same. -/
theorem kernel_im : W3 m ρ c (Proc.devRef .tc main_v3_1) = gradIm ar ai gr gi :=
  (W3_arr m ρ c 7).trans (bwd_array_im (V2 m ρ) c ar ai gr gi (colRe ar ai br bi) (colIm ar ai br bi)
    (fun y => (congrFun (W2_args m ρ c main_arg4 (by decide)) y).trans (h4 y))
    (fun y => (congrFun (W2_args m ρ c main_arg5 (by decide)) y).trans (h5 y))
    (fun y => congrFun (between_re m ρ c ar ai br bi h0 h1 h2 h3) y) (fun y => congrFun (between_im m ρ c ar ai br bi h0 h1 h2 h3) y)
    (between_decay m ρ c ar ai h2 h3) (fun _ => rfl) (fun _ => rfl))

/-- The program leaves the gradients of the decays. -/
theorem kernel_decay_re : W3 m ρ c (Proc.devRef .tc main_v3_2) = decayRe ar ai gr gi (colRe ar ai br bi) (colIm ar ai br bi) :=
  (W3_arr m ρ c 8).trans (bwd_array_decay_re (V2 m ρ) c ar ai gr gi (colRe ar ai br bi) (colIm ar ai br bi)
    (fun y => (congrFun (W2_args m ρ c main_arg4 (by decide)) y).trans (h4 y))
    (fun y => (congrFun (W2_args m ρ c main_arg5 (by decide)) y).trans (h5 y))
    (fun y => congrFun (between_re m ρ c ar ai br bi h0 h1 h2 h3) y) (fun y => congrFun (between_im m ρ c ar ai br bi h0 h1 h2 h3) y)
    (between_decay m ρ c ar ai h2 h3) (fun _ => rfl) (fun _ => rfl))

/-- The imaginary part of the same. -/
theorem kernel_decay_im : W3 m ρ c (Proc.devRef .tc main_v3_3) = decayIm ar ai gr gi (colRe ar ai br bi) (colIm ar ai br bi) :=
  (W3_arr m ρ c 9).trans (bwd_array_decay_im (V2 m ρ) c ar ai gr gi (colRe ar ai br bi) (colIm ar ai br bi)
    (fun y => (congrFun (W2_args m ρ c main_arg4 (by decide)) y).trans (h4 y))
    (fun y => (congrFun (W2_args m ρ c main_arg5 (by decide)) y).trans (h5 y))
    (fun y => congrFun (between_re m ρ c ar ai br bi h0 h1 h2 h3) y) (fun y => congrFun (between_im m ρ c ar ai br bi h0 h1 h2 h3) y)
    (between_decay m ρ c ar ai h2 h3) (fun _ => rfl) (fun _ => rfl))

end Values

variable (m : (ℓ : Loc nD τ sig) → Buf (Elt Ideal) ℓ) (ρ : Dev nD → PrngReg)

/-- The resources a run of the kernel program is stated over. -/
local notation "𝕄" => MT nD τ sig Unit (Elt Ideal) ℕ (UR sig nD τ) ℕ

set_option backward.isDefEq.respectTransparency.types false in
/-- Every run of the kernel program ends, the arguments as launched and the four results at the last boundary's contents. -/
theorem run : θ_run (defs (F := Ideal)) (onTc (τ := τ) (main (F := Ideal))) ⟨m, fun _ => 0, ρ⟩ (fun r => ∀ c : Dev nD,
      r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_v3_2) = W3 m ρ c (Proc.devRef .tc main_v3_2)
      ∧ r.2.mem ((c.tc : Thread nD τ).loc main_v3_3) = W3 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v3_0 (by decide)), h c _ (mem_uc main_v3_1 (by decide)), h c _ (mem_uc main_v3_2 (by decide)), h c _ (mem_uc main_v3_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.S5

end
-- ==== Proof.S5RefRun.lean ====
/-
  The reference of the complex recurrence runs two counted host loops one after the other: loop 0 is the forward
  recurrence, loop 1 the reversed one; the two decay gradients are given their row shape after the loops. This module
  gives the operations of every stretch, the two conditions, and the run of the whole program: every buffer of @main
  ends at a named fold of the operations over the launch contents.
-/
module

public import proofs.«01_k».proof.Proof.Gen.S5ScanRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.S5.Ref

open Cert.S5ScanRefIdeal S5ScanRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

/-- The contents of a row. -/
abbrev Row (F : FTy → Type) := (⟨S2048, .f32⟩ : BufTy).Contents (Elt F)

/-- The contents of a table. -/
abbrev Table (F : FTy → Type) := (⟨S4096x2048, .f32⟩ : BufTy).Contents (Elt F)

/-- The contents of a number. -/
abbrev Num (F : FTy → Type) := (⟨S_, .f32⟩ : BufTy).Contents (Elt F)

variable {F : FTy → Type} [FloatOps F]

/-! ## The stretches -/

/-- One call that reads row `i` of a table `x`. -/
abbrev rowOps (x : TRef sig ⟨S4096x2048, .f32⟩) (i : TRef sig ⟨S_, .i32⟩) (φ : fn_dynamic_index_in_dim.Bufs) : List (HloOp τ sig (Elt F)) :=
  [ TRef.nullary φ.c (constantI S_ 32 0#32),
    TRef.unaryIndexed x ![i, φ.c] φ.v0 (fun x i => Host.dynamicSlice S1x2048 x (fun k => (i k (Shape.Idx.first h_S_)).toInt) sliceFits_S4096x2048_S1x2048),
    TRef.reshape φ.v0 φ.v1 (rfl : (.f32 : EltTy) = .f32) shapeCasts_S1x2048_S2048 ]

/-- The same call as the second copy of the function makes it. -/
abbrev rowOps' (x : TRef sig ⟨S4096x2048, .f32⟩) (i : TRef sig ⟨S_, .i32⟩) (φ : fn_dynamic_index_in_dim_0.Bufs) : List (HloOp τ sig (Elt F)) :=
  [ TRef.nullary φ.c (constantI S_ 32 0#32),
    TRef.unaryIndexed x ![i, φ.c] φ.v0 (fun x i => Host.dynamicSlice S1x2048 x (fun k => (i k (Shape.Idx.first h_S_)).toInt) sliceFits_S4096x2048_S1x2048),
    TRef.reshape φ.v0 φ.v1 (rfl : (.f32 : EltTy) = .f32) shapeCasts_S1x2048_S2048 ]

/-- One call that writes the row `v` into row `i` of a table `x`. -/
abbrev putOps (x : TRef sig ⟨S4096x2048, .f32⟩) (v : TRef sig ⟨S2048, .f32⟩) (i : TRef sig ⟨S_, .i32⟩)
    (φ : fn_dynamic_update_index_in_dim.Bufs) : List (HloOp τ sig (Elt F)) :=
  [ TRef.unary v φ.v0 (broadcastInDim S1x2048 ![1] bcast_S2048_S1x2048_1),
    TRef.nullary φ.c (constantI S_ 32 0#32),
    TRef.binaryIndexed x φ.v0 ![i, φ.c] φ.v1 (fun x u i => Host.dynamicUpdateSlice x u (fun k => (i k (Shape.Idx.first h_S_)).toInt) updateFits_S4096x2048_S1x2048) ]

/-- @main before the first loop: zeros, the decays as rows, and the loop's carried values filled. -/
abbrev preOps : List (HloOp τ sig (Elt F)) :=
  [ reshape main_arg2 main_v0 (rfl : (.f32 : EltTy) = .f32) shapeCasts_S1x2048_S2048,
    reshape main_arg3 main_v1 (rfl : (.f32 : EltTy) = .f32) shapeCasts_S1x2048_S2048,
    nullary main_cst (constant S_ .f32 0x00000000#32),
    unary main_cst main_v2 (broadcastInDim S2048 ![] bcast_S_S2048 : Num F → Row F),
    nullary main_cst_0 (constant S_ .f32 0x00000000#32),
    unary main_cst_0 main_v3 (broadcastInDim S4096x2048 ![] bcast_S_S4096x2048 : Num F → Table F),
    nullary main_cst_1 (constant S_ .f32 0x00000000#32),
    unary main_cst_1 main_v4 (broadcastInDim S4096x2048 ![] bcast_S_S4096x2048 : Num F → Table F),
    nullary main_cst_2 (constant S_ .f32 0x00000000#32),
    unary main_cst_2 main_v5 (broadcastInDim S4096x2048 ![] bcast_S_S4096x2048 : Num F → Table F),
    nullary main_cst_3 (constant S_ .f32 0x00000000#32),
    unary main_cst_3 main_v6 (broadcastInDim S4096x2048 ![] bcast_S_S4096x2048 : Num F → Table F),
    nullary main_c (constantI S_ 32 0#32),
    unary main_arg0 main_v7_0 id,
    unary main_arg1 main_v7_1 id,
    unary main_v0 main_v7_2 id,
    unary main_v1 main_v7_3 id,
    unary main_c main_v7_4 id,
    unary main_v2 main_v7_5 id,
    unary main_v2 main_v7_6 id,
    unary main_v3 main_v7_7 id,
    unary main_v4 main_v7_8 id,
    unary main_v5 main_v7_9 id,
    unary main_v6 main_v7_10 id ]

/-- @main between the loops: zeros, and the second loop's carried values filled. -/
abbrev midOps : List (HloOp τ sig (Elt F)) :=
  [ nullary main_cst_4 (constant S_ .f32 0x00000000#32),
    unary main_cst_4 main_v8 (broadcastInDim S2048 ![] bcast_S_S2048 : Num F → Row F),
    nullary main_cst_5 (constant S_ .f32 0x00000000#32),
    unary main_cst_5 main_v9 (broadcastInDim S2048 ![] bcast_S_S2048 : Num F → Row F),
    nullary main_cst_6 (constant S_ .f32 0x00000000#32),
    unary main_cst_6 main_v10 (broadcastInDim S2048 ![] bcast_S_S2048 : Num F → Row F),
    nullary main_cst_7 (constant S_ .f32 0x00000000#32),
    unary main_cst_7 main_v11 (broadcastInDim S2048 ![] bcast_S_S2048 : Num F → Row F),
    nullary main_cst_8 (constant S_ .f32 0x00000000#32),
    unary main_cst_8 main_v12 (broadcastInDim S2048 ![] bcast_S_S2048 : Num F → Row F),
    nullary main_cst_9 (constant S_ .f32 0x00000000#32),
    unary main_cst_9 main_v13 (broadcastInDim S2048 ![] bcast_S_S2048 : Num F → Row F),
    nullary main_cst_10 (constant S_ .f32 0x00000000#32),
    unary main_cst_10 main_v14 (broadcastInDim S4096x2048 ![] bcast_S_S4096x2048 : Num F → Table F),
    nullary main_cst_11 (constant S_ .f32 0x00000000#32),
    unary main_cst_11 main_v15 (broadcastInDim S4096x2048 ![] bcast_S_S4096x2048 : Num F → Table F),
    nullary main_c_12 (constantI S_ 32 0#32),
    unary main_arg4 main_v16_0 id,
    unary main_arg5 main_v16_1 id,
    unary main_v7_9 main_v16_2 id,
    unary main_v7_10 main_v16_3 id,
    unary main_v0 main_v16_4 id,
    unary main_v1 main_v16_5 id,
    unary main_c_12 main_v16_6 id,
    unary main_v12 main_v16_7 id,
    unary main_v13 main_v16_8 id,
    unary main_v10 main_v16_9 id,
    unary main_v11 main_v16_10 id,
    unary main_v14 main_v16_11 id,
    unary main_v15 main_v16_12 id ]

/-- @main after the loops: the two decay gradients as one-row tables. -/
abbrev postOps : List (HloOp τ sig (Elt F)) :=
  [ unary main_v16_7 main_v17 (broadcastInDim S1x2048 ![1] bcast_S2048_S1x2048_1 : Row F → (⟨S1x2048, .f32⟩ : BufTy).Contents (Elt F)),
    unary main_v16_8 main_v18 (broadcastInDim S1x2048 ![1] bcast_S2048_S1x2048_1 : Row F → (⟨S1x2048, .f32⟩ : BufTy).Contents (Elt F)) ]

/-- The first loop's test. -/
abbrev testF : List (HloOp τ sig (Elt F)) :=
  [ nullary main_while0c_c_23 (constantI S_ 32 4096#32),
    binary main_v7_4 main_while0c_c_23 main_while0c_v19 (cmpi .slt) ]

/-- The second loop's test. -/
abbrev testB : List (HloOp τ sig (Elt F)) :=
  [ nullary main_while1c_c_25 (constantI S_ 32 4096#32),
    binary main_v16_6 main_while1c_c_25 main_while1c_v19 (cmpi .slt) ]

/-- The first loop's arithmetic: the complex decay times the state, plus the input. -/
abbrev stepF : List (HloOp τ sig (Elt F)) :=
  [ binary main_v7_2 main_v7_5 main_while0b_v21 (mulf : Row F → Row F → Row F),
    binary main_v7_3 main_v7_6 main_while0b_v22 (mulf : Row F → Row F → Row F),
    binary main_while0b_v21 main_while0b_v22 main_while0b_v23 (subf : Row F → Row F → Row F),
    binary main_while0b_v23 main_while0b_v19 main_while0b_v24 (addf : Row F → Row F → Row F),
    binary main_v7_2 main_v7_6 main_while0b_v25 (mulf : Row F → Row F → Row F),
    binary main_v7_3 main_v7_5 main_while0b_v26 (mulf : Row F → Row F → Row F),
    binary main_while0b_v25 main_while0b_v26 main_while0b_v27 (addf : Row F → Row F → Row F),
    binary main_while0b_v27 main_while0b_v20 main_while0b_v28 (addf : Row F → Row F → Row F) ]

/-- The first loop's end of a trip: the counter, and the carried values written back. -/
abbrev endF : List (HloOp τ sig (Elt F)) :=
  [ nullary main_while0b_c_23 (constantI S_ 32 1#32),
    binary main_v7_4 main_while0b_c_23 main_while0b_v33 (addi : (⟨S_, .i32⟩ : BufTy).Contents (Elt F) → (⟨S_, .i32⟩ : BufTy).Contents (Elt F) → (⟨S_, .i32⟩ : BufTy).Contents (Elt F)),
    unary main_while0b_v33 main_v7_4 id,
    unary main_while0b_v24 main_v7_5 id,
    unary main_while0b_v28 main_v7_6 id,
    unary main_while0b_v29 main_v7_7 id,
    unary main_while0b_v30 main_v7_8 id,
    unary main_while0b_v31 main_v7_9 id,
    unary main_while0b_v32 main_v7_10 id ]

/-- The second loop's row number: `4096 - k - 1`. -/
abbrev indexB : List (HloOp τ sig (Elt F)) :=
  [ nullary main_while1b_c_25 (constantI S_ 32 4096#32),
    binary main_while1b_c_25 main_v16_6 main_while1b_v19 (subi : (⟨S_, .i32⟩ : BufTy).Contents (Elt F) → (⟨S_, .i32⟩ : BufTy).Contents (Elt F) → (⟨S_, .i32⟩ : BufTy).Contents (Elt F)),
    nullary main_while1b_c_26 (constantI S_ 32 1#32),
    binary main_while1b_v19 main_while1b_c_26 main_while1b_v20 (subi : (⟨S_, .i32⟩ : BufTy).Contents (Elt F) → (⟨S_, .i32⟩ : BufTy).Contents (Elt F) → (⟨S_, .i32⟩ : BufTy).Contents (Elt F)) ]

/-- The second loop's arithmetic: the cotangent row added, the decayed cotangent, and the decay gradients' terms. -/
abbrev stepB : List (HloOp τ sig (Elt F)) :=
  [ binary main_v16_9 main_while1b_v21 main_while1b_v25 (addf : Row F → Row F → Row F),
    binary main_v16_10 main_while1b_v22 main_while1b_v26 (addf : Row F → Row F → Row F),
    binary main_v16_5 main_while1b_v26 main_while1b_v27 (mulf : Row F → Row F → Row F),
    binary main_while1b_v26 main_while1b_v23 main_while1b_v28 (mulf : Row F → Row F → Row F),
    binary main_v16_8 main_while1b_v28 main_while1b_v29 (addf : Row F → Row F → Row F),
    binary main_v16_4 main_while1b_v26 main_while1b_v30 (mulf : Row F → Row F → Row F),
    binary main_while1b_v26 main_while1b_v24 main_while1b_v31 (mulf : Row F → Row F → Row F),
    binary main_v16_7 main_while1b_v31 main_while1b_v32 (addf : Row F → Row F → Row F),
    unary main_while1b_v25 main_while1b_v33 (Host.negf : Row F → Row F),
    binary main_v16_5 main_while1b_v33 main_while1b_v34 (mulf : Row F → Row F → Row F),
    binary main_while1b_v30 main_while1b_v34 main_while1b_v35 (addf : Row F → Row F → Row F),
    binary main_while1b_v33 main_while1b_v24 main_while1b_v36 (mulf : Row F → Row F → Row F),
    binary main_while1b_v29 main_while1b_v36 main_while1b_v37 (addf : Row F → Row F → Row F),
    binary main_v16_4 main_while1b_v25 main_while1b_v38 (mulf : Row F → Row F → Row F),
    binary main_while1b_v27 main_while1b_v38 main_while1b_v39 (addf : Row F → Row F → Row F),
    binary main_while1b_v25 main_while1b_v23 main_while1b_v40 (mulf : Row F → Row F → Row F),
    binary main_while1b_v32 main_while1b_v40 main_while1b_v41 (addf : Row F → Row F → Row F) ]

/-- The second loop's end of a trip: the counter, and the carried values written back. -/
abbrev endB : List (HloOp τ sig (Elt F)) :=
  [ nullary main_while1b_c_27 (constantI S_ 32 1#32),
    binary main_v16_6 main_while1b_c_27 main_while1b_v44 (addi : (⟨S_, .i32⟩ : BufTy).Contents (Elt F) → (⟨S_, .i32⟩ : BufTy).Contents (Elt F) → (⟨S_, .i32⟩ : BufTy).Contents (Elt F)),
    unary main_while1b_v44 main_v16_6 id,
    unary main_while1b_v41 main_v16_7 id,
    unary main_while1b_v37 main_v16_8 id,
    unary main_while1b_v39 main_v16_9 id,
    unary main_while1b_v35 main_v16_10 id,
    unary main_while1b_v42 main_v16_11 id,
    unary main_while1b_v43 main_v16_12 id ]

/-- The first loop's body. -/
abbrev bodyF : List (List (HloOp τ sig (Elt F))) :=
  [ rowOps (.of main_v7_0) (.of main_v7_4) main_while0b_call0,
    rowOps (.of main_v7_1) (.of main_v7_4) main_while0b_call1,
    stepF,
    putOps (.of main_v7_7) (.of main_while0b_v24) (.of main_v7_4) main_while0b_call2,
    putOps (.of main_v7_8) (.of main_while0b_v28) (.of main_v7_4) main_while0b_call3,
    putOps (.of main_v7_9) (.of main_v7_5) (.of main_v7_4) main_while0b_call4,
    putOps (.of main_v7_10) (.of main_v7_6) (.of main_v7_4) main_while0b_call5,
    endF ]

/-- The second loop's body. -/
abbrev bodyB : List (List (HloOp τ sig (Elt F))) :=
  [ indexB,
    rowOps (.of main_v16_0) (.of main_while1b_v20) main_while1b_call6,
    rowOps (.of main_v16_1) (.of main_while1b_v20) main_while1b_call7,
    rowOps' (.of main_v16_2) (.of main_while1b_v20) main_while1b_call8,
    rowOps' (.of main_v16_3) (.of main_while1b_v20) main_while1b_call9,
    stepB,
    putOps (.of main_v16_11) (.of main_while1b_v25) (.of main_while1b_v20) main_while1b_call10,
    putOps (.of main_v16_12) (.of main_while1b_v26) (.of main_while1b_v20) main_while1b_call11,
    endB ]

/-- @main is its stretches and its loops in order. -/
theorem main_chain (c : Dev nD) : main (F := F) c = (Pipeline.chain [ seq preOps, HostLoop.enter 0, seq midOps, HostLoop.enter 1, seq postOps ] :
    Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

/-- The first loop's body is its stretches in order. -/
theorem bodyF_chain : main_while0_body (F := F) = (Pipeline.chain (bodyF.map fun ops => (seq ops : Prog _ PUnit)) :
    Prog (TpuEff nD τ sig (Elt F) (HostLoop.Sig (Pipeline.Sig Λ₀ (Fin 0) fun p => (pcfgs (F := F) p).Adm) 2) .tc) PUnit) := by
  show _ = Pipeline.chain [seq (rowOps (.of main_v7_0) (.of main_v7_4) main_while0b_call0), seq (rowOps (.of main_v7_1) (.of main_v7_4) main_while0b_call1), seq stepF, seq (putOps (.of main_v7_7) (.of main_while0b_v24) (.of main_v7_4) main_while0b_call2), seq (putOps (.of main_v7_8) (.of main_while0b_v28) (.of main_v7_4) main_while0b_call3), seq (putOps (.of main_v7_9) (.of main_v7_5) (.of main_v7_4) main_while0b_call4), seq (putOps (.of main_v7_10) (.of main_v7_6) (.of main_v7_4) main_while0b_call5), seq endF]
  rewrite [Pipeline.chain_cons, Pipeline.chain_cons, chain_seq_cons, Pipeline.chain_cons, Pipeline.chain_cons, Pipeline.chain_cons, Pipeline.chain_cons, chain_seq_cons]
  chain_rfl

/-- The second loop's body is its stretches in order. -/
theorem bodyB_chain : main_while1_body (F := F) = (Pipeline.chain (bodyB.map fun ops => (seq ops : Prog _ PUnit)) :
    Prog (TpuEff nD τ sig (Elt F) (HostLoop.Sig (Pipeline.Sig Λ₀ (Fin 0) fun p => (pcfgs (F := F) p).Adm) 2) .tc) PUnit) := by
  show _ = Pipeline.chain [seq indexB, seq (rowOps (.of main_v16_0) (.of main_while1b_v20) main_while1b_call6), seq (rowOps (.of main_v16_1) (.of main_while1b_v20) main_while1b_call7), seq (rowOps' (.of main_v16_2) (.of main_while1b_v20) main_while1b_call8), seq (rowOps' (.of main_v16_3) (.of main_while1b_v20) main_while1b_call9), seq stepB, seq (putOps (.of main_v16_11) (.of main_while1b_v25) (.of main_while1b_v20) main_while1b_call10), seq (putOps (.of main_v16_12) (.of main_while1b_v26) (.of main_while1b_v20) main_while1b_call11), seq endB]
  rewrite [chain_seq_cons, Pipeline.chain_cons, Pipeline.chain_cons, Pipeline.chain_cons, Pipeline.chain_cons, chain_seq_cons, Pipeline.chain_cons, Pipeline.chain_cons, chain_seq_cons]
  chain_rfl

/-! ## The stretches touch TensorCore buffers only and allocate none -/

theorem rowOps_sub (x i φ) : (rowOps x i φ : List (HloOp τ sig (Elt F))).Forall fun op => op.bufs ⊆ tcRefs τ sig :=
  ⟨nullary_bufs_sub .., unaryIndexed_bufs_sub .., reshape_bufs_sub ..⟩
theorem rowOps'_sub (x i φ) : (rowOps' x i φ : List (HloOp τ sig (Elt F))).Forall fun op => op.bufs ⊆ tcRefs τ sig :=
  ⟨nullary_bufs_sub .., unaryIndexed_bufs_sub .., reshape_bufs_sub ..⟩
theorem putOps_sub (x v i φ) : (putOps x v i φ : List (HloOp τ sig (Elt F))).Forall fun op => op.bufs ⊆ tcRefs τ sig :=
  ⟨unary_bufs_sub .., nullary_bufs_sub .., binaryIndexed_bufs_sub ..⟩
theorem preOps_sub : (preOps : List (HloOp τ sig (Elt F))).Forall fun op => op.bufs ⊆ tcRefs τ sig :=
  ⟨reshape_bufs_sub .., reshape_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem midOps_sub : (midOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem postOps_sub : (postOps : List (HloOp τ sig (Elt F))).Forall fun op => op.bufs ⊆ tcRefs τ sig :=
  ⟨unary_bufs_sub .., unary_bufs_sub ..⟩
theorem stepF_sub : (stepF : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub ..⟩
theorem endF_sub : (endF : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem indexB_sub : (indexB : List (HloOp τ sig (Elt F))).Forall fun op => op.bufs ⊆ tcRefs τ sig :=
  ⟨nullary_bufs_sub .., binary_bufs_sub .., nullary_bufs_sub .., binary_bufs_sub ..⟩
theorem stepB_sub : (stepB : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub ..⟩
theorem endB_sub : (endB : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩

theorem plain_pre : Plain [preOps (F := F)] := .cons preOps_sub .nil
theorem plain_mid : Plain [midOps (F := F)] := .cons midOps_sub .nil
theorem plain_post : Plain [postOps (F := F)] := .cons postOps_sub .nil
theorem plainF : Plain (bodyF (F := F)) :=
  .cons (rowOps_sub ..) (.cons (rowOps_sub ..) (.cons stepF_sub (.cons (putOps_sub ..) (.cons (putOps_sub ..) (.cons (putOps_sub ..) (.cons (putOps_sub ..) (.cons endF_sub .nil)))))))
theorem plainB : Plain (bodyB (F := F)) :=
  .cons indexB_sub (.cons (rowOps_sub ..) (.cons (rowOps_sub ..) (.cons (rowOps'_sub ..) (.cons (rowOps'_sub ..) (.cons stepB_sub (.cons (putOps_sub ..) (.cons (putOps_sub ..) (.cons endB_sub .nil))))))))

/-! ## The two conditions -/

/-- What rides along beside the buffers. -/
abbrev Rc (c : Dev nD) : sProp (MT nD τ sig Unit (Elt F) ℕ (Option PUnit) ℕ) := iprop(∃ W, owes (c : Thread nD τ) (0 : CellTallies nD τ sig Unit) W)

/-- One trip of the first loop from any contents: the counter goes up by one. -/
theorem tripF_counter (X : Valuation τ sig (Elt F)) :
    afterL bodyF (after testF X) (Proc.devRef .tc main_v7_4) = addi (X (Proc.devRef .tc main_v7_4)) (constantI S_ 32 1#32) := by
  simp only [afterL_cons, afterL_nil]
  after_reads_simp
  rfl

/-- One trip of the second loop from any contents: the counter goes up by one. -/
theorem tripB_counter (X : Valuation τ sig (Elt F)) :
    afterL bodyB (after testB X) (Proc.devRef .tc main_v16_6) = addi (X (Proc.devRef .tc main_v16_6)) (constantI S_ 32 1#32) := by
  simp only [afterL_cons, afterL_nil]
  after_reads_simp
  rfl

/-- Before the `k`-th test of the first loop the counter is `k`. -/
theorem counterF (W : Dev nD → Valuation τ sig (Elt F)) (hW : ∀ c, W c (Proc.devRef .tc main_v7_4) = fun _ => (0#32 : BitVec 32)) (c : Dev nD) :
    ∀ k, atTrip testF bodyF W k c (Proc.devRef .tc main_v7_4) = fun _ => Scf.iv 0#32 1#32 k
  | 0 => by rw [atTrip_zero, hW, Scf.iv_zero]
  | k + 1 => by rw [atTrip_succ, tripF_counter, counterF W hW c k, Scf.iv_succ]; rfl

/-- Before the `k`-th test of the second loop the counter is `k`. -/
theorem counterB (W : Dev nD → Valuation τ sig (Elt F)) (hW : ∀ c, W c (Proc.devRef .tc main_v16_6) = fun _ => (0#32 : BitVec 32)) (c : Dev nD) :
    ∀ k, atTrip testB bodyB W k c (Proc.devRef .tc main_v16_6) = fun _ => Scf.iv 0#32 1#32 k
  | 0 => by rw [atTrip_zero, hW, Scf.iv_zero]
  | k + 1 => by rw [atTrip_succ, tripB_counter, counterB W hW c k, Scf.iv_succ]; rfl

set_option backward.isDefEq.respectTransparency.types false in
/-- The first loop's test says yes exactly on the first 4096 trips. -/
theorem condF (W : Dev nD → Valuation τ sig (Elt F)) (hW : ∀ c, W c (Proc.devRef .tc main_v7_4) = fun _ => (0#32 : BitVec 32)) :
    LoopCond (U := Option PUnit) (Name := ℕ) (Lvl := ℕ) (pcfgs (F := F)) defs₀ Variants.none loops Rc (main_while0_cond (F := F)) testF bodyF W 4096 := by
  intro k hk c bd
  have hctr := counterF W hW c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip testF bodyF W k c) main_v7_4 HostLoop.idx0)
        (HloOp.result _ (atTrip testF bodyF W k c) main_while0c_c_23 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

set_option backward.isDefEq.respectTransparency.types false in
/-- The second loop's test says yes exactly on the first 4096 trips. -/
theorem condB (W : Dev nD → Valuation τ sig (Elt F)) (hW : ∀ c, W c (Proc.devRef .tc main_v16_6) = fun _ => (0#32 : BitVec 32)) :
    LoopCond (U := Option PUnit) (Name := ℕ) (Lvl := ℕ) (pcfgs (F := F)) defs₀ Variants.none loops Rc (main_while1_cond (F := F)) testB bodyB W 4096 := by
  intro k hk c bd
  have hctr := counterB W hW c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip testB bodyB W k c) main_v16_6 HostLoop.idx0)
        (HloOp.result _ (atTrip testB bodyB W k c) main_while1c_c_25 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-! ## The run -/

variable (m : (ℓ : Loc nD τ sig) → Buf (Elt F) ℓ) (ρ : Dev nD → PrngReg)

/-- Core `c`'s buffers when the first loop is entered. -/
def atF (c : Dev nD) : Valuation τ sig (Elt F) := after preOps (launchContents m c)
/-- Core `c`'s buffers when the first loop is left. -/
def outF (c : Dev nD) : Valuation τ sig (Elt F) := after testF (atTrip testF bodyF (atF m) 4096 c)
/-- Core `c`'s buffers when the second loop is entered. -/
def atB (c : Dev nD) : Valuation τ sig (Elt F) := after midOps (outF m c)
/-- Core `c`'s buffers when the second loop is left. -/
def outB (c : Dev nD) : Valuation τ sig (Elt F) := after testB (atTrip testB bodyB (atB m) 4096 c)
/-- Core `c`'s buffers at the program's end. -/
def atEnd (c : Dev nD) : Valuation τ sig (Elt F) := after postOps (outB m c)

theorem atF_counter (c : Dev nD) : atF m c (Proc.devRef .tc main_v7_4) = fun _ => (0#32 : BitVec 32) := by
  unfold atF
  after_reads_simp
  rfl

theorem atB_counter (c : Dev nD) : atB m c (Proc.devRef .tc main_v16_6) = fun _ => (0#32 : BitVec 32) := by
  unfold atB
  after_reads_simp
  rfl

/-- No kernel region is in the program: the families over them are empty. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev lvls : GSem nD τ sig → Finset Unit := fun _ => ∅
abbrev lv : GSem nD τ sig → Unit → ℕ := fun _ _ => 0

/-- @main's segments. -/
def segs : List (CSeg (pcfgs (F := F)) adm defs₀ Variants.none lvls lv loops tk) :=
  segsOf _ _ _ _ _ _ _ _ Rc [preOps] plain_pre (launchContents m)
    ++ loopSeg _ _ _ _ _ _ _ _ 0 main_while0_cond main_while0_body rfl testF bodyF plainF bodyF_chain 4096 (atF m) Rc (condF _ (atF_counter m))
      :: (segsOf _ _ _ _ _ _ _ _ Rc [midOps] plain_mid (outF m)
        ++ loopSeg _ _ _ _ _ _ _ _ 1 main_while1_cond main_while1_body rfl testB bodyB plainB bodyB_chain 4096 (atB m) Rc (condB _ (atB_counter m))
          :: segsOf _ _ _ _ _ _ _ _ Rc [postOps] plain_post (outB m))

theorem segs_prog : (segs m).map CSeg.prog = [seq preOps, HostLoop.enter 0, seq midOps, HostLoop.enter 1, seq postOps] := rfl

theorem segs_chains :
    CSeg.Chains (fun c => iprop(held (c : Thread nD τ) (ucRefs τ sig) (launchContents m c) ∗ Rc c)) (segs m)
      (fun c => iprop(iprop(held (c : Thread nD τ) (ucRefs τ sig) (atEnd m c)) ∗ ∃ W, owes (c : Thread nD τ) (0 : CellTallies nD τ sig Unit) W)) := by
  unfold segs
  exact CSeg.Chains.append (segsOf_chains _ _ _ _ _ _ _ _ Rc [preOps] plain_pre _) ⟨fun _ => .rfl,
    CSeg.Chains.append (segsOf_chains _ _ _ _ _ _ _ _ Rc [midOps] plain_mid _) ⟨fun _ => .rfl,
      segsOf_chains _ _ _ _ _ _ _ _ Rc [postOps] plain_post _⟩⟩

/-- Every semaphore the TensorCore has is a scoped one. -/
theorem no_unscoped : ∀ sm : SemLoc sig, sm.isScoped .tc = true := by decide

set_option backward.isDefEq.respectTransparency.types false in
/-- THE RUN: from any memory with zero counters every weakly fair execution of @main terminates, every buffer of @main
    ends at `atEnd`, and every counter ends at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = atEnd m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none lvls lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rc c))
    (Tₙ := fun c => iprop(held (c : Thread nD τ) (ucRefs τ sig) (atEnd m c)))
    (hch := segs_chains m)
    (hinit := by
      refine Pipeline.initEach lvls lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

end Cert.S5.Ref

end
-- ==== Proof.S5RefValue.lean ====
/- What the two loops of the complex recurrence's reference compute: the states, then the four gradients, as closed
   forms over real tables. -/
module

public import proofs.«01_k».proof.Proof.S5RefRun
public import proofs.«01_k».proof.Proof.S5KernelRun
public import Idealize.ShloMosaic.Lib.Pointwise
public import Idealize.ShloMosaic.Lib.ValueLayout

@[expose] public section

set_option maxRecDepth 16384

noncomputable section

namespace Cert.S5.Ref

open Cert.S5ScanRefIdeal S5ScanRefIdeal.Gen
open Idealize.ShloMosaic Idealize.ShloMosaic.TcCoe Idealize.ShloMosaic.Tactic Idealize.SL.Sem
open Idealize.ShloMosaic.StableHlo

/-- A buffer of the program as a place of the memory. -/
abbrev dr (r : Ref sig .tc) := Proc.devRef (τ := τ) .tc r

variable {F : FTy → Type} [FloatOps F]

/-- Row `i` of a table, as the reference reads it. -/
def rowAt (x : FVec F S4096x2048 .f32) (i : S_.Idx → BitVec 32) : FVec F S2048 .f32 :=
  shapeCast S2048 (Host.dynamicSlice S1x2048 x (fun k => ((![i, constantI S_ 32 0#32] : Fin 2 → S_.Idx → BitVec 32) k (Shape.Idx.first h_S_)).toInt)
    sliceFits_S4096x2048_S1x2048) shapeCasts_S1x2048_S2048

/-- A table with row `i` replaced by `v`, as the reference writes it. -/
def putAt (x : FVec F S4096x2048 .f32) (v : FVec F S2048 .f32) (i : S_.Idx → BitVec 32) : FVec F S4096x2048 .f32 :=
  Host.dynamicUpdateSlice x (broadcastInDim S1x2048 ![1] bcast_S2048_S1x2048_1 v)
    (fun k => ((![i, constantI S_ 32 0#32] : Fin 2 → S_.Idx → BitVec 32) k (Shape.Idx.first h_S_)).toInt) updateFits_S4096x2048_S1x2048

/-! ## What each stretch writes: `w_s` lists the buffers the stretch `s` writes -/

/-- A stretch leaves a buffer it does not write as it was. -/
theorem keep (ops : List (HloOp τ sig (Elt F))) (V : Valuation τ sig (Elt F)) (W : List (Ref sig .tc))
    (hW : ops.Forall fun op => op.writes ⊆ (W.map (Proc.devRef (τ := τ) .tc)).toFinset) (r : Ref sig .tc) (h : r ∉ W) :
    after ops V (dr r) = V (dr r) := after_of_writes_sub ops V hW h

section Stretches

variable (V : Valuation τ sig (Elt F)) (r : Ref sig .tc)

abbrev w_testF : List (Ref sig .tc) := [main_while0c_c_23, main_while0c_v19]
theorem testF_keep (h : r ∉ w_testF := by decide) : after testF V (dr r) = V (dr r) :=
  keep _ V _ (forall_writes_sub_of_map rfl) r h

abbrev w_testB : List (Ref sig .tc) := [main_while1c_c_25, main_while1c_v19]
theorem testB_keep (h : r ∉ w_testB := by decide) : after testB V (dr r) = V (dr r) :=
  keep _ V _ (forall_writes_sub_of_map rfl) r h

abbrev w_preOps : List (Ref sig .tc) := [main_v0, main_v1, main_cst, main_v2, main_cst_0, main_v3, main_cst_1, main_v4, main_cst_2, main_v5, main_cst_3, main_v6, main_c, main_v7_0, main_v7_1, main_v7_2, main_v7_3, main_v7_4, main_v7_5, main_v7_6, main_v7_7, main_v7_8, main_v7_9, main_v7_10]
theorem preOps_keep (h : r ∉ w_preOps := by decide) : after preOps V (dr r) = V (dr r) :=
  keep _ V _ (forall_writes_sub_of_map rfl) r h

abbrev w_midOps : List (Ref sig .tc) := [main_cst_4, main_v8, main_cst_5, main_v9, main_cst_6, main_v10, main_cst_7, main_v11, main_cst_8, main_v12, main_cst_9, main_v13, main_cst_10, main_v14, main_cst_11, main_v15, main_c_12, main_v16_0, main_v16_1, main_v16_2, main_v16_3, main_v16_4, main_v16_5, main_v16_6, main_v16_7, main_v16_8, main_v16_9, main_v16_10, main_v16_11, main_v16_12]
theorem midOps_keep (h : r ∉ w_midOps := by decide) : after midOps V (dr r) = V (dr r) :=
  keep _ V _ (forall_writes_sub_of_map rfl) r h

abbrev w_postOps : List (Ref sig .tc) := [main_v17, main_v18]
theorem postOps_keep (h : r ∉ w_postOps := by decide) : after postOps V (dr r) = V (dr r) :=
  keep _ V _ (forall_writes_sub_of_map rfl) r h

abbrev w_stepF : List (Ref sig .tc) := [main_while0b_v21, main_while0b_v22, main_while0b_v23, main_while0b_v24, main_while0b_v25, main_while0b_v26, main_while0b_v27, main_while0b_v28]
theorem stepF_keep (h : r ∉ w_stepF := by decide) : after stepF V (dr r) = V (dr r) :=
  keep _ V _ (forall_writes_sub_of_map rfl) r h

abbrev w_endF : List (Ref sig .tc) := [main_while0b_c_23, main_while0b_v33, main_v7_4, main_v7_5, main_v7_6, main_v7_7, main_v7_8, main_v7_9, main_v7_10]
theorem endF_keep (h : r ∉ w_endF := by decide) : after endF V (dr r) = V (dr r) :=
  keep _ V _ (forall_writes_sub_of_map rfl) r h

abbrev w_indexB : List (Ref sig .tc) := [main_while1b_c_25, main_while1b_v19, main_while1b_c_26, main_while1b_v20]
theorem indexB_keep (h : r ∉ w_indexB := by decide) : after indexB V (dr r) = V (dr r) :=
  keep _ V _ (forall_writes_sub_of_map rfl) r h

abbrev w_stepB : List (Ref sig .tc) := [main_while1b_v25, main_while1b_v26, main_while1b_v27, main_while1b_v28, main_while1b_v29, main_while1b_v30, main_while1b_v31, main_while1b_v32, main_while1b_v33, main_while1b_v34, main_while1b_v35, main_while1b_v36, main_while1b_v37, main_while1b_v38, main_while1b_v39, main_while1b_v40, main_while1b_v41]
theorem stepB_keep (h : r ∉ w_stepB := by decide) : after stepB V (dr r) = V (dr r) :=
  keep _ V _ (forall_writes_sub_of_map rfl) r h

abbrev w_endB : List (Ref sig .tc) := [main_while1b_c_27, main_while1b_v44, main_v16_6, main_v16_7, main_v16_8, main_v16_9, main_v16_10, main_v16_11, main_v16_12]
theorem endB_keep (h : r ∉ w_endB := by decide) : after endB V (dr r) = V (dr r) :=
  keep _ V _ (forall_writes_sub_of_map rfl) r h

abbrev w_row0 : List (Ref sig .tc) := [main_while0b_call0_c, main_while0b_call0_v0, main_while0b_v19]
theorem row0_keep (h : r ∉ w_row0 := by decide) : after (rowOps (.of main_v7_0) (.of main_v7_4) main_while0b_call0) V (dr r) = V (dr r) :=
  keep _ V _ (forall_writes_sub_of_map rfl) r h

theorem row0_val : after (rowOps (.of main_v7_0) (.of main_v7_4) main_while0b_call0) V (dr main_while0b_v19) = rowAt (V (dr main_v7_0)) (V (dr main_v7_4)) := by
  after_results_entrywise [cast_eq]

abbrev w_row1 : List (Ref sig .tc) := [main_while0b_call1_c, main_while0b_call1_v0, main_while0b_v20]
theorem row1_keep (h : r ∉ w_row1 := by decide) : after (rowOps (.of main_v7_1) (.of main_v7_4) main_while0b_call1) V (dr r) = V (dr r) :=
  keep _ V _ (forall_writes_sub_of_map rfl) r h

theorem row1_val : after (rowOps (.of main_v7_1) (.of main_v7_4) main_while0b_call1) V (dr main_while0b_v20) = rowAt (V (dr main_v7_1)) (V (dr main_v7_4)) := by
  after_results_entrywise [cast_eq]

abbrev w_put2 : List (Ref sig .tc) := [main_while0b_call2_v0, main_while0b_call2_c, main_while0b_v29]
theorem put2_keep (h : r ∉ w_put2 := by decide) : after (putOps (.of main_v7_7) (.of main_while0b_v24) (.of main_v7_4) main_while0b_call2) V (dr r) = V (dr r) :=
  keep _ V _ (forall_writes_sub_of_map rfl) r h

theorem put2_val : after (putOps (.of main_v7_7) (.of main_while0b_v24) (.of main_v7_4) main_while0b_call2) V (dr main_while0b_v29) = putAt (V (dr main_v7_7)) (V (dr main_while0b_v24)) (V (dr main_v7_4)) := by
  after_results_entrywise [cast_eq]

abbrev w_put3 : List (Ref sig .tc) := [main_while0b_call3_v0, main_while0b_call3_c, main_while0b_v30]
theorem put3_keep (h : r ∉ w_put3 := by decide) : after (putOps (.of main_v7_8) (.of main_while0b_v28) (.of main_v7_4) main_while0b_call3) V (dr r) = V (dr r) :=
  keep _ V _ (forall_writes_sub_of_map rfl) r h

theorem put3_val : after (putOps (.of main_v7_8) (.of main_while0b_v28) (.of main_v7_4) main_while0b_call3) V (dr main_while0b_v30) = putAt (V (dr main_v7_8)) (V (dr main_while0b_v28)) (V (dr main_v7_4)) := by
  after_results_entrywise [cast_eq]

abbrev w_put4 : List (Ref sig .tc) := [main_while0b_call4_v0, main_while0b_call4_c, main_while0b_v31]
theorem put4_keep (h : r ∉ w_put4 := by decide) : after (putOps (.of main_v7_9) (.of main_v7_5) (.of main_v7_4) main_while0b_call4) V (dr r) = V (dr r) :=
  keep _ V _ (forall_writes_sub_of_map rfl) r h

theorem put4_val : after (putOps (.of main_v7_9) (.of main_v7_5) (.of main_v7_4) main_while0b_call4) V (dr main_while0b_v31) = putAt (V (dr main_v7_9)) (V (dr main_v7_5)) (V (dr main_v7_4)) := by
  after_results_entrywise [cast_eq]

abbrev w_put5 : List (Ref sig .tc) := [main_while0b_call5_v0, main_while0b_call5_c, main_while0b_v32]
theorem put5_keep (h : r ∉ w_put5 := by decide) : after (putOps (.of main_v7_10) (.of main_v7_6) (.of main_v7_4) main_while0b_call5) V (dr r) = V (dr r) :=
  keep _ V _ (forall_writes_sub_of_map rfl) r h

theorem put5_val : after (putOps (.of main_v7_10) (.of main_v7_6) (.of main_v7_4) main_while0b_call5) V (dr main_while0b_v32) = putAt (V (dr main_v7_10)) (V (dr main_v7_6)) (V (dr main_v7_4)) := by
  after_results_entrywise [cast_eq]

abbrev w_row6 : List (Ref sig .tc) := [main_while1b_call6_c, main_while1b_call6_v0, main_while1b_v21]
theorem row6_keep (h : r ∉ w_row6 := by decide) : after (rowOps (.of main_v16_0) (.of main_while1b_v20) main_while1b_call6) V (dr r) = V (dr r) :=
  keep _ V _ (forall_writes_sub_of_map rfl) r h

theorem row6_val : after (rowOps (.of main_v16_0) (.of main_while1b_v20) main_while1b_call6) V (dr main_while1b_v21) = rowAt (V (dr main_v16_0)) (V (dr main_while1b_v20)) := by
  after_results_entrywise [cast_eq]

abbrev w_row7 : List (Ref sig .tc) := [main_while1b_call7_c, main_while1b_call7_v0, main_while1b_v22]
theorem row7_keep (h : r ∉ w_row7 := by decide) : after (rowOps (.of main_v16_1) (.of main_while1b_v20) main_while1b_call7) V (dr r) = V (dr r) :=
  keep _ V _ (forall_writes_sub_of_map rfl) r h

theorem row7_val : after (rowOps (.of main_v16_1) (.of main_while1b_v20) main_while1b_call7) V (dr main_while1b_v22) = rowAt (V (dr main_v16_1)) (V (dr main_while1b_v20)) := by
  after_results_entrywise [cast_eq]

abbrev w_row8 : List (Ref sig .tc) := [main_while1b_call8_c, main_while1b_call8_v0, main_while1b_v23]
theorem row8_keep (h : r ∉ w_row8 := by decide) : after (rowOps' (.of main_v16_2) (.of main_while1b_v20) main_while1b_call8) V (dr r) = V (dr r) :=
  keep _ V _ (forall_writes_sub_of_map rfl) r h

theorem row8_val : after (rowOps' (.of main_v16_2) (.of main_while1b_v20) main_while1b_call8) V (dr main_while1b_v23) = rowAt (V (dr main_v16_2)) (V (dr main_while1b_v20)) := by
  after_results_entrywise [cast_eq]

abbrev w_row9 : List (Ref sig .tc) := [main_while1b_call9_c, main_while1b_call9_v0, main_while1b_v24]
theorem row9_keep (h : r ∉ w_row9 := by decide) : after (rowOps' (.of main_v16_3) (.of main_while1b_v20) main_while1b_call9) V (dr r) = V (dr r) :=
  keep _ V _ (forall_writes_sub_of_map rfl) r h

theorem row9_val : after (rowOps' (.of main_v16_3) (.of main_while1b_v20) main_while1b_call9) V (dr main_while1b_v24) = rowAt (V (dr main_v16_3)) (V (dr main_while1b_v20)) := by
  after_results_entrywise [cast_eq]

abbrev w_put10 : List (Ref sig .tc) := [main_while1b_call10_v0, main_while1b_call10_c, main_while1b_v42]
theorem put10_keep (h : r ∉ w_put10 := by decide) : after (putOps (.of main_v16_11) (.of main_while1b_v25) (.of main_while1b_v20) main_while1b_call10) V (dr r) = V (dr r) :=
  keep _ V _ (forall_writes_sub_of_map rfl) r h

theorem put10_val : after (putOps (.of main_v16_11) (.of main_while1b_v25) (.of main_while1b_v20) main_while1b_call10) V (dr main_while1b_v42) = putAt (V (dr main_v16_11)) (V (dr main_while1b_v25)) (V (dr main_while1b_v20)) := by
  after_results_entrywise [cast_eq]

abbrev w_put11 : List (Ref sig .tc) := [main_while1b_call11_v0, main_while1b_call11_c, main_while1b_v43]
theorem put11_keep (h : r ∉ w_put11 := by decide) : after (putOps (.of main_v16_12) (.of main_while1b_v26) (.of main_while1b_v20) main_while1b_call11) V (dr r) = V (dr r) :=
  keep _ V _ (forall_writes_sub_of_map rfl) r h

theorem put11_val : after (putOps (.of main_v16_12) (.of main_while1b_v26) (.of main_while1b_v20) main_while1b_call11) V (dr main_while1b_v43) = putAt (V (dr main_v16_12)) (V (dr main_while1b_v26)) (V (dr main_while1b_v20)) := by
  after_results_entrywise [cast_eq]

theorem stepF_re : after stepF V (dr main_while0b_v24) = (addf (subf (mulf (V (dr main_v7_2)) (V (dr main_v7_5))) (mulf (V (dr main_v7_3)) (V (dr main_v7_6)))) (V (dr main_while0b_v19))) := by
  after_results_entrywise [cast_eq]

theorem stepF_im : after stepF V (dr main_while0b_v28) = (addf (addf (mulf (V (dr main_v7_2)) (V (dr main_v7_6))) (mulf (V (dr main_v7_3)) (V (dr main_v7_5)))) (V (dr main_while0b_v20))) := by
  after_results_entrywise [cast_eq]

theorem endF_re : after endF V (dr main_v7_5) = (V (dr main_while0b_v24)) := by
  after_results_entrywise [cast_eq]

theorem endF_im : after endF V (dr main_v7_6) = (V (dr main_while0b_v28)) := by
  after_results_entrywise [cast_eq]

theorem endF_sre : after endF V (dr main_v7_9) = (V (dr main_while0b_v31)) := by
  after_results_entrywise [cast_eq]

theorem endF_sim : after endF V (dr main_v7_10) = (V (dr main_while0b_v32)) := by
  after_results_entrywise [cast_eq]

theorem indexB_val : after indexB V (dr main_while1b_v20) = subi (subi (constantI S_ 32 4096#32) (V (dr main_v16_6))) (constantI S_ 32 1#32) := by
  after_results_entrywise [cast_eq]

theorem stepB_cre : after stepB V (dr main_while1b_v25) = (addf (V (dr main_v16_9)) (V (dr main_while1b_v21))) := by
  after_results_entrywise [cast_eq]

theorem stepB_cim : after stepB V (dr main_while1b_v26) = (addf (V (dr main_v16_10)) (V (dr main_while1b_v22))) := by
  after_results_entrywise [cast_eq]

theorem stepB_re : after stepB V (dr main_while1b_v39) = (addf (mulf (V (dr main_v16_5)) (addf (V (dr main_v16_10)) (V (dr main_while1b_v22)))) (mulf (V (dr main_v16_4)) (addf (V (dr main_v16_9)) (V (dr main_while1b_v21))))) := by
  after_results_entrywise [cast_eq]

theorem stepB_im : after stepB V (dr main_while1b_v35) = (addf (mulf (V (dr main_v16_4)) (addf (V (dr main_v16_10)) (V (dr main_while1b_v22)))) (mulf (V (dr main_v16_5)) (Host.negf (addf (V (dr main_v16_9)) (V (dr main_while1b_v21))) : FVec F S2048 .f32))) := by
  after_results_entrywise [cast_eq]

theorem stepB_dre : after stepB V (dr main_while1b_v41) = (addf (addf (V (dr main_v16_7)) (mulf (addf (V (dr main_v16_10)) (V (dr main_while1b_v22))) (V (dr main_while1b_v24)))) (mulf (addf (V (dr main_v16_9)) (V (dr main_while1b_v21))) (V (dr main_while1b_v23)))) := by
  after_results_entrywise [cast_eq]

theorem stepB_dim : after stepB V (dr main_while1b_v37) = (addf (addf (V (dr main_v16_8)) (mulf (addf (V (dr main_v16_10)) (V (dr main_while1b_v22))) (V (dr main_while1b_v23)))) (mulf (Host.negf (addf (V (dr main_v16_9)) (V (dr main_while1b_v21))) : FVec F S2048 .f32) (V (dr main_while1b_v24)))) := by
  after_results_entrywise [cast_eq]

theorem endB_dre : after endB V (dr main_v16_7) = (V (dr main_while1b_v41)) := by
  after_results_entrywise [cast_eq]

theorem endB_dim : after endB V (dr main_v16_8) = (V (dr main_while1b_v37)) := by
  after_results_entrywise [cast_eq]

theorem endB_re : after endB V (dr main_v16_9) = (V (dr main_while1b_v39)) := by
  after_results_entrywise [cast_eq]

theorem endB_im : after endB V (dr main_v16_10) = (V (dr main_while1b_v35)) := by
  after_results_entrywise [cast_eq]

theorem endB_ore : after endB V (dr main_v16_11) = (V (dr main_while1b_v42)) := by
  after_results_entrywise [cast_eq]

theorem endB_oim : after endB V (dr main_v16_12) = (V (dr main_while1b_v43)) := by
  after_results_entrywise [cast_eq]

theorem pre_0 : after preOps V (dr main_v7_0) = (V (dr main_arg0)) := by
  after_results_entrywise [cast_eq]

theorem pre_1 : after preOps V (dr main_v7_1) = (V (dr main_arg1)) := by
  after_results_entrywise [cast_eq]

theorem pre_2 : after preOps V (dr main_v7_2) = shapeCast S2048 (V (dr main_arg2)) shapeCasts_S1x2048_S2048 := by
  after_results_entrywise [cast_eq]

theorem pre_3 : after preOps V (dr main_v7_3) = shapeCast S2048 (V (dr main_arg3)) shapeCasts_S1x2048_S2048 := by
  after_results_entrywise [cast_eq]

theorem pre_v0 : after preOps V (dr main_v0) = shapeCast S2048 (V (dr main_arg2)) shapeCasts_S1x2048_S2048 := by
  after_results_entrywise [cast_eq]

theorem pre_v1 : after preOps V (dr main_v1) = shapeCast S2048 (V (dr main_arg3)) shapeCasts_S1x2048_S2048 := by
  after_results_entrywise [cast_eq]

theorem pre_re : after preOps V (dr main_v7_5) = broadcastInDim S2048 ![] bcast_S_S2048 (constant (F := F) S_ .f32 0x00000000#32) := by
  after_results_entrywise [cast_eq]

theorem pre_im : after preOps V (dr main_v7_6) = broadcastInDim S2048 ![] bcast_S_S2048 (constant (F := F) S_ .f32 0x00000000#32) := by
  after_results_entrywise [cast_eq]

theorem mid_0 : after midOps V (dr main_v16_0) = (V (dr main_arg4)) := by
  after_results_entrywise [cast_eq]

theorem mid_1 : after midOps V (dr main_v16_1) = (V (dr main_arg5)) := by
  after_results_entrywise [cast_eq]

theorem mid_2 : after midOps V (dr main_v16_2) = (V (dr main_v7_9)) := by
  after_results_entrywise [cast_eq]

theorem mid_3 : after midOps V (dr main_v16_3) = (V (dr main_v7_10)) := by
  after_results_entrywise [cast_eq]

theorem mid_4 : after midOps V (dr main_v16_4) = (V (dr main_v0)) := by
  after_results_entrywise [cast_eq]

theorem mid_5 : after midOps V (dr main_v16_5) = (V (dr main_v1)) := by
  after_results_entrywise [cast_eq]

theorem mid_7 : after midOps V (dr main_v16_7) = broadcastInDim S2048 ![] bcast_S_S2048 (constant (F := F) S_ .f32 0x00000000#32) := by
  after_results_entrywise [cast_eq]

theorem mid_8 : after midOps V (dr main_v16_8) = broadcastInDim S2048 ![] bcast_S_S2048 (constant (F := F) S_ .f32 0x00000000#32) := by
  after_results_entrywise [cast_eq]

theorem mid_9 : after midOps V (dr main_v16_9) = broadcastInDim S2048 ![] bcast_S_S2048 (constant (F := F) S_ .f32 0x00000000#32) := by
  after_results_entrywise [cast_eq]

theorem mid_10 : after midOps V (dr main_v16_10) = broadcastInDim S2048 ![] bcast_S_S2048 (constant (F := F) S_ .f32 0x00000000#32) := by
  after_results_entrywise [cast_eq]

theorem post_re : after postOps V (dr main_v17) = broadcastInDim S1x2048 ![1] bcast_S2048_S1x2048_1 (V (dr main_v16_7)) := by
  after_results_entrywise [cast_eq]

theorem post_im : after postOps V (dr main_v18) = broadcastInDim S1x2048 ![1] bcast_S2048_S1x2048_1 (V (dr main_v16_8)) := by
  after_results_entrywise [cast_eq]

end Stretches

/-! ## One trip of each loop from any contents -/

section Trips

variable (X : Valuation τ sig (Elt F)) (r : Ref sig .tc)

theorem tripF_keep (h : r ∉ w_testF ++ w_row0 ++ w_row1 ++ w_stepF ++ w_put2 ++ w_put3 ++ w_put4 ++ w_put5 ++ w_endF := by decide) : afterL bodyF (after testF X) (dr r) = X (dr r) := by
  simp only [List.mem_append, not_or] at h
  obtain ⟨⟨⟨⟨⟨⟨⟨⟨h_testF, h_row0⟩, h_row1⟩, h_stepF⟩, h_put2⟩, h_put3⟩, h_put4⟩, h_put5⟩, h_endF⟩ := h
  simp only [afterL_cons, afterL_nil]
  rw [endF_keep _ _ h_endF, put5_keep _ _ h_put5, put4_keep _ _ h_put4, put3_keep _ _ h_put3, put2_keep _ _ h_put2, stepF_keep _ _ h_stepF, row1_keep _ _ h_row1, row0_keep _ _ h_row0, testF_keep _ _ h_testF]

theorem tripB_keep (h : r ∉ w_testB ++ w_indexB ++ w_row6 ++ w_row7 ++ w_row8 ++ w_row9 ++ w_stepB ++ w_put10 ++ w_put11 ++ w_endB := by decide) : afterL bodyB (after testB X) (dr r) = X (dr r) := by
  simp only [List.mem_append, not_or] at h
  obtain ⟨⟨⟨⟨⟨⟨⟨⟨⟨h_testB, h_indexB⟩, h_row6⟩, h_row7⟩, h_row8⟩, h_row9⟩, h_stepB⟩, h_put10⟩, h_put11⟩, h_endB⟩ := h
  simp only [afterL_cons, afterL_nil]
  rw [endB_keep _ _ h_endB, put11_keep _ _ h_put11, put10_keep _ _ h_put10, stepB_keep _ _ h_stepB, row9_keep _ _ h_row9, row8_keep _ _ h_row8, row7_keep _ _ h_row7, row6_keep _ _ h_row6, indexB_keep _ _ h_indexB, testB_keep _ _ h_testB]

/-- The contents the first loop's arithmetic starts from. -/
abbrev midF : Valuation τ sig (Elt F) :=
  after (rowOps (.of main_v7_1) (.of main_v7_4) main_while0b_call1) (after (rowOps (.of main_v7_0) (.of main_v7_4) main_while0b_call0) (after testF X))

/-- The contents the second loop's arithmetic starts from. -/
abbrev midB : Valuation τ sig (Elt F) :=
  after (rowOps' (.of main_v16_3) (.of main_while1b_v20) main_while1b_call9) (after (rowOps' (.of main_v16_2) (.of main_while1b_v20) main_while1b_call8) (after (rowOps (.of main_v16_1) (.of main_while1b_v20) main_while1b_call7) (after (rowOps (.of main_v16_0) (.of main_while1b_v20) main_while1b_call6) (after indexB (after testB X)))))

/-- The row the second loop works on when its counter is `i`. -/
def rowNo (i : S_.Idx → BitVec 32) : S_.Idx → BitVec 32 := subi (subi (constantI S_ 32 4096#32) i) (constantI S_ 32 1#32)

theorem midF_keep (h : r ∉ w_testF ++ w_row0 ++ w_row1 := by decide) : midF X (dr r) = X (dr r) := by
  simp only [List.mem_append, not_or] at h
  obtain ⟨⟨h_testF, h_row0⟩, h_row1⟩ := h
  unfold midF
  rw [row1_keep _ _ h_row1, row0_keep _ _ h_row0, testF_keep _ _ h_testF]

theorem midB_keep (h : r ∉ w_testB ++ w_indexB ++ w_row6 ++ w_row7 ++ w_row8 ++ w_row9 := by decide) : midB X (dr r) = X (dr r) := by
  simp only [List.mem_append, not_or] at h
  obtain ⟨⟨⟨⟨⟨h_testB, h_indexB⟩, h_row6⟩, h_row7⟩, h_row8⟩, h_row9⟩ := h
  unfold midB
  rw [row9_keep _ _ h_row9, row8_keep _ _ h_row8, row7_keep _ _ h_row7, row6_keep _ _ h_row6, indexB_keep _ _ h_indexB, testB_keep _ _ h_testB]

theorem midB_20 : midB X (dr main_while1b_v20) = rowNo (X (dr main_v16_6)) := by
  unfold midB
  rw [row9_keep _ _, row8_keep _ _, row7_keep _ _, row6_keep _ _, indexB_val, testB_keep _ _]; rfl

theorem midF_19 : midF X (dr main_while0b_v19) = rowAt (X (dr main_v7_0)) (X (dr main_v7_4)) := by
  unfold midF
  rw [row1_keep _ main_while0b_v19, row0_val, testF_keep _ main_v7_0, testF_keep _ main_v7_4]

theorem midF_20 : midF X (dr main_while0b_v20) = rowAt (X (dr main_v7_1)) (X (dr main_v7_4)) := by
  unfold midF
  rw [row1_val, row0_keep _ main_v7_1, testF_keep _ main_v7_1, row0_keep _ main_v7_4, testF_keep _ main_v7_4]

theorem midB_21 : midB X (dr main_while1b_v21) = rowAt (X (dr main_v16_0)) (rowNo (X (dr main_v16_6))) := by
  unfold midB
  rw [row9_keep _ main_while1b_v21, row8_keep _ main_while1b_v21, row7_keep _ main_while1b_v21, row6_val, indexB_keep _ main_v16_0, testB_keep _ main_v16_0, indexB_val, testB_keep _ main_v16_6]; rfl

theorem midB_22 : midB X (dr main_while1b_v22) = rowAt (X (dr main_v16_1)) (rowNo (X (dr main_v16_6))) := by
  unfold midB
  rw [row9_keep _ main_while1b_v22, row8_keep _ main_while1b_v22, row7_val, row6_keep _ main_v16_1, indexB_keep _ main_v16_1, testB_keep _ main_v16_1, row6_keep _ main_while1b_v20, indexB_val, testB_keep _ main_v16_6]; rfl

theorem midB_23 : midB X (dr main_while1b_v23) = rowAt (X (dr main_v16_2)) (rowNo (X (dr main_v16_6))) := by
  unfold midB
  rw [row9_keep _ main_while1b_v23, row8_val, row7_keep _ main_v16_2, row6_keep _ main_v16_2, indexB_keep _ main_v16_2, testB_keep _ main_v16_2, row7_keep _ main_while1b_v20, row6_keep _ main_while1b_v20, indexB_val, testB_keep _ main_v16_6]; rfl

theorem midB_24 : midB X (dr main_while1b_v24) = rowAt (X (dr main_v16_3)) (rowNo (X (dr main_v16_6))) := by
  unfold midB
  rw [row9_val, row8_keep _ main_v16_3, row7_keep _ main_v16_3, row6_keep _ main_v16_3, indexB_keep _ main_v16_3, testB_keep _ main_v16_3, row8_keep _ main_while1b_v20, row7_keep _ main_while1b_v20, row6_keep _ main_while1b_v20, indexB_val, testB_keep _ main_v16_6]; rfl

/-- The cotangent of the state in a trip of the second loop, real part: what was carried plus the row of the cotangent. -/
def cotRe : FVec F S2048 .f32 := addf (X (dr main_v16_9)) (rowAt (X (dr main_v16_0)) (rowNo (X (dr main_v16_6))))

/-- The imaginary part of the same. -/
def cotIm : FVec F S2048 .f32 := addf (X (dr main_v16_10)) (rowAt (X (dr main_v16_1)) (rowNo (X (dr main_v16_6))))

/-- The contents a trip of the first loop ends with. -/
abbrev lastF : Valuation τ sig (Elt F) :=
  after endF (after (putOps (.of main_v7_10) (.of main_v7_6) (.of main_v7_4) main_while0b_call5) (after (putOps (.of main_v7_9) (.of main_v7_5) (.of main_v7_4) main_while0b_call4) (after (putOps (.of main_v7_8) (.of main_while0b_v28) (.of main_v7_4) main_while0b_call3) (after (putOps (.of main_v7_7) (.of main_while0b_v24) (.of main_v7_4) main_while0b_call2) (after stepF (midF X))))))

/-- The contents a trip of the second loop ends with. -/
abbrev lastB : Valuation τ sig (Elt F) :=
  after endB (after (putOps (.of main_v16_12) (.of main_while1b_v26) (.of main_while1b_v20) main_while1b_call11) (after (putOps (.of main_v16_11) (.of main_while1b_v25) (.of main_while1b_v20) main_while1b_call10) (after stepB (midB X))))

/-- The state after a trip of the first loop: real part. -/
theorem tripF_re : afterL bodyF (after testF X) (dr main_v7_5) =
    (addf (subf (mulf (X (dr main_v7_2)) (X (dr main_v7_5))) (mulf (X (dr main_v7_3)) (X (dr main_v7_6)))) (rowAt (X (dr main_v7_0)) (X (dr main_v7_4)))) := by
  show lastF X (dr main_v7_5) = _
  unfold lastF
  rw [endF_re, put5_keep _ main_while0b_v24, put4_keep _ main_while0b_v24, put3_keep _ main_while0b_v24, put2_keep _ main_while0b_v24, stepF_re, midF_19, midF_keep _ main_v7_2, midF_keep _ main_v7_3, midF_keep _ main_v7_5, midF_keep _ main_v7_6]

/-- The state after a trip of the first loop: imaginary part. -/
theorem tripF_im : afterL bodyF (after testF X) (dr main_v7_6) =
    (addf (addf (mulf (X (dr main_v7_2)) (X (dr main_v7_6))) (mulf (X (dr main_v7_3)) (X (dr main_v7_5)))) (rowAt (X (dr main_v7_1)) (X (dr main_v7_4)))) := by
  show lastF X (dr main_v7_6) = _
  unfold lastF
  rw [endF_im, put5_keep _ main_while0b_v28, put4_keep _ main_while0b_v28, put3_keep _ main_while0b_v28, put2_keep _ main_while0b_v28, stepF_im, midF_20, midF_keep _ main_v7_2, midF_keep _ main_v7_3, midF_keep _ main_v7_5, midF_keep _ main_v7_6]

/-- The saved states after a trip of the first loop: the state before the trip is put in (real part). -/
theorem tripF_sre : afterL bodyF (after testF X) (dr main_v7_9) = putAt (X (dr main_v7_9)) (X (dr main_v7_5)) (X (dr main_v7_4)) := by
  show lastF X (dr main_v7_9) = _
  unfold lastF
  rw [endF_sre, put5_keep _ main_while0b_v31, put4_val, put3_keep _ main_v7_9, put2_keep _ main_v7_9, stepF_keep _ main_v7_9, midF_keep _ main_v7_9, put3_keep _ main_v7_5, put2_keep _ main_v7_5, stepF_keep _ main_v7_5, midF_keep _ main_v7_5, put3_keep _ main_v7_4, put2_keep _ main_v7_4, stepF_keep _ main_v7_4, midF_keep _ main_v7_4]

/-- The saved states after a trip of the first loop: the state before the trip is put in (imaginary part). -/
theorem tripF_sim : afterL bodyF (after testF X) (dr main_v7_10) = putAt (X (dr main_v7_10)) (X (dr main_v7_6)) (X (dr main_v7_4)) := by
  show lastF X (dr main_v7_10) = _
  unfold lastF
  rw [endF_sim, put5_val, put4_keep _ main_v7_10, put3_keep _ main_v7_10, put2_keep _ main_v7_10, stepF_keep _ main_v7_10, midF_keep _ main_v7_10, put4_keep _ main_v7_6, put3_keep _ main_v7_6, put2_keep _ main_v7_6, stepF_keep _ main_v7_6, midF_keep _ main_v7_6, put4_keep _ main_v7_4, put3_keep _ main_v7_4, put2_keep _ main_v7_4, stepF_keep _ main_v7_4, midF_keep _ main_v7_4]

/-- After a trip: what the second loop carries on of the cotangent: real part. -/
theorem tripB_re : afterL bodyB (after testB X) (dr main_v16_9) =
    (addf (mulf (X (dr main_v16_5)) (cotIm X)) (mulf (X (dr main_v16_4)) (cotRe X))) := by
  show lastB X (dr main_v16_9) = _
  unfold lastB
  rw [endB_re, put11_keep _ main_while1b_v39, put10_keep _ main_while1b_v39, stepB_re, midB_21, midB_22, midB_keep _ main_v16_4, midB_keep _ main_v16_5, midB_keep _ main_v16_9, midB_keep _ main_v16_10]
  rfl

/-- After a trip: what the second loop carries on of the cotangent: imaginary part. -/
theorem tripB_im : afterL bodyB (after testB X) (dr main_v16_10) =
    (addf (mulf (X (dr main_v16_4)) (cotIm X)) (mulf (X (dr main_v16_5)) (Host.negf (cotRe X) : FVec F S2048 .f32))) := by
  show lastB X (dr main_v16_10) = _
  unfold lastB
  rw [endB_im, put11_keep _ main_while1b_v35, put10_keep _ main_while1b_v35, stepB_im, midB_21, midB_22, midB_keep _ main_v16_4, midB_keep _ main_v16_5, midB_keep _ main_v16_9, midB_keep _ main_v16_10]
  rfl

/-- After a trip: the decay gradient's real part with one more term. -/
theorem tripB_dre : afterL bodyB (after testB X) (dr main_v16_7) =
    (addf (addf (X (dr main_v16_7)) (mulf (cotIm X) (rowAt (X (dr main_v16_3)) (rowNo (X (dr main_v16_6)))))) (mulf (cotRe X) (rowAt (X (dr main_v16_2)) (rowNo (X (dr main_v16_6)))))) := by
  show lastB X (dr main_v16_7) = _
  unfold lastB
  rw [endB_dre, put11_keep _ main_while1b_v41, put10_keep _ main_while1b_v41, stepB_dre, midB_21, midB_22, midB_23, midB_24, midB_keep _ main_v16_7, midB_keep _ main_v16_9, midB_keep _ main_v16_10]
  rfl

/-- After a trip: the decay gradient's imaginary part with one more term. -/
theorem tripB_dim : afterL bodyB (after testB X) (dr main_v16_8) =
    (addf (addf (X (dr main_v16_8)) (mulf (cotIm X) (rowAt (X (dr main_v16_2)) (rowNo (X (dr main_v16_6)))))) (mulf (Host.negf (cotRe X) : FVec F S2048 .f32) (rowAt (X (dr main_v16_3)) (rowNo (X (dr main_v16_6)))))) := by
  show lastB X (dr main_v16_8) = _
  unfold lastB
  rw [endB_dim, put11_keep _ main_while1b_v37, put10_keep _ main_while1b_v37, stepB_dim, midB_21, midB_22, midB_23, midB_24, midB_keep _ main_v16_8, midB_keep _ main_v16_9, midB_keep _ main_v16_10]
  rfl

/-- After a trip: the row's gradient is put in (real part). -/
theorem tripB_ore : afterL bodyB (after testB X) (dr main_v16_11) = putAt (X (dr main_v16_11)) (cotRe X) (rowNo (X (dr main_v16_6))) := by
  show lastB X (dr main_v16_11) = _
  unfold lastB
  rw [endB_ore, put11_keep _ main_while1b_v42, put10_val, stepB_keep _ main_v16_11, midB_keep _ main_v16_11, stepB_cre, midB_21, midB_keep _ main_v16_9, stepB_keep _ main_while1b_v20, midB_20]
  rfl

/-- After a trip: the row's gradient is put in (imaginary part). -/
theorem tripB_oim : afterL bodyB (after testB X) (dr main_v16_12) = putAt (X (dr main_v16_12)) (cotIm X) (rowNo (X (dr main_v16_6))) := by
  show lastB X (dr main_v16_12) = _
  unfold lastB
  rw [endB_oim, put11_val, put10_keep _ main_v16_12, stepB_keep _ main_v16_12, midB_keep _ main_v16_12, put10_keep _ main_while1b_v26, stepB_cim, midB_22, midB_keep _ main_v16_10, put10_keep _ main_while1b_v20, stepB_keep _ main_while1b_v20, midB_20]
  rfl

end Trips

/-! ## Rows of a table -/

/-- A row index below 4096 as a word, read back as an integer. -/
theorem toInt_row (t : ℕ) (ht : t < 4096) : (BitVec.ofNat 32 t).toInt = (t : ℤ) := by
  rw [BitVec.toInt_eq_toNat_of_lt (by rw [BitVec.toNat_ofNat]; omega), BitVec.toNat_ofNat]
  norm_cast
  omega

/-- The word the second loop's counter gives as a row number. -/
theorem rowNo_iv (k : ℕ) (hk : k < 4096) : rowNo (fun _ => Scf.iv 0#32 1#32 k) = fun _ => BitVec.ofNat 32 (4095 - k) := by
  funext y
  show 4096#32 - Scf.iv 0#32 1#32 k - 1#32 = _
  simp only [Scf.iv, BitVec.mul_one, BitVec.zero_add]
  apply BitVec.eq_of_toNat_eq
  simp only [BitVec.toNat_sub, BitVec.toNat_ofNat]
  omega

/-- Row `t` of a table, at column `j`. -/
theorem rowAt_apply (x : FVec Ideal S4096x2048 .f32) (w : S_.Idx → BitVec 32) (t : ℕ) (hw : w = fun _ => BitVec.ofNat 32 t) (ht : t < 4096) (f : ℕ → ℕ → ℝ)
    (hx : ∀ y, x y = ((f (y 1).val (y 0).val : ℝ) : EReal)) (j : S2048.Idx) :
    rowAt x w j = ((f (j 0).val t : ℝ) : EReal) := by
  subst hw
  have e : ∀ a, Host.clampedStart S4096x2048 S1x2048 sliceFits_S4096x2048_S1x2048.1
      (fun k => ((![fun _ => BitVec.ofNat 32 t, constantI S_ 32 0#32] : Fin 2 → S_.Idx → BitVec 32) k (Shape.Idx.first h_S_)).toInt) a = (![t, 0] : Fin 2 → ℕ) a := by
    intro a
    fin_cases a
    · exact Host.clampedStart_of_le _ _ _ _ (toInt_row t ht) (show t + 1 ≤ 4096 by omega)
    · exact Host.clampedStart_of_le _ _ _ _ rfl (show 0 + 2048 ≤ 2048 by omega)
  obtain ⟨i, rfl⟩ : ∃ i : Fin 2048, j = ix1 i := ⟨j 0, eq_ix1 j⟩
  refine (ValueIdx.shapeCast_1a_a_apply _ _ i).trans ((Host.dynamicSlice_apply _ _ _ _).trans ((hx _).trans ?_))
  congr 2
  · exact (congrArg (· + i.val) (e 1)).trans (Nat.zero_add _)
  · exact congrArg (· + 0) (e 0)

/-- A table with row `t` replaced, at an index. -/
theorem putAt_apply (x : FVec Ideal S4096x2048 .f32) (v : FVec Ideal S2048 .f32) (w : S_.Idx → BitVec 32) (t : ℕ) (hw : w = fun _ => BitVec.ofNat 32 t) (ht : t < 4096) (y : S4096x2048.Idx) :
    putAt x v w y = if (y 0).val = t then v (ix1 (y 1)) else x y := by
  subst hw
  have e : ∀ a, Host.clampedStart S4096x2048 S1x2048 updateFits_S4096x2048_S1x2048.1
      (fun k => ((![fun _ => BitVec.ofNat 32 t, constantI S_ 32 0#32] : Fin 2 → S_.Idx → BitVec 32) k (Shape.Idx.first h_S_)).toInt) a = (![t, 0] : Fin 2 → ℕ) a := by
    intro a
    fin_cases a
    · exact Host.clampedStart_of_le _ _ _ _ (toInt_row t ht) (show t + 1 ≤ 4096 by omega)
    · exact Host.clampedStart_of_le _ _ _ _ rfl (show 0 + 2048 ≤ 2048 by omega)
  unfold putAt
  rw [Host.dynamicUpdateSlice_apply]
  simp only [e]
  by_cases h : (y 0).val = t
  · rw [if_pos h, dif_pos]
    · pointwise
    · intro a
      fin_cases a
      · exact ⟨by simp [h], by simp [h]⟩
      · exact ⟨by simp, by simp; exact (y 1).isLt⟩
  · rw [if_neg h, dif_neg]
    intro hc
    have := hc 0
    simp at this
    omega

/-! ## The loops' states -/

section States

variable (m : (ℓ : Loc nD τ sig) → Buf (Elt Ideal) ℓ) (c : Dev nD) (ar ai : ℕ → ℝ) (br bi gr gi : ℕ → ℕ → ℝ)

/-- The argument arrays hold real tables, column first; the decays one row. -/
structure Tables : Prop where
  br : ∀ y : S4096x2048.Idx, launchContents m c (dr main_arg0) y = ((br (y 1).val (y 0).val : ℝ) : EReal)
  bi : ∀ y : S4096x2048.Idx, launchContents m c (dr main_arg1) y = ((bi (y 1).val (y 0).val : ℝ) : EReal)
  ar : ∀ y : S1x2048.Idx, launchContents m c (dr main_arg2) y = ((ar (y 1).val : ℝ) : EReal)
  ai : ∀ y : S1x2048.Idx, launchContents m c (dr main_arg3) y = ((ai (y 1).val : ℝ) : EReal)
  gr : ∀ y : S4096x2048.Idx, launchContents m c (dr main_arg4) y = ((gr (y 1).val (y 0).val : ℝ) : EReal)
  gi : ∀ y : S4096x2048.Idx, launchContents m c (dr main_arg5) y = ((gi (y 1).val (y 0).val : ℝ) : EReal)

/-- The zero a broadcast constant holds. -/
theorem zero_row (j : S2048.Idx) :
    broadcastInDim S2048 ![] bcast_S_S2048 (constant (F := Ideal) S_ .f32 0x00000000#32) j = ((0 : ℝ) : EReal) := by
  pointwise
  norm_cast

/-- A one-row table read as a row. -/
theorem row_apply (x : FVec Ideal S1x2048 .f32) (f : ℕ → ℝ) (hx : ∀ y, x y = ((f (y 1).val : ℝ) : EReal)) (j : S2048.Idx) :
    shapeCast S2048 x shapeCasts_S1x2048_S2048 j = ((f (j 0).val : ℝ) : EReal) := by
  obtain ⟨i, rfl⟩ : ∃ i : Fin 2048, j = ix1 i := ⟨j 0, eq_ix1 j⟩
  exact (ValueIdx.shapeCast_1a_a_apply _ _ i).trans (hx _)

theorem add_real {x y : EReal} {a b : ℝ} (hx : x = (a : EReal)) (hy : y = (b : EReal)) : x + y = ((a + b : ℝ) : EReal) := by
  rw [hx, hy, EReal.coe_add]
theorem sub_real {x y : EReal} {a b : ℝ} (hx : x = (a : EReal)) (hy : y = (b : EReal)) : x - y = ((a - b : ℝ) : EReal) := by
  rw [hx, hy, EReal.coe_sub]
theorem mul_real {x y : EReal} {a b : ℝ} (hx : x = (a : EReal)) (hy : y = (b : EReal)) : x * y = ((a * b : ℝ) : EReal) := by
  rw [hx, hy, EReal.coe_mul]
theorem neg_real {x : EReal} {a : ℝ} (hx : x = (a : EReal)) : -x = ((-a : ℝ) : EReal) := by
  rw [hx, EReal.coe_neg]

/-- Before the `k`-th trip the first loop carries the state after `k` steps, and has saved the states before steps `0 … k-1`. -/
theorem stateF (h : Tables m c ar ai br bi gr gi) : ∀ k ≤ 4096,
    (atTrip testF bodyF (atF m) k c (dr main_v7_0) = launchContents m c (dr main_arg0)
    ∧ atTrip testF bodyF (atF m) k c (dr main_v7_1) = launchContents m c (dr main_arg1)
    ∧ (∀ j : S2048.Idx, atTrip testF bodyF (atF m) k c (dr main_v7_2) j = ((ar (j 0).val : ℝ) : EReal))
    ∧ (∀ j : S2048.Idx, atTrip testF bodyF (atF m) k c (dr main_v7_3) j = ((ai (j 0).val : ℝ) : EReal)))
    ∧ (∀ j : S2048.Idx, atTrip testF bodyF (atF m) k c (dr main_v7_5) j = ((colRe ar ai br bi (j 0).val k : ℝ) : EReal))
    ∧ (∀ j : S2048.Idx, atTrip testF bodyF (atF m) k c (dr main_v7_6) j = ((colIm ar ai br bi (j 0).val k : ℝ) : EReal))
    ∧ (∀ y : S4096x2048.Idx, (y 0).val < k → atTrip testF bodyF (atF m) k c (dr main_v7_9) y = ((colRe ar ai br bi (y 1).val (y 0).val : ℝ) : EReal))
    ∧ (∀ y : S4096x2048.Idx, (y 0).val < k → atTrip testF bodyF (atF m) k c (dr main_v7_10) y = ((colIm ar ai br bi (y 1).val (y 0).val : ℝ) : EReal)) := by
  intro k
  induction k with
  | zero =>
    intro _
    refine ⟨⟨pre_0 _, pre_1 _, fun j => ?_, fun j => ?_⟩, fun j => ?_, fun j => ?_, fun y hy => absurd hy (Nat.not_lt_zero _), fun y hy => absurd hy (Nat.not_lt_zero _)⟩
    · exact (congrFun (pre_2 _) j).trans (row_apply _ ar h.ar j)
    · exact (congrFun (pre_3 _) j).trans (row_apply _ ai h.ai j)
    · exact (congrFun (pre_re _) j).trans (zero_row j)
    · exact (congrFun (pre_im _) j).trans (zero_row j)
  | succ k ih =>
    intro hk
    obtain ⟨⟨i0, i1, i2, i3⟩, i5, i6, i9, i10⟩ := ih (by omega)
    have hc : atTrip testF bodyF (atF m) k c (dr main_v7_4) = fun _ => BitVec.ofNat 32 k :=
      (counterF (atF m) (atF_counter m) c k).trans (by funext _; simp only [Scf.iv, BitVec.mul_one, BitVec.zero_add])
    rw [atTrip_succ]
    refine ⟨⟨(tripF_keep _ _).trans i0, (tripF_keep _ _).trans i1,
      fun j => (congrFun (tripF_keep _ main_v7_2) j).trans (i2 j), fun j => (congrFun (tripF_keep _ main_v7_3) j).trans (i3 j)⟩,
      fun j => ?_, fun j => ?_, fun y hy => ?_, fun y hy => ?_⟩
    · exact (congrFun (tripF_re _) j).trans (add_real (sub_real (mul_real (i2 j) (i5 j)) (mul_real (i3 j) (i6 j)))
        (rowAt_apply _ _ k hc (by omega) br (fun y => (congrFun i0 y).trans (h.br y)) j))
    · exact (congrFun (tripF_im _) j).trans (add_real (add_real (mul_real (i2 j) (i6 j)) (mul_real (i3 j) (i5 j)))
        (rowAt_apply _ _ k hc (by omega) bi (fun y => (congrFun i1 y).trans (h.bi y)) j))
    · refine ((congrFun (tripF_sre _) y).trans (putAt_apply _ _ _ k hc (by omega) y)).trans ?_
      split
      · rename_i e
        rw [i5, e]
        rfl
      · exact i9 y (by omega)
    · refine ((congrFun (tripF_sim _) y).trans (putAt_apply _ _ _ k hc (by omega) y)).trans ?_
      split
      · rename_i e
        rw [i6, e]
        rfl
      · exact i10 y (by omega)

/-- The argument arrays. -/
abbrev argRefs : List (Ref sig .tc) := [main_arg0, main_arg1, main_arg2, main_arg3, main_arg4, main_arg5]

/-- A buffer the first loop does not write is, at each trip, as it was when the loop was entered. -/
theorem keptF (r : Ref sig .tc) (hr : ∀ X : Valuation τ sig (Elt Ideal), afterL bodyF (after testF X) (dr r) = X (dr r)) (k : ℕ) :
    atTrip testF bodyF (atF m) k c (dr r) = atF m c (dr r) := by
  induction k with
  | zero => rfl
  | succ k ih => rw [atTrip_succ]; exact (hr _).trans ih

/-- The same of the second loop. -/
theorem keptB (r : Ref sig .tc) (hr : ∀ X : Valuation τ sig (Elt Ideal), afterL bodyB (after testB X) (dr r) = X (dr r)) (k : ℕ) :
    atTrip testB bodyB (atB m) k c (dr r) = atB m c (dr r) := by
  induction k with
  | zero => rfl
  | succ k ih => rw [atTrip_succ]; exact (hr _).trans ih

/-- No loop, nor anything around them, touches an argument array: at the first loop's exit. -/
theorem args_outF (r : Ref sig .tc) (hr : r ∈ argRefs) : outF m c (dr r) = launchContents m c (dr r) := by
  simp only [List.mem_cons, List.not_mem_nil, or_false] at hr
  rcases hr with rfl | rfl | rfl | rfl | rfl | rfl <;>
  exact (testF_keep _ _).trans ((keptF m c _ (fun X => tripF_keep X _ (by decide)) 4096).trans (preOps_keep _ _))

/-- The same at the program's end. -/
theorem args_end (r : Ref sig .tc) (hr : r ∈ argRefs) : atEnd m c (dr r) = launchContents m c (dr r) := by
  refine Eq.trans ?_ (args_outF m c r hr)
  simp only [List.mem_cons, List.not_mem_nil, or_false] at hr
  rcases hr with rfl | rfl | rfl | rfl | rfl | rfl <;>
  exact (postOps_keep _ _).trans ((testB_keep _ _).trans
    ((keptB m c _ (fun X => tripB_keep X _ (by decide)) 4096).trans (midOps_keep _ _)))

/-- Where the second loop starts: the cotangents, the saved states and the decays as tables. -/
theorem atB_tables (h : Tables m c ar ai br bi gr gi) :
    (∀ y : S4096x2048.Idx, atB m c (dr main_v16_0) y = ((gr (y 1).val (y 0).val : ℝ) : EReal))
    ∧ (∀ y : S4096x2048.Idx, atB m c (dr main_v16_1) y = ((gi (y 1).val (y 0).val : ℝ) : EReal))
    ∧ (∀ y : S4096x2048.Idx, atB m c (dr main_v16_2) y = ((colRe ar ai br bi (y 1).val (y 0).val : ℝ) : EReal))
    ∧ (∀ y : S4096x2048.Idx, atB m c (dr main_v16_3) y = ((colIm ar ai br bi (y 1).val (y 0).val : ℝ) : EReal))
    ∧ (∀ j : S2048.Idx, atB m c (dr main_v16_4) j = ((ar (j 0).val : ℝ) : EReal))
    ∧ (∀ j : S2048.Idx, atB m c (dr main_v16_5) j = ((ai (j 0).val : ℝ) : EReal)) := by
  have hF := stateF m c ar ai br bi gr gi h 4096 le_rfl
  refine ⟨fun y => ?_, fun y => ?_, fun y => ?_, fun y => ?_, fun j => ?_, fun j => ?_⟩
  · exact (congrFun ((mid_0 _).trans (args_outF m c main_arg4 (by simp))) y).trans (h.gr y)
  · exact (congrFun ((mid_1 _).trans (args_outF m c main_arg5 (by simp))) y).trans (h.gi y)
  · exact (congrFun ((mid_2 _).trans (testF_keep _ _)) y).trans (hF.2.2.2.1 y (y 0).isLt)
  · exact (congrFun ((mid_3 _).trans (testF_keep _ _)) y).trans (hF.2.2.2.2 y (y 0).isLt)
  · exact (congrFun ((mid_4 _).trans ((testF_keep _ _).trans ((keptF m c _ (fun X => tripF_keep X _ (by decide)) 4096).trans (pre_v0 _)))) j).trans
      (row_apply _ ar h.ar j)
  · exact (congrFun ((mid_5 _).trans ((testF_keep _ _).trans ((keptF m c _ (fun X => tripF_keep X _ (by decide)) 4096).trans (pre_v1 _)))) j).trans
      (row_apply _ ai h.ai j)

/-- The reversed recurrence at step `n` of column `l`. -/
abbrev R (l n : ℕ) : ℝ × ℝ := rev (ar l) (ai l) (gr l) (gi l) n

/-- Before the `k`-th trip the second loop carries the decayed cotangent of the last `k` rows and the decay gradients
    summed over them, and has written those rows' gradients. -/
theorem stateB (h : Tables m c ar ai br bi gr gi) : ∀ k ≤ 4096,
    (∀ j : S2048.Idx, atTrip testB bodyB (atB m) k c (dr main_v16_9) j
        = ((ai (j 0).val * (R ar ai gr gi (j 0).val k).2 + ar (j 0).val * (R ar ai gr gi (j 0).val k).1 : ℝ) : EReal))
    ∧ (∀ j : S2048.Idx, atTrip testB bodyB (atB m) k c (dr main_v16_10) j
        = ((ar (j 0).val * (R ar ai gr gi (j 0).val k).2 + ai (j 0).val * -(R ar ai gr gi (j 0).val k).1 : ℝ) : EReal))
    ∧ (∀ j : S2048.Idx, atTrip testB bodyB (atB m) k c (dr main_v16_7) j
        = ((∑ n ∈ Finset.range k, termRe (ar (j 0).val) (ai (j 0).val) (gr (j 0).val) (gi (j 0).val) (colRe ar ai br bi (j 0).val) (colIm ar ai br bi (j 0).val) (n + 1) : ℝ) : EReal))
    ∧ (∀ j : S2048.Idx, atTrip testB bodyB (atB m) k c (dr main_v16_8) j
        = ((∑ n ∈ Finset.range k, termIm (ar (j 0).val) (ai (j 0).val) (gr (j 0).val) (gi (j 0).val) (colRe ar ai br bi (j 0).val) (colIm ar ai br bi (j 0).val) (n + 1) : ℝ) : EReal))
    ∧ (∀ y : S4096x2048.Idx, 4096 - k ≤ (y 0).val → atTrip testB bodyB (atB m) k c (dr main_v16_11) y
        = (((R ar ai gr gi (y 1).val (4096 - (y 0).val)).1 : ℝ) : EReal))
    ∧ (∀ y : S4096x2048.Idx, 4096 - k ≤ (y 0).val → atTrip testB bodyB (atB m) k c (dr main_v16_12) y
        = (((R ar ai gr gi (y 1).val (4096 - (y 0).val)).2 : ℝ) : EReal)) := by
  obtain ⟨t0, t1, t2, t3, t4, t5⟩ := atB_tables m c ar ai br bi gr gi h
  intro k
  induction k with
  | zero =>
    intro _
    refine ⟨fun j => ?_, fun j => ?_, fun j => ?_, fun j => ?_, fun y hy => absurd (y 0).isLt (by show ¬ (y 0).val < 4096; omega), fun y hy => absurd (y 0).isLt (by show ¬ (y 0).val < 4096; omega)⟩
    · rw [show R ar ai gr gi (j 0).val 0 = (0, 0) from rfl, mul_zero, mul_zero, add_zero]
      exact (congrFun (mid_9 _) j).trans (zero_row j)
    · rw [show R ar ai gr gi (j 0).val 0 = (0, 0) from rfl, neg_zero, mul_zero, mul_zero, add_zero]
      exact (congrFun (mid_10 _) j).trans (zero_row j)
    · exact (congrFun (mid_7 _) j).trans (zero_row j)
    · exact (congrFun (mid_8 _) j).trans (zero_row j)
  | succ k ih =>
    intro hk
    obtain ⟨i9, i10, i7, i8, i11, i12⟩ := ih (by omega)
    have e0 := keptB m c main_v16_0 (fun X => tripB_keep X _ (by decide)) k
    have e1 := keptB m c main_v16_1 (fun X => tripB_keep X _ (by decide)) k
    have e2 := keptB m c main_v16_2 (fun X => tripB_keep X _ (by decide)) k
    have e3 := keptB m c main_v16_3 (fun X => tripB_keep X _ (by decide)) k
    have i4 : ∀ j : S2048.Idx, atTrip testB bodyB (atB m) k c (dr main_v16_4) j = ((ar (j 0).val : ℝ) : EReal) := fun j =>
      (congrFun (keptB m c main_v16_4 (fun X => tripB_keep X _ (by decide)) k) j).trans (t4 j)
    have i5 : ∀ j : S2048.Idx, atTrip testB bodyB (atB m) k c (dr main_v16_5) j = ((ai (j 0).val : ℝ) : EReal) := fun j =>
      (congrFun (keptB m c main_v16_5 (fun X => tripB_keep X _ (by decide)) k) j).trans (t5 j)
    have hc : rowNo (atTrip testB bodyB (atB m) k c (dr main_v16_6)) = fun _ => BitVec.ofNat 32 (4095 - k) := by
      rw [counterB (atB m) (atB_counter m) c k]
      exact rowNo_iv k (by omega)
    have hcr : ∀ j : S2048.Idx, cotRe (atTrip testB bodyB (atB m) k c) j = (((R ar ai gr gi (j 0).val (k + 1)).1 : ℝ) : EReal) := by
      intro j
      refine (add_real (i9 j) (rowAt_apply _ _ (4095 - k) hc (by omega) gr (fun y => (congrFun e0 y).trans (t0 y)) j)).trans (congrArg _ ?_)
      show _ = ar (j 0).val * (R ar ai gr gi (j 0).val k).1 - -ai (j 0).val * (R ar ai gr gi (j 0).val k).2 + gr (j 0).val (4095 - k)
      ring
    have hci : ∀ j : S2048.Idx, cotIm (atTrip testB bodyB (atB m) k c) j = (((R ar ai gr gi (j 0).val (k + 1)).2 : ℝ) : EReal) := by
      intro j
      refine (add_real (i10 j) (rowAt_apply _ _ (4095 - k) hc (by omega) gi (fun y => (congrFun e1 y).trans (t1 y)) j)).trans (congrArg _ ?_)
      show _ = ar (j 0).val * (R ar ai gr gi (j 0).val k).2 + -ai (j 0).val * (R ar ai gr gi (j 0).val k).1 + gi (j 0).val (4095 - k)
      ring
    have hhr := fun j : S2048.Idx => rowAt_apply _ _ (4095 - k) hc (by omega) (colRe ar ai br bi) (fun y => (congrFun e2 y).trans (t2 y)) j
    have hhi := fun j : S2048.Idx => rowAt_apply _ _ (4095 - k) hc (by omega) (colIm ar ai br bi) (fun y => (congrFun e3 y).trans (t3 y)) j
    rw [atTrip_succ]
    refine ⟨fun j => ?_, fun j => ?_, fun j => ?_, fun j => ?_, fun y hy => ?_, fun y hy => ?_⟩
    · exact (congrFun (tripB_re _) j).trans (add_real (mul_real (i5 j) (hci j)) (mul_real (i4 j) (hcr j)))
    · exact (congrFun (tripB_im _) j).trans (add_real (mul_real (i4 j) (hci j)) (mul_real (i5 j) (neg_real (hcr j))))
    · refine (congrFun (tripB_dre _) j).trans ((add_real (add_real (i7 j) (mul_real (hci j) (hhi j))) (mul_real (hcr j) (hhr j))).trans (congrArg _ ?_))
      rw [Finset.sum_range_succ, termRe, show 4096 - (k + 1) = 4095 - k by omega]
      ring
    · refine (congrFun (tripB_dim _) j).trans ((add_real (add_real (i8 j) (mul_real (hci j) (hhr j))) (mul_real (neg_real (hcr j)) (hhi j))).trans (congrArg _ ?_))
      rw [Finset.sum_range_succ, termIm, show 4096 - (k + 1) = 4095 - k by omega]
      ring
    · refine ((congrFun (tripB_ore _) y).trans (putAt_apply _ _ _ (4095 - k) hc (by omega) y)).trans ?_
      split
      · rename_i e
        rw [hcr, show 4096 - (y 0).val = k + 1 by omega]
        rfl
      · exact i11 y (by omega)
    · refine ((congrFun (tripB_oim _) y).trans (putAt_apply _ _ _ (4095 - k) hc (by omega) y)).trans ?_
      split
      · rename_i e
        rw [hci, show 4096 - (y 0).val = k + 1 by omega]
        rfl
      · exact i12 y (by omega)

/-- The reference's first result: the gradient of the input, real part. -/
theorem ref_re (h : Tables m c ar ai br bi gr gi) : atEnd m c (dr main_v16_11) = gradRe ar ai gr gi := by
  refine (postOps_keep _ _).trans ((testB_keep _ _).trans (funext fun y => ?_))
  exact (stateB m c ar ai br bi gr gi h 4096 le_rfl).2.2.2.2.1 y (by omega)

/-- The reference's second result: its imaginary part. -/
theorem ref_im (h : Tables m c ar ai br bi gr gi) : atEnd m c (dr main_v16_12) = gradIm ar ai gr gi := by
  refine (postOps_keep _ _).trans ((testB_keep _ _).trans (funext fun y => ?_))
  exact (stateB m c ar ai br bi gr gi h 4096 le_rfl).2.2.2.2.2 y (by omega)

/-- A row broadcast to a one-row table, at an index. -/
theorem one_row (x : FVec Ideal S2048 .f32) (y : S1x2048.Idx) : broadcastInDim S1x2048 ![1] bcast_S2048_S1x2048_1 x y = x (ix1 (y 1)) := by
  pointwise

/-- The reference's third result: the gradient of the decay, real part. -/
theorem ref_decay_re (h : Tables m c ar ai br bi gr gi) :
    atEnd m c (dr main_v17) = decayRe ar ai gr gi (colRe ar ai br bi) (colIm ar ai br bi) := by
  refine (post_re _).trans (funext fun y => (one_row _ y).trans ((congrFun (testB_keep _ _) _).trans ?_))
  exact (stateB m c ar ai br bi gr gi h 4096 le_rfl).2.2.1 _

/-- The reference's fourth result: its imaginary part. -/
theorem ref_decay_im (h : Tables m c ar ai br bi gr gi) :
    atEnd m c (dr main_v18) = decayIm ar ai gr gi (colRe ar ai br bi) (colIm ar ai br bi) := by
  refine (post_im _).trans (funext fun y => (one_row _ y).trans ((congrFun (testB_keep _ _) _).trans ?_))
  exact (stateB m c ar ai br bi gr gi h 4096 le_rfl).2.2.2.1 _

end States

end Cert.S5.Ref

end
-- ==== Proof.S5Finite.lean ====
/- The precondition of the complex recurrence: every entry of the six arguments is finite, so each argument is a table
   of reals. -/
module

public import proofs.«01_k».proof.Pre_s5_finite
public import proofs.«01_k».proof.Proof.Finite

@[expose] public section

set_option maxRecDepth 16384

noncomputable section

namespace Cert.S5

open Idealize.ShloMosaic Cert.Pre_s5_finite

/-- The side conditions the precondition states. -/
theorem preFacts : Cert.Pre_s5_finite.Facts where
  bcast_S_S4096x2048 := by decide
  reducesTo_S4096x2048_S_d0_1 := by decide
  h_S_ := by decide
  bcast_S_S1x2048 := by decide
  reducesTo_S1x2048_S_d0_1 := by decide

variable [Cert.Pre_s5_finite.Facts]

/-- What the precondition says of one argument, whatever its shape. -/
theorem real_of_all {s : Shape} {dims : List (Fin s.rank)} (x : FVec Ideal s .f32) (hs : S_.BroadcastsInDim s (![] : Fin 0 → Fin s.rank))
    (hr : s.ReducesTo dims S_) (hu : 0 < S_.numel) (j : S_.Idx)
    (h : Host.reduce IntOp.andi (cmpf .olt (Host.absf x) (broadcastInDim s ![] hs (constant S_ .f32 0x7F800000#32)))
      (constantI S_ 1 1#1) hr hu j = 1#1) (y : s.Idx) : x y = (((x y : EReal).toReal : ℝ) : EReal) := by
  haveI : Subsingleton S_.Idx := ⟨fun a b => funext fun k => k.elim0⟩
  exact Cert.Scan.real_of_abs_lt _ (Host.reduce_andi_all _ _ hr hu j h y)

/-- The six arguments hold reals. -/
theorem real_args (br bi : FVec Ideal S4096x2048 .f32) (ar ai : FVec Ideal S1x2048 .f32) (gr gi : FVec Ideal S4096x2048 .f32)
    (h : Cert.Pre_s5_finite.fn br bi ar ai gr gi = fun _ => 1#1) :
    (∀ y, br y = (((br y : EReal).toReal : ℝ) : EReal)) ∧ (∀ y, bi y = (((bi y : EReal).toReal : ℝ) : EReal))
    ∧ (∀ y, ar y = (((ar y : EReal).toReal : ℝ) : EReal)) ∧ (∀ y, ai y = (((ai y : EReal).toReal : ℝ) : EReal))
    ∧ (∀ y, gr y = (((gr y : EReal).toReal : ℝ) : EReal)) ∧ (∀ y, gi y = (((gi y : EReal).toReal : ℝ) : EReal)) := by
  have h0 := congrFun h (Shape.Idx.first Facts.h_S_)
  dsimp only [fn, fn_part1] at h0
  obtain ⟨h1, f5⟩ := IntOp.andi_eq_one.mp h0
  obtain ⟨h2, f4⟩ := IntOp.andi_eq_one.mp h1
  obtain ⟨h3, f3⟩ := IntOp.andi_eq_one.mp h2
  obtain ⟨h4, f2⟩ := IntOp.andi_eq_one.mp h3
  obtain ⟨f0, f1⟩ := IntOp.andi_eq_one.mp h4
  exact ⟨real_of_all _ _ _ _ _ f0, real_of_all _ _ _ _ _ f1, real_of_all _ _ _ _ _ f2, real_of_all _ _ _ _ _ f3,
    real_of_all _ _ _ _ _ f4, real_of_all _ _ _ _ _ f5⟩

/-- The real table of an array, column first; 0 outside it. -/
def table (x : FVec Ideal S4096x2048 .f32) (l t : ℕ) : ℝ :=
  if h : t < 4096 ∧ l < 2048 then (x (ValueIdx.ix2 (n0 := 4096) (n1 := 2048) ⟨t, h.1⟩ ⟨l, h.2⟩) : EReal).toReal else 0

theorem table_apply (x : FVec Ideal S4096x2048 .f32) (h : ∀ y, x y = (((x y : EReal).toReal : ℝ) : EReal)) (y : S4096x2048.Idx) :
    x y = ((table x (y 1).val (y 0).val : ℝ) : EReal) := by
  have hy : (y 0).val < 4096 ∧ (y 1).val < 2048 := ⟨(y 0).isLt, (y 1).isLt⟩
  unfold table
  rw [dif_pos hy]
  exact (h y).trans (congrArg (fun z => (((x z : EReal).toReal : ℝ) : EReal)) (ValueIdx.eq_ix2 y))

/-- The real row of a one-row array; 0 outside it. -/
def row (x : FVec Ideal S1x2048 .f32) (l : ℕ) : ℝ :=
  if h : l < 2048 then (x (ValueIdx.ix2 (n0 := 1) (n1 := 2048) 0 ⟨l, h⟩) : EReal).toReal else 0

theorem row_apply (x : FVec Ideal S1x2048 .f32) (h : ∀ y, x y = (((x y : EReal).toReal : ℝ) : EReal)) (y : S1x2048.Idx) :
    x y = ((row x (y 1).val : ℝ) : EReal) := by
  have hy : (y 1).val < 2048 := (y 1).isLt
  have h0 : (y 0) = (0 : Fin 1) := Subsingleton.elim (α := Fin 1) _ _
  unfold row
  rw [dif_pos hy]
  refine (h y).trans (congrArg (fun z => (((x z : EReal).toReal : ℝ) : EReal)) ((ValueIdx.eq_ix2 y).trans ?_))
  exact congrArg (fun a : Fin 1 => ValueIdx.ix2 (n0 := 1) (n1 := 2048) a (y 1)) h0

end Cert.S5

end
-- ==== Proof.S5Equal.lean ====
/- The complex recurrence's two programs side by side: the reference's frame, and the equation of the results. -/
module

public import proofs.«01_k».proof.Defs
public import proofs.«01_k».proof.Proof.S5KernelRun
public import proofs.«01_k».proof.Proof.S5RefValue
public import proofs.«01_k».proof.Proof.S5Finite

@[expose] public section

set_option maxRecDepth 16384

noncomputable section

namespace Cert.S5

open Idealize.ShloMosaic Idealize.SL.Sem

/-- The reference runs, its arguments end as launched and every counter ends at zero. -/
theorem ref_frame : Cert.quiescent_S5ScanRefIdeal (hS5ScanRefIdeal := S5ScanRefIdeal.Gen.facts) := fun m ρ _ =>
  (Ref.run (F := Ideal) m ρ).mono fun _ h => ⟨fun c =>
    ⟨(h.1 c _ (by decide)).trans (Ref.args_end m c _ (by simp)), (h.1 c _ (by decide)).trans (Ref.args_end m c _ (by simp)),
     (h.1 c _ (by decide)).trans (Ref.args_end m c _ (by simp)), (h.1 c _ (by decide)).trans (Ref.args_end m c _ (by simp)),
     (h.1 c _ (by decide)).trans (Ref.args_end m c _ (by simp)), (h.1 c _ (by decide)).trans (Ref.args_end m c _ (by simp))⟩, h.2⟩

/-- On finite arguments the kernel program's four gradients are the reference's. -/
theorem equal : algebraic_S5ScanIdeal_S5ScanRefIdeal_pre_s5_finite (hS5ScanIdeal := S5ScanIdeal.Gen.facts)
    (hS5ScanRefIdeal := S5ScanRefIdeal.Gen.facts) (hPre_s5_finite := preFacts) := fun m ρ m' ρ' hpre hagree => by
  letI := preFacts
  have hr := fun c => real_args _ _ _ _ _ _ (hpre c)
  let br := fun c : Dev S5ScanIdeal.nD => table (m ((c.tc : Thread S5ScanIdeal.nD S5ScanIdeal.τ).loc S5ScanIdeal.main_arg0))
  let bi := fun c : Dev S5ScanIdeal.nD => table (m ((c.tc : Thread S5ScanIdeal.nD S5ScanIdeal.τ).loc S5ScanIdeal.main_arg1))
  let ar := fun c : Dev S5ScanIdeal.nD => row (m ((c.tc : Thread S5ScanIdeal.nD S5ScanIdeal.τ).loc S5ScanIdeal.main_arg2))
  let ai := fun c : Dev S5ScanIdeal.nD => row (m ((c.tc : Thread S5ScanIdeal.nD S5ScanIdeal.τ).loc S5ScanIdeal.main_arg3))
  let gr := fun c : Dev S5ScanIdeal.nD => table (m ((c.tc : Thread S5ScanIdeal.nD S5ScanIdeal.τ).loc S5ScanIdeal.main_arg4))
  let gi := fun c : Dev S5ScanIdeal.nD => table (m ((c.tc : Thread S5ScanIdeal.nD S5ScanIdeal.τ).loc S5ScanIdeal.main_arg5))
  have h0 := fun c => table_apply _ (hr c).1
  have h1 := fun c => table_apply _ (hr c).2.1
  have h2 := fun c => row_apply _ (hr c).2.2.1
  have h3 := fun c => row_apply _ (hr c).2.2.2.1
  have h4 := fun c => table_apply _ (hr c).2.2.2.2.1
  have h5 := fun c => table_apply _ (hr c).2.2.2.2.2
  have ht : ∀ c, Ref.Tables m' c (ar c) (ai c) (br c) (bi c) (gr c) (gi c) := fun c =>
    { br := fun y => (congrFun (hagree c).1 y).trans (h0 c y)
      bi := fun y => (congrFun (hagree c).2.1 y).trans (h1 c y)
      ar := fun y => (congrFun (hagree c).2.2.1 y).trans (h2 c y)
      ai := fun y => (congrFun (hagree c).2.2.2.1 y).trans (h3 c y)
      gr := fun y => (congrFun (hagree c).2.2.2.2.1 y).trans (h4 c y)
      gi := fun y => (congrFun (hagree c).2.2.2.2.2 y).trans (h5 c y) }
  refine ⟨fun c => gradRe (ar c) (ai c) (gr c) (gi c), fun c => gradIm (ar c) (ai c) (gr c) (gi c),
    fun c => decayRe (ar c) (ai c) (gr c) (gi c) (colRe (ar c) (ai c) (br c) (bi c)) (colIm (ar c) (ai c) (br c) (bi c)),
    fun c => decayIm (ar c) (ai c) (gr c) (gi c) (colRe (ar c) (ai c) (br c) (bi c)) (colIm (ar c) (ai c) (br c) (bi c)),
    (run m ρ).mono fun _ h c => ⟨(h c).1.trans ?_, (h c).2.1.trans ?_, (h c).2.2.1.trans ?_, (h c).2.2.2.1.trans ?_, (h c).2.2.2.2⟩,
    (Ref.run (F := Ideal) m' ρ').mono fun _ h c => ⟨(h.1 c _ (by decide)).trans (Ref.ref_re m' c _ _ _ _ _ _ (ht c)),
      (h.1 c _ (by decide)).trans (Ref.ref_im m' c _ _ _ _ _ _ (ht c)),
      (h.1 c _ (by decide)).trans (Ref.ref_decay_re m' c _ _ _ _ _ _ (ht c)),
      (h.1 c _ (by decide)).trans (Ref.ref_decay_im m' c _ _ _ _ _ _ (ht c)),
      (h.1 c _ (by decide)).trans (Ref.args_end m' c _ (by simp)), (h.1 c _ (by decide)).trans (Ref.args_end m' c _ (by simp)),
      (h.1 c _ (by decide)).trans (Ref.args_end m' c _ (by simp)), (h.1 c _ (by decide)).trans (Ref.args_end m' c _ (by simp)),
      (h.1 c _ (by decide)).trans (Ref.args_end m' c _ (by simp)), (h.1 c _ (by decide)).trans (Ref.args_end m' c _ (by simp))⟩⟩
  · exact kernel_re m ρ c (ar c) (ai c) (br c) (bi c) (gr c) (gi c) (h0 c) (h1 c) (h2 c) (h3 c) (h4 c) (h5 c)
  · exact kernel_im m ρ c (ar c) (ai c) (br c) (bi c) (gr c) (gi c) (h0 c) (h1 c) (h2 c) (h3 c) (h4 c) (h5 c)
  · exact kernel_decay_re m ρ c (ar c) (ai c) (br c) (bi c) (gr c) (gi c) (h0 c) (h1 c) (h2 c) (h3 c) (h4 c) (h5 c)
  · exact kernel_decay_im m ρ c (ar c) (ai c) (br c) (bi c) (gr c) (gi c) (h0 c) (h1 c) (h2 c) (h3 c) (h4 c) (h5 c)

end Cert.S5

end
-- ==== Proof.Products.lean ====
/- Entries of a two-axis array by numbers, and a sum cut into equal pieces: what the blocks of a matrix product and the
   whole product are compared in. -/
module

public import proofs.«01_k».proof.Defs
public import Idealize.ShloMosaic.Lib.Pipeline.ValueKit
public import Idealize.ShloMosaic.Lib.Pointwise

@[expose] public section

noncomputable section

namespace Cert.Products

open Idealize.ShloMosaic

/-- The zero offset of a block read or written whole. -/
theorem zero_off : (![0, 0] : Fin 2 → ℕ) = fun _ => 0 := by decide

/-- The entry in row `i` and column `j` of an array of `n` rows and `k` columns, and 0 outside the array. -/
def entry {n k : ℕ} (X : (⟨2, ![n, k]⟩ : Shape).Idx → EReal) (i j : ℕ) : EReal :=
  if h : i < n ∧ j < k then X (ix2 ⟨i, h.1⟩ ⟨j, h.2⟩) else 0

/-- The entry at an index is the entry at the index's two numbers. -/
theorem entry_eq {n k : ℕ} (X : (⟨2, ![n, k]⟩ : Shape).Idx → EReal) (y : (⟨2, ![n, k]⟩ : Shape).Idx) {i j : ℕ}
    (hi : (y 0).val = i) (hj : (y 1).val = j) : X y = entry X i j := by
  subst hi hj
  have h : (y 0).val < n ∧ (y 1).val < k := ⟨(y 0).isLt, (y 1).isLt⟩
  unfold entry
  rw [dif_pos h]
  exact congrArg X (by funext a; fin_cases a <;> rfl)

/-- Over the real numbers a cast to a narrower float changes nothing. -/
theorem truncated {S : Shape} (x : FVec Ideal S .f32) (h) : truncf (F := Ideal) .bf16 x h = x := rfl

/-- A sum over `n * k` numbers is the sum over its `n` pieces of length `k`. -/
theorem sum_pieces (f : ℕ → EReal) (k n : ℕ) :
    ∑ s ∈ Finset.range n, ∑ r ∈ Finset.range k, f (k * s + r) = ∑ r ∈ Finset.range (k * n), f r := by
  induction n with
  | zero => simp
  | succ n ih => rw [Finset.sum_range_succ, ih, Nat.mul_succ, Finset.sum_range_add]

/-- A sum over the numbers below `n`, each term read at its number. -/
theorem sum_fin {n : ℕ} (g : Fin n → EReal) (f : ℕ → EReal) (h : ∀ r : Fin n, g r = f r.val) :
    ∑ r : Fin n, g r = ∑ r ∈ Finset.range n, f r := by
  rw [Finset.sum_range]
  exact Finset.sum_congr rfl fun r _ => h r

end Cert.Products

end
-- ==== Proof.MlpPre.lean ====
/- The up projection with its squared positive part, and the gradient of the down projection's input carried back through
   the square: the two launches' blocks and the arrays they leave. -/
module

public import proofs.«01_k».proof.Proof.Products
public import proofs.«01_k».proof.Proof.Gen.MlpPreIdeal.Frame
public import Idealize.ShloMosaic.Lib.StableHlo.Run

@[expose] public section

set_option maxRecDepth 16384

noncomputable section

namespace Cert.Pre

open Idealize.ShloMosaic Idealize.ShloMosaic.TcCoe Idealize.SL.Sem
open Cert.MlpPreIdeal MlpPreIdeal.Gen Products

/-! ## What one grid point computes -/

/-- The block the up projection writes: the square of the positive part of the product of its two blocks. -/
theorem up_apply (c : Dev nD) (i : grid0.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole)
    (x0 : Vec Ideal S1024x2048 .bf16) (x1 : Vec Ideal S2048x1024 .bf16) (f g : ℕ → ℕ → EReal)
    (hf : ∀ y : S1024x2048.Idx, x0 y = f (y 0).val (y 1).val) (hg : ∀ y : S2048x1024.Idx, x1 y = g (y 0).val (y 1).val)
    (y : S1024x1024.Idx) :
    out0_A_2 c i arg3 harg3 arg4 harg4 arg5 harg5 arg6 harg6 x0 x1 y
      = max (∑ r ∈ Finset.range 2048, f (y 0).val r * g r (y 1).val) 0 * max (∑ r ∈ Finset.range 2048, f (y 0).val r * g r (y 1).val) 0 := by
  frame_out
  unfold k0_pay1
  have e : (∑ r : Fin 2048, x0 (ix2 (y 0) r) * x1 (ix2 r (y 1)) : EReal) = ∑ r ∈ Finset.range 2048, f (y 0).val r * g r (y 1).val :=
    sum_fin _ _ fun r => by rw [hf, hg]; rfl
  rw [← e]
  pointwise []

/-- The number two, as its word stands for it. -/
abbrev two : EReal := Ideal.ofBits FTy.f32 0x40000000#32

/-- The block the down projection's gradient writes: the product of its two blocks, times twice the root of the saved
    square. -/
theorem dx_apply (c : Dev nD) (i : grid1.Coords) (arg3 : Memref sig .tc .vmem S1024x2048 .f32) (harg3 : arg3.IsWhole)
    (arg4 : Memref sig .tc .vmem S1024x2048 .bf16) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .f32) (harg7 : arg7.IsWhole)
    (x0 : Vec Ideal S1024x2048 .f32) (x1 : Vec Ideal S1024x2048 .bf16) (x2 : Vec Ideal S1024x1024 .bf16) (f g : ℕ → ℕ → EReal)
    (hf : ∀ y : S1024x2048.Idx, x0 y = f (y 0).val (y 1).val) (hg : ∀ y : S1024x2048.Idx, x1 y = g (y 0).val (y 1).val)
    (y : S1024x1024.Idx) :
    out1_A_3 c i arg3 harg3 arg4 harg4 arg5 harg5 arg6 harg6 arg7 harg7 x0 x1 x2 y
      = (∑ r ∈ Finset.range 2048, f (y 0).val r * g (y 1).val r) * (two * Ideal.sqrt (x2 y)) := by
  unfold out1_A_3
  rw [View.read_writes_eq_canon _ _ _ (cover1_A_3 c i arg3 harg3 arg4 harg4 arg5 harg5 arg6 harg6 arg7 harg7 x0 x1 x2)]
  unfold kernelRun1_A
  dsimp only
  sl_unfold_words
  rw [View.canon_unit_zero zero_off]
  unfold k1_pay1
  simp only [View.readAt_eq_ld, harg3.read_unread, harg4.read_unread, harg5.read_unread, View.ld_unit_zero (S := S1024x2048) zero_off, View.ld_unit_zero (S := S1024x1024) zero_off, shapeCast_self]
  have e : (∑ r : Fin 2048, x0 (ix2 (y 0) r) * x1 (ix2 (y 1) r) : EReal) = ∑ r ∈ Finset.range 2048, f (y 0).val r * g (y 1).val r :=
    sum_fin _ _ fun r => by rw [hf, hg]; rfl
  rw [← e]
  pointwise []

/-! ## What the arrays hold -/

theorem index0_0 : ∀ t : Fin grid0.N, win0_0.index t = ![t.val / 8, 0] := by decide +kernel
theorem index0_1 : ∀ t : Fin grid0.N, win0_1.index t = ![0, t.val % 8] := by decide +kernel
theorem index0_2 : ∀ t : Fin grid0.N, win0_2.index t = ![t.val / 8, t.val % 8] := by decide +kernel
theorem index1_0 : ∀ t : Fin grid1.N, win1_0.index t = ![t.val / 8, 0] := by decide +kernel
theorem index1_1 : ∀ t : Fin grid1.N, win1_1.index t = ![t.val % 8, 0] := by decide +kernel
theorem index1_2 : ∀ t : Fin grid1.N, win1_2.index t = ![t.val / 8, t.val % 8] := by decide +kernel
theorem index1_3 : ∀ t : Fin grid1.N, win1_3.index t = ![t.val / 8, t.val % 8] := by decide +kernel

/-- The entry in row `a` and column `b` of the product of two arrays. -/
def prod (h : S4096x2048.Idx → EReal) (w : S2048x8192.Idx → EReal) (a b : ℕ) : EReal :=
  ∑ r ∈ Finset.range 2048, entry h a r * entry w r b

/-- The entry in row `a` and column `b` of the product of an array with a transposed one. -/
def prodT (g : S4096x2048.Idx → EReal) (w : S8192x2048.Idx → EReal) (a b : ℕ) : EReal :=
  ∑ r ∈ Finset.range 2048, entry g a r * entry w b r

/-- The squared positive part of the product. -/
def act (h : S4096x2048.Idx → EReal) (w : S2048x8192.Idx → EReal) (i : S4096x8192.Idx) : EReal :=
  max (prod h w (i 0).val (i 1).val) 0 * max (prod h w (i 0).val (i 1).val) 0

/-- The array the up projection leaves is the squared positive part of the product of its two arrays. -/
theorem up_array (V : (c : Dev nD) → (b : Ref sig .tc) → Buf (Elt Ideal) ((c : Thread nD τ).loc b)) (c : Dev nD) :
    (dat0 V c).arrAt 2 cfg0.N = act (V c main_v0) (V c main_v1) := by
  refine (dat0 V c).arrAt_eq_of_covers 2 _ (by decide +kernel) fun t _ y => ?_
  have hN : t.val < 32 := lt_of_lt_of_eq t.isLt N_0
  blk_simp
  rw [after0_2]
  unfold outsAt0
  rw [up_apply _ _ _ _ _ _ _ _ _ _ _ _ (fun l r => entry (V c main_v0) (1024 * (t.val / 8) + l) r) (fun r l => entry (V c main_v1) r (1024 * (t.val % 8) + l))]
  · have e0 : ((win0_2.blk t).view.emb y 0).val = 1024 * (t.val / 8) + (y 0).val := by blk_simp [index0_2]; simp; omega
    have e1 : ((win0_2.blk t).view.emb y 1).val = 1024 * (t.val % 8) + (y 1).val := by blk_simp [index0_2]; simp; omega
    unfold act prod
    rw [e0, e1]
  · intro y
    have e0 : ((win0_0.blk t).view.emb y 0).val = 1024 * (t.val / 8) + (y 0).val := by blk_simp [index0_0]; simp; omega
    have e1 : ((win0_0.blk t).view.emb y 1).val = (y 1).val := by blk_simp [index0_0]
    exact entry_eq (V c main_v0) ((win0_0.blk t).view.emb y) e0 e1
  · intro y
    have e0 : ((win0_1.blk t).view.emb y 0).val = (y 0).val := by blk_simp [index0_1]
    have e1 : ((win0_1.blk t).view.emb y 1).val = 1024 * (t.val % 8) + (y 1).val := by blk_simp [index0_1]; simp; omega
    exact entry_eq (V c main_v1) ((win0_1.blk t).view.emb y) e0 e1

/-- The array the down projection's gradient leaves. -/
def dact (g : S4096x2048.Idx → EReal) (w : S8192x2048.Idx → EReal) (s : S4096x8192.Idx → EReal) (i : S4096x8192.Idx) : EReal :=
  prodT g w (i 0).val (i 1).val * (two * Ideal.sqrt (s i))

theorem dx_array (V : (c : Dev nD) → (b : Ref sig .tc) → Buf (Elt Ideal) ((c : Thread nD τ).loc b)) (c : Dev nD) :
    (dat1 V c).arrAt 3 cfg1.N = dact (V c main_arg3) (V c main_v3) (V c main_v2) := by
  refine (dat1 V c).arrAt_eq_of_covers 3 _ (by decide +kernel) fun t _ y => ?_
  have hN : t.val < 32 := lt_of_lt_of_eq t.isLt N_1
  blk_simp
  rw [after1_3]
  unfold outsAt1
  have e0 : ((win1_3.blk t).view.emb y 0).val = 1024 * (t.val / 8) + (y 0).val := by blk_simp [index1_3]; simp; omega
  have e1 : ((win1_3.blk t).view.emb y 1).val = 1024 * (t.val % 8) + (y 1).val := by blk_simp [index1_3]; simp; omega
  rw [dx_apply _ _ _ _ _ _ _ _ _ _ _ _ _ _ _ (fun l r => entry (V c main_arg3) (1024 * (t.val / 8) + l) r) (fun l r => entry (V c main_v3) (1024 * (t.val % 8) + l) r)]
  · unfold dact prodT
    rw [e0, e1]
    have d0 : ((win1_2.blk t).view.emb y 0).val = 1024 * (t.val / 8) + (y 0).val := by blk_simp [index1_2]; simp; omega
    have d1 : ((win1_2.blk t).view.emb y 1).val = 1024 * (t.val % 8) + (y 1).val := by blk_simp [index1_2]; simp; omega
    exact congrArg (fun u : EReal => _ * (two * Ideal.sqrt u))
      ((entry_eq (V c main_v2) ((win1_2.blk t).view.emb y) d0 d1).trans (entry_eq (V c main_v2) ((win1_3.blk t).view.emb y) e0 e1).symm)
  · intro y
    have e0 : ((win1_0.blk t).view.emb y 0).val = 1024 * (t.val / 8) + (y 0).val := by blk_simp [index1_0]; simp; omega
    have e1 : ((win1_0.blk t).view.emb y 1).val = (y 1).val := by blk_simp [index1_0]
    exact entry_eq (V c main_arg3) ((win1_0.blk t).view.emb y) e0 e1
  · intro y
    have e0 : ((win1_1.blk t).view.emb y 0).val = 1024 * (t.val % 8) + (y 0).val := by blk_simp [index1_1]; simp; omega
    have e1 : ((win1_1.blk t).view.emb y 1).val = (y 1).val := by blk_simp [index1_1]
    exact entry_eq (V c main_v3) ((win1_1.blk t).view.emb y) e0 e1

/-- The root of a square of a number that is not negative. -/
theorem sqrt_square (p : EReal) (hp : 0 ≤ p) : Ideal.sqrt (p * p) = p := by
  induction p with
  | bot => exact absurd hp (by simp)
  | top => rfl
  | coe r =>
    have hr : 0 ≤ r := EReal.coe_nonneg.mp hp
    rw [← EReal.coe_mul]
    show (if r * r < 0 then (⊥ : EReal) else (Real.sqrt (r * r) : EReal)) = _
    rw [if_neg (not_lt.mpr (mul_self_nonneg r)), Real.sqrt_mul_self hr]

end Cert.Pre

end
-- ==== Proof.MlpPreRun.lean ====
/- The up projection and the gradient of the down projection's input: a run of the two launches, what the reference
   computes, and the equation. -/
module

public import proofs.«01_k».proof.Proof.MlpPre
public import proofs.«01_k».proof.Proof.Gen.MlpPreRefIdeal.Run

@[expose] public section

set_option maxRecDepth 16384

noncomputable section

namespace Cert.Pre

open Idealize.ShloMosaic Idealize.ShloMosaic.TcCoe Idealize.SL.Sem Idealize.ShloMosaic.Tactic
open Idealize.SL Idealize.SL.RA Idealize.SL.BI
open Idealize.ShloMosaic.Rounds
open scoped Idealize.SL.BI
open Idealize.SL.BI.BIBase Idealize.SL.BI.Laws Idealize.SL.ProofMode
open Cert.MlpPreIdeal MlpPreIdeal.Gen Products

section Values

variable (m : (ℓ : Loc nD τ sig) → Buf (Elt Ideal) ℓ) (ρ : Dev nD → PrngReg) (c : Dev nD)

/-- The first launch reads the first argument on the left. -/
theorem left_eq : V1 m ρ c main_v0 = m ((c : Thread nD τ).loc main_arg0) := by
  refine Eq.trans ?_ (truncated _ bitsLt_bf16_f32)
  show StableHlo.after hostOps0 (W0 m ρ c) (Proc.devRef .tc main_v0) = _
  simp only [hostOps0]
  after_results

/-- The first launch reads the second argument on the right. -/
theorem right_eq : V1 m ρ c main_v1 = m ((c : Thread nD τ).loc main_arg1) := by
  refine Eq.trans ?_ (truncated _ bitsLt_bf16_f32)
  show StableHlo.after hostOps0 (W0 m ρ c) (Proc.devRef .tc main_v1) = _
  simp only [hostOps0]
  after_results

/-- The second launch reads the third argument on the right. -/
theorem down_eq : V3 m ρ c main_v3 = m ((c : Thread nD τ).loc main_arg2) := by
  refine Eq.trans ?_ ((W2_args m ρ c main_arg2 (by decide)))
  refine Eq.trans ?_ (show truncf (F := Ideal) .bf16 (W2 m ρ c (Proc.devRef .tc main_arg2)) bitsLt_bf16_f32 = _ from rfl)
  show StableHlo.after hostOps1 (W2 m ρ c) (Proc.devRef .tc main_v3) = _
  simp only [hostOps1]
  after_results

/-- The squared positive part of the first product, as the arguments give it. -/
abbrev acts : S4096x8192.Idx → EReal := act (m ((c : Thread nD τ).loc main_arg0)) (m ((c : Thread nD τ).loc main_arg1))

/-- Between the two launches the saved array is the squared positive part. -/
theorem between : V3 m ρ c main_v2 = acts m c :=
  (W3_of m ρ c main_v2 (by decide)).trans ((W2_arr m ρ c 2).trans ((up_array (V1 m ρ) c).trans (by rw [left_eq, right_eq])))

/-- The first result is the squared positive part. -/
theorem kernel_act : W4 m ρ c (Proc.devRef .tc main_v2) = acts m c :=
  (W4_of m ρ c main_v2 (by decide +kernel)).trans (between m ρ c)

/-- The second result is the gradient carried back through the square. -/
theorem kernel_dact : W4 m ρ c (Proc.devRef .tc main_v4)
    = dact (m ((c : Thread nD τ).loc main_arg3)) (m ((c : Thread nD τ).loc main_arg2)) (acts m c) :=
  (W4_arr m ρ c 3).trans ((dx_array (V3 m ρ) c).trans (by
    rw [down_eq, between, show V3 m ρ c main_arg3 = m ((c : Thread nD τ).loc main_arg3) from W3_args m ρ c main_arg3 (by decide)]))

end Values

variable (m : (ℓ : Loc nD τ sig) → Buf (Elt Ideal) ℓ) (ρ : Dev nD → PrngReg)

/-- The resources a run of the kernel program is stated over. -/
local notation "𝕄" => MT nD τ sig Unit (Elt Ideal) ℕ (UR sig nD τ) ℕ

set_option backward.isDefEq.respectTransparency.types false in
/-- Every run of the kernel program ends, the arguments as launched and the two results at the last boundary's contents. -/
theorem run : θ_run (defs (F := Ideal)) (onTc (τ := τ) (main (F := Ideal))) ⟨m, fun _ => 0, ρ⟩ (fun r => ∀ c : Dev nD,
      r.2.mem ((c.tc : Thread nD τ).loc main_v2) = W4 m ρ c (Proc.devRef .tc main_v2)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v2 (by decide)), h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-! ## What the reference computes, and the equation -/

/-- The host's product, entry by entry. -/
theorem ref_prod (h : FVec Ideal S4096x2048 .f32) (w : FVec Ideal S2048x8192 .f32) (y : S4096x8192.Idx) :
    (Host.dotGeneral MlpPreRefIdeal.dot_S4096x2048_S2048x8192_S4096x8192_1_0_0_1_n_n none h w : FVec Ideal S4096x8192 .f32) y = prod h w (y 0).val (y 1).val := by
  pointwise []
  exact sum_fin _ _ fun r => by rw [entry_eq h _ rfl rfl, entry_eq w _ rfl rfl]; rfl

/-- The host's product with a transposed array, entry by entry. -/
theorem ref_prodT (g : FVec Ideal S4096x2048 .f32) (w : FVec Ideal S8192x2048 .f32) (y : S4096x8192.Idx) :
    (Host.dotGeneral MlpPreRefIdeal.dot_S4096x2048_S8192x2048_S4096x8192_1_1_0_0_n_n none g w : FVec Ideal S4096x8192 .f32) y
      = prodT g w (y 0).val (y 1).val := by
  pointwise []
  exact sum_fin _ _ fun r => by rw [entry_eq g _ rfl rfl, entry_eq w _ rfl rfl]; rfl

/-- The reference's activation, from the product `p`. -/
theorem ref_act (p : FVec Ideal S4096x8192 .f32) (y : S4096x8192.Idx) :
    (truncf .bf16 (mulf (maximumf p (broadcastInDim S4096x8192 ![] MlpPreRefIdeal.Gen.bcast_S_S4096x8192 (constant MlpPreRefIdeal.S_ .f32 0x00000000#32))) (maximumf p (broadcastInDim S4096x8192 ![] MlpPreRefIdeal.Gen.bcast_S_S4096x8192 (constant MlpPreRefIdeal.S_ .f32 0x00000000#32)))) MlpPreRefIdeal.Gen.bitsLt_bf16_f32 : FVec Ideal S4096x8192 .bf16) y
      = max (p y) 0 * max (p y) 0 := by
  pointwise []

/-- The reference's gradient, from the product `p` and the gradient `d` of the square. -/
theorem ref_dact (p d : FVec Ideal S4096x8192 .f32) (y : S4096x8192.Idx) :
    (truncf .bf16 (select (cmpf .ogt p (broadcastInDim S4096x8192 ![] MlpPreRefIdeal.Gen.bcast_S_S4096x8192 (constant MlpPreRefIdeal.S_ .f32 0x00000000#32))) (mulf d (mulf (broadcastInDim S4096x8192 ![] MlpPreRefIdeal.Gen.bcast_S_S4096x8192 (constant MlpPreRefIdeal.S_ .f32 0x40000000#32)) (maximumf p (broadcastInDim S4096x8192 ![] MlpPreRefIdeal.Gen.bcast_S_S4096x8192 (constant MlpPreRefIdeal.S_ .f32 0x00000000#32))))) (broadcastInDim S4096x8192 ![] MlpPreRefIdeal.Gen.bcast_S_S4096x8192 (constant MlpPreRefIdeal.S_ .f32 0x00000000#32))) MlpPreRefIdeal.Gen.bitsLt_bf16_f32 : FVec Ideal S4096x8192 .bf16) y
      = d y * (two * max (p y) 0) := by
  pointwise []
  by_cases h : 0 < p y
  · rw [if_pos h]
  · rw [if_neg h, max_eq_right (not_lt.mp h), mul_zero, mul_zero]

/-- From memories agreeing on the arguments, the kernel's two results are the reference's. -/
theorem equal : algebraic_MlpPreIdeal_MlpPreRefIdeal (hMlpPreIdeal := MlpPreIdeal.Gen.facts)
    (hMlpPreRefIdeal := MlpPreRefIdeal.Gen.facts) := fun m ρ m' ρ' _ hagree => by
  refine ⟨fun c => acts m c, fun c => dact (m ((c : Thread nD τ).loc main_arg3)) (m ((c : Thread nD τ).loc main_arg2)) (acts m c),
    (run m ρ).mono fun _ h c => ⟨(h c).1.trans (kernel_act m ρ c), (h c).2.1.trans (kernel_dact m ρ c), (h c).2.2⟩,
    (MlpPreRefIdeal.Value.run m' ρ').mono fun _ h c => ⟨(h c).1.trans ?_, (h c).2.1.trans ?_, (h c).2.2⟩⟩
  · obtain ⟨e0, e1, e2, e3⟩ := hagree c
    rw [e0, e1]
    funext y
    refine (ref_act _ y).trans ?_
    rw [ref_prod]
    rfl
  · obtain ⟨e0, e1, e2, e3⟩ := hagree c
    rw [e0, e1, e2, e3]
    funext y
    refine (ref_dact _ _ y).trans ?_
    rw [ref_prod, ref_prodT]
    show _ = _ * (two * Ideal.sqrt (max _ 0 * max _ 0))
    rw [sqrt_square _ (le_max_right _ _)]

end Cert.Pre

end
-- ==== Proof.Runs.lean ====
/- A sum cut over the points of a run: the first point starts it, each later point adds its piece, the last one writes it. -/
module

public import proofs.«01_k».proof.Proof.Products

@[expose] public section

namespace Cert.Products

/-- What the last point of a run of `k + 2` points writes, when the first one starts with a value added to its piece. -/
theorem run_sum_add {N p : ℕ} (B k : ℕ) (f : ℕ → EReal) (z : EReal) (acc : (j : ℕ) → p + j < N → EReal) {out : EReal} (h : p + (k + 1) < N)
    (h0 : ∀ h, acc 0 h = ∑ r ∈ Finset.range B, f (B * 0 + r) + z)
    (hs : ∀ j h h', j < k → acc (j + 1) h = acc j h' + ∑ r ∈ Finset.range B, f (B * (j + 1) + r))
    (hl : ∀ h, out = acc k h + ∑ r ∈ Finset.range B, f (B * (k + 1) + r)) : out = ∑ r ∈ Finset.range (B * (k + 2)), f r + z := by
  have ha : ∀ j h, j ≤ k → acc j h = ∑ s ∈ Finset.range (j + 1), ∑ r ∈ Finset.range B, f (B * s + r) + z := by
    intro j
    induction j with
    | zero => intro h _; rw [Finset.sum_range_one]; exact h0 h
    | succ j ih =>
      intro h hj
      rw [Finset.sum_range_succ _ (j + 1), hs j h (by omega) (by omega), ih (by omega) (by omega), add_right_comm]
  rw [hl (by omega), ha k (by omega) le_rfl, add_right_comm, ← Finset.sum_range_succ (fun s => ∑ r ∈ Finset.range B, f (B * s + r)), sum_pieces]

/-- What the last point of a run of `k + 2` points writes is the whole sum. -/
theorem run_sum {N p : ℕ} (B k : ℕ) (f : ℕ → EReal) (acc : (j : ℕ) → p + j < N → EReal) {out : EReal} (h : p + (k + 1) < N)
    (h0 : ∀ h, acc 0 h = ∑ r ∈ Finset.range B, f (B * 0 + r))
    (hs : ∀ j h h', j < k → acc (j + 1) h = acc j h' + ∑ r ∈ Finset.range B, f (B * (j + 1) + r))
    (hl : ∀ h, out = acc k h + ∑ r ∈ Finset.range B, f (B * (k + 1) + r)) : out = ∑ r ∈ Finset.range (B * (k + 2)), f r := by
  rw [run_sum_add B k f 0 acc h (fun h => (h0 h).trans (add_zero _).symm) hs hl, add_zero]

end Cert.Products
-- ==== Proof.MlpDown.lean ====
/- The down projection and its residual: the launch's blocks, the array it leaves, and the reference's equation. -/
module

public import proofs.«01_k».proof.Proof.Runs
public import proofs.«01_k».proof.Proof.Gen.MlpDownIdeal.Value
public import proofs.«01_k».proof.Proof.Gen.MlpDownRefIdeal.Run

@[expose] public section

set_option maxRecDepth 16384

noncomputable section

namespace Cert.Down

open Idealize.ShloMosaic Idealize.ShloMosaic.TcCoe Idealize.SL.Sem
open Cert.MlpDownIdeal MlpDownIdeal.Gen MlpDownIdeal.Value Products

/-! ## What the array holds -/

theorem index0_0 : ∀ t : Fin grid0.N, win0_0.index t = ![t.val / 8, t.val % 4] := by decide +kernel
theorem index0_1 : ∀ t : Fin grid0.N, win0_1.index t = ![t.val % 4, t.val / 4 % 2] := by decide +kernel
theorem index0_2 : ∀ t : Fin grid0.N, win0_2.index t = ![t.val / 8, t.val / 4 % 2] := by decide +kernel

section Array

variable (m : (ℓ : Loc nD τ sig) → Buf (Elt Ideal) ℓ) (c : Dev nD)

/-- The left array the launch reads. -/
abbrev lhs : S4096x8192.Idx → EReal := V m c (Pipeline.arrRef spec0 0)
/-- The right array the launch reads. -/
abbrev rhs : S8192x2048.Idx → EReal := V m c (Pipeline.arrRef spec0 1)
/-- The array added to the product. -/
abbrev added : S4096x2048.Idx → EReal := V m c (Pipeline.arrRef spec0 2)

/-- The added block of point `t`, entry by entry. -/
theorem block2 (t : Fin cfg0.N) (y : S1024x1024.Idx) :
    iblk m c 2 t y = entry (added m c) (1024 * (t.val / 8) + (y 0).val) (1024 * (t.val / 4 % 2) + (y 1).val) :=
  entry_eq (added m c) ((win0_2.blk t).view.emb y) (by blk_simp [index0_2]; simp; omega) (by blk_simp [index0_2]; simp; omega)

/-- The `r`-th term of the entry in row `a` and column `b` of the product. -/
def term (a b r : ℕ) : EReal := entry (lhs m c) a r * entry (rhs m c) r b

/-- The product of the two blocks at point `j` of run `q` is the `j`-th piece of the sum. -/
theorem piece (q j : ℕ) (hj : j < 4) (h : 4 * q + j < cfg0.N) (y : S1024x1024.Idx) :
    ∑ r : Fin 2048, Mul.mul (α := EReal) (iblk m c 0 ⟨4 * q + j, h⟩ (ix2 (y 0) r)) (iblk m c 1 ⟨4 * q + j, h⟩ (ix2 r (y 1)))
      = ∑ r ∈ Finset.range 2048, term m c (1024 * (q / 2) + (y 0).val) (1024 * (q % 2) + (y 1).val) (2048 * j + r) :=
  have hN := lt_of_lt_of_eq h N_0
  sum_fin _ _ fun r => congrArg₂ (fun u v : EReal => u * v)
    (entry_eq (lhs m c) ((win0_0.blk ⟨4 * q + j, h⟩).view.emb _) (by blk_simp [index0_0]; simp; omega) (by blk_simp [index0_0]; simp; omega))
    (entry_eq (rhs m c) ((win0_1.blk ⟨4 * q + j, h⟩).view.emb _) (by blk_simp [index0_1]; simp; omega) (by blk_simp [index0_1]; simp; omega))

/-- The block the last point of run `q` writes. -/
theorem out_apply (q : ℕ) (h : 4 * q + 3 < cfg0.N) (y : S1024x1024.Idx) :
    (outsAt0 m c (4 * q + 3) h).1 y
      = (∑ r ∈ Finset.range 8192, term m c (1024 * (q / 2) + (y 0).val) (1024 * (q % 2) + (y 1).val) r) + entry (added m c) (1024 * (q / 2) + (y 0).val) (1024 * (q % 2) + (y 1).val) := by
  have hN : 4 * q + 3 < 32 := lt_of_lt_of_eq h N_0
  refine run_sum_add 2048 2 _ _ (fun j h => (outsAt0 m c (4 * q + j) h).2 y) h (fun h => ?_) (fun j h _ hj => ?_) fun _ => ?_ <;> dsimp only
  · rw [outsAt0_A m c ⟨4 * q + 0, h⟩ (by dsimp only; omega) (by dsimp only; omega) (by dsimp only; omega), ← piece m c q 0 (by omega) h y]
    frame_out
    pointwise [k0_pay1]
    refine congrArg (_ + ·) ((block2 m c _ y).trans ?_)
    congr 2 <;> dsimp only <;> omega
  · rw [outsAt0_B m c ⟨4 * q + (j + 1), h⟩ (by dsimp only; omega) (by dsimp only; omega) (by dsimp only; omega), ← piece m c q (j + 1) (by omega) h y]
    frame_out
    pointwise [k0_pay2]
    exact congrArg (· + _) (congrFun (Memref.IsWhole.read_unread _ _) y)
  · rw [outsAt0_C m c ⟨4 * q + 3, h⟩ (by dsimp only; omega) (by dsimp only; omega) (by dsimp only; omega), ← piece m c q 3 (by omega) h y]
    frame_out
    pointwise [k0_pay3]
    exact congrArg (· + _) (congrFun (Memref.IsWhole.read_unread _ _) y)

/-- The array the launch leaves: the product of the left and the right array plus the added array. -/
theorem array_apply (i : S4096x2048.Idx) :
    (G3 m c i : EReal) = (∑ r ∈ Finset.range 8192, term m c (i 0).val (i 1).val r) + entry (added m c) (i 0).val (i 1).val := by
  have hi0 : (i 0).val < 4096 := (i 0).isLt
  have hi1 : (i 1).val < 2048 := (i 1).isLt
  have h : pt3Of i < cfg0.N := lt_of_lt_of_eq (by unfold pt3Of run3Of; omega) N_0.symm
  unfold G3
  rw [dif_pos h, ← outsAt0_sweep m c _ h]
  refine (out_apply m c (run3Of i) h (loc3Of i)).trans ?_
  have e0 : 1024 * (run3Of i / 2) + (i 0).val % 1024 = (i 0).val := by unfold run3Of; omega
  have e1 : 1024 * (run3Of i % 2) + (i 1).val % 1024 = (i 1).val := by unfold run3Of; omega
  exact congrArg₂ (fun a b => (∑ r ∈ Finset.range 8192, term m c a b r) + entry (added m c) a b) e0 e1

/-! ## The arrays the host hands the launch -/

/-- The square of the positive part of a product, as the host forms it. -/
abbrev squares (h : FVec Ideal S4096x2048 .f32) (w : FVec Ideal S2048x8192 .f32) : FVec Ideal S4096x8192 .f32 :=
  mulf (maximumf (Host.dotGeneral dot_S4096x2048_S2048x8192_S4096x8192_1_0_0_1_n_n none h w)
      (broadcastInDim S4096x8192 ![] bcast_S_S4096x8192 (constant S_ .f32 0x00000000#32)))
    (maximumf (Host.dotGeneral dot_S4096x2048_S2048x8192_S4096x8192_1_0_0_1_n_n none h w)
      (broadcastInDim S4096x8192 ![] bcast_S_S4096x8192 (constant S_ .f32 0x00000000#32)))

set_option maxHeartbeats 1000000 in
/-- The left array is the square of the positive part of the first product, as the reference forms it. -/
theorem lhs_eq : lhs m c = squares (m ((c : Thread nD τ).loc main_arg0)) (m ((c : Thread nD τ).loc main_arg1)) := by
  refine Eq.trans ?_ (show truncf (F := Ideal) .bf16 (squares (m ((c : Thread nD τ).loc main_arg0)) (m ((c : Thread nD τ).loc main_arg1))) bitsLt_bf16_f32 = _ from rfl)
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- The right array is the third argument. -/
theorem rhs_eq : rhs m c = m ((c : Thread nD τ).loc main_arg2) := by
  refine Eq.trans ?_ (truncated _ bitsLt_bf16_f32)
  show StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- The added array is the fourth argument. -/
theorem added_eq : added m c = m ((c : Thread nD τ).loc main_arg3) := V_main_arg3 m c

end Array

/-! ## What the reference computes, and the equation -/

/-- The reference's layer, entry by entry. -/
theorem ref_apply (a : FVec Ideal S4096x8192 .f32) (b : FVec Ideal S8192x2048 .f32) (e : FVec Ideal S4096x2048 .f32) (y : S4096x2048.Idx) :
    (addf e (Host.dotGeneral MlpDownRefIdeal.dot_S4096x8192_S8192x2048_S4096x2048_1_0_0_1_n_n none a b) : FVec Ideal S4096x2048 .f32) y
      = (∑ r ∈ Finset.range 8192, entry a (y 0).val r * entry b r (y 1).val) + entry e (y 0).val (y 1).val := by
  pointwise []
  rw [← entry_eq e y rfl rfl]
  exact (add_comm _ _).trans (congrArg (fun u : EReal => u + e y) (sum_fin _ _ fun r => (by rw [entry_eq a _ rfl rfl, entry_eq b _ rfl rfl]; rfl)))

/-- From memories agreeing on the arguments, the kernel's result is the reference's. -/
theorem equal : algebraic_MlpDownIdeal_MlpDownRefIdeal (hMlpDownIdeal := MlpDownIdeal.Gen.facts)
    (hMlpDownRefIdeal := MlpDownRefIdeal.Gen.facts) := fun m ρ m' ρ' _ hagree => by
  refine ⟨fun c => G3 m c, run m ρ, (MlpDownRefIdeal.Value.run m' ρ').mono fun _ h c => ⟨(h c).1.trans ?_, (h c).2⟩⟩
  obtain ⟨e0, e1, e2, e3⟩ := hagree c
  rw [e0, e1, e2, e3]
  funext y
  refine (ref_apply _ _ _ y).trans ((array_apply m c y).trans ?_).symm
  unfold term
  rw [lhs_eq, rhs_eq, added_eq]
  rfl

end Cert.Down

end
-- ==== Proof.MlpDownDw.lean ====
/- The gradient of the down projection's weights: the launch's blocks, the array it leaves, and the reference's equation. -/
module

public import proofs.«01_k».proof.Proof.Runs
public import proofs.«01_k».proof.Proof.Gen.MlpDownDwIdeal.Value
public import proofs.«01_k».proof.Proof.Gen.MlpDownDwRefIdeal.Run

@[expose] public section

set_option maxRecDepth 16384

noncomputable section

namespace Cert.DownDw

open Idealize.ShloMosaic Idealize.ShloMosaic.TcCoe Idealize.SL.Sem
open Cert.MlpDownDwIdeal MlpDownDwIdeal.Gen MlpDownDwIdeal.Value Products

/-! ## What the array holds -/

theorem index0_0 : ∀ t : Fin grid0.N, win0_0.index t = ![t.val % 2, t.val / 4] := by decide +kernel
theorem index0_1 : ∀ t : Fin grid0.N, win0_1.index t = ![t.val % 2, t.val / 2 % 2] := by decide +kernel

section Array

variable (m : (ℓ : Loc nD τ sig) → Buf (Elt Ideal) ℓ) (c : Dev nD)

/-- The left array the launch reads. -/
abbrev lhs : S4096x8192.Idx → EReal := V m c (Pipeline.arrRef spec0 0)
/-- The right array the launch reads. -/
abbrev rhs : S4096x2048.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * (q / 2) + (y 0).val) (1024 * (q % 2) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x1024.Idx) :
    (outsAt0 m c (2 * q + 1) h).1 y
      = ∑ r ∈ Finset.range 4096, term m c (1024 * (q / 2) + (y 0).val) (1024 * (q % 2) + (y 1).val) r := by
  have hN : 2 * q + 1 < 32 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S8192x2048.Idx) :
    (G2 m c i : EReal) = ∑ r ∈ Finset.range 4096, term m c (i 0).val (i 1).val r := by
  have hi0 : (i 0).val < 8192 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 2) + (i 0).val % 1024 = (i 0).val := by unfold run2Of; omega
  have e1 : 1024 * (run2Of i % 2) + (i 1).val % 1024 = (i 1).val := by unfold run2Of; omega
  exact congrArg₂ (fun a b => ∑ r ∈ Finset.range 4096, term m c a b r) e0 e1

/-! ## The arrays the host hands the launch -/

/-- The square of the positive part of a product, as the host forms it. -/
abbrev squares (h : FVec Ideal S4096x2048 .f32) (w : FVec Ideal S2048x8192 .f32) : FVec Ideal S4096x8192 .f32 :=
  mulf (maximumf (Host.dotGeneral dot_S4096x2048_S2048x8192_S4096x8192_1_0_0_1_n_n none h w)
      (broadcastInDim S4096x8192 ![] bcast_S_S4096x8192 (constant S_ .f32 0x00000000#32)))
    (maximumf (Host.dotGeneral dot_S4096x2048_S2048x8192_S4096x8192_1_0_0_1_n_n none h w)
      (broadcastInDim S4096x8192 ![] bcast_S_S4096x8192 (constant S_ .f32 0x00000000#32)))

set_option maxHeartbeats 1000000 in
/-- The left array is the square of the positive part of the first product, as the reference forms it. -/
theorem lhs_eq : lhs m c = squares (m ((c : Thread nD τ).loc main_arg0)) (m ((c : Thread nD τ).loc main_arg1)) := by
  refine Eq.trans ?_ (show truncf (F := Ideal) .bf16 (squares (m ((c : Thread nD τ).loc main_arg0)) (m ((c : Thread nD τ).loc main_arg1))) bitsLt_bf16_f32 = _ from rfl)
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results

/-- The right array is the third argument. -/
theorem rhs_eq : rhs m c = m ((c : Thread nD τ).loc main_arg2) := V_main_arg2 m c

end Array

/-! ## What the reference computes, and the equation -/

/-- The reference's gradient, entry by entry. -/
theorem ref_apply (a : FVec Ideal S4096x8192 .f32) (b : FVec Ideal S4096x2048 .f32) (y : S8192x2048.Idx) :
    (transpose S8192x2048 [1, 0] (Host.dotGeneral MlpDownDwRefIdeal.dot_S4096x2048_S4096x8192_S2048x8192_0_0_1_1_n_n none b a) MlpDownDwRefIdeal.Gen.transposes_S2048x8192_S8192x2048_1_0 : FVec Ideal S8192x2048 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_MlpDownDwIdeal_MlpDownDwRefIdeal (hMlpDownDwIdeal := MlpDownDwIdeal.Gen.facts)
    (hMlpDownDwRefIdeal := MlpDownDwRefIdeal.Gen.facts) := fun m ρ m' ρ' _ hagree => by
  refine ⟨fun c => G2 m c, run m ρ, (MlpDownDwRefIdeal.Value.run m' ρ').mono fun _ h c => ⟨(h c).1.trans ?_, (h c).2⟩⟩
  obtain ⟨e0, e1, e2⟩ := hagree c
  rw [e0, e1, e2]
  funext y
  refine (ref_apply _ _ y).trans ((array_apply m c y).trans ?_).symm
  unfold term
  rw [lhs_eq, rhs_eq]
  rfl

end Cert.DownDw

end
-- ==== Proof.MlpUpDx.lean ====
/- The gradient of the up projection's input: the launch's blocks, the array it leaves, and the reference's equation. -/
module

public import proofs.«01_k».proof.Proof.Runs
public import proofs.«01_k».proof.Proof.Gen.MlpUpDxIdeal.Value
public import proofs.«01_k».proof.Proof.Gen.MlpUpDxRefIdeal.Run

@[expose] public section

set_option maxRecDepth 16384

noncomputable section

namespace Cert.UpDx

open Idealize.ShloMosaic Idealize.ShloMosaic.TcCoe Idealize.SL.Sem
open Cert.MlpUpDxIdeal MlpUpDxIdeal.Gen MlpUpDxIdeal.Value Products

/-! ## What the array holds -/

theorem index0_0 : ∀ t : Fin grid0.N, win0_0.index t = ![t.val / 8, t.val % 4] := by decide +kernel
theorem index0_1 : ∀ t : Fin grid0.N, win0_1.index t = ![t.val / 4 % 2, t.val % 4] := by decide +kernel

section Array

variable (m : (ℓ : Loc nD τ sig) → Buf (Elt Ideal) ℓ) (c : Dev nD)

/-- The left array the launch reads. -/
abbrev lhs : S4096x8192.Idx → EReal := V m c (Pipeline.arrRef spec0 0)
/-- The right array the launch reads. -/
abbrev rhs : S2048x8192.Idx → EReal := V m c (Pipeline.arrRef spec0 1)

/-- The `r`-th term of the entry in row `a` and column `b` of the product. -/
def term (a b r : ℕ) : EReal := entry (lhs m c) a r * entry (rhs m c) b r

/-- The product of the two blocks at point `j` of run `q` is the `j`-th piece of the sum. -/
theorem piece (q j : ℕ) (hj : j < 4) (h : 4 * q + j < cfg0.N) (y : S1024x1024.Idx) :
    ∑ r : Fin 2048, Mul.mul (α := EReal) (iblk m c 0 ⟨4 * q + j, h⟩ (ix2 (y 0) r)) (iblk m c 1 ⟨4 * q + j, h⟩ (ix2 (y 1) r))
      = ∑ r ∈ Finset.range 2048, term m c (1024 * (q / 2) + (y 0).val) (1024 * (q % 2) + (y 1).val) (2048 * j + r) :=
  have hN := lt_of_lt_of_eq h N_0
  sum_fin _ _ fun r => congrArg₂ (fun u v : EReal => u * v)
    (entry_eq (lhs m c) ((win0_0.blk ⟨4 * q + j, h⟩).view.emb _) (by blk_simp [index0_0]; simp; omega) (by blk_simp [index0_0]; simp; omega))
    (entry_eq (rhs m c) ((win0_1.blk ⟨4 * q + j, h⟩).view.emb _) (by blk_simp [index0_1]; simp; omega) (by blk_simp [index0_1]; simp; omega))

/-- The block the last point of run `q` writes. -/
theorem out_apply (q : ℕ) (h : 4 * q + 3 < cfg0.N) (y : S1024x1024.Idx) :
    (outsAt0 m c (4 * q + 3) h).1 y
      = ∑ r ∈ Finset.range 8192, term m c (1024 * (q / 2) + (y 0).val) (1024 * (q % 2) + (y 1).val) r := by
  have hN : 4 * q + 3 < 32 := lt_of_lt_of_eq h N_0
  refine run_sum 2048 2 _ (fun j h => (outsAt0 m c (4 * q + j) h).2 y) h (fun h => ?_) (fun j h _ hj => ?_) fun _ => ?_ <;> dsimp only
  · rw [outsAt0_A m c ⟨4 * q + 0, h⟩ (by dsimp only; omega) (by dsimp only; omega) (by dsimp only; omega), ← piece m c q 0 (by omega) h y]
    frame_out
    pointwise [k0_pay1]
    rfl
  · rw [outsAt0_B m c ⟨4 * q + (j + 1), h⟩ (by dsimp only; omega) (by dsimp only; omega) (by dsimp only; omega), ← piece m c q (j + 1) (by omega) h y]
    frame_out
    pointwise [k0_pay2]
    exact congrArg (· + _) (congrFun (Memref.IsWhole.read_unread _ _) y)
  · rw [outsAt0_C m c ⟨4 * q + 3, h⟩ (by dsimp only; omega) (by dsimp only; omega) (by dsimp only; omega), ← piece m c q 3 (by omega) h y]
    frame_out
    pointwise [k0_pay3]
    exact congrArg (· + _) (congrFun (Memref.IsWhole.read_unread _ _) y)

/-- The array the launch leaves: the product of the left array and the transposed right array. -/
theorem array_apply (i : S4096x2048.Idx) :
    (G2 m c i : EReal) = ∑ r ∈ Finset.range 8192, term m c (i 0).val (i 1).val r := by
  have hi0 : (i 0).val < 4096 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 2) + (i 0).val % 1024 = (i 0).val := by unfold run2Of; omega
  have e1 : 1024 * (run2Of i % 2) + (i 1).val % 1024 = (i 1).val := by unfold run2Of; omega
  exact congrArg₂ (fun a b => ∑ r ∈ Finset.range 8192, term m c a b r) e0 e1

/-! ## The arrays the host hands the launch -/

/-- The left array is the second argument. -/
theorem lhs_eq : lhs m c = m ((c : Thread nD τ).loc main_arg1) := by
  refine Eq.trans ?_ (truncated _ bitsLt_bf16_f32)
  show StableHlo.after hostOps0 (fun b => m (c, b)) (Proc.devRef .tc main_v0) = _
  unfold hostOps0
  after_results

/-- The right array is the first argument. -/
theorem rhs_eq : rhs m c = m ((c : Thread nD τ).loc main_arg0) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's gradient, entry by entry. -/
theorem ref_apply (a : FVec Ideal S4096x8192 .f32) (b : FVec Ideal S2048x8192 .f32) (y : S4096x2048.Idx) :
    (Host.dotGeneral MlpUpDxRefIdeal.dot_S4096x8192_S2048x8192_S4096x2048_1_1_0_0_n_n none a b : FVec Ideal S4096x2048 .f32) y
      = ∑ r ∈ Finset.range 8192, entry a (y 0).val r * entry b (y 1).val r := by
  pointwise []
  exact sum_fin _ _ fun r => (by rw [entry_eq a _ rfl rfl, entry_eq b _ rfl rfl]; rfl)

/-- From memories agreeing on the arguments, the kernel's result is the reference's. -/
theorem equal : algebraic_MlpUpDxIdeal_MlpUpDxRefIdeal (hMlpUpDxIdeal := MlpUpDxIdeal.Gen.facts)
    (hMlpUpDxRefIdeal := MlpUpDxRefIdeal.Gen.facts) := fun m ρ m' ρ' _ hagree => by
  refine ⟨fun c => G2 m c, run m ρ, (MlpUpDxRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.UpDx

end
-- ==== Proof.MlpUpDw.lean ====
/- The gradient of the up projection's weights: the launch's blocks, the array it leaves, and the reference's equation. -/
module

public import proofs.«01_k».proof.Proof.Runs
public import proofs.«01_k».proof.Proof.Gen.MlpUpDwIdeal.Value
public import proofs.«01_k».proof.Proof.Gen.MlpUpDwRefIdeal.Run

@[expose] public section

set_option maxRecDepth 16384

noncomputable section

namespace Cert.UpDw

open Idealize.ShloMosaic Idealize.ShloMosaic.TcCoe Idealize.SL.Sem
open Cert.MlpUpDwIdeal MlpUpDwIdeal.Gen MlpUpDwIdeal.Value Products

/-! ## What the array holds -/

theorem index0_0 : ∀ t : Fin grid0.N, win0_0.index t = ![t.val % 2, t.val / 16] := by decide +kernel
theorem index0_1 : ∀ t : Fin grid0.N, win0_1.index t = ![t.val % 2, t.val / 2 % 8] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S4096x8192.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * (q / 8) + (y 0).val) (1024 * (q % 8) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x1024.Idx) :
    (outsAt0 m c (2 * q + 1) h).1 y
      = ∑ r ∈ Finset.range 4096, term m c (1024 * (q / 8) + (y 0).val) (1024 * (q % 8) + (y 1).val) r := by
  have hN : 2 * q + 1 < 32 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S2048x8192.Idx) :
    (G2 m c i : EReal) = ∑ r ∈ Finset.range 4096, term m c (i 0).val (i 1).val r := by
  have hi0 : (i 0).val < 2048 := (i 0).isLt
  have hi1 : (i 1).val < 8192 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 8) + (i 0).val % 1024 = (i 0).val := by unfold run2Of; omega
  have e1 : 1024 * (run2Of i % 8) + (i 1).val % 1024 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's gradient, entry by entry. -/
theorem ref_apply (a : FVec Ideal S4096x2048 .f32) (b : FVec Ideal S4096x8192 .f32) (y : S2048x8192.Idx) :
    (transpose S2048x8192 [1, 0] (Host.dotGeneral MlpUpDwRefIdeal.dot_S4096x8192_S4096x2048_S8192x2048_0_0_1_1_n_n none b a) MlpUpDwRefIdeal.Gen.transposes_S8192x2048_S2048x8192_1_0 : FVec Ideal S2048x8192 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_MlpUpDwIdeal_MlpUpDwRefIdeal (hMlpUpDwIdeal := MlpUpDwIdeal.Gen.facts)
    (hMlpUpDwRefIdeal := MlpUpDwRefIdeal.Gen.facts) := fun m ρ m' ρ' _ hagree => by
  refine ⟨fun c => G2 m c, run m ρ, (MlpUpDwRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.UpDw

end
-- ==== Proof.OutProj.lean ====
/- The output projection and its residual: the launch's blocks, the array it leaves, and the reference's equation. -/
module

public import proofs.«01_k».proof.Proof.Products
public import proofs.«01_k».proof.Proof.Gen.OutProjIdeal.Value
public import proofs.«01_k».proof.Proof.Gen.OutProjRefIdeal.Run

@[expose] public section

set_option maxRecDepth 16384

noncomputable section

namespace Cert.OutP

open Idealize.ShloMosaic Idealize.ShloMosaic.TcCoe Idealize.SL.Sem
open Cert.OutProjIdeal OutProjIdeal.Gen OutProjIdeal.Value Products

/-! ## What the array holds -/

theorem index0_0 : ∀ t : Fin grid0.N, win0_0.index t = ![t.val / 2, 0] := by decide +kernel
theorem index0_1 : ∀ t : Fin grid0.N, win0_1.index t = ![0, t.val % 2] := by decide +kernel
theorem index0_2 : ∀ t : Fin grid0.N, win0_2.index t = ![t.val / 2, t.val % 2] := by decide +kernel
theorem index0_3 : ∀ t : Fin grid0.N, win0_3.index t = ![t.val / 2, t.val % 2] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x2048.Idx → EReal := V m c (Pipeline.arrRef spec0 1)
/-- The array added to the product. -/
abbrev added : S4096x2048.Idx → EReal := V m c (Pipeline.arrRef spec0 2)

/-- The array the launch leaves: the product of the left and the right array plus the added array. -/
def product (i : S4096x2048.Idx) : EReal :=
  (∑ r ∈ Finset.range 2048, entry (lhs m c) ((i 0).val) r * entry (rhs m c) r ((i 1).val)) + entry (added m c) ((i 0).val) ((i 1).val)

theorem array_eq : (dats m 0 c).arrAt 3 cfg0.N = product m c := by
  refine (dats m 0 c).arrAt_eq_of_covers 3 _ (by decide +kernel) fun t _ y => ?_
  have hN : t.val < 8 := lt_of_lt_of_eq t.isLt N_0
  have e0 : ((win0_3.blk t).view.emb y 0).val = 1024 * (t.val / 2) + (y 0).val := by blk_simp [index0_3]; simp; omega
  have e1 : ((win0_3.blk t).view.emb y 1).val = 1024 * (t.val % 2) + (y 1).val := by blk_simp [index0_3]; simp; omega
  have e : product m c ((win0_3.blk t).view.emb y) = HAdd.hAdd (α := EReal) (∑ r : Fin 2048, Mul.mul (α := EReal) (iblk m c 0 t (ix2 (y 0) r)) (iblk m c 1 t (ix2 r (y 1)))) (iblk m c 2 t y) := by
    unfold product
    rw [e0, e1]
    exact (congrArg₂ (fun u v : EReal => u + v) (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega)))
      (entry_eq (added m c) ((win0_2.blk t).view.emb y) (by blk_simp [index0_2]; simp; omega) (by blk_simp [index0_2]; simp; omega))).symm
  blk_simp
  rw [after0_3]
  unfold outsAt0
  frame_out
  pointwise [k0_pay1]
  exact e.symm

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

/-- The added array is the third argument. -/
theorem added_eq : added m c = m ((c : Thread nD τ).loc main_arg2) := V_main_arg2 m c

end Array

/-! ## What the reference computes, and the equation -/

/-- The reference's layer, entry by entry. -/
theorem ref_apply (a : FVec Ideal S4096x2048 .f32) (b : FVec Ideal S2048x2048 .f32) (e : FVec Ideal S4096x2048 .f32) (y : S4096x2048.Idx) :
    (addf e (Host.dotGeneral OutProjRefIdeal.dot_S4096x2048_S2048x2048_S4096x2048_1_0_0_1_n_n none a b) : FVec Ideal S4096x2048 .f32) y
      = (∑ r ∈ Finset.range 2048, entry a (y 0).val r * entry b r (y 1).val) + entry e (y 0).val (y 1).val := by
  pointwise []
  rw [← entry_eq e y rfl rfl]
  exact (add_comm _ _).trans (congrArg (fun u : EReal => u + e y) (sum_fin _ _ fun r => (by rw [entry_eq a _ rfl rfl, entry_eq b _ rfl rfl]; rfl)))

/-- From memories agreeing on the arguments, the kernel's result is the reference's. -/
theorem equal : algebraic_OutProjIdeal_OutProjRefIdeal (hOutProjIdeal := OutProjIdeal.Gen.facts)
    (hOutProjRefIdeal := OutProjRefIdeal.Gen.facts) := fun m ρ m' ρ' _ hagree => by
  refine ⟨fun c => (dats m 0 c).arrAt 3 cfg0.N, run_blocks m ρ, (OutProjRefIdeal.Value.run m' ρ').mono fun _ h c => ⟨(h c).1.trans ?_, (h c).2⟩⟩
  obtain ⟨e0, e1, e2⟩ := hagree c
  rw [e0, e1, e2]
  refine Eq.trans ?_ (array_eq m c).symm
  funext y
  refine (ref_apply _ _ _ y).trans ?_
  unfold product
  rw [lhs_eq, rhs_eq, added_eq]

end Cert.OutP

end
-- ==== Proof.OutProjDx.lean ====
/- The gradient of the output projection's input: the launch's blocks, the array it leaves, and the reference's equation. -/
module

public import proofs.«01_k».proof.Proof.Products
public import proofs.«01_k».proof.Proof.Gen.OutProjDxIdeal.Value
public import proofs.«01_k».proof.Proof.Gen.OutProjDxRefIdeal.Run

@[expose] public section

set_option maxRecDepth 16384

noncomputable section

namespace Cert.OutDx

open Idealize.ShloMosaic Idealize.ShloMosaic.TcCoe Idealize.SL.Sem
open Cert.OutProjDxIdeal OutProjDxIdeal.Gen OutProjDxIdeal.Value Products

/-! ## What the array holds -/

theorem index0_0 : ∀ t : Fin grid0.N, win0_0.index t = ![t.val / 2, 0] := by decide +kernel
theorem index0_1 : ∀ t : Fin grid0.N, win0_1.index t = ![t.val % 2, 0] := by decide +kernel
theorem index0_2 : ∀ t : Fin grid0.N, win0_2.index t = ![t.val / 2, t.val % 2] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x2048.Idx → EReal := V m c (Pipeline.arrRef spec0 1)

/-- The array the launch leaves: the product of the left array and the transposed right array. -/
def product (i : S4096x2048.Idx) : EReal :=
  ∑ r ∈ Finset.range 2048, entry (lhs m c) ((i 0).val) r * entry (rhs m c) ((i 1).val) r

theorem array_eq : (dats m 0 c).arrAt 2 cfg0.N = product m c := by
  refine (dats m 0 c).arrAt_eq_of_covers 2 _ (by decide +kernel) fun t _ y => ?_
  have hN : t.val < 8 := lt_of_lt_of_eq t.isLt N_0
  have e0 : ((win0_2.blk t).view.emb y 0).val = 1024 * (t.val / 2) + (y 0).val := by blk_simp [index0_2]; simp; omega
  have e1 : ((win0_2.blk t).view.emb y 1).val = 1024 * (t.val % 2) + (y 1).val := by blk_simp [index0_2]; simp; omega
  have e : product m c ((win0_2.blk t).view.emb y) = ∑ r : Fin 2048, Mul.mul (α := EReal) (iblk m c 0 t (ix2 (y 0) r)) (iblk m c 1 t (ix2 (y 1) r)) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]; simp; omega) (by blk_simp [index0_1]))).symm
  blk_simp
  rw [after0_2]
  unfold outsAt0
  frame_out
  pointwise [k0_pay1]
  exact e.symm

/-! ## The arrays the host hands the launch -/

/-- The left array is the second argument. -/
theorem lhs_eq : lhs m c = m ((c : Thread nD τ).loc main_arg1) := V_main_arg1 m c

/-- The right array is the first argument. -/
theorem rhs_eq : rhs m c = m ((c : Thread nD τ).loc main_arg0) := by
  refine Eq.trans ?_ (truncated _ bitsLt_bf16_f32)
  show StableHlo.after hostOps0 (fun b => m (c, b)) (Proc.devRef .tc main_v0) = _
  unfold hostOps0
  after_results

end Array

/-! ## What the reference computes, and the equation -/

/-- The reference's gradient, entry by entry. -/
theorem ref_apply (a : FVec Ideal S4096x2048 .f32) (b : FVec Ideal S2048x2048 .f32) (y : S4096x2048.Idx) :
    (Host.dotGeneral OutProjDxRefIdeal.dot_S4096x2048_S2048x2048_S4096x2048_1_1_0_0_n_n none a b : FVec Ideal S4096x2048 .f32) y
      = ∑ r ∈ Finset.range 2048, entry a (y 0).val r * entry b (y 1).val r := by
  pointwise []
  exact sum_fin _ _ fun r => (by rw [entry_eq a _ rfl rfl, entry_eq b _ rfl rfl]; rfl)

/-- From memories agreeing on the arguments, the kernel's result is the reference's. -/
theorem equal : algebraic_OutProjDxIdeal_OutProjDxRefIdeal (hOutProjDxIdeal := OutProjDxIdeal.Gen.facts)
    (hOutProjDxRefIdeal := OutProjDxRefIdeal.Gen.facts) := fun m ρ m' ρ' _ hagree => by
  refine ⟨fun c => (dats m 0 c).arrAt 2 cfg0.N, run_blocks m ρ, (OutProjDxRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.OutDx

end
-- ==== Proof.OutProjDw.lean ====
/- The gradient of the output projection's weights: the launch's blocks, the array it leaves, and the reference's equation. -/
module

public import proofs.«01_k».proof.Proof.Runs
public import proofs.«01_k».proof.Proof.Gen.OutProjDwIdeal.Value
public import proofs.«01_k».proof.Proof.Gen.OutProjDwRefIdeal.Run

@[expose] public section

set_option maxRecDepth 16384

noncomputable section

namespace Cert.OutDw

open Idealize.ShloMosaic Idealize.ShloMosaic.TcCoe Idealize.SL.Sem
open Cert.OutProjDwIdeal OutProjDwIdeal.Gen OutProjDwIdeal.Value Products

/-! ## What the array holds -/

theorem index0_0 : ∀ t : Fin grid0.N, win0_0.index t = ![t.val % 2, t.val / 4] := by decide +kernel
theorem index0_1 : ∀ t : Fin grid0.N, win0_1.index t = ![t.val % 2, t.val / 2 % 2] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S4096x2048.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * (q / 2) + (y 0).val) (1024 * (q % 2) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x1024.Idx) :
    (outsAt0 m c (2 * q + 1) h).1 y
      = ∑ r ∈ Finset.range 4096, term m c (1024 * (q / 2) + (y 0).val) (1024 * (q % 2) + (y 1).val) r := by
  have hN : 2 * q + 1 < 8 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S2048x2048.Idx) :
    (G2 m c i : EReal) = ∑ r ∈ Finset.range 4096, term m c (i 0).val (i 1).val r := by
  have hi0 : (i 0).val < 2048 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 2) + (i 0).val % 1024 = (i 0).val := by unfold run2Of; omega
  have e1 : 1024 * (run2Of i % 2) + (i 1).val % 1024 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := V_main_arg1 m c

end Array

/-! ## What the reference computes, and the equation -/

/-- The reference's gradient, entry by entry. -/
theorem ref_apply (a : FVec Ideal S4096x2048 .f32) (b : FVec Ideal S4096x2048 .f32) (y : S2048x2048.Idx) :
    (transpose S2048x2048 [1, 0] (Host.dotGeneral OutProjDwRefIdeal.dot_S4096x2048_S4096x2048_S2048x2048_0_0_1_1_n_n none b a) OutProjDwRefIdeal.Gen.transposes_S2048x2048_S2048x2048_1_0 : FVec Ideal S2048x2048 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_OutProjDwIdeal_OutProjDwRefIdeal (hOutProjDwIdeal := OutProjDwIdeal.Gen.facts)
    (hOutProjDwRefIdeal := OutProjDwRefIdeal.Gen.facts) := fun m ρ m' ρ' _ hagree => by
  refine ⟨fun c => G2 m c, run m ρ, (OutProjDwRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.OutDw

end
-- ==== Proof.PlGate.lean ====
/- The projection of the gate: the launch's blocks, the array it leaves, and the reference's equation. -/
module

public import proofs.«01_k».proof.Proof.Products
public import proofs.«01_k».proof.Proof.Gen.PlGateIdeal.Value
public import proofs.«01_k».proof.Proof.Gen.PlGateRefIdeal.Run

@[expose] public section

set_option maxRecDepth 16384

noncomputable section

namespace Cert.GateP

open Idealize.ShloMosaic Idealize.ShloMosaic.TcCoe Idealize.SL.Sem
open Cert.PlGateIdeal PlGateIdeal.Gen PlGateIdeal.Value Products

/-! ## What the array holds -/

theorem index0_0 : ∀ t : Fin grid0.N, win0_0.index t = ![t.val / 2, 0] := by decide +kernel
theorem index0_1 : ∀ t : Fin grid0.N, win0_1.index t = ![0, t.val % 2] := by decide +kernel
theorem index0_2 : ∀ t : Fin grid0.N, win0_2.index t = ![t.val / 2, t.val % 2] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x2048.Idx → EReal := V m c (Pipeline.arrRef spec0 1)

/-- The array the launch leaves: the product of the left and the right array. -/
def product (i : S4096x2048.Idx) : EReal :=
  ∑ r ∈ Finset.range 2048, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 8 := lt_of_lt_of_eq t.isLt N_0
  have e0 : ((win0_2.blk t).view.emb y 0).val = 1024 * (t.val / 2) + (y 0).val := by blk_simp [index0_2]; simp; omega
  have e1 : ((win0_2.blk t).view.emb y 1).val = 1024 * (t.val % 2) + (y 1).val := by blk_simp [index0_2]; simp; omega
  have e : product m c ((win0_2.blk t).view.emb y) = ∑ r : Fin 2048, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's product, entry by entry. -/
theorem ref_apply (a : FVec Ideal S4096x2048 .f32) (b : FVec Ideal S2048x2048 .f32) (y : S4096x2048.Idx) :
    (Host.dotGeneral PlGateRefIdeal.dot_S4096x2048_S2048x2048_S4096x2048_1_0_0_1_n_n none a b : FVec Ideal S4096x2048 .f32) y
      = ∑ r ∈ Finset.range 2048, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_PlGateIdeal_PlGateRefIdeal (hPlGateIdeal := PlGateIdeal.Gen.facts)
    (hPlGateRefIdeal := PlGateRefIdeal.Gen.facts) := fun m ρ m' ρ' _ hagree => by
  refine ⟨fun c => (dats m 0 c).arrAt 2 cfg0.N, run_blocks m ρ, (PlGateRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.GateP

end
-- ==== Proof.PlProj.lean ====
/- The projection of the layer's own inputs: the launch's blocks, the array it leaves, and the reference's equation. -/
module

public import proofs.«01_k».proof.Proof.Products
public import proofs.«01_k».proof.Proof.Gen.PlProjIdeal.Value
public import proofs.«01_k».proof.Proof.Gen.PlProjRefIdeal.Run

@[expose] public section

set_option maxRecDepth 16384

noncomputable section

namespace Cert.PlP

open Idealize.ShloMosaic Idealize.ShloMosaic.TcCoe Idealize.SL.Sem
open Cert.PlProjIdeal PlProjIdeal.Gen PlProjIdeal.Value Products

/-! ## What the array holds -/

theorem index0_0 : ∀ t : Fin grid0.N, win0_0.index t = ![t.val / 2, 0] := by decide +kernel
theorem index0_1 : ∀ t : Fin grid0.N, win0_1.index t = ![0, t.val % 2] := by decide +kernel
theorem index0_2 : ∀ t : Fin grid0.N, win0_2.index t = ![t.val / 2, t.val % 2] := by decide +kernel

section Array

variable (m : (ℓ : Loc nD τ sig) → Buf (Elt Ideal) ℓ) (c : Dev nD)

/-- The left array the launch reads. -/
abbrev lhs : S4096x256.Idx → EReal := V m c (Pipeline.arrRef spec0 0)
/-- The right array the launch reads. -/
abbrev rhs : S256x2048.Idx → EReal := V m c (Pipeline.arrRef spec0 1)

/-- The array the launch leaves: the product of the left and the right array. -/
def product (i : S4096x2048.Idx) : EReal :=
  ∑ r ∈ Finset.range 256, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 8 := lt_of_lt_of_eq t.isLt N_0
  have e0 : ((win0_2.blk t).view.emb y 0).val = 1024 * (t.val / 2) + (y 0).val := by blk_simp [index0_2]; simp; omega
  have e1 : ((win0_2.blk t).view.emb y 1).val = 1024 * (t.val % 2) + (y 1).val := by blk_simp [index0_2]; simp; omega
  have e : product m c ((win0_2.blk t).view.emb y) = ∑ r : Fin 256, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v0) = _
  unfold hostOps0
  after_results

end Array

/-! ## What the reference computes, and the equation -/

/-- The reference's product, entry by entry. -/
theorem ref_apply (a : FVec Ideal S4096x256 .f32) (b : FVec Ideal S256x2048 .f32) (y : S4096x2048.Idx) :
    (Host.dotGeneral PlProjRefIdeal.dot_S4096x256_S256x2048_S4096x2048_1_0_0_1_n_n none a b : FVec Ideal S4096x2048 .f32) y
      = ∑ r ∈ Finset.range 256, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_PlProjIdeal_PlProjRefIdeal (hPlProjIdeal := PlProjIdeal.Gen.facts)
    (hPlProjRefIdeal := PlProjRefIdeal.Gen.facts) := fun m ρ m' ρ' _ hagree => by
  refine ⟨fun c => (dats m 0 c).arrAt 2 cfg0.N, run_blocks m ρ, (PlProjRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.PlP

end
-- ==== Proof.PlProjDw.lean ====
/- The gradient of the weights of the projection of the layer's own inputs: the launch's blocks, the array it leaves, and the reference's equation. -/
module

public import proofs.«01_k».proof.Proof.Runs
public import proofs.«01_k».proof.Proof.Gen.PlProjDwIdeal.Value
public import proofs.«01_k».proof.Proof.Gen.PlProjDwRefIdeal.Run

@[expose] public section

set_option maxRecDepth 16384

noncomputable section

namespace Cert.PlDw

open Idealize.ShloMosaic Idealize.ShloMosaic.TcCoe Idealize.SL.Sem
open Cert.PlProjDwIdeal PlProjDwIdeal.Gen PlProjDwIdeal.Value Products

/-! ## What the array holds -/

theorem index0_0 : ∀ t : Fin grid0.N, win0_0.index t = ![t.val % 2, t.val / 4] := by decide +kernel
theorem index0_1 : ∀ t : Fin grid0.N, win0_1.index t = ![t.val % 2, t.val / 2 % 2] := by decide +kernel

section Array

variable (m : (ℓ : Loc nD τ sig) → Buf (Elt Ideal) ℓ) (c : Dev nD)

/-- The left array the launch reads. -/
abbrev lhs : S4096x256.Idx → EReal := V m c (Pipeline.arrRef spec0 0)
/-- The right array the launch reads. -/
abbrev rhs : S4096x2048.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S256x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (256 * (q / 2) + (y 0).val) (1024 * (q % 2) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S256x1024.Idx) :
    (outsAt0 m c (2 * q + 1) h).1 y
      = ∑ r ∈ Finset.range 4096, term m c (256 * (q / 2) + (y 0).val) (1024 * (q % 2) + (y 1).val) r := by
  have hN : 2 * q + 1 < 4 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S256x2048.Idx) :
    (G2 m c i : EReal) = ∑ r ∈ Finset.range 4096, term m c (i 0).val (i 1).val r := by
  have hi0 : (i 0).val < 256 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 256 * (run2Of i / 2) + (i 0).val % 256 = (i 0).val := by unfold run2Of; omega
  have e1 : 1024 * (run2Of i % 2) + (i 1).val % 1024 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's gradient, entry by entry. -/
theorem ref_apply (a : FVec Ideal S4096x256 .f32) (b : FVec Ideal S4096x2048 .f32) (y : S256x2048.Idx) :
    (transpose S256x2048 [1, 0] (Host.dotGeneral PlProjDwRefIdeal.dot_S4096x2048_S4096x256_S2048x256_0_0_1_1_n_n none b a) PlProjDwRefIdeal.Gen.transposes_S2048x256_S256x2048_1_0 : FVec Ideal S256x2048 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_PlProjDwIdeal_PlProjDwRefIdeal (hPlProjDwIdeal := PlProjDwIdeal.Gen.facts)
    (hPlProjDwRefIdeal := PlProjDwRefIdeal.Gen.facts) := fun m ρ m' ρ' _ hagree => by
  refine ⟨fun c => G2 m c, run m ρ, (PlProjDwRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.PlDw

end
-- ==== Proof.EvenIn.lean ====
/- The input projection of the even layer: the launch's blocks, the array it leaves, and the reference's equation. -/
module

public import proofs.«01_k».proof.Proof.Products
public import proofs.«01_k».proof.Proof.Gen.EvenInIdeal.Value
public import proofs.«01_k».proof.Proof.Gen.EvenInRefIdeal.Run

@[expose] public section

set_option maxRecDepth 16384

noncomputable section

namespace Cert.EvenP

open Idealize.ShloMosaic Idealize.ShloMosaic.TcCoe Idealize.SL.Sem
open Cert.EvenInIdeal EvenInIdeal.Gen EvenInIdeal.Value Products

/-! ## What the array holds -/

theorem index0_0 : ∀ t : Fin grid0.N, win0_0.index t = ![t.val / 5, 0] := by decide +kernel
theorem index0_1 : ∀ t : Fin grid0.N, win0_1.index t = ![0, t.val % 5] := by decide +kernel
theorem index0_2 : ∀ t : Fin grid0.N, win0_2.index t = ![t.val / 5, t.val % 5] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x5120.Idx → EReal := V m c (Pipeline.arrRef spec0 1)

/-- The array the launch leaves: the product of the left and the right array. -/
def product (i : S4096x5120.Idx) : EReal :=
  ∑ r ∈ Finset.range 2048, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 20 := lt_of_lt_of_eq t.isLt N_0
  have e0 : ((win0_2.blk t).view.emb y 0).val = 1024 * (t.val / 5) + (y 0).val := by blk_simp [index0_2]; simp; omega
  have e1 : ((win0_2.blk t).view.emb y 1).val = 1024 * (t.val % 5) + (y 1).val := by blk_simp [index0_2]; simp; omega
  have e : product m c ((win0_2.blk t).view.emb y) = ∑ r : Fin 2048, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's product, entry by entry. -/
theorem ref_apply (a : FVec Ideal S4096x2048 .f32) (b : FVec Ideal S2048x5120 .f32) (y : S4096x5120.Idx) :
    (Host.dotGeneral EvenInRefIdeal.dot_S4096x2048_S2048x5120_S4096x5120_1_0_0_1_n_n none a b : FVec Ideal S4096x5120 .f32) y
      = ∑ r ∈ Finset.range 2048, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_EvenInIdeal_EvenInRefIdeal (hEvenInIdeal := EvenInIdeal.Gen.facts)
    (hEvenInRefIdeal := EvenInRefIdeal.Gen.facts) := fun m ρ m' ρ' _ hagree => by
  refine ⟨fun c => (dats m 0 c).arrAt 2 cfg0.N, run_blocks m ρ, (EvenInRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.EvenP

end
-- ==== Proof.EvenInDx.lean ====
/- The gradient of the input of the even layer's input projection: the launch's blocks, the array it leaves, and the reference's equation. -/
module

public import proofs.«01_k».proof.Proof.Runs
public import proofs.«01_k».proof.Proof.Gen.EvenInDxIdeal.Value
public import proofs.«01_k».proof.Proof.Gen.EvenInDxRefIdeal.Run

@[expose] public section

set_option maxRecDepth 16384

noncomputable section

namespace Cert.EvenDx

open Idealize.ShloMosaic Idealize.ShloMosaic.TcCoe Idealize.SL.Sem
open Cert.EvenInDxIdeal EvenInDxIdeal.Gen EvenInDxIdeal.Value Products

/-! ## What the array holds -/

theorem index0_0 : ∀ t : Fin grid0.N, win0_0.index t = ![t.val / 10, t.val % 5] := by decide +kernel
theorem index0_1 : ∀ t : Fin grid0.N, win0_1.index t = ![t.val / 5 % 2, t.val % 5] := by decide +kernel

section Array

variable (m : (ℓ : Loc nD τ sig) → Buf (Elt Ideal) ℓ) (c : Dev nD)

/-- The left array the launch reads. -/
abbrev lhs : S4096x5120.Idx → EReal := V m c (Pipeline.arrRef spec0 0)
/-- The right array the launch reads. -/
abbrev rhs : S2048x5120.Idx → EReal := V m c (Pipeline.arrRef spec0 1)

/-- The `r`-th term of the entry in row `a` and column `b` of the product. -/
def term (a b r : ℕ) : EReal := entry (lhs m c) a r * entry (rhs m c) b r

/-- The product of the two blocks at point `j` of run `q` is the `j`-th piece of the sum. -/
theorem piece (q j : ℕ) (hj : j < 5) (h : 5 * q + j < cfg0.N) (y : S1024x1024.Idx) :
    ∑ r : Fin 1024, Mul.mul (α := EReal) (iblk m c 0 ⟨5 * q + j, h⟩ (ix2 (y 0) r)) (iblk m c 1 ⟨5 * q + j, h⟩ (ix2 (y 1) r))
      = ∑ r ∈ Finset.range 1024, term m c (1024 * (q / 2) + (y 0).val) (1024 * (q % 2) + (y 1).val) (1024 * j + r) :=
  have hN := lt_of_lt_of_eq h N_0
  sum_fin _ _ fun r => congrArg₂ (fun u v : EReal => u * v)
    (entry_eq (lhs m c) ((win0_0.blk ⟨5 * q + j, h⟩).view.emb _) (by blk_simp [index0_0]; simp; omega) (by blk_simp [index0_0]; simp; omega))
    (entry_eq (rhs m c) ((win0_1.blk ⟨5 * q + j, h⟩).view.emb _) (by blk_simp [index0_1]; simp; omega) (by blk_simp [index0_1]; simp; omega))

/-- The block the last point of run `q` writes. -/
theorem out_apply (q : ℕ) (h : 5 * q + 4 < cfg0.N) (y : S1024x1024.Idx) :
    (outsAt0 m c (5 * q + 4) h).1 y
      = ∑ r ∈ Finset.range 5120, term m c (1024 * (q / 2) + (y 0).val) (1024 * (q % 2) + (y 1).val) r := by
  have hN : 5 * q + 4 < 40 := lt_of_lt_of_eq h N_0
  refine run_sum 1024 3 _ (fun j h => (outsAt0 m c (5 * q + j) h).2 y) h (fun h => ?_) (fun j h _ hj => ?_) fun _ => ?_ <;> dsimp only
  · rw [outsAt0_A m c ⟨5 * q + 0, h⟩ (by dsimp only; omega) (by dsimp only; omega) (by dsimp only; omega), ← piece m c q 0 (by omega) h y]
    frame_out
    pointwise [k0_pay1]
    rfl
  · rw [outsAt0_B m c ⟨5 * q + (j + 1), h⟩ (by dsimp only; omega) (by dsimp only; omega) (by dsimp only; omega), ← piece m c q (j + 1) (by omega) h y]
    frame_out
    pointwise [k0_pay2]
    exact congrArg (· + _) (congrFun (Memref.IsWhole.read_unread _ _) y)
  · rw [outsAt0_C m c ⟨5 * q + 4, h⟩ (by dsimp only; omega) (by dsimp only; omega) (by dsimp only; omega), ← piece m c q 4 (by omega) h y]
    frame_out
    pointwise [k0_pay3]
    exact congrArg (· + _) (congrFun (Memref.IsWhole.read_unread _ _) y)

/-- The array the launch leaves: the product of the left array and the transposed right array. -/
theorem array_apply (i : S4096x2048.Idx) :
    (G2 m c i : EReal) = ∑ r ∈ Finset.range 5120, term m c (i 0).val (i 1).val r := by
  have hi0 : (i 0).val < 4096 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 2) + (i 0).val % 1024 = (i 0).val := by unfold run2Of; omega
  have e1 : 1024 * (run2Of i % 2) + (i 1).val % 1024 = (i 1).val := by unfold run2Of; omega
  exact congrArg₂ (fun a b => ∑ r ∈ Finset.range 5120, term m c a b r) e0 e1

/-! ## The arrays the host hands the launch -/

/-- The left array is the second argument. -/
theorem lhs_eq : lhs m c = m ((c : Thread nD τ).loc main_arg1) := by
  refine Eq.trans ?_ (truncated _ bitsLt_bf16_f32)
  show StableHlo.after hostOps0 (fun b => m (c, b)) (Proc.devRef .tc main_v0) = _
  unfold hostOps0
  after_results

/-- The right array is the first argument. -/
theorem rhs_eq : rhs m c = m ((c : Thread nD τ).loc main_arg0) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's gradient, entry by entry. -/
theorem ref_apply (a : FVec Ideal S4096x5120 .f32) (b : FVec Ideal S2048x5120 .f32) (y : S4096x2048.Idx) :
    (Host.dotGeneral EvenInDxRefIdeal.dot_S4096x5120_S2048x5120_S4096x2048_1_1_0_0_n_n none a b : FVec Ideal S4096x2048 .f32) y
      = ∑ r ∈ Finset.range 5120, entry a (y 0).val r * entry b (y 1).val r := by
  pointwise []
  exact sum_fin _ _ fun r => (by rw [entry_eq a _ rfl rfl, entry_eq b _ rfl rfl]; rfl)

/-- From memories agreeing on the arguments, the kernel's result is the reference's. -/
theorem equal : algebraic_EvenInDxIdeal_EvenInDxRefIdeal (hEvenInDxIdeal := EvenInDxIdeal.Gen.facts)
    (hEvenInDxRefIdeal := EvenInDxRefIdeal.Gen.facts) := fun m ρ m' ρ' _ hagree => by
  refine ⟨fun c => G2 m c, run m ρ, (EvenInDxRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.EvenDx

end
-- ==== Proof.EvenInDw.lean ====
/- The gradient of the weights of the even layer's input projection: the launch's blocks, the array it leaves, and the reference's equation. -/
module

public import proofs.«01_k».proof.Proof.Runs
public import proofs.«01_k».proof.Proof.Gen.EvenInDwIdeal.Value
public import proofs.«01_k».proof.Proof.Gen.EvenInDwRefIdeal.Run

@[expose] public section

set_option maxRecDepth 16384

noncomputable section

namespace Cert.EvenDw

open Idealize.ShloMosaic Idealize.ShloMosaic.TcCoe Idealize.SL.Sem
open Cert.EvenInDwIdeal EvenInDwIdeal.Gen EvenInDwIdeal.Value Products

/-! ## What the array holds -/

theorem index0_0 : ∀ t : Fin grid0.N, win0_0.index t = ![t.val % 2, t.val / 10] := by decide +kernel
theorem index0_1 : ∀ t : Fin grid0.N, win0_1.index t = ![t.val % 2, t.val / 2 % 5] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S4096x5120.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * (q / 5) + (y 0).val) (1024 * (q % 5) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x1024.Idx) :
    (outsAt0 m c (2 * q + 1) h).1 y
      = ∑ r ∈ Finset.range 4096, term m c (1024 * (q / 5) + (y 0).val) (1024 * (q % 5) + (y 1).val) r := by
  have hN : 2 * q + 1 < 20 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S2048x5120.Idx) :
    (G2 m c i : EReal) = ∑ r ∈ Finset.range 4096, term m c (i 0).val (i 1).val r := by
  have hi0 : (i 0).val < 2048 := (i 0).isLt
  have hi1 : (i 1).val < 5120 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 5) + (i 0).val % 1024 = (i 0).val := by unfold run2Of; omega
  have e1 : 1024 * (run2Of i % 5) + (i 1).val % 1024 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's gradient, entry by entry. -/
theorem ref_apply (a : FVec Ideal S4096x2048 .f32) (b : FVec Ideal S4096x5120 .f32) (y : S2048x5120.Idx) :
    (transpose S2048x5120 [1, 0] (Host.dotGeneral EvenInDwRefIdeal.dot_S4096x5120_S4096x2048_S5120x2048_0_0_1_1_n_n none b a) EvenInDwRefIdeal.Gen.transposes_S5120x2048_S2048x5120_1_0 : FVec Ideal S2048x5120 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_EvenInDwIdeal_EvenInDwRefIdeal (hEvenInDwIdeal := EvenInDwIdeal.Gen.facts)
    (hEvenInDwRefIdeal := EvenInDwRefIdeal.Gen.facts) := fun m ρ m' ρ' _ hagree => by
  refine ⟨fun c => G2 m c, run m ρ, (EvenInDwRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.EvenDw

end
-- ==== Proof.OddIn.lean ====
/- The input projection of the odd layer: the launch's blocks, the array it leaves, and the reference's equation. -/
module

public import proofs.«01_k».proof.Proof.Products
public import proofs.«01_k».proof.Proof.Gen.OddInIdeal.Value
public import proofs.«01_k».proof.Proof.Gen.OddInRefIdeal.Run

@[expose] public section

set_option maxRecDepth 16384

noncomputable section

namespace Cert.OddP

open Idealize.ShloMosaic Idealize.ShloMosaic.TcCoe Idealize.SL.Sem
open Cert.OddInIdeal OddInIdeal.Gen OddInIdeal.Value Products

/-! ## What the array holds -/

theorem index0_0 : ∀ t : Fin grid0.N, win0_0.index t = ![t.val / 11, 0] := by decide +kernel
theorem index0_1 : ∀ t : Fin grid0.N, win0_1.index t = ![0, t.val % 11] := by decide +kernel
theorem index0_2 : ∀ t : Fin grid0.N, win0_2.index t = ![t.val / 11, t.val % 11] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x5632.Idx → EReal := V m c (Pipeline.arrRef spec0 1)

/-- The array the launch leaves: the product of the left and the right array. -/
def product (i : S4096x5632.Idx) : EReal :=
  ∑ r ∈ Finset.range 2048, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 44 := lt_of_lt_of_eq t.isLt N_0
  have e0 : ((win0_2.blk t).view.emb y 0).val = 1024 * (t.val / 11) + (y 0).val := by blk_simp [index0_2]; simp; omega
  have e1 : ((win0_2.blk t).view.emb y 1).val = 512 * (t.val % 11) + (y 1).val := by blk_simp [index0_2]; simp; omega
  have e : product m c ((win0_2.blk t).view.emb y) = ∑ r : Fin 2048, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's product, entry by entry. -/
theorem ref_apply (a : FVec Ideal S4096x2048 .f32) (b : FVec Ideal S2048x5632 .f32) (y : S4096x5632.Idx) :
    (Host.dotGeneral OddInRefIdeal.dot_S4096x2048_S2048x5632_S4096x5632_1_0_0_1_n_n none a b : FVec Ideal S4096x5632 .f32) y
      = ∑ r ∈ Finset.range 2048, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_OddInIdeal_OddInRefIdeal (hOddInIdeal := OddInIdeal.Gen.facts)
    (hOddInRefIdeal := OddInRefIdeal.Gen.facts) := fun m ρ m' ρ' _ hagree => by
  refine ⟨fun c => (dats m 0 c).arrAt 2 cfg0.N, run_blocks m ρ, (OddInRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.OddP

end
-- ==== Proof.OddInDx.lean ====
/- The gradient of the input of the odd layer's input projection: the launch's blocks, the array it leaves, and the reference's equation. -/
module

public import proofs.«01_k».proof.Proof.Runs
public import proofs.«01_k».proof.Proof.Gen.OddInDxIdeal.Value
public import proofs.«01_k».proof.Proof.Gen.OddInDxRefIdeal.Run

@[expose] public section

set_option maxRecDepth 16384

noncomputable section

namespace Cert.OddDx

open Idealize.ShloMosaic Idealize.ShloMosaic.TcCoe Idealize.SL.Sem
open Cert.OddInDxIdeal OddInDxIdeal.Gen OddInDxIdeal.Value Products

/-! ## What the array holds -/

theorem index0_0 : ∀ t : Fin grid0.N, win0_0.index t = ![t.val / 22, t.val % 11] := by decide +kernel
theorem index0_1 : ∀ t : Fin grid0.N, win0_1.index t = ![t.val / 11 % 2, t.val % 11] := by decide +kernel

section Array

variable (m : (ℓ : Loc nD τ sig) → Buf (Elt Ideal) ℓ) (c : Dev nD)

/-- The left array the launch reads. -/
abbrev lhs : S4096x5632.Idx → EReal := V m c (Pipeline.arrRef spec0 0)
/-- The right array the launch reads. -/
abbrev rhs : S2048x5632.Idx → EReal := V m c (Pipeline.arrRef spec0 1)

/-- The `r`-th term of the entry in row `a` and column `b` of the product. -/
def term (a b r : ℕ) : EReal := entry (lhs m c) a r * entry (rhs m c) b r

/-- The product of the two blocks at point `j` of run `q` is the `j`-th piece of the sum. -/
theorem piece (q j : ℕ) (hj : j < 11) (h : 11 * q + j < cfg0.N) (y : S1024x1024.Idx) :
    ∑ r : Fin 512, Mul.mul (α := EReal) (iblk m c 0 ⟨11 * q + j, h⟩ (ix2 (y 0) r)) (iblk m c 1 ⟨11 * q + j, h⟩ (ix2 (y 1) r))
      = ∑ r ∈ Finset.range 512, term m c (1024 * (q / 2) + (y 0).val) (1024 * (q % 2) + (y 1).val) (512 * j + r) :=
  have hN := lt_of_lt_of_eq h N_0
  sum_fin _ _ fun r => congrArg₂ (fun u v : EReal => u * v)
    (entry_eq (lhs m c) ((win0_0.blk ⟨11 * q + j, h⟩).view.emb _) (by blk_simp [index0_0]; simp; omega) (by blk_simp [index0_0]; simp; omega))
    (entry_eq (rhs m c) ((win0_1.blk ⟨11 * q + j, h⟩).view.emb _) (by blk_simp [index0_1]; simp; omega) (by blk_simp [index0_1]; simp; omega))

/-- The block the last point of run `q` writes. -/
theorem out_apply (q : ℕ) (h : 11 * q + 10 < cfg0.N) (y : S1024x1024.Idx) :
    (outsAt0 m c (11 * q + 10) h).1 y
      = ∑ r ∈ Finset.range 5632, term m c (1024 * (q / 2) + (y 0).val) (1024 * (q % 2) + (y 1).val) r := by
  have hN : 11 * q + 10 < 88 := lt_of_lt_of_eq h N_0
  refine run_sum 512 9 _ (fun j h => (outsAt0 m c (11 * q + j) h).2 y) h (fun h => ?_) (fun j h _ hj => ?_) fun _ => ?_ <;> dsimp only
  · rw [outsAt0_A m c ⟨11 * q + 0, h⟩ (by dsimp only; omega) (by dsimp only; omega) (by dsimp only; omega), ← piece m c q 0 (by omega) h y]
    frame_out
    pointwise [k0_pay1]
    rfl
  · rw [outsAt0_B m c ⟨11 * q + (j + 1), h⟩ (by dsimp only; omega) (by dsimp only; omega) (by dsimp only; omega), ← piece m c q (j + 1) (by omega) h y]
    frame_out
    pointwise [k0_pay2]
    exact congrArg (· + _) (congrFun (Memref.IsWhole.read_unread _ _) y)
  · rw [outsAt0_C m c ⟨11 * q + 10, h⟩ (by dsimp only; omega) (by dsimp only; omega) (by dsimp only; omega), ← piece m c q 10 (by omega) h y]
    frame_out
    pointwise [k0_pay3]
    exact congrArg (· + _) (congrFun (Memref.IsWhole.read_unread _ _) y)

/-- The array the launch leaves: the product of the left array and the transposed right array. -/
theorem array_apply (i : S4096x2048.Idx) :
    (G2 m c i : EReal) = ∑ r ∈ Finset.range 5632, term m c (i 0).val (i 1).val r := by
  have hi0 : (i 0).val < 4096 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 2) + (i 0).val % 1024 = (i 0).val := by unfold run2Of; omega
  have e1 : 1024 * (run2Of i % 2) + (i 1).val % 1024 = (i 1).val := by unfold run2Of; omega
  exact congrArg₂ (fun a b => ∑ r ∈ Finset.range 5632, term m c a b r) e0 e1

/-! ## The arrays the host hands the launch -/

/-- The left array is the second argument. -/
theorem lhs_eq : lhs m c = m ((c : Thread nD τ).loc main_arg1) := by
  refine Eq.trans ?_ (truncated _ bitsLt_bf16_f32)
  show StableHlo.after hostOps0 (fun b => m (c, b)) (Proc.devRef .tc main_v0) = _
  unfold hostOps0
  after_results

/-- The right array is the first argument. -/
theorem rhs_eq : rhs m c = m ((c : Thread nD τ).loc main_arg0) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's gradient, entry by entry. -/
theorem ref_apply (a : FVec Ideal S4096x5632 .f32) (b : FVec Ideal S2048x5632 .f32) (y : S4096x2048.Idx) :
    (Host.dotGeneral OddInDxRefIdeal.dot_S4096x5632_S2048x5632_S4096x2048_1_1_0_0_n_n none a b : FVec Ideal S4096x2048 .f32) y
      = ∑ r ∈ Finset.range 5632, entry a (y 0).val r * entry b (y 1).val r := by
  pointwise []
  exact sum_fin _ _ fun r => (by rw [entry_eq a _ rfl rfl, entry_eq b _ rfl rfl]; rfl)

/-- From memories agreeing on the arguments, the kernel's result is the reference's. -/
theorem equal : algebraic_OddInDxIdeal_OddInDxRefIdeal (hOddInDxIdeal := OddInDxIdeal.Gen.facts)
    (hOddInDxRefIdeal := OddInDxRefIdeal.Gen.facts) := fun m ρ m' ρ' _ hagree => by
  refine ⟨fun c => G2 m c, run m ρ, (OddInDxRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.OddDx

end
-- ==== Proof.OddInDw.lean ====
/- The gradient of the weights of the odd layer's input projection: the launch's blocks, the array it leaves, and the reference's equation. -/
module

public import proofs.«01_k».proof.Proof.Runs
public import proofs.«01_k».proof.Proof.Gen.OddInDwIdeal.Value
public import proofs.«01_k».proof.Proof.Gen.OddInDwRefIdeal.Run

@[expose] public section

set_option maxRecDepth 16384

noncomputable section

namespace Cert.OddDw

open Idealize.ShloMosaic Idealize.ShloMosaic.TcCoe Idealize.SL.Sem
open Cert.OddInDwIdeal OddInDwIdeal.Gen OddInDwIdeal.Value Products

/-! ## What the array holds -/

theorem index0_0 : ∀ t : Fin grid0.N, win0_0.index t = ![t.val % 2, t.val / 22] := by decide +kernel
theorem index0_1 : ∀ t : Fin grid0.N, win0_1.index t = ![t.val % 2, t.val / 2 % 11] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S4096x5632.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x512.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * (q / 11) + (y 0).val) (512 * (q % 11) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x512.Idx) :
    (outsAt0 m c (2 * q + 1) h).1 y
      = ∑ r ∈ Finset.range 4096, term m c (1024 * (q / 11) + (y 0).val) (512 * (q % 11) + (y 1).val) r := by
  have hN : 2 * q + 1 < 44 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S2048x5632.Idx) :
    (G2 m c i : EReal) = ∑ r ∈ Finset.range 4096, term m c (i 0).val (i 1).val r := by
  have hi0 : (i 0).val < 2048 := (i 0).isLt
  have hi1 : (i 1).val < 5632 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 11) + (i 0).val % 1024 = (i 0).val := by unfold run2Of; omega
  have e1 : 512 * (run2Of i % 11) + (i 1).val % 512 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := by
  refine Eq.trans ?_ (truncated _ bitsLt_bf16_f32)
  show StableHlo.after hostOps0 (fun b => m (c, b)) (Proc.devRef .tc main_v0) = _
  unfold hostOps0
  after_results

/-- The right array is the second argument. -/
theorem rhs_eq : rhs m c = m ((c : Thread nD τ).loc main_arg1) := by
  refine Eq.trans ?_ (truncated _ bitsLt_bf16_f32)
  show StableHlo.after hostOps0 (fun b => m (c, b)) (Proc.devRef .tc main_v1) = _
  unfold hostOps0
  after_results

end Array

/-! ## What the reference computes, and the equation -/

/-- The reference's gradient, entry by entry. -/
theorem ref_apply (a : FVec Ideal S4096x2048 .f32) (b : FVec Ideal S4096x5632 .f32) (y : S2048x5632.Idx) :
    (transpose S2048x5632 [1, 0] (Host.dotGeneral OddInDwRefIdeal.dot_S4096x5632_S4096x2048_S5632x2048_0_0_1_1_n_n none b a) OddInDwRefIdeal.Gen.transposes_S5632x2048_S2048x5632_1_0 : FVec Ideal S2048x5632 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_OddInDwIdeal_OddInDwRefIdeal (hOddInDwIdeal := OddInDwIdeal.Gen.facts)
    (hOddInDwRefIdeal := OddInDwRefIdeal.Gen.facts) := fun m ρ m' ρ' _ hagree => by
  refine ⟨fun c => G2 m c, run m ρ, (OddInDwRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.OddDw

end
-- ==== Proof.NormBwd.lean ====
/- The gradient of the normalisation: the launch's blocks, the arrays it leaves, and the reference's equation. -/
module

public import proofs.«01_k».proof.Proof.Products
public import proofs.«01_k».proof.Proof.Gen.NormBwdIdeal.Value
public import proofs.«01_k».proof.Proof.Gen.NormBwdRefIdeal.Run

@[expose] public section

set_option maxRecDepth 16384

noncomputable section

namespace Cert.NormB

open Idealize.ShloMosaic Idealize.ShloMosaic.TcCoe Idealize.SL.Sem
open Cert.NormBwdIdeal NormBwdIdeal.Gen NormBwdIdeal.Value Products

/-! ## The scalar formulas -/

/-- The number of a 32-bit pattern. -/
abbrev co (b : BitVec 32) : EReal := Ideal.ofBits FTy.f32 b

/-- The mean of the squares of a row, plus the small constant. -/
def ms (f : ℕ → EReal) : EReal := Ideal.div (∑ k ∈ Finset.range 2048, f k * f k) (co 0x45000000#32) + co 0x358637BD#32
/-- The reciprocal of its root. -/
def rs (f : ℕ → EReal) : EReal := Ideal.rsqrt (ms f)
/-- The gradient of one square of the row. -/
def share (h d g : ℕ → EReal) : EReal :=
  Ideal.div ((∑ k ∈ Finset.range 2048, h k * (d k * g k)) * (co 0xBF000000#32 * Ideal.div (rs h) (ms h))) (co 0x45000000#32)
/-- The gradient of the row's entry `j`, with the residual's gradient `r` added. -/
def dh (h d g : ℕ → EReal) (r : EReal) (j : ℕ) : EReal := d j * g j * rs h + h j * share h d g + share h d g * h j + r
/-- What a row adds to the scale's gradient at column `j`. -/
def dg (h d : ℕ → EReal) (j : ℕ) : EReal := h j * rs h * d j

/-! ## What one grid point computes -/

theorem row_apply (v0 v15 v38 : Vec Ideal S256x2048 .f32) (v1 : Vec Ideal S1x2048 .f32) (h d r : ℕ → ℕ → EReal) (g : ℕ → EReal)
    (eh : ∀ y : S256x2048.Idx, v0 y = h (y 0).val (y 1).val) (ed : ∀ y : S256x2048.Idx, v15 y = d (y 0).val (y 1).val)
    (er : ∀ y : S256x2048.Idx, v38 y = r (y 0).val (y 1).val) (eg : ∀ y : S1x2048.Idx, v1 y = g (y 1).val) (y : S256x2048.Idx) :
    k0_pay7 (F := Ideal) v0 v1 v15 v38 y = dh (h (y 0).val) (d (y 0).val) g (r (y 0).val (y 1).val) (y 1).val := by
  have s1 : ∑ x : Fin 2048, v0 (ix2 (y 0) x) * v0 (ix2 (y 0) x) = ∑ k ∈ Finset.range 2048, h (y 0).val k * h (y 0).val k :=
    sum_fin _ _ fun x => by rw [eh]; rfl
  have s2 : ∑ x : Fin 2048, v0 (ix2 (y 0) x) * (v15 (ix2 (y 0) x) * v1 (ix2 0 x))
      = ∑ k ∈ Finset.range 2048, h (y 0).val k * (d (y 0).val k * g k) :=
    sum_fin _ _ fun x => by rw [eh, ed, eg]; rfl
  pointwise [k0_pay7, k0_pay5, k0_pay4, k0_pay3]
  rw [s1, s2, Fin.sum_univ_one, eh y, ed y, er y, eg]
  rfl

theorem scale_apply (v0 v15 : Vec Ideal S256x2048 .f32) (h d : ℕ → ℕ → EReal)
    (eh : ∀ y : S256x2048.Idx, v0 y = h (y 0).val (y 1).val) (ed : ∀ y : S256x2048.Idx, v15 y = d (y 0).val (y 1).val) (y : S1x2048.Idx) :
    k0_pay6 (F := Ideal) v0 v15 y = ∑ a ∈ Finset.range 256, dg (h a) (d a) (y 1).val := by
  pointwise [k0_pay6, k0_pay5, k0_pay4, k0_pay3]
  refine sum_fin _ _ fun a => ?_
  have s1 : ∑ x : Fin 2048, v0 (ix2 a x) * v0 (ix2 a x) = ∑ k ∈ Finset.range 2048, h a.val k * h a.val k :=
    sum_fin _ _ fun x => by rw [eh]; rfl
  rw [s1, eh, ed]
  rfl

section Block

variable (c : Dev nD) (i : grid0.Coords) (arg1 : Memref sig .tc .vmem S256x2048 .f32) (harg1 : arg1.IsWhole)
  (arg2 : Memref sig .tc .vmem S1x2048 .f32) (harg2 : arg2.IsWhole) (arg3 : Memref sig .tc .vmem S256x2048 .f32) (harg3 : arg3.IsWhole)
  (arg4 : Memref sig .tc .vmem S256x2048 .f32) (harg4 : arg4.IsWhole) (arg5 : Memref sig .tc .vmem S256x2048 .f32) (harg5 : arg5.IsWhole)
  (arg6 : Memref sig .tc .vmem S1x2048 .f32) (harg6 : arg6.IsWhole)
  (x0 : Vec Ideal S256x2048 .f32) (x1 : Vec Ideal S1x2048 .f32) (x2 x3 : Vec Ideal S256x2048 .f32) (xo : Vec Ideal S1x2048 .f32)

theorem outA4_eq (hc : cond0_0 i) :
    out0_A_4 c i arg1 harg1 arg2 harg2 arg3 harg3 arg4 harg4 arg5 harg5 arg6 harg6 hc x0 x1 x2 x3 = k0_pay7 (F := Ideal) x0 x1 x2 x3 := by
  frame_out

theorem outB4_eq (hc : ¬cond0_0 i) :
    out0_B_4 c i arg1 harg1 arg2 harg2 arg3 harg3 arg4 harg4 arg5 harg5 arg6 harg6 hc x0 x1 x2 x3 xo = k0_pay7 (F := Ideal) x0 x1 x2 x3 := by
  frame_out

theorem outB5_eq (hc : ¬cond0_0 i) :
    out0_B_5 c i arg1 harg1 arg2 harg2 arg3 harg3 arg4 harg4 arg5 harg5 arg6 harg6 hc x0 x1 x2 x3 xo = k0_pay2 (F := Ideal) (k0_pay6 x0 x2) xo := by
  frame_out

theorem outA5_eq (hc : cond0_0 i) :
    out0_A_5 c i arg1 harg1 arg2 harg2 arg3 harg3 arg4 harg4 arg5 harg5 arg6 harg6 hc x0 x1 x2 x3 = k0_pay2 (F := Ideal) (k0_pay6 x0 x2) (k0_pay1 (F := Ideal)) := by
  frame_out

end Block

/-! ## What the arrays hold -/

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![t.val, 0] := by decide +kernel
theorem index0_3 : ∀ t : Fin grid0.N, win0_3.index t = ![t.val, 0] := by decide +kernel
theorem index0_4 : ∀ t : Fin grid0.N, win0_4.index t = ![t.val, 0] := by decide +kernel
theorem index0_5 : ∀ t : Fin grid0.N, win0_5.index t = ![0, 0] := by decide +kernel
/-- The scale's gradient is written back after the last point only. -/
theorem flush5 : ∀ t : Fin cfg0.N, (cfg0.win 5).flush t = true → t.val = 15 := by decide +kernel

section Array

variable (m : (ℓ : Loc nD τ sig) → Buf (Elt Ideal) ℓ) (c : Dev nD)

/-- The rows that were normalised. -/
abbrev rows : S4096x2048.Idx → EReal := m ((c : Thread nD τ).loc main_arg0)
/-- The scale. -/
abbrev scale : S1x2048.Idx → EReal := m ((c : Thread nD τ).loc main_arg1)
/-- The gradient of the normalised rows. -/
abbrev grad : S4096x2048.Idx → EReal := m ((c : Thread nD τ).loc main_arg2)
/-- The gradient that bypasses the normalisation. -/
abbrev rest : S4096x2048.Idx → EReal := m ((c : Thread nD τ).loc main_arg3)

theorem block0 (t : Fin cfg0.N) (y : S256x2048.Idx) : iblk m c 0 t y = entry (rows m c) (256 * t.val + (y 0).val) (y 1).val := by
  have e0 : ((win0_0.blk t).view.emb y 0).val = 256 * t.val + (y 0).val := by blk_simp [index0_0]; simp; omega
  have e1 : ((win0_0.blk t).view.emb y 1).val = (y 1).val := by blk_simp [index0_0]
  exact entry_eq (rows m c) ((win0_0.blk t).view.emb y) e0 e1

theorem block2 (t : Fin cfg0.N) (y : S256x2048.Idx) : iblk m c 2 t y = entry (grad m c) (256 * t.val + (y 0).val) (y 1).val := by
  have e0 : ((win0_2.blk t).view.emb y 0).val = 256 * t.val + (y 0).val := by blk_simp [index0_2]; simp; omega
  have e1 : ((win0_2.blk t).view.emb y 1).val = (y 1).val := by blk_simp [index0_2]
  exact entry_eq (grad m c) ((win0_2.blk t).view.emb y) e0 e1

theorem block3 (t : Fin cfg0.N) (y : S256x2048.Idx) : iblk m c 3 t y = entry (rest m c) (256 * t.val + (y 0).val) (y 1).val := by
  have e0 : ((win0_3.blk t).view.emb y 0).val = 256 * t.val + (y 0).val := by blk_simp [index0_3]; simp; omega
  have e1 : ((win0_3.blk t).view.emb y 1).val = (y 1).val := by blk_simp [index0_3]
  exact entry_eq (rest m c) ((win0_3.blk t).view.emb y) e0 e1

theorem block1 (t : Fin cfg0.N) (y : S1x2048.Idx) : iblk m c 1 t y = entry (scale m c) 0 (y 1).val := by
  have e0 : ((win0_1.blk t).view.emb y 0).val = 0 := by
    have h : (y 0).val = 0 := Nat.lt_one_iff.mp (y 0).isLt
    refine Eq.trans ?_ h
    blk_simp [index0_1]
  have e1 : ((win0_1.blk t).view.emb y 1).val = (y 1).val := by blk_simp [index0_1]
  exact entry_eq (scale m c) ((win0_1.blk t).view.emb y) e0 e1

/-- The gradient of the rows at two numbers. -/
def drow (i j : ℕ) : EReal := dh (entry (rows m c) i) (entry (grad m c) i) (entry (scale m c) 0) (entry (rest m c) i j) j
/-- What row `i` adds to the scale's gradient at column `j`. -/
def part (j i : ℕ) : EReal := dg (entry (rows m c) i) (entry (grad m c) i) j

theorem row_block (t : Fin cfg0.N) (y : S256x2048.Idx) :
    k0_pay7 (F := Ideal) (iblk m c 0 t) (iblk m c 1 t) (iblk m c 2 t) (iblk m c 3 t) y = drow m c (256 * t.val + (y 0).val) (y 1).val :=
  row_apply _ _ _ _ (fun a j => entry (rows m c) (256 * t.val + a) j) (fun a j => entry (grad m c) (256 * t.val + a) j)
    (fun a j => entry (rest m c) (256 * t.val + a) j) (entry (scale m c) 0) (block0 m c t) (block2 m c t) (block3 m c t) (block1 m c t) y

theorem scale_block (t : Fin cfg0.N) (y : S1x2048.Idx) :
    k0_pay6 (F := Ideal) (iblk m c 0 t) (iblk m c 2 t) y = ∑ a ∈ Finset.range 256, part m c (y 1).val (256 * t.val + a) :=
  scale_apply _ _ (fun a j => entry (rows m c) (256 * t.val + a) j) (fun a j => entry (grad m c) (256 * t.val + a) j)
    (block0 m c t) (block2 m c t) y

/-- The first result's block after point `t`. -/
theorem row_point (t : Fin cfg0.N) (y : S256x2048.Idx) :
    (outsAt0 m c t.val t.isLt).1 y = drow m c (256 * t.val + (y 0).val) (y 1).val := by
  by_cases h : t.val % 16 = 0
  · rw [congrArg Prod.fst (outsAt0_A m c t h)]
    dsimp only
    rw [outA4_eq]
    exact row_block m c t y
  · rw [congrArg Prod.fst (outsAt0_B m c t h)]
    dsimp only
    rw [outB4_eq]
    exact row_block m c t y

/-- The accumulator after point `j`: the pieces of the sum so far. -/
theorem acc_apply (y : S1x2048.Idx) : ∀ (j : ℕ) (h : j < cfg0.N),
    (outsAt0 m c j h).2 y = ∑ s ∈ Finset.range (j + 1), ∑ a ∈ Finset.range 256, part m c (y 1).val (256 * s + a)
  | 0, h => by
    rw [congrArg Prod.snd (outsAt0_A m c ⟨0, h⟩ (Nat.zero_mod _))]
    dsimp only
    rw [outA5_eq, Finset.sum_range_one]
    refine Eq.trans ?_ (scale_block m c ⟨0, h⟩ y)
    pointwise [k0_pay2, k0_pay1]
  | j + 1, h => by
    have hN : j + 1 < 16 := lt_of_lt_of_eq h N_0
    rw [congrArg Prod.snd (outsAt0_B m c ⟨j + 1, h⟩ (by dsimp only; omega))]
    dsimp only
    rw [outB5_eq, Finset.sum_range_succ _ (j + 1)]
    have e : k0_pay2 (F := Ideal) (k0_pay6 (iblk m c 0 ⟨j + 1, h⟩) (iblk m c 2 ⟨j + 1, h⟩)) (outsAt0 m c j (Nat.lt_of_succ_lt h)).2 y
        = (outsAt0 m c j (Nat.lt_of_succ_lt h)).2 y + k0_pay6 (F := Ideal) (iblk m c 0 ⟨j + 1, h⟩) (iblk m c 2 ⟨j + 1, h⟩) y := by
      unfold k0_pay2
      rw [shapeCast_self]
      rfl
    exact e.trans (congrArg₂ (fun u v : EReal => u + v) (acc_apply y j (Nat.lt_of_succ_lt h)) (scale_block m c ⟨j + 1, h⟩ y))

/-- The gradient of the rows the launch leaves. -/
def out4 (i : S4096x2048.Idx) : EReal := drow m c (i 0).val (i 1).val
/-- The gradient of the scale the launch leaves. -/
def out5 (i : S1x2048.Idx) : EReal := ∑ a ∈ Finset.range 4096, part m c (i 1).val a

theorem array4 : (dats m 0 c).arrAt 4 cfg0.N = out4 m c := by
  refine (dats m 0 c).arrAt_eq_of_covers 4 _ (by decide +kernel) fun t _ y => ?_
  blk_simp
  rw [after0_4]
  refine (row_point m c t y).trans ?_
  have e0 : ((win0_4.blk t).view.emb y 0).val = 256 * t.val + (y 0).val := by blk_simp [index0_4]; simp; omega
  have e1 : ((win0_4.blk t).view.emb y 1).val = (y 1).val := by blk_simp [index0_4]
  unfold out4
  rw [e0, e1]

theorem array5 : (dats m 0 c).arrAt 5 cfg0.N = out5 m c := by
  refine (dats m 0 c).arrAt_eq_of_covers 5 _ (by decide +kernel) fun t hf y => ?_
  have h15 := flush5 t hf
  blk_simp
  rw [after0_5]
  refine (acc_apply m c y t.val t.isLt).trans ?_
  have e1 : ((win0_5.blk t).view.emb y 1).val = (y 1).val := by blk_simp [index0_5]
  unfold out5
  rw [e1, h15]
  exact sum_pieces (part m c (y 1).val) 256 16

end Array

/-! ## The equation -/

section Reference

variable (m : (ℓ : Loc nD τ sig) → Buf (Elt Ideal) ℓ) (c : Dev nD)

theorem hrows (y : S4096x2048.Idx) : rows m c y = entry (rows m c) (y 0).val (y 1).val := entry_eq (rows m c) y rfl rfl
theorem hgrad (y : S4096x2048.Idx) : grad m c y = entry (grad m c) (y 0).val (y 1).val := entry_eq (grad m c) y rfl rfl
theorem hrest (y : S4096x2048.Idx) : rest m c y = entry (rest m c) (y 0).val (y 1).val := entry_eq (rest m c) y rfl rfl
theorem hscale (k : Fin 2048) : scale m c (ix2 0 k) = entry (scale m c) 0 k.val := entry_eq (scale m c) _ rfl rfl
theorem squares (a : Fin 4096) : ∑ x : Fin 2048, rows m c (ix2 a x) * rows m c (ix2 a x)
    = ∑ k ∈ Finset.range 2048, entry (rows m c) a.val k * entry (rows m c) a.val k :=
  sum_fin _ _ fun x => by rw [hrows]; rfl
theorem shares (a : Fin 4096) : ∑ x : Fin 2048, rows m c (ix2 a x) * (grad m c (ix2 a x) * scale m c (ix2 0 x))
    = ∑ k ∈ Finset.range 2048, entry (rows m c) a.val k * (entry (grad m c) a.val k * entry (scale m c) 0 k) :=
  sum_fin _ _ fun x => by rw [hrows, hgrad, hscale]; rfl

end Reference

set_option maxHeartbeats 4000000 in
/-- From memories agreeing on the arguments, the kernel's results are the reference's. -/
theorem equal : algebraic_NormBwdIdeal_NormBwdRefIdeal (hNormBwdIdeal := NormBwdIdeal.Gen.facts)
    (hNormBwdRefIdeal := NormBwdRefIdeal.Gen.facts) := fun m ρ m' ρ' _ hagree => by
  refine ⟨_, _, run_blocks m ρ, (NormBwdRefIdeal.Value.run m' ρ').mono fun _ h c => ⟨(h c).1.trans ?_, (h c).2.1.trans ?_, (h c).2.2⟩⟩
  · obtain ⟨e0, e1, e2, e3⟩ := hagree c
    refine Eq.trans ?_ (array4 m c).symm
    funext y
    unfold NormBwdRefIdeal.Value.res_main_v37
    rw [e0, e1, e2, e3]
    pointwise []
    unfold out4 drow dh share rs ms
    rw [← hrows m c y, ← hgrad m c y, ← hrest m c y, ← hscale m c (y 1), ← squares m c (y 0), ← shares m c (y 0), Fin.sum_univ_one]
  · obtain ⟨e0, e1, e2, e3⟩ := hagree c
    rw [e0, e2]
    refine Eq.trans ?_ (array5 m c).symm
    funext y
    pointwise []
    rw [Fin.sum_univ_one]
    unfold out5
    refine sum_fin _ _ fun a => ?_
    unfold part dg rs ms
    rw [← squares m c a]
    exact congrArg₂ (fun u v : EReal => u * _ * v) (entry_eq (rows m c) _ rfl rfl) (entry_eq (grad m c) _ rfl rfl)

end Cert.NormB

end
-- ==== Proof.GateBwd.lean ====
/- The gradient of the gate: the arrays the launch leaves are the reference's, entry by entry. -/
module

public import proofs.«01_k».proof.Proof.Gen.GateBwdIdeal.Value
public import proofs.«01_k».proof.Proof.Gen.GateBwdRefIdeal.Run
public import proofs.«01_k».proof.Defs
public import Idealize.ShloMosaic.Lib.Pointwise

@[expose] public section

set_option maxRecDepth 16384

noncomputable section

namespace Cert.GateB

open Idealize.ShloMosaic Idealize.ShloMosaic.TcCoe Idealize.SL.Sem
open Cert.GateBwdIdeal GateBwdIdeal.Gen GateBwdIdeal.Value

/-- From memories agreeing on the arguments, the kernel's results are the reference's. -/
theorem equal : algebraic_GateBwdIdeal_GateBwdRefIdeal (hGateBwdIdeal := GateBwdIdeal.Gen.facts)
    (hGateBwdRefIdeal := GateBwdRefIdeal.Gen.facts) := fun m ρ m' ρ' _ hagree => by
  refine ⟨_, _, run m ρ, (GateBwdRefIdeal.Value.run m' ρ').mono fun _ h c => ⟨(h c).1.trans ?_, (h c).2.1.trans ?_, (h c).2.2⟩⟩
  · obtain ⟨e0, e1, e2, e3⟩ := hagree c
    rw [e1, e2, e3]
    funext y
    pointwise []
    rfl
  · obtain ⟨e0, e1, e2, e3⟩ := hagree c
    rw [e1, e3]
    funext y
    pointwise []
    rfl

end Cert.GateB

end
-- ==== Proof.Shifts.lean ====
/- Columns of numbers moved down or up by a few rows, and the rotations that move them. -/
module

public import proofs.«01_k».proof.Proof.Products
public import Idealize.ShloMosaic.Lib.WordCmp

@[expose] public section

set_option maxRecDepth 16384

noncomputable section

namespace Cert.Shifts

open Idealize.ShloMosaic Idealize.ShloMosaic.WordCmp Products

/-- A column moved down by `k` rows, zeros coming in. -/
def past (k : ℕ) (f : ℕ → EReal) (i : ℕ) : EReal := if i < k then 0 else f (i - k)

theorem past_zero (f : ℕ → EReal) (i : ℕ) : past 0 f i = f i := by
  unfold past
  rw [if_neg (Nat.not_lt_zero i), Nat.sub_zero]

/-- The choice of zero in the rows below `k`. -/
theorem choose_lt (a k : ℕ) (ha : a < 4096) (hk : k < 4096) (u v : EReal) :
    Scalar.select (IntOp.cmpi CmpIPredicate.slt (BitVec.ofNat 32 a) (BitVec.ofNat 32 k)) u v = if a < k then u else v := by
  rw [cmpi_slt_ofNat (by omega) (by omega)]
  by_cases h : a < k <;> simp [Scalar.select, h]

/-- The choice of zero in the rows from `k` on. -/
theorem choose_ge (a k : ℕ) (ha : a < 4096) (hk : k < 4096) (u v : EReal) :
    Scalar.select (IntOp.cmpi CmpIPredicate.sge (BitVec.ofNat 32 a) (BitVec.ofNat 32 k)) u v = if k ≤ a then u else v := by
  rw [cmpi_sge_ofNat (by omega) (by omega)]
  by_cases h : k ≤ a <;> simp [Scalar.select, h]

/-- A rotation by `k` rows with the first `k` rows cleared moves the column down. -/
theorem rotate_down (k a : ℕ) (ha : a < 4096) (hk : k < 4096) (X : Fin 4096 → EReal) (f : ℕ → EReal)
    (hX : ∀ i : Fin 4096, X i = f i.val) (h : (a + 4096 - k) % 4096 < 4096) :
    Scalar.select (IntOp.cmpi CmpIPredicate.slt (BitVec.ofNat 32 a) (BitVec.ofNat 32 k)) 0 (X ⟨(a + 4096 - k) % 4096, h⟩)
      = past k f a := by
  rw [choose_lt a k ha hk, hX]
  unfold past
  by_cases hak : a < k
  · rw [if_pos hak, if_pos hak]
  · rw [if_neg hak, if_neg hak]
    exact congrArg f (by dsimp only; omega)

/-- The same with each entry multiplied by a number. -/
theorem rotate_down_mul (k a : ℕ) (ha : a < 4096) (hk : k < 4096) (X : Fin 4096 → EReal) (f : ℕ → EReal)
    (hX : ∀ i : Fin 4096, X i = f i.val) (h : (a + 4096 - k) % 4096 < 4096) (u : EReal) :
    Scalar.select (IntOp.cmpi CmpIPredicate.slt (BitVec.ofNat 32 a) (BitVec.ofNat 32 k)) 0 (u * X ⟨(a + 4096 - k) % 4096, h⟩)
      = u * past k f a := by
  rw [choose_lt a k ha hk, hX]
  unfold past
  by_cases hak : a < k
  · rw [if_pos hak, if_pos hak, mul_zero]
  · rw [if_neg hak, if_neg hak]
    exact congrArg (fun i => u * f i) (by dsimp only; omega)

/-- A rotation by `n` rows with the rows from `n` on cleared moves the column up by `k`, where `n + k` is the number of rows. -/
theorem rotate_up (k n a : ℕ) (hn : n + k = 4096) (hk : 0 < k) (ha : a < 4096) (X : Fin 4096 → EReal) (f : ℕ → EReal)
    (hX : ∀ i : Fin 4096, X i = f i.val) (hf : ∀ i, 4096 ≤ i → f i = 0) (h : (a + 4096 - n) % 4096 < 4096) (u : EReal) :
    Scalar.select (IntOp.cmpi CmpIPredicate.sge (BitVec.ofNat 32 a) (BitVec.ofNat 32 n)) 0 (u * X ⟨(a + 4096 - n) % 4096, h⟩)
      = u * f (a + k) := by
  rw [choose_ge a n ha (by omega), hX]
  by_cases hak : n ≤ a
  · rw [if_pos hak, hf _ (by omega), mul_zero]
  · rw [if_neg hak]
    exact congrArg (fun i => u * f i) (by dsimp only; omega)

/-- Beyond the array an entry is zero. -/
theorem entry_zero {n k : ℕ} (X : (⟨2, ![n, k]⟩ : Shape).Idx → EReal) (i j : ℕ) (h : n ≤ i) : entry X i j = 0 := by
  unfold entry
  rw [dif_neg fun h' => absurd h'.1 (Nat.not_lt.mpr h)]

end Cert.Shifts

end
-- ==== Proof.ConvBwd.lean ====
/- The gradient of the causal convolution: the launch's blocks, the arrays it leaves, and the reference's equation. -/
module

public import proofs.«01_k».proof.Proof.Shifts
public import proofs.«01_k».proof.Proof.Gen.ConvBwdIdeal.Value
public import proofs.«01_k».proof.Proof.Gen.ConvBwdRefIdeal.Run

@[expose] public section

set_option maxRecDepth 1000000

noncomputable section

namespace Cert.ConvB

open Idealize.ShloMosaic Idealize.ShloMosaic.TcCoe Idealize.SL.Sem
open Cert.ConvBwdIdeal ConvBwdIdeal.Gen ConvBwdIdeal.Value Products Cert.Shifts

/-! ## The formulas of one column -/

/-- The gradient of the convolved column at row `i`: `w` is the column's taps and `g` the gradient of the result. -/
def dcol (w g : ℕ → EReal) (i : ℕ) : EReal := w 2 * g (i + 1) + w 1 * g (i + 2) + w 0 * g (i + 3) + w 3 * g i
/-- The gradient of tap `r`. -/
def dtap (f g : ℕ → EReal) (r : ℕ) : EReal := ∑ i ∈ Finset.range 4096, g i * past (3 - r) f i
/-- The gradient of the bias. -/
def dbias (g : ℕ → EReal) : EReal := ∑ i ∈ Finset.range 4096, g i

/-! ## What one grid point computes -/

section Block

variable (x0 x3 : Vec Ideal S4096x128 .f32) (x1 : Vec Ideal S4x128 .f32) (f g w : ℕ → ℕ → EReal)

theorem col_apply (e1 : ∀ y : S4x128.Idx, x1 y = w (y 1).val (y 0).val) (e3 : ∀ y : S4096x128.Idx, x3 y = g (y 1).val (y 0).val)
    (hg : ∀ j i, 4096 ≤ i → g j i = 0) (y : S4096x128.Idx) :
    k0_pay10 (F := Ideal) (k0_pay1 x1) (k0_pay2 x1) (k0_pay4 x1) (k0_pay6 x3) (k0_pay8 x1 x3) y
      = dcol (w (y 1).val) (g (y 1).val) (y 0).val := by
  have hy : (y 0).val < 4096 := (y 0).isLt
  have hX (i : Fin 4096) : x3 (ix2 i (y 1)) = g (y 1).val i.val := e3 _
  pointwise [k0_pay10, k0_pay8, k0_pay6, k0_pay4, k0_pay2, k0_pay1]
  unfold dcol
  refine congrArg₂ (fun u v : EReal => u + v) (congrArg₂ (fun u v : EReal => u + v) (congrArg₂ (fun u v : EReal => u + v) ?_ ?_) ?_) ?_
  · exact (rotate_up 1 4095 _ rfl (by decide) hy (fun i => x3 (ix2 i (y 1))) (g (y 1).val) hX (hg _) _ _).trans (by rw [e1]; rfl)
  · exact (rotate_up 2 4094 _ rfl (by decide) hy (fun i => x3 (ix2 i (y 1))) (g (y 1).val) hX (hg _) _ _).trans (by rw [e1]; rfl)
  · exact (rotate_up 3 4093 _ rfl (by decide) hy (fun i => x3 (ix2 i (y 1))) (g (y 1).val) hX (hg _) _ _).trans (by rw [e1]; rfl)
  · rw [e1, e3]
    rfl

theorem tap_apply (e0 : ∀ y : S4096x128.Idx, x0 y = f (y 1).val (y 0).val) (e3 : ∀ y : S4096x128.Idx, x3 y = g (y 1).val (y 0).val)
    (y : S4x128.Idx) :
    k0_pay11 (F := Ideal) x0 (k0_pay3 x0) (k0_pay5 x0) (k0_pay6 x3) (k0_pay7 x0 x3) (Scalar.ofBits .f32 0x00000000#32) y
      = dtap (f (y 1).val) (g (y 1).val) (y 0).val := by
  have hy : (y 0).val < 4 := (y 0).isLt
  have hX (i : Fin 4096) : x0 (ix2 i (y 1)) = f (y 1).val i.val := e0 _
  have hG (i : Fin 4096) : x3 (ix2 i (y 1)) = g (y 1).val i.val := e3 _
  have s0 : ∑ x : Fin 4096, x3 (ix2 x (y 1)) * x0 (ix2 x (y 1)) = ∑ i ∈ Finset.range 4096, g (y 1).val i * past 0 (f (y 1).val) i :=
    sum_fin _ _ fun i => by rw [hX, hG, past_zero]
  have s1 : (∑ x : Fin 4096, Scalar.select (IntOp.cmpi CmpIPredicate.slt (BitVec.ofNat 32 x.val) 1#32) 0
      (x3 (ix2 x (y 1)) * x0 (ix2 ⟨(x.val + 4096 - 1) % 4096, Nat.mod_lt _ (by decide)⟩ (y 1))) : EReal)
      = ∑ i ∈ Finset.range 4096, g (y 1).val i * past 1 (f (y 1).val) i :=
    sum_fin _ _ fun i => (rotate_down_mul 1 i.val i.isLt (by decide) (fun i => x0 (ix2 i (y 1))) _ hX _ _).trans (by rw [hG])
  have s2 : (∑ x : Fin 4096, Scalar.select (IntOp.cmpi CmpIPredicate.slt (BitVec.ofNat 32 x.val) 2#32) 0
      (x3 (ix2 x (y 1)) * x0 (ix2 ⟨(x.val + 4096 - 2) % 4096, Nat.mod_lt _ (by decide)⟩ (y 1))) : EReal)
      = ∑ i ∈ Finset.range 4096, g (y 1).val i * past 2 (f (y 1).val) i :=
    sum_fin _ _ fun i => (rotate_down_mul 2 i.val i.isLt (by decide) (fun i => x0 (ix2 i (y 1))) _ hX _ _).trans (by rw [hG])
  have s3 : (∑ x : Fin 4096, Scalar.select (IntOp.cmpi CmpIPredicate.slt (BitVec.ofNat 32 x.val) 3#32) 0
      (x3 (ix2 x (y 1)) * x0 (ix2 ⟨(x.val + 4096 - 3) % 4096, Nat.mod_lt _ (by decide)⟩ (y 1))) : EReal)
      = ∑ i ∈ Finset.range 4096, g (y 1).val i * past 3 (f (y 1).val) i :=
    sum_fin _ _ fun i => (rotate_down_mul 3 i.val i.isLt (by decide) (fun i => x0 (ix2 i (y 1))) _ hX _ _).trans (by rw [hG])
  pointwise [k0_pay11, k0_pay3, k0_pay5, k0_pay6, k0_pay7]
  rw [s0, s1, s2, s3]
  unfold dtap
  generalize (y 0).val = r at hy ⊢
  interval_cases r <;> simp

theorem bias_apply (e3 : ∀ y : S4096x128.Idx, x3 y = g (y 1).val (y 0).val) (y : S1x128.Idx) :
    k0_pay9 (F := Ideal) (k0_pay6 x3) y = dbias (g (y 1).val) := by
  pointwise [k0_pay9, k0_pay6]
  exact sum_fin _ _ fun i => e3 _

end Block

/-! ## What the arrays hold -/

theorem index0_0 : ∀ t : Fin grid0.N, win0_0.index t = ![0, 24 + t.val] := by decide +kernel
theorem index0_1 : ∀ t : Fin grid0.N, win0_1.index t = ![0, t.val] := by decide +kernel
theorem index0_3 : ∀ t : Fin grid0.N, win0_3.index t = ![0, t.val] := by decide +kernel
theorem index0_4 : ∀ t : Fin grid0.N, win0_4.index t = ![0, t.val] := by decide +kernel
theorem index0_5 : ∀ t : Fin grid0.N, win0_5.index t = ![0, t.val] := by decide +kernel
theorem index0_6 : ∀ t : Fin grid0.N, win0_6.index t = ![0, t.val] := by decide +kernel

section Array

variable (m : (ℓ : Loc nD τ sig) → Buf (Elt Ideal) ℓ) (c : Dev nD)

/-- The projection, whose columns from 3072 on are convolved. -/
abbrev proj : S4096x5632.Idx → EReal := m ((c : Thread nD τ).loc main_arg0)
/-- The taps. -/
abbrev taps : S4x1024.Idx → EReal := m ((c : Thread nD τ).loc main_arg1)
/-- The gradient of the convolved columns. -/
abbrev grad : S4096x1024.Idx → EReal := m ((c : Thread nD τ).loc main_arg3)

/-- Column `j` of the three arrays. -/
def pcol (j i : ℕ) : EReal := entry (proj m c) i (3072 + j)
def tcol (j i : ℕ) : EReal := entry (taps m c) i j
def gcol (j i : ℕ) : EReal := entry (grad m c) i j

theorem gcol_zero (j i : ℕ) (h : 4096 ≤ i) : gcol m c j i = 0 := entry_zero (grad m c) i j h

theorem block0 (t : Fin cfg0.N) (y : S4096x128.Idx) : iblk m c 0 t y = pcol m c (128 * t.val + (y 1).val) (y 0).val := by
  have e0 : ((win0_0.blk t).view.emb y 0).val = (y 0).val := by blk_simp [index0_0]
  have e1 : ((win0_0.blk t).view.emb y 1).val = 3072 + (128 * t.val + (y 1).val) := by blk_simp [index0_0]; simp; omega
  exact entry_eq (proj m c) ((win0_0.blk t).view.emb y) e0 e1

theorem block1 (t : Fin cfg0.N) (y : S4x128.Idx) : iblk m c 1 t y = tcol m c (128 * t.val + (y 1).val) (y 0).val := by
  have e0 : ((win0_1.blk t).view.emb y 0).val = (y 0).val := by blk_simp [index0_1]
  have e1 : ((win0_1.blk t).view.emb y 1).val = 128 * t.val + (y 1).val := by blk_simp [index0_1]; simp; omega
  exact entry_eq (taps m c) ((win0_1.blk t).view.emb y) e0 e1

theorem block3 (t : Fin cfg0.N) (y : S4096x128.Idx) : iblk m c 3 t y = gcol m c (128 * t.val + (y 1).val) (y 0).val := by
  have e0 : ((win0_3.blk t).view.emb y 0).val = (y 0).val := by blk_simp [index0_3]
  have e1 : ((win0_3.blk t).view.emb y 1).val = 128 * t.val + (y 1).val := by blk_simp [index0_3]; simp; omega
  exact entry_eq (grad m c) ((win0_3.blk t).view.emb y) e0 e1

/-- The gradient of the convolved columns the launch leaves. -/
def out4 (i : S4096x1024.Idx) : EReal := dcol (tcol m c (i 1).val) (gcol m c (i 1).val) (i 0).val
/-- The gradient of the taps the launch leaves. -/
def out5 (i : S4x1024.Idx) : EReal := dtap (pcol m c (i 1).val) (gcol m c (i 1).val) (i 0).val
/-- The gradient of the bias the launch leaves. -/
def out6 (i : S1x1024.Idx) : EReal := dbias (gcol m c (i 1).val)

theorem array4 : (dats m 0 c).arrAt 4 cfg0.N = out4 m c := by
  refine (dats m 0 c).arrAt_eq_of_covers 4 _ (by decide +kernel) fun t _ y => ?_
  blk_simp
  rw [after0_4]
  unfold out0_4 k0_pay12
  rw [View.canon_unit_zero zero_off]
  simp only [View.ld_unit_zero (S := S4096x128) zero_off, View.ld_unit_zero (S := S4x128) zero_off]
  refine (col_apply _ _ (fun j => gcol m c (128 * t.val + j)) (fun j => tcol m c (128 * t.val + j)) (block1 m c t) (block3 m c t) (fun j i h => gcol_zero m c _ i h) y).trans ?_
  have e0 : ((win0_4.blk t).view.emb y 0).val = (y 0).val := by blk_simp [index0_4]
  have e1 : ((win0_4.blk t).view.emb y 1).val = 128 * t.val + (y 1).val := by blk_simp [index0_4]; simp; omega
  unfold out4
  rw [e0, e1]

theorem array5 : (dats m 0 c).arrAt 5 cfg0.N = out5 m c := by
  refine (dats m 0 c).arrAt_eq_of_covers 5 _ (by decide +kernel) fun t _ y => ?_
  blk_simp
  rw [after0_5]
  unfold out0_5 k0_pay12
  rw [View.canon_unit_zero zero_off]
  simp only [View.ld_unit_zero (S := S4096x128) zero_off, View.ld_unit_zero (S := S4x128) zero_off]
  refine (tap_apply _ _ (fun j => pcol m c (128 * t.val + j)) (fun j => gcol m c (128 * t.val + j)) (block0 m c t) (block3 m c t) y).trans ?_
  have e0 : ((win0_5.blk t).view.emb y 0).val = (y 0).val := by blk_simp [index0_5]
  have e1 : ((win0_5.blk t).view.emb y 1).val = 128 * t.val + (y 1).val := by blk_simp [index0_5]; simp; omega
  unfold out5
  rw [e0, e1]

theorem array6 : (dats m 0 c).arrAt 6 cfg0.N = out6 m c := by
  refine (dats m 0 c).arrAt_eq_of_covers 6 _ (by decide +kernel) fun t _ y => ?_
  blk_simp
  rw [after0_6]
  unfold out0_6 k0_pay12
  rw [View.canon_unit_zero zero_off]
  simp only [View.ld_unit_zero (S := S4096x128) zero_off, View.ld_unit_zero (S := S4x128) zero_off]
  refine (bias_apply _ (fun j => gcol m c (128 * t.val + j)) (block3 m c t) y).trans ?_
  have e1 : ((win0_6.blk t).view.emb y 1).val = 128 * t.val + (y 1).val := by blk_simp [index0_6]; simp; omega
  unfold out6
  rw [e1]

theorem hgrad (i : Fin 4096) (j : Fin 1024) : grad m c (ix2 i j) = gcol m c j.val i.val := entry_eq (grad m c) _ rfl rfl
theorem htaps (i : Fin 4) (j : Fin 1024) : taps m c (ix2 i j) = tcol m c j.val i.val := entry_eq (taps m c) _ rfl rfl
theorem hproj (i : Fin 4096) (j : Fin 1024) (h : 3072 + j.val < 5632) : proj m c (ix2 i ⟨3072 + j.val, h⟩) = pcol m c j.val i.val :=
  entry_eq (proj m c) _ rfl rfl

end Array

/-! ## The equation -/

/-- A choice of zero past the last row is the entry that many rows ahead. -/
theorem ahead {P : Prop} [Decidable P] (e n : ℕ) (hP : P ↔ n < 4096) (he : e = n) (X : Fin 4096 → EReal) (f : ℕ → EReal)
    (hX : ∀ i : Fin 4096, X i = f i.val) (hf : ∀ i, 4096 ≤ i → f i = 0) (hb : P → e < 4096) (u v : EReal) (huv : u = v) :
    (if h : P then u * X ⟨e, hb h⟩ else 0) = v * f n := by
  subst huv he
  by_cases h : P
  · rw [dif_pos h, hX]
  · rw [dif_neg h, hf e (Nat.not_lt.mp fun h' => h (hP.mpr h')), mul_zero]

/-- A choice of zero before row `k` is the column moved down. -/
theorem behind {P : Prop} [Decidable P] (e k i : ℕ) (hP : P ↔ i < k) (he : ¬P → e = i - k) (X : Fin 4096 → EReal) (f : ℕ → EReal)
    (hX : ∀ i : Fin 4096, X i = f i.val) (hb : ¬P → e < 4096) :
    (if h : P then 0 else X ⟨e, hb h⟩ : EReal) = past k f i := by
  unfold past
  by_cases h : P
  · rw [dif_pos h, if_pos (hP.mp h)]
  · rw [dif_neg h, if_neg fun h' => h (hP.mpr h'), hX]
    exact congrArg f (he h)

/-- From memories agreeing on the arguments, the kernel's results are the reference's. -/
theorem equal : algebraic_ConvBwdIdeal_ConvBwdRefIdeal (hConvBwdIdeal := ConvBwdIdeal.Gen.facts)
    (hConvBwdRefIdeal := ConvBwdRefIdeal.Gen.facts) := fun m ρ m' ρ' _ hagree => by
  refine ⟨_, _, _, run_blocks m ρ, (ConvBwdRefIdeal.Value.run m' ρ').mono fun _ h c =>
    ⟨(h c).1.trans ?_, (h c).2.1.trans ?_, (h c).2.2.1.trans ?_, (h c).2.2.2⟩⟩
  · obtain ⟨e0, e1, e2, e3⟩ := hagree c
    rw [e1, e3]
    refine Eq.trans ?_ (array4 m c).symm
    funext y
    have hy : (y 0).val < 4096 := (y 0).isLt
    have hX (i : Fin 4096) : grad m c (ix2 i (y 1)) = gcol m c (y 1).val i.val := hgrad m c i (y 1)
    have hw (i : Fin 4) : taps m c (ix2 i (y 1)) = tcol m c (y 1).val i.val := htaps m c i (y 1)
    pointwise []
    unfold out4 dcol
    have p3 : taps m c (ix2 3 (y 1)) * grad m c y = tcol m c (y 1).val 3 * gcol m c (y 1).val (y 0).val :=
      congrArg₂ (fun u v : EReal => u * v) (hw 3) (entry_eq (grad m c) y rfl rfl)
    refine (congrArg₂ (fun u v : EReal => u + v) (congrArg₂ (fun u v : EReal => u + v) (congrArg₂ (fun u v : EReal => u + v) p3
      (ahead _ ((y 0).val + 1) (by omega) (by omega) (fun i => grad m c (ix2 i (y 1))) _ hX (gcol_zero m c _) _ _ _ (hw 2)))
      (ahead _ ((y 0).val + 2) (by omega) (by omega) (fun i => grad m c (ix2 i (y 1))) _ hX (gcol_zero m c _) _ _ _ (hw 1)))
      (ahead _ ((y 0).val + 3) (by omega) (by omega) (fun i => grad m c (ix2 i (y 1))) _ hX (gcol_zero m c _) _ _ _ (hw 0))).trans ?_
    exact (add_assoc _ _ _).trans ((add_assoc _ _ _).trans ((add_comm _ _).trans (congrArg (fun u : EReal => u + _) (add_assoc _ _ _).symm)))
  · obtain ⟨e0, e1, e2, e3⟩ := hagree c
    rw [e0, e3]
    refine Eq.trans ?_ (array5 m c).symm
    funext y
    have hy : (y 0).val < 4 := (y 0).isLt
    have hj : 3072 + (y 1).val < 5632 := by have := (y 1).isLt; change (y 1).val < 1024 at this; omega
    have hX (i : Fin 4096) : grad m c (ix2 i (y 1)) = gcol m c (y 1).val i.val := hgrad m c i (y 1)
    have hP (i : Fin 4096) : proj m c (ix2 i ⟨3072 + (y 1).val, hj⟩) = pcol m c (y 1).val i.val := hproj m c i (y 1) hj
    pointwise []
    simp only [Fin.sum_univ_one]
    unfold out5 dtap
    generalize (y 0).val = r at hy ⊢
    interval_cases r
    · rw [dif_neg (show ¬(3 ≤ 0 ∧ 0 - 3 < 1) by decide), dif_neg (show ¬(2 ≤ 0 ∧ 0 - 2 < 1) by decide), dif_neg (show ¬(1 ≤ 0 ∧ 0 - 1 < 1) by decide), dif_pos (show (0 < 1) by decide), zero_add, zero_add, zero_add]
      refine Eq.trans ?_ (Finset.sum_range_add (fun i => gcol m c (y 1).val i * past 3 (pcol m c (y 1).val) i) 3 4093).symm
      refine congrArg₂ (fun u v : EReal => u + v) (sum_fin _ _ fun i => ?_) (sum_fin _ _ fun i => ?_)
      · unfold past
        rw [if_pos i.isLt, mul_zero, mul_zero]
      · have e : past 3 (pcol m c (y 1).val) (3 + i.val) = pcol m c (y 1).val i.val := by
          unfold past
          rw [if_neg (by omega), Nat.add_sub_cancel_left]
        exact congrArg₂ (fun u v : EReal => u * v) (hX _) ((hP _).trans e.symm)
    · rw [dif_neg (show ¬(3 ≤ 1 ∧ 1 - 3 < 1) by decide), dif_neg (show ¬(2 ≤ 1 ∧ 1 - 2 < 1) by decide), dif_pos (show (1 ≤ 1 ∧ 1 - 1 < 1) by decide), dif_neg (show ¬(1 < 1) by decide), zero_add, zero_add, add_zero]
      refine sum_fin _ _ fun i => ?_
      exact congrArg₂ (fun u v : EReal => u * v) (hX i)
        (behind _ 2 _ (by omega) (by omega) (fun i => proj m c (ix2 i ⟨3072 + (y 1).val, hj⟩)) _ hP _)
    · rw [dif_neg (show ¬(3 ≤ 2 ∧ 2 - 3 < 1) by decide), dif_pos (show (2 ≤ 2 ∧ 2 - 2 < 1) by decide), dif_neg (show ¬(1 ≤ 2 ∧ 2 - 1 < 1) by decide), dif_neg (show ¬(2 < 1) by decide), zero_add, add_zero, add_zero]
      exact sum_fin _ _ fun i => congrArg₂ (fun u v : EReal => u * v) (hX i)
        (behind _ 1 _ (by omega) (by omega) (fun i => proj m c (ix2 i ⟨3072 + (y 1).val, hj⟩)) _ hP _)
    · rw [dif_pos (show (3 ≤ 3 ∧ 3 - 3 < 1) by decide), dif_neg (show ¬(2 ≤ 3 ∧ 3 - 2 < 1) by decide), dif_neg (show ¬(1 ≤ 3 ∧ 3 - 1 < 1) by decide), dif_neg (show ¬(3 < 1) by decide), add_zero, add_zero, add_zero]
      exact sum_fin _ _ fun i => congrArg₂ (fun u v : EReal => u * v) (hX i) ((hP i).trans (past_zero _ _).symm)
  · obtain ⟨e0, e1, e2, e3⟩ := hagree c
    rw [e3]
    refine Eq.trans ?_ (array6 m c).symm
    funext y
    pointwise []
    rw [Fin.sum_univ_one]
    exact sum_fin _ _ fun i => hgrad m c i (y 1)

end Cert.ConvB

end
-- ==== Proof.ShiftBwd.lean ====
/- The gradient of the token shift: the launch's blocks, the arrays it leaves, and the reference's equation. -/
module

public import proofs.«01_k».proof.Proof.Shifts
public import proofs.«01_k».proof.Proof.Gen.ShiftBwdIdeal.Value
public import proofs.«01_k».proof.Proof.Gen.ShiftBwdRefIdeal.Run

@[expose] public section

set_option maxRecDepth 1000000

noncomputable section

namespace Cert.ShiftB

open Idealize.ShloMosaic Idealize.ShloMosaic.TcCoe Idealize.SL.Sem
open Cert.ShiftBwdIdeal ShiftBwdIdeal.Gen ShiftBwdIdeal.Value Products Cert.Shifts

/-! ## The formulas of one column -/

/-- The gradient of the mixed column at row `i`: `μ` is the column's weight and `g` the gradient of the result. -/
def dcol (μ : EReal) (g : ℕ → EReal) (i : ℕ) : EReal := g i + -(g i * μ) + g (i + 1) * μ
/-- The gradient of the weight, for the column `f`. -/
def dweight (f g : ℕ → EReal) : EReal := ∑ i ∈ Finset.range 4096, (past 1 f i - f i) * g i

/-! ## What one grid point computes -/

section Block

variable (x0 x2 x3 : Vec Ideal S4096x128 .f32) (x1 : Vec Ideal S1x128 .f32) (f g h : ℕ → ℕ → EReal) (μ : ℕ → EReal)

theorem col_apply (e1 : ∀ y : S1x128.Idx, x1 y = μ (y 1).val) (e2 : ∀ y : S4096x128.Idx, x2 y = g (y 1).val (y 0).val)
    (e3 : ∀ y : S4096x128.Idx, x3 y = h (y 1).val (y 0).val) (hg : ∀ j i, 4096 ≤ i → g j i = 0) (hh : ∀ j i, 4096 ≤ i → h j i = 0)
    (y : S4096x128.Idx) :
    k0_pay3 (F := Ideal) x1 x2 x3 y = dcol (μ (y 1).val) (fun i => g (y 1).val i + h (y 1).val i) (y 0).val := by
  have hy : (y 0).val < 4096 := (y 0).isLt
  have hX (i : Fin 4096) : x2 (ix2 i (y 1)) + x3 (ix2 i (y 1)) = g (y 1).val i.val + h (y 1).val i.val :=
    congrArg₂ (fun u v : EReal => u + v) (e2 _) (e3 _)
  pointwise [k0_pay3, k0_pay1]
  unfold dcol
  refine congrArg₂ (fun u v : EReal => u + v) ?_ ?_
  · rw [zero_sub, e1, e2, e3]
    rfl
  · rw [mul_comm, mul_comm _ (μ (y 1).val)]
    exact (rotate_up 1 4095 _ rfl (by decide) hy (fun i => x2 (ix2 i (y 1)) + x3 (ix2 i (y 1)))
      (fun i => g (y 1).val i + h (y 1).val i) hX (fun i hi => by dsimp only; rw [hg _ _ hi, hh _ _ hi, add_zero]) _ _).trans (by rw [e1]; rfl)

theorem weight_apply (e0 : ∀ y : S4096x128.Idx, x0 y = f (y 1).val (y 0).val) (e2 : ∀ y : S4096x128.Idx, x2 y = g (y 1).val (y 0).val)
    (e3 : ∀ y : S4096x128.Idx, x3 y = h (y 1).val (y 0).val) (y : S1x128.Idx) :
    k0_pay2 (F := Ideal) x0 x2 x3 y = dweight (f (y 1).val) (fun i => g (y 1).val i + h (y 1).val i) := by
  have hX (i : Fin 4096) : x0 (ix2 i (y 1)) = f (y 1).val i.val := e0 _
  pointwise [k0_pay2, k0_pay1]
  unfold dweight
  refine sum_fin _ _ fun i => ?_
  exact congrArg₂ (fun u v : EReal => u * v) (congrArg₂ (fun u v : EReal => u - v)
    (rotate_down 1 i.val i.isLt (by decide) (fun i => x0 (ix2 i (y 1))) _ hX _) (hX i)) (congrArg₂ (fun u v : EReal => u + v) (e2 _) (e3 _))

end Block

/-! ## What the arrays hold -/

theorem index0_0 : ∀ t : Fin grid0.N, win0_0.index t = ![0, if t.val < 24 then t.val else t.val + 16] := by decide +kernel
theorem index0_1 : ∀ t : Fin grid0.N, win0_1.index t = ![0, t.val] := by decide +kernel
theorem index0_2 : ∀ t : Fin grid0.N, win0_2.index t = ![0, t.val] := by decide +kernel
theorem index0_3 : ∀ t : Fin grid0.N, win0_3.index t = ![0, t.val] := by decide +kernel
theorem index0_4 : ∀ t : Fin grid0.N, win0_4.index t = ![0, t.val] := by decide +kernel
theorem index0_5 : ∀ t : Fin grid0.N, win0_5.index t = ![0, t.val] := by decide +kernel

section Array

variable (m : (ℓ : Loc nD τ sig) → Buf (Elt Ideal) ℓ) (c : Dev nD)

/-- The projection, of whose columns the first 3072 and the last 512 are mixed. -/
abbrev proj : S4096x5632.Idx → EReal := m ((c : Thread nD τ).loc main_arg0)
/-- The weights. -/
abbrev wts : S1x3584.Idx → EReal := m ((c : Thread nD τ).loc main_arg1)
/-- The two parts of the gradient of the mixed columns. -/
abbrev grad : S4096x3584.Idx → EReal := m ((c : Thread nD τ).loc main_arg2)
abbrev more : S4096x3584.Idx → EReal := m ((c : Thread nD τ).loc main_arg3)

/-- Column `j` of the mixed columns, of the weights and of the gradient. -/
def pcol (j i : ℕ) : EReal := entry (proj m c) i (if j < 3072 then j else j + 2048)
def wcol (j : ℕ) : EReal := entry (wts m c) 0 j
def gcol (j i : ℕ) : EReal := entry (grad m c) i j
def hcol (j i : ℕ) : EReal := entry (more m c) i j
def scol (j i : ℕ) : EReal := gcol m c j i + hcol m c j i

theorem gcol_zero (j i : ℕ) (h : 4096 ≤ i) : gcol m c j i = 0 := entry_zero (grad m c) i j h
theorem hcol_zero (j i : ℕ) (h : 4096 ≤ i) : hcol m c j i = 0 := entry_zero (more m c) i j h

theorem block0 (t : Fin cfg0.N) (y : S4096x128.Idx) : iblk m c 0 t y = pcol m c (128 * t.val + (y 1).val) (y 0).val := by
  have hy : (y 1).val < 128 := (y 1).isLt
  have e0 : ((win0_0.blk t).view.emb y 0).val = (y 0).val := by blk_simp [index0_0]
  have e1 : ((win0_0.blk t).view.emb y 1).val
      = if 128 * t.val + (y 1).val < 3072 then 128 * t.val + (y 1).val else 128 * t.val + (y 1).val + 2048 := by
    blk_simp [index0_0]
    by_cases h : t.val < 24
    · rw [if_pos (show 128 * t.val + (y 1).val < 3072 by omega)]
      simp [h]
      omega
    · rw [if_neg (show ¬128 * t.val + (y 1).val < 3072 by omega)]
      simp [h]
      omega
  exact entry_eq (proj m c) ((win0_0.blk t).view.emb y) e0 e1

theorem block1 (t : Fin cfg0.N) (y : S1x128.Idx) : iblk m c 1 t y = wcol m c (128 * t.val + (y 1).val) := by
  have hy : (y 0).val < 1 := (y 0).isLt
  have e0 : ((win0_1.blk t).view.emb y 0).val = 0 := by blk_simp [index0_1]
  have e1 : ((win0_1.blk t).view.emb y 1).val = 128 * t.val + (y 1).val := by blk_simp [index0_1]; simp; omega
  exact entry_eq (wts m c) ((win0_1.blk t).view.emb y) e0 e1

theorem block2 (t : Fin cfg0.N) (y : S4096x128.Idx) : iblk m c 2 t y = gcol m c (128 * t.val + (y 1).val) (y 0).val := by
  have e0 : ((win0_2.blk t).view.emb y 0).val = (y 0).val := by blk_simp [index0_2]
  have e1 : ((win0_2.blk t).view.emb y 1).val = 128 * t.val + (y 1).val := by blk_simp [index0_2]; simp; omega
  exact entry_eq (grad m c) ((win0_2.blk t).view.emb y) e0 e1

theorem block3 (t : Fin cfg0.N) (y : S4096x128.Idx) : iblk m c 3 t y = hcol m c (128 * t.val + (y 1).val) (y 0).val := by
  have e0 : ((win0_3.blk t).view.emb y 0).val = (y 0).val := by blk_simp [index0_3]
  have e1 : ((win0_3.blk t).view.emb y 1).val = 128 * t.val + (y 1).val := by blk_simp [index0_3]; simp; omega
  exact entry_eq (more m c) ((win0_3.blk t).view.emb y) e0 e1

/-- The gradient of the mixed columns the launch leaves. -/
def out4 (i : S4096x3584.Idx) : EReal := dcol (wcol m c (i 1).val) (scol m c (i 1).val) (i 0).val
/-- The gradient of the weights the launch leaves. -/
def out5 (i : S1x3584.Idx) : EReal := dweight (pcol m c (i 1).val) (scol m c (i 1).val)

theorem array4 : (dats m 0 c).arrAt 4 cfg0.N = out4 m c := by
  refine (dats m 0 c).arrAt_eq_of_covers 4 _ (by decide +kernel) fun t _ y => ?_
  blk_simp
  rw [after0_4]
  unfold out0_4
  rw [View.canon_unit_zero zero_off]
  simp only [View.ld_unit_zero (S := S4096x128) zero_off, View.ld_unit_zero (S := S1x128) zero_off]
  refine (col_apply _ _ _ (fun j => gcol m c (128 * t.val + j)) (fun j => hcol m c (128 * t.val + j)) (fun j => wcol m c (128 * t.val + j))
    (block1 m c t) (block2 m c t) (block3 m c t) (fun j i h => gcol_zero m c _ i h) (fun j i h => hcol_zero m c _ i h) y).trans ?_
  have e0 : ((win0_4.blk t).view.emb y 0).val = (y 0).val := by blk_simp [index0_4]
  have e1 : ((win0_4.blk t).view.emb y 1).val = 128 * t.val + (y 1).val := by blk_simp [index0_4]; simp; omega
  unfold out4
  rw [e0, e1]
  rfl

theorem array5 : (dats m 0 c).arrAt 5 cfg0.N = out5 m c := by
  refine (dats m 0 c).arrAt_eq_of_covers 5 _ (by decide +kernel) fun t _ y => ?_
  blk_simp
  rw [after0_5]
  unfold out0_5
  rw [View.canon_unit_zero zero_off]
  simp only [View.ld_unit_zero (S := S4096x128) zero_off, View.ld_unit_zero (S := S1x128) zero_off]
  refine (weight_apply _ _ _ (fun j => pcol m c (128 * t.val + j)) (fun j => gcol m c (128 * t.val + j)) (fun j => hcol m c (128 * t.val + j))
    (block0 m c t) (block2 m c t) (block3 m c t) y).trans ?_
  have e1 : ((win0_5.blk t).view.emb y 1).val = 128 * t.val + (y 1).val := by blk_simp [index0_5]; simp; omega
  unfold out5
  rw [e1]
  rfl

theorem hsum (i : Fin 4096) (j : Fin 3584) : grad m c (ix2 i j) + more m c (ix2 i j) = scol m c j.val i.val :=
  congrArg₂ (fun u v : EReal => u + v) (entry_eq (grad m c) _ rfl rfl) (entry_eq (more m c) _ rfl rfl)
theorem hwts (j : Fin 3584) : wts m c (ix2 0 j) = wcol m c j.val := entry_eq (wts m c) _ rfl rfl

/-- The two ranges of mixed columns laid side by side. -/
theorem hproj (i : Fin 4096) (j : ℕ) (h1 : j < 3072 → j < 5632) (h2 : ¬j < 3072 → 5120 + (j - 3072) < 5632) :
    (if h : j < 3072 then proj m c (ix2 i ⟨j, h1 h⟩) else proj m c (ix2 i ⟨5120 + (j - 3072), h2 h⟩)) = pcol m c j i.val := by
  unfold pcol
  by_cases h : j < 3072
  · rw [dif_pos h, if_pos h]
    exact entry_eq (proj m c) _ rfl rfl
  · rw [dif_neg h, if_neg h]
    exact entry_eq (proj m c) _ rfl (show 5120 + (j - 3072) = j + 2048 by omega)

end Array

/-! ## The equation -/

/-- A choice of zero past the last row is the entry one row ahead. -/
theorem ahead {P : Prop} [Decidable P] (e n : ℕ) (hP : P ↔ n < 4096) (he : e = n) (X : Fin 4096 → EReal) (f : ℕ → EReal)
    (hX : ∀ i : Fin 4096, X i = f i.val) (hf : ∀ i, 4096 ≤ i → f i = 0) (hb : P → e < 4096) (u v : EReal) (huv : u = v) :
    (if h : P then X ⟨e, hb h⟩ * u else 0) = f n * v := by
  subst huv he
  by_cases h : P
  · rw [dif_pos h, hX]
  · rw [dif_neg h, hf e (Nat.not_lt.mp fun h' => h (hP.mpr h')), zero_mul]

set_option maxHeartbeats 4000000 in
/-- From memories agreeing on the arguments, the kernel's results are the reference's. -/
theorem equal : algebraic_ShiftBwdIdeal_ShiftBwdRefIdeal (hShiftBwdIdeal := ShiftBwdIdeal.Gen.facts)
    (hShiftBwdRefIdeal := ShiftBwdRefIdeal.Gen.facts) := fun m ρ m' ρ' _ hagree => by
  refine ⟨_, _, run_blocks m ρ, (ShiftBwdRefIdeal.Value.run m' ρ').mono fun _ h c =>
    ⟨(h c).1.trans ?_, (h c).2.1.trans ?_, (h c).2.2⟩⟩
  · obtain ⟨e0, e1, e2, e3⟩ := hagree c
    rw [e1, e2, e3]
    refine Eq.trans ?_ (array4 m c).symm
    funext y
    have hy : (y 0).val < 4096 := (y 0).isLt
    have hX (i : Fin 4096) : grad m c (ix2 i (y 1)) + more m c (ix2 i (y 1)) = scol m c (y 1).val i.val := hsum m c i (y 1)
    have hw : wts m c (ix2 0 (y 1)) = wcol m c (y 1).val := hwts m c (y 1)
    have hs : grad m c y + more m c y = scol m c (y 1).val (y 0).val :=
      congrArg₂ (fun u v : EReal => u + v) (entry_eq (grad m c) y rfl rfl) (entry_eq (more m c) y rfl rfl)
    pointwise []
    unfold out4 dcol
    exact congrArg₂ (fun u v : EReal => u + v)
      (congrArg₂ (fun u v : EReal => u + v) hs (congrArg (fun u : EReal => -u) (congrArg₂ (fun u v : EReal => u * v) hs hw)))
      (ahead _ ((y 0).val + 1) (by omega) (by omega) (fun i => grad m c (ix2 i (y 1)) + more m c (ix2 i (y 1))) _ hX
        (fun i h => by unfold scol; rw [gcol_zero m c _ i h, hcol_zero m c _ i h, add_zero]) _ _ _ hw)
  · obtain ⟨e0, e1, e2, e3⟩ := hagree c
    rw [e0, e2, e3]
    refine Eq.trans ?_ (array5 m c).symm
    funext y
    have hX (i : Fin 4096) : grad m c (ix2 i (y 1)) + more m c (ix2 i (y 1)) = scol m c (y 1).val i.val := hsum m c i (y 1)
    have hj : (y 1).val < 3584 := (y 1).isLt
    have hP (i : Fin 4096) := hproj m c i (y 1).val
    pointwise []
    simp only [Fin.sum_univ_one]
    unfold out5 dweight
    refine Eq.trans ?_ (Finset.sum_range_add (fun i => (past 1 (pcol m c (y 1).val) i - pcol m c (y 1).val i) * scol m c (y 1).val i) 1 4095).symm
    refine congrArg₂ (fun u v : EReal => u + v) ?_ (sum_fin _ _ fun i => ?_)
    · rw [Finset.sum_range_one]
      exact congrArg₂ (fun u v : EReal => u * v) (congrArg₂ (fun u v : EReal => u - v) rfl (hP 0 _ _)) (hX 0)
    · have e : past 1 (pcol m c (y 1).val) (1 + i.val) = pcol m c (y 1).val i.val := by
        unfold past
        rw [if_neg (by omega), Nat.add_sub_cancel_left]
      exact congrArg₂ (fun u v : EReal => u * v) (congrArg₂ (fun u v : EReal => u - v) ((hP ⟨i.val, by have := i.isLt; omega⟩ (by omega) (by omega)).trans e.symm)
        (hP ⟨1 + i.val, by have := i.isLt; omega⟩ (by omega) (by omega))) (hX _)

end Cert.ShiftB

end
-- ==== Proof.GeluGateBwd.lean ====
/- The gradient of the gate with the Gaussian error unit: the arrays the launch leaves and the reference's equation. -/
module

public import proofs.«01_k».proof.Proof.Products
public import proofs.«01_k».proof.Proof.Gen.GeluGateBwdIdeal.Value
public import proofs.«01_k».proof.Proof.Gen.GeluGateBwdRefIdeal.Run

@[expose] public section

set_option maxRecDepth 16384

noncomputable section

namespace Cert.GeluB

open Idealize.ShloMosaic Idealize.ShloMosaic.TcCoe Idealize.SL.Sem
open Cert.GeluGateBwdIdeal GeluGateBwdIdeal.Gen GeluGateBwdIdeal.Value Products

/-! ## The scalar formulas -/

/-- The number of a 32-bit pattern. -/
abbrev co (b : BitVec 32) : EReal := Ideal.ofBits FTy.f32 b

/-- The hyperbolic tangent inside the error unit. -/
def th (x : EReal) : EReal := Ideal.tanh (co 0x3F4C422A#32 * (x + co 0x3D372713#32 * (x * (x * x))))
/-- One half of one plus it. -/
def half (x : EReal) : EReal := co 0x3F000000#32 * (1 + th x)
/-- The gradient of the gated value. -/
def dvalue (x g : EReal) : EReal := g * (x * half x)
/-- The part of the gate's gradient that passes through the tangent. -/
def inner (h x g : EReal) : EReal :=
  co 0x3F4C422A#32 * (co 0x3F000000#32 * (x * (h * g)) * ((1 + th x) * (1 - th x)))
/-- The gradient of the gate. -/
def dgate (h x g : EReal) : EReal :=
  h * g * half x + inner h x g + co 0x3D372713#32 * inner h x g * (co 0x40400000#32 * (x * x))

/-- The tangent with the cube written the other way round. -/
theorem th_eq (x : EReal) : th x = Ideal.tanh (co 0x3F4C422A#32 * (x + co 0x3D372713#32 * (x * x * x))) := by
  unfold th
  rw [mul_assoc]

theorem pay4_apply (v1 v23 : Vec Ideal S256x1024 .f32) (y : S256x1024.Idx) : k0_pay4 (F := Ideal) v1 v23 y = dvalue (v1 y) (v23 y) := by
  pointwise [k0_pay4, k0_pay3, k0_pay2, k0_pay1]
  rfl

theorem pay5_apply (v0 v1 v23 : Vec Ideal S256x1024 .f32) (y : S256x1024.Idx) :
    k0_pay5 (F := Ideal) v0 v1 v23 y = dgate (v0 y) (v1 y) (v23 y) := by
  pointwise [k0_pay5, k0_pay3, k0_pay2, k0_pay1]
  rfl

/-! ## What one grid point writes -/

section Block

variable (c : Dev nD) (i : grid0.Coords) (arg1 : Memref sig .tc .vmem S256x1024 .f32) (harg1 : arg1.IsWhole)
  (arg2 : Memref sig .tc .vmem S256x1024 .f32) (harg2 : arg2.IsWhole) (arg3 : Memref sig .tc .vmem S256x1024 .f32) (harg3 : arg3.IsWhole)
  (arg4 : Memref sig .tc .vmem S256x1024 .f32) (harg4 : arg4.IsWhole) (arg5 : Memref sig .tc .vmem S256x1024 .f32) (harg5 : arg5.IsWhole)
  (x0 x1 x2 : Vec Ideal S256x1024 .f32)

theorem out3_apply (y : S256x1024.Idx) :
    out0_A_3 c i arg1 harg1 arg2 harg2 arg3 harg3 arg4 harg4 arg5 harg5 x0 x1 x2 y = dvalue (x1 y) (x2 y) := by
  frame_out
  exact pay4_apply x1 x2 y

theorem out4_apply (y : S256x1024.Idx) :
    out0_A_4 c i arg1 harg1 arg2 harg2 arg3 harg3 arg4 harg4 arg5 harg5 x0 x1 x2 y = dgate (x0 y) (x1 y) (x2 y) := by
  frame_out
  exact pay5_apply x0 x1 x2 y

end Block

/-! ## What the arrays hold -/

theorem index0_0 : ∀ t : Fin grid0.N, win0_0.index t = ![t.val, 0] := by decide +kernel
theorem index0_1 : ∀ t : Fin grid0.N, win0_1.index t = ![t.val, 4] := by decide +kernel
theorem index0_2 : ∀ t : Fin grid0.N, win0_2.index t = ![t.val, 0] := by decide +kernel
theorem index0_3 : ∀ t : Fin grid0.N, win0_3.index t = ![t.val, 0] := by decide +kernel
theorem index0_4 : ∀ t : Fin grid0.N, win0_4.index t = ![t.val, 0] := by decide +kernel

section Array

variable (m : (ℓ : Loc nD τ sig) → Buf (Elt Ideal) ℓ) (c : Dev nD)

/-- The gated value. -/
abbrev val : S4096x1024.Idx → EReal := m ((c : Thread nD τ).loc main_arg0)
/-- The projection, whose columns from 4096 on are the gate. -/
abbrev proj : S4096x5632.Idx → EReal := m ((c : Thread nD τ).loc main_arg1)
/-- The gradient of the result. -/
abbrev grad : S4096x1024.Idx → EReal := m ((c : Thread nD τ).loc main_arg2)

theorem block0 (t : Fin cfg0.N) (y : S256x1024.Idx) : iblk m c 0 t y = entry (val m c) (256 * t.val + (y 0).val) (y 1).val := by
  have e0 : ((win0_0.blk t).view.emb y 0).val = 256 * t.val + (y 0).val := by blk_simp [index0_0]; simp; omega
  have e1 : ((win0_0.blk t).view.emb y 1).val = (y 1).val := by blk_simp [index0_0]
  exact entry_eq (val m c) ((win0_0.blk t).view.emb y) e0 e1

theorem block1 (t : Fin cfg0.N) (y : S256x1024.Idx) : X0_1 m c t y = entry (proj m c) (256 * t.val + (y 0).val) (4096 + (y 1).val) := by
  unfold X0_1 Pipeline.Window.fill
  rw [dif_pos (moved0_1 t y)]
  refine entry_eq (proj m c) ((win0_1.blk t).view.emb _) ?_ ?_
  · blk_simp [index0_1]; simp; omega
  · blk_simp [index0_1]

theorem block2 (t : Fin cfg0.N) (y : S256x1024.Idx) : iblk m c 2 t y = entry (grad m c) (256 * t.val + (y 0).val) (y 1).val := by
  have e0 : ((win0_2.blk t).view.emb y 0).val = 256 * t.val + (y 0).val := by blk_simp [index0_2]; simp; omega
  have e1 : ((win0_2.blk t).view.emb y 1).val = (y 1).val := by blk_simp [index0_2]
  exact entry_eq (grad m c) ((win0_2.blk t).view.emb y) e0 e1

/-- The gradient of the gated value the launch leaves. -/
def out3 (i : S4096x1024.Idx) : EReal := dvalue (entry (proj m c) (i 0).val (4096 + (i 1).val)) (entry (grad m c) (i 0).val (i 1).val)
/-- The gradient of the gate the launch leaves. -/
def out4 (i : S4096x1024.Idx) : EReal :=
  dgate (entry (val m c) (i 0).val (i 1).val) (entry (proj m c) (i 0).val (4096 + (i 1).val)) (entry (grad m c) (i 0).val (i 1).val)

theorem array3 : (dats m 0 c).arrAt 3 cfg0.N = out3 m c := by
  refine (dats m 0 c).arrAt_eq_of_covers 3 _ (by decide +kernel) fun t _ y => ?_
  blk_simp
  rw [after0_3]
  unfold outsAt0
  dsimp only
  refine (out3_apply _ _ _ _ _ _ _ _ _ _ _ _ _ _ _ y).trans ?_
  have e0 : ((win0_3.blk t).view.emb y 0).val = 256 * t.val + (y 0).val := by blk_simp [index0_3]; simp; omega
  have e1 : ((win0_3.blk t).view.emb y 1).val = (y 1).val := by blk_simp [index0_3]
  rw [block1, block2]
  unfold out3
  rw [e0, e1]

theorem array4 : (dats m 0 c).arrAt 4 cfg0.N = out4 m c := by
  refine (dats m 0 c).arrAt_eq_of_covers 4 _ (by decide +kernel) fun t _ y => ?_
  blk_simp
  rw [after0_4]
  unfold outsAt0
  dsimp only
  refine (out4_apply _ _ _ _ _ _ _ _ _ _ _ _ _ _ _ y).trans ?_
  have e0 : ((win0_4.blk t).view.emb y 0).val = 256 * t.val + (y 0).val := by blk_simp [index0_4]; simp; omega
  have e1 : ((win0_4.blk t).view.emb y 1).val = (y 1).val := by blk_simp [index0_4]
  rw [block0, block1, block2]
  unfold out4
  rw [e0, e1]

theorem hval (y : S4096x1024.Idx) : entry (val m c) (y 0).val (y 1).val = val m c y := (entry_eq (val m c) y rfl rfl).symm
theorem hgrad (y : S4096x1024.Idx) : entry (grad m c) (y 0).val (y 1).val = grad m c y := (entry_eq (grad m c) y rfl rfl).symm
theorem hproj (y : S4096x1024.Idx) : entry (proj m c) (y 0).val (4096 + (y 1).val)
    = proj m c (ix2 (y 0) ⟨4096 + (y 1).val, by have := (y 1).isLt; change (y 1).val < 1024 at this; omega⟩) :=
  by symm; exact entry_eq (proj m c) _ rfl rfl

end Array

/-! ## The equation -/

/-- From memories agreeing on the arguments, the kernel's results are the reference's. -/
theorem equal : algebraic_GeluGateBwdIdeal_GeluGateBwdRefIdeal (hGeluGateBwdIdeal := GeluGateBwdIdeal.Gen.facts)
    (hGeluGateBwdRefIdeal := GeluGateBwdRefIdeal.Gen.facts) := fun m ρ m' ρ' _ hagree => by
  refine ⟨_, _, run_blocks m ρ, (GeluGateBwdRefIdeal.Value.run m' ρ').mono fun _ h c => ⟨(h c).1.trans ?_, (h c).2.1.trans ?_, (h c).2.2⟩⟩
  · obtain ⟨e0, e1, e2⟩ := hagree c
    rw [e1, e2]
    refine Eq.trans ?_ (array3 m c).symm
    funext y
    pointwise []
    unfold out3
    rw [hproj m c y, hgrad m c y]
    unfold dvalue half
    rw [th_eq]
  · obtain ⟨e0, e1, e2⟩ := hagree c
    refine Eq.trans ?_ (array4 m c).symm
    funext y
    unfold GeluGateBwdRefIdeal.Value.res_main_v36
    rw [e0, e1, e2]
    pointwise []
    unfold out4
    rw [hval m c y, hproj m c y, hgrad m c y]
    unfold dgate inner half
    rw [th_eq]

end Cert.GeluB

end
-- ==== Proof.AdamwStep.lean ====
/- The formulas of the optimiser step, entry by entry, and the numbered entries of an array with three axes. -/
module

public import proofs.«01_k».proof.Proof.Products

@[expose] public section

set_option maxRecDepth 16384

noncomputable section

namespace Cert.AdamStep

open Idealize.ShloMosaic Idealize.ShloMosaic.TcCoe Products

/-! ## The scalar formulas -/

/-- The number of a 32-bit pattern. -/
abbrev co (b : BitVec 32) : EReal := Ideal.ofBits FTy.f32 b

/-- Eight terms added from left to right. -/
def total (f : ℕ → EReal) : EReal := f 0 + f 1 + f 2 + f 3 + f 4 + f 5 + f 6 + f 7
/-- The first moment. -/
def first (g a : EReal) : EReal := co 0x3F666666#32 * a + co 0x3DCCCCCD#32 * g
/-- The second moment. -/
def second (g b : EReal) : EReal := co 0x3F7FBE77#32 * b + co 0x3A83126F#32 * (g * g)
/-- The step of the weight. -/
def step (g a b w : EReal) : EReal :=
  co 0xBA83126F#32 * (Ideal.div (Ideal.div (first g a) (co 0x3F26BD02#32))
    (Ideal.sqrt (Ideal.div (second g b) (co 0x3C231ACC#32)) + co 0x322BCC77#32) + co 0x3C23D70A#32 * w)

/-- The second moment with the product taken from the left. -/
theorem second_eq (g b : EReal) : second g b = co 0x3F7FBE77#32 * b + co 0x3A83126F#32 * g * g := by
  unfold second
  rw [mul_assoc]

/-- The entry of an array with three axes at three numbers. -/
def entry3 {n k l : ℕ} (X : (⟨3, ![n, k, l]⟩ : Shape).Idx → EReal) (p i j : ℕ) : EReal :=
  if h : p < n ∧ i < k ∧ j < l then X (ix3 ⟨p, h.1⟩ ⟨i, h.2.1⟩ ⟨j, h.2.2⟩) else 0

theorem entry3_eq {n k l : ℕ} (X : (⟨3, ![n, k, l]⟩ : Shape).Idx → EReal) (y : (⟨3, ![n, k, l]⟩ : Shape).Idx) {p i j : ℕ}
    (hp : (y 0).val = p) (hi : (y 1).val = i) (hj : (y 2).val = j) : X y = entry3 X p i j := by
  subst hp hi hj
  have h : (y 0).val < n ∧ (y 1).val < k ∧ (y 2).val < l := ⟨(y 0).isLt, (y 1).isLt, (y 2).isLt⟩
  unfold entry3
  rw [dif_pos h]
  congr 1
  funext d
  fin_cases d <;> rfl

/-! ## The four results on whole arrays -/

section Whole

variable {n : ℕ} (p : (⟨3, ![8, n, 128]⟩ : Shape).Idx → EReal) (w a b : (⟨2, ![n, 128]⟩ : Shape).Idx → EReal)

/-- The gradient at two numbers. -/
def gradAt (i j : ℕ) : EReal := total fun k => entry3 p k i j

/-- The gradient. -/
def out4 (i : (⟨2, ![n, 128]⟩ : Shape).Idx) : EReal := gradAt p (i 0).val (i 1).val
/-- The steps. -/
def out5 (i : (⟨2, ![n, 128]⟩ : Shape).Idx) : EReal :=
  step (gradAt p (i 0).val (i 1).val) (entry a (i 0).val (i 1).val) (entry b (i 0).val (i 1).val) (entry w (i 0).val (i 1).val)
/-- The first moments. -/
def out6 (i : (⟨2, ![n, 128]⟩ : Shape).Idx) : EReal := first (gradAt p (i 0).val (i 1).val) (entry a (i 0).val (i 1).val)
/-- The second moments. -/
def out7 (i : (⟨2, ![n, 128]⟩ : Shape).Idx) : EReal := second (gradAt p (i 0).val (i 1).val) (entry b (i 0).val (i 1).val)

/-- The gradient of a block that starts at row `o`. -/
theorem total_block (X : (⟨3, ![8, 512, 128]⟩ : Shape).Idx → EReal) (o : ℕ)
    (h : ∀ y : (⟨3, ![8, 512, 128]⟩ : Shape).Idx, X y = entry3 p (y 0).val (o + (y 1).val) (y 2).val) (y : (⟨2, ![512, 128]⟩ : Shape).Idx) :
    total (fun k => entry3 X k (y 0).val (y 1).val) = gradAt p (o + (y 0).val) (y 1).val := by
  have e (k : ℕ) (hk : k < 8) : entry3 X k (y 0).val (y 1).val = entry3 p k (o + (y 0).val) (y 1).val :=
    (entry3_eq X (ix3 ⟨k, hk⟩ (y 0) (y 1)) rfl rfl rfl).symm.trans (h _)
  unfold gradAt total
  dsimp only
  rw [e 0 (by decide), e 1 (by decide), e 2 (by decide), e 3 (by decide), e 4 (by decide), e 5 (by decide), e 6 (by decide), e 7 (by decide)]

variable (y : (⟨2, ![n, 128]⟩ : Shape).Idx)

theorem out4_apply : out4 p y = ∑ k : Fin 8, p (ix3 k (y 0) (y 1)) := by
  have h (k : Fin 8) : p (ix3 k (y 0) (y 1)) = entry3 p k.val (y 0).val (y 1).val := entry3_eq p _ rfl rfl rfl
  rw [Fin.sum_univ_eight, h 0, h 1, h 2, h 3, h 4, h 5, h 6, h 7]
  rfl
theorem out5_apply : out5 p w a b y = step (∑ k : Fin 8, p (ix3 k (y 0) (y 1))) (a y) (b y) (w y) := by
  rw [← out4_apply, entry_eq a y rfl rfl, entry_eq b y rfl rfl, entry_eq w y rfl rfl]
  rfl
theorem out6_apply : out6 p a y = first (∑ k : Fin 8, p (ix3 k (y 0) (y 1))) (a y) := by
  rw [← out4_apply, entry_eq a y rfl rfl]
  rfl
theorem out7_apply : out7 p b y = second (∑ k : Fin 8, p (ix3 k (y 0) (y 1))) (b y) := by
  rw [← out4_apply, entry_eq b y rfl rfl]
  rfl

end Whole

end Cert.AdamStep

end
-- ==== Proof.AdamwEarly.lean ====
/- The optimiser step: the arrays the launch leaves and the reference's equation. -/
module

public import proofs.«01_k».proof.Proof.AdamwStep
public import proofs.«01_k».proof.Proof.Gen.AdamwEarlyIdeal.Value
public import proofs.«01_k».proof.Proof.Gen.AdamwEarlyRefIdeal.Run

@[expose] public section

set_option maxRecDepth 16384

noncomputable section

namespace Cert.AdamEarly

open Idealize.ShloMosaic Idealize.ShloMosaic.TcCoe Idealize.SL.Sem
open Cert.AdamwEarlyIdeal AdamwEarlyIdeal.Gen AdamwEarlyIdeal.Value Products AdamStep

/-! ## What one grid point computes -/

theorem grad_apply (x0 : Vec Ideal S8x512x128 .bf16) (x1 x2 x3 : Vec Ideal S512x128 .f32) (y : S512x128.Idx) :
    k0_pay5 (F := Ideal) x0 x1 x2 x3 y = total fun k => entry3 (n := 8) (k := 512) (l := 128) x0 k (y 0).val (y 1).val := by
  have h (k : Fin 8) : x0 (ix3 k (y 0) (y 1)) = entry3 (n := 8) (k := 512) (l := 128) x0 k.val (y 0).val (y 1).val :=
    entry3_eq (n := 8) (k := 512) (l := 128) x0 _ rfl rfl rfl
  pointwise [k0_pay5, k0_pay4]
  exact congrArg₂ _ (congrArg₂ _ (congrArg₂ _ (congrArg₂ _ (congrArg₂ _ (congrArg₂ _ (congrArg₂ _ (h 0) (h 1)) (h 2)) (h 3)) (h 4)) (h 5)) (h 6)) (h 7)

theorem first_apply (g : FVec Ideal S512x128 .f32) (a : Vec Ideal S512x128 .f32) (y : S512x128.Idx) :
    k0_pay1 (F := Ideal) g a (Scalar.ofBits .f32 0x3F666666#32) y = first (g y) (a y) := by
  pointwise [k0_pay1]
  rfl

theorem second_apply (g : FVec Ideal S512x128 .f32) (b : Vec Ideal S512x128 .f32) (y : S512x128.Idx) :
    k0_pay2 (F := Ideal) g b y = second (g y) (b y) := by
  pointwise [k0_pay2]
  rfl

theorem step_apply (g : FVec Ideal S512x128 .f32) (a b w : Vec Ideal S512x128 .f32) (y : S512x128.Idx) :
    k0_pay3 (F := Ideal) g a (Scalar.ofBits .f32 0x3F666666#32) b w y = step (g y) (a y) (b y) (w y) := by
  pointwise [k0_pay3, k0_pay1, k0_pay2]
  rfl

/-! ## What the arrays hold -/

theorem index0_0 : ∀ t : Fin grid0.N, win0_0.index t = ![0, t.val, 0] := by decide +kernel
theorem index0_1 : ∀ t : Fin grid0.N, win0_1.index t = ![t.val, 0] := by decide +kernel
theorem index0_2 : ∀ t : Fin grid0.N, win0_2.index t = ![t.val, 0] := by decide +kernel
theorem index0_3 : ∀ t : Fin grid0.N, win0_3.index t = ![t.val, 0] := by decide +kernel
theorem index0_4 : ∀ t : Fin grid0.N, win0_4.index t = ![t.val, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![t.val, 0] := by decide +kernel

section Array

variable (m : (ℓ : Loc nD τ sig) → Buf (Elt Ideal) ℓ) (c : Dev nD)

/-- The eight parts of the gradient. -/
abbrev parts : S8x41472x128.Idx → EReal := m ((c : Thread nD τ).loc main_arg0)
/-- The weights. -/
abbrev weight : S41472x128.Idx → EReal := m ((c : Thread nD τ).loc main_arg1)
/-- The first moments before the step. -/
abbrev before1 : S41472x128.Idx → EReal := m ((c : Thread nD τ).loc main_arg2)
/-- The second moments before the step. -/
abbrev before2 : S41472x128.Idx → EReal := m ((c : Thread nD τ).loc main_arg3)

theorem block0 (t : Fin cfg0.N) (y : S8x512x128.Idx) :
    iblk m c 0 t y = entry3 (parts m c) (y 0).val (512 * t.val + (y 1).val) (y 2).val :=
  entry3_eq (parts m c) ((win0_0.blk t).view.emb y) (by blk_simp [index0_0]) (by blk_simp [index0_0]; simp; omega) (by blk_simp [index0_0])

theorem block1 (t : Fin cfg0.N) (y : S512x128.Idx) : iblk m c 1 t y = entry (weight m c) (512 * t.val + (y 0).val) (y 1).val :=
  entry_eq (weight m c) ((win0_1.blk t).view.emb y) (by blk_simp [index0_1]; simp; omega) (by blk_simp [index0_1])

theorem block2 (t : Fin cfg0.N) (y : S512x128.Idx) : iblk m c 2 t y = entry (before1 m c) (512 * t.val + (y 0).val) (y 1).val :=
  entry_eq (before1 m c) ((win0_2.blk t).view.emb y) (by blk_simp [index0_2]; simp; omega) (by blk_simp [index0_2])

theorem block3 (t : Fin cfg0.N) (y : S512x128.Idx) : iblk m c 3 t y = entry (before2 m c) (512 * t.val + (y 0).val) (y 1).val :=
  entry_eq (before2 m c) ((win0_3.blk t).view.emb y) (by blk_simp [index0_3]; simp; omega) (by blk_simp [index0_3])

theorem block_g (t : Fin cfg0.N) (x1 x2 x3 : Vec Ideal S512x128 .f32) (y : S512x128.Idx) :
    k0_pay5 (F := Ideal) (iblk m c 0 t) x1 x2 x3 y = gradAt (parts m c) (512 * t.val + (y 0).val) (y 1).val :=
  (grad_apply _ _ _ _ y).trans (total_block (parts m c) _ _ (block0 m c t) y)

theorem array4 : (dats m 0 c).arrAt 4 cfg0.N = out4 (parts m c) := by
  refine (dats m 0 c).arrAt_eq_of_covers 4 _ (by decide +kernel) fun t _ y => ?_
  blk_simp
  rw [after0_4]
  unfold out0_4
  rw [View.canon_unit_zero zero_off]
  have e0 : ((win0_4.blk t).view.emb y 0).val = 512 * t.val + (y 0).val := by blk_simp [index0_4]; simp; omega
  have e1 : ((win0_4.blk t).view.emb y 1).val = (y 1).val := by blk_simp [index0_4]
  rw [block_g]
  unfold out4
  rw [e0, e1]

theorem array5 : (dats m 0 c).arrAt 5 cfg0.N = out5 (parts m c) (weight m c) (before1 m c) (before2 m c) := by
  refine (dats m 0 c).arrAt_eq_of_covers 5 _ (by decide +kernel) fun t _ y => ?_
  blk_simp
  rw [after0_5]
  unfold out0_5
  rw [View.canon_unit_zero zero_off]
  simp only [View.ld_unit_zero (S := S512x128) zero_off]
  refine (step_apply _ _ _ _ y).trans ?_
  have e0 : ((win0_5.blk t).view.emb y 0).val = 512 * t.val + (y 0).val := by blk_simp [index0_5]; simp; omega
  have e1 : ((win0_5.blk t).view.emb y 1).val = (y 1).val := by blk_simp [index0_5]
  rw [block_g, block1, block2, block3]
  unfold out5
  rw [e0, e1]

theorem array6 : (dats m 0 c).arrAt 6 cfg0.N = out6 (parts m c) (before1 m c) := by
  refine (dats m 0 c).arrAt_eq_of_covers 6 _ (by decide +kernel) fun t _ y => ?_
  blk_simp
  rw [after0_6]
  unfold out0_6
  rw [View.canon_unit_zero zero_off]
  simp only [View.ld_unit_zero (S := S512x128) zero_off]
  refine (first_apply _ _ y).trans ?_
  have e0 : ((win0_6.blk t).view.emb y 0).val = 512 * t.val + (y 0).val := by blk_simp [index0_6]; simp; omega
  have e1 : ((win0_6.blk t).view.emb y 1).val = (y 1).val := by blk_simp [index0_6]
  rw [block_g, block2]
  unfold out6
  rw [e0, e1]

theorem array7 : (dats m 0 c).arrAt 7 cfg0.N = out7 (parts m c) (before2 m c) := by
  refine (dats m 0 c).arrAt_eq_of_covers 7 _ (by decide +kernel) fun t _ y => ?_
  blk_simp
  rw [after0_7]
  unfold out0_7
  rw [View.canon_unit_zero zero_off]
  simp only [View.ld_unit_zero (S := S512x128) zero_off]
  refine (second_apply _ _ y).trans ?_
  have e0 : ((win0_7.blk t).view.emb y 0).val = 512 * t.val + (y 0).val := by blk_simp [index0_7]; simp; omega
  have e1 : ((win0_7.blk t).view.emb y 1).val = (y 1).val := by blk_simp [index0_7]
  rw [block_g, block3]
  unfold out7
  rw [e0, e1]

end Array

/-! ## The equation -/

/-- From memories agreeing on the arguments, the kernel's results are the reference's. -/
theorem equal : algebraic_AdamwEarlyIdeal_AdamwEarlyRefIdeal (hAdamwEarlyIdeal := AdamwEarlyIdeal.Gen.facts)
    (hAdamwEarlyRefIdeal := AdamwEarlyRefIdeal.Gen.facts) := fun m ρ m' ρ' _ hagree => by
  refine ⟨_, _, _, _, run_blocks m ρ, (AdamwEarlyRefIdeal.Value.run m' ρ').mono fun _ h c =>
    ⟨(h c).1.trans ?_, (h c).2.1.trans ?_, (h c).2.2.1.trans ?_, (h c).2.2.2.1.trans ?_, (h c).2.2.2.2⟩⟩
  · obtain ⟨e0, e1, e2, e3⟩ := hagree c
    rw [e0]
    refine Eq.trans ?_ (array4 m c).symm
    funext y
    pointwise []
    rw [out4_apply]
  · obtain ⟨e0, e1, e2, e3⟩ := hagree c
    rw [e0, e1, e2, e3]
    refine Eq.trans ?_ (array5 m c).symm
    funext y
    pointwise []
    rw [out5_apply]
    unfold step
    rw [second_eq]
    rfl
  · obtain ⟨e0, e1, e2, e3⟩ := hagree c
    rw [e0, e2]
    refine Eq.trans ?_ (array6 m c).symm
    funext y
    pointwise []
    rw [out6_apply]
    rfl
  · obtain ⟨e0, e1, e2, e3⟩ := hagree c
    rw [e0, e3]
    refine Eq.trans ?_ (array7 m c).symm
    funext y
    pointwise []
    rw [out7_apply, second_eq]

end Cert.AdamEarly

end
-- ==== Proof.AdamwMid.lean ====
/- The optimiser step: the arrays the launch leaves and the reference's equation. -/
module

public import proofs.«01_k».proof.Proof.AdamwEarly
public import proofs.«01_k».proof.Proof.Gen.AdamwMidIdeal.Value
public import proofs.«01_k».proof.Proof.Gen.AdamwMidRefIdeal.Run

@[expose] public section

set_option maxRecDepth 16384

noncomputable section

namespace Cert.AdamMid

open Idealize.ShloMosaic Idealize.ShloMosaic.TcCoe Idealize.SL.Sem
open Cert.AdamwMidIdeal AdamwMidIdeal.Gen AdamwMidIdeal.Value Products AdamStep

/-! ## What the arrays hold -/

theorem index0_0 : ∀ t : Fin grid0.N, win0_0.index t = ![0, t.val, 0] := by decide +kernel
theorem index0_1 : ∀ t : Fin grid0.N, win0_1.index t = ![t.val, 0] := by decide +kernel
theorem index0_2 : ∀ t : Fin grid0.N, win0_2.index t = ![t.val, 0] := by decide +kernel
theorem index0_3 : ∀ t : Fin grid0.N, win0_3.index t = ![t.val, 0] := by decide +kernel
theorem index0_4 : ∀ t : Fin grid0.N, win0_4.index t = ![t.val, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![t.val, 0] := by decide +kernel

section Array

variable (m : (ℓ : Loc nD τ sig) → Buf (Elt Ideal) ℓ) (c : Dev nD)

/-- The eight parts of the gradient. -/
abbrev parts : S8x28672x128.Idx → EReal := m ((c : Thread nD τ).loc main_arg0)
/-- The weights. -/
abbrev weight : S28672x128.Idx → EReal := m ((c : Thread nD τ).loc main_arg1)
/-- The first moments before the step. -/
abbrev before1 : S28672x128.Idx → EReal := m ((c : Thread nD τ).loc main_arg2)
/-- The second moments before the step. -/
abbrev before2 : S28672x128.Idx → EReal := m ((c : Thread nD τ).loc main_arg3)

theorem block0 (t : Fin cfg0.N) (y : S8x512x128.Idx) :
    iblk m c 0 t y = entry3 (parts m c) (y 0).val (512 * t.val + (y 1).val) (y 2).val :=
  entry3_eq (parts m c) ((win0_0.blk t).view.emb y) (by blk_simp [index0_0]) (by blk_simp [index0_0]; simp; omega) (by blk_simp [index0_0])

theorem block1 (t : Fin cfg0.N) (y : S512x128.Idx) : iblk m c 1 t y = entry (weight m c) (512 * t.val + (y 0).val) (y 1).val :=
  entry_eq (weight m c) ((win0_1.blk t).view.emb y) (by blk_simp [index0_1]; simp; omega) (by blk_simp [index0_1])

theorem block2 (t : Fin cfg0.N) (y : S512x128.Idx) : iblk m c 2 t y = entry (before1 m c) (512 * t.val + (y 0).val) (y 1).val :=
  entry_eq (before1 m c) ((win0_2.blk t).view.emb y) (by blk_simp [index0_2]; simp; omega) (by blk_simp [index0_2])

theorem block3 (t : Fin cfg0.N) (y : S512x128.Idx) : iblk m c 3 t y = entry (before2 m c) (512 * t.val + (y 0).val) (y 1).val :=
  entry_eq (before2 m c) ((win0_3.blk t).view.emb y) (by blk_simp [index0_3]; simp; omega) (by blk_simp [index0_3])

theorem block_g (t : Fin cfg0.N) (x1 x2 x3 : Vec Ideal S512x128 .f32) (y : S512x128.Idx) :
    k0_pay5 (F := Ideal) (iblk m c 0 t) x1 x2 x3 y = gradAt (parts m c) (512 * t.val + (y 0).val) (y 1).val :=
  (AdamEarly.grad_apply _ x1 x2 x3 y).trans (total_block (parts m c) _ _ (block0 m c t) y)

theorem array4 : (dats m 0 c).arrAt 4 cfg0.N = out4 (parts m c) := by
  refine (dats m 0 c).arrAt_eq_of_covers 4 _ (by decide +kernel) fun t _ y => ?_
  blk_simp
  rw [after0_4]
  unfold out0_4
  rw [View.canon_unit_zero zero_off]
  have e0 : ((win0_4.blk t).view.emb y 0).val = 512 * t.val + (y 0).val := by blk_simp [index0_4]; simp; omega
  have e1 : ((win0_4.blk t).view.emb y 1).val = (y 1).val := by blk_simp [index0_4]
  rw [block_g]
  unfold out4
  rw [e0, e1]

theorem array5 : (dats m 0 c).arrAt 5 cfg0.N = out5 (parts m c) (weight m c) (before1 m c) (before2 m c) := by
  refine (dats m 0 c).arrAt_eq_of_covers 5 _ (by decide +kernel) fun t _ y => ?_
  blk_simp
  rw [after0_5]
  unfold out0_5
  rw [View.canon_unit_zero zero_off]
  simp only [View.ld_unit_zero (S := S512x128) zero_off]
  refine (AdamEarly.step_apply _ _ _ _ y).trans ?_
  have e0 : ((win0_5.blk t).view.emb y 0).val = 512 * t.val + (y 0).val := by blk_simp [index0_5]; simp; omega
  have e1 : ((win0_5.blk t).view.emb y 1).val = (y 1).val := by blk_simp [index0_5]
  rw [block_g, block1, block2, block3]
  unfold out5
  rw [e0, e1]

theorem array6 : (dats m 0 c).arrAt 6 cfg0.N = out6 (parts m c) (before1 m c) := by
  refine (dats m 0 c).arrAt_eq_of_covers 6 _ (by decide +kernel) fun t _ y => ?_
  blk_simp
  rw [after0_6]
  unfold out0_6
  rw [View.canon_unit_zero zero_off]
  simp only [View.ld_unit_zero (S := S512x128) zero_off]
  refine (AdamEarly.first_apply _ _ y).trans ?_
  have e0 : ((win0_6.blk t).view.emb y 0).val = 512 * t.val + (y 0).val := by blk_simp [index0_6]; simp; omega
  have e1 : ((win0_6.blk t).view.emb y 1).val = (y 1).val := by blk_simp [index0_6]
  rw [block_g, block2]
  unfold out6
  rw [e0, e1]

theorem array7 : (dats m 0 c).arrAt 7 cfg0.N = out7 (parts m c) (before2 m c) := by
  refine (dats m 0 c).arrAt_eq_of_covers 7 _ (by decide +kernel) fun t _ y => ?_
  blk_simp
  rw [after0_7]
  unfold out0_7
  rw [View.canon_unit_zero zero_off]
  simp only [View.ld_unit_zero (S := S512x128) zero_off]
  refine (AdamEarly.second_apply _ _ y).trans ?_
  have e0 : ((win0_7.blk t).view.emb y 0).val = 512 * t.val + (y 0).val := by blk_simp [index0_7]; simp; omega
  have e1 : ((win0_7.blk t).view.emb y 1).val = (y 1).val := by blk_simp [index0_7]
  rw [block_g, block3]
  unfold out7
  rw [e0, e1]

end Array

/-! ## The equation -/

/-- From memories agreeing on the arguments, the kernel's results are the reference's. -/
theorem equal : algebraic_AdamwMidIdeal_AdamwMidRefIdeal (hAdamwMidIdeal := AdamwMidIdeal.Gen.facts)
    (hAdamwMidRefIdeal := AdamwMidRefIdeal.Gen.facts) := fun m ρ m' ρ' _ hagree => by
  refine ⟨_, _, _, _, run_blocks m ρ, (AdamwMidRefIdeal.Value.run m' ρ').mono fun _ h c =>
    ⟨(h c).1.trans ?_, (h c).2.1.trans ?_, (h c).2.2.1.trans ?_, (h c).2.2.2.1.trans ?_, (h c).2.2.2.2⟩⟩
  · obtain ⟨e0, e1, e2, e3⟩ := hagree c
    rw [e0]
    refine Eq.trans ?_ (array4 m c).symm
    funext y
    pointwise []
    rw [out4_apply]
  · obtain ⟨e0, e1, e2, e3⟩ := hagree c
    rw [e0, e1, e2, e3]
    refine Eq.trans ?_ (array5 m c).symm
    funext y
    pointwise []
    rw [out5_apply]
    unfold step
    rw [second_eq]
    rfl
  · obtain ⟨e0, e1, e2, e3⟩ := hagree c
    rw [e0, e2]
    refine Eq.trans ?_ (array6 m c).symm
    funext y
    pointwise []
    rw [out6_apply]
    rfl
  · obtain ⟨e0, e1, e2, e3⟩ := hagree c
    rw [e0, e3]
    refine Eq.trans ?_ (array7 m c).symm
    funext y
    pointwise []
    rw [out7_apply, second_eq]

end Cert.AdamMid

end
-- ==== Proof.AdamwMain.lean ====
/- The optimiser step: the arrays the launch leaves and the reference's equation. -/
module

public import proofs.«01_k».proof.Proof.AdamwEarly
public import proofs.«01_k».proof.Proof.Gen.AdamwMainIdeal.Value
public import proofs.«01_k».proof.Proof.Gen.AdamwMainRefIdeal.Run

@[expose] public section

set_option maxRecDepth 16384

noncomputable section

namespace Cert.AdamMain

open Idealize.ShloMosaic Idealize.ShloMosaic.TcCoe Idealize.SL.Sem
open Cert.AdamwMainIdeal AdamwMainIdeal.Gen AdamwMainIdeal.Value Products AdamStep

/-! ## What the arrays hold -/

theorem index0_0 : ∀ t : Fin grid0.N, win0_0.index t = ![0, t.val, 0] := by decide +kernel
theorem index0_1 : ∀ t : Fin grid0.N, win0_1.index t = ![t.val, 0] := by decide +kernel
theorem index0_2 : ∀ t : Fin grid0.N, win0_2.index t = ![t.val, 0] := by decide +kernel
theorem index0_3 : ∀ t : Fin grid0.N, win0_3.index t = ![t.val, 0] := by decide +kernel
theorem index0_4 : ∀ t : Fin grid0.N, win0_4.index t = ![t.val, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![t.val, 0] := by decide +kernel

section Array

variable (m : (ℓ : Loc nD τ sig) → Buf (Elt Ideal) ℓ) (c : Dev nD)

/-- The eight parts of the gradient. -/
abbrev parts : S8x34304x128.Idx → EReal := m ((c : Thread nD τ).loc main_arg0)
/-- The weights. -/
abbrev weight : S34304x128.Idx → EReal := m ((c : Thread nD τ).loc main_arg1)
/-- The first moments before the step. -/
abbrev before1 : S34304x128.Idx → EReal := m ((c : Thread nD τ).loc main_arg2)
/-- The second moments before the step. -/
abbrev before2 : S34304x128.Idx → EReal := m ((c : Thread nD τ).loc main_arg3)

theorem block0 (t : Fin cfg0.N) (y : S8x512x128.Idx) :
    iblk m c 0 t y = entry3 (parts m c) (y 0).val (512 * t.val + (y 1).val) (y 2).val :=
  entry3_eq (parts m c) ((win0_0.blk t).view.emb y) (by blk_simp [index0_0]) (by blk_simp [index0_0]; simp; omega) (by blk_simp [index0_0])

theorem block1 (t : Fin cfg0.N) (y : S512x128.Idx) : iblk m c 1 t y = entry (weight m c) (512 * t.val + (y 0).val) (y 1).val :=
  entry_eq (weight m c) ((win0_1.blk t).view.emb y) (by blk_simp [index0_1]; simp; omega) (by blk_simp [index0_1])

theorem block2 (t : Fin cfg0.N) (y : S512x128.Idx) : iblk m c 2 t y = entry (before1 m c) (512 * t.val + (y 0).val) (y 1).val :=
  entry_eq (before1 m c) ((win0_2.blk t).view.emb y) (by blk_simp [index0_2]; simp; omega) (by blk_simp [index0_2])

theorem block3 (t : Fin cfg0.N) (y : S512x128.Idx) : iblk m c 3 t y = entry (before2 m c) (512 * t.val + (y 0).val) (y 1).val :=
  entry_eq (before2 m c) ((win0_3.blk t).view.emb y) (by blk_simp [index0_3]; simp; omega) (by blk_simp [index0_3])

theorem block_g (t : Fin cfg0.N) (x1 x2 x3 : Vec Ideal S512x128 .f32) (y : S512x128.Idx) :
    k0_pay5 (F := Ideal) (iblk m c 0 t) x1 x2 x3 y = gradAt (parts m c) (512 * t.val + (y 0).val) (y 1).val :=
  (AdamEarly.grad_apply _ x1 x2 x3 y).trans (total_block (parts m c) _ _ (block0 m c t) y)

theorem array4 : (dats m 0 c).arrAt 4 cfg0.N = out4 (parts m c) := by
  refine (dats m 0 c).arrAt_eq_of_covers 4 _ (by decide +kernel) fun t _ y => ?_
  blk_simp
  rw [after0_4]
  unfold out0_4
  rw [View.canon_unit_zero zero_off]
  have e0 : ((win0_4.blk t).view.emb y 0).val = 512 * t.val + (y 0).val := by blk_simp [index0_4]; simp; omega
  have e1 : ((win0_4.blk t).view.emb y 1).val = (y 1).val := by blk_simp [index0_4]
  rw [block_g]
  unfold out4
  rw [e0, e1]

theorem array5 : (dats m 0 c).arrAt 5 cfg0.N = out5 (parts m c) (weight m c) (before1 m c) (before2 m c) := by
  refine (dats m 0 c).arrAt_eq_of_covers 5 _ (by decide +kernel) fun t _ y => ?_
  blk_simp
  rw [after0_5]
  unfold out0_5
  rw [View.canon_unit_zero zero_off]
  simp only [View.ld_unit_zero (S := S512x128) zero_off]
  refine (AdamEarly.step_apply _ _ _ _ y).trans ?_
  have e0 : ((win0_5.blk t).view.emb y 0).val = 512 * t.val + (y 0).val := by blk_simp [index0_5]; simp; omega
  have e1 : ((win0_5.blk t).view.emb y 1).val = (y 1).val := by blk_simp [index0_5]
  rw [block_g, block1, block2, block3]
  unfold out5
  rw [e0, e1]

theorem array6 : (dats m 0 c).arrAt 6 cfg0.N = out6 (parts m c) (before1 m c) := by
  refine (dats m 0 c).arrAt_eq_of_covers 6 _ (by decide +kernel) fun t _ y => ?_
  blk_simp
  rw [after0_6]
  unfold out0_6
  rw [View.canon_unit_zero zero_off]
  simp only [View.ld_unit_zero (S := S512x128) zero_off]
  refine (AdamEarly.first_apply _ _ y).trans ?_
  have e0 : ((win0_6.blk t).view.emb y 0).val = 512 * t.val + (y 0).val := by blk_simp [index0_6]; simp; omega
  have e1 : ((win0_6.blk t).view.emb y 1).val = (y 1).val := by blk_simp [index0_6]
  rw [block_g, block2]
  unfold out6
  rw [e0, e1]

theorem array7 : (dats m 0 c).arrAt 7 cfg0.N = out7 (parts m c) (before2 m c) := by
  refine (dats m 0 c).arrAt_eq_of_covers 7 _ (by decide +kernel) fun t _ y => ?_
  blk_simp
  rw [after0_7]
  unfold out0_7
  rw [View.canon_unit_zero zero_off]
  simp only [View.ld_unit_zero (S := S512x128) zero_off]
  refine (AdamEarly.second_apply _ _ y).trans ?_
  have e0 : ((win0_7.blk t).view.emb y 0).val = 512 * t.val + (y 0).val := by blk_simp [index0_7]; simp; omega
  have e1 : ((win0_7.blk t).view.emb y 1).val = (y 1).val := by blk_simp [index0_7]
  rw [block_g, block3]
  unfold out7
  rw [e0, e1]

end Array

/-! ## The equation -/

/-- From memories agreeing on the arguments, the kernel's results are the reference's. -/
theorem equal : algebraic_AdamwMainIdeal_AdamwMainRefIdeal (hAdamwMainIdeal := AdamwMainIdeal.Gen.facts)
    (hAdamwMainRefIdeal := AdamwMainRefIdeal.Gen.facts) := fun m ρ m' ρ' _ hagree => by
  refine ⟨_, _, _, _, run_blocks m ρ, (AdamwMainRefIdeal.Value.run m' ρ').mono fun _ h c =>
    ⟨(h c).1.trans ?_, (h c).2.1.trans ?_, (h c).2.2.1.trans ?_, (h c).2.2.2.1.trans ?_, (h c).2.2.2.2⟩⟩
  · obtain ⟨e0, e1, e2, e3⟩ := hagree c
    rw [e0]
    refine Eq.trans ?_ (array4 m c).symm
    funext y
    pointwise []
    rw [out4_apply]
  · obtain ⟨e0, e1, e2, e3⟩ := hagree c
    rw [e0, e1, e2, e3]
    refine Eq.trans ?_ (array5 m c).symm
    funext y
    pointwise []
    rw [out5_apply]
    unfold step
    rw [second_eq]
    rfl
  · obtain ⟨e0, e1, e2, e3⟩ := hagree c
    rw [e0, e2]
    refine Eq.trans ?_ (array6 m c).symm
    funext y
    pointwise []
    rw [out6_apply]
    rfl
  · obtain ⟨e0, e1, e2, e3⟩ := hagree c
    rw [e0, e3]
    refine Eq.trans ?_ (array7 m c).symm
    funext y
    pointwise []
    rw [out7_apply, second_eq]

end Cert.AdamMain

end
-- ==== Proof.AdamwSmall.lean ====
/- The optimiser step: the arrays the launch leaves and the reference's equation. -/
module

public import proofs.«01_k».proof.Proof.AdamwStep
public import proofs.«01_k».proof.Proof.Gen.AdamwSmallIdeal.Value
public import proofs.«01_k».proof.Proof.Gen.AdamwSmallRefIdeal.Run

@[expose] public section

set_option maxRecDepth 16384

noncomputable section

namespace Cert.AdamSmall

open Idealize.ShloMosaic Idealize.ShloMosaic.TcCoe Idealize.SL.Sem
open Cert.AdamwSmallIdeal AdamwSmallIdeal.Gen AdamwSmallIdeal.Value Products AdamStep

/-! ## What one grid point computes -/

theorem grad_apply (x0 : Vec Ideal S8x512x128 .f32) (x1 x2 x3 : Vec Ideal S512x128 .f32) (y : S512x128.Idx) :
    k0_pay5 (F := Ideal) x0 x1 x2 x3 y = total fun k => entry3 (n := 8) (k := 512) (l := 128) x0 k (y 0).val (y 1).val := by
  have h (k : Fin 8) : x0 (ix3 k (y 0) (y 1)) = entry3 (n := 8) (k := 512) (l := 128) x0 k.val (y 0).val (y 1).val :=
    entry3_eq (n := 8) (k := 512) (l := 128) x0 _ rfl rfl rfl
  pointwise [k0_pay5, k0_pay3]
  exact congrArg₂ _ (congrArg₂ _ (congrArg₂ _ (congrArg₂ _ (congrArg₂ _ (congrArg₂ _ (congrArg₂ _ (h 0) (h 1)) (h 2)) (h 3)) (h 4)) (h 5)) (h 6)) (h 7)

theorem first_apply (x0 : Vec Ideal S8x512x128 .f32) (x1 x2 x3 : Vec Ideal S512x128 .f32) (y : S512x128.Idx) :
    k0_pay6 (F := Ideal) x0 x1 x2 x3 y = first (k0_pay5 (F := Ideal) x0 x1 x2 x3 y) (x2 y) := by
  have e : k0_pay6 (F := Ideal) x0 x1 x2 x3
      = addf (mulf (broadcast S512x128 (Scalar.ofBits .f32 0x3F666666#32)) (View.ld x2 r0_8))
        (mulf (broadcast S512x128 (Scalar.ofBits .f32 0x3DCCCCCD#32)) (k0_pay5 (F := Ideal) x0 x1 x2 x3)) := rfl
  rw [e, View.ld_unit_zero (S := S512x128) zero_off]
  generalize k0_pay5 (F := Ideal) x0 x1 x2 x3 = g
  pointwise []
  rfl

theorem second_apply (g : FVec Ideal S512x128 .f32) (b : Vec Ideal S512x128 .f32) (y : S512x128.Idx) :
    k0_pay1 (F := Ideal) g b y = second (g y) (b y) := by
  pointwise [k0_pay1]
  rfl

theorem step_apply (g f : FVec Ideal S512x128 .f32) (a b w : Vec Ideal S512x128 .f32) (y : S512x128.Idx) (hf : f y = first (g y) (a y)) :
    k0_pay2 (F := Ideal) g f b w y = step (g y) (a y) (b y) (w y) := by
  pointwise [k0_pay2, k0_pay1]
  rw [hf]
  rfl

/-! ## What the arrays hold -/

theorem index0_0 : ∀ t : Fin grid0.N, win0_0.index t = ![0, t.val, 0] := by decide +kernel
theorem index0_1 : ∀ t : Fin grid0.N, win0_1.index t = ![t.val, 0] := by decide +kernel
theorem index0_2 : ∀ t : Fin grid0.N, win0_2.index t = ![t.val, 0] := by decide +kernel
theorem index0_3 : ∀ t : Fin grid0.N, win0_3.index t = ![t.val, 0] := by decide +kernel
theorem index0_4 : ∀ t : Fin grid0.N, win0_4.index t = ![t.val, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![t.val, 0] := by decide +kernel

section Array

variable (m : (ℓ : Loc nD τ sig) → Buf (Elt Ideal) ℓ) (c : Dev nD)

/-- The eight parts of the gradient. -/
abbrev parts : S8x2560x128.Idx → EReal := m ((c : Thread nD τ).loc main_arg0)
/-- The weights. -/
abbrev weight : S2560x128.Idx → EReal := m ((c : Thread nD τ).loc main_arg1)
/-- The first moments before the step. -/
abbrev before1 : S2560x128.Idx → EReal := m ((c : Thread nD τ).loc main_arg2)
/-- The second moments before the step. -/
abbrev before2 : S2560x128.Idx → EReal := m ((c : Thread nD τ).loc main_arg3)

theorem block0 (t : Fin cfg0.N) (y : S8x512x128.Idx) :
    iblk m c 0 t y = entry3 (parts m c) (y 0).val (512 * t.val + (y 1).val) (y 2).val :=
  entry3_eq (parts m c) ((win0_0.blk t).view.emb y) (by blk_simp [index0_0]) (by blk_simp [index0_0]; simp; omega) (by blk_simp [index0_0])

theorem block1 (t : Fin cfg0.N) (y : S512x128.Idx) : iblk m c 1 t y = entry (weight m c) (512 * t.val + (y 0).val) (y 1).val :=
  entry_eq (weight m c) ((win0_1.blk t).view.emb y) (by blk_simp [index0_1]; simp; omega) (by blk_simp [index0_1])

theorem block2 (t : Fin cfg0.N) (y : S512x128.Idx) : iblk m c 2 t y = entry (before1 m c) (512 * t.val + (y 0).val) (y 1).val :=
  entry_eq (before1 m c) ((win0_2.blk t).view.emb y) (by blk_simp [index0_2]; simp; omega) (by blk_simp [index0_2])

theorem block3 (t : Fin cfg0.N) (y : S512x128.Idx) : iblk m c 3 t y = entry (before2 m c) (512 * t.val + (y 0).val) (y 1).val :=
  entry_eq (before2 m c) ((win0_3.blk t).view.emb y) (by blk_simp [index0_3]; simp; omega) (by blk_simp [index0_3])

theorem block_g (t : Fin cfg0.N) (x1 x2 x3 : Vec Ideal S512x128 .f32) (y : S512x128.Idx) :
    k0_pay5 (F := Ideal) (iblk m c 0 t) x1 x2 x3 y = gradAt (parts m c) (512 * t.val + (y 0).val) (y 1).val :=
  (grad_apply _ _ _ _ y).trans (total_block (parts m c) _ _ (block0 m c t) y)

theorem array4 : (dats m 0 c).arrAt 4 cfg0.N = out4 (parts m c) := by
  refine (dats m 0 c).arrAt_eq_of_covers 4 _ (by decide +kernel) fun t _ y => ?_
  blk_simp
  rw [after0_4]
  unfold out0_4
  rw [View.canon_unit_zero zero_off]
  have e0 : ((win0_4.blk t).view.emb y 0).val = 512 * t.val + (y 0).val := by blk_simp [index0_4]; simp; omega
  have e1 : ((win0_4.blk t).view.emb y 1).val = (y 1).val := by blk_simp [index0_4]
  rw [block_g]
  unfold out4
  rw [e0, e1]

theorem array5 : (dats m 0 c).arrAt 5 cfg0.N = out5 (parts m c) (weight m c) (before1 m c) (before2 m c) := by
  refine (dats m 0 c).arrAt_eq_of_covers 5 _ (by decide +kernel) fun t _ y => ?_
  blk_simp
  rw [after0_5]
  unfold out0_5
  rw [View.canon_unit_zero zero_off]
  simp only [View.ld_unit_zero (S := S512x128) zero_off]
  refine (step_apply _ _ (iblk m c 2 t) _ _ y (first_apply _ _ _ _ y)).trans ?_
  have e0 : ((win0_5.blk t).view.emb y 0).val = 512 * t.val + (y 0).val := by blk_simp [index0_5]; simp; omega
  have e1 : ((win0_5.blk t).view.emb y 1).val = (y 1).val := by blk_simp [index0_5]
  rw [block_g, block1, block2, block3]
  unfold out5
  rw [e0, e1]

theorem array6 : (dats m 0 c).arrAt 6 cfg0.N = out6 (parts m c) (before1 m c) := by
  refine (dats m 0 c).arrAt_eq_of_covers 6 _ (by decide +kernel) fun t _ y => ?_
  blk_simp
  rw [after0_6]
  unfold out0_6
  rw [View.canon_unit_zero zero_off]
  refine (first_apply _ _ _ _ y).trans ?_
  have e0 : ((win0_6.blk t).view.emb y 0).val = 512 * t.val + (y 0).val := by blk_simp [index0_6]; simp; omega
  have e1 : ((win0_6.blk t).view.emb y 1).val = (y 1).val := by blk_simp [index0_6]
  rw [block_g, block2]
  unfold out6
  rw [e0, e1]

theorem array7 : (dats m 0 c).arrAt 7 cfg0.N = out7 (parts m c) (before2 m c) := by
  refine (dats m 0 c).arrAt_eq_of_covers 7 _ (by decide +kernel) fun t _ y => ?_
  blk_simp
  rw [after0_7]
  unfold out0_7
  rw [View.canon_unit_zero zero_off]
  simp only [View.ld_unit_zero (S := S512x128) zero_off]
  refine (second_apply _ _ y).trans ?_
  have e0 : ((win0_7.blk t).view.emb y 0).val = 512 * t.val + (y 0).val := by blk_simp [index0_7]; simp; omega
  have e1 : ((win0_7.blk t).view.emb y 1).val = (y 1).val := by blk_simp [index0_7]
  rw [block_g, block3]
  unfold out7
  rw [e0, e1]

end Array

/-! ## The equation -/

/-- From memories agreeing on the arguments, the kernel's results are the reference's. -/
theorem equal : algebraic_AdamwSmallIdeal_AdamwSmallRefIdeal (hAdamwSmallIdeal := AdamwSmallIdeal.Gen.facts)
    (hAdamwSmallRefIdeal := AdamwSmallRefIdeal.Gen.facts) := fun m ρ m' ρ' _ hagree => by
  refine ⟨_, _, _, _, run_blocks m ρ, (AdamwSmallRefIdeal.Value.run m' ρ').mono fun _ h c =>
    ⟨(h c).1.trans ?_, (h c).2.1.trans ?_, (h c).2.2.1.trans ?_, (h c).2.2.2.1.trans ?_, (h c).2.2.2.2⟩⟩
  · obtain ⟨e0, e1, e2, e3⟩ := hagree c
    rw [e0]
    refine Eq.trans ?_ (array4 m c).symm
    funext y
    pointwise []
    rw [out4_apply]
  · obtain ⟨e0, e1, e2, e3⟩ := hagree c
    rw [e0, e1, e2, e3]
    refine Eq.trans ?_ (array5 m c).symm
    funext y
    pointwise []
    rw [out5_apply]
    unfold step
    rw [second_eq]
    rfl
  · obtain ⟨e0, e1, e2, e3⟩ := hagree c
    rw [e0, e2]
    refine Eq.trans ?_ (array6 m c).symm
    funext y
    pointwise []
    rw [out6_apply]
    rfl
  · obtain ⟨e0, e1, e2, e3⟩ := hagree c
    rw [e0, e3]
    refine Eq.trans ?_ (array7 m c).symm
    funext y
    pointwise []
    rw [out7_apply, second_eq]

end Cert.AdamSmall

end
-- ==== Proof.LruGates.lean ====
/- The products of the two gates: the launch's blocks, the array it leaves, and the reference's equation. -/
module

public import proofs.«01_k».proof.Proof.Products
public import proofs.«01_k».proof.Proof.Gen.LruGatesIdeal.Value
public import proofs.«01_k».proof.Proof.Gen.LruGatesRefIdeal.Run

@[expose] public section

set_option maxRecDepth 16384

noncomputable section

namespace Cert.LruG

open Idealize.ShloMosaic Idealize.ShloMosaic.TcCoe Idealize.SL.Sem
open Cert.LruGatesIdeal LruGatesIdeal.Gen LruGatesIdeal.Value Products

/-! ## What the array holds -/

theorem index0_0 : ∀ t : Fin grid0.N, win0_0.index t = ![t.val / 2, 0] := by decide +kernel
theorem index0_1 : ∀ t : Fin grid0.N, win0_1.index t = ![0, t.val % 2] := by decide +kernel
theorem index0_2 : ∀ t : Fin grid0.N, win0_2.index t = ![t.val / 2, t.val % 2] := by decide +kernel

section Array

variable (m : (ℓ : Loc nD τ sig) → Buf (Elt Ideal) ℓ) (c : Dev nD)

/-- The left array the launch reads. -/
abbrev lhs : S4096x1024.Idx → EReal := V m c (Pipeline.arrRef spec0 0)
/-- The right array the launch reads. -/
abbrev rhs : S1024x2048.Idx → EReal := V m c (Pipeline.arrRef spec0 1)

/-- The array the launch leaves: the product of the left and the right array. -/
def product (i : S4096x2048.Idx) : EReal :=
  ∑ r ∈ Finset.range 1024, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 8 := lt_of_lt_of_eq t.isLt N_0
  have e0 : ((win0_2.blk t).view.emb y 0).val = 1024 * (t.val / 2) + (y 0).val := by blk_simp [index0_2]; simp; omega
  have e1 : ((win0_2.blk t).view.emb y 1).val = 1024 * (t.val % 2) + (y 1).val := by blk_simp [index0_2]; simp; omega
  have e : product m c ((win0_2.blk t).view.emb y) = ∑ r : Fin 1024, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's product, entry by entry. -/
theorem ref_apply (a : FVec Ideal S4096x1024 .f32) (b : FVec Ideal S1024x2048 .f32) (y : S4096x2048.Idx) :
    (Host.dotGeneral LruGatesRefIdeal.dot_S4096x1024_S1024x2048_S4096x2048_1_0_0_1_n_n none a b : FVec Ideal S4096x2048 .f32) y
      = ∑ r ∈ Finset.range 1024, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_LruGatesIdeal_LruGatesRefIdeal (hLruGatesIdeal := LruGatesIdeal.Gen.facts)
    (hLruGatesRefIdeal := LruGatesRefIdeal.Gen.facts) := fun m ρ m' ρ' _ hagree => by
  refine ⟨fun c => (dats m 0 c).arrAt 2 cfg0.N, run_blocks m ρ, (LruGatesRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.LruG

end
-- ==== Proof.LruGatesDx.lean ====
/- The gradient of the input of the two gates: the launch's blocks, the array it leaves, and the reference's equation. -/
module

public import proofs.«01_k».proof.Proof.Runs
public import proofs.«01_k».proof.Proof.Gen.LruGatesDxIdeal.Value
public import proofs.«01_k».proof.Proof.Gen.LruGatesDxRefIdeal.Run

@[expose] public section

set_option maxRecDepth 16384

noncomputable section

namespace Cert.LruDx

open Idealize.ShloMosaic Idealize.ShloMosaic.TcCoe Idealize.SL.Sem
open Cert.LruGatesDxIdeal LruGatesDxIdeal.Gen LruGatesDxIdeal.Value Products

/-! ## What the array holds -/

theorem index0_0 : ∀ t : Fin grid0.N, win0_0.index t = ![t.val / 2, t.val % 2] := by decide +kernel
theorem index0_1 : ∀ t : Fin grid0.N, win0_1.index t = ![t.val / 2 % 1, t.val % 2] := by decide +kernel
theorem index0_2 : ∀ t : Fin grid0.N, win0_2.index t = ![t.val / 2, t.val / 2 % 1] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S1024x2048.Idx → EReal := V m c (Pipeline.arrRef spec0 1)
/-- The array added to the product. -/
abbrev added : S4096x1024.Idx → EReal := V m c (Pipeline.arrRef spec0 2)

/-- The added block of point `t`, entry by entry. -/
theorem block2 (t : Fin cfg0.N) (y : S1024x1024.Idx) :
    iblk m c 2 t y = entry (added m c) (1024 * (t.val / 2) + (y 0).val) (1024 * (t.val / 2 % 1) + (y 1).val) :=
  entry_eq (added m c) ((win0_2.blk t).view.emb y) (by blk_simp [index0_2]; simp; omega) (by blk_simp [index0_2]; simp; omega)

/-- The `r`-th term of the entry in row `a` and column `b` of the product. -/
def term (a b r : ℕ) : EReal := entry (lhs m c) a r * entry (rhs m c) b r

/-- The product of the two blocks at point `j` of run `q` is the `j`-th piece of the sum. -/
theorem piece (q j : ℕ) (hj : j < 2) (h : 2 * q + j < cfg0.N) (y : S1024x1024.Idx) :
    ∑ r : Fin 1024, Mul.mul (α := EReal) (iblk m c 0 ⟨2 * q + j, h⟩ (ix2 (y 0) r)) (iblk m c 1 ⟨2 * q + j, h⟩ (ix2 (y 1) r))
      = ∑ r ∈ Finset.range 1024, term m c (1024 * (q / 1) + (y 0).val) (1024 * (q % 1) + (y 1).val) (1024 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x1024.Idx) :
    (outsAt0 m c (2 * q + 1) h).1 y
      = (∑ r ∈ Finset.range 2048, term m c (1024 * (q / 1) + (y 0).val) (1024 * (q % 1) + (y 1).val) r) + entry (added m c) (1024 * (q / 1) + (y 0).val) (1024 * (q % 1) + (y 1).val) := by
  have hN : 2 * q + 1 < 8 := lt_of_lt_of_eq h N_0
  refine run_sum_add 1024 0 _ _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    refine congrArg (_ + ·) ((block2 m c _ y).trans ?_)
    congr 2 <;> dsimp only <;> omega
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the left array and the transposed right array plus the added array. -/
theorem array_apply (i : S4096x1024.Idx) :
    (G3 m c i : EReal) = (∑ r ∈ Finset.range 2048, term m c (i 0).val (i 1).val r) + entry (added m c) (i 0).val (i 1).val := by
  have hi0 : (i 0).val < 4096 := (i 0).isLt
  have hi1 : (i 1).val < 1024 := (i 1).isLt
  have h : pt3Of i < cfg0.N := lt_of_lt_of_eq (by unfold pt3Of run3Of; omega) N_0.symm
  unfold G3
  rw [dif_pos h, ← outsAt0_sweep m c _ h]
  refine (out_apply m c (run3Of i) h (loc3Of i)).trans ?_
  have e0 : 1024 * (run3Of i / 1) + (i 0).val % 1024 = (i 0).val := by unfold run3Of; omega
  have e1 : 1024 * (run3Of i % 1) + (i 1).val % 1024 = (i 1).val := by unfold run3Of; omega
  exact congrArg₂ (fun a b => (∑ r ∈ Finset.range 2048, term m c a b r) + entry (added m c) a b) e0 e1

/-! ## The arrays the host hands the launch -/

/-- The left array is the second argument. -/
theorem lhs_eq : lhs m c = m ((c : Thread nD τ).loc main_arg1) := V_main_arg1 m c

/-- The right array is the first argument. -/
theorem rhs_eq : rhs m c = m ((c : Thread nD τ).loc main_arg0) := V_main_arg0 m c

/-- The added array is the third argument. -/
theorem added_eq : added m c = m ((c : Thread nD τ).loc main_arg2) := V_main_arg2 m c

end Array

/-! ## What the reference computes, and the equation -/

/-- The reference's gradient, entry by entry. -/
theorem ref_apply (a : FVec Ideal S4096x2048 .f32) (b : FVec Ideal S1024x2048 .f32) (e : FVec Ideal S4096x1024 .f32) (y : S4096x1024.Idx) :
    (addf e (Host.dotGeneral LruGatesDxRefIdeal.dot_S4096x2048_S1024x2048_S4096x1024_1_1_0_0_n_n none a b) : FVec Ideal S4096x1024 .f32) y
      = (∑ r ∈ Finset.range 2048, entry a (y 0).val r * entry b (y 1).val r) + entry e (y 0).val (y 1).val := by
  pointwise []
  rw [← entry_eq e y rfl rfl]
  exact (add_comm _ _).trans (congrArg (fun u : EReal => u + e y) (sum_fin _ _ fun r => (by rw [entry_eq a _ rfl rfl, entry_eq b _ rfl rfl]; rfl)))

/-- From memories agreeing on the arguments, the kernel's result is the reference's. -/
theorem equal : algebraic_LruGatesDxIdeal_LruGatesDxRefIdeal (hLruGatesDxIdeal := LruGatesDxIdeal.Gen.facts)
    (hLruGatesDxRefIdeal := LruGatesDxRefIdeal.Gen.facts) := fun m ρ m' ρ' _ hagree => by
  refine ⟨fun c => G3 m c, run m ρ, (LruGatesDxRefIdeal.Value.run m' ρ').mono fun _ h c => ⟨(h c).1.trans ?_, (h c).2⟩⟩
  obtain ⟨e0, e1, e2⟩ := hagree c
  rw [e0, e1, e2]
  funext y
  refine (ref_apply _ _ _ y).trans ((array_apply m c y).trans ?_).symm
  unfold term
  rw [lhs_eq, rhs_eq, added_eq]

end Cert.LruDx

end
-- ==== Proof.LruGatesDw.lean ====
/- The gradient of the weights of the two gates: the launch's blocks, the array it leaves, and the reference's equation. -/
module

public import proofs.«01_k».proof.Proof.Runs
public import proofs.«01_k».proof.Proof.Gen.LruGatesDwIdeal.Value
public import proofs.«01_k».proof.Proof.Gen.LruGatesDwRefIdeal.Run

@[expose] public section

set_option maxRecDepth 16384

noncomputable section

namespace Cert.LruDw

open Idealize.ShloMosaic Idealize.ShloMosaic.TcCoe Idealize.SL.Sem
open Cert.LruGatesDwIdeal LruGatesDwIdeal.Gen LruGatesDwIdeal.Value Products

/-! ## What the array holds -/

theorem index0_0 : ∀ t : Fin grid0.N, win0_0.index t = ![t.val % 2, t.val / 4] := by decide +kernel
theorem index0_1 : ∀ t : Fin grid0.N, win0_1.index t = ![t.val % 2, t.val / 2 % 2] := by decide +kernel

section Array

variable (m : (ℓ : Loc nD τ sig) → Buf (Elt Ideal) ℓ) (c : Dev nD)

/-- The left array the launch reads. -/
abbrev lhs : S4096x1024.Idx → EReal := V m c (Pipeline.arrRef spec0 0)
/-- The right array the launch reads. -/
abbrev rhs : S4096x2048.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * (q / 2) + (y 0).val) (1024 * (q % 2) + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S1024x1024.Idx) :
    (outsAt0 m c (2 * q + 1) h).1 y
      = ∑ r ∈ Finset.range 4096, term m c (1024 * (q / 2) + (y 0).val) (1024 * (q % 2) + (y 1).val) r := by
  have hN : 2 * q + 1 < 4 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S1024x2048.Idx) :
    (G2 m c i : EReal) = ∑ r ∈ Finset.range 4096, term m c (i 0).val (i 1).val r := by
  have hi0 : (i 0).val < 1024 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * (run2Of i / 2) + (i 0).val % 1024 = (i 0).val := by unfold run2Of; omega
  have e1 : 1024 * (run2Of i % 2) + (i 1).val % 1024 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's gradient, entry by entry. -/
theorem ref_apply (a : FVec Ideal S4096x1024 .f32) (b : FVec Ideal S4096x2048 .f32) (y : S1024x2048.Idx) :
    (transpose S1024x2048 [1, 0] (Host.dotGeneral LruGatesDwRefIdeal.dot_S4096x2048_S4096x1024_S2048x1024_0_0_1_1_n_n none b a) LruGatesDwRefIdeal.Gen.transposes_S2048x1024_S1024x2048_1_0 : FVec Ideal S1024x2048 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_LruGatesDwIdeal_LruGatesDwRefIdeal (hLruGatesDwIdeal := LruGatesDwIdeal.Gen.facts)
    (hLruGatesDwRefIdeal := LruGatesDwRefIdeal.Gen.facts) := fun m ρ m' ρ' _ hagree => by
  refine ⟨fun c => G2 m c, run m ρ, (LruGatesDwRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.LruDw

end
-- ==== Proof.S5Bu.lean ====
/- The product that enters the S5 recurrence: the launch's blocks, the array it leaves, and the reference's equation. -/
module

public import proofs.«01_k».proof.Proof.Products
public import proofs.«01_k».proof.Proof.Gen.S5BuIdeal.Value
public import proofs.«01_k».proof.Proof.Gen.S5BuRefIdeal.Run

@[expose] public section

set_option maxRecDepth 16384

noncomputable section

namespace Cert.S5BuP

open Idealize.ShloMosaic Idealize.ShloMosaic.TcCoe Idealize.SL.Sem
open Cert.S5BuIdeal S5BuIdeal.Gen S5BuIdeal.Value Products

/-! ## What the array holds -/

theorem index0_0 : ∀ t : Fin grid0.N, win0_0.index t = ![t.val / 2, 0] := by decide +kernel
theorem index0_1 : ∀ t : Fin grid0.N, win0_1.index t = ![0, t.val % 2] := by decide +kernel
theorem index0_2 : ∀ t : Fin grid0.N, win0_2.index t = ![t.val / 2, t.val % 2] := by decide +kernel

section Array

variable (m : (ℓ : Loc nD τ sig) → Buf (Elt Ideal) ℓ) (c : Dev nD)

/-- The left array the launch reads. -/
abbrev lhs : S4096x512.Idx → EReal := V m c (Pipeline.arrRef spec0 0)
/-- The right array the launch reads. -/
abbrev rhs : S512x2048.Idx → EReal := V m c (Pipeline.arrRef spec0 1)

/-- The array the launch leaves: the product of the left and the right array. -/
def product (i : S4096x2048.Idx) : EReal :=
  ∑ r ∈ Finset.range 512, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 8 := lt_of_lt_of_eq t.isLt N_0
  have e0 : ((win0_2.blk t).view.emb y 0).val = 1024 * (t.val / 2) + (y 0).val := by blk_simp [index0_2]; simp; omega
  have e1 : ((win0_2.blk t).view.emb y 1).val = 1024 * (t.val % 2) + (y 1).val := by blk_simp [index0_2]; simp; omega
  have e : product m c ((win0_2.blk t).view.emb y) = ∑ r : Fin 512, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]; simp; omega))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's product, entry by entry. -/
theorem ref_apply (a : FVec Ideal S4096x512 .f32) (b : FVec Ideal S512x2048 .f32) (y : S4096x2048.Idx) :
    (Host.dotGeneral S5BuRefIdeal.dot_S4096x512_S512x2048_S4096x2048_1_0_0_1_n_n none a b : FVec Ideal S4096x2048 .f32) y
      = ∑ r ∈ Finset.range 512, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_S5BuIdeal_S5BuRefIdeal (hS5BuIdeal := S5BuIdeal.Gen.facts)
    (hS5BuRefIdeal := S5BuRefIdeal.Gen.facts) := fun m ρ m' ρ' _ hagree => by
  refine ⟨fun c => (dats m 0 c).arrAt 2 cfg0.N, run_blocks m ρ, (S5BuRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.S5BuP

end
-- ==== Proof.S5Dx.lean ====
/- The gradient of the S5 states: the launch's blocks, the array it leaves, and the reference's equation. -/
module

public import proofs.«01_k».proof.Proof.Products
public import proofs.«01_k».proof.Proof.Gen.S5DxIdeal.Value
public import proofs.«01_k».proof.Proof.Gen.S5DxRefIdeal.Run

@[expose] public section

set_option maxRecDepth 16384

noncomputable section

namespace Cert.S5DxP

open Idealize.ShloMosaic Idealize.ShloMosaic.TcCoe Idealize.SL.Sem
open Cert.S5DxIdeal S5DxIdeal.Gen S5DxIdeal.Value Products

/-! ## What the array holds -/

theorem index0_0 : ∀ t : Fin grid0.N, win0_0.index t = ![t.val / 2, 0] := by decide +kernel
theorem index0_1 : ∀ t : Fin grid0.N, win0_1.index t = ![t.val % 2, 0] := by decide +kernel
theorem index0_2 : ∀ t : Fin grid0.N, win0_2.index t = ![t.val / 2, t.val % 2] := by decide +kernel

section Array

variable (m : (ℓ : Loc nD τ sig) → Buf (Elt Ideal) ℓ) (c : Dev nD)

/-- The left array the launch reads. -/
abbrev lhs : S4096x512.Idx → EReal := V m c (Pipeline.arrRef spec0 0)
/-- The right array the launch reads. -/
abbrev rhs : S2048x512.Idx → EReal := V m c (Pipeline.arrRef spec0 1)

/-- The array the launch leaves: the product of the left array and the transposed right array. -/
def product (i : S4096x2048.Idx) : EReal :=
  ∑ r ∈ Finset.range 512, entry (lhs m c) ((i 0).val) r * entry (rhs m c) ((i 1).val) r

theorem array_eq : (dats m 0 c).arrAt 2 cfg0.N = product m c := by
  refine (dats m 0 c).arrAt_eq_of_covers 2 _ (by decide +kernel) fun t _ y => ?_
  have hN : t.val < 8 := lt_of_lt_of_eq t.isLt N_0
  have e0 : ((win0_2.blk t).view.emb y 0).val = 1024 * (t.val / 2) + (y 0).val := by blk_simp [index0_2]; simp; omega
  have e1 : ((win0_2.blk t).view.emb y 1).val = 1024 * (t.val % 2) + (y 1).val := by blk_simp [index0_2]; simp; omega
  have e : product m c ((win0_2.blk t).view.emb y) = ∑ r : Fin 512, Mul.mul (α := EReal) (iblk m c 0 t (ix2 (y 0) r)) (iblk m c 1 t (ix2 (y 1) r)) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]; simp; omega) (by blk_simp [index0_1]))).symm
  blk_simp
  rw [after0_2]
  unfold outsAt0
  frame_out
  pointwise [k0_pay1]
  exact e.symm

/-! ## The arrays the host hands the launch -/

/-- The left array is the second argument. -/
theorem lhs_eq : lhs m c = m ((c : Thread nD τ).loc main_arg1) := V_main_arg1 m c

/-- The right array is the first argument. -/
theorem rhs_eq : rhs m c = m ((c : Thread nD τ).loc main_arg0) := V_main_arg0 m c

end Array

/-! ## What the reference computes, and the equation -/

/-- The reference's gradient, entry by entry. -/
theorem ref_apply (a : FVec Ideal S4096x512 .f32) (b : FVec Ideal S2048x512 .f32) (y : S4096x2048.Idx) :
    (Host.dotGeneral S5DxRefIdeal.dot_S4096x512_S2048x512_S4096x2048_1_1_0_0_n_n none a b : FVec Ideal S4096x2048 .f32) y
      = ∑ r ∈ Finset.range 512, entry a (y 0).val r * entry b (y 1).val r := by
  pointwise []
  exact sum_fin _ _ fun r => (by rw [entry_eq a _ rfl rfl, entry_eq b _ rfl rfl]; rfl)

/-- From memories agreeing on the arguments, the kernel's result is the reference's. -/
theorem equal : algebraic_S5DxIdeal_S5DxRefIdeal (hS5DxIdeal := S5DxIdeal.Gen.facts)
    (hS5DxRefIdeal := S5DxRefIdeal.Gen.facts) := fun m ρ m' ρ' _ hagree => by
  refine ⟨fun c => (dats m 0 c).arrAt 2 cfg0.N, run_blocks m ρ, (S5DxRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.S5DxP

end
-- ==== Proof.S5Y.lean ====
/- The real part's product that leaves the S5 recurrence: the launch's blocks, the array it leaves, and the reference's equation. -/
module

public import proofs.«01_k».proof.Proof.Products
public import proofs.«01_k».proof.Proof.Gen.S5YIdeal.Value
public import proofs.«01_k».proof.Proof.Gen.S5YRefIdeal.Run

@[expose] public section

set_option maxRecDepth 16384

noncomputable section

namespace Cert.S5YP

open Idealize.ShloMosaic Idealize.ShloMosaic.TcCoe Idealize.SL.Sem
open Cert.S5YIdeal S5YIdeal.Gen S5YIdeal.Value Products

/-! ## What the array holds -/

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![t.val, 0] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x512.Idx → EReal := V m c (Pipeline.arrRef spec0 1)

/-- The array the launch leaves: the product of the left and the right array. -/
def product (i : S4096x512.Idx) : EReal :=
  ∑ r ∈ Finset.range 2048, entry (lhs m c) ((i 0).val) r * entry (rhs m c) r ((i 1).val)

theorem array_eq : (dats m 0 c).arrAt 2 cfg0.N = product m c := by
  refine (dats m 0 c).arrAt_eq_of_covers 2 _ (by decide +kernel) fun t _ y => ?_
  have hN : t.val < 4 := lt_of_lt_of_eq t.isLt N_0
  have e0 : ((win0_2.blk t).view.emb y 0).val = 1024 * t.val + (y 0).val := by blk_simp [index0_2]; simp; omega
  have e1 : ((win0_2.blk t).view.emb y 1).val = (y 1).val := by blk_simp [index0_2]
  have e : product m c ((win0_2.blk t).view.emb y) = ∑ r : Fin 2048, Mul.mul (α := EReal) (iblk m c 0 t (ix2 (y 0) r)) (iblk m c 1 t (ix2 r (y 1))) := by
    unfold product
    rw [e0, e1]
    exact (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1]))).symm
  blk_simp
  rw [after0_2]
  unfold outsAt0
  frame_out
  pointwise [k0_pay1]
  exact e.symm

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's product, entry by entry. -/
theorem ref_apply (a : FVec Ideal S4096x2048 .f32) (b : FVec Ideal S2048x512 .f32) (y : S4096x512.Idx) :
    (Host.dotGeneral S5YRefIdeal.dot_S4096x2048_S2048x512_S4096x512_1_0_0_1_n_n none a b : FVec Ideal S4096x512 .f32) y
      = ∑ r ∈ Finset.range 2048, entry a (y 0).val r * entry b r (y 1).val := by
  pointwise []
  exact sum_fin _ _ fun r => (by rw [entry_eq a _ rfl rfl, entry_eq b _ rfl rfl]; rfl)

/-- From memories agreeing on the arguments, the kernel's result is the reference's. -/
theorem equal : algebraic_S5YIdeal_S5YRefIdeal (hS5YIdeal := S5YIdeal.Gen.facts)
    (hS5YRefIdeal := S5YRefIdeal.Gen.facts) := fun m ρ m' ρ' _ hagree => by
  refine ⟨fun c => (dats m 0 c).arrAt 2 cfg0.N, run_blocks m ρ, (S5YRefIdeal.Value.run m' ρ').mono fun _ h c => ⟨(h c).1.trans ?_, (h c).2⟩⟩
  obtain ⟨e0, e1⟩ := hagree c
  rw [e0, e1]
  refine Eq.trans ?_ (array_eq m c).symm
  funext y
  refine (ref_apply _ _ y).trans ?_
  unfold product
  rw [lhs_eq, rhs_eq]

end Cert.S5YP

end
-- ==== Proof.S5YAdd.lean ====
/- The imaginary part's product that leaves the S5 recurrence, added to the real part's: the launch's blocks, the array it leaves, and the reference's equation. -/
module

public import proofs.«01_k».proof.Proof.Products
public import proofs.«01_k».proof.Proof.Gen.S5YAddIdeal.Value
public import proofs.«01_k».proof.Proof.Gen.S5YAddRefIdeal.Run

@[expose] public section

set_option maxRecDepth 16384

noncomputable section

namespace Cert.S5YAddP

open Idealize.ShloMosaic Idealize.ShloMosaic.TcCoe Idealize.SL.Sem
open Cert.S5YAddIdeal S5YAddIdeal.Gen S5YAddIdeal.Value Products

/-! ## What the array holds -/

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![t.val, 0] := by decide +kernel
theorem index0_3 : ∀ t : Fin grid0.N, win0_3.index t = ![t.val, 0] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S2048x512.Idx → EReal := V m c (Pipeline.arrRef spec0 1)
/-- The array added to the product. -/
abbrev added : S4096x512.Idx → EReal := V m c (Pipeline.arrRef spec0 2)

/-- The array the launch leaves: the product of the left and the right array plus the added array. -/
def product (i : S4096x512.Idx) : EReal :=
  (∑ r ∈ Finset.range 2048, entry (lhs m c) ((i 0).val) r * entry (rhs m c) r ((i 1).val)) + entry (added m c) ((i 0).val) ((i 1).val)

theorem array_eq : (dats m 0 c).arrAt 3 cfg0.N = product m c := by
  refine (dats m 0 c).arrAt_eq_of_covers 3 _ (by decide +kernel) fun t _ y => ?_
  have hN : t.val < 4 := lt_of_lt_of_eq t.isLt N_0
  have e0 : ((win0_3.blk t).view.emb y 0).val = 1024 * t.val + (y 0).val := by blk_simp [index0_3]; simp; omega
  have e1 : ((win0_3.blk t).view.emb y 1).val = (y 1).val := by blk_simp [index0_3]
  have e : product m c ((win0_3.blk t).view.emb y) = HAdd.hAdd (α := EReal) (∑ r : Fin 2048, Mul.mul (α := EReal) (iblk m c 0 t (ix2 (y 0) r)) (iblk m c 1 t (ix2 r (y 1)))) (iblk m c 2 t y) := by
    unfold product
    rw [e0, e1]
    exact (congrArg₂ (fun u v : EReal => u + v) (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1])))
      (entry_eq (added m c) ((win0_2.blk t).view.emb y) (by blk_simp [index0_2]; simp; omega) (by blk_simp [index0_2]))).symm
  blk_simp
  rw [after0_3]
  unfold outsAt0
  frame_out
  pointwise [k0_pay1]
  exact e.symm

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

/-- The added array is the third argument. -/
theorem added_eq : added m c = m ((c : Thread nD τ).loc main_arg2) := V_main_arg2 m c

end Array

/-! ## What the reference computes, and the equation -/

/-- The reference's sum, entry by entry. -/
theorem ref_apply (a : FVec Ideal S4096x2048 .f32) (b : FVec Ideal S2048x512 .f32) (e : FVec Ideal S4096x512 .f32) (y : S4096x512.Idx) :
    (addf e (Host.dotGeneral S5YAddRefIdeal.dot_S4096x2048_S2048x512_S4096x512_1_0_0_1_n_n none a b) : FVec Ideal S4096x512 .f32) y
      = (∑ r ∈ Finset.range 2048, entry a (y 0).val r * entry b r (y 1).val) + entry e (y 0).val (y 1).val := by
  pointwise []
  rw [← entry_eq e y rfl rfl]
  exact (add_comm _ _).trans (congrArg (fun u : EReal => u + e y) (sum_fin _ _ fun r => (by rw [entry_eq a _ rfl rfl, entry_eq b _ rfl rfl]; rfl)))

/-- From memories agreeing on the arguments, the kernel's result is the reference's. -/
theorem equal : algebraic_S5YAddIdeal_S5YAddRefIdeal (hS5YAddIdeal := S5YAddIdeal.Gen.facts)
    (hS5YAddRefIdeal := S5YAddRefIdeal.Gen.facts) := fun m ρ m' ρ' _ hagree => by
  refine ⟨fun c => (dats m 0 c).arrAt 3 cfg0.N, run_blocks m ρ, (S5YAddRefIdeal.Value.run m' ρ').mono fun _ h c => ⟨(h c).1.trans ?_, (h c).2⟩⟩
  obtain ⟨e0, e1, e2⟩ := hagree c
  rw [e0, e1, e2]
  refine Eq.trans ?_ (array_eq m c).symm
  funext y
  refine (ref_apply _ _ _ y).trans ?_
  unfold product
  rw [lhs_eq, rhs_eq, added_eq]

end Cert.S5YAddP

end
-- ==== Proof.S5Dc.lean ====
/- The gradient of the weights that leave the S5 recurrence: the launch's blocks, the array it leaves, and the reference's equation. -/
module

public import proofs.«01_k».proof.Proof.Runs
public import proofs.«01_k».proof.Proof.Gen.S5DcIdeal.Value
public import proofs.«01_k».proof.Proof.Gen.S5DcRefIdeal.Run

@[expose] public section

set_option maxRecDepth 16384

noncomputable section

namespace Cert.S5DcP

open Idealize.ShloMosaic Idealize.ShloMosaic.TcCoe Idealize.SL.Sem
open Cert.S5DcIdeal S5DcIdeal.Gen S5DcIdeal.Value Products

/-! ## What the array holds -/

theorem index0_0 : ∀ t : Fin grid0.N, win0_0.index t = ![t.val % 2, t.val / 2] := by decide +kernel
theorem index0_1 : ∀ t : Fin grid0.N, win0_1.index t = ![t.val % 2, 0] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S4096x512.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S1024x512.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (1024 * q + (y 0).val) (y 1).val (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]; simp; omega))
    (entry_eq (rhs m c) ((win0_1.blk ⟨2 * q + j, h⟩).view.emb _) (by blk_simp [index0_1]; simp; omega) (by blk_simp [index0_1]))

/-- The block the last point of run `q` writes. -/
theorem out_apply (q : ℕ) (h : 2 * q + 1 < cfg0.N) (y : S1024x512.Idx) :
    (outsAt0 m c (2 * q + 1) h).1 y
      = ∑ r ∈ Finset.range 4096, term m c (1024 * q + (y 0).val) (y 1).val r := by
  have hN : 2 * q + 1 < 4 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S2048x512.Idx) :
    (G2 m c i : EReal) = ∑ r ∈ Finset.range 4096, term m c (i 0).val (i 1).val r := by
  have hi0 : (i 0).val < 2048 := (i 0).isLt
  have hi1 : (i 1).val < 512 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : 1024 * run2Of i + (i 0).val % 1024 = (i 0).val := by unfold run2Of; omega
  have e1 : (i 1).val % 512 = (i 1).val := by omega
  exact congrArg₂ (fun a b => ∑ r ∈ Finset.range 4096, term m c a b r) e0 e1

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's gradient, entry by entry. -/
theorem ref_apply (a : FVec Ideal S4096x2048 .f32) (b : FVec Ideal S4096x512 .f32) (y : S2048x512.Idx) :
    (transpose S2048x512 [1, 0] (Host.dotGeneral S5DcRefIdeal.dot_S4096x512_S4096x2048_S512x2048_0_0_1_1_n_n none b a) S5DcRefIdeal.Gen.transposes_S512x2048_S2048x512_1_0 : FVec Ideal S2048x512 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_S5DcIdeal_S5DcRefIdeal (hS5DcIdeal := S5DcIdeal.Gen.facts)
    (hS5DcRefIdeal := S5DcRefIdeal.Gen.facts) := fun m ρ m' ρ' _ hagree => by
  refine ⟨fun c => G2 m c, run m ρ, (S5DcRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.S5DcP

end
-- ==== Proof.S5Du.lean ====
/- The gradient of the S5 recurrence's input from one part, added to what came before: the launch's blocks, the array it leaves, and the reference's equation. -/
module

public import proofs.«01_k».proof.Proof.Products
public import proofs.«01_k».proof.Proof.Gen.S5DuIdeal.Value
public import proofs.«01_k».proof.Proof.Gen.S5DuRefIdeal.Run

@[expose] public section

set_option maxRecDepth 16384

noncomputable section

namespace Cert.S5DuP

open Idealize.ShloMosaic Idealize.ShloMosaic.TcCoe Idealize.SL.Sem
open Cert.S5DuIdeal S5DuIdeal.Gen S5DuIdeal.Value Products

/-! ## What the array holds -/

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![t.val, 0] := by decide +kernel
theorem index0_3 : ∀ t : Fin grid0.N, win0_3.index t = ![t.val, 0] := by decide +kernel

section Array

variable (m : (ℓ : Loc nD τ sig) → Buf (Elt Ideal) ℓ) (c : Dev nD)

/-- The left array the launch reads. -/
abbrev lhs : S4096x2048.Idx → EReal := V m c (Pipeline.arrRef spec0 0)
/-- The right array the launch reads. -/
abbrev rhs : S512x2048.Idx → EReal := V m c (Pipeline.arrRef spec0 1)
/-- The array added to the product. -/
abbrev added : S4096x512.Idx → EReal := V m c (Pipeline.arrRef spec0 2)

/-- The array the launch leaves: the product of the left array and the transposed right array plus the added array. -/
def product (i : S4096x512.Idx) : EReal :=
  (∑ r ∈ Finset.range 2048, entry (lhs m c) ((i 0).val) r * entry (rhs m c) ((i 1).val) r) + entry (added m c) ((i 0).val) ((i 1).val)

theorem array_eq : (dats m 0 c).arrAt 3 cfg0.N = product m c := by
  refine (dats m 0 c).arrAt_eq_of_covers 3 _ (by decide +kernel) fun t _ y => ?_
  have hN : t.val < 4 := lt_of_lt_of_eq t.isLt N_0
  have e0 : ((win0_3.blk t).view.emb y 0).val = 1024 * t.val + (y 0).val := by blk_simp [index0_3]; simp; omega
  have e1 : ((win0_3.blk t).view.emb y 1).val = (y 1).val := by blk_simp [index0_3]
  have e : product m c ((win0_3.blk t).view.emb y) = HAdd.hAdd (α := EReal) (∑ r : Fin 2048, Mul.mul (α := EReal) (iblk m c 0 t (ix2 (y 0) r)) (iblk m c 1 t (ix2 (y 1) r))) (iblk m c 2 t y) := by
    unfold product
    rw [e0, e1]
    exact (congrArg₂ (fun u v : EReal => u + v) (sum_fin _ _ fun r => congrArg₂ (fun u v : EReal => u * v)
      (entry_eq (lhs m c) ((win0_0.blk t).view.emb _) (by blk_simp [index0_0]; simp; omega) (by blk_simp [index0_0]))
      (entry_eq (rhs m c) ((win0_1.blk t).view.emb _) (by blk_simp [index0_1]) (by blk_simp [index0_1])))
      (entry_eq (added m c) ((win0_2.blk t).view.emb y) (by blk_simp [index0_2]; simp; omega) (by blk_simp [index0_2]))).symm
  blk_simp
  rw [after0_3]
  unfold outsAt0
  frame_out
  pointwise [k0_pay1]
  exact e.symm

/-! ## The arrays the host hands the launch -/

/-- The left array is the second argument. -/
theorem lhs_eq : lhs m c = m ((c : Thread nD τ).loc main_arg1) := V_main_arg1 m c

/-- The right array is the first argument. -/
theorem rhs_eq : rhs m c = m ((c : Thread nD τ).loc main_arg0) := V_main_arg0 m c

/-- The added array is the third argument. -/
theorem added_eq : added m c = m ((c : Thread nD τ).loc main_arg2) := V_main_arg2 m c

end Array

/-! ## What the reference computes, and the equation -/

/-- The reference's sum, entry by entry. -/
theorem ref_apply (a : FVec Ideal S4096x2048 .f32) (b : FVec Ideal S512x2048 .f32) (e : FVec Ideal S4096x512 .f32) (y : S4096x512.Idx) :
    (addf e (Host.dotGeneral S5DuRefIdeal.dot_S4096x2048_S512x2048_S4096x512_1_1_0_0_n_n none a b) : FVec Ideal S4096x512 .f32) y
      = (∑ r ∈ Finset.range 2048, entry a (y 0).val r * entry b (y 1).val r) + entry e (y 0).val (y 1).val := by
  pointwise []
  rw [← entry_eq e y rfl rfl]
  exact (add_comm _ _).trans (congrArg (fun u : EReal => u + e y) (sum_fin _ _ fun r => (by rw [entry_eq a _ rfl rfl, entry_eq b _ rfl rfl]; rfl)))

/-- From memories agreeing on the arguments, the kernel's result is the reference's. -/
theorem equal : algebraic_S5DuIdeal_S5DuRefIdeal (hS5DuIdeal := S5DuIdeal.Gen.facts)
    (hS5DuRefIdeal := S5DuRefIdeal.Gen.facts) := fun m ρ m' ρ' _ hagree => by
  refine ⟨fun c => (dats m 0 c).arrAt 3 cfg0.N, run_blocks m ρ, (S5DuRefIdeal.Value.run m' ρ').mono fun _ h c => ⟨(h c).1.trans ?_, (h c).2⟩⟩
  obtain ⟨e0, e1, e2⟩ := hagree c
  rw [e0, e1, e2]
  refine Eq.trans ?_ (array_eq m c).symm
  funext y
  refine (ref_apply _ _ _ y).trans ?_
  unfold product
  rw [lhs_eq, rhs_eq, added_eq]

end Cert.S5DuP

end
-- ==== Proof.S5Db.lean ====
/- The gradient of the weights that enter the S5 recurrence: the launch's blocks, the array it leaves, and the reference's equation. -/
module

public import proofs.«01_k».proof.Proof.Runs
public import proofs.«01_k».proof.Proof.Gen.S5DbIdeal.Value
public import proofs.«01_k».proof.Proof.Gen.S5DbRefIdeal.Run

@[expose] public section

set_option maxRecDepth 16384

noncomputable section

namespace Cert.S5DbP

open Idealize.ShloMosaic Idealize.ShloMosaic.TcCoe Idealize.SL.Sem
open Cert.S5DbIdeal S5DbIdeal.Gen S5DbIdeal.Value Products

/-! ## What the array holds -/

theorem index0_0 : ∀ t : Fin grid0.N, win0_0.index t = ![t.val % 2, 0] := by decide +kernel
theorem index0_1 : ∀ t : Fin grid0.N, win0_1.index t = ![t.val % 2, t.val / 2] := by decide +kernel

section Array

variable (m : (ℓ : Loc nD τ sig) → Buf (Elt Ideal) ℓ) (c : Dev nD)

/-- The left array the launch reads. -/
abbrev lhs : S4096x512.Idx → EReal := V m c (Pipeline.arrRef spec0 0)
/-- The right array the launch reads. -/
abbrev rhs : S4096x2048.Idx → EReal := V m c (Pipeline.arrRef spec0 1)

/-- The `r`-th term of the entry in row `a` and column `b` of the product. -/
def term (a b r : ℕ) : EReal := entry (lhs m c) r a * entry (rhs m c) r b

/-- The product of the two blocks at point `j` of run `q` is the `j`-th piece of the sum. -/
theorem piece (q j : ℕ) (hj : j < 2) (h : 2 * q + j < cfg0.N) (y : S512x1024.Idx) :
    ∑ r : Fin 2048, Mul.mul (α := EReal) (iblk m c 0 ⟨2 * q + j, h⟩ (ix2 r (y 0))) (iblk m c 1 ⟨2 * q + j, h⟩ (ix2 r (y 1)))
      = ∑ r ∈ Finset.range 2048, term m c (y 0).val (1024 * q + (y 1).val) (2048 * j + r) :=
  have hN := lt_of_lt_of_eq h N_0
  sum_fin _ _ fun r => congrArg₂ (fun u v : EReal => u * v)
    (entry_eq (lhs m c) ((win0_0.blk ⟨2 * q + j, h⟩).view.emb _) (by blk_simp [index0_0]; simp; omega) (by blk_simp [index0_0]))
    (entry_eq (rhs m c) ((win0_1.blk ⟨2 * q + j, h⟩).view.emb _) (by blk_simp [index0_1]; simp; omega) (by blk_simp [index0_1]; simp; omega))

/-- The block the last point of run `q` writes. -/
theorem out_apply (q : ℕ) (h : 2 * q + 1 < cfg0.N) (y : S512x1024.Idx) :
    (outsAt0 m c (2 * q + 1) h).1 y
      = ∑ r ∈ Finset.range 4096, term m c (y 0).val (1024 * q + (y 1).val) r := by
  have hN : 2 * q + 1 < 4 := lt_of_lt_of_eq h N_0
  refine run_sum 2048 0 _ (fun j h => (outsAt0 m c (2 * q + j) h).2 y) h (fun h => ?_) (fun _ _ _ hj => absurd hj (Nat.not_lt_zero _)) fun _ => ?_ <;> dsimp only
  · rw [outsAt0_A m c ⟨2 * q + 0, h⟩ (by dsimp only; omega) (by dsimp only; omega), ← piece m c q 0 (by omega) h y]
    frame_out
    pointwise [k0_pay1]
    rfl
  · rw [outsAt0_B m c ⟨2 * q + 1, h⟩ (by dsimp only; omega) (by dsimp only; omega), ← piece m c q 1 (by omega) h y]
    frame_out
    pointwise [k0_pay3]
    exact congrArg (· + _) (congrFun (Memref.IsWhole.read_unread _ _) y)

/-- The array the launch leaves: the product of the transposed left array and the right array. -/
theorem array_apply (i : S512x2048.Idx) :
    (G2 m c i : EReal) = ∑ r ∈ Finset.range 4096, term m c (i 0).val (i 1).val r := by
  have hi0 : (i 0).val < 512 := (i 0).isLt
  have hi1 : (i 1).val < 2048 := (i 1).isLt
  have h : pt2Of i < cfg0.N := lt_of_lt_of_eq (by unfold pt2Of run2Of; omega) N_0.symm
  unfold G2
  rw [dif_pos h, ← outsAt0_sweep m c _ h]
  refine (out_apply m c (run2Of i) h (loc2Of i)).trans ?_
  have e0 : (i 0).val % 512 = (i 0).val := by omega
  have e1 : 1024 * run2Of i + (i 1).val % 1024 = (i 1).val := by unfold run2Of; omega
  exact congrArg₂ (fun a b => ∑ r ∈ Finset.range 4096, term m c a b r) e0 e1

/-! ## The arrays the host hands the launch -/

/-- The left array is the first argument. -/
theorem lhs_eq : lhs m c = m ((c : Thread nD τ).loc main_arg0) := V_main_arg0 m c

/-- The right array is the second argument. -/
theorem rhs_eq : rhs m c = m ((c : Thread nD τ).loc main_arg1) := V_main_arg1 m c

end Array

/-! ## What the reference computes, and the equation -/

/-- The reference's gradient, entry by entry. -/
theorem ref_apply (a : FVec Ideal S4096x512 .f32) (b : FVec Ideal S4096x2048 .f32) (y : S512x2048.Idx) :
    (transpose S512x2048 [1, 0] (Host.dotGeneral S5DbRefIdeal.dot_S4096x2048_S4096x512_S2048x512_0_0_1_1_n_n none b a) S5DbRefIdeal.Gen.transposes_S2048x512_S512x2048_1_0 : FVec Ideal S512x2048 .f32) y
      = ∑ r ∈ Finset.range 4096, entry a r (y 0).val * entry b r (y 1).val := by
  pointwise []
  exact sum_fin _ _ fun r => (mul_comm _ _).trans (by rw [entry_eq a _ rfl rfl, entry_eq b _ rfl rfl]; rfl)

/-- From memories agreeing on the arguments, the kernel's result is the reference's. -/
theorem equal : algebraic_S5DbIdeal_S5DbRefIdeal (hS5DbIdeal := S5DbIdeal.Gen.facts)
    (hS5DbRefIdeal := S5DbRefIdeal.Gen.facts) := fun m ρ m' ρ' _ hagree => by
  refine ⟨fun c => G2 m c, run m ρ, (S5DbRefIdeal.Value.run m' ρ').mono fun _ h c => ⟨(h c).1.trans ?_, (h c).2⟩⟩
  obtain ⟨e0, e1⟩ := hagree c
  rw [e0, e1]
  funext y
  refine (ref_apply _ _ y).trans ((array_apply m c y).trans ?_).symm
  unfold term
  rw [lhs_eq, rhs_eq]

end Cert.S5DbP

end
-- ==== Proof.S5PostBwd.lean ====
/- The gradient of the gated linear unit of the S5 mixer: the arrays the launch leaves and the reference's equation. -/
module

public import proofs.«01_k».proof.Proof.GeluGateBwd
public import proofs.«01_k».proof.Proof.Gen.S5PostBwdIdeal.Value
public import proofs.«01_k».proof.Proof.Gen.S5PostBwdRefIdeal.Run

@[expose] public section

set_option maxRecDepth 16384

noncomputable section

namespace Cert.S5PostB

open Idealize.ShloMosaic Idealize.ShloMosaic.TcCoe Idealize.SL.Sem
open Cert.S5PostBwdIdeal S5PostBwdIdeal.Gen S5PostBwdIdeal.Value Products
open Cert.GeluB (co th half dgate th_eq)

/-! ## The formulas of one row -/

section Row

variable (x u d b g : Fin 512 → EReal) (w : Fin 512 → Fin 512 → EReal) (k : Fin 512)

/-- The row that enters the error unit. -/
def lin : EReal := x k + d k * u k
/-- The error unit's result. -/
def act : EReal := lin x u d k * half (lin x u d k)
/-- The gate. -/
def gate : EReal := Ideal.logistic ((∑ r, act x u d r * w r k) + b k)
/-- The gradient of the gate's argument. -/
def dz : EReal := act x u d k * g k * (gate x u d b w k * (1 - gate x u d b w k))
/-- The gradient of the error unit's result. -/
def dact : EReal := g k * gate x u d b w k + ∑ j, dz x u d b g w j * w k j
/-- The gradient of the row that enters the error unit. -/
def dlin : EReal := dgate 1 (lin x u d k) (dact x u d b g w k)

end Row

/-! ## What one grid point computes -/

section Point

variable (x0 x1 : Vec Ideal S256x512 .f32) (x2 : Vec Ideal S1x512 .f32) (x3 : Vec Ideal S512x512 .f32) (x4 : Vec Ideal S1x512 .f32)
  (x5 : Vec Ideal S256x512 .f32)

/-- What the point writes to the first two results. -/
def pay6 : Vec Ideal S256x512 .f32 :=
  k0_pay17 (k0_pay3 x0 x1 x2) (k0_pay4 x0 x1 x2) (k0_pay6 x0 x1 x2) (k0_pay7 x0 x1 x2) (k0_pay8 x0 x1 x2) (k0_pay10 x3)
    (k0_pay11 x0 x1 x2 x3 x4) (k0_pay12 x0 x1 x2 x3 x4) x5
@[inherit_doc pay6]
def pay7 : Vec Ideal S256x512 .f32 :=
  k0_pay18 x2 (k0_pay3 x0 x1 x2) (k0_pay4 x0 x1 x2) (k0_pay6 x0 x1 x2) (k0_pay7 x0 x1 x2) (k0_pay8 x0 x1 x2) (k0_pay10 x3)
    (k0_pay11 x0 x1 x2 x3 x4) (k0_pay12 x0 x1 x2 x3 x4) x5
/-- What the point makes of the three sums over rows. -/
def pay8 (o : Vec Ideal S1x512 .f32) : Vec Ideal S1x512 .f32 :=
  k0_pay22 x1 (k0_pay3 x0 x1 x2) (k0_pay4 x0 x1 x2) (k0_pay6 x0 x1 x2) (k0_pay7 x0 x1 x2) (k0_pay8 x0 x1 x2) (k0_pay10 x3)
    (k0_pay11 x0 x1 x2 x3 x4) (k0_pay12 x0 x1 x2 x3 x4) x5 o
@[inherit_doc pay8]
def pay9 (o : Vec Ideal S512x512 .f32) : Vec Ideal S512x512 .f32 :=
  k0_pay1 (k0_pay16 (k0_pay8 x0 x1 x2) (k0_pay9 x0 x1 x2) (k0_pay12 x0 x1 x2 x3 x4) x5) o
@[inherit_doc pay8]
def pay10 (o : Vec Ideal S1x512 .f32) : Vec Ideal S1x512 .f32 :=
  k0_pay2 (k0_pay15 (k0_pay8 x0 x1 x2) (k0_pay12 x0 x1 x2 x3 x4) x5) o

variable (a : Fin 256) (k : Fin 512)

/-- The row `a` of a block. -/
abbrev brow (x : Vec Ideal S256x512 .f32) : Fin 512 → EReal := fun k => x (ix2 a k)
/-- The row of a block of one row. -/
abbrev one (x : Vec Ideal S1x512 .f32) : Fin 512 → EReal := fun k => x (ix2 0 k)

theorem pay6_apply : pay6 x0 x1 x2 x3 x4 x5 (ix2 a k)
    = dlin (brow a x0) (brow a x1) (one x2) (one x4) (brow a x5) (fun r k => x3 (ix2 r k)) k := by
  pointwise [pay6, k0_pay3, k0_pay4, k0_pay5, k0_pay6, k0_pay7, k0_pay8, k0_pay9, k0_pay10, k0_pay11, k0_pay12, k0_pay13, k0_pay14, k0_pay17]
  unfold dlin dgate GeluB.inner
  simp only [one_mul]
  rfl

theorem pay7_apply : pay7 x0 x1 x2 x3 x4 x5 (ix2 a k) = x2 (ix2 0 k) * pay6 x0 x1 x2 x3 x4 x5 (ix2 a k) := by
  unfold pay7 k0_pay18
  pointwise []
  rfl

theorem pay8_apply (o : Vec Ideal S1x512 .f32) : pay8 x0 x1 x2 x3 x4 x5 o (ix2 0 k)
    = o (ix2 0 k) + ∑ a : Fin 256, pay6 x0 x1 x2 x3 x4 x5 (ix2 a k) * x1 (ix2 a k) := by
  unfold pay8 k0_pay22
  pointwise []
  rfl

theorem pay9_apply (o : Vec Ideal S512x512 .f32) (j : Fin 512) : pay9 x0 x1 x2 x3 x4 x5 o (ix2 j k)
    = o (ix2 j k) + ∑ a : Fin 256, dz (brow a x0) (brow a x1) (one x2) (one x4) (brow a x5) (fun r k => x3 (ix2 r k)) k
        * act (brow a x0) (brow a x1) (one x2) j := by
  pointwise [pay9, k0_pay1, k0_pay3, k0_pay5, k0_pay7, k0_pay8, k0_pay9, k0_pay10, k0_pay11, k0_pay12, k0_pay13, k0_pay14, k0_pay16]
  rfl

theorem pay10_apply (o : Vec Ideal S1x512 .f32) : pay10 x0 x1 x2 x3 x4 x5 o (ix2 0 k)
    = o (ix2 0 k) + ∑ a : Fin 256, dz (brow a x0) (brow a x1) (one x2) (one x4) (brow a x5) (fun r k => x3 (ix2 r k)) k := by
  pointwise [pay10, k0_pay2, k0_pay3, k0_pay5, k0_pay7, k0_pay8, k0_pay9, k0_pay10, k0_pay11, k0_pay12, k0_pay13, k0_pay14, k0_pay15]
  rfl

end Point

/-! ## What the arrays hold -/

theorem index0_0 : ∀ t : Fin grid0.N, win0_0.index t = ![t.val, 0] := by decide +kernel
theorem index0_1 : ∀ t : Fin grid0.N, win0_1.index t = ![t.val, 0] := by decide +kernel
theorem index0_2 : ∀ t : Fin grid0.N, win0_2.index t = ![0, 0] := by decide +kernel
theorem index0_3 : ∀ t : Fin grid0.N, win0_3.index t = ![0, 0] := by decide +kernel
theorem index0_4 : ∀ t : Fin grid0.N, win0_4.index t = ![0, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![t.val, 0] := by decide +kernel
theorem index0_8 : ∀ t : Fin grid0.N, win0_8.index t = ![0, 0] := by decide +kernel
theorem index0_9 : ∀ t : Fin grid0.N, win0_9.index t = ![0, 0] := by decide +kernel
theorem index0_10 : ∀ t : Fin grid0.N, win0_10.index t = ![0, 0] := by decide +kernel
/-- The sums over rows are written back after the last point only. -/
theorem flush8 : ∀ t : Fin cfg0.N, (cfg0.win 8).flush t = true → t.val = 15 := by decide +kernel
theorem flush9 : ∀ t : Fin cfg0.N, (cfg0.win 9).flush t = true → t.val = 15 := by decide +kernel
theorem flush10 : ∀ t : Fin cfg0.N, (cfg0.win 10).flush t = true → t.val = 15 := by decide +kernel

/-- A sum carried from point to point. -/
theorem carried {N : ℕ} (f : (j : ℕ) → j < N → EReal) (s : ℕ → EReal) (h0 : ∀ h, f 0 h = s 0)
    (hs : ∀ j h, f (j + 1) h = f j (Nat.lt_of_succ_lt h) + s (j + 1)) : ∀ j h, f j h = ∑ i ∈ Finset.range (j + 1), s i
  | 0, h => by rw [h0, Finset.sum_range_one]
  | j + 1, h => by rw [hs, carried f s h0 hs j, Finset.sum_range_succ _ (j + 1)]

section Array

variable (m : (ℓ : Loc nD τ sig) → Buf (Elt Ideal) ℓ) (c : Dev nD)

/-- The states' output. -/
abbrev ylin : S4096x512.Idx → EReal := m ((c : Thread nD τ).loc main_arg0)
/-- The mixer's input. -/
abbrev inp : S4096x512.Idx → EReal := m ((c : Thread nD τ).loc main_arg1)
/-- The weight of the input that bypasses the states. -/
abbrev skip : S1x512.Idx → EReal := m ((c : Thread nD τ).loc main_arg2)
/-- The gate's weights. -/
abbrev gw : S512x512.Idx → EReal := m ((c : Thread nD τ).loc main_arg3)
/-- The gate's bias. -/
abbrev gb : S1x512.Idx → EReal := m ((c : Thread nD τ).loc main_arg4)
/-- The gradient of the result. -/
abbrev grad : S4096x512.Idx → EReal := m ((c : Thread nD τ).loc main_arg5)

/-- Row `i` of an array. -/
def row {n : ℕ} (X : (⟨2, ![n, 512]⟩ : Shape).Idx → EReal) (i : ℕ) : Fin 512 → EReal := fun k => entry X i k.val

theorem row_eq {n : ℕ} (X : (⟨2, ![n, 512]⟩ : Shape).Idx → EReal) (a : Fin n) : (fun k => X (ix2 a k)) = row X a.val :=
  funext fun _ => entry_eq X _ rfl rfl

theorem block0 (t : Fin cfg0.N) (a : Fin 256) : brow a (iblk m c 0 t) = row (ylin m c) (256 * t.val + a.val) := funext fun k => by
  have e0 : ((win0_0.blk t).view.emb (ix2 a k) 0).val = 256 * t.val + a.val := by blk_simp [index0_0]; simp; omega
  have e1 : ((win0_0.blk t).view.emb (ix2 a k) 1).val = k.val := by blk_simp [index0_0]
  exact entry_eq (ylin m c) ((win0_0.blk t).view.emb (ix2 a k)) e0 e1

theorem block1 (t : Fin cfg0.N) (a : Fin 256) : brow a (iblk m c 1 t) = row (inp m c) (256 * t.val + a.val) := funext fun k => by
  have e0 : ((win0_1.blk t).view.emb (ix2 a k) 0).val = 256 * t.val + a.val := by blk_simp [index0_1]; simp; omega
  have e1 : ((win0_1.blk t).view.emb (ix2 a k) 1).val = k.val := by blk_simp [index0_1]
  exact entry_eq (inp m c) ((win0_1.blk t).view.emb (ix2 a k)) e0 e1

theorem block5 (t : Fin cfg0.N) (a : Fin 256) : brow a (iblk m c 5 t) = row (grad m c) (256 * t.val + a.val) := funext fun k => by
  have e0 : ((win0_5.blk t).view.emb (ix2 a k) 0).val = 256 * t.val + a.val := by blk_simp [index0_5]; simp; omega
  have e1 : ((win0_5.blk t).view.emb (ix2 a k) 1).val = k.val := by blk_simp [index0_5]
  exact entry_eq (grad m c) ((win0_5.blk t).view.emb (ix2 a k)) e0 e1

theorem block2 (t : Fin cfg0.N) : iblk m c 2 t = skip m c :=
  funext fun y => congrArg (skip m c) (funext fun a => Fin.ext (by fin_cases a <;> blk_simp [index0_2]))

theorem block3 (t : Fin cfg0.N) : iblk m c 3 t = gw m c :=
  funext fun y => congrArg (gw m c) (funext fun a => Fin.ext (by fin_cases a <;> blk_simp [index0_3]))

theorem block4 (t : Fin cfg0.N) : iblk m c 4 t = gb m c :=
  funext fun y => congrArg (gb m c) (funext fun a => Fin.ext (by fin_cases a <;> blk_simp [index0_4]))

/-- The gradient of the row `i` that enters the error unit. -/
def drow (i : ℕ) : Fin 512 → EReal :=
  dlin (row (ylin m c) i) (row (inp m c) i) (one (skip m c)) (one (gb m c)) (row (grad m c) i) (fun r k => gw m c (ix2 r k))
/-- The gradient of the gate's argument in row `i`. -/
def dgate' (i : ℕ) : Fin 512 → EReal :=
  dz (row (ylin m c) i) (row (inp m c) i) (one (skip m c)) (one (gb m c)) (row (grad m c) i) (fun r k => gw m c (ix2 r k))

theorem row_block (t : Fin cfg0.N) (a : Fin 256) (k : Fin 512) :
    pay6 (iblk m c 0 t) (iblk m c 1 t) (iblk m c 2 t) (iblk m c 3 t) (iblk m c 4 t) (iblk m c 5 t) (ix2 a k) = drow m c (256 * t.val + a.val) k := by
  rw [pay6_apply, block0, block1, block2, block3, block4, block5]
  rfl

theorem point6 (t : Fin cfg0.N) : (outsAt0 m c t.val t.isLt).1
    = pay6 (iblk m c 0 t) (iblk m c 1 t) (iblk m c 2 t) (iblk m c 3 t) (iblk m c 4 t) (iblk m c 5 t) := by
  by_cases h : t.val % 16 = 0
  · rw [congrArg Prod.fst (outsAt0_A m c t h)]
    dsimp only
    frame_out
    rfl
  · rw [congrArg Prod.fst (outsAt0_B m c t h)]
    dsimp only
    frame_out
    rfl

theorem point7 (t : Fin cfg0.N) : (outsAt0 m c t.val t.isLt).2.1
    = pay7 (iblk m c 0 t) (iblk m c 1 t) (iblk m c 2 t) (iblk m c 3 t) (iblk m c 4 t) (iblk m c 5 t) := by
  by_cases h : t.val % 16 = 0
  · rw [congrArg (fun p => p.2.1) (outsAt0_A m c t h)]
    dsimp only
    frame_out
    rfl
  · rw [congrArg (fun p => p.2.1) (outsAt0_B m c t h)]
    dsimp only
    frame_out
    rfl

theorem acc8 (k : Fin 512) (n : ℕ) (h : n < cfg0.N) : (outsAt0 m c n h).2.2.1 (ix2 0 k)
    = ∑ s ∈ Finset.range (n + 1), ∑ a : Fin 256, drow m c (256 * s + a.val) k * row (inp m c) (256 * s + a.val) k := by
  have p (t : Fin cfg0.N) (o : Vec Ideal S1x512 .f32) : pay8 (iblk m c 0 t) (iblk m c 1 t) (iblk m c 2 t) (iblk m c 3 t) (iblk m c 4 t) (iblk m c 5 t) o (ix2 0 k)
      = o (ix2 0 k) + ∑ a : Fin 256, drow m c (256 * t.val + a.val) k * row (inp m c) (256 * t.val + a.val) k := by
    rw [pay8_apply]
    refine congrArg (o (ix2 0 k) + ·) (Finset.sum_congr rfl fun a _ => ?_)
    rw [row_block]
    exact congrArg (drow m c (256 * t.val + a.val) k * ·) (congrFun (block1 m c t a) k)
  refine carried (fun n h => (outsAt0 m c n h).2.2.1 (ix2 0 k)) _ (fun h => ?_) (fun n h => ?_) n h
  · rw [congrArg (fun p => p.2.2.1) (outsAt0_A m c ⟨0, h⟩ (Nat.zero_mod _))]
    dsimp only
    refine (congrFun (?_ : _ = pay8 _ _ _ _ _ _ (k0_pay19 (F := Ideal))) _).trans ((p ⟨0, h⟩ _).trans ?_)
    · frame_out
      rfl
    · pointwise [k0_pay19]
  · have hN : n + 1 < 16 := lt_of_lt_of_eq h N_0
    rw [congrArg (fun p => p.2.2.1) (outsAt0_B m c ⟨n + 1, h⟩ (by dsimp only; omega))]
    dsimp only
    refine (congrFun (?_ : _ = pay8 _ _ _ _ _ _ _) _).trans (p ⟨n + 1, h⟩ _)
    frame_out
    rfl

theorem acc9 (j k : Fin 512) (n : ℕ) (h : n < cfg0.N) : (outsAt0 m c n h).2.2.2.1 (ix2 j k)
    = ∑ s ∈ Finset.range (n + 1), ∑ a : Fin 256, dgate' m c (256 * s + a.val) k * act (row (ylin m c) (256 * s + a.val)) (row (inp m c) (256 * s + a.val)) (one (skip m c)) j := by
  have p (t : Fin cfg0.N) (o : Vec Ideal S512x512 .f32) : pay9 (iblk m c 0 t) (iblk m c 1 t) (iblk m c 2 t) (iblk m c 3 t) (iblk m c 4 t) (iblk m c 5 t) o (ix2 j k)
      = o (ix2 j k) + ∑ a : Fin 256, dgate' m c (256 * t.val + a.val) k * act (row (ylin m c) (256 * t.val + a.val)) (row (inp m c) (256 * t.val + a.val)) (one (skip m c)) j := by
    rw [pay9_apply]
    refine congrArg (o (ix2 j k) + ·) (Finset.sum_congr rfl fun a _ => ?_)
    rw [block0, block1, block2, block3, block4, block5]
    rfl
  refine carried (fun n h => (outsAt0 m c n h).2.2.2.1 (ix2 j k)) _ (fun h => ?_) (fun n h => ?_) n h
  · rw [congrArg (fun p => p.2.2.2.1) (outsAt0_A m c ⟨0, h⟩ (Nat.zero_mod _))]
    dsimp only
    refine (congrFun (?_ : _ = pay9 _ _ _ _ _ _ (k0_pay20 (F := Ideal))) _).trans ((p ⟨0, h⟩ _).trans ?_)
    · frame_out
      rfl
    · pointwise [k0_pay20]
  · have hN : n + 1 < 16 := lt_of_lt_of_eq h N_0
    rw [congrArg (fun p => p.2.2.2.1) (outsAt0_B m c ⟨n + 1, h⟩ (by dsimp only; omega))]
    dsimp only
    refine (congrFun (?_ : _ = pay9 _ _ _ _ _ _ _) _).trans (p ⟨n + 1, h⟩ _)
    frame_out
    rfl

theorem acc10 (k : Fin 512) (n : ℕ) (h : n < cfg0.N) : (outsAt0 m c n h).2.2.2.2 (ix2 0 k)
    = ∑ s ∈ Finset.range (n + 1), ∑ a : Fin 256, dgate' m c (256 * s + a.val) k := by
  have p (t : Fin cfg0.N) (o : Vec Ideal S1x512 .f32) : pay10 (iblk m c 0 t) (iblk m c 1 t) (iblk m c 2 t) (iblk m c 3 t) (iblk m c 4 t) (iblk m c 5 t) o (ix2 0 k)
      = o (ix2 0 k) + ∑ a : Fin 256, dgate' m c (256 * t.val + a.val) k := by
    rw [pay10_apply]
    refine congrArg (o (ix2 0 k) + ·) (Finset.sum_congr rfl fun a _ => ?_)
    rw [block0, block1, block2, block3, block4, block5]
    rfl
  refine carried (fun n h => (outsAt0 m c n h).2.2.2.2 (ix2 0 k)) _ (fun h => ?_) (fun n h => ?_) n h
  · rw [congrArg (fun p => p.2.2.2.2) (outsAt0_A m c ⟨0, h⟩ (Nat.zero_mod _))]
    dsimp only
    refine (congrFun (?_ : _ = pay10 _ _ _ _ _ _ (k0_pay21 (F := Ideal))) _).trans ((p ⟨0, h⟩ _).trans ?_)
    · frame_out
      rfl
    · pointwise [k0_pay21]
  · have hN : n + 1 < 16 := lt_of_lt_of_eq h N_0
    rw [congrArg (fun p => p.2.2.2.2) (outsAt0_B m c ⟨n + 1, h⟩ (by dsimp only; omega))]
    dsimp only
    refine (congrFun (?_ : _ = pay10 _ _ _ _ _ _ _) _).trans (p ⟨n + 1, h⟩ _)
    frame_out
    rfl

/-- The first result the launch leaves. -/
def out6 (i : S4096x512.Idx) : EReal := drow m c (i 0).val (i 1)

theorem array6 : (dats m 0 c).arrAt 6 cfg0.N = out6 m c := by
  refine (dats m 0 c).arrAt_eq_of_covers 6 _ (by decide +kernel) fun t _ y => ?_
  blk_simp
  rw [after0_6, point6]
  have e0 : ((win0_6.blk t).view.emb y 0).val = 256 * t.val + (y 0).val := by blk_simp [index0_6]; simp; omega
  have e1 : (win0_6.blk t).view.emb y 1 = y 1 := Fin.ext (by blk_simp [index0_6])
  unfold out6
  rw [e0, e1]
  exact (congrArg _ (eq_ix2 y)).trans (row_block m c t (y 0) (y 1))

/-- The second result the launch leaves. -/
def out7 (i : S4096x512.Idx) : EReal := skip m c (ix2 0 (i 1)) * drow m c (i 0).val (i 1)

theorem array7 : (dats m 0 c).arrAt 7 cfg0.N = out7 m c := by
  refine (dats m 0 c).arrAt_eq_of_covers 7 _ (by decide +kernel) fun t _ y => ?_
  blk_simp
  rw [after0_7, point7]
  have e0 : ((win0_7.blk t).view.emb y 0).val = 256 * t.val + (y 0).val := by blk_simp [index0_7]; simp; omega
  have e1 : (win0_7.blk t).view.emb y 1 = y 1 := Fin.ext (by blk_simp [index0_7])
  unfold out7
  rw [e0, e1]
  refine (congrArg _ (eq_ix2 y)).trans ((pay7_apply _ _ _ _ _ _ (y 0) (y 1)).trans ?_)
  rw [block2]
  exact congrArg (skip m c (ix2 0 (y 1)) * ·) (by rw [← block2 m c t]; exact row_block m c t (y 0) (y 1))

theorem array8 : (dats m 0 c).arrAt 8 cfg0.N = fun i : S1x512.Idx => ∑ a ∈ Finset.range 4096, drow m c a (i 1) * row (inp m c) a (i 1) := by
  refine (dats m 0 c).arrAt_eq_of_covers 8 _ (by decide +kernel) fun t hf y => ?_
  have h15 := flush8 t hf
  blk_simp
  rw [after0_8]
  have e1 : (win0_8.blk t).view.emb y 1 = y 1 := Fin.ext (by blk_simp [index0_8])
  rw [e1]
  have ey : y = ix2 0 (y 1) := by rw [eq_ix2 y]; exact congrArg (ix2 · (y 1)) (Subsingleton.elim (α := Fin 1) _ _)
  rw [ey]
  refine (acc8 m c (y 1) t.val t.isLt).trans ?_
  rw [h15]
  refine Eq.trans (Finset.sum_congr rfl fun s _ => sum_fin _ (fun a => (fun a => drow m c a (y 1) * row (inp m c) a (y 1) : ℕ → EReal) (256 * s + a)) fun a => rfl) ?_
  exact sum_pieces (fun a => drow m c a (y 1) * row (inp m c) a (y 1)) 256 16

theorem array9 : (dats m 0 c).arrAt 9 cfg0.N = fun i : S512x512.Idx => ∑ a ∈ Finset.range 4096, dgate' m c a (i 1) * act (row (ylin m c) a) (row (inp m c) a) (one (skip m c)) (i 0) := by
  refine (dats m 0 c).arrAt_eq_of_covers 9 _ (by decide +kernel) fun t hf y => ?_
  have h15 := flush9 t hf
  blk_simp
  rw [after0_9]
  have e0 : (win0_9.blk t).view.emb y 0 = y 0 := Fin.ext (by blk_simp [index0_9])
  have e1 : (win0_9.blk t).view.emb y 1 = y 1 := Fin.ext (by blk_simp [index0_9])
  rw [e0, e1]
  have ey : y = ix2 (y 0) (y 1) := eq_ix2 y
  rw [ey]
  refine (acc9 m c (y 0) (y 1) t.val t.isLt).trans ?_
  rw [h15]
  refine Eq.trans (Finset.sum_congr rfl fun s _ => sum_fin _ (fun a => (fun a => dgate' m c a (y 1) * act (row (ylin m c) a) (row (inp m c) a) (one (skip m c)) (y 0) : ℕ → EReal) (256 * s + a)) fun a => rfl) ?_
  exact sum_pieces (fun a => dgate' m c a (y 1) * act (row (ylin m c) a) (row (inp m c) a) (one (skip m c)) (y 0)) 256 16

theorem array10 : (dats m 0 c).arrAt 10 cfg0.N = fun i : S1x512.Idx => ∑ a ∈ Finset.range 4096, dgate' m c a (i 1) := by
  refine (dats m 0 c).arrAt_eq_of_covers 10 _ (by decide +kernel) fun t hf y => ?_
  have h15 := flush10 t hf
  blk_simp
  rw [after0_10]
  have e1 : (win0_10.blk t).view.emb y 1 = y 1 := Fin.ext (by blk_simp [index0_10])
  rw [e1]
  have ey : y = ix2 0 (y 1) := by rw [eq_ix2 y]; exact congrArg (ix2 · (y 1)) (Subsingleton.elim (α := Fin 1) _ _)
  rw [ey]
  refine (acc10 m c (y 1) t.val t.isLt).trans ?_
  rw [h15]
  refine Eq.trans (Finset.sum_congr rfl fun s _ => sum_fin _ (fun a => (fun a => dgate' m c a (y 1) : ℕ → EReal) (256 * s + a)) fun a => rfl) ?_
  exact sum_pieces (fun a => dgate' m c a (y 1)) 256 16

end Array

/-! ## The equation -/

set_option maxHeartbeats 4000000 in
/-- From memories agreeing on the arguments, the kernel's results are the reference's. -/
theorem equal : algebraic_S5PostBwdIdeal_S5PostBwdRefIdeal (hS5PostBwdIdeal := S5PostBwdIdeal.Gen.facts)
    (hS5PostBwdRefIdeal := S5PostBwdRefIdeal.Gen.facts) := fun m ρ m' ρ' _ hagree => by
  refine ⟨_, _, _, _, _, run_blocks m ρ, (S5PostBwdRefIdeal.Value.run m' ρ').mono fun _ h c => ⟨(h c).1.trans ?_, (h c).2.1.trans ?_,
    (h c).2.2.1.trans ?_, (h c).2.2.2.1.trans ?_, (h c).2.2.2.2.1.trans ?_, (h c).2.2.2.2.2⟩⟩
  all_goals obtain ⟨e0, e1, e2, e3, e4, e5⟩ := hagree c
  · refine Eq.trans ?_ (array6 m c).symm
    funext y
    obtain ⟨a, k, rfl⟩ : ∃ (a : Fin 4096) (k : Fin 512), y = ix2 a k := ⟨y 0, y 1, eq_ix2 y⟩
    change _ = drow m c a.val k
    unfold S5PostBwdRefIdeal.Value.res_main_v57
    rw [e0, e1, e2, e3, e4, e5]
    pointwise []
    unfold drow
    rw [← row_eq (ylin m c) a, ← row_eq (inp m c) a, ← row_eq (grad m c) a]
    unfold dlin dgate GeluB.inner dact dz gate act half
    simp only [one_mul, th_eq]
    rfl
  · refine Eq.trans ?_ (array7 m c).symm
    funext y
    obtain ⟨a, k, rfl⟩ : ∃ (a : Fin 4096) (k : Fin 512), y = ix2 a k := ⟨y 0, y 1, eq_ix2 y⟩
    change _ = skip m c (ix2 0 k) * drow m c a.val k
    unfold S5PostBwdRefIdeal.Value.res_main_v59
    rw [e0, e1, e2, e3, e4, e5]
    pointwise []
    unfold drow
    rw [← row_eq (ylin m c) a, ← row_eq (inp m c) a, ← row_eq (grad m c) a]
    unfold dlin dgate GeluB.inner dact dz gate act half
    simp only [one_mul, th_eq]
    rfl
  · refine Eq.trans ?_ (array8 m c).symm
    funext y
    unfold S5PostBwdRefIdeal.Value.res_main_v62
    rw [e0, e1, e2, e3, e4, e5]
    pointwise []
    refine sum_fin _ _ fun a => ?_
    unfold drow
    rw [← row_eq (ylin m c) a, ← row_eq (inp m c) a, ← row_eq (grad m c) a]
    unfold dlin dgate GeluB.inner dact dz gate act half
    simp only [one_mul, th_eq]
    rfl
  · refine Eq.trans ?_ (array9 m c).symm
    funext y
    unfold S5PostBwdRefIdeal.Value.res_main_v43
    rw [e0, e1, e2, e3, e4, e5]
    pointwise []
    refine sum_fin _ _ fun a => ?_
    unfold dgate'
    rw [← row_eq (ylin m c) a, ← row_eq (inp m c) a, ← row_eq (grad m c) a]
    unfold dz gate act half
    simp only [one_mul, th_eq]
    rfl
  · refine Eq.trans ?_ (array10 m c).symm
    funext y
    unfold S5PostBwdRefIdeal.Value.res_main_v41
    rw [e0, e1, e2, e3, e4, e5]
    pointwise []
    refine sum_fin _ _ fun a => ?_
    unfold dgate'
    rw [← row_eq (ylin m c) a, ← row_eq (inp m c) a, ← row_eq (grad m c) a]
    unfold dz gate act half
    simp only [one_mul, th_eq]
    rfl

end Cert.S5PostB

end
-- ==== Proof.LruGateForms.lean ====
/- The scalar formulas of the gates around the RG-LRU recurrence and of their gradients over real arguments, in the
   kernel's spelling and in the reference's. -/
module

public import proofs.«01_k».proof.Proof.Products

@[expose] public section

noncomputable section

namespace Cert.LruPreB

open Idealize.ShloMosaic

/-! ## Over the reals -/

/-- The logistic function. -/
def sg (z : ℝ) : ℝ := (1 + Real.exp (-z))⁻¹
/-- The softplus of `-l`. -/
def spl (l : ℝ) : ℝ := Real.log (1 + Real.exp (-l))
/-- The logarithm of the decay. -/
def lg (z l : ℝ) : ℝ := -8 * sg z * spl l
/-- The weight of the input: `q` marks the first row. -/
def wt (q : BitVec 1) (L : ℝ) : ℝ := Scalar.select q 1 (Real.sqrt (1 - Real.exp (2 * L)))
/-- The gradient of the logarithm of the decay. -/
def dlg (q : BitVec 1) (L d da : ℝ) : ℝ := da * Real.exp L - Scalar.select q 0 (d / Real.sqrt (1 - Real.exp (2 * L))) * Real.exp (2 * L)

theorem sg_pos (z : ℝ) : 0 < sg z := inv_pos.mpr (by positivity)

theorem spl_pos (l : ℝ) : 0 < spl l := Real.log_pos (by linarith [Real.exp_pos (-l)])

theorem lg_neg (z l : ℝ) : lg z l < 0 := by
  have := mul_pos (sg_pos z) (spl_pos l)
  unfold lg
  nlinarith

theorem room (z l : ℝ) : 0 < 1 - Real.exp (2 * lg z l) := by
  have : Real.exp (2 * lg z l) < 1 := (Real.exp_lt_exp.mpr (by linarith [lg_neg z l])).trans_eq Real.exp_zero
  linarith

/-- The softplus without overflow. -/
theorem softplus (l : ℝ) : max (-l) 0 + Real.log (1 + Real.exp (-max (-l) (-(-l)))) = spl l := by
  unfold spl
  rcases le_total 0 l with h | h
  · rw [max_eq_right (by linarith), max_eq_right (by linarith), zero_add, neg_neg]
  · rw [max_eq_left (by linarith), max_eq_left (by linarith), neg_neg]
    rw [show 1 + Real.exp (-l) = Real.exp (-l) * (1 + Real.exp l) by rw [mul_add, ← Real.exp_add]; simp; ring,
      Real.log_mul (Real.exp_pos _).ne' (by positivity), Real.log_exp]

theorem tanh_eq (L : ℝ) : Real.tanh L * (Real.exp (2 * L) + 1) = Real.exp (2 * L) - 1 := by
  have h : Real.exp (2 * L) = Real.exp L * Real.exp L := by rw [← Real.exp_add]; ring_nf
  have h' : Real.exp L * Real.exp (-L) = 1 := by rw [← Real.exp_add]; simp
  have hp := Real.exp_pos L
  have hm := Real.exp_pos (-L)
  rw [Real.tanh_eq, h, div_mul_eq_mul_div, div_eq_iff (by positivity)]
  linear_combination (-2 * Real.exp L) * h'

/-! ## Extended reals -/

theorem neg8_eq : Ideal.ofBits FTy.f32 3238002688#32 = ((-8 : ℝ) : EReal) := by
  simp [Ideal.ofBits, Ideal.ieee, -EReal.coe_mul, -EReal.coe_neg]; norm_num
theorem two_eq : Ideal.ofBits FTy.f32 1073741824#32 = ((2 : ℝ) : EReal) := by
  simp [Ideal.ofBits, Ideal.ieee, -EReal.coe_mul]; norm_num
theorem half_eq : Ideal.ofBits FTy.f32 1056964608#32 = ((1 / 2 : ℝ) : EReal) := by
  simp [Ideal.ofBits, Ideal.ieee, -EReal.coe_mul]; norm_num
theorem inf_eq : Ideal.ofBits FTy.f32 2139095040#32 = ⊤ := by
  simp [Ideal.ofBits, Ideal.ieee]

theorem zero_eq : (0 : EReal) = ((0 : ℝ) : EReal) := rfl
theorem one_eq : (1 : EReal) = ((1 : ℝ) : EReal) := rfl
theorem max_coe (a b : ℝ) : max (a : EReal) b = ((max a b : ℝ) : EReal) := (EReal.coe_strictMono.monotone.map_max).symm
theorem select_coe (q : BitVec 1) (a b : ℝ) : Scalar.select q (a : EReal) b = ((Scalar.select q a b : ℝ) : EReal) := by
  unfold Scalar.select
  split <;> rfl
theorem absf_coe (a : ℝ) : (FloatOps.absf (F := Ideal) (φ := .f32) (a : EReal) : EReal) = ((max a (-a) : ℝ) : EReal) := by
  rw [Ideal.absf_def, ← EReal.coe_neg, max_coe]
theorem log_pos_coe (r : ℝ) (h : 0 < r) : Ideal.log (r : EReal) = (Real.log r : EReal) := by
  rw [Ideal.log_coe, if_neg (not_le.mpr h)]
theorem div_real (x y : ℝ) (h : y ≠ 0) : Ideal.div (x : EReal) y = ((x / y : ℝ) : EReal) := by
  rw [Ideal.div_coe h, ← EReal.coe_mul, mul_one_div]

theorem slope_coe (g : ℝ) : (g : EReal) * (1 - (g : EReal)) = ((g * (1 - g) : ℝ) : EReal) := by
  rw [one_eq, ← EReal.coe_sub, ← EReal.coe_mul]

/-- The logistic function as a quotient. -/
def rsg (z : EReal) : EReal := Ideal.div 1 (1 + Ideal.exp (-z))
/-- The softplus of `-l` in the reference's spelling. -/
def rsp (l : EReal) : EReal :=
  if -l ≠ -l then -l else max (-l) 0 + Ideal.log1p (Ideal.exp (-FloatOps.absf (F := Ideal) (φ := .f32) (-l)))
/-- The softplus in the kernel's spelling. -/
def ksp (l : EReal) : EReal := max l 0 + Ideal.log (1 + Ideal.exp (0 - FloatOps.absf (F := Ideal) (φ := .f32) l))
/-- The square of the input's weight, one less the square of the decay. -/
def rM (L : EReal) : EReal := -(Ideal.exp (Ideal.ofBits FTy.f32 1073741824#32 * L) - 1)
@[inherit_doc rM] def kM (L : EReal) : EReal := (0 - Ideal.tanh L) * (Ideal.exp (Ideal.ofBits FTy.f32 1073741824#32 * L) + 1)
/-- The derivative of the root of the part above zero. -/
def droot (d M : EReal) : EReal := d * Ideal.div (Ideal.ofBits FTy.f32 1056964608#32) (Ideal.sqrt (max M 0))
/-- The derivative of the greater of `M` and 0. -/
def dmax (M : EReal) : EReal := if 0 < M then 1 else if M = 0 then Ideal.ofBits FTy.f32 1056964608#32 else 0
/-- The gradient of the decay's logarithm in the reference's spelling. -/
def rdlg (q : BitVec 1) (L d da : EReal) : EReal :=
  Ideal.ofBits FTy.f32 1073741824#32 * (-Scalar.select q 0 (droot d (rM L) * dmax (rM L)) * Ideal.exp (Ideal.ofBits FTy.f32 1073741824#32 * L)) + da * Ideal.exp L
/-- The same in the kernel's spelling, of the gradient `u` of `kM L`. -/
def kdlg' (L u da : EReal) : EReal :=
  da * Ideal.exp L + Ideal.ofBits FTy.f32 1073741824#32 * ((0 - Ideal.tanh L) * u * Ideal.exp (Ideal.ofBits FTy.f32 1073741824#32 * L))
    + (0 - u * (Ideal.exp (Ideal.ofBits FTy.f32 1073741824#32 * L) + 1)) * ((1 + Ideal.tanh L) * (1 - Ideal.tanh L))

theorem rsg_coe (z : ℝ) : rsg z = (sg z : EReal) := by
  unfold rsg
  have : (1 : ℝ) + Real.exp (-z) ≠ 0 := by positivity
  rw [one_eq, ← EReal.coe_neg, Ideal.exp_coe, ← EReal.coe_add, div_real _ _ this, one_div]
  rfl

theorem rsp_coe (l : ℝ) : rsp l = (spl l : EReal) := by
  unfold rsp
  rw [if_neg (not_not.mpr rfl), ← EReal.coe_neg, absf_coe, ← EReal.coe_neg, Ideal.exp_coe, zero_eq, max_coe]
  unfold Ideal.log1p
  rw [one_eq, ← EReal.coe_add, log_pos_coe _ (by positivity), ← EReal.coe_add, softplus]

theorem ksp_coe (l : ℝ) : ksp (0 - l) = (spl l : EReal) := by
  unfold ksp
  rw [zero_sub, ← EReal.coe_neg, absf_coe, zero_sub, ← EReal.coe_neg, Ideal.exp_coe, zero_eq, max_coe, one_eq, ← EReal.coe_add,
    log_pos_coe _ (by positivity), ← EReal.coe_add, softplus]

theorem rM_coe (L : ℝ) : rM L = ((1 - Real.exp (2 * L) : ℝ) : EReal) := by
  unfold rM
  rw [two_eq, ← EReal.coe_mul, Ideal.exp_coe, one_eq, ← EReal.coe_sub, ← EReal.coe_neg, neg_sub]

theorem kM_coe (L : ℝ) : kM L = ((1 - Real.exp (2 * L) : ℝ) : EReal) := by
  unfold kM
  rw [two_eq, ← EReal.coe_mul, Ideal.exp_coe, one_eq, ← EReal.coe_add, zero_sub, Ideal.tanh_coe, ← EReal.coe_neg, ← EReal.coe_mul,
    neg_mul, tanh_eq, neg_sub]

theorem root_coe (M : ℝ) (h : 0 < M) : Ideal.sqrt (max (M : EReal) 0) = (Real.sqrt M : EReal) := by
  rw [zero_eq, max_coe, max_eq_left h.le, Ideal.sqrt_coe, if_neg (not_lt.mpr h.le)]

theorem dmax_coe (M : ℝ) (h : 0 < M) : dmax M = 1 := if_pos (EReal.coe_pos.mpr h)

theorem droot_coe (d M : ℝ) (h : 0 < M) : droot d M = ((d / (2 * Real.sqrt M) : ℝ) : EReal) := by
  unfold droot
  have hs := (Real.sqrt_pos.mpr h).ne'
  rw [root_coe M h, half_eq, div_real _ _ hs, ← EReal.coe_mul]
  congr 1
  field_simp

theorem rdlg_coe (q : BitVec 1) (L d da : ℝ) (h : 0 < 1 - Real.exp (2 * L)) : rdlg q L d da = (dlg q L d da : EReal) := by
  unfold rdlg
  rw [rM_coe, dmax_coe _ h, droot_coe _ _ h, mul_one, zero_eq, select_coe, two_eq, ← EReal.coe_mul, Ideal.exp_coe, Ideal.exp_coe,
    ← EReal.coe_neg, ← EReal.coe_mul, ← EReal.coe_mul, ← EReal.coe_mul, ← EReal.coe_add]
  congr 1
  have hs := (Real.sqrt_pos.mpr h).ne'
  unfold dlg Scalar.select
  split
  · ring
  · field_simp
    ring

theorem kdlg_coe (q : BitVec 1) (L d da : ℝ) (h : 0 < 1 - Real.exp (2 * L)) :
    kdlg' L (droot (Scalar.select q 0 (d : EReal)) (kM L) * dmax (kM L)) da = (dlg q L d da : EReal) := by
  unfold kdlg'
  rw [kM_coe, dmax_coe _ h, zero_eq, select_coe, droot_coe _ _ h, mul_one, two_eq, one_eq]
  simp only [Ideal.exp_coe, Ideal.tanh_coe, ← EReal.coe_mul, ← EReal.coe_add, ← EReal.coe_sub]
  congr 1
  have hs := (Real.sqrt_pos.mpr h).ne'
  have ht := tanh_eq L
  have e : Scalar.select q 0 (d / Real.sqrt (1 - Real.exp (2 * L))) = Scalar.select q 0 d / Real.sqrt (1 - Real.exp (2 * L)) := by
    unfold Scalar.select
    split <;> simp
  unfold dlg
  rw [e]
  generalize Scalar.select q 0 d = d'
  generalize Real.tanh L = T at ht ⊢
  generalize Real.exp (2 * L) = E at ht hs ⊢
  field_simp
  linear_combination (d' * T - d') * ht

theorem rwt_coe (q : BitVec 1) (L : ℝ) (h : 0 < 1 - Real.exp (2 * L)) :
    Scalar.select q (1 : EReal) (Ideal.sqrt (max (rM L) 0)) = (wt q L : EReal) := by
  rw [rM_coe, root_coe _ h, one_eq, select_coe]
  rfl

theorem kwt_coe (q : BitVec 1) (L : ℝ) (h : 0 < 1 - Real.exp (2 * L)) :
    Scalar.select q (1 : EReal) (Ideal.sqrt (max (kM L) 0)) = (wt q L : EReal) := by
  rw [kM_coe, ← rM_coe]
  exact rwt_coe q L h

/-- The derivative of the softplus of `-l` in the reference's spelling. -/
def rdsp (l : EReal) : EReal := Ideal.exp ((if -l = Ideal.ofBits FTy.f32 2139095040#32 then 0 else -l) - if rsp l = Ideal.ofBits FTy.f32 2139095040#32 then 0 else rsp l)

theorem rdsp_coe (l : ℝ) : rdsp l = (sg (-l) : EReal) := by
  unfold rdsp
  rw [rsp_coe, inf_eq, if_neg (EReal.coe_ne_top _), ← EReal.coe_neg, if_neg (EReal.coe_ne_top _), ← EReal.coe_sub, Ideal.exp_coe]
  congr 1
  have h' : Real.exp l * Real.exp (-l) = 1 := by rw [← Real.exp_add]; simp
  unfold sg spl
  rw [Real.exp_sub, Real.exp_log (by positivity), neg_neg, div_eq_iff (by positivity), inv_mul_eq_div, eq_div_iff (by positivity)]
  linear_combination h'

/-- The softplus's gradient in the kernel's spelling: `l` is the softplus's argument, `S` the gradient of its result. -/
def kdsp (l S : EReal) : EReal :=
  (if 0 ≤ l then 0 - Ideal.div S (1 + Ideal.exp (0 - FloatOps.absf (F := Ideal) (φ := .f32) l)) * Ideal.exp (0 - FloatOps.absf (F := Ideal) (φ := .f32) l) else 0)
      + (0 - if 0 ≤ l then 0
        else 0 - Ideal.div S (1 + Ideal.exp (0 - FloatOps.absf (F := Ideal) (φ := .f32) l)) * Ideal.exp (0 - FloatOps.absf (F := Ideal) (φ := .f32) l))
    + S * dmax l

theorem kdsp_coe (l s : ℝ) (h : l ≠ 0) : kdsp (0 - l) s = ((s * sg (-l) : ℝ) : EReal) := by
  unfold kdsp
  have hp : (0 : ℝ) < 1 + Real.exp (0 - max (-l) l) := by positivity
  rw [zero_sub, ← EReal.coe_neg, absf_coe, neg_neg, zero_eq, ← EReal.coe_sub, Ideal.exp_coe, one_eq, ← EReal.coe_add, div_real _ _ hp.ne',
    ← EReal.coe_mul, ← EReal.coe_sub]
  have h' : Real.exp l * Real.exp (-l) = 1 := by rw [← Real.exp_add]; simp
  unfold sg
  rcases lt_or_gt_of_ne h with hl | hl
  · have h3 : ((0 : ℝ) : EReal) ≤ ((-l : ℝ) : EReal) := EReal.coe_nonneg.mpr (neg_nonneg.mpr hl.le)
    rw [dmax_coe _ (neg_pos.mpr hl), if_pos h3, if_pos h3, one_eq]
    change ((_ : ℝ) : EReal) + (((0 : ℝ) : EReal) - ((0 : ℝ) : EReal)) + _ = _
    rw [← EReal.coe_mul, ← EReal.coe_sub, ← EReal.coe_add, ← EReal.coe_add, max_eq_left (by linarith), neg_neg,
      show (0 : ℝ) - -l = l by ring]
    congr 1
    field_simp
    ring
  · have h1 : ¬ (0 : EReal) < ((-l : ℝ) : EReal) := fun h => absurd (EReal.coe_pos.mp h) (by linarith)
    have h2 : ¬ ((-l : ℝ) : EReal) = 0 := fun h => absurd (EReal.coe_eq_zero.mp h) (by linarith)
    have h3 : ¬ ((0 : ℝ) : EReal) ≤ ((-l : ℝ) : EReal) := fun h => absurd (EReal.coe_le_coe_iff.mp h) (by linarith)
    unfold dmax
    rw [if_neg h1, if_neg h2, if_neg h3, if_neg h3, zero_eq]
    change ((0 : ℝ) : EReal) + (((0 : ℝ) : EReal) - ((_ : ℝ) : EReal)) + _ = _
    rw [← EReal.coe_mul, ← EReal.coe_sub, ← EReal.coe_add, ← EReal.coe_add, max_eq_right (by linarith), neg_neg, zero_sub]
    congr 1
    have hn := Real.exp_pos (-l)
    have hq := Real.exp_pos l
    rw [show (0 : ℝ) - l = -l by ring]
    field_simp
    linear_combination s * h'

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-! ## The six arguments as tables of reals, and what the gradients are -/

/-- The gates' arguments, the input, the bias, the parameter of the decay, and the two gradients that come in. -/
structure Data where
  p : ℕ → ℕ → ℝ
  x : ℕ → ℕ → ℝ
  b : ℕ → ℝ
  l : ℕ → ℝ
  da : ℕ → ℕ → ℝ
  db : ℕ → ℕ → ℝ

/-- The mark of the first row. -/
def mark (i : ℕ) : BitVec 1 := IntOp.cmpi .eq (BitVec.ofNat 32 i) 0#32

namespace Data

variable (D : Data) (i k : ℕ)

/-- A gate: the columns below 1024 hold the gate of the decay, the others the gate of the input. -/
def gate : ℝ := sg (D.p i k + D.b k)
/-- The logarithm of the decay. -/
def la : ℝ := lg (D.p i k + D.b k) (D.l k)
/-- The gradient of the logarithm of the decay. -/
def dla : ℝ := dlg (mark i) (D.la i k) (D.x i k * D.gate i (1024 + k) * D.db i k) (D.da i k)
/-- The gradient of the gated input. -/
def dg : ℝ := D.db i k * wt (mark i) (D.la i k)
/-- The gradients of the two gates' arguments. -/
def dp1 : ℝ := -8 * (D.dla i k * spl (D.l k)) * (D.gate i k * (1 - D.gate i k))
@[inherit_doc dp1]
def dp2 : ℝ := D.x i k * D.dg i k * (D.gate i (1024 + k) * (1 - D.gate i (1024 + k)))
/-- The gradient of the gates' arguments. -/
def dp : ℝ := if k < 1024 then D.dp1 i k else D.dp2 i (k - 1024)
/-- What row `i` adds to the gradient of the softplus. -/
def ds : ℝ := -8 * D.gate i k * D.dla i k

theorem room : 0 < 1 - Real.exp (2 * D.la i k) := LruPreB.room _ _

end Data

end Cert.LruPreB

end
-- ==== Proof.LruFinite.lean ====
/- The precondition of the gates' gradient: every entry of the six arguments is finite, and no entry of the decay's
   parameter is zero. -/
module

public import proofs.«01_k».proof.Pre_lru_finite
public import proofs.«01_k».proof.Proof.S5Finite

@[expose] public section

set_option maxRecDepth 16384

noncomputable section

namespace Cert.LruPreB

open Idealize.ShloMosaic Cert.Pre_lru_finite

/-- The side conditions the precondition states. -/
theorem preFacts : Cert.Pre_lru_finite.Facts where
  bcast_S_S4096x2048 := by decide
  reducesTo_S4096x2048_S_d0_1 := by decide
  h_S_ := by decide
  bcast_S_S4096x1024 := by decide
  reducesTo_S4096x1024_S_d0_1 := by decide
  bcast_S_S1x2048 := by decide
  reducesTo_S1x2048_S_d0_1 := by decide
  bcast_S_S1x1024 := by decide
  reducesTo_S1x1024_S_d0_1 := by decide

/-- The entries of an array are reals. -/
def AllReal {s : Shape} (x : s.Idx → EReal) : Prop := ∀ y, x y = ((x y).toReal : EReal)

theorem ne_zero (x : EReal) (h : Ideal.cmp .une x 0 = 1#1) : x ≠ 0 := fun hx => by simp [Ideal.cmp, hx] at h

/-- What the precondition says of the six arguments. -/
theorem args (p : FVec Ideal S4096x2048 .f32) (x : FVec Ideal S4096x1024 .f32) (b : FVec Ideal S1x2048 .f32) (l : FVec Ideal S1x1024 .f32)
    (da db : FVec Ideal S4096x1024 .f32) (h : (letI := preFacts; Cert.Pre_lru_finite.fn p x b l da db) = fun _ => 1#1) :
    AllReal p ∧ AllReal x ∧ AllReal b ∧ AllReal l ∧ AllReal da ∧ AllReal db ∧ ∀ y, (l y : EReal) ≠ 0 := by
  letI := preFacts
  letI := Cert.S5.preFacts
  have h0 := congrFun h (Shape.Idx.first Facts.h_S_)
  dsimp only [fn, fn_part1] at h0
  obtain ⟨h1, f6⟩ := IntOp.andi_eq_one.mp h0
  obtain ⟨h2, f5⟩ := IntOp.andi_eq_one.mp h1
  obtain ⟨h3, f4⟩ := IntOp.andi_eq_one.mp h2
  obtain ⟨h4, f3⟩ := IntOp.andi_eq_one.mp h3
  obtain ⟨h5, f2⟩ := IntOp.andi_eq_one.mp h4
  obtain ⟨f0, f1⟩ := IntOp.andi_eq_one.mp h5
  refine ⟨Cert.S5.real_of_all _ _ _ _ _ f0, Cert.S5.real_of_all _ _ _ _ _ f1, Cert.S5.real_of_all _ _ _ _ _ f2,
    Cert.S5.real_of_all _ _ _ _ _ f3, Cert.S5.real_of_all _ _ _ _ _ f4, Cert.S5.real_of_all _ _ _ _ _ f5, fun y => ?_⟩
  haveI : Subsingleton S_.Idx := ⟨fun a b => funext fun k => k.elim0⟩
  have e := Host.reduce_andi_all _ _ _ _ _ f6 y
  refine ne_zero _ (Eq.trans ?_ e)
  exact congrArg (Ideal.cmp .une (l y)) Ideal.ofBits_zero_f32.symm

end Cert.LruPreB

end
-- ==== Proof.LruPreBwd.lean ====
/- The gradient of the gates around the recurrence: the arrays the launch leaves and the reference's equation. -/
module

public import proofs.«01_k».proof.Proof.LruGateForms
public import proofs.«01_k».proof.Proof.LruFinite
public import proofs.«01_k».proof.Proof.S5PostBwd
public import proofs.«01_k».proof.Proof.Gen.LruPreBwdIdeal.Value
public import proofs.«01_k».proof.Proof.Gen.LruPreBwdRefIdeal.Run

@[expose] public section

set_option maxRecDepth 16384

noncomputable section

namespace Cert.LruPreB

open Idealize.ShloMosaic Idealize.ShloMosaic.TcCoe Idealize.SL.Sem
open Cert.LruPreBwdIdeal LruPreBwdIdeal.Gen LruPreBwdIdeal.Value Products

/-! ## What one grid point computes -/

section Point

variable (D : Data) (n : ℕ) (v0 : BitVec 32) (v1 : Vec Ideal S256x2048 .f32) (v2 : Vec Ideal S256x1024 .f32) (v3 : Vec Ideal S1x2048 .f32)
  (v4 : Vec Ideal S1x1024 .f32) (v87 v90 : Vec Ideal S256x1024 .f32)

/-- The gradient of the decay's logarithm. -/
def p29 : Vec Ideal S256x1024 .f32 :=
  k0_pay29 v2 (k0_pay3 v1 v3) (k0_pay14 (k0_pay5 v1 v3) (k0_pay7 v4) (k0_pay9 v4)) (k0_pay16 (k0_pay5 v1 v3) (k0_pay7 v4) (k0_pay9 v4))
    (k0_pay17 (k0_pay5 v1 v3) (k0_pay7 v4) (k0_pay9 v4)) (k0_pay18 (k0_pay5 v1 v3) (k0_pay7 v4) (k0_pay9 v4))
    (k0_pay19 (k0_pay5 v1 v3) (k0_pay7 v4) (k0_pay9 v4)) (k0_pay21 (k0_pay5 v1 v3) (k0_pay7 v4) (k0_pay9 v4))
    (k0_pay23 (k0_pay5 v1 v3) (k0_pay7 v4) (k0_pay9 v4)) (k0_pay24 v0) v87 v90
/-- The gradient of the decay's logarithm before the gate. -/
def p30 : Vec Ideal S256x1024 .f32 :=
  k0_pay30 v2 (k0_pay3 v1 v3) (k0_pay13 (k0_pay7 v4) (k0_pay9 v4)) (k0_pay14 (k0_pay5 v1 v3) (k0_pay7 v4) (k0_pay9 v4)) (k0_pay16 (k0_pay5 v1 v3) (k0_pay7 v4) (k0_pay9 v4))
    (k0_pay17 (k0_pay5 v1 v3) (k0_pay7 v4) (k0_pay9 v4)) (k0_pay18 (k0_pay5 v1 v3) (k0_pay7 v4) (k0_pay9 v4))
    (k0_pay19 (k0_pay5 v1 v3) (k0_pay7 v4) (k0_pay9 v4)) (k0_pay21 (k0_pay5 v1 v3) (k0_pay7 v4) (k0_pay9 v4))
    (k0_pay23 (k0_pay5 v1 v3) (k0_pay7 v4) (k0_pay9 v4)) (k0_pay24 v0) v87 v90
/-- The gradient of the softplus's argument. -/
def p31 : Vec Ideal S1x1024 .f32 :=
  k0_pay31 v2 (k0_pay3 v1 v3) (k0_pay5 v1 v3) (k0_pay8 v4) (k0_pay10 v4) (k0_pay11 (k0_pay9 v4)) (k0_pay12 (k0_pay9 v4))
    (k0_pay14 (k0_pay5 v1 v3) (k0_pay7 v4) (k0_pay9 v4)) (k0_pay16 (k0_pay5 v1 v3) (k0_pay7 v4) (k0_pay9 v4))
    (k0_pay17 (k0_pay5 v1 v3) (k0_pay7 v4) (k0_pay9 v4)) (k0_pay18 (k0_pay5 v1 v3) (k0_pay7 v4) (k0_pay9 v4))
    (k0_pay19 (k0_pay5 v1 v3) (k0_pay7 v4) (k0_pay9 v4)) (k0_pay21 (k0_pay5 v1 v3) (k0_pay7 v4) (k0_pay9 v4))
    (k0_pay23 (k0_pay5 v1 v3) (k0_pay7 v4) (k0_pay9 v4)) (k0_pay24 v0) v87 v90
/-- The gradients of the gate's result and of the input. -/
def p27 : Vec Ideal S256x1024 .f32 :=
  k0_pay27 v2 (k0_pay22 (k0_pay5 v1 v3) (k0_pay7 v4) (k0_pay9 v4)) (Scalar.ofBits .f32 0x3F800000#32) (k0_pay24 v0) v90
@[inherit_doc p27]
def p28 : Vec Ideal S256x1024 .f32 :=
  k0_pay28 (k0_pay3 v1 v3) (k0_pay22 (k0_pay5 v1 v3) (k0_pay7 v4) (k0_pay9 v4)) (Scalar.ofBits .f32 0x3F800000#32) (k0_pay24 v0) v90
/-- The gradient of the gates' arguments. -/
def p34 : Vec Ideal S256x2048 .f32 := k0_pay34 (k0_pay2 v1 v3) (k0_pay4 v1 v3) (p27 v0 v1 v2 v3 v4 v90) (p30 v0 v1 v2 v3 v4 v87 v90)
/-- What the point makes of the two sums over rows. -/
def p37 (o : Vec Ideal S1x2048 .f32) : Vec Ideal S1x2048 .f32 :=
  k0_pay37 (k0_pay2 v1 v3) (k0_pay4 v1 v3) (p27 v0 v1 v2 v3 v4 v90) (p30 v0 v1 v2 v3 v4 v87 v90) o
@[inherit_doc p37]
def p38 (o : Vec Ideal S1x1024 .f32) : Vec Ideal S1x1024 .f32 := k0_pay38 (p31 v0 v1 v2 v3 v4 v87 v90) (Scalar.ofBits .f32 0x00000000#32) o

variable (h1 : ∀ a k, v1 (ix2 a k) = (D.p (n + a.val) k.val : EReal)) (h2 : ∀ a k, v2 (ix2 a k) = (D.x (n + a.val) k.val : EReal))
  (h3 : ∀ k, v3 (ix2 0 k) = (D.b k.val : EReal)) (h4 : ∀ k, v4 (ix2 0 k) = (D.l k.val : EReal))
  (h5 : ∀ a k, v87 (ix2 a k) = (D.da (n + a.val) k.val : EReal)) (h6 : ∀ a k, v90 (ix2 a k) = (D.db (n + a.val) k.val : EReal))
  (hq : ∀ a k, k0_pay24 v0 (ix2 a k) = mark (n + a.val)) (hl : ∀ k < 1024, D.l k ≠ 0)
  (a : Fin 256) (k : Fin 1024)

include h1 h3 in
theorem gate1 : k0_pay1 v1 v3 (ix2 a k) = (D.gate (n + a.val) k.val : EReal) := by
  pointwise [k0_pay1]
  rw [h1, h3, ← EReal.coe_add, Ideal.logistic_coe]
  rfl

include h1 h3 in
theorem gate2 : k0_pay3 v1 v3 (ix2 a k) = (D.gate (n + a.val) (1024 + k.val) : EReal) := by
  pointwise [k0_pay3]
  rw [h1, h3, ← EReal.coe_add, Ideal.logistic_coe]
  rfl

include h4 in
theorem sp_apply : k0_pay13 (F := Ideal) (k0_pay7 v4) (k0_pay9 v4) (ix2 0 k) = (spl (D.l k.val) : EReal) := by
  refine Eq.trans ?_ (ksp_coe (D.l k.val))
  rw [← h4]
  pointwise [k0_pay13, k0_pay12, k0_pay11, k0_pay7, k0_pay9, k0_pay6]
  rfl

include h1 h3 h4 in
theorem la_apply : k0_pay14 (k0_pay5 v1 v3) (k0_pay7 v4) (k0_pay9 v4) (ix2 a k) = (D.la (n + a.val) k.val : EReal) := by
  pointwise [k0_pay14, k0_pay5]
  rw [gate1 D n v1 v3 h1 h3, sp_apply D v4 h4, neg8_eq, ← EReal.coe_mul, ← EReal.coe_mul]
  rfl

include h1 h3 h4 hq h2 h5 h6 in
theorem p29_apply : p29 v0 v1 v2 v3 v4 v87 v90 (ix2 a k) = (D.dla (n + a.val) k.val : EReal) := by
  unfold p29
  generalize hs : k0_pay14 (F := Ideal) (k0_pay5 v1 v3) (k0_pay7 v4) (k0_pay9 v4) = L
  have hL : L (ix2 a k) = (D.la (n + a.val) k.val : EReal) := by
    rw [← hs]
    exact la_apply D n v1 v3 v4 h1 h3 h4 a k
  unfold k0_pay29 k0_pay23 k0_pay22 k0_pay21 k0_pay20 k0_pay19 k0_pay18 k0_pay16 k0_pay17 k0_pay15
  pointwise [k0_pay25]
  try rw [hs]
  rw [hL, hq, gate2 D n v1 v3 h1 h3, h2, h5, h6]
  refine Eq.trans ?_ (kdlg_coe (mark (n + a.val)) (D.la (n + a.val) k.val) (D.x (n + a.val) k.val * D.gate (n + a.val) (1024 + k.val) * D.db (n + a.val) k.val)
    (D.da (n + a.val) k.val) (D.room _ _))
  rw [EReal.coe_mul, EReal.coe_mul]
  unfold kdlg' droot dmax kM Scalar.select
  split
  · simp only [zero_mul, mul_zero]
  · rfl

include h1 h3 h4 hq h6 in
theorem dg_apply : k0_pay26 (F := Ideal) (k0_pay22 (k0_pay5 v1 v3) (k0_pay7 v4) (k0_pay9 v4)) (1 : EReal) (k0_pay24 v0) v90 (ix2 a k)
    = (D.dg (n + a.val) k.val : EReal) := by
  generalize hs : k0_pay14 (F := Ideal) (k0_pay5 v1 v3) (k0_pay7 v4) (k0_pay9 v4) = L
  have hL : L (ix2 a k) = (D.la (n + a.val) k.val : EReal) := by
    rw [← hs]
    exact la_apply D n v1 v3 v4 h1 h3 h4 a k
  unfold k0_pay26 k0_pay22 k0_pay20 k0_pay17 k0_pay19 k0_pay18 k0_pay15
  pointwise [k0_pay25]
  try rw [hs]
  rw [hL, hq, h6]
  unfold Data.dg
  rw [EReal.coe_mul, ← kwt_coe _ _ (D.room _ _)]
  rfl

include h1 h2 h3 h4 hq h6 in
theorem p27_apply : p27 v0 v1 v2 v3 v4 v90 (ix2 a k) = ((D.x (n + a.val) k.val * D.dg (n + a.val) k.val : ℝ) : EReal) := by
  unfold p27 k0_pay27
  pointwise []
  rw [dg_apply D n v0 v1 v3 v4 v90 h1 h3 h4 h6 hq, h2, ← EReal.coe_mul]

include h1 h3 h4 hq h6 in
theorem p28_apply : p28 v0 v1 v3 v4 v90 (ix2 a k) = ((D.dg (n + a.val) k.val * D.gate (n + a.val) (1024 + k.val) : ℝ) : EReal) := by
  unfold p28 k0_pay28
  pointwise []
  rw [dg_apply D n v0 v1 v3 v4 v90 h1 h3 h4 h6 hq, gate2 D n v1 v3 h1 h3, ← EReal.coe_mul]

include h1 h2 h3 h4 hq h5 h6 in
theorem p30_apply : p30 v0 v1 v2 v3 v4 v87 v90 (ix2 a k) = ((D.dla (n + a.val) k.val * spl (D.l k.val) : ℝ) : EReal) := by
  have e := p29_apply D n v0 v1 v2 v3 v4 v87 v90 h1 h2 h3 h4 h5 h6 hq a k
  unfold p30 k0_pay30
  unfold p29 at e
  generalize k0_pay29 (F := Ideal) _ _ _ _ _ _ _ _ _ _ _ _ = X at e ⊢
  pointwise []
  rw [e, sp_apply D v4 h4, ← EReal.coe_mul]

include h1 h2 h3 h4 hq h5 h6 hl in
theorem p31_apply : p31 v0 v1 v2 v3 v4 v87 v90 (ix2 0 k) = (((∑ a : Fin 256, D.ds (n + a.val) k.val) * sg (-D.l k.val) : ℝ) : EReal) := by
  have e a := p29_apply D n v0 v1 v2 v3 v4 v87 v90 h1 h2 h3 h4 h5 h6 hq a k
  unfold p31 k0_pay31
  unfold p29 at e
  generalize k0_pay29 (F := Ideal) _ _ _ _ _ _ _ _ _ _ _ _ = X at e ⊢
  pointwise [k0_pay5, k0_pay8, k0_pay10, k0_pay9, k0_pay11, k0_pay12, k0_pay6]
  have es : (∑ a : Fin 256, Ideal.ofBits FTy.f32 3238002688#32 * k0_pay1 v1 v3 (ix2 a k) * X (ix2 a k)) = ((∑ a : Fin 256, D.ds (n + a.val) k.val : ℝ) : EReal) := by
    rw [← coe_sum]
    refine Finset.sum_congr rfl fun a _ => ?_
    rw [e, gate1 D n v1 v3 h1 h3, neg8_eq, ← EReal.coe_mul, ← EReal.coe_mul]
    rfl
  rw [es, h4]
  exact kdsp_coe _ _ (hl k.val k.isLt)

include h1 h2 h3 h4 hq h5 h6 in
theorem p34_apply (k : Fin 2048) : p34 v0 v1 v2 v3 v4 v87 v90 (ix2 a k) = (D.dp (n + a.val) k.val : EReal) := by
  unfold p34 k0_pay34
  pointwise [k0_pay32, k0_pay33, k0_pay2, k0_pay4]
  unfold Data.dp
  by_cases h : k.val < 1024
  · rw [dif_pos h, dif_pos h, if_pos h, zero_add, p30_apply D n v0 v1 v2 v3 v4 v87 v90 h1 h2 h3 h4 h5 h6 hq, gate1 D n v1 v3 h1 h3, neg8_eq, slope_coe,
      ← EReal.coe_mul, ← EReal.coe_mul]
    rfl
  · rw [dif_neg h, dif_neg h, if_neg h, add_zero, p27_apply D n v0 v1 v2 v3 v4 v90 h1 h2 h3 h4 h6 hq, gate2 D n v1 v3 h1 h3, slope_coe,
      ← EReal.coe_mul]
    rfl

include h1 h2 h3 h4 hq h5 h6 in
theorem p37_apply (k : Fin 2048) (o : Vec Ideal S1x2048 .f32) : p37 v0 v1 v2 v3 v4 v87 v90 o (ix2 0 k)
    = o (ix2 0 k) + ((∑ a : Fin 256, D.dp (n + a.val) k.val : ℝ) : EReal) := by
  have e a := p34_apply D n v0 v1 v2 v3 v4 v87 v90 h1 h2 h3 h4 h5 h6 hq a k
  rw [← coe_sum, ← Finset.sum_congr rfl fun a _ => e a]
  unfold p37 k0_pay37 p34 k0_pay34
  pointwise []
  by_cases h : k.val < 1024
  · simp only [dif_pos h, zero_add]
  · simp only [dif_neg h, add_zero]

include h1 h2 h3 h4 hq h5 h6 hl in
theorem p38_apply (o : Vec Ideal S1x1024 .f32) : p38 v0 v1 v2 v3 v4 v87 v90 o (ix2 0 k)
    = o (ix2 0 k) + ((-((∑ a : Fin 256, D.ds (n + a.val) k.val) * sg (-D.l k.val)) : ℝ) : EReal) := by
  have e := p31_apply D n v0 v1 v2 v3 v4 v87 v90 h1 h2 h3 h4 h5 h6 hq hl k
  unfold p38 k0_pay38
  pointwise []
  rw [e, zero_sub, ← EReal.coe_neg]

end Point

/-! ## What the arrays hold -/

theorem index0_0 : ∀ t : Fin grid0.N, win0_0.index t = ![t.val, 0] := by decide +kernel
theorem index0_1 : ∀ t : Fin grid0.N, win0_1.index t = ![t.val, 0] := by decide +kernel
theorem index0_2 : ∀ t : Fin grid0.N, win0_2.index t = ![0, 0] := by decide +kernel
theorem index0_3 : ∀ t : Fin grid0.N, win0_3.index t = ![0, 0] := by decide +kernel
theorem index0_4 : ∀ t : Fin grid0.N, win0_4.index t = ![t.val, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![t.val, 0] := by decide +kernel
theorem index0_8 : ∀ t : Fin grid0.N, win0_8.index t = ![0, 0] := by decide +kernel
theorem index0_9 : ∀ t : Fin grid0.N, win0_9.index t = ![0, 0] := by decide +kernel
/-- The sums over rows are written back after the last point only. -/
theorem flush8 : ∀ t : Fin cfg0.N, (cfg0.win 8).flush t = true → t.val = 15 := by decide +kernel
theorem flush9 : ∀ t : Fin cfg0.N, (cfg0.win 9).flush t = true → t.val = 15 := by decide +kernel
theorem coord : ∀ t : Fin grid0.N, (grid0.coords t 0).val = t.val := by decide +kernel

/-- The number of the first row of a point's block. -/
def base (t : Fin cfg0.N) : BitVec 32 := Scalar.muli (BitVec.ofNat 32 (grid0.coords t 0).val) 256#32

theorem base_mark (t : Fin cfg0.N) (a : Fin 256) (k : Fin 1024) : k0_pay24 (base t) (ix2 a k) = mark (256 * t.val + a.val) := by
  pointwise [k0_pay24]
  unfold base mark
  rw [coord]
  have e : IntOp.addi (Scalar.muli (BitVec.ofNat 32 t.val) 256#32) (BitVec.ofNat 32 a.val) = BitVec.ofNat 32 (256 * t.val + a.val) := by
    rw [BitVec.ofNat_add, BitVec.ofNat_mul, BitVec.mul_comm]
    rfl
  rw [e]

theorem entry_real {n k : ℕ} (X : (⟨2, ![n, k]⟩ : Shape).Idx → EReal) (h : AllReal X) (i j : ℕ) :
    entry X i j = ((entry X i j).toReal : EReal) := by
  unfold entry
  split
  · exact h _
  · rw [EReal.toReal_zero]
    rfl

/-- A sum over rows, block by block. -/
theorem pieces (f : ℕ → ℝ) : ∑ s ∈ Finset.range 16, (∑ a : Fin 256, f (256 * s + a.val)) = ∑ a : Fin 4096, f a.val := by
  have e (n : ℕ) : ∑ s ∈ Finset.range n, (∑ a : Fin 256, f (256 * s + a.val)) = ∑ r ∈ Finset.range (256 * n), f r := by
    induction n with
    | zero => simp
    | succ n ih => rw [Finset.sum_range_succ, ih, Nat.mul_succ, Finset.sum_range_add, Fin.sum_univ_eq_sum_range fun a => f (256 * n + a)]
  rw [Fin.sum_univ_eq_sum_range f 4096]
  exact e 16

section Array

variable (m : (ℓ : Loc nD τ sig) → Buf (Elt Ideal) ℓ) (c : Dev nD)

/-- The gates' arguments. -/
abbrev pre : S4096x2048.Idx → EReal := m ((c : Thread nD τ).loc main_arg0)
/-- The input. -/
abbrev inp : S4096x1024.Idx → EReal := m ((c : Thread nD τ).loc main_arg1)
/-- The gates' bias. -/
abbrev bias : S1x2048.Idx → EReal := m ((c : Thread nD τ).loc main_arg2)
/-- The parameter of the decay. -/
abbrev lam : S1x1024.Idx → EReal := m ((c : Thread nD τ).loc main_arg3)
/-- The two gradients that come in. -/
abbrev gda : S4096x1024.Idx → EReal := m ((c : Thread nD τ).loc main_arg4)
@[inherit_doc gda]
abbrev gdb : S4096x1024.Idx → EReal := m ((c : Thread nD τ).loc main_arg5)

/-- The arguments as tables of reals. -/
def data : Data where
  p i k := (entry (pre m c) i k).toReal
  x i k := (entry (inp m c) i k).toReal
  b k := (entry (bias m c) 0 k).toReal
  l k := (entry (lam m c) 0 k).toReal
  da i k := (entry (gda m c) i k).toReal
  db i k := (entry (gdb m c) i k).toReal

variable (hr : AllReal (pre m c) ∧ AllReal (inp m c) ∧ AllReal (bias m c) ∧ AllReal (lam m c) ∧ AllReal (gda m c) ∧ AllReal (gdb m c)
  ∧ ∀ y, lam m c y ≠ 0)
include hr

theorem block0 (t : Fin cfg0.N) (a k) : iblk m c 0 t (ix2 a k) = ((data m c).p (256 * t.val + a.val) k.val : EReal) := by
  have e0 : ((win0_0.blk t).view.emb (ix2 a k) 0).val = 256 * t.val + a.val := by blk_simp [index0_0]; simp; omega
  have e1 : ((win0_0.blk t).view.emb (ix2 a k) 1).val = k.val := by blk_simp [index0_0]
  exact (entry_eq (pre m c) ((win0_0.blk t).view.emb (ix2 a k)) e0 e1).trans (entry_real _ hr.1 _ _)

theorem block1 (t : Fin cfg0.N) (a k) : iblk m c 1 t (ix2 a k) = ((data m c).x (256 * t.val + a.val) k.val : EReal) := by
  have e0 : ((win0_1.blk t).view.emb (ix2 a k) 0).val = 256 * t.val + a.val := by blk_simp [index0_1]; simp; omega
  have e1 : ((win0_1.blk t).view.emb (ix2 a k) 1).val = k.val := by blk_simp [index0_1]
  exact (entry_eq (inp m c) ((win0_1.blk t).view.emb (ix2 a k)) e0 e1).trans (entry_real _ hr.2.1 _ _)

theorem block2 (t : Fin cfg0.N) (k) : iblk m c 2 t (ix2 0 k) = ((data m c).b k.val : EReal) := by
  have e0 : ((win0_2.blk t).view.emb (ix2 0 k) 0).val = 0 := by blk_simp [index0_2]; rfl
  have e1 : ((win0_2.blk t).view.emb (ix2 0 k) 1).val = k.val := by blk_simp [index0_2]
  exact (entry_eq (bias m c) ((win0_2.blk t).view.emb (ix2 0 k)) e0 e1).trans (entry_real _ hr.2.2.1 _ _)

theorem block3 (t : Fin cfg0.N) (k) : iblk m c 3 t (ix2 0 k) = ((data m c).l k.val : EReal) := by
  have e0 : ((win0_3.blk t).view.emb (ix2 0 k) 0).val = 0 := by blk_simp [index0_3]; rfl
  have e1 : ((win0_3.blk t).view.emb (ix2 0 k) 1).val = k.val := by blk_simp [index0_3]
  exact (entry_eq (lam m c) ((win0_3.blk t).view.emb (ix2 0 k)) e0 e1).trans (entry_real _ hr.2.2.2.1 _ _)

theorem block4 (t : Fin cfg0.N) (a k) : iblk m c 4 t (ix2 a k) = ((data m c).da (256 * t.val + a.val) k.val : EReal) := by
  have e0 : ((win0_4.blk t).view.emb (ix2 a k) 0).val = 256 * t.val + a.val := by blk_simp [index0_4]; simp; omega
  have e1 : ((win0_4.blk t).view.emb (ix2 a k) 1).val = k.val := by blk_simp [index0_4]
  exact (entry_eq (gda m c) ((win0_4.blk t).view.emb (ix2 a k)) e0 e1).trans (entry_real _ hr.2.2.2.2.1 _ _)

theorem block5 (t : Fin cfg0.N) (a k) : iblk m c 5 t (ix2 a k) = ((data m c).db (256 * t.val + a.val) k.val : EReal) := by
  have e0 : ((win0_5.blk t).view.emb (ix2 a k) 0).val = 256 * t.val + a.val := by blk_simp [index0_5]; simp; omega
  have e1 : ((win0_5.blk t).view.emb (ix2 a k) 1).val = k.val := by blk_simp [index0_5]
  exact (entry_eq (gdb m c) ((win0_5.blk t).view.emb (ix2 a k)) e0 e1).trans (entry_real _ hr.2.2.2.2.2.1 _ _)

theorem lam_ne (k : ℕ) (h : k < 1024) : (data m c).l k ≠ 0 := fun e => by
  have e' := entry_real _ hr.2.2.2.1 0 k
  change _ = ((data m c).l k : EReal) at e'
  rw [e] at e'
  refine hr.2.2.2.2.2.2 (ix2 0 ⟨k, h⟩) ((entry_eq (lam m c) (ix2 0 ⟨k, h⟩) rfl rfl).trans e')

theorem point6 (t : Fin cfg0.N) (a : Fin 256) (k : Fin 2048) : (outsAt0 m c t.val t.isLt).1 (ix2 a k) = ((data m c).dp (256 * t.val + a.val) k.val : EReal) := by
  refine Eq.trans (congrFun (?_ : _ = p34 (base t) (iblk m c 0 t) (iblk m c 1 t) (iblk m c 2 t) (iblk m c 3 t) (iblk m c 4 t) (iblk m c 5 t)) _)
    (p34_apply _ _ _ _ _ _ _ _ _ (block0 m c hr t) (block1 m c hr t) (block2 m c hr t) (block3 m c hr t) (block4 m c hr t) (block5 m c hr t)
      (base_mark t) a k)
  by_cases h : t.val % 16 = 0
  · rw [congrArg Prod.fst (outsAt0_A m c t h)]
    dsimp only
    frame_out
    rfl
  · rw [congrArg Prod.fst (outsAt0_B m c t h)]
    dsimp only
    frame_out
    rfl

theorem point7 (t : Fin cfg0.N) (a : Fin 256) (k : Fin 1024) : (outsAt0 m c t.val t.isLt).2.1 (ix2 a k)
    = (((data m c).dg (256 * t.val + a.val) k.val * (data m c).gate (256 * t.val + a.val) (1024 + k.val) : ℝ) : EReal) := by
  refine Eq.trans (congrFun (?_ : _ = p28 (base t) (iblk m c 0 t) (iblk m c 2 t) (iblk m c 3 t) (iblk m c 5 t)) _)
    (p28_apply _ _ _ _ _ _ _ (block0 m c hr t) (block2 m c hr t) (block3 m c hr t) (block5 m c hr t) (base_mark t) a k)
  by_cases h : t.val % 16 = 0
  · rw [congrArg (fun p => p.2.1) (outsAt0_A m c t h)]
    dsimp only
    frame_out
    rfl
  · rw [congrArg (fun p => p.2.1) (outsAt0_B m c t h)]
    dsimp only
    frame_out
    rfl

theorem acc8 (k : Fin 2048) (n : ℕ) (h : n < cfg0.N) : (outsAt0 m c n h).2.2.1 (ix2 0 k)
    = ∑ s ∈ Finset.range (n + 1), ((∑ a : Fin 256, (data m c).dp (256 * s + a.val) k.val : ℝ) : EReal) := by
  have p (t : Fin cfg0.N) := p37_apply _ _ _ _ _ _ _ _ _ (block0 m c hr t) (block1 m c hr t) (block2 m c hr t) (block3 m c hr t)
    (block4 m c hr t) (block5 m c hr t) (base_mark t) k
  refine S5PostB.carried (fun n h => (outsAt0 m c n h).2.2.1 (ix2 0 k)) _ (fun h => ?_) (fun n h => ?_) n h
  · rw [congrArg (fun p => p.2.2.1) (outsAt0_A m c ⟨0, h⟩ (Nat.zero_mod _))]
    dsimp only
    refine (congrFun (?_ : _ = p37 (base ⟨0, h⟩) _ _ _ _ _ _ (k0_pay35 (F := Ideal))) _).trans ((p ⟨0, h⟩ _).trans ?_)
    · frame_out
      rfl
    · pointwise [k0_pay35]
  · have hN : n + 1 < 16 := lt_of_lt_of_eq h N_0
    rw [congrArg (fun p => p.2.2.1) (outsAt0_B m c ⟨n + 1, h⟩ (by dsimp only; omega))]
    dsimp only
    refine (congrFun (?_ : _ = p37 (base ⟨n + 1, h⟩) _ _ _ _ _ _ _) _).trans (p ⟨n + 1, h⟩ _)
    frame_out
    rfl

theorem acc9 (k : Fin 1024) (n : ℕ) (h : n < cfg0.N) : (outsAt0 m c n h).2.2.2 (ix2 0 k)
    = ∑ s ∈ Finset.range (n + 1), ((-((∑ a : Fin 256, (data m c).ds (256 * s + a.val) k.val) * sg (-(data m c).l k.val)) : ℝ) : EReal) := by
  have p (t : Fin cfg0.N) := p38_apply _ _ _ _ _ _ _ _ _ (block0 m c hr t) (block1 m c hr t) (block2 m c hr t) (block3 m c hr t)
    (block4 m c hr t) (block5 m c hr t) (base_mark t) (lam_ne m c hr) k
  refine S5PostB.carried (fun n h => (outsAt0 m c n h).2.2.2 (ix2 0 k)) _ (fun h => ?_) (fun n h => ?_) n h
  · rw [congrArg (fun p => p.2.2.2) (outsAt0_A m c ⟨0, h⟩ (Nat.zero_mod _))]
    dsimp only
    refine (congrFun (?_ : _ = p38 (base ⟨0, h⟩) _ _ _ _ _ _ (k0_pay36 (F := Ideal))) _).trans ((p ⟨0, h⟩ _).trans ?_)
    · frame_out
      rfl
    · pointwise [k0_pay36]
  · have hN : n + 1 < 16 := lt_of_lt_of_eq h N_0
    rw [congrArg (fun p => p.2.2.2) (outsAt0_B m c ⟨n + 1, h⟩ (by dsimp only; omega))]
    dsimp only
    refine (congrFun (?_ : _ = p38 (base ⟨n + 1, h⟩) _ _ _ _ _ _ _) _).trans (p ⟨n + 1, h⟩ _)
    frame_out
    rfl

/-- The first result the launch leaves. -/
def out6 (i : S4096x2048.Idx) : EReal := ((data m c).dp (i 0).val (i 1).val : EReal)

theorem array6 : (dats m 0 c).arrAt 6 cfg0.N = out6 m c := by
  refine (dats m 0 c).arrAt_eq_of_covers 6 _ (by decide +kernel) fun t _ y => ?_
  blk_simp
  rw [after0_6]
  have e0 : ((win0_6.blk t).view.emb y 0).val = 256 * t.val + (y 0).val := by blk_simp [index0_6]; simp; omega
  have e1 : ((win0_6.blk t).view.emb y 1).val = (y 1).val := by blk_simp [index0_6]
  unfold out6
  rw [e0, e1]
  exact (congrArg _ (eq_ix2 y)).trans (point6 m c hr t (y 0) (y 1))

/-- The second result the launch leaves. -/
def out7 (i : S4096x1024.Idx) : EReal := (((data m c).dg (i 0).val (i 1).val * (data m c).gate (i 0).val (1024 + (i 1).val) : ℝ) : EReal)

theorem array7 : (dats m 0 c).arrAt 7 cfg0.N = out7 m c := by
  refine (dats m 0 c).arrAt_eq_of_covers 7 _ (by decide +kernel) fun t _ y => ?_
  blk_simp
  rw [after0_7]
  have e0 : ((win0_7.blk t).view.emb y 0).val = 256 * t.val + (y 0).val := by blk_simp [index0_7]; simp; omega
  have e1 : ((win0_7.blk t).view.emb y 1).val = (y 1).val := by blk_simp [index0_7]
  unfold out7
  rw [e0, e1]
  exact (congrArg _ (eq_ix2 y)).trans (point7 m c hr t (y 0) (y 1))

/-- The third result the launch leaves. -/
def out8 (i : S1x2048.Idx) : EReal := ((∑ a : Fin 4096, (data m c).dp a.val (i 1).val : ℝ) : EReal)

theorem array8 : (dats m 0 c).arrAt 8 cfg0.N = out8 m c := by
  refine (dats m 0 c).arrAt_eq_of_covers 8 _ (by decide +kernel) fun t hf y => ?_
  have h15 := flush8 t hf
  blk_simp
  rw [after0_8]
  have e1 : ((win0_8.blk t).view.emb y 1).val = (y 1).val := by blk_simp [index0_8]
  unfold out8
  rw [e1]
  have ey : y = ix2 0 (y 1) := by rw [eq_ix2 y]; exact congrArg (ix2 · (y 1)) (Subsingleton.elim (α := Fin 1) _ _)
  refine (congrArg _ ey).trans ((acc8 m c hr (y 1) t.val t.isLt).trans ?_)
  rw [h15, coe_sum, ← pieces fun a : ℕ => (data m c).dp a (y 1).val]

/-- The fourth result the launch leaves. -/
def out9 (i : S1x1024.Idx) : EReal := ((-((∑ a : Fin 4096, (data m c).ds a.val (i 1).val) * sg (-(data m c).l (i 1).val)) : ℝ) : EReal)

theorem array9 : (dats m 0 c).arrAt 9 cfg0.N = out9 m c := by
  refine (dats m 0 c).arrAt_eq_of_covers 9 _ (by decide +kernel) fun t hf y => ?_
  have h15 := flush9 t hf
  blk_simp
  rw [after0_9]
  have e1 : ((win0_9.blk t).view.emb y 1).val = (y 1).val := by blk_simp [index0_9]
  unfold out9
  rw [e1]
  have ey : y = ix2 0 (y 1) := by rw [eq_ix2 y]; exact congrArg (ix2 · (y 1)) (Subsingleton.elim (α := Fin 1) _ _)
  refine (congrArg _ ey).trans ((acc9 m c hr (y 1) t.val t.isLt).trans ?_)
  rw [h15, coe_sum, Finset.sum_neg_distrib, ← Finset.sum_mul, ← pieces fun a : ℕ => (data m c).ds a (y 1).val]

end Array

/-! ## The equation -/

namespace Data

variable (D : Data) (i k : ℕ)

/-- A gate in the reference's spelling. -/
abbrev rgate : EReal := rsg ((D.p i k : EReal) + (D.b k : EReal))
/-- The logarithm of the decay in the reference's spelling. -/
abbrev rla : EReal := Ideal.ofBits FTy.f32 3238002688#32 * D.rgate i k * rsp (D.l k)
/-- Its gradient. -/
abbrev rdla : EReal := rdlg (mark i) (D.rla i k) (D.x i k * D.rgate i (1024 + k) * D.db i k) (D.da i k)
/-- The gradient of the gated input. -/
abbrev rdg : EReal := D.db i k * Scalar.select (mark i) (Ideal.ofBits FTy.f32 1065353216#32) (Ideal.sqrt (max (rM (D.rla i k)) 0))

theorem gate_eq : D.rgate i k = (D.gate i k : EReal) := by
  unfold rgate
  rw [← EReal.coe_add, rsg_coe]
  rfl

theorem la_eq : D.rla i k = (D.la i k : EReal) := by
  unfold rla
  rw [gate_eq, rsp_coe, neg8_eq, ← EReal.coe_mul, ← EReal.coe_mul]
  rfl

theorem dla_eq : D.rdla i k = (D.dla i k : EReal) := by
  unfold rdla
  rw [la_eq, gate_eq, ← EReal.coe_mul, ← EReal.coe_mul, rdlg_coe _ _ _ _ (D.room i k)]
  rfl

theorem dg_eq : D.rdg i k = (D.dg i k : EReal) := by
  unfold rdg
  rw [la_eq, Ideal.ofBits_one_f32, rwt_coe _ _ (D.room i k), ← EReal.coe_mul]
  rfl

theorem dp1_eq : Ideal.ofBits FTy.f32 3238002688#32 * (D.rdla i k * rsp (D.l k)) * (D.rgate i k * (1 - D.rgate i k)) = (D.dp1 i k : EReal) := by
  rw [dla_eq, gate_eq, rsp_coe, slope_coe, neg8_eq, ← EReal.coe_mul, ← EReal.coe_mul, ← EReal.coe_mul]
  rfl

theorem dp2_eq : (D.x i k : EReal) * D.rdg i k * (D.rgate i (1024 + k) * (1 - D.rgate i (1024 + k))) = (D.dp2 i k : EReal) := by
  rw [dg_eq, gate_eq, slope_coe, ← EReal.coe_mul, ← EReal.coe_mul]
  rfl

theorem ds_eq : Ideal.ofBits FTy.f32 3238002688#32 * D.rgate i k * D.rdla i k = (D.ds i k : EReal) := by
  rw [dla_eq, gate_eq, neg8_eq, ← EReal.coe_mul, ← EReal.coe_mul]
  rfl

end Data

/-- The columns from 1024 on are the padded array's own. -/
theorem right {n : ℕ} (a : Fin n) (k : Fin 2048) (h : ¬ k.val < 1024) : ∀ i : Fin 2, ![0, 1024] i ≤ (ix2 a k i).val
    ∧ ((ix2 a k i).val - ![0, 1024] i) % (![0, 0] i + 1) = 0 ∧ ((ix2 a k i).val - ![0, 1024] i) / (![0, 0] i + 1) < ![n, 1024] i :=
  Fin.forall_fin_two.mpr ⟨⟨Nat.zero_le _, Nat.mod_one _, (Nat.div_one _).trans_lt a.isLt⟩, not_lt.mp h, Nat.mod_one _,
    (Nat.div_one _).trans_lt (Nat.sub_lt_left_of_lt_add (not_lt.mp h) k.isLt)⟩

theorem left {n : ℕ} (a : Fin n) (k : Fin 2048) (h : k.val < 1024) : ¬ ∀ i : Fin 2, ![0, 1024] i ≤ (ix2 a k i).val
    ∧ ((ix2 a k i).val - ![0, 1024] i) % (![0, 0] i + 1) = 0 ∧ ((ix2 a k i).val - ![0, 1024] i) / (![0, 0] i + 1) < ![n, 1024] i :=
  fun h' => (h' 1).1.not_gt h

section Equation

variable (m : (ℓ : Loc nD τ sig) → Buf (Elt Ideal) ℓ) (c : Dev nD)
variable (hr : AllReal (pre m c) ∧ AllReal (inp m c) ∧ AllReal (bias m c) ∧ AllReal (lam m c) ∧ AllReal (gda m c) ∧ AllReal (gdb m c)
  ∧ ∀ y, lam m c y ≠ 0)
include hr

theorem pre_at (a k) : pre m c (ix2 a k) = ((data m c).p a.val k.val : EReal) := (entry_eq (pre m c) (ix2 a k) rfl rfl).trans (entry_real _ hr.1 _ _)
theorem inp_at (a k) : inp m c (ix2 a k) = ((data m c).x a.val k.val : EReal) := (entry_eq (inp m c) (ix2 a k) rfl rfl).trans (entry_real _ hr.2.1 _ _)
theorem bias_at (k) : bias m c (ix2 0 k) = ((data m c).b k.val : EReal) := (entry_eq (bias m c) (ix2 0 k) rfl rfl).trans (entry_real _ hr.2.2.1 _ _)
theorem lam_at (k) : lam m c (ix2 0 k) = ((data m c).l k.val : EReal) := (entry_eq (lam m c) (ix2 0 k) rfl rfl).trans (entry_real _ hr.2.2.2.1 _ _)
theorem gda_at (a k) : gda m c (ix2 a k) = ((data m c).da a.val k.val : EReal) := (entry_eq (gda m c) (ix2 a k) rfl rfl).trans (entry_real _ hr.2.2.2.2.1 _ _)
theorem gdb_at (a k) : gdb m c (ix2 a k) = ((data m c).db a.val k.val : EReal) := (entry_eq (gdb m c) (ix2 a k) rfl rfl).trans (entry_real _ hr.2.2.2.2.2.1 _ _)

end Equation

set_option maxHeartbeats 4000000 in
/-- From memories agreeing on the arguments, the kernel's results are the reference's. -/
theorem equal : algebraic_LruPreBwdIdeal_LruPreBwdRefIdeal_pre_lru_finite (hLruPreBwdIdeal := LruPreBwdIdeal.Gen.facts)
    (hLruPreBwdRefIdeal := LruPreBwdRefIdeal.Gen.facts) (hPre_lru_finite := preFacts) := fun m ρ m' ρ' hpre hagree => by
  have hr (c : Dev nD) := args _ _ _ _ _ _ (hpre c)
  refine ⟨_, _, _, _, run_blocks m ρ, (LruPreBwdRefIdeal.Value.run m' ρ').mono fun _ h c => ⟨(h c).1.trans ?_, (h c).2.1.trans ?_,
    (h c).2.2.1.trans ?_, (h c).2.2.2.1.trans ?_, (h c).2.2.2.2⟩⟩
  all_goals obtain ⟨e0, e1, e2, e3, e4, e5⟩ := hagree c
  · refine Eq.trans ?_ (array6 m c (hr c)).symm
    funext y
    obtain ⟨a, k, rfl⟩ : ∃ (a : Fin 4096) (k : Fin 2048), y = ix2 a k := ⟨y 0, y 1, eq_ix2 y⟩
    unfold LruPreBwdRefIdeal.Value.res_main_v92
    rw [e0, e1, e2, e3, e4, e5]
    pointwise []
    simp only [pre_at m c (hr c), inp_at m c (hr c), bias_at m c (hr c), lam_at m c (hr c), gda_at m c (hr c), gdb_at m c (hr c)]
    by_cases hk : k.val < 1024
    · refine (congrArg₂ (fun s d : EReal => s + d) (?_ : _ = (0 : EReal)) ((dif_pos hk).trans ((data m c).dp1_eq a.val k.val))).trans ?_
      · exact dif_neg (left a k hk)
      · exact (zero_add _).trans (congrArg _ (if_pos hk).symm)
    · refine (congrArg₂ (fun s d : EReal => s + d) (?_ : _ = ((data m c).dp2 a.val (k.val - 1024) : EReal)) (dif_neg hk)).trans ?_
      · exact (dif_pos (right a k hk)).trans ((data m c).dp2_eq a.val (k.val - 1024))
      · exact (add_zero _).trans (congrArg _ (if_neg hk).symm)
  · refine Eq.trans ?_ (array7 m c (hr c)).symm
    funext y
    obtain ⟨a, k, rfl⟩ : ∃ (a : Fin 4096) (k : Fin 1024), y = ix2 a k := ⟨y 0, y 1, eq_ix2 y⟩
    rw [e0, e2, e3, e5]
    pointwise []
    simp only [pre_at m c (hr c), bias_at m c (hr c), lam_at m c (hr c), gdb_at m c (hr c)]
    refine (congrArg₂ (· * ·) ((data m c).dg_eq a.val k.val) ((data m c).gate_eq a.val (1024 + k.val))).trans ?_
    rw [← EReal.coe_mul]
    rfl
  · refine Eq.trans ?_ (array8 m c (hr c)).symm
    funext y
    obtain ⟨k, rfl⟩ : ∃ k : Fin 2048, y = ix2 0 k := ⟨y 1, by rw [eq_ix2 y]; exact congrArg (ix2 · (y 1)) (Subsingleton.elim (α := Fin 1) _ _)⟩
    unfold LruPreBwdRefIdeal.Value.res_main_v90
    rw [e0, e1, e2, e3, e4, e5]
    pointwise []
    simp only [pre_at m c (hr c), inp_at m c (hr c), bias_at m c (hr c), lam_at m c (hr c), gda_at m c (hr c), gdb_at m c (hr c)]
    by_cases hk : k.val < 1024
    · refine (congrArg₂ (fun s d : EReal => s + d) (?_ : _ = (0 : EReal)) ((dif_pos hk).trans
        ((Finset.sum_congr rfl fun (x : Fin 4096) _ => (data m c).dp1_eq x.val k.val).trans (coe_sum _ _)))).trans ?_
      · exact dif_neg fun h => h.1.not_gt hk
      · exact (zero_add _).trans (congrArg _ (Finset.sum_congr rfl fun x _ => (if_pos hk).symm))
    · refine (congrArg₂ (fun s d : EReal => s + d) (?_ : _ = ((∑ x : Fin 4096, (data m c).dp2 x.val (k.val - 1024) : ℝ) : EReal)) (dif_neg hk)).trans ?_
      · exact (dif_pos ⟨not_lt.mp hk, by omega⟩).trans
          ((Finset.sum_congr rfl fun (x : Fin 4096) _ => (data m c).dp2_eq x.val (k.val - 1024)).trans (coe_sum _ _))
      · exact (add_zero _).trans (congrArg _ (Finset.sum_congr rfl fun x _ => (if_neg hk).symm))
  · refine Eq.trans ?_ (array9 m c (hr c)).symm
    funext y
    obtain ⟨k, rfl⟩ : ∃ k : Fin 1024, y = ix2 0 k := ⟨y 1, by rw [eq_ix2 y]; exact congrArg (ix2 · (y 1)) (Subsingleton.elim (α := Fin 1) _ _)⟩
    unfold LruPreBwdRefIdeal.Value.res_main_v78
    rw [e0, e1, e2, e3, e4, e5]
    pointwise []
    simp only [pre_at m c (hr c), inp_at m c (hr c), bias_at m c (hr c), lam_at m c (hr c), gda_at m c (hr c), gdb_at m c (hr c)]
    refine (congrArg₂ (fun s d : EReal => -(s * d)) ((Finset.sum_congr rfl fun x _ => (data m c).ds_eq x.val k.val).trans (coe_sum _ _)) (rdsp_coe _)).trans ?_
    rw [← EReal.coe_mul, ← EReal.coe_neg]
    rfl

end Cert.LruPreB
end
-- ==== Proof.lean ====
/- The proof of the claim: the frames of every program, and for each kernel program the equation of its results with its
   reference's (`Proof/Equal.lean` and `Proof/S5Equal.lean` for the recurrences, the other modules for the products). -/
module

public import proofs.«01_k».proof.Defs
public import proofs.«01_k».proof.Proof.Gen.Kernel.Frame
public import proofs.«01_k».proof.Proof.Gen.KernelIdeal.Frame
public import proofs.«01_k».proof.Proof.Equal
public import proofs.«01_k».proof.Proof.Gen.S5Scan.Frame
public import proofs.«01_k».proof.Proof.Gen.S5ScanIdeal.Frame
public import proofs.«01_k».proof.Proof.S5Equal
public import Idealize.ShloMosaic.Lib.Quiescent
public import proofs.«01_k».proof.Proof.Gen.MlpPre.Frame
public import proofs.«01_k».proof.Proof.MlpPreRun
public import proofs.«01_k».proof.Proof.Gen.MlpDown.Frame
public import proofs.«01_k».proof.Proof.MlpDown
public import proofs.«01_k».proof.Proof.Gen.MlpDownDw.Frame
public import proofs.«01_k».proof.Proof.MlpDownDw
public import proofs.«01_k».proof.Proof.Gen.MlpUpDx.Frame
public import proofs.«01_k».proof.Proof.MlpUpDx
public import proofs.«01_k».proof.Proof.Gen.MlpUpDw.Frame
public import proofs.«01_k».proof.Proof.MlpUpDw
public import proofs.«01_k».proof.Proof.Gen.OutProj.Frame
public import proofs.«01_k».proof.Proof.OutProj
public import proofs.«01_k».proof.Proof.Gen.OutProjDx.Frame
public import proofs.«01_k».proof.Proof.OutProjDx
public import proofs.«01_k».proof.Proof.Gen.OutProjDw.Frame
public import proofs.«01_k».proof.Proof.OutProjDw
public import proofs.«01_k».proof.Proof.Gen.PlGate.Frame
public import proofs.«01_k».proof.Proof.PlGate
public import proofs.«01_k».proof.Proof.Gen.PlProj.Frame
public import proofs.«01_k».proof.Proof.PlProj
public import proofs.«01_k».proof.Proof.Gen.PlProjDw.Frame
public import proofs.«01_k».proof.Proof.PlProjDw
public import proofs.«01_k».proof.Proof.Gen.EvenIn.Frame
public import proofs.«01_k».proof.Proof.EvenIn
public import proofs.«01_k».proof.Proof.Gen.EvenInDx.Frame
public import proofs.«01_k».proof.Proof.EvenInDx
public import proofs.«01_k».proof.Proof.Gen.EvenInDw.Frame
public import proofs.«01_k».proof.Proof.EvenInDw
public import proofs.«01_k».proof.Proof.Gen.OddIn.Frame
public import proofs.«01_k».proof.Proof.OddIn
public import proofs.«01_k».proof.Proof.Gen.OddInDx.Frame
public import proofs.«01_k».proof.Proof.OddInDx
public import proofs.«01_k».proof.Proof.Gen.OddInDw.Frame
public import proofs.«01_k».proof.Proof.OddInDw
public import proofs.«01_k».proof.Proof.Gen.NormBwd.Frame
public import proofs.«01_k».proof.Proof.NormBwd
public import proofs.«01_k».proof.Proof.Gen.GateBwd.Frame
public import proofs.«01_k».proof.Proof.GateBwd
public import proofs.«01_k».proof.Proof.Gen.ConvBwd.Frame
public import proofs.«01_k».proof.Proof.ConvBwd
public import proofs.«01_k».proof.Proof.Gen.ShiftBwd.Frame
public import proofs.«01_k».proof.Proof.ShiftBwd
public import proofs.«01_k».proof.Proof.Gen.GeluGateBwd.Frame
public import proofs.«01_k».proof.Proof.GeluGateBwd
public import proofs.«01_k».proof.Proof.Gen.AdamwEarly.Frame
public import proofs.«01_k».proof.Proof.AdamwEarly
public import proofs.«01_k».proof.Proof.Gen.AdamwMid.Frame
public import proofs.«01_k».proof.Proof.AdamwMid
public import proofs.«01_k».proof.Proof.Gen.AdamwMain.Frame
public import proofs.«01_k».proof.Proof.AdamwMain
public import proofs.«01_k».proof.Proof.Gen.AdamwSmall.Frame
public import proofs.«01_k».proof.Proof.AdamwSmall
public import proofs.«01_k».proof.Proof.Gen.LruGates.Frame
public import proofs.«01_k».proof.Proof.LruGates
public import proofs.«01_k».proof.Proof.Gen.LruGatesDx.Frame
public import proofs.«01_k».proof.Proof.LruGatesDx
public import proofs.«01_k».proof.Proof.Gen.LruGatesDw.Frame
public import proofs.«01_k».proof.Proof.LruGatesDw
public import proofs.«01_k».proof.Proof.Gen.S5Bu.Frame
public import proofs.«01_k».proof.Proof.S5Bu
public import proofs.«01_k».proof.Proof.Gen.S5Dx.Frame
public import proofs.«01_k».proof.Proof.S5Dx
public import proofs.«01_k».proof.Proof.Gen.S5Y.Frame
public import proofs.«01_k».proof.Proof.S5Y
public import proofs.«01_k».proof.Proof.Gen.S5YAdd.Frame
public import proofs.«01_k».proof.Proof.S5YAdd
public import proofs.«01_k».proof.Proof.Gen.S5Dc.Frame
public import proofs.«01_k».proof.Proof.S5Dc
public import proofs.«01_k».proof.Proof.Gen.S5Du.Frame
public import proofs.«01_k».proof.Proof.S5Du
public import proofs.«01_k».proof.Proof.Gen.S5Db.Frame
public import proofs.«01_k».proof.Proof.S5Db
public import proofs.«01_k».proof.Proof.Gen.S5PostBwd.Frame
public import proofs.«01_k».proof.Proof.S5PostBwd
public import proofs.«01_k».proof.Proof.Gen.LruPreBwd.Frame
public import proofs.«01_k».proof.Proof.LruPreBwd

@[expose] public section

noncomputable section

namespace Cert.Proof

open Idealize.ShloMosaic

/-- Everything claimed: each program runs with its arguments kept, and the results agree. -/
theorem claim : Cert.Claim :=
  ⟨Kernel.Gen.facts, KernelIdeal.Gen.facts, ReferenceIdeal.Gen.facts,
    S5Scan.Gen.facts, S5ScanIdeal.Gen.facts, S5ScanRefIdeal.Gen.facts,
    MlpPre.Gen.facts, MlpPreIdeal.Gen.facts, MlpPreRefIdeal.Gen.facts,
    MlpDown.Gen.facts, MlpDownIdeal.Gen.facts, MlpDownRefIdeal.Gen.facts,
    MlpDownDw.Gen.facts, MlpDownDwIdeal.Gen.facts, MlpDownDwRefIdeal.Gen.facts,
    MlpUpDx.Gen.facts, MlpUpDxIdeal.Gen.facts, MlpUpDxRefIdeal.Gen.facts,
    MlpUpDw.Gen.facts, MlpUpDwIdeal.Gen.facts, MlpUpDwRefIdeal.Gen.facts,
    OutProj.Gen.facts, OutProjIdeal.Gen.facts, OutProjRefIdeal.Gen.facts,
    OutProjDx.Gen.facts, OutProjDxIdeal.Gen.facts, OutProjDxRefIdeal.Gen.facts,
    OutProjDw.Gen.facts, OutProjDwIdeal.Gen.facts, OutProjDwRefIdeal.Gen.facts,
    PlGate.Gen.facts, PlGateIdeal.Gen.facts, PlGateRefIdeal.Gen.facts,
    PlProj.Gen.facts, PlProjIdeal.Gen.facts, PlProjRefIdeal.Gen.facts,
    PlProjDw.Gen.facts, PlProjDwIdeal.Gen.facts, PlProjDwRefIdeal.Gen.facts,
    EvenIn.Gen.facts, EvenInIdeal.Gen.facts, EvenInRefIdeal.Gen.facts,
    EvenInDx.Gen.facts, EvenInDxIdeal.Gen.facts, EvenInDxRefIdeal.Gen.facts,
    EvenInDw.Gen.facts, EvenInDwIdeal.Gen.facts, EvenInDwRefIdeal.Gen.facts,
    OddIn.Gen.facts, OddInIdeal.Gen.facts, OddInRefIdeal.Gen.facts,
    OddInDx.Gen.facts, OddInDxIdeal.Gen.facts, OddInDxRefIdeal.Gen.facts,
    OddInDw.Gen.facts, OddInDwIdeal.Gen.facts, OddInDwRefIdeal.Gen.facts,
    NormBwd.Gen.facts, NormBwdIdeal.Gen.facts, NormBwdRefIdeal.Gen.facts,
    GateBwd.Gen.facts, GateBwdIdeal.Gen.facts, GateBwdRefIdeal.Gen.facts,
    ConvBwd.Gen.facts, ConvBwdIdeal.Gen.facts, ConvBwdRefIdeal.Gen.facts,
    ShiftBwd.Gen.facts, ShiftBwdIdeal.Gen.facts, ShiftBwdRefIdeal.Gen.facts,
    GeluGateBwd.Gen.facts, GeluGateBwdIdeal.Gen.facts, GeluGateBwdRefIdeal.Gen.facts,
    AdamwEarly.Gen.facts, AdamwEarlyIdeal.Gen.facts, AdamwEarlyRefIdeal.Gen.facts,
    AdamwMid.Gen.facts, AdamwMidIdeal.Gen.facts, AdamwMidRefIdeal.Gen.facts,
    AdamwMain.Gen.facts, AdamwMainIdeal.Gen.facts, AdamwMainRefIdeal.Gen.facts,
    AdamwSmall.Gen.facts, AdamwSmallIdeal.Gen.facts, AdamwSmallRefIdeal.Gen.facts,
    LruGates.Gen.facts, LruGatesIdeal.Gen.facts, LruGatesRefIdeal.Gen.facts,
    LruGatesDx.Gen.facts, LruGatesDxIdeal.Gen.facts, LruGatesDxRefIdeal.Gen.facts,
    LruGatesDw.Gen.facts, LruGatesDwIdeal.Gen.facts, LruGatesDwRefIdeal.Gen.facts,
    S5Bu.Gen.facts, S5BuIdeal.Gen.facts, S5BuRefIdeal.Gen.facts,
    S5Dx.Gen.facts, S5DxIdeal.Gen.facts, S5DxRefIdeal.Gen.facts,
    S5Y.Gen.facts, S5YIdeal.Gen.facts, S5YRefIdeal.Gen.facts,
    S5YAdd.Gen.facts, S5YAddIdeal.Gen.facts, S5YAddRefIdeal.Gen.facts,
    S5Dc.Gen.facts, S5DcIdeal.Gen.facts, S5DcRefIdeal.Gen.facts,
    S5Du.Gen.facts, S5DuIdeal.Gen.facts, S5DuRefIdeal.Gen.facts,
    S5Db.Gen.facts, S5DbIdeal.Gen.facts, S5DbRefIdeal.Gen.facts,
    S5PostBwd.Gen.facts, S5PostBwdIdeal.Gen.facts, S5PostBwdRefIdeal.Gen.facts,
    LruPreBwd.Gen.facts, LruPreBwdIdeal.Gen.facts, LruPreBwdRefIdeal.Gen.facts,
    Scan.preFacts, S5.preFacts, LruPreB.preFacts,
    fun m ρ _ => Kernel.Gen.frame m ρ, fun m ρ _ => KernelIdeal.Gen.frame m ρ,
    fun m ρ _ => KernelIdeal.Gen.frame m ρ, Scan.ref_frame, fun m ρ _ => Scan.ref_frame m ρ trivial,
    fun m ρ _ => S5Scan.Gen.frame m ρ, fun m ρ _ => S5ScanIdeal.Gen.frame m ρ,
    fun m ρ _ => S5ScanIdeal.Gen.frame m ρ, S5.ref_frame, fun m ρ _ => S5.ref_frame m ρ trivial,
    fun m ρ _ => MlpPre.Gen.frame m ρ, fun m ρ _ => MlpPreIdeal.Gen.frame m ρ,
    fun m ρ _ => (MlpPreRefIdeal.Value.run m ρ).mono fun _ h => ⟨fun c => (h c).2.2, sem_eq_zero_of_no_sems (by decide) _⟩,
    fun m ρ _ => MlpDown.Gen.frame m ρ, fun m ρ _ => MlpDownIdeal.Gen.frame m ρ,
    fun m ρ _ => (MlpDownRefIdeal.Value.run m ρ).mono fun _ h => ⟨fun c => (h c).2, sem_eq_zero_of_no_sems (by decide) _⟩,
    fun m ρ _ => MlpDownDw.Gen.frame m ρ, fun m ρ _ => MlpDownDwIdeal.Gen.frame m ρ,
    fun m ρ _ => (MlpDownDwRefIdeal.Value.run m ρ).mono fun _ h => ⟨fun c => (h c).2, sem_eq_zero_of_no_sems (by decide) _⟩,
    fun m ρ _ => MlpUpDx.Gen.frame m ρ, fun m ρ _ => MlpUpDxIdeal.Gen.frame m ρ,
    fun m ρ _ => (MlpUpDxRefIdeal.Value.run m ρ).mono fun _ h => ⟨fun c => (h c).2, sem_eq_zero_of_no_sems (by decide) _⟩,
    fun m ρ _ => MlpUpDw.Gen.frame m ρ, fun m ρ _ => MlpUpDwIdeal.Gen.frame m ρ,
    fun m ρ _ => (MlpUpDwRefIdeal.Value.run m ρ).mono fun _ h => ⟨fun c => (h c).2, sem_eq_zero_of_no_sems (by decide) _⟩,
    fun m ρ _ => OutProj.Gen.frame m ρ, fun m ρ _ => OutProjIdeal.Gen.frame m ρ,
    fun m ρ _ => (OutProjRefIdeal.Value.run m ρ).mono fun _ h => ⟨fun c => (h c).2, sem_eq_zero_of_no_sems (by decide) _⟩,
    fun m ρ _ => OutProjDx.Gen.frame m ρ, fun m ρ _ => OutProjDxIdeal.Gen.frame m ρ,
    fun m ρ _ => (OutProjDxRefIdeal.Value.run m ρ).mono fun _ h => ⟨fun c => (h c).2, sem_eq_zero_of_no_sems (by decide) _⟩,
    fun m ρ _ => OutProjDw.Gen.frame m ρ, fun m ρ _ => OutProjDwIdeal.Gen.frame m ρ,
    fun m ρ _ => (OutProjDwRefIdeal.Value.run m ρ).mono fun _ h => ⟨fun c => (h c).2, sem_eq_zero_of_no_sems (by decide) _⟩,
    fun m ρ _ => PlGate.Gen.frame m ρ, fun m ρ _ => PlGateIdeal.Gen.frame m ρ,
    fun m ρ _ => (PlGateRefIdeal.Value.run m ρ).mono fun _ h => ⟨fun c => (h c).2, sem_eq_zero_of_no_sems (by decide) _⟩,
    fun m ρ _ => PlProj.Gen.frame m ρ, fun m ρ _ => PlProjIdeal.Gen.frame m ρ,
    fun m ρ _ => (PlProjRefIdeal.Value.run m ρ).mono fun _ h => ⟨fun c => (h c).2, sem_eq_zero_of_no_sems (by decide) _⟩,
    fun m ρ _ => PlProjDw.Gen.frame m ρ, fun m ρ _ => PlProjDwIdeal.Gen.frame m ρ,
    fun m ρ _ => (PlProjDwRefIdeal.Value.run m ρ).mono fun _ h => ⟨fun c => (h c).2, sem_eq_zero_of_no_sems (by decide) _⟩,
    fun m ρ _ => EvenIn.Gen.frame m ρ, fun m ρ _ => EvenInIdeal.Gen.frame m ρ,
    fun m ρ _ => (EvenInRefIdeal.Value.run m ρ).mono fun _ h => ⟨fun c => (h c).2, sem_eq_zero_of_no_sems (by decide) _⟩,
    fun m ρ _ => EvenInDx.Gen.frame m ρ, fun m ρ _ => EvenInDxIdeal.Gen.frame m ρ,
    fun m ρ _ => (EvenInDxRefIdeal.Value.run m ρ).mono fun _ h => ⟨fun c => (h c).2, sem_eq_zero_of_no_sems (by decide) _⟩,
    fun m ρ _ => EvenInDw.Gen.frame m ρ, fun m ρ _ => EvenInDwIdeal.Gen.frame m ρ,
    fun m ρ _ => (EvenInDwRefIdeal.Value.run m ρ).mono fun _ h => ⟨fun c => (h c).2, sem_eq_zero_of_no_sems (by decide) _⟩,
    fun m ρ _ => OddIn.Gen.frame m ρ, fun m ρ _ => OddInIdeal.Gen.frame m ρ,
    fun m ρ _ => (OddInRefIdeal.Value.run m ρ).mono fun _ h => ⟨fun c => (h c).2, sem_eq_zero_of_no_sems (by decide) _⟩,
    fun m ρ _ => OddInDx.Gen.frame m ρ, fun m ρ _ => OddInDxIdeal.Gen.frame m ρ,
    fun m ρ _ => (OddInDxRefIdeal.Value.run m ρ).mono fun _ h => ⟨fun c => (h c).2, sem_eq_zero_of_no_sems (by decide) _⟩,
    fun m ρ _ => OddInDw.Gen.frame m ρ, fun m ρ _ => OddInDwIdeal.Gen.frame m ρ,
    fun m ρ _ => (OddInDwRefIdeal.Value.run m ρ).mono fun _ h => ⟨fun c => (h c).2, sem_eq_zero_of_no_sems (by decide) _⟩,
    fun m ρ _ => NormBwd.Gen.frame m ρ, fun m ρ _ => NormBwdIdeal.Gen.frame m ρ,
    fun m ρ _ => (NormBwdRefIdeal.Value.run m ρ).mono fun _ h => ⟨fun c => (h c).2.2, sem_eq_zero_of_no_sems (by decide) _⟩,
    fun m ρ _ => GateBwd.Gen.frame m ρ, fun m ρ _ => GateBwdIdeal.Gen.frame m ρ,
    fun m ρ _ => (GateBwdRefIdeal.Value.run m ρ).mono fun _ h => ⟨fun c => (h c).2.2, sem_eq_zero_of_no_sems (by decide) _⟩,
    fun m ρ _ => ConvBwd.Gen.frame m ρ, fun m ρ _ => ConvBwdIdeal.Gen.frame m ρ,
    fun m ρ _ => (ConvBwdRefIdeal.Value.run m ρ).mono fun _ h => ⟨fun c => (h c).2.2.2, sem_eq_zero_of_no_sems (by decide) _⟩,
    fun m ρ _ => ShiftBwd.Gen.frame m ρ, fun m ρ _ => ShiftBwdIdeal.Gen.frame m ρ,
    fun m ρ _ => (ShiftBwdRefIdeal.Value.run m ρ).mono fun _ h => ⟨fun c => (h c).2.2, sem_eq_zero_of_no_sems (by decide) _⟩,
    fun m ρ _ => GeluGateBwd.Gen.frame m ρ, fun m ρ _ => GeluGateBwdIdeal.Gen.frame m ρ,
    fun m ρ _ => (GeluGateBwdRefIdeal.Value.run m ρ).mono fun _ h => ⟨fun c => (h c).2.2, sem_eq_zero_of_no_sems (by decide) _⟩,
    fun m ρ _ => AdamwEarly.Gen.frame m ρ, fun m ρ _ => AdamwEarlyIdeal.Gen.frame m ρ,
    fun m ρ _ => (AdamwEarlyRefIdeal.Value.run m ρ).mono fun _ h => ⟨fun c => (h c).2.2.2.2, sem_eq_zero_of_no_sems (by decide) _⟩,
    fun m ρ _ => AdamwMid.Gen.frame m ρ, fun m ρ _ => AdamwMidIdeal.Gen.frame m ρ,
    fun m ρ _ => (AdamwMidRefIdeal.Value.run m ρ).mono fun _ h => ⟨fun c => (h c).2.2.2.2, sem_eq_zero_of_no_sems (by decide) _⟩,
    fun m ρ _ => AdamwMain.Gen.frame m ρ, fun m ρ _ => AdamwMainIdeal.Gen.frame m ρ,
    fun m ρ _ => (AdamwMainRefIdeal.Value.run m ρ).mono fun _ h => ⟨fun c => (h c).2.2.2.2, sem_eq_zero_of_no_sems (by decide) _⟩,
    fun m ρ _ => AdamwSmall.Gen.frame m ρ, fun m ρ _ => AdamwSmallIdeal.Gen.frame m ρ,
    fun m ρ _ => (AdamwSmallRefIdeal.Value.run m ρ).mono fun _ h => ⟨fun c => (h c).2.2.2.2, sem_eq_zero_of_no_sems (by decide) _⟩,
    fun m ρ _ => LruGates.Gen.frame m ρ, fun m ρ _ => LruGatesIdeal.Gen.frame m ρ,
    fun m ρ _ => (LruGatesRefIdeal.Value.run m ρ).mono fun _ h => ⟨fun c => (h c).2, sem_eq_zero_of_no_sems (by decide) _⟩,
    fun m ρ _ => LruGatesDx.Gen.frame m ρ, fun m ρ _ => LruGatesDxIdeal.Gen.frame m ρ,
    fun m ρ _ => (LruGatesDxRefIdeal.Value.run m ρ).mono fun _ h => ⟨fun c => (h c).2, sem_eq_zero_of_no_sems (by decide) _⟩,
    fun m ρ _ => LruGatesDw.Gen.frame m ρ, fun m ρ _ => LruGatesDwIdeal.Gen.frame m ρ,
    fun m ρ _ => (LruGatesDwRefIdeal.Value.run m ρ).mono fun _ h => ⟨fun c => (h c).2, sem_eq_zero_of_no_sems (by decide) _⟩,
    fun m ρ _ => S5Bu.Gen.frame m ρ, fun m ρ _ => S5BuIdeal.Gen.frame m ρ,
    fun m ρ _ => (S5BuRefIdeal.Value.run m ρ).mono fun _ h => ⟨fun c => (h c).2, sem_eq_zero_of_no_sems (by decide) _⟩,
    fun m ρ _ => S5Dx.Gen.frame m ρ, fun m ρ _ => S5DxIdeal.Gen.frame m ρ,
    fun m ρ _ => (S5DxRefIdeal.Value.run m ρ).mono fun _ h => ⟨fun c => (h c).2, sem_eq_zero_of_no_sems (by decide) _⟩,
    fun m ρ _ => S5Y.Gen.frame m ρ, fun m ρ _ => S5YIdeal.Gen.frame m ρ,
    fun m ρ _ => (S5YRefIdeal.Value.run m ρ).mono fun _ h => ⟨fun c => (h c).2, sem_eq_zero_of_no_sems (by decide) _⟩,
    fun m ρ _ => S5YAdd.Gen.frame m ρ, fun m ρ _ => S5YAddIdeal.Gen.frame m ρ,
    fun m ρ _ => (S5YAddRefIdeal.Value.run m ρ).mono fun _ h => ⟨fun c => (h c).2, sem_eq_zero_of_no_sems (by decide) _⟩,
    fun m ρ _ => S5Dc.Gen.frame m ρ, fun m ρ _ => S5DcIdeal.Gen.frame m ρ,
    fun m ρ _ => (S5DcRefIdeal.Value.run m ρ).mono fun _ h => ⟨fun c => (h c).2, sem_eq_zero_of_no_sems (by decide) _⟩,
    fun m ρ _ => S5Du.Gen.frame m ρ, fun m ρ _ => S5DuIdeal.Gen.frame m ρ,
    fun m ρ _ => (S5DuRefIdeal.Value.run m ρ).mono fun _ h => ⟨fun c => (h c).2, sem_eq_zero_of_no_sems (by decide) _⟩,
    fun m ρ _ => S5Db.Gen.frame m ρ, fun m ρ _ => S5DbIdeal.Gen.frame m ρ,
    fun m ρ _ => (S5DbRefIdeal.Value.run m ρ).mono fun _ h => ⟨fun c => (h c).2, sem_eq_zero_of_no_sems (by decide) _⟩,
    fun m ρ _ => S5PostBwd.Gen.frame m ρ, fun m ρ _ => S5PostBwdIdeal.Gen.frame m ρ,
    fun m ρ _ => (S5PostBwdRefIdeal.Value.run m ρ).mono fun _ h => ⟨fun c => (h c).2.2.2.2.2, sem_eq_zero_of_no_sems (by decide) _⟩,
    fun m ρ _ => LruPreBwd.Gen.frame m ρ,
    fun m ρ _ => LruPreBwdIdeal.Gen.frame m ρ,
    fun m ρ _ => LruPreBwdIdeal.Gen.frame m ρ,
    fun m ρ _ => (LruPreBwdRefIdeal.Value.run m ρ).mono fun _ h => ⟨fun c => (h c).2.2.2.2, sem_eq_zero_of_no_sems (by decide) _⟩,
    fun m ρ _ => (LruPreBwdRefIdeal.Value.run m ρ).mono fun _ h => ⟨fun c => (h c).2.2.2.2, sem_eq_zero_of_no_sems (by decide) _⟩,
    trivial, Scan.equal,
    trivial, S5.equal,
    trivial, Pre.equal,
    trivial, Down.equal,
    trivial, DownDw.equal,
    trivial, UpDx.equal,
    trivial, UpDw.equal,
    trivial, OutP.equal,
    trivial, OutDx.equal,
    trivial, OutDw.equal,
    trivial, GateP.equal,
    trivial, PlP.equal,
    trivial, PlDw.equal,
    trivial, EvenP.equal,
    trivial, EvenDx.equal,
    trivial, EvenDw.equal,
    trivial, OddP.equal,
    trivial, OddDx.equal,
    trivial, OddDw.equal,
    trivial, NormB.equal,
    trivial, GateB.equal,
    trivial, ConvB.equal,
    trivial, ShiftB.equal,
    trivial, GeluB.equal,
    trivial, AdamEarly.equal,
    trivial, AdamMid.equal,
    trivial, AdamMain.equal,
    trivial, AdamSmall.equal,
    trivial, LruG.equal,
    trivial, LruDx.equal,
    trivial, LruDw.equal,
    trivial, S5BuP.equal,
    trivial, S5DxP.equal,
    trivial, S5YP.equal,
    trivial, S5YAddP.equal,
    trivial, S5DcP.equal,
    trivial, S5DuP.equal,
    trivial, S5DbP.equal,
    trivial, S5PostB.equal,
    trivial, LruPreB.equal⟩

end Cert.Proof

end
